-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_bwd_finite [hPre_rms_bwd_finite : Cert.Pre_rms_bwd_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).1 = (fun _ => 1#1)
    ∧ (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.1 = (fun _ => 1#1)
    ∧ (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.2 = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_rms_bwd_finite [hPre_rms_bwd_finite : Cert.Pre_rms_bwd_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_rms_bwd_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).1 = (fun _ => 1#1)
    ∧ (Cert.Pre_rms_bwd_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).2.1 = (fun _ => 1#1)
    ∧ (Cert.Pre_rms_bwd_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2 = (fun _ => 1#1)

def Pre_ForgetBwd (m : (ℓ : Loc Cert.ForgetBwd.nD Cert.ForgetBwd.τ Cert.ForgetBwd.sig) → Buf (Elt Bits) ℓ) : Prop :=
  True

def Pre_ForgetBwdIdeal (m : (ℓ : Loc Cert.ForgetBwdIdeal.nD Cert.ForgetBwdIdeal.τ Cert.ForgetBwdIdeal.sig) → Buf (Elt Ideal) ℓ) : Prop :=
  True

def Pre_ForgetBwdRefIdeal (m : (ℓ : Loc Cert.ForgetBwdRefIdeal.nD Cert.ForgetBwdRefIdeal.τ Cert.ForgetBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossIdeal_final_loss_finite [hPre_final_loss_finite : Cert.Pre_final_loss_finite.Facts] (m : (ℓ : Loc Cert.FinalLossIdeal.nD Cert.FinalLossIdeal.τ Cert.FinalLossIdeal.sig) → Buf (Elt Ideal) ℓ) : Prop :=
  ∀ c : Dev Cert.FinalLossIdeal.nD,
    (Cert.Pre_final_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).1 = (fun _ => 1#1)
    ∧ (Cert.Pre_final_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).2.1 = (fun _ => 1#1)
    ∧ (Cert.Pre_final_loss_finite.fn (F := Ideal) (m ((c.tc : Thread Cert.FinalLossIdeal.nD Cert.FinalLossIdeal.τ).loc Cert.FinalLossIdeal.main_arg0)) (m ((c.tc : Thread Cert.FinalLossIdeal.nD Cert.FinalLossIdeal.τ).loc Cert.FinalLossIdeal.main_arg1)) (m ((c.tc : Thread Cert.FinalLossIdeal.nD Cert.FinalLossIdeal.τ).loc Cert.FinalLossIdeal.main_arg2))).2.2 = (fun _ => 1#1)

def Pre_FinalLossRefIdeal (m : (ℓ : Loc Cert.FinalLossRefIdeal.nD Cert.FinalLossRefIdeal.τ Cert.FinalLossRefIdeal.sig) → Buf (Elt Ideal) ℓ) : Prop :=
  True

def Pre_FinalLossRefIdeal_final_loss_finite [hPre_final_loss_finite : Cert.Pre_final_loss_finite.Facts] (m : (ℓ : Loc Cert.FinalLossRefIdeal.nD Cert.FinalLossRefIdeal.τ Cert.FinalLossRefIdeal.sig) → Buf (Elt Ideal) ℓ) : Prop :=
  ∀ c : Dev Cert.FinalLossRefIdeal.nD,
    (Cert.Pre_final_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).1 = (fun _ => 1#1)
    ∧ (Cert.Pre_final_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).2.1 = (fun _ => 1#1)
    ∧ (Cert.Pre_final_loss_finite.fn (F := Ideal) (m ((c.tc : Thread Cert.FinalLossRefIdeal.nD Cert.FinalLossRefIdeal.τ).loc Cert.FinalLossRefIdeal.main_arg0)) (m ((c.tc : Thread Cert.FinalLossRefIdeal.nD Cert.FinalLossRefIdeal.τ).loc Cert.FinalLossRefIdeal.main_arg1)) (m ((c.tc : Thread Cert.FinalLossRefIdeal.nD Cert.FinalLossRefIdeal.τ).loc Cert.FinalLossRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.2 = (fun _ => 1#1)

def Pre_ForgetFwd (m : (ℓ : Loc Cert.ForgetFwd.nD Cert.ForgetFwd.τ Cert.ForgetFwd.sig) → Buf (Elt Bits) ℓ) : Prop :=
  True

def Pre_ForgetFwdIdeal (m : (ℓ : Loc Cert.ForgetFwdIdeal.nD Cert.ForgetFwdIdeal.τ Cert.ForgetFwdIdeal.sig) → Buf (Elt Ideal) ℓ) : Prop :=
  True

def Pre_ForgetFwdRefIdeal (m : (ℓ : Loc Cert.ForgetFwdRefIdeal.nD Cert.ForgetFwdRefIdeal.τ Cert.ForgetFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_BranchOut (m : (ℓ : Loc Cert.BranchOut.nD Cert.BranchOut.τ Cert.BranchOut.sig) → Buf (Elt Bits) ℓ) : Prop :=
  True

def Pre_BranchOutIdeal (m : (ℓ : Loc Cert.BranchOutIdeal.nD Cert.BranchOutIdeal.τ Cert.BranchOutIdeal.sig) → Buf (Elt Ideal) ℓ) : Prop :=
  True

def Pre_BranchOutRefIdeal (m : (ℓ : Loc Cert.BranchOutRefIdeal.nD Cert.BranchOutRefIdeal.τ Cert.BranchOutRefIdeal.sig) → Buf (Elt Ideal) ℓ) : Prop :=
  True

def Pre_BranchOutBwd (m : (ℓ : Loc Cert.BranchOutBwd.nD Cert.BranchOutBwd.τ Cert.BranchOutBwd.sig) → Buf (Elt Bits) ℓ) : Prop :=
  True

def Pre_BranchOutBwdIdeal (m : (ℓ : Loc Cert.BranchOutBwdIdeal.nD Cert.BranchOutBwdIdeal.τ Cert.BranchOutBwdIdeal.sig) → Buf (Elt Ideal) ℓ) : Prop :=
  True

def Pre_BranchOutBwdRefIdeal (m : (ℓ : Loc Cert.BranchOutBwdRefIdeal.nD Cert.BranchOutBwdRefIdeal.τ Cert.BranchOutBwdRefIdeal.sig) → Buf (Elt Ideal) ℓ) : Prop :=
  True

def Pre_BranchOutDw (m : (ℓ : Loc Cert.BranchOutDw.nD Cert.BranchOutDw.τ Cert.BranchOutDw.sig) → Buf (Elt Bits) ℓ) : Prop :=
  True

def Pre_BranchOutDwIdeal (m : (ℓ : Loc Cert.BranchOutDwIdeal.nD Cert.BranchOutDwIdeal.τ Cert.BranchOutDwIdeal.sig) → Buf (Elt Ideal) ℓ) : Prop :=
  True

def Pre_BranchOutDwRefIdeal (m : (ℓ : Loc Cert.BranchOutDwRefIdeal.nD Cert.BranchOutDwRefIdeal.τ Cert.BranchOutDwRefIdeal.sig) → Buf (Elt Ideal) ℓ) : Prop :=
  True

def Pre_FfnUpBwd (m : (ℓ : Loc Cert.FfnUpBwd.nD Cert.FfnUpBwd.τ Cert.FfnUpBwd.sig) → Buf (Elt Bits) ℓ) : Prop :=
  True

def Pre_FfnUpBwdIdeal (m : (ℓ : Loc Cert.FfnUpBwdIdeal.nD Cert.FfnUpBwdIdeal.τ Cert.FfnUpBwdIdeal.sig) → Buf (Elt Ideal) ℓ) : Prop :=
  True

def Pre_FfnUpBwdRefIdeal (m : (ℓ : Loc Cert.FfnUpBwdRefIdeal.nD Cert.FfnUpBwdRefIdeal.τ Cert.FfnUpBwdRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_DeviceSum (m : (ℓ : Loc Cert.DeviceSum.nD Cert.DeviceSum.τ Cert.DeviceSum.sig) → Buf (Elt Bits) ℓ) : Prop :=
  True

def Pre_DeviceSumIdeal (m : (ℓ : Loc Cert.DeviceSumIdeal.nD Cert.DeviceSumIdeal.τ Cert.DeviceSumIdeal.sig) → Buf (Elt Ideal) ℓ) : Prop :=
  True

def Pre_DeviceSumRefIdeal (m : (ℓ : Loc Cert.DeviceSumRefIdeal.nD Cert.DeviceSumRefIdeal.τ Cert.DeviceSumRefIdeal.sig) → Buf (Elt Ideal) ℓ) : Prop :=
  True

def Pre_PairSum [hPre_pair_sum_place : Cert.Pre_pair_sum_place.Facts] (m : (ℓ : Loc Cert.PairSum.nD Cert.PairSum.τ Cert.PairSum.sig) → Buf (Elt Bits) ℓ) : Prop :=
  ∀ c : Dev Cert.PairSum.nD,
    (Cert.Pre_pair_sum_place.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_pair_sum_place : Cert.Pre_pair_sum_place.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_pair_sum_place.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_pair_sum_place [hPre_pair_sum_place : Cert.Pre_pair_sum_place.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_pair_sum_place.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def Pre_ChipSum [hPre_chip_sum_place : Cert.Pre_chip_sum_place.Facts] (m : (ℓ : Loc Cert.ChipSum.nD Cert.ChipSum.τ Cert.ChipSum.sig) → Buf (Elt Bits) ℓ) : Prop :=
  ∀ c : Dev Cert.ChipSum.nD,
    (Cert.Pre_chip_sum_place.fn (F := Bits) (m ((c.tc : Thread Cert.ChipSum.nD Cert.ChipSum.τ).loc Cert.ChipSum.main_arg0)) (m ((c.tc : Thread Cert.ChipSum.nD Cert.ChipSum.τ).loc Cert.ChipSum.main_arg1)) (m ((c.tc : Thread Cert.ChipSum.nD Cert.ChipSum.τ).loc Cert.ChipSum.main_arg2)) (m ((c.tc : Thread Cert.ChipSum.nD Cert.ChipSum.τ).loc Cert.ChipSum.main_arg3))) = (fun _ => 1#1)

def Pre_ChipSumIdeal [hPre_chip_sum_place : Cert.Pre_chip_sum_place.Facts] (m : (ℓ : Loc Cert.ChipSumIdeal.nD Cert.ChipSumIdeal.τ Cert.ChipSumIdeal.sig) → Buf (Elt Ideal) ℓ) : Prop :=
  ∀ c : Dev Cert.ChipSumIdeal.nD,
    (Cert.Pre_chip_sum_place.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2)) (m ((c.tc : Thread Cert.ChipSumIdeal.nD Cert.ChipSumIdeal.τ).loc Cert.ChipSumIdeal.main_arg3))) = (fun _ => 1#1)

def Pre_ChipSumRefIdeal (m : (ℓ : Loc Cert.ChipSumRefIdeal.nD Cert.ChipSumRefIdeal.τ Cert.ChipSumRefIdeal.sig) → Buf (Elt Ideal) ℓ) : Prop :=
  True

def Pre_ChipSumRefIdeal_chip_sum_place [hPre_chip_sum_place : Cert.Pre_chip_sum_place.Facts] (m : (ℓ : Loc Cert.ChipSumRefIdeal.nD Cert.ChipSumRefIdeal.τ Cert.ChipSumRefIdeal.sig) → Buf (Elt Ideal) ℓ) : Prop :=
  ∀ c : Dev Cert.ChipSumRefIdeal.nD,
    (Cert.Pre_chip_sum_place.fn (F := Ideal) (m ((c.tc : Thread Cert.ChipSumRefIdeal.nD Cert.ChipSumRefIdeal.τ).loc Cert.ChipSumRefIdeal.main_arg0)) (m ((c.tc : Thread Cert.ChipSumRefIdeal.nD Cert.ChipSumRefIdeal.τ).loc Cert.ChipSumRefIdeal.main_arg1)) (m ((c.tc : Thread Cert.ChipSumRefIdeal.nD Cert.ChipSumRefIdeal.τ).loc Cert.ChipSumRefIdeal.main_arg2)) (m ((c.tc : Thread Cert.ChipSumRefIdeal.nD Cert.ChipSumRefIdeal.τ).loc Cert.ChipSumRefIdeal.main_arg3))) = (fun _ => 1#1)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_bwd_finite [hRmsBwdIdeal : Cert.RmsBwdIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_bwd_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_rms_bwd_finite [hRmsBwdRefIdeal : Cert.RmsBwdRefIdeal.Facts] [hPre_rms_bwd_finite : Cert.Pre_rms_bwd_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_rms_bwd_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_ForgetBwd [hForgetBwd : Cert.ForgetBwd.Facts] : Prop :=
  ∀ (m : (ℓ : Loc Cert.ForgetBwd.nD Cert.ForgetBwd.τ Cert.ForgetBwd.sig) → Buf (Elt Bits) ℓ) (g : Dev Cert.ForgetBwd.nD → PrngReg), Pre_ForgetBwd m →
    θ_run (Cert.ForgetBwd.defs (F := Bits)) (onTc (τ := Cert.ForgetBwd.τ) (Cert.ForgetBwd.main (F := Bits))) ⟨m, fun _ => 0, g⟩ (fun r => (∀ c : Dev Cert.ForgetBwd.nD,
      r.2.mem ((c.tc : Thread Cert.ForgetBwd.nD Cert.ForgetBwd.τ).loc Cert.ForgetBwd.main_arg0) = m ((c.tc : Thread Cert.ForgetBwd.nD Cert.ForgetBwd.τ).loc Cert.ForgetBwd.main_arg0)
      ∧ r.2.mem ((c.tc : Thread Cert.ForgetBwd.nD Cert.ForgetBwd.τ).loc Cert.ForgetBwd.main_arg1) = m ((c.tc : Thread Cert.ForgetBwd.nD Cert.ForgetBwd.τ).loc Cert.ForgetBwd.main_arg1)
      ∧ r.2.mem ((c.tc : Thread Cert.ForgetBwd.nD Cert.ForgetBwd.τ).loc Cert.ForgetBwd.main_arg2) = m ((c.tc : Thread Cert.ForgetBwd.nD Cert.ForgetBwd.τ).loc Cert.ForgetBwd.main_arg2)
      ∧ r.2.mem ((c.tc : Thread Cert.ForgetBwd.nD Cert.ForgetBwd.τ).loc Cert.ForgetBwd.main_arg3) = m ((c.tc : Thread Cert.ForgetBwd.nD Cert.ForgetBwd.τ).loc Cert.ForgetBwd.main_arg3)
      ∧ r.2.mem ((c.tc : Thread Cert.ForgetBwd.nD Cert.ForgetBwd.τ).loc Cert.ForgetBwd.main_arg4) = m ((c.tc : Thread Cert.ForgetBwd.nD Cert.ForgetBwd.τ).loc Cert.ForgetBwd.main_arg4))
      ∧ r.2.sem = fun _ => 0)

def quiescent_ForgetBwdIdeal [hForgetBwdIdeal : Cert.ForgetBwdIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3)
      ∧ r.2.mem ((c.tc : Thread Cert.ForgetBwdIdeal.nD Cert.ForgetBwdIdeal.τ).loc Cert.ForgetBwdIdeal.main_arg4) = m ((c.tc : Thread Cert.ForgetBwdIdeal.nD Cert.ForgetBwdIdeal.τ).loc Cert.ForgetBwdIdeal.main_arg4))
      ∧ r.2.sem = fun _ => 0)

def quiescent_ForgetBwdRefIdeal [hForgetBwdRefIdeal : Cert.ForgetBwdRefIdeal.Facts] : Prop :=
  ∀ (m : (ℓ : Loc Cert.ForgetBwdRefIdeal.nD Cert.ForgetBwdRefIdeal.τ Cert.ForgetBwdRefIdeal.sig) → Buf (Elt Ideal) ℓ) (g : Dev Cert.ForgetBwdRefIdeal.nD → PrngReg), Pre_ForgetBwdRefIdeal m →
    θ_run (Cert.ForgetBwdRefIdeal.defs (F := Ideal)) (onTc (τ := Cert.ForgetBwdRefIdeal.τ) (Cert.ForgetBwdRefIdeal.main (F := Ideal))) ⟨m, fun _ => 0, g⟩ (fun r => (∀ c : Dev Cert.ForgetBwdRefIdeal.nD,
      r.2.mem ((c.tc : Thread Cert.ForgetBwdRefIdeal.nD Cert.ForgetBwdRefIdeal.τ).loc Cert.ForgetBwdRefIdeal.main_arg0) = m ((c.tc : Thread Cert.ForgetBwdRefIdeal.nD Cert.ForgetBwdRefIdeal.τ).loc Cert.ForgetBwdRefIdeal.main_arg0)
      ∧ r.2.mem ((c.tc : Thread Cert.ForgetBwdRefIdeal.nD Cert.ForgetBwdRefIdeal.τ).loc Cert.ForgetBwdRefIdeal.main_arg1) = m ((c.tc : Thread Cert.ForgetBwdRefIdeal.nD Cert.ForgetBwdRefIdeal.τ).loc Cert.ForgetBwdRefIdeal.main_arg1)
      ∧ r.2.mem ((c.tc : Thread Cert.ForgetBwdRefIdeal.nD Cert.ForgetBwdRefIdeal.τ).loc Cert.ForgetBwdRefIdeal.main_arg2) = m ((c.tc : Thread Cert.ForgetBwdRefIdeal.nD Cert.ForgetBwdRefIdeal.τ).loc Cert.ForgetBwdRefIdeal.main_arg2)
      ∧ r.2.mem ((c.tc : Thread Cert.ForgetBwdRefIdeal.nD Cert.ForgetBwdRefIdeal.τ).loc Cert.ForgetBwdRefIdeal.main_arg3) = m ((c.tc : Thread Cert.ForgetBwdRefIdeal.nD Cert.ForgetBwdRefIdeal.τ).loc Cert.ForgetBwdRefIdeal.main_arg3)
      ∧ r.2.mem ((c.tc : Thread Cert.ForgetBwdRefIdeal.nD Cert.ForgetBwdRefIdeal.τ).loc Cert.ForgetBwdRefIdeal.main_arg4) = m ((c.tc : Thread Cert.ForgetBwdRefIdeal.nD Cert.ForgetBwdRefIdeal.τ).loc Cert.ForgetBwdRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossIdeal_pre_final_loss_finite [hFinalLossIdeal : Cert.FinalLossIdeal.Facts] [hPre_final_loss_finite : Cert.Pre_final_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal_final_loss_finite m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_FinalLossRefIdeal_pre_final_loss_finite [hFinalLossRefIdeal : Cert.FinalLossRefIdeal.Facts] [hPre_final_loss_finite : Cert.Pre_final_loss_finite.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal_final_loss_finite m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_ForgetFwd [hForgetFwd : Cert.ForgetFwd.Facts] : Prop :=
  ∀ (m : (ℓ : Loc Cert.ForgetFwd.nD Cert.ForgetFwd.τ Cert.ForgetFwd.sig) → Buf (Elt Bits) ℓ) (g : Dev Cert.ForgetFwd.nD → PrngReg), Pre_ForgetFwd m →
    θ_run (Cert.ForgetFwd.defs (F := Bits)) (onTc (τ := Cert.ForgetFwd.τ) (Cert.ForgetFwd.main (F := Bits))) ⟨m, fun _ => 0, g⟩ (fun r => (∀ c : Dev Cert.ForgetFwd.nD,
      r.2.mem ((c.tc : Thread Cert.ForgetFwd.nD Cert.ForgetFwd.τ).loc Cert.ForgetFwd.main_arg0) = m ((c.tc : Thread Cert.ForgetFwd.nD Cert.ForgetFwd.τ).loc Cert.ForgetFwd.main_arg0)
      ∧ r.2.mem ((c.tc : Thread Cert.ForgetFwd.nD Cert.ForgetFwd.τ).loc Cert.ForgetFwd.main_arg1) = m ((c.tc : Thread Cert.ForgetFwd.nD Cert.ForgetFwd.τ).loc Cert.ForgetFwd.main_arg1))
      ∧ r.2.sem = fun _ => 0)

def quiescent_ForgetFwdIdeal [hForgetFwdIdeal : Cert.ForgetFwdIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg), Pre_ForgetFwdIdeal m →
    θ_run (Cert.ForgetFwdIdeal.defs (F := Ideal)) (onTc (τ := Cert.ForgetFwdIdeal.τ) (Cert.ForgetFwdIdeal.main (F := Ideal))) ⟨m, fun _ => 0, g⟩ (fun r => (∀ c : Dev Cert.ForgetFwdIdeal.nD,
      r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
      ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ r.2.sem = fun _ => 0)

def quiescent_ForgetFwdRefIdeal [hForgetFwdRefIdeal : Cert.ForgetFwdRefIdeal.Facts] : Prop :=
  ∀ (m : (ℓ : Loc Cert.ForgetFwdRefIdeal.nD Cert.ForgetFwdRefIdeal.τ Cert.ForgetFwdRefIdeal.sig) → Buf (Elt Ideal) ℓ) (g : Dev Cert.ForgetFwdRefIdeal.nD → PrngReg), Pre_ForgetFwdRefIdeal m →
    θ_run (Cert.ForgetFwdRefIdeal.defs (F := Ideal)) (onTc (τ := Cert.ForgetFwdRefIdeal.τ) (Cert.ForgetFwdRefIdeal.main (F := Ideal))) ⟨m, fun _ => 0, g⟩ (fun r => (∀ c : Dev Cert.ForgetFwdRefIdeal.nD,
      r.2.mem ((c.tc : Thread Cert.ForgetFwdRefIdeal.nD Cert.ForgetFwdRefIdeal.τ).loc Cert.ForgetFwdRefIdeal.main_arg0) = m ((c.tc : Thread Cert.ForgetFwdRefIdeal.nD Cert.ForgetFwdRefIdeal.τ).loc Cert.ForgetFwdRefIdeal.main_arg0)
      ∧ r.2.mem ((c.tc : Thread Cert.ForgetFwdRefIdeal.nD Cert.ForgetFwdRefIdeal.τ).loc Cert.ForgetFwdRefIdeal.main_arg1) = m ((c.tc : Thread Cert.ForgetFwdRefIdeal.nD Cert.ForgetFwdRefIdeal.τ).loc Cert.ForgetFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_BranchOut [hBranchOut : Cert.BranchOut.Facts] : Prop :=
  ∀ (m : (ℓ : Loc Cert.BranchOut.nD Cert.BranchOut.τ Cert.BranchOut.sig) → Buf (Elt Bits) ℓ) (g : Dev Cert.BranchOut.nD → PrngReg), Pre_BranchOut m →
    θ_run (Cert.BranchOut.defs (F := Bits)) (onTc (τ := Cert.BranchOut.τ) (Cert.BranchOut.main (F := Bits))) ⟨m, fun _ => 0, g⟩ (fun r => (∀ c : Dev Cert.BranchOut.nD,
      r.2.mem ((c.tc : Thread Cert.BranchOut.nD Cert.BranchOut.τ).loc Cert.BranchOut.main_arg0) = m ((c.tc : Thread Cert.BranchOut.nD Cert.BranchOut.τ).loc Cert.BranchOut.main_arg0)
      ∧ r.2.mem ((c.tc : Thread Cert.BranchOut.nD Cert.BranchOut.τ).loc Cert.BranchOut.main_arg1) = m ((c.tc : Thread Cert.BranchOut.nD Cert.BranchOut.τ).loc Cert.BranchOut.main_arg1)
      ∧ r.2.mem ((c.tc : Thread Cert.BranchOut.nD Cert.BranchOut.τ).loc Cert.BranchOut.main_arg2) = m ((c.tc : Thread Cert.BranchOut.nD Cert.BranchOut.τ).loc Cert.BranchOut.main_arg2)
      ∧ r.2.mem ((c.tc : Thread Cert.BranchOut.nD Cert.BranchOut.τ).loc Cert.BranchOut.main_arg3) = m ((c.tc : Thread Cert.BranchOut.nD Cert.BranchOut.τ).loc Cert.BranchOut.main_arg3))
      ∧ r.2.sem = fun _ => 0)

def quiescent_BranchOutIdeal [hBranchOutIdeal : Cert.BranchOutIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg), Pre_BranchOutIdeal m →
    θ_run (Cert.BranchOutIdeal.defs (F := Ideal)) (onTc (τ := Cert.BranchOutIdeal.τ) (Cert.BranchOutIdeal.main (F := Ideal))) ⟨m, fun _ => 0, g⟩ (fun r => (∀ c : Dev Cert.BranchOutIdeal.nD,
      r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
      ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1)
      ∧ r.2.mem ((c.tc : Thread Cert.BranchOutIdeal.nD Cert.BranchOutIdeal.τ).loc Cert.BranchOutIdeal.main_arg2) = m ((c.tc : Thread Cert.BranchOutIdeal.nD Cert.BranchOutIdeal.τ).loc Cert.BranchOutIdeal.main_arg2)
      ∧ r.2.mem ((c.tc : Thread Cert.BranchOutIdeal.nD Cert.BranchOutIdeal.τ).loc Cert.BranchOutIdeal.main_arg3) = m ((c.tc : Thread Cert.BranchOutIdeal.nD Cert.BranchOutIdeal.τ).loc Cert.BranchOutIdeal.main_arg3))
      ∧ r.2.sem = fun _ => 0)

def quiescent_BranchOutRefIdeal [hBranchOutRefIdeal : Cert.BranchOutRefIdeal.Facts] : Prop :=
  ∀ (m : (ℓ : Loc Cert.BranchOutRefIdeal.nD Cert.BranchOutRefIdeal.τ Cert.BranchOutRefIdeal.sig) → Buf (Elt Ideal) ℓ) (g : Dev Cert.BranchOutRefIdeal.nD → PrngReg), Pre_BranchOutRefIdeal m →
    θ_run (Cert.BranchOutRefIdeal.defs (F := Ideal)) (onTc (τ := Cert.BranchOutRefIdeal.τ) (Cert.BranchOutRefIdeal.main (F := Ideal))) ⟨m, fun _ => 0, g⟩ (fun r => (∀ c : Dev Cert.BranchOutRefIdeal.nD,
      r.2.mem ((c.tc : Thread Cert.BranchOutRefIdeal.nD Cert.BranchOutRefIdeal.τ).loc Cert.BranchOutRefIdeal.main_arg0) = m ((c.tc : Thread Cert.BranchOutRefIdeal.nD Cert.BranchOutRefIdeal.τ).loc Cert.BranchOutRefIdeal.main_arg0)
      ∧ r.2.mem ((c.tc : Thread Cert.BranchOutRefIdeal.nD Cert.BranchOutRefIdeal.τ).loc Cert.BranchOutRefIdeal.main_arg1) = m ((c.tc : Thread Cert.BranchOutRefIdeal.nD Cert.BranchOutRefIdeal.τ).loc Cert.BranchOutRefIdeal.main_arg1)
      ∧ r.2.mem ((c.tc : Thread Cert.BranchOutRefIdeal.nD Cert.BranchOutRefIdeal.τ).loc Cert.BranchOutRefIdeal.main_arg2) = m ((c.tc : Thread Cert.BranchOutRefIdeal.nD Cert.BranchOutRefIdeal.τ).loc Cert.BranchOutRefIdeal.main_arg2)
      ∧ r.2.mem ((c.tc : Thread Cert.BranchOutRefIdeal.nD Cert.BranchOutRefIdeal.τ).loc Cert.BranchOutRefIdeal.main_arg3) = m ((c.tc : Thread Cert.BranchOutRefIdeal.nD Cert.BranchOutRefIdeal.τ).loc Cert.BranchOutRefIdeal.main_arg3))
      ∧ r.2.sem = fun _ => 0)

def quiescent_BranchOutBwd [hBranchOutBwd : Cert.BranchOutBwd.Facts] : Prop :=
  ∀ (m : (ℓ : Loc Cert.BranchOutBwd.nD Cert.BranchOutBwd.τ Cert.BranchOutBwd.sig) → Buf (Elt Bits) ℓ) (g : Dev Cert.BranchOutBwd.nD → PrngReg), Pre_BranchOutBwd m →
    θ_run (Cert.BranchOutBwd.defs (F := Bits)) (onTc (τ := Cert.BranchOutBwd.τ) (Cert.BranchOutBwd.main (F := Bits))) ⟨m, fun _ => 0, g⟩ (fun r => (∀ c : Dev Cert.BranchOutBwd.nD,
      r.2.mem ((c.tc : Thread Cert.BranchOutBwd.nD Cert.BranchOutBwd.τ).loc Cert.BranchOutBwd.main_arg0) = m ((c.tc : Thread Cert.BranchOutBwd.nD Cert.BranchOutBwd.τ).loc Cert.BranchOutBwd.main_arg0)
      ∧ r.2.mem ((c.tc : Thread Cert.BranchOutBwd.nD Cert.BranchOutBwd.τ).loc Cert.BranchOutBwd.main_arg1) = m ((c.tc : Thread Cert.BranchOutBwd.nD Cert.BranchOutBwd.τ).loc Cert.BranchOutBwd.main_arg1)
      ∧ r.2.mem ((c.tc : Thread Cert.BranchOutBwd.nD Cert.BranchOutBwd.τ).loc Cert.BranchOutBwd.main_arg2) = m ((c.tc : Thread Cert.BranchOutBwd.nD Cert.BranchOutBwd.τ).loc Cert.BranchOutBwd.main_arg2))
      ∧ r.2.sem = fun _ => 0)

def quiescent_BranchOutBwdIdeal [hBranchOutBwdIdeal : Cert.BranchOutBwdIdeal.Facts] : Prop :=
  ∀ (m : (ℓ : Loc Cert.BranchOutBwdIdeal.nD Cert.BranchOutBwdIdeal.τ Cert.BranchOutBwdIdeal.sig) → Buf (Elt Ideal) ℓ) (g : Dev Cert.BranchOutBwdIdeal.nD → PrngReg), Pre_BranchOutBwdIdeal m →
    θ_run (Cert.BranchOutBwdIdeal.defs (F := Ideal)) (onTc (τ := Cert.BranchOutBwdIdeal.τ) (Cert.BranchOutBwdIdeal.main (F := Ideal))) ⟨m, fun _ => 0, g⟩ (fun r => (∀ c : Dev Cert.BranchOutBwdIdeal.nD,
      r.2.mem ((c.tc : Thread Cert.BranchOutBwdIdeal.nD Cert.BranchOutBwdIdeal.τ).loc Cert.BranchOutBwdIdeal.main_arg0) = m ((c.tc : Thread Cert.BranchOutBwdIdeal.nD Cert.BranchOutBwdIdeal.τ).loc Cert.BranchOutBwdIdeal.main_arg0)
      ∧ r.2.mem ((c.tc : Thread Cert.BranchOutBwdIdeal.nD Cert.BranchOutBwdIdeal.τ).loc Cert.BranchOutBwdIdeal.main_arg1) = m ((c.tc : Thread Cert.BranchOutBwdIdeal.nD Cert.BranchOutBwdIdeal.τ).loc Cert.BranchOutBwdIdeal.main_arg1)
      ∧ r.2.mem ((c.tc : Thread Cert.BranchOutBwdIdeal.nD Cert.BranchOutBwdIdeal.τ).loc Cert.BranchOutBwdIdeal.main_arg2) = m ((c.tc : Thread Cert.BranchOutBwdIdeal.nD Cert.BranchOutBwdIdeal.τ).loc Cert.BranchOutBwdIdeal.main_arg2))
      ∧ r.2.sem = fun _ => 0)

def quiescent_BranchOutBwdRefIdeal [hBranchOutBwdRefIdeal : Cert.BranchOutBwdRefIdeal.Facts] : Prop :=
  ∀ (m : (ℓ : Loc Cert.BranchOutBwdRefIdeal.nD Cert.BranchOutBwdRefIdeal.τ Cert.BranchOutBwdRefIdeal.sig) → Buf (Elt Ideal) ℓ) (g : Dev Cert.BranchOutBwdRefIdeal.nD → PrngReg), Pre_BranchOutBwdRefIdeal m →
    θ_run (Cert.BranchOutBwdRefIdeal.defs (F := Ideal)) (onTc (τ := Cert.BranchOutBwdRefIdeal.τ) (Cert.BranchOutBwdRefIdeal.main (F := Ideal))) ⟨m, fun _ => 0, g⟩ (fun r => (∀ c : Dev Cert.BranchOutBwdRefIdeal.nD,
      r.2.mem ((c.tc : Thread Cert.BranchOutBwdRefIdeal.nD Cert.BranchOutBwdRefIdeal.τ).loc Cert.BranchOutBwdRefIdeal.main_arg0) = m ((c.tc : Thread Cert.BranchOutBwdRefIdeal.nD Cert.BranchOutBwdRefIdeal.τ).loc Cert.BranchOutBwdRefIdeal.main_arg0)
      ∧ r.2.mem ((c.tc : Thread Cert.BranchOutBwdRefIdeal.nD Cert.BranchOutBwdRefIdeal.τ).loc Cert.BranchOutBwdRefIdeal.main_arg1) = m ((c.tc : Thread Cert.BranchOutBwdRefIdeal.nD Cert.BranchOutBwdRefIdeal.τ).loc Cert.BranchOutBwdRefIdeal.main_arg1)
      ∧ r.2.mem ((c.tc : Thread Cert.BranchOutBwdRefIdeal.nD Cert.BranchOutBwdRefIdeal.τ).loc Cert.BranchOutBwdRefIdeal.main_arg2) = m ((c.tc : Thread Cert.BranchOutBwdRefIdeal.nD Cert.BranchOutBwdRefIdeal.τ).loc Cert.BranchOutBwdRefIdeal.main_arg2))
      ∧ r.2.sem = fun _ => 0)

def quiescent_BranchOutDw [hBranchOutDw : Cert.BranchOutDw.Facts] : Prop :=
  ∀ (m : (ℓ : Loc Cert.BranchOutDw.nD Cert.BranchOutDw.τ Cert.BranchOutDw.sig) → Buf (Elt Bits) ℓ) (g : Dev Cert.BranchOutDw.nD → PrngReg), Pre_BranchOutDw m →
    θ_run (Cert.BranchOutDw.defs (F := Bits)) (onTc (τ := Cert.BranchOutDw.τ) (Cert.BranchOutDw.main (F := Bits))) ⟨m, fun _ => 0, g⟩ (fun r => (∀ c : Dev Cert.BranchOutDw.nD,
      r.2.mem ((c.tc : Thread Cert.BranchOutDw.nD Cert.BranchOutDw.τ).loc Cert.BranchOutDw.main_arg0) = m ((c.tc : Thread Cert.BranchOutDw.nD Cert.BranchOutDw.τ).loc Cert.BranchOutDw.main_arg0)
      ∧ r.2.mem ((c.tc : Thread Cert.BranchOutDw.nD Cert.BranchOutDw.τ).loc Cert.BranchOutDw.main_arg1) = m ((c.tc : Thread Cert.BranchOutDw.nD Cert.BranchOutDw.τ).loc Cert.BranchOutDw.main_arg1)
      ∧ r.2.mem ((c.tc : Thread Cert.BranchOutDw.nD Cert.BranchOutDw.τ).loc Cert.BranchOutDw.main_arg2) = m ((c.tc : Thread Cert.BranchOutDw.nD Cert.BranchOutDw.τ).loc Cert.BranchOutDw.main_arg2))
      ∧ r.2.sem = fun _ => 0)

def quiescent_BranchOutDwIdeal [hBranchOutDwIdeal : Cert.BranchOutDwIdeal.Facts] : Prop :=
  ∀ (m : (ℓ : Loc Cert.BranchOutDwIdeal.nD Cert.BranchOutDwIdeal.τ Cert.BranchOutDwIdeal.sig) → Buf (Elt Ideal) ℓ) (g : Dev Cert.BranchOutDwIdeal.nD → PrngReg), Pre_BranchOutDwIdeal m →
    θ_run (Cert.BranchOutDwIdeal.defs (F := Ideal)) (onTc (τ := Cert.BranchOutDwIdeal.τ) (Cert.BranchOutDwIdeal.main (F := Ideal))) ⟨m, fun _ => 0, g⟩ (fun r => (∀ c : Dev Cert.BranchOutDwIdeal.nD,
      r.2.mem ((c.tc : Thread Cert.BranchOutDwIdeal.nD Cert.BranchOutDwIdeal.τ).loc Cert.BranchOutDwIdeal.main_arg0) = m ((c.tc : Thread Cert.BranchOutDwIdeal.nD Cert.BranchOutDwIdeal.τ).loc Cert.BranchOutDwIdeal.main_arg0)
      ∧ r.2.mem ((c.tc : Thread Cert.BranchOutDwIdeal.nD Cert.BranchOutDwIdeal.τ).loc Cert.BranchOutDwIdeal.main_arg1) = m ((c.tc : Thread Cert.BranchOutDwIdeal.nD Cert.BranchOutDwIdeal.τ).loc Cert.BranchOutDwIdeal.main_arg1)
      ∧ r.2.mem ((c.tc : Thread Cert.BranchOutDwIdeal.nD Cert.BranchOutDwIdeal.τ).loc Cert.BranchOutDwIdeal.main_arg2) = m ((c.tc : Thread Cert.BranchOutDwIdeal.nD Cert.BranchOutDwIdeal.τ).loc Cert.BranchOutDwIdeal.main_arg2))
      ∧ r.2.sem = fun _ => 0)

def quiescent_BranchOutDwRefIdeal [hBranchOutDwRefIdeal : Cert.BranchOutDwRefIdeal.Facts] : Prop :=
  ∀ (m : (ℓ : Loc Cert.BranchOutDwRefIdeal.nD Cert.BranchOutDwRefIdeal.τ Cert.BranchOutDwRefIdeal.sig) → Buf (Elt Ideal) ℓ) (g : Dev Cert.BranchOutDwRefIdeal.nD → PrngReg), Pre_BranchOutDwRefIdeal m →
    θ_run (Cert.BranchOutDwRefIdeal.defs (F := Ideal)) (onTc (τ := Cert.BranchOutDwRefIdeal.τ) (Cert.BranchOutDwRefIdeal.main (F := Ideal))) ⟨m, fun _ => 0, g⟩ (fun r => (∀ c : Dev Cert.BranchOutDwRefIdeal.nD,
      r.2.mem ((c.tc : Thread Cert.BranchOutDwRefIdeal.nD Cert.BranchOutDwRefIdeal.τ).loc Cert.BranchOutDwRefIdeal.main_arg0) = m ((c.tc : Thread Cert.BranchOutDwRefIdeal.nD Cert.BranchOutDwRefIdeal.τ).loc Cert.BranchOutDwRefIdeal.main_arg0)
      ∧ r.2.mem ((c.tc : Thread Cert.BranchOutDwRefIdeal.nD Cert.BranchOutDwRefIdeal.τ).loc Cert.BranchOutDwRefIdeal.main_arg1) = m ((c.tc : Thread Cert.BranchOutDwRefIdeal.nD Cert.BranchOutDwRefIdeal.τ).loc Cert.BranchOutDwRefIdeal.main_arg1)
      ∧ r.2.mem ((c.tc : Thread Cert.BranchOutDwRefIdeal.nD Cert.BranchOutDwRefIdeal.τ).loc Cert.BranchOutDwRefIdeal.main_arg2) = m ((c.tc : Thread Cert.BranchOutDwRefIdeal.nD Cert.BranchOutDwRefIdeal.τ).loc Cert.BranchOutDwRefIdeal.main_arg2))
      ∧ r.2.sem = fun _ => 0)

def quiescent_FfnUpBwd [hFfnUpBwd : Cert.FfnUpBwd.Facts] : Prop :=
  ∀ (m : (ℓ : Loc Cert.FfnUpBwd.nD Cert.FfnUpBwd.τ Cert.FfnUpBwd.sig) → Buf (Elt Bits) ℓ) (g : Dev Cert.FfnUpBwd.nD → PrngReg), Pre_FfnUpBwd m →
    θ_run (Cert.FfnUpBwd.defs (F := Bits)) (onTc (τ := Cert.FfnUpBwd.τ) (Cert.FfnUpBwd.main (F := Bits))) ⟨m, fun _ => 0, g⟩ (fun r => (∀ c : Dev Cert.FfnUpBwd.nD,
      r.2.mem ((c.tc : Thread Cert.FfnUpBwd.nD Cert.FfnUpBwd.τ).loc Cert.FfnUpBwd.main_arg0) = m ((c.tc : Thread Cert.FfnUpBwd.nD Cert.FfnUpBwd.τ).loc Cert.FfnUpBwd.main_arg0)
      ∧ r.2.mem ((c.tc : Thread Cert.FfnUpBwd.nD Cert.FfnUpBwd.τ).loc Cert.FfnUpBwd.main_arg1) = m ((c.tc : Thread Cert.FfnUpBwd.nD Cert.FfnUpBwd.τ).loc Cert.FfnUpBwd.main_arg1))
      ∧ r.2.sem = fun _ => 0)

def quiescent_FfnUpBwdIdeal [hFfnUpBwdIdeal : Cert.FfnUpBwdIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg), Pre_FfnUpBwdIdeal m →
    θ_run (Cert.FfnUpBwdIdeal.defs (F := Ideal)) (onTc (τ := Cert.FfnUpBwdIdeal.τ) (Cert.FfnUpBwdIdeal.main (F := Ideal))) ⟨m, fun _ => 0, g⟩ (fun r => (∀ c : Dev Cert.FfnUpBwdIdeal.nD,
      r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
      ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1))
      ∧ r.2.sem = fun _ => 0)

def quiescent_FfnUpBwdRefIdeal [hFfnUpBwdRefIdeal : Cert.FfnUpBwdRefIdeal.Facts] : Prop :=
  ∀ (m : (ℓ : Loc Cert.FfnUpBwdRefIdeal.nD Cert.FfnUpBwdRefIdeal.τ Cert.FfnUpBwdRefIdeal.sig) → Buf (Elt Ideal) ℓ) (g : Dev Cert.FfnUpBwdRefIdeal.nD → PrngReg), Pre_FfnUpBwdRefIdeal m →
    θ_run (Cert.FfnUpBwdRefIdeal.defs (F := Ideal)) (onTc (τ := Cert.FfnUpBwdRefIdeal.τ) (Cert.FfnUpBwdRefIdeal.main (F := Ideal))) ⟨m, fun _ => 0, g⟩ (fun r => (∀ c : Dev Cert.FfnUpBwdRefIdeal.nD,
      r.2.mem ((c.tc : Thread Cert.FfnUpBwdRefIdeal.nD Cert.FfnUpBwdRefIdeal.τ).loc Cert.FfnUpBwdRefIdeal.main_arg0) = m ((c.tc : Thread Cert.FfnUpBwdRefIdeal.nD Cert.FfnUpBwdRefIdeal.τ).loc Cert.FfnUpBwdRefIdeal.main_arg0)
      ∧ r.2.mem ((c.tc : Thread Cert.FfnUpBwdRefIdeal.nD Cert.FfnUpBwdRefIdeal.τ).loc Cert.FfnUpBwdRefIdeal.main_arg1) = m ((c.tc : Thread Cert.FfnUpBwdRefIdeal.nD Cert.FfnUpBwdRefIdeal.τ).loc Cert.FfnUpBwdRefIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_DeviceSum [hDeviceSum : Cert.DeviceSum.Facts] : Prop :=
  ∀ (m : (ℓ : Loc Cert.DeviceSum.nD Cert.DeviceSum.τ Cert.DeviceSum.sig) → Buf (Elt Bits) ℓ) (g : Dev Cert.DeviceSum.nD → PrngReg), Pre_DeviceSum m →
    θ_run (Cert.DeviceSum.defs (F := Bits)) (onTc (τ := Cert.DeviceSum.τ) (Cert.DeviceSum.main (F := Bits))) ⟨m, fun _ => 0, g⟩ (fun r => (∀ c : Dev Cert.DeviceSum.nD,
      r.2.mem ((c.tc : Thread Cert.DeviceSum.nD Cert.DeviceSum.τ).loc Cert.DeviceSum.main_arg0) = m ((c.tc : Thread Cert.DeviceSum.nD Cert.DeviceSum.τ).loc Cert.DeviceSum.main_arg0))
      ∧ r.2.sem = fun _ => 0)

def quiescent_DeviceSumIdeal [hDeviceSumIdeal : Cert.DeviceSumIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg), Pre_DeviceSumIdeal m →
    θ_run (Cert.DeviceSumIdeal.defs (F := Ideal)) (onTc (τ := Cert.DeviceSumIdeal.τ) (Cert.DeviceSumIdeal.main (F := Ideal))) ⟨m, fun _ => 0, g⟩ (fun r => (∀ c : Dev Cert.DeviceSumIdeal.nD,
      r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ r.2.sem = fun _ => 0)

def quiescent_DeviceSumRefIdeal [hDeviceSumRefIdeal : Cert.DeviceSumRefIdeal.Facts] : Prop :=
  ∀ (m : (ℓ : Loc Cert.DeviceSumRefIdeal.nD Cert.DeviceSumRefIdeal.τ Cert.DeviceSumRefIdeal.sig) → Buf (Elt Ideal) ℓ) (g : Dev Cert.DeviceSumRefIdeal.nD → PrngReg), Pre_DeviceSumRefIdeal m →
    θ_run (Cert.DeviceSumRefIdeal.defs (F := Ideal)) (onTc (τ := Cert.DeviceSumRefIdeal.τ) (Cert.DeviceSumRefIdeal.main (F := Ideal))) ⟨m, fun _ => 0, g⟩ (fun r => (∀ c : Dev Cert.DeviceSumRefIdeal.nD,
      r.2.mem ((c.tc : Thread Cert.DeviceSumRefIdeal.nD Cert.DeviceSumRefIdeal.τ).loc Cert.DeviceSumRefIdeal.main_arg0) = m ((c.tc : Thread Cert.DeviceSumRefIdeal.nD Cert.DeviceSumRefIdeal.τ).loc Cert.DeviceSumRefIdeal.main_arg0))
      ∧ r.2.sem = fun _ => 0)

def quiescent_PairSum [hPairSum : Cert.PairSum.Facts] [hPre_pair_sum_place : Cert.Pre_pair_sum_place.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_pair_sum_place : Cert.Pre_pair_sum_place.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_pair_sum_place [hPairSumRefIdeal : Cert.PairSumRefIdeal.Facts] [hPre_pair_sum_place : Cert.Pre_pair_sum_place.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_pair_sum_place m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_ChipSum [hChipSum : Cert.ChipSum.Facts] [hPre_chip_sum_place : Cert.Pre_chip_sum_place.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2)
      ∧ r.2.mem ((c.tc : Thread Cert.ChipSum.nD Cert.ChipSum.τ).loc Cert.ChipSum.main_arg3) = m ((c.tc : Thread Cert.ChipSum.nD Cert.ChipSum.τ).loc Cert.ChipSum.main_arg3))
      ∧ r.2.sem = fun _ => 0)

def quiescent_ChipSumIdeal [hChipSumIdeal : Cert.ChipSumIdeal.Facts] [hPre_chip_sum_place : Cert.Pre_chip_sum_place.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
      ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2)
      ∧ r.2.mem ((c.tc : Thread Cert.ChipSumRefIdeal.nD Cert.ChipSumRefIdeal.τ).loc Cert.ChipSumRefIdeal.main_arg3) = m ((c.tc : Thread Cert.ChipSumRefIdeal.nD Cert.ChipSumRefIdeal.τ).loc Cert.ChipSumRefIdeal.main_arg3))
      ∧ r.2.sem = fun _ => 0)

def quiescent_ChipSumRefIdeal_pre_chip_sum_place [hChipSumRefIdeal : Cert.ChipSumRefIdeal.Facts] [hPre_chip_sum_place : Cert.Pre_chip_sum_place.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal_chip_sum_place m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2)
      ∧ r.2.mem ((c.tc : Thread Cert.ChipSumRefIdeal.nD Cert.ChipSumRefIdeal.τ).loc Cert.ChipSumRefIdeal.main_arg3) = m ((c.tc : Thread Cert.ChipSumRefIdeal.nD Cert.ChipSumRefIdeal.τ).loc Cert.ChipSumRefIdeal.main_arg3))
      ∧ r.2.sem = fun _ => 0)

def preserves_RmsBwd_RmsBwdIdeal : Prop :=
  True

def algebraic_RmsBwdIdeal_RmsBwdRefIdeal_pre_rms_bwd_finite [hRmsBwdIdeal : Cert.RmsBwdIdeal.Facts] [hRmsBwdRefIdeal : Cert.RmsBwdRefIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_rms_bwd_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v35) = v0 c
          ∧ r.2.mem ((c.tc : Thread Cert.RmsBwdRefIdeal.nD Cert.RmsBwdRefIdeal.τ).loc Cert.RmsBwdRefIdeal.main_v18) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AttnBwd_AttnBwdIdeal : Prop :=
  True

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v47_0)) (v1 : (c : Dev Cert.AttnBwdIdeal.nD) → Buf (Elt Ideal) ((c.tc : Thread Cert.AttnBwdIdeal.nD Cert.AttnBwdIdeal.τ).loc Cert.AttnBwdIdeal.main_v50)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v47_0) = v0 c
          ∧ r.2.mem ((c.tc : Thread Cert.AttnBwdIdeal.nD Cert.AttnBwdIdeal.τ).loc Cert.AttnBwdIdeal.main_v50) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v98) = v0 c
          ∧ r.2.mem ((c.tc : Thread Cert.AttnBwdRefIdeal.nD Cert.AttnBwdRefIdeal.τ).loc Cert.AttnBwdRefIdeal.main_v99) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_ForgetBwd_ForgetBwdIdeal : Prop :=
  True

def algebraic_ForgetBwdIdeal_ForgetBwdRefIdeal [hForgetBwdIdeal : Cert.ForgetBwdIdeal.Facts] [hForgetBwdRefIdeal : Cert.ForgetBwdRefIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg)
    (m' : (ℓ : Loc Cert.ForgetBwdRefIdeal.nD Cert.ForgetBwdRefIdeal.τ Cert.ForgetBwdRefIdeal.sig) → Buf (Elt Ideal) ℓ) (g' : Dev Cert.ForgetBwdRefIdeal.nD → PrngReg), Pre_ForgetBwdIdeal m →
    (∀ c : Dev Cert.ForgetBwdIdeal.nD,
      m' ((c.tc : Thread Cert.ForgetBwdRefIdeal.nD Cert.ForgetBwdRefIdeal.τ).loc Cert.ForgetBwdRefIdeal.main_arg0) = m ((c.tc : Thread Cert.ForgetBwdIdeal.nD Cert.ForgetBwdIdeal.τ).loc Cert.ForgetBwdIdeal.main_arg0)
      ∧ m' ((c.tc : Thread Cert.ForgetBwdRefIdeal.nD Cert.ForgetBwdRefIdeal.τ).loc Cert.ForgetBwdRefIdeal.main_arg1) = m ((c.tc : Thread Cert.ForgetBwdIdeal.nD Cert.ForgetBwdIdeal.τ).loc Cert.ForgetBwdIdeal.main_arg1)
      ∧ m' ((c.tc : Thread Cert.ForgetBwdRefIdeal.nD Cert.ForgetBwdRefIdeal.τ).loc Cert.ForgetBwdRefIdeal.main_arg2) = m ((c.tc : Thread Cert.ForgetBwdIdeal.nD Cert.ForgetBwdIdeal.τ).loc Cert.ForgetBwdIdeal.main_arg2)
      ∧ m' ((c.tc : Thread Cert.ForgetBwdRefIdeal.nD Cert.ForgetBwdRefIdeal.τ).loc Cert.ForgetBwdRefIdeal.main_arg3) = m ((c.tc : Thread Cert.ForgetBwdIdeal.nD Cert.ForgetBwdIdeal.τ).loc Cert.ForgetBwdIdeal.main_arg3)
      ∧ m' ((c.tc : Thread Cert.ForgetBwdRefIdeal.nD Cert.ForgetBwdRefIdeal.τ).loc Cert.ForgetBwdRefIdeal.main_arg4) = m ((c.tc : Thread Cert.ForgetBwdIdeal.nD Cert.ForgetBwdIdeal.τ).loc Cert.ForgetBwdIdeal.main_arg4)) →
    ∃ (v0 : (c : Dev Cert.ForgetBwdIdeal.nD) → Buf (Elt Ideal) ((c.tc : Thread Cert.ForgetBwdIdeal.nD Cert.ForgetBwdIdeal.τ).loc Cert.ForgetBwdIdeal.main_v3_0)) (v1 : (c : Dev Cert.ForgetBwdIdeal.nD) → Buf (Elt Ideal) ((c.tc : Thread Cert.ForgetBwdIdeal.nD Cert.ForgetBwdIdeal.τ).loc Cert.ForgetBwdIdeal.main_v3_1)),
      θ_run (Cert.ForgetBwdIdeal.defs (F := Ideal)) (onTc (τ := Cert.ForgetBwdIdeal.τ) (Cert.ForgetBwdIdeal.main (F := Ideal))) ⟨m, fun _ => 0, g⟩ (fun r => ∀ c : Dev Cert.ForgetBwdIdeal.nD,
          r.2.mem ((c.tc : Thread Cert.ForgetBwdIdeal.nD Cert.ForgetBwdIdeal.τ).loc Cert.ForgetBwdIdeal.main_v3_0) = v0 c
          ∧ r.2.mem ((c.tc : Thread Cert.ForgetBwdIdeal.nD Cert.ForgetBwdIdeal.τ).loc Cert.ForgetBwdIdeal.main_v3_1) = v1 c
          ∧ r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
          ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
          ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
          ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3)
          ∧ r.2.mem ((c.tc : Thread Cert.ForgetBwdIdeal.nD Cert.ForgetBwdIdeal.τ).loc Cert.ForgetBwdIdeal.main_arg4) = m ((c.tc : Thread Cert.ForgetBwdIdeal.nD Cert.ForgetBwdIdeal.τ).loc Cert.ForgetBwdIdeal.main_arg4))
      ∧ θ_run (Cert.ForgetBwdRefIdeal.defs (F := Ideal)) (onTc (τ := Cert.ForgetBwdRefIdeal.τ) (Cert.ForgetBwdRefIdeal.main (F := Ideal))) ⟨m', fun _ => 0, g'⟩ (fun r => ∀ c : Dev Cert.ForgetBwdRefIdeal.nD,
          r.2.mem ((c.tc : Thread Cert.ForgetBwdRefIdeal.nD Cert.ForgetBwdRefIdeal.τ).loc Cert.ForgetBwdRefIdeal.main_v19) = v0 c
          ∧ r.2.mem ((c.tc : Thread Cert.ForgetBwdRefIdeal.nD Cert.ForgetBwdRefIdeal.τ).loc Cert.ForgetBwdRefIdeal.main_v20) = v1 c
          ∧ r.2.mem ((c.tc : Thread Cert.ForgetBwdRefIdeal.nD Cert.ForgetBwdRefIdeal.τ).loc Cert.ForgetBwdRefIdeal.main_arg0) = m' ((c.tc : Thread Cert.ForgetBwdRefIdeal.nD Cert.ForgetBwdRefIdeal.τ).loc Cert.ForgetBwdRefIdeal.main_arg0)
          ∧ r.2.mem ((c.tc : Thread Cert.ForgetBwdRefIdeal.nD Cert.ForgetBwdRefIdeal.τ).loc Cert.ForgetBwdRefIdeal.main_arg1) = m' ((c.tc : Thread Cert.ForgetBwdRefIdeal.nD Cert.ForgetBwdRefIdeal.τ).loc Cert.ForgetBwdRefIdeal.main_arg1)
          ∧ r.2.mem ((c.tc : Thread Cert.ForgetBwdRefIdeal.nD Cert.ForgetBwdRefIdeal.τ).loc Cert.ForgetBwdRefIdeal.main_arg2) = m' ((c.tc : Thread Cert.ForgetBwdRefIdeal.nD Cert.ForgetBwdRefIdeal.τ).loc Cert.ForgetBwdRefIdeal.main_arg2)
          ∧ r.2.mem ((c.tc : Thread Cert.ForgetBwdRefIdeal.nD Cert.ForgetBwdRefIdeal.τ).loc Cert.ForgetBwdRefIdeal.main_arg3) = m' ((c.tc : Thread Cert.ForgetBwdRefIdeal.nD Cert.ForgetBwdRefIdeal.τ).loc Cert.ForgetBwdRefIdeal.main_arg3)
          ∧ r.2.mem ((c.tc : Thread Cert.ForgetBwdRefIdeal.nD Cert.ForgetBwdRefIdeal.τ).loc Cert.ForgetBwdRefIdeal.main_arg4) = m' ((c.tc : Thread Cert.ForgetBwdRefIdeal.nD Cert.ForgetBwdRefIdeal.τ).loc Cert.ForgetBwdRefIdeal.main_arg4))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v8_0)) (v1 : (c : Dev Cert.ConvBwdIdeal.nD) → Buf (Elt Ideal) ((c.tc : Thread Cert.ConvBwdIdeal.nD Cert.ConvBwdIdeal.τ).loc Cert.ConvBwdIdeal.main_v8_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v8_0) = v0 c
          ∧ r.2.mem ((c.tc : Thread Cert.ConvBwdIdeal.nD Cert.ConvBwdIdeal.τ).loc Cert.ConvBwdIdeal.main_v8_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v69) = v0 c
          ∧ r.2.mem ((c.tc : Thread Cert.ConvBwdRefIdeal.nD Cert.ConvBwdRefIdeal.τ).loc Cert.ConvBwdRefIdeal.main_v55) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_Merge_MergeIdeal : Prop :=
  True

def algebraic_MergeIdeal_MergeRefIdeal_on_gate_columns [hMergeIdeal : Cert.MergeIdeal.Facts] [hMergeRefIdeal : Cert.MergeRefIdeal.Facts] [hOn_gate_columns : Cert.On_gate_columns.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v5_0)) (v2 : (c : Dev Cert.MergeIdeal.nD) → Buf (Elt Ideal) ((c.tc : Thread Cert.MergeIdeal.nD Cert.MergeIdeal.τ).loc Cert.MergeIdeal.main_v5_1)) (v3 : (c : Dev Cert.MergeIdeal.nD) → Buf (Elt Ideal) ((c.tc : Thread Cert.MergeIdeal.nD Cert.MergeIdeal.τ).loc Cert.MergeIdeal.main_v5_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).1 i = 1#1 → r.2.mem ((c.tc : Thread Cert.MergeIdeal.nD Cert.MergeIdeal.τ).loc Cert.MergeIdeal.main_v3_0) i = v0 c i)
          ∧ (∀ i : (⟨2, ![8192, 5376]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.1 i = 1#1 → r.2.mem ((c.tc : Thread Cert.MergeIdeal.nD Cert.MergeIdeal.τ).loc Cert.MergeIdeal.main_v5_0) i = v1 c i)
          ∧ (∀ i : (⟨2, ![8192, 2048]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2.1 i = 1#1 → r.2.mem ((c.tc : Thread Cert.MergeIdeal.nD Cert.MergeIdeal.τ).loc Cert.MergeIdeal.main_v5_1) i = v2 c i)
          ∧ (∀ i : (⟨2, ![1, 2048]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2.2 i = 1#1 → r.2.mem ((c.tc : Thread Cert.MergeIdeal.nD Cert.MergeIdeal.τ).loc Cert.MergeIdeal.main_v5_2) i = v3 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).1 i = 1#1 → r.2.mem ((c.tc : Thread Cert.MergeRefIdeal.nD Cert.MergeRefIdeal.τ).loc Cert.MergeRefIdeal.main_v28) i = v0 c i)
          ∧ (∀ i : (⟨2, ![8192, 5376]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.1 i = 1#1 → r.2.mem ((c.tc : Thread Cert.MergeRefIdeal.nD Cert.MergeRefIdeal.τ).loc Cert.MergeRefIdeal.main_v27) i = v1 c i)
          ∧ (∀ i : (⟨2, ![8192, 2048]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2.1 i = 1#1 → r.2.mem ((c.tc : Thread Cert.MergeRefIdeal.nD Cert.MergeRefIdeal.τ).loc Cert.MergeRefIdeal.main_v30) i = v2 c i)
          ∧ (∀ i : (⟨2, ![1, 2048]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2.2 i = 1#1 → r.2.mem ((c.tc : Thread Cert.MergeRefIdeal.nD Cert.MergeRefIdeal.τ).loc Cert.MergeRefIdeal.main_v25) i = v3 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FinalLoss_FinalLossIdeal : Prop :=
  True

def algebraic_FinalLossIdeal_FinalLossRefIdeal_pre_final_loss_finite [hFinalLossIdeal : Cert.FinalLossIdeal.Facts] [hFinalLossRefIdeal : Cert.FinalLossRefIdeal.Facts] [hPre_final_loss_finite : Cert.Pre_final_loss_finite.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal_final_loss_finite m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v48) = v0 c
          ∧ r.2.mem ((c.tc : Thread Cert.FinalLossRefIdeal.nD Cert.FinalLossRefIdeal.τ).loc Cert.FinalLossRefIdeal.main_v49) = v1 c
          ∧ r.2.mem ((c.tc : Thread Cert.FinalLossRefIdeal.nD Cert.FinalLossRefIdeal.τ).loc Cert.FinalLossRefIdeal.main_v50) = v2 c
          ∧ r.2.mem ((c.tc : Thread Cert.FinalLossRefIdeal.nD Cert.FinalLossRefIdeal.τ).loc Cert.FinalLossRefIdeal.main_v32) = v3 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v7_0)) (v2 : (c : Dev Cert.FfnIdeal.nD) → Buf (Elt Ideal) ((c.tc : Thread Cert.FfnIdeal.nD Cert.FfnIdeal.τ).loc Cert.FfnIdeal.main_v7_1)) (v3 : (c : Dev Cert.FfnIdeal.nD) → Buf (Elt Ideal) ((c.tc : Thread Cert.FfnIdeal.nD Cert.FfnIdeal.τ).loc Cert.FfnIdeal.main_v7_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v7_0) = v1 c
          ∧ r.2.mem ((c.tc : Thread Cert.FfnIdeal.nD Cert.FfnIdeal.τ).loc Cert.FfnIdeal.main_v7_1) = v2 c
          ∧ r.2.mem ((c.tc : Thread Cert.FfnIdeal.nD Cert.FfnIdeal.τ).loc Cert.FfnIdeal.main_v7_2) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_v72) = v1 c
          ∧ r.2.mem ((c.tc : Thread Cert.FfnRefIdeal.nD Cert.FfnRefIdeal.τ).loc Cert.FfnRefIdeal.main_v74) = v2 c
          ∧ r.2.mem ((c.tc : Thread Cert.FfnRefIdeal.nD Cert.FfnRefIdeal.τ).loc Cert.FfnRefIdeal.main_v62) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v7_0)) (v1 : (c : Dev Cert.AttnFwdIdeal.nD) → Buf (Elt Ideal) ((c.tc : Thread Cert.AttnFwdIdeal.nD Cert.AttnFwdIdeal.τ).loc Cert.AttnFwdIdeal.main_v7_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v7_0) = v0 c
          ∧ r.2.mem ((c.tc : Thread Cert.AttnFwdIdeal.nD Cert.AttnFwdIdeal.τ).loc Cert.AttnFwdIdeal.main_v7_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v38) = v0 c
          ∧ r.2.mem ((c.tc : Thread Cert.AttnFwdRefIdeal.nD Cert.AttnFwdRefIdeal.τ).loc Cert.AttnFwdRefIdeal.main_v62) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_ForgetFwd_ForgetFwdIdeal : Prop :=
  True

def algebraic_ForgetFwdIdeal_ForgetFwdRefIdeal [hForgetFwdIdeal : Cert.ForgetFwdIdeal.Facts] [hForgetFwdRefIdeal : Cert.ForgetFwdRefIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg)
    (m' : (ℓ : Loc Cert.ForgetFwdRefIdeal.nD Cert.ForgetFwdRefIdeal.τ Cert.ForgetFwdRefIdeal.sig) → Buf (Elt Ideal) ℓ) (g' : Dev Cert.ForgetFwdRefIdeal.nD → PrngReg), Pre_ForgetFwdIdeal m →
    (∀ c : Dev Cert.ForgetFwdIdeal.nD,
      m' ((c.tc : Thread Cert.ForgetFwdRefIdeal.nD Cert.ForgetFwdRefIdeal.τ).loc Cert.ForgetFwdRefIdeal.main_arg0) = m ((c.tc : Thread Cert.ForgetFwdIdeal.nD Cert.ForgetFwdIdeal.τ).loc Cert.ForgetFwdIdeal.main_arg0)
      ∧ m' ((c.tc : Thread Cert.ForgetFwdRefIdeal.nD Cert.ForgetFwdRefIdeal.τ).loc Cert.ForgetFwdRefIdeal.main_arg1) = m ((c.tc : Thread Cert.ForgetFwdIdeal.nD Cert.ForgetFwdIdeal.τ).loc Cert.ForgetFwdIdeal.main_arg1)) →
    ∃ (v0 : (c : Dev Cert.ForgetFwdIdeal.nD) → Buf (Elt Ideal) ((c.tc : Thread Cert.ForgetFwdIdeal.nD Cert.ForgetFwdIdeal.τ).loc Cert.ForgetFwdIdeal.main_v2)),
      θ_run (Cert.ForgetFwdIdeal.defs (F := Ideal)) (onTc (τ := Cert.ForgetFwdIdeal.τ) (Cert.ForgetFwdIdeal.main (F := Ideal))) ⟨m, fun _ => 0, g⟩ (fun r => ∀ c : Dev Cert.ForgetFwdIdeal.nD,
          r.2.mem ((c.tc : Thread Cert.ForgetFwdIdeal.nD Cert.ForgetFwdIdeal.τ).loc Cert.ForgetFwdIdeal.main_v2) = v0 c
          ∧ r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
          ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ θ_run (Cert.ForgetFwdRefIdeal.defs (F := Ideal)) (onTc (τ := Cert.ForgetFwdRefIdeal.τ) (Cert.ForgetFwdRefIdeal.main (F := Ideal))) ⟨m', fun _ => 0, g'⟩ (fun r => ∀ c : Dev Cert.ForgetFwdRefIdeal.nD,
          r.2.mem ((c.tc : Thread Cert.ForgetFwdRefIdeal.nD Cert.ForgetFwdRefIdeal.τ).loc Cert.ForgetFwdRefIdeal.main_v6) = v0 c
          ∧ r.2.mem ((c.tc : Thread Cert.ForgetFwdRefIdeal.nD Cert.ForgetFwdRefIdeal.τ).loc Cert.ForgetFwdRefIdeal.main_arg0) = m' ((c.tc : Thread Cert.ForgetFwdRefIdeal.nD Cert.ForgetFwdRefIdeal.τ).loc Cert.ForgetFwdRefIdeal.main_arg0)
          ∧ r.2.mem ((c.tc : Thread Cert.ForgetFwdRefIdeal.nD Cert.ForgetFwdRefIdeal.τ).loc Cert.ForgetFwdRefIdeal.main_arg1) = m' ((c.tc : Thread Cert.ForgetFwdRefIdeal.nD Cert.ForgetFwdRefIdeal.τ).loc Cert.ForgetFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)) →
    ∃ (v0 : (c : Dev Cert.ConvFwdIdeal.nD) → Buf (Elt Ideal) ((c.tc : Thread Cert.ConvFwdIdeal.nD Cert.ConvFwdIdeal.τ).loc Cert.ConvFwdIdeal.main_v6)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v6) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v25) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v2)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v2) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v5) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_BranchOut_BranchOutIdeal : Prop :=
  True

def algebraic_BranchOutIdeal_BranchOutRefIdeal [hBranchOutIdeal : Cert.BranchOutIdeal.Facts] [hBranchOutRefIdeal : Cert.BranchOutRefIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg)
    (m' : (ℓ : Loc Cert.BranchOutRefIdeal.nD Cert.BranchOutRefIdeal.τ Cert.BranchOutRefIdeal.sig) → Buf (Elt Ideal) ℓ) (g' : Dev Cert.BranchOutRefIdeal.nD → PrngReg), Pre_BranchOutIdeal m →
    (∀ c : Dev Cert.BranchOutIdeal.nD,
      m' ((c.tc : Thread Cert.BranchOutRefIdeal.nD Cert.BranchOutRefIdeal.τ).loc Cert.BranchOutRefIdeal.main_arg0) = m ((c.tc : Thread Cert.BranchOutIdeal.nD Cert.BranchOutIdeal.τ).loc Cert.BranchOutIdeal.main_arg0)
      ∧ m' ((c.tc : Thread Cert.BranchOutRefIdeal.nD Cert.BranchOutRefIdeal.τ).loc Cert.BranchOutRefIdeal.main_arg1) = m ((c.tc : Thread Cert.BranchOutIdeal.nD Cert.BranchOutIdeal.τ).loc Cert.BranchOutIdeal.main_arg1)
      ∧ m' ((c.tc : Thread Cert.BranchOutRefIdeal.nD Cert.BranchOutRefIdeal.τ).loc Cert.BranchOutRefIdeal.main_arg2) = m ((c.tc : Thread Cert.BranchOutIdeal.nD Cert.BranchOutIdeal.τ).loc Cert.BranchOutIdeal.main_arg2)
      ∧ m' ((c.tc : Thread Cert.BranchOutRefIdeal.nD Cert.BranchOutRefIdeal.τ).loc Cert.BranchOutRefIdeal.main_arg3) = m ((c.tc : Thread Cert.BranchOutIdeal.nD Cert.BranchOutIdeal.τ).loc Cert.BranchOutIdeal.main_arg3)) →
    ∃ (v0 : (c : Dev Cert.BranchOutIdeal.nD) → Buf (Elt Ideal) ((c.tc : Thread Cert.BranchOutIdeal.nD Cert.BranchOutIdeal.τ).loc Cert.BranchOutIdeal.main_v4)),
      θ_run (Cert.BranchOutIdeal.defs (F := Ideal)) (onTc (τ := Cert.BranchOutIdeal.τ) (Cert.BranchOutIdeal.main (F := Ideal))) ⟨m, fun _ => 0, g⟩ (fun r => ∀ c : Dev Cert.BranchOutIdeal.nD,
          r.2.mem ((c.tc : Thread Cert.BranchOutIdeal.nD Cert.BranchOutIdeal.τ).loc Cert.BranchOutIdeal.main_v4) = v0 c
          ∧ r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
          ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1)
          ∧ r.2.mem ((c.tc : Thread Cert.BranchOutIdeal.nD Cert.BranchOutIdeal.τ).loc Cert.BranchOutIdeal.main_arg2) = m ((c.tc : Thread Cert.BranchOutIdeal.nD Cert.BranchOutIdeal.τ).loc Cert.BranchOutIdeal.main_arg2)
          ∧ r.2.mem ((c.tc : Thread Cert.BranchOutIdeal.nD Cert.BranchOutIdeal.τ).loc Cert.BranchOutIdeal.main_arg3) = m ((c.tc : Thread Cert.BranchOutIdeal.nD Cert.BranchOutIdeal.τ).loc Cert.BranchOutIdeal.main_arg3))
      ∧ θ_run (Cert.BranchOutRefIdeal.defs (F := Ideal)) (onTc (τ := Cert.BranchOutRefIdeal.τ) (Cert.BranchOutRefIdeal.main (F := Ideal))) ⟨m', fun _ => 0, g'⟩ (fun r => ∀ c : Dev Cert.BranchOutRefIdeal.nD,
          r.2.mem ((c.tc : Thread Cert.BranchOutRefIdeal.nD Cert.BranchOutRefIdeal.τ).loc Cert.BranchOutRefIdeal.main_v3) = v0 c
          ∧ r.2.mem ((c.tc : Thread Cert.BranchOutRefIdeal.nD Cert.BranchOutRefIdeal.τ).loc Cert.BranchOutRefIdeal.main_arg0) = m' ((c.tc : Thread Cert.BranchOutRefIdeal.nD Cert.BranchOutRefIdeal.τ).loc Cert.BranchOutRefIdeal.main_arg0)
          ∧ r.2.mem ((c.tc : Thread Cert.BranchOutRefIdeal.nD Cert.BranchOutRefIdeal.τ).loc Cert.BranchOutRefIdeal.main_arg1) = m' ((c.tc : Thread Cert.BranchOutRefIdeal.nD Cert.BranchOutRefIdeal.τ).loc Cert.BranchOutRefIdeal.main_arg1)
          ∧ r.2.mem ((c.tc : Thread Cert.BranchOutRefIdeal.nD Cert.BranchOutRefIdeal.τ).loc Cert.BranchOutRefIdeal.main_arg2) = m' ((c.tc : Thread Cert.BranchOutRefIdeal.nD Cert.BranchOutRefIdeal.τ).loc Cert.BranchOutRefIdeal.main_arg2)
          ∧ r.2.mem ((c.tc : Thread Cert.BranchOutRefIdeal.nD Cert.BranchOutRefIdeal.τ).loc Cert.BranchOutRefIdeal.main_arg3) = m' ((c.tc : Thread Cert.BranchOutRefIdeal.nD Cert.BranchOutRefIdeal.τ).loc Cert.BranchOutRefIdeal.main_arg3))

def preserves_BranchOutBwd_BranchOutBwdIdeal : Prop :=
  True

def algebraic_BranchOutBwdIdeal_BranchOutBwdRefIdeal [hBranchOutBwdIdeal : Cert.BranchOutBwdIdeal.Facts] [hBranchOutBwdRefIdeal : Cert.BranchOutBwdRefIdeal.Facts] : Prop :=
  ∀ (m : (ℓ : Loc Cert.BranchOutBwdIdeal.nD Cert.BranchOutBwdIdeal.τ Cert.BranchOutBwdIdeal.sig) → Buf (Elt Ideal) ℓ) (g : Dev Cert.BranchOutBwdIdeal.nD → PrngReg)
    (m' : (ℓ : Loc Cert.BranchOutBwdRefIdeal.nD Cert.BranchOutBwdRefIdeal.τ Cert.BranchOutBwdRefIdeal.sig) → Buf (Elt Ideal) ℓ) (g' : Dev Cert.BranchOutBwdRefIdeal.nD → PrngReg), Pre_BranchOutBwdIdeal m →
    (∀ c : Dev Cert.BranchOutBwdIdeal.nD,
      m' ((c.tc : Thread Cert.BranchOutBwdRefIdeal.nD Cert.BranchOutBwdRefIdeal.τ).loc Cert.BranchOutBwdRefIdeal.main_arg0) = m ((c.tc : Thread Cert.BranchOutBwdIdeal.nD Cert.BranchOutBwdIdeal.τ).loc Cert.BranchOutBwdIdeal.main_arg0)
      ∧ m' ((c.tc : Thread Cert.BranchOutBwdRefIdeal.nD Cert.BranchOutBwdRefIdeal.τ).loc Cert.BranchOutBwdRefIdeal.main_arg1) = m ((c.tc : Thread Cert.BranchOutBwdIdeal.nD Cert.BranchOutBwdIdeal.τ).loc Cert.BranchOutBwdIdeal.main_arg1)
      ∧ m' ((c.tc : Thread Cert.BranchOutBwdRefIdeal.nD Cert.BranchOutBwdRefIdeal.τ).loc Cert.BranchOutBwdRefIdeal.main_arg2) = m ((c.tc : Thread Cert.BranchOutBwdIdeal.nD Cert.BranchOutBwdIdeal.τ).loc Cert.BranchOutBwdIdeal.main_arg2)) →
    ∃ (v0 : (c : Dev Cert.BranchOutBwdIdeal.nD) → Buf (Elt Ideal) ((c.tc : Thread Cert.BranchOutBwdIdeal.nD Cert.BranchOutBwdIdeal.τ).loc Cert.BranchOutBwdIdeal.main_v3_0)) (v1 : (c : Dev Cert.BranchOutBwdIdeal.nD) → Buf (Elt Ideal) ((c.tc : Thread Cert.BranchOutBwdIdeal.nD Cert.BranchOutBwdIdeal.τ).loc Cert.BranchOutBwdIdeal.main_v3_1)),
      θ_run (Cert.BranchOutBwdIdeal.defs (F := Ideal)) (onTc (τ := Cert.BranchOutBwdIdeal.τ) (Cert.BranchOutBwdIdeal.main (F := Ideal))) ⟨m, fun _ => 0, g⟩ (fun r => ∀ c : Dev Cert.BranchOutBwdIdeal.nD,
          r.2.mem ((c.tc : Thread Cert.BranchOutBwdIdeal.nD Cert.BranchOutBwdIdeal.τ).loc Cert.BranchOutBwdIdeal.main_v3_0) = v0 c
          ∧ r.2.mem ((c.tc : Thread Cert.BranchOutBwdIdeal.nD Cert.BranchOutBwdIdeal.τ).loc Cert.BranchOutBwdIdeal.main_v3_1) = v1 c
          ∧ r.2.mem ((c.tc : Thread Cert.BranchOutBwdIdeal.nD Cert.BranchOutBwdIdeal.τ).loc Cert.BranchOutBwdIdeal.main_arg0) = m ((c.tc : Thread Cert.BranchOutBwdIdeal.nD Cert.BranchOutBwdIdeal.τ).loc Cert.BranchOutBwdIdeal.main_arg0)
          ∧ r.2.mem ((c.tc : Thread Cert.BranchOutBwdIdeal.nD Cert.BranchOutBwdIdeal.τ).loc Cert.BranchOutBwdIdeal.main_arg1) = m ((c.tc : Thread Cert.BranchOutBwdIdeal.nD Cert.BranchOutBwdIdeal.τ).loc Cert.BranchOutBwdIdeal.main_arg1)
          ∧ r.2.mem ((c.tc : Thread Cert.BranchOutBwdIdeal.nD Cert.BranchOutBwdIdeal.τ).loc Cert.BranchOutBwdIdeal.main_arg2) = m ((c.tc : Thread Cert.BranchOutBwdIdeal.nD Cert.BranchOutBwdIdeal.τ).loc Cert.BranchOutBwdIdeal.main_arg2))
      ∧ θ_run (Cert.BranchOutBwdRefIdeal.defs (F := Ideal)) (onTc (τ := Cert.BranchOutBwdRefIdeal.τ) (Cert.BranchOutBwdRefIdeal.main (F := Ideal))) ⟨m', fun _ => 0, g'⟩ (fun r => ∀ c : Dev Cert.BranchOutBwdRefIdeal.nD,
          r.2.mem ((c.tc : Thread Cert.BranchOutBwdRefIdeal.nD Cert.BranchOutBwdRefIdeal.τ).loc Cert.BranchOutBwdRefIdeal.main_v7) = v0 c
          ∧ r.2.mem ((c.tc : Thread Cert.BranchOutBwdRefIdeal.nD Cert.BranchOutBwdRefIdeal.τ).loc Cert.BranchOutBwdRefIdeal.main_v8) = v1 c
          ∧ r.2.mem ((c.tc : Thread Cert.BranchOutBwdRefIdeal.nD Cert.BranchOutBwdRefIdeal.τ).loc Cert.BranchOutBwdRefIdeal.main_arg0) = m' ((c.tc : Thread Cert.BranchOutBwdRefIdeal.nD Cert.BranchOutBwdRefIdeal.τ).loc Cert.BranchOutBwdRefIdeal.main_arg0)
          ∧ r.2.mem ((c.tc : Thread Cert.BranchOutBwdRefIdeal.nD Cert.BranchOutBwdRefIdeal.τ).loc Cert.BranchOutBwdRefIdeal.main_arg1) = m' ((c.tc : Thread Cert.BranchOutBwdRefIdeal.nD Cert.BranchOutBwdRefIdeal.τ).loc Cert.BranchOutBwdRefIdeal.main_arg1)
          ∧ r.2.mem ((c.tc : Thread Cert.BranchOutBwdRefIdeal.nD Cert.BranchOutBwdRefIdeal.τ).loc Cert.BranchOutBwdRefIdeal.main_arg2) = m' ((c.tc : Thread Cert.BranchOutBwdRefIdeal.nD Cert.BranchOutBwdRefIdeal.τ).loc Cert.BranchOutBwdRefIdeal.main_arg2))

def preserves_BranchOutDw_BranchOutDwIdeal : Prop :=
  True

def algebraic_BranchOutDwIdeal_BranchOutDwRefIdeal [hBranchOutDwIdeal : Cert.BranchOutDwIdeal.Facts] [hBranchOutDwRefIdeal : Cert.BranchOutDwRefIdeal.Facts] : Prop :=
  ∀ (m : (ℓ : Loc Cert.BranchOutDwIdeal.nD Cert.BranchOutDwIdeal.τ Cert.BranchOutDwIdeal.sig) → Buf (Elt Ideal) ℓ) (g : Dev Cert.BranchOutDwIdeal.nD → PrngReg)
    (m' : (ℓ : Loc Cert.BranchOutDwRefIdeal.nD Cert.BranchOutDwRefIdeal.τ Cert.BranchOutDwRefIdeal.sig) → Buf (Elt Ideal) ℓ) (g' : Dev Cert.BranchOutDwRefIdeal.nD → PrngReg), Pre_BranchOutDwIdeal m →
    (∀ c : Dev Cert.BranchOutDwIdeal.nD,
      m' ((c.tc : Thread Cert.BranchOutDwRefIdeal.nD Cert.BranchOutDwRefIdeal.τ).loc Cert.BranchOutDwRefIdeal.main_arg0) = m ((c.tc : Thread Cert.BranchOutDwIdeal.nD Cert.BranchOutDwIdeal.τ).loc Cert.BranchOutDwIdeal.main_arg0)
      ∧ m' ((c.tc : Thread Cert.BranchOutDwRefIdeal.nD Cert.BranchOutDwRefIdeal.τ).loc Cert.BranchOutDwRefIdeal.main_arg1) = m ((c.tc : Thread Cert.BranchOutDwIdeal.nD Cert.BranchOutDwIdeal.τ).loc Cert.BranchOutDwIdeal.main_arg1)
      ∧ m' ((c.tc : Thread Cert.BranchOutDwRefIdeal.nD Cert.BranchOutDwRefIdeal.τ).loc Cert.BranchOutDwRefIdeal.main_arg2) = m ((c.tc : Thread Cert.BranchOutDwIdeal.nD Cert.BranchOutDwIdeal.τ).loc Cert.BranchOutDwIdeal.main_arg2)) →
    ∃ (v0 : (c : Dev Cert.BranchOutDwIdeal.nD) → Buf (Elt Ideal) ((c.tc : Thread Cert.BranchOutDwIdeal.nD Cert.BranchOutDwIdeal.τ).loc Cert.BranchOutDwIdeal.main_v3_0)) (v1 : (c : Dev Cert.BranchOutDwIdeal.nD) → Buf (Elt Ideal) ((c.tc : Thread Cert.BranchOutDwIdeal.nD Cert.BranchOutDwIdeal.τ).loc Cert.BranchOutDwIdeal.main_v3_1)),
      θ_run (Cert.BranchOutDwIdeal.defs (F := Ideal)) (onTc (τ := Cert.BranchOutDwIdeal.τ) (Cert.BranchOutDwIdeal.main (F := Ideal))) ⟨m, fun _ => 0, g⟩ (fun r => ∀ c : Dev Cert.BranchOutDwIdeal.nD,
          r.2.mem ((c.tc : Thread Cert.BranchOutDwIdeal.nD Cert.BranchOutDwIdeal.τ).loc Cert.BranchOutDwIdeal.main_v3_0) = v0 c
          ∧ r.2.mem ((c.tc : Thread Cert.BranchOutDwIdeal.nD Cert.BranchOutDwIdeal.τ).loc Cert.BranchOutDwIdeal.main_v3_1) = v1 c
          ∧ r.2.mem ((c.tc : Thread Cert.BranchOutDwIdeal.nD Cert.BranchOutDwIdeal.τ).loc Cert.BranchOutDwIdeal.main_arg0) = m ((c.tc : Thread Cert.BranchOutDwIdeal.nD Cert.BranchOutDwIdeal.τ).loc Cert.BranchOutDwIdeal.main_arg0)
          ∧ r.2.mem ((c.tc : Thread Cert.BranchOutDwIdeal.nD Cert.BranchOutDwIdeal.τ).loc Cert.BranchOutDwIdeal.main_arg1) = m ((c.tc : Thread Cert.BranchOutDwIdeal.nD Cert.BranchOutDwIdeal.τ).loc Cert.BranchOutDwIdeal.main_arg1)
          ∧ r.2.mem ((c.tc : Thread Cert.BranchOutDwIdeal.nD Cert.BranchOutDwIdeal.τ).loc Cert.BranchOutDwIdeal.main_arg2) = m ((c.tc : Thread Cert.BranchOutDwIdeal.nD Cert.BranchOutDwIdeal.τ).loc Cert.BranchOutDwIdeal.main_arg2))
      ∧ θ_run (Cert.BranchOutDwRefIdeal.defs (F := Ideal)) (onTc (τ := Cert.BranchOutDwRefIdeal.τ) (Cert.BranchOutDwRefIdeal.main (F := Ideal))) ⟨m', fun _ => 0, g'⟩ (fun r => ∀ c : Dev Cert.BranchOutDwRefIdeal.nD,
          r.2.mem ((c.tc : Thread Cert.BranchOutDwRefIdeal.nD Cert.BranchOutDwRefIdeal.τ).loc Cert.BranchOutDwRefIdeal.main_v8) = v0 c
          ∧ r.2.mem ((c.tc : Thread Cert.BranchOutDwRefIdeal.nD Cert.BranchOutDwRefIdeal.τ).loc Cert.BranchOutDwRefIdeal.main_v6) = v1 c
          ∧ r.2.mem ((c.tc : Thread Cert.BranchOutDwRefIdeal.nD Cert.BranchOutDwRefIdeal.τ).loc Cert.BranchOutDwRefIdeal.main_arg0) = m' ((c.tc : Thread Cert.BranchOutDwRefIdeal.nD Cert.BranchOutDwRefIdeal.τ).loc Cert.BranchOutDwRefIdeal.main_arg0)
          ∧ r.2.mem ((c.tc : Thread Cert.BranchOutDwRefIdeal.nD Cert.BranchOutDwRefIdeal.τ).loc Cert.BranchOutDwRefIdeal.main_arg1) = m' ((c.tc : Thread Cert.BranchOutDwRefIdeal.nD Cert.BranchOutDwRefIdeal.τ).loc Cert.BranchOutDwRefIdeal.main_arg1)
          ∧ r.2.mem ((c.tc : Thread Cert.BranchOutDwRefIdeal.nD Cert.BranchOutDwRefIdeal.τ).loc Cert.BranchOutDwRefIdeal.main_arg2) = m' ((c.tc : Thread Cert.BranchOutDwRefIdeal.nD Cert.BranchOutDwRefIdeal.τ).loc Cert.BranchOutDwRefIdeal.main_arg2))

def preserves_FfnUpBwd_FfnUpBwdIdeal : Prop :=
  True

def algebraic_FfnUpBwdIdeal_FfnUpBwdRefIdeal [hFfnUpBwdIdeal : Cert.FfnUpBwdIdeal.Facts] [hFfnUpBwdRefIdeal : Cert.FfnUpBwdRefIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg)
    (m' : (ℓ : Loc Cert.FfnUpBwdRefIdeal.nD Cert.FfnUpBwdRefIdeal.τ Cert.FfnUpBwdRefIdeal.sig) → Buf (Elt Ideal) ℓ) (g' : Dev Cert.FfnUpBwdRefIdeal.nD → PrngReg), Pre_FfnUpBwdIdeal m →
    (∀ c : Dev Cert.FfnUpBwdIdeal.nD,
      m' ((c.tc : Thread Cert.FfnUpBwdRefIdeal.nD Cert.FfnUpBwdRefIdeal.τ).loc Cert.FfnUpBwdRefIdeal.main_arg0) = m ((c.tc : Thread Cert.FfnUpBwdIdeal.nD Cert.FfnUpBwdIdeal.τ).loc Cert.FfnUpBwdIdeal.main_arg0)
      ∧ m' ((c.tc : Thread Cert.FfnUpBwdRefIdeal.nD Cert.FfnUpBwdRefIdeal.τ).loc Cert.FfnUpBwdRefIdeal.main_arg1) = m ((c.tc : Thread Cert.FfnUpBwdIdeal.nD Cert.FfnUpBwdIdeal.τ).loc Cert.FfnUpBwdIdeal.main_arg1)) →
    ∃ (v0 : (c : Dev Cert.FfnUpBwdIdeal.nD) → Buf (Elt Ideal) ((c.tc : Thread Cert.FfnUpBwdIdeal.nD Cert.FfnUpBwdIdeal.τ).loc Cert.FfnUpBwdIdeal.main_v5)),
      θ_run (Cert.FfnUpBwdIdeal.defs (F := Ideal)) (onTc (τ := Cert.FfnUpBwdIdeal.τ) (Cert.FfnUpBwdIdeal.main (F := Ideal))) ⟨m, fun _ => 0, g⟩ (fun r => ∀ c : Dev Cert.FfnUpBwdIdeal.nD,
          r.2.mem ((c.tc : Thread Cert.FfnUpBwdIdeal.nD Cert.FfnUpBwdIdeal.τ).loc Cert.FfnUpBwdIdeal.main_v5) = v0 c
          ∧ r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
          ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1))
      ∧ θ_run (Cert.FfnUpBwdRefIdeal.defs (F := Ideal)) (onTc (τ := Cert.FfnUpBwdRefIdeal.τ) (Cert.FfnUpBwdRefIdeal.main (F := Ideal))) ⟨m', fun _ => 0, g'⟩ (fun r => ∀ c : Dev Cert.FfnUpBwdRefIdeal.nD,
          r.2.mem ((c.tc : Thread Cert.FfnUpBwdRefIdeal.nD Cert.FfnUpBwdRefIdeal.τ).loc Cert.FfnUpBwdRefIdeal.main_v3) = v0 c
          ∧ r.2.mem ((c.tc : Thread Cert.FfnUpBwdRefIdeal.nD Cert.FfnUpBwdRefIdeal.τ).loc Cert.FfnUpBwdRefIdeal.main_arg0) = m' ((c.tc : Thread Cert.FfnUpBwdRefIdeal.nD Cert.FfnUpBwdRefIdeal.τ).loc Cert.FfnUpBwdRefIdeal.main_arg0)
          ∧ r.2.mem ((c.tc : Thread Cert.FfnUpBwdRefIdeal.nD Cert.FfnUpBwdRefIdeal.τ).loc Cert.FfnUpBwdRefIdeal.main_arg1) = m' ((c.tc : Thread Cert.FfnUpBwdRefIdeal.nD Cert.FfnUpBwdRefIdeal.τ).loc Cert.FfnUpBwdRefIdeal.main_arg1))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v15_0)) (v1 : (c : Dev Cert.ProjectIdeal.nD) → Buf (Elt Ideal) ((c.tc : Thread Cert.ProjectIdeal.nD Cert.ProjectIdeal.τ).loc Cert.ProjectIdeal.main_v15_1)) (v2 : (c : Dev Cert.ProjectIdeal.nD) → Buf (Elt Ideal) ((c.tc : Thread Cert.ProjectIdeal.nD Cert.ProjectIdeal.τ).loc Cert.ProjectIdeal.main_v15_2)) (v3 : (c : Dev Cert.ProjectIdeal.nD) → Buf (Elt Ideal) ((c.tc : Thread Cert.ProjectIdeal.nD Cert.ProjectIdeal.τ).loc Cert.ProjectIdeal.main_v15_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v15_0) = v0 c
          ∧ r.2.mem ((c.tc : Thread Cert.ProjectIdeal.nD Cert.ProjectIdeal.τ).loc Cert.ProjectIdeal.main_v15_1) = v1 c
          ∧ r.2.mem ((c.tc : Thread Cert.ProjectIdeal.nD Cert.ProjectIdeal.τ).loc Cert.ProjectIdeal.main_v15_2) = v2 c
          ∧ r.2.mem ((c.tc : Thread Cert.ProjectIdeal.nD Cert.ProjectIdeal.τ).loc Cert.ProjectIdeal.main_v15_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v19) = v0 c
          ∧ r.2.mem ((c.tc : Thread Cert.ProjectRefIdeal.nD Cert.ProjectRefIdeal.τ).loc Cert.ProjectRefIdeal.main_v28) = v1 c
          ∧ r.2.mem ((c.tc : Thread Cert.ProjectRefIdeal.nD Cert.ProjectRefIdeal.τ).loc Cert.ProjectRefIdeal.main_v29) = v2 c
          ∧ r.2.mem ((c.tc : Thread Cert.ProjectRefIdeal.nD Cert.ProjectRefIdeal.τ).loc Cert.ProjectRefIdeal.main_v10) = v3 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_DeviceSum_DeviceSumIdeal : Prop :=
  True

def algebraic_DeviceSumIdeal_DeviceSumRefIdeal [hDeviceSumIdeal : Cert.DeviceSumIdeal.Facts] [hDeviceSumRefIdeal : Cert.DeviceSumRefIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg)
    (m' : (ℓ : Loc Cert.DeviceSumRefIdeal.nD Cert.DeviceSumRefIdeal.τ Cert.DeviceSumRefIdeal.sig) → Buf (Elt Ideal) ℓ) (g' : Dev Cert.DeviceSumRefIdeal.nD → PrngReg), Pre_DeviceSumIdeal m →
    (∀ c : Dev Cert.DeviceSumIdeal.nD,
      m' ((c.tc : Thread Cert.DeviceSumRefIdeal.nD Cert.DeviceSumRefIdeal.τ).loc Cert.DeviceSumRefIdeal.main_arg0) = m ((c.tc : Thread Cert.DeviceSumIdeal.nD Cert.DeviceSumIdeal.τ).loc Cert.DeviceSumIdeal.main_arg0)) →
    ∃ (v0 : (c : Dev Cert.DeviceSumIdeal.nD) → Buf (Elt Ideal) ((c.tc : Thread Cert.DeviceSumIdeal.nD Cert.DeviceSumIdeal.τ).loc Cert.DeviceSumIdeal.main_v0)),
      θ_run (Cert.DeviceSumIdeal.defs (F := Ideal)) (onTc (τ := Cert.DeviceSumIdeal.τ) (Cert.DeviceSumIdeal.main (F := Ideal))) ⟨m, fun _ => 0, g⟩ (fun r => ∀ c : Dev Cert.DeviceSumIdeal.nD,
          r.2.mem ((c.tc : Thread Cert.DeviceSumIdeal.nD Cert.DeviceSumIdeal.τ).loc Cert.DeviceSumIdeal.main_v0) = v0 c
          ∧ r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ θ_run (Cert.DeviceSumRefIdeal.defs (F := Ideal)) (onTc (τ := Cert.DeviceSumRefIdeal.τ) (Cert.DeviceSumRefIdeal.main (F := Ideal))) ⟨m', fun _ => 0, g'⟩ (fun r => ∀ c : Dev Cert.DeviceSumRefIdeal.nD,
          r.2.mem ((c.tc : Thread Cert.DeviceSumRefIdeal.nD Cert.DeviceSumRefIdeal.τ).loc Cert.DeviceSumRefIdeal.main_v1) = v0 c
          ∧ r.2.mem ((c.tc : Thread Cert.DeviceSumRefIdeal.nD Cert.DeviceSumRefIdeal.τ).loc Cert.DeviceSumRefIdeal.main_arg0) = m' ((c.tc : Thread Cert.DeviceSumRefIdeal.nD Cert.DeviceSumRefIdeal.τ).loc Cert.DeviceSumRefIdeal.main_arg0))

def preserves_PairSum_PairSumIdeal : Prop :=
  True

def algebraic_PairSumIdeal_PairSumRefIdeal [hPairSumIdeal : Cert.PairSumIdeal.Facts] [hPairSumRefIdeal : Cert.PairSumRefIdeal.Facts] [hPre_pair_sum_place : Cert.Pre_pair_sum_place.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v7) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def preserves_ChipSum_ChipSumIdeal : Prop :=
  True

def algebraic_ChipSumIdeal_ChipSumRefIdeal_on_own_rows [hChipSumIdeal : Cert.ChipSumIdeal.Facts] [hChipSumRefIdeal : Cert.ChipSumRefIdeal.Facts] [hPre_chip_sum_place : Cert.Pre_chip_sum_place.Facts] [hOn_own_rows : Cert.On_own_rows.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)
      ∧ m' ((c.tc : Thread Cert.ChipSumRefIdeal.nD Cert.ChipSumRefIdeal.τ).loc Cert.ChipSumRefIdeal.main_arg2) = m ((c.tc : Thread Cert.ChipSumIdeal.nD Cert.ChipSumIdeal.τ).loc Cert.ChipSumIdeal.main_arg2)
      ∧ m' ((c.tc : Thread Cert.ChipSumRefIdeal.nD Cert.ChipSumRefIdeal.τ).loc Cert.ChipSumRefIdeal.main_arg3) = m ((c.tc : Thread Cert.ChipSumIdeal.nD Cert.ChipSumIdeal.τ).loc Cert.ChipSumIdeal.main_arg3)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          (∀ i : (⟨2, ![1024, 1408]⟩ : Shape).Idx, (Cert.On_own_rows.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2)) (m ((c.tc : Thread Cert.ChipSumIdeal.nD Cert.ChipSumIdeal.τ).loc Cert.ChipSumIdeal.main_arg3))) i = 1#1 → r.2.mem ((c.tc : Thread Cert.ChipSumIdeal.nD Cert.ChipSumIdeal.τ).loc Cert.ChipSumIdeal.main_v0) i = v0 c i)
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
          ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          (∀ i : (⟨2, ![1024, 1408]⟩ : Shape).Idx, (Cert.On_own_rows.fn (F := Ideal) (m ((c.tc : Thread Cert.ChipSumIdeal.nD Cert.ChipSumIdeal.τ).loc Cert.ChipSumIdeal.main_arg0)) (m ((c.tc : Thread Cert.ChipSumIdeal.nD Cert.ChipSumIdeal.τ).loc Cert.ChipSumIdeal.main_arg1)) (m ((c.tc : Thread Cert.ChipSumIdeal.nD Cert.ChipSumIdeal.τ).loc Cert.ChipSumIdeal.main_arg2)) (m ((c.tc : Thread Cert.ChipSumIdeal.nD Cert.ChipSumIdeal.τ).loc Cert.ChipSumIdeal.main_arg3))) i = 1#1 → r.2.mem ((c.tc : Thread Cert.ChipSumRefIdeal.nD Cert.ChipSumRefIdeal.τ).loc Cert.ChipSumRefIdeal.main_v11) i = v0 c i)
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1)
          ∧ r.2.mem ((c.tc : Thread Cert.ChipSumRefIdeal.nD Cert.ChipSumRefIdeal.τ).loc Cert.ChipSumRefIdeal.main_arg2) = m' ((c.tc : Thread Cert.ChipSumRefIdeal.nD Cert.ChipSumRefIdeal.τ).loc Cert.ChipSumRefIdeal.main_arg2)
          ∧ r.2.mem ((c.tc : Thread Cert.ChipSumRefIdeal.nD Cert.ChipSumRefIdeal.τ).loc Cert.ChipSumRefIdeal.main_arg3) = m' ((c.tc : Thread Cert.ChipSumRefIdeal.nD Cert.ChipSumRefIdeal.τ).loc Cert.ChipSumRefIdeal.main_arg3))

def Claim : Prop :=
  ∃ (hRmsBwd : Cert.RmsBwd.Facts) (hRmsBwdIdeal : Cert.RmsBwdIdeal.Facts) (hRmsBwdRefIdeal : Cert.RmsBwdRefIdeal.Facts) (hAttnBwd : Cert.AttnBwd.Facts) (hAttnBwdIdeal : Cert.AttnBwdIdeal.Facts) (hAttnBwdRefIdeal : Cert.AttnBwdRefIdeal.Facts) (hForgetBwd : Cert.ForgetBwd.Facts) (hForgetBwdIdeal : Cert.ForgetBwdIdeal.Facts) (hForgetBwdRefIdeal : Cert.ForgetBwdRefIdeal.Facts) (hConvBwd : Cert.ConvBwd.Facts) (hConvBwdIdeal : Cert.ConvBwdIdeal.Facts) (hConvBwdRefIdeal : Cert.ConvBwdRefIdeal.Facts) (hMerge : Cert.Merge.Facts) (hMergeIdeal : Cert.MergeIdeal.Facts) (hMergeRefIdeal : Cert.MergeRefIdeal.Facts) (hFinalLoss : Cert.FinalLoss.Facts) (hFinalLossIdeal : Cert.FinalLossIdeal.Facts) (hFinalLossRefIdeal : Cert.FinalLossRefIdeal.Facts) (hFfn : Cert.Ffn.Facts) (hFfnIdeal : Cert.FfnIdeal.Facts) (hFfnRefIdeal : Cert.FfnRefIdeal.Facts) (hAttnFwd : Cert.AttnFwd.Facts) (hAttnFwdIdeal : Cert.AttnFwdIdeal.Facts) (hAttnFwdRefIdeal : Cert.AttnFwdRefIdeal.Facts) (hForgetFwd : Cert.ForgetFwd.Facts) (hForgetFwdIdeal : Cert.ForgetFwdIdeal.Facts) (hForgetFwdRefIdeal : Cert.ForgetFwdRefIdeal.Facts) (hConvFwd : Cert.ConvFwd.Facts) (hConvFwdIdeal : Cert.ConvFwdIdeal.Facts) (hConvFwdRefIdeal : Cert.ConvFwdRefIdeal.Facts) (hRmsFwd : Cert.RmsFwd.Facts) (hRmsFwdIdeal : Cert.RmsFwdIdeal.Facts) (hRmsFwdRefIdeal : Cert.RmsFwdRefIdeal.Facts) (hMm : Cert.Mm.Facts) (hMmIdeal : Cert.MmIdeal.Facts) (hMmRefIdeal : Cert.MmRefIdeal.Facts) (hBranchOut : Cert.BranchOut.Facts) (hBranchOutIdeal : Cert.BranchOutIdeal.Facts) (hBranchOutRefIdeal : Cert.BranchOutRefIdeal.Facts) (hBranchOutBwd : Cert.BranchOutBwd.Facts) (hBranchOutBwdIdeal : Cert.BranchOutBwdIdeal.Facts) (hBranchOutBwdRefIdeal : Cert.BranchOutBwdRefIdeal.Facts) (hBranchOutDw : Cert.BranchOutDw.Facts) (hBranchOutDwIdeal : Cert.BranchOutDwIdeal.Facts) (hBranchOutDwRefIdeal : Cert.BranchOutDwRefIdeal.Facts) (hFfnUpBwd : Cert.FfnUpBwd.Facts) (hFfnUpBwdIdeal : Cert.FfnUpBwdIdeal.Facts) (hFfnUpBwdRefIdeal : Cert.FfnUpBwdRefIdeal.Facts) (hProject : Cert.Project.Facts) (hProjectIdeal : Cert.ProjectIdeal.Facts) (hProjectRefIdeal : Cert.ProjectRefIdeal.Facts) (hAdamW : Cert.AdamW.Facts) (hAdamWIdeal : Cert.AdamWIdeal.Facts) (hAdamWRefIdeal : Cert.AdamWRefIdeal.Facts) (hDeviceSum : Cert.DeviceSum.Facts) (hDeviceSumIdeal : Cert.DeviceSumIdeal.Facts) (hDeviceSumRefIdeal : Cert.DeviceSumRefIdeal.Facts) (hPairSum : Cert.PairSum.Facts) (hPairSumIdeal : Cert.PairSumIdeal.Facts) (hPairSumRefIdeal : Cert.PairSumRefIdeal.Facts) (hChipSum : Cert.ChipSum.Facts) (hChipSumIdeal : Cert.ChipSumIdeal.Facts) (hChipSumRefIdeal : Cert.ChipSumRefIdeal.Facts) (hPre_rms_bwd_finite : Cert.Pre_rms_bwd_finite.Facts) (hPre_attn_bwd_finite : Cert.Pre_attn_bwd_finite.Facts) (hPre_final_loss_finite : Cert.Pre_final_loss_finite.Facts) (hPre_ffn_finite : Cert.Pre_ffn_finite.Facts) (hPre_attn_fwd_finite : Cert.Pre_attn_fwd_finite.Facts) (hPre_pair_sum_place : Cert.Pre_pair_sum_place.Facts) (hPre_chip_sum_place : Cert.Pre_chip_sum_place.Facts) (hOn_gate_columns : Cert.On_gate_columns.Facts) (hOn_own_rows : Cert.On_own_rows.Facts),
    quiescent_RmsBwd (hRmsBwd := hRmsBwd)
    ∧ quiescent_RmsBwdIdeal (hRmsBwdIdeal := hRmsBwdIdeal)
    ∧ quiescent_RmsBwdIdeal_pre_rms_bwd_finite (hRmsBwdIdeal := hRmsBwdIdeal) (hPre_rms_bwd_finite := hPre_rms_bwd_finite)
    ∧ quiescent_RmsBwdRefIdeal (hRmsBwdRefIdeal := hRmsBwdRefIdeal)
    ∧ quiescent_RmsBwdRefIdeal_pre_rms_bwd_finite (hRmsBwdRefIdeal := hRmsBwdRefIdeal) (hPre_rms_bwd_finite := hPre_rms_bwd_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_ForgetBwd (hForgetBwd := hForgetBwd)
    ∧ quiescent_ForgetBwdIdeal (hForgetBwdIdeal := hForgetBwdIdeal)
    ∧ quiescent_ForgetBwdRefIdeal (hForgetBwdRefIdeal := hForgetBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_FinalLoss (hFinalLoss := hFinalLoss)
    ∧ quiescent_FinalLossIdeal (hFinalLossIdeal := hFinalLossIdeal)
    ∧ quiescent_FinalLossIdeal_pre_final_loss_finite (hFinalLossIdeal := hFinalLossIdeal) (hPre_final_loss_finite := hPre_final_loss_finite)
    ∧ quiescent_FinalLossRefIdeal (hFinalLossRefIdeal := hFinalLossRefIdeal)
    ∧ quiescent_FinalLossRefIdeal_pre_final_loss_finite (hFinalLossRefIdeal := hFinalLossRefIdeal) (hPre_final_loss_finite := hPre_final_loss_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_ForgetFwd (hForgetFwd := hForgetFwd)
    ∧ quiescent_ForgetFwdIdeal (hForgetFwdIdeal := hForgetFwdIdeal)
    ∧ quiescent_ForgetFwdRefIdeal (hForgetFwdRefIdeal := hForgetFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Mm (hMm := hMm)
    ∧ quiescent_MmIdeal (hMmIdeal := hMmIdeal)
    ∧ quiescent_MmRefIdeal (hMmRefIdeal := hMmRefIdeal)
    ∧ quiescent_BranchOut (hBranchOut := hBranchOut)
    ∧ quiescent_BranchOutIdeal (hBranchOutIdeal := hBranchOutIdeal)
    ∧ quiescent_BranchOutRefIdeal (hBranchOutRefIdeal := hBranchOutRefIdeal)
    ∧ quiescent_BranchOutBwd (hBranchOutBwd := hBranchOutBwd)
    ∧ quiescent_BranchOutBwdIdeal (hBranchOutBwdIdeal := hBranchOutBwdIdeal)
    ∧ quiescent_BranchOutBwdRefIdeal (hBranchOutBwdRefIdeal := hBranchOutBwdRefIdeal)
    ∧ quiescent_BranchOutDw (hBranchOutDw := hBranchOutDw)
    ∧ quiescent_BranchOutDwIdeal (hBranchOutDwIdeal := hBranchOutDwIdeal)
    ∧ quiescent_BranchOutDwRefIdeal (hBranchOutDwRefIdeal := hBranchOutDwRefIdeal)
    ∧ quiescent_FfnUpBwd (hFfnUpBwd := hFfnUpBwd)
    ∧ quiescent_FfnUpBwdIdeal (hFfnUpBwdIdeal := hFfnUpBwdIdeal)
    ∧ quiescent_FfnUpBwdRefIdeal (hFfnUpBwdRefIdeal := hFfnUpBwdRefIdeal)
    ∧ quiescent_Project (hProject := hProject)
    ∧ quiescent_ProjectIdeal (hProjectIdeal := hProjectIdeal)
    ∧ quiescent_ProjectRefIdeal (hProjectRefIdeal := hProjectRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_DeviceSum (hDeviceSum := hDeviceSum)
    ∧ quiescent_DeviceSumIdeal (hDeviceSumIdeal := hDeviceSumIdeal)
    ∧ quiescent_DeviceSumRefIdeal (hDeviceSumRefIdeal := hDeviceSumRefIdeal)
    ∧ quiescent_PairSum (hPairSum := hPairSum) (hPre_pair_sum_place := hPre_pair_sum_place)
    ∧ quiescent_PairSumIdeal (hPairSumIdeal := hPairSumIdeal) (hPre_pair_sum_place := hPre_pair_sum_place)
    ∧ quiescent_PairSumRefIdeal (hPairSumRefIdeal := hPairSumRefIdeal)
    ∧ quiescent_PairSumRefIdeal_pre_pair_sum_place (hPairSumRefIdeal := hPairSumRefIdeal) (hPre_pair_sum_place := hPre_pair_sum_place)
    ∧ quiescent_ChipSum (hChipSum := hChipSum) (hPre_chip_sum_place := hPre_chip_sum_place)
    ∧ quiescent_ChipSumIdeal (hChipSumIdeal := hChipSumIdeal) (hPre_chip_sum_place := hPre_chip_sum_place)
    ∧ quiescent_ChipSumRefIdeal (hChipSumRefIdeal := hChipSumRefIdeal)
    ∧ quiescent_ChipSumRefIdeal_pre_chip_sum_place (hChipSumRefIdeal := hChipSumRefIdeal) (hPre_chip_sum_place := hPre_chip_sum_place)
    ∧ preserves_RmsBwd_RmsBwdIdeal
    ∧ algebraic_RmsBwdIdeal_RmsBwdRefIdeal_pre_rms_bwd_finite (hRmsBwdIdeal := hRmsBwdIdeal) (hRmsBwdRefIdeal := hRmsBwdRefIdeal) (hPre_rms_bwd_finite := hPre_rms_bwd_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_ForgetBwd_ForgetBwdIdeal
    ∧ algebraic_ForgetBwdIdeal_ForgetBwdRefIdeal (hForgetBwdIdeal := hForgetBwdIdeal) (hForgetBwdRefIdeal := hForgetBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_Merge_MergeIdeal
    ∧ algebraic_MergeIdeal_MergeRefIdeal_on_gate_columns (hMergeIdeal := hMergeIdeal) (hMergeRefIdeal := hMergeRefIdeal) (hOn_gate_columns := hOn_gate_columns)
    ∧ preserves_FinalLoss_FinalLossIdeal
    ∧ algebraic_FinalLossIdeal_FinalLossRefIdeal_pre_final_loss_finite (hFinalLossIdeal := hFinalLossIdeal) (hFinalLossRefIdeal := hFinalLossRefIdeal) (hPre_final_loss_finite := hPre_final_loss_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_ForgetFwd_ForgetFwdIdeal
    ∧ algebraic_ForgetFwdIdeal_ForgetFwdRefIdeal (hForgetFwdIdeal := hForgetFwdIdeal) (hForgetFwdRefIdeal := hForgetFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Mm_MmIdeal
    ∧ algebraic_MmIdeal_MmRefIdeal (hMmIdeal := hMmIdeal) (hMmRefIdeal := hMmRefIdeal)
    ∧ preserves_BranchOut_BranchOutIdeal
    ∧ algebraic_BranchOutIdeal_BranchOutRefIdeal (hBranchOutIdeal := hBranchOutIdeal) (hBranchOutRefIdeal := hBranchOutRefIdeal)
    ∧ preserves_BranchOutBwd_BranchOutBwdIdeal
    ∧ algebraic_BranchOutBwdIdeal_BranchOutBwdRefIdeal (hBranchOutBwdIdeal := hBranchOutBwdIdeal) (hBranchOutBwdRefIdeal := hBranchOutBwdRefIdeal)
    ∧ preserves_BranchOutDw_BranchOutDwIdeal
    ∧ algebraic_BranchOutDwIdeal_BranchOutDwRefIdeal (hBranchOutDwIdeal := hBranchOutDwIdeal) (hBranchOutDwRefIdeal := hBranchOutDwRefIdeal)
    ∧ preserves_FfnUpBwd_FfnUpBwdIdeal
    ∧ algebraic_FfnUpBwdIdeal_FfnUpBwdRefIdeal (hFfnUpBwdIdeal := hFfnUpBwdIdeal) (hFfnUpBwdRefIdeal := hFfnUpBwdRefIdeal)
    ∧ preserves_Project_ProjectIdeal
    ∧ algebraic_ProjectIdeal_ProjectRefIdeal (hProjectIdeal := hProjectIdeal) (hProjectRefIdeal := hProjectRefIdeal)
    ∧ preserves_AdamW_AdamWIdeal
    ∧ algebraic_AdamWIdeal_AdamWRefIdeal (hAdamWIdeal := hAdamWIdeal) (hAdamWRefIdeal := hAdamWRefIdeal)
    ∧ preserves_DeviceSum_DeviceSumIdeal
    ∧ algebraic_DeviceSumIdeal_DeviceSumRefIdeal (hDeviceSumIdeal := hDeviceSumIdeal) (hDeviceSumRefIdeal := hDeviceSumRefIdeal)
    ∧ preserves_PairSum_PairSumIdeal
    ∧ algebraic_PairSumIdeal_PairSumRefIdeal (hPairSumIdeal := hPairSumIdeal) (hPairSumRefIdeal := hPairSumRefIdeal) (hPre_pair_sum_place := hPre_pair_sum_place)
    ∧ preserves_ChipSum_ChipSumIdeal
    ∧ algebraic_ChipSumIdeal_ChipSumRefIdeal_on_own_rows (hChipSumIdeal := hChipSumIdeal) (hChipSumRefIdeal := hChipSumRefIdeal) (hPre_chip_sum_place := hPre_chip_sum_place) (hOn_own_rows := hOn_own_rows)
-- ==== On_gate_columns.lean ====
abbrev S8192x1024 : Shape := ⟨2, ![8192, 1024]⟩
abbrev S8192x2048 : Shape := ⟨2, ![8192, 2048]⟩
abbrev S1x2048 : Shape := ⟨2, ![1, 2048]⟩
abbrev S8192x5376 : Shape := ⟨2, ![8192, 5376]⟩
abbrev S_ : Shape := ⟨0, ![]⟩

class Facts : Prop where
  bcast_S_S8192x1024 : S_.BroadcastsInDim S8192x1024 (![] : Fin 0 → Fin S8192x1024.rank)
  bcast_S_S8192x5376 : S_.BroadcastsInDim S8192x5376 (![] : Fin 0 → Fin S8192x5376.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x1024 .f32) (main_arg1 : FVec F S8192x1024 .f32) (main_arg2 : FVec F S8192x1024 .f32) (main_arg3 : FVec F S8192x2048 .f32) (main_arg4 : FVec F S1x2048 .f32) : IVec S8192x1024 1 × IVec S8192x5376 1 × IVec S8192x2048 1 × IVec S1x2048 1 :=
  let main_v0 : IVec S8192x5376 32 := iotaInDim S8192x5376 32 1
  let main_c : IVec S_ 1 := constantI S_ 1 1#1
  let main_v1 : IVec S8192x1024 1 := broadcastInDim S8192x1024 ![] bcast_S_S8192x1024 main_c
  let main_c_0 : IVec S_ 32 := constantI S_ 32 3072#32
  let main_v2 : IVec S8192x5376 32 := broadcastInDim S8192x5376 ![] bcast_S_S8192x5376 main_c_0
  let main_v3 : IVec S8192x5376 1 := cmpi .sge main_v0 main_v2
  let main_c_1 : IVec S_ 32 := constantI S_ 32 5120#32
  let main_v4 : IVec S8192x5376 32 := broadcastInDim S8192x5376 ![] bcast_S_S8192x5376 main_c_1
  let main_v5 : IVec S8192x5376 1 := cmpi .slt main_v0 main_v4
  let main_v6 : IVec S8192x5376 1 := andi main_v3 main_v5
  let main_c_2 : IVec S_ 1 := constantI S_ 1 1#1
  let main_v7 : IVec S8192x2048 1 := broadcastInDim S8192x2048 ![] bcast_S_S8192x2048 main_c_2
  let main_c_3 : IVec S_ 1 := constantI S_ 1 1#1
  let main_v8 : IVec S1x2048 1 := broadcastInDim S1x2048 ![] bcast_S_S1x2048 main_c_3
  (main_v1, main_v6, main_v7, main_v8)
-- ==== On_own_rows.lean ====
abbrev S5 : Shape := ⟨1, ![5]⟩
abbrev S4x1024x1408 : Shape := ⟨3, ![4, 1024, 1408]⟩
abbrev S4x512x1408 : Shape := ⟨3, ![4, 512, 1408]⟩
abbrev S3x512x1408 : Shape := ⟨3, ![3, 512, 1408]⟩
abbrev S1024x1408 : Shape := ⟨2, ![1024, 1408]⟩
abbrev S1 : Shape := ⟨1, ![1]⟩
abbrev S_ : Shape := ⟨0, ![]⟩

class Facts : Prop where
  slices_S5_S1_1 : S5.Slices ![1] S1
  shapeCasts_S1_S_ : S1.ShapeCasts S_
  bcast_S_S1024x1408 : S_.BroadcastsInDim S1024x1408 (![] : Fin 0 → Fin S1024x1408.rank)

variable [Facts]

def fn {F : FTy → Type} [FloatOps F] (main_arg0 : IVec S5 32) (main_arg1 : FVec F S4x1024x1408 .f32) (main_arg2 : FVec F S4x512x1408 .f32) (main_arg3 : FVec F S3x512x1408 .bf16) : IVec S1024x1408 1 :=
  let main_v0 : IVec S1024x1408 32 := iotaInDim S1024x1408 32 0
  let main_v1 : IVec S1 32 := (extractStridedSlice S1 ![1] · slices_S5_S1_1) main_arg0
  let main_v2 : IVec S_ 32 := shapeCast S_ main_v1 shapeCasts_S1_S_
  let main_c : IVec S_ 32 := constantI S_ 32 512#32
  let main_v3 : IVec S_ 32 := muli main_c main_v2
  let main_v4 : IVec S1024x1408 32 := broadcastInDim S1024x1408 ![] bcast_S_S1024x1408 main_v3
  let main_v5 : IVec S1024x1408 1 := cmpi .sle main_v4 main_v0
  let main_c_0 : IVec S_ 32 := constantI S_ 32 512#32
  let main_v6 : IVec S_ 32 := addi main_v3 main_c_0
  let main_v7 : IVec S1024x1408 32 := broadcastInDim S1024x1408 ![] bcast_S_S1024x1408 main_v6
  let main_v8 : IVec S1024x1408 1 := cmpi .slt main_v0 main_v7
  let main_v9 : IVec S1024x1408 1 := andi main_v5 main_v8
  main_v9
-- ==== Pre_attn_bwd_finite.lean ====
abbrev S4x2048x512 : Shape := ⟨3, ![4, 2048, 512]⟩
abbrev S4x8x2048 : Shape := ⟨3, ![4, 8, 2048]⟩
abbrev S8192x5376 : Shape := ⟨2, ![8192, 5376]⟩
abbrev S_ : Shape := ⟨0, ![]⟩

class Facts : Prop where
  bcast_S_S4x2048x512 : S_.BroadcastsInDim S4x2048x512 (![] : Fin 0 → Fin S4x2048x512.rank)
  bcast_S_S4x8x2048 : S_.BroadcastsInDim S4x8x2048 (![] : Fin 0 → Fin S4x8x2048.rank)

variable [Facts]

def fn {F : FTy → Type} [FloatOps F] (main_arg0 : FVec F S4x2048x512 .f32) (main_arg1 : FVec F S4x2048x512 .f32) (main_arg2 : FVec F S4x2048x512 .f32) (main_arg3 : FVec F S4x8x2048 .f32) (main_arg4 : FVec F S4x2048x512 .f32) (main_arg5 : FVec F S8192x5376 .bf16) : IVec S4x2048x512 1 × IVec S4x2048x512 1 × IVec S4x2048x512 1 × IVec S4x8x2048 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x8x2048 .f32 := Host.absf main_arg3
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  let main_v12 : FVec F S4x2048x512 .f32 := Host.absf main_arg4
  let main_cst_3 : FVec F S_ .f32 := constant S_ .f32 0x7F800000#32
  let main_v13 : FVec F S4x2048x512 .f32 := broadcastInDim S4x2048x512 ![] bcast_S_S4x2048x512 main_cst_3
  let main_v14 : IVec S4x2048x512 1 := cmpf .olt main_v12 main_v13
  (main_v2, main_v5, main_v8, main_v11, main_v14)
-- ==== Pre_attn_fwd_finite.lean ====
abbrev S4x2048x512 : Shape := ⟨3, ![4, 2048, 512]⟩
abbrev S4x8x2048 : Shape := ⟨3, ![4, 8, 2048]⟩
abbrev S_ : Shape := ⟨0, ![]⟩

class Facts : Prop where
  bcast_S_S4x2048x512 : S_.BroadcastsInDim S4x2048x512 (![] : Fin 0 → Fin S4x2048x512.rank)
  bcast_S_S4x8x2048 : S_.BroadcastsInDim S4x8x2048 (![] : Fin 0 → Fin S4x8x2048.rank)

variable [Facts]

def fn {F : FTy → Type} [FloatOps F] (main_arg0 : FVec F S4x2048x512 .f32) (main_arg1 : FVec F S4x2048x512 .f32) (main_arg2 : FVec F S4x2048x512 .f32) (main_arg3 : FVec F S4x8x2048 .f32) : IVec S4x2048x512 1 × IVec S4x2048x512 1 × IVec S4x2048x512 1 × IVec S4x8x2048 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S4x8x2048 .f32 := Host.absf main_arg3
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  (main_v2, main_v5, main_v8, main_v11)
-- ==== Pre_chip_sum_place.lean ====
abbrev S5 : Shape := ⟨1, ![5]⟩
abbrev S4x1024x1408 : Shape := ⟨3, ![4, 1024, 1408]⟩
abbrev S4x512x1408 : Shape := ⟨3, ![4, 512, 1408]⟩
abbrev S3x512x1408 : Shape := ⟨3, ![3, 512, 1408]⟩
abbrev S2 : Shape := ⟨1, ![2]⟩
abbrev S_ : Shape := ⟨0, ![]⟩

class Facts : Prop where
  slices_S5_S2_0 : S5.Slices ![0] S2
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : IVec S5 32) (main_arg1 : FVec F S4x1024x1408 .f32) (main_arg2 : FVec F S4x512x1408 .f32) (main_arg3 : FVec F S3x512x1408 .bf16) : IVec S2 1 :=
  let main_c : IVec S2 32 := fun i => lit0 (S2.rowMajor i)
  let main_v0 : IVec S2 32 := (extractStridedSlice S2 ![0] · slices_S5_S2_0) main_arg0
  let main_c_0 : IVec S_ 32 := constantI S_ 32 0#32
  let main_v1 : IVec S2 32 := broadcastInDim S2 ![] bcast_S_S2 main_c_0
  let main_v2 : IVec S2 1 := cmpi .sge main_v0 main_v1
  let main_v3 : IVec S2 1 := cmpi .slt main_v0 main_c
  let main_v4 : IVec S2 1 := andi main_v2 main_v3
  main_v4
-- ==== Pre_ffn_finite.lean ====
abbrev S4x2048x1024 : Shape := ⟨3, ![4, 2048, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S4x2048x1024 .f32) (main_arg1 : FVec F S1024x5632 .f32) (main_arg2 : FVec F S3x5632 .f32) (main_arg3 : FVec F S2816x1024 .f32) (main_arg4 : FVec F S4x2048x1024 .f32) : IVec S4x2048x1024 1 × IVec S1024x5632 1 × IVec S3x5632 1 × IVec S2816x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4x2048x1024 .f32 := Host.absf main_arg4
  let main_cst_3 : FVec F S_ .f32 := constant S_ .f32 0x7F800000#32
  let main_v13 : FVec F S4x2048x1024 .f32 := broadcastInDim S4x2048x1024 ![] bcast_S_S4x2048x1024 main_cst_3
  let main_v14 : IVec S4x2048x1024 1 := cmpf .olt main_v12 main_v13
  (main_v2, main_v5, main_v8, main_v11, main_v14)
-- ==== Pre_final_loss_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S8192x1024 .f32) : IVec S8192x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_pair_sum_place.lean ====
abbrev S5 : Shape := ⟨1, ![5]⟩
abbrev S4x1024x1408 : Shape := ⟨3, ![4, 1024, 1408]⟩
abbrev S4x512x1408 : Shape := ⟨3, ![4, 512, 1408]⟩
abbrev S4 : Shape := ⟨1, ![4]⟩
abbrev S_ : Shape := ⟨0, ![]⟩

class Facts : Prop where
  slices_S5_S4_1 : S5.Slices ![1] S4
  bcast_S_S4 : S_.BroadcastsInDim S4 (![] : Fin 0 → Fin S4.rank)

variable [Facts]

noncomputable abbrev lit0 : Fin 4 → BitVec 32 := fun
  | 0 => 2#32 | 1 => 4#32 | 2 => 4#32 | 3 => 4#32
  | _ => 0#32

def fn {F : FTy → Type} [FloatOps F] (main_arg0 : IVec S5 32) (main_arg1 : FVec F S4x1024x1408 .f32) (main_arg2 : FVec F S4x512x1408 .f32) : IVec S4 1 :=
  let main_c : IVec S4 32 := fun i => lit0 (S4.rowMajor i)
  let main_v0 : IVec S4 32 := (extractStridedSlice S4 ![1] · slices_S5_S4_1) main_arg0
  let main_c_0 : IVec S_ 32 := constantI S_ 32 0#32
  let main_v1 : IVec S4 32 := broadcastInDim S4 ![] bcast_S_S4 main_c_0
  let main_v2 : IVec S4 1 := cmpi .sge main_v0 main_v1
  let main_v3 : IVec S4 1 := cmpi .slt main_v0 main_c
  let main_v4 : IVec S4 1 := andi main_v2 main_v3
  main_v4
-- ==== Pre_rms_bwd_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .bf16) (main_arg2 : FVec F S1x1024 .f32) (main_arg3 : FVec F S8192x1024 .f32) : IVec S8192x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v2, main_v6, main_v9)
-- ==== RmsBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AttnBwd.lean ====
abbrev S4x2048x512 : Shape := ⟨3, ![4, 2048, 512]⟩
abbrev S4x8x2048 : Shape := ⟨3, ![4, 8, 2048]⟩
abbrev S8192x5376 : Shape := ⟨2, ![8192, 5376]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048x1 : Shape := ⟨4, ![4, 8, 2048, 1]⟩
abbrev S8192x512 : Shape := ⟨2, ![8192, 512]⟩
abbrev S4x4x2x2048 : Shape := ⟨4, ![4, 4, 2, 2048]⟩
abbrev S4x4x2048x2 : Shape := ⟨4, ![4, 4, 2048, 2]⟩
abbrev S4x8192x2 : Shape := ⟨3, ![4, 8192, 2]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S2048x128 : Shape := ⟨2, ![2048, 128]⟩
abbrev S512x128 : Shape := ⟨2, ![512, 128]⟩
abbrev S1x2048x2 : Shape := ⟨3, ![1, 2048, 2]⟩
abbrev S1x1x2x2048 : Shape := ⟨4, ![1, 1, 2, 2048]⟩
abbrev S512x384 : Shape := ⟨2, ![512, 384]⟩
abbrev S1x1x2x512 : Shape := ⟨4, ![1, 1, 2, 512]⟩
abbrev S2x512 : Shape := ⟨2, ![2, 512]⟩
abbrev S1x128 : Shape := ⟨2, ![1, 128]⟩
abbrev S512x512 : Shape := ⟨2, ![512, 512]⟩
abbrev S2048x2 : Shape := ⟨2, ![2048, 2]⟩
abbrev S1x512x2 : Shape := ⟨3, ![1, 512, 2]⟩
abbrev S512x2 : Shape := ⟨2, ![512, 2]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S1x512x1 : Shape := ⟨3, ![1, 512, 1]⟩

abbrev nBuf : Space → Nat
  | .hbm => 66
  | .vmem => 24
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S4x2048x512, .f32⟩
  | .hbm, ⟨5, _⟩ => ⟨S8192x5376, .bf16⟩
  | .hbm, ⟨6, _⟩ => ⟨S4x2048x8x64, .f32⟩
  | .hbm, ⟨7, _⟩ => ⟨S4x8x2048x64, .f32⟩
  | .hbm, ⟨8, _⟩ => ⟨S_, .f32⟩
  | .hbm, ⟨9, _⟩ => ⟨S4x8x2048x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S4x2048x8x64, .f32⟩
  | .hbm, ⟨14, _⟩ => ⟨S4x8x2048x64, .f32⟩
  | .hbm, ⟨15, _⟩ => ⟨S4x8x2048x2048, .f32⟩
  | .hbm, ⟨16, _⟩ => ⟨S4x8x1x2048, .f32⟩
  | .hbm, ⟨17, _⟩ => ⟨S4x8x2048x2048, .f32⟩
  | .hbm, ⟨18, _⟩ => ⟨S4x8x2048x2048, .f32⟩
  | .hbm, ⟨19, _⟩ => ⟨S2048, .i32⟩
  | .hbm, ⟨20, _⟩ => ⟨S1x2048, .i32⟩
  | .hbm, ⟨21, _⟩ => ⟨S2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S4x8x2048x1, .f32⟩
  | .hbm, ⟨40, _⟩ => ⟨S4x8x2048x64, .f32⟩
  | .hbm, ⟨41, _⟩ => ⟨S4x8x2048x64, .f32⟩
  | .hbm, ⟨42, _⟩ => ⟨S4x8x2048x64, .f32⟩
  | .hbm, ⟨43, _⟩ => ⟨S4x2048x8x64, .f32⟩
  | .hbm, ⟨44, _⟩ => ⟨S8192x512, .f32⟩
  | .hbm, ⟨45, _⟩ => ⟨S8192x512, .bf16⟩
  | .hbm, ⟨46, _⟩ => ⟨S4x8x2048x1, .f32⟩
  | .hbm, ⟨47, _⟩ => ⟨S4x8x2048x1, .f32⟩
  | .hbm, ⟨48, _⟩ => ⟨S4x4x2x2048, .f32⟩
  | .hbm, ⟨49, _⟩ => ⟨S4x4x2048x2, .f32⟩
  | .hbm, ⟨50, _⟩ => ⟨S4x8192x2, .f32⟩
  | .hbm, ⟨51, _⟩ => ⟨S8192x4x1x128, .f32⟩
  | .hbm, ⟨52, _⟩ => ⟨S8192x4x1x128, .f32⟩
  | .hbm, ⟨53, _⟩ => ⟨S8192x4x1x128, .f32⟩
  | .hbm, ⟨54, _⟩ => ⟨S8192x4x3x128, .f32⟩
  | .hbm, ⟨55, _⟩ => ⟨S8192x1536, .f32⟩
  | .hbm, ⟨56, _⟩ => ⟨S8192x1536, .bf16⟩
  | .hbm, ⟨57, _⟩ => ⟨S8192x512, .f32⟩
  | .hbm, ⟨58, _⟩ => ⟨S8192x512, .bf16⟩
  | .hbm, ⟨59, _⟩ => ⟨S4x4x2x2048, .f32⟩
  | .hbm, ⟨60, _⟩ => ⟨S8192x5376, .bf16⟩
  | .hbm, ⟨61, _⟩ => ⟨S4x4x2x2048, .f32⟩
  | .hbm, ⟨62, _⟩ => ⟨S4x8192x2, .f32⟩
  | .hbm, ⟨63, _⟩ => ⟨S4x4x2048x2, .f32⟩
  | .hbm, ⟨64, _⟩ => ⟨S4x4x2x2048, .f32⟩
  | .hbm, ⟨65, _⟩ => ⟨S4x4x2x2048, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x2, .f32⟩
  | .local _ .vmem, ⟨11, _⟩ => ⟨S1x2048x2, .f32⟩
  | .local _ .vmem, ⟨12, _⟩ => ⟨S1x1x2x2048, .f32⟩
  | .local _ .vmem, ⟨13, _⟩ => ⟨S1x1x2x2048, .f32⟩
  | .local _ .vmem, ⟨14, _⟩ => ⟨S512x384, .bf16⟩
  | .local _ .vmem, ⟨15, _⟩ => ⟨S512x384, .bf16⟩
  | .local _ .vmem, ⟨16, _⟩ => ⟨S1x1x2x512, .f32⟩
  | .local _ .vmem, ⟨17, _⟩ => ⟨S1x1x2x512, .f32⟩
  | .local _ .vmem, ⟨18, _⟩ => ⟨S1x2048x2, .f32⟩
  | .local _ .vmem, ⟨19, _⟩ => ⟨S1x2048x2, .f32⟩
  | .local _ .vmem, ⟨20, _⟩ => ⟨S2048x128, .f32⟩
  | .local _ .vmem, ⟨21, _⟩ => ⟨S512x128, .f32⟩
  | .local _ .vmem, ⟨22, _⟩ => ⟨S512x128, .f32⟩
  | .local _ .vmem, ⟨23, _⟩ => ⟨S2x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c512_i32 : BitVec 32 := 512#32
  let v25 : BitVec 32 := Scalar.muli arg2 c512_i32
  v25
def k0_mult2 (i : grid0.Coords) : BitVec 32 :=
  let arg2 : BitVec 32 := BitVec.ofNat 32 (i 2).val
  let c512_i32_15 : BitVec 32 := 512#32
  let v37 : BitVec 32 := Scalar.muli arg2 c512_i32_15
  v37
def k0_off1 (i : grid0.Coords) : Fin 2 → Nat :=
  let arg2 : BitVec 32 := BitVec.ofNat 32 (i 2).val
  let c512_i32_15 : BitVec 32 := 512#32
  let v37 : BitVec 32 := Scalar.muli arg2 c512_i32_15
  let v38 : BitVec 32 := v37
  let v39 : Index := Scalar.indexCast v38
  let c0_16 : Index := 0#32
  ![v39.toNat, 0]
def k0_off2 (i : grid0.Coords) : Fin 3 → Nat :=
  let c0_20 : Index := 0#32
  let arg2 : BitVec 32 := BitVec.ofNat 32 (i 2).val
  let c512_i32_15 : BitVec 32 := 512#32
  let v37 : BitVec 32 := Scalar.muli arg2 c512_i32_15
  let v38 : BitVec 32 := v37
  let v53 : Index := Scalar.indexCast v38
  let c0_21 : Index := 0#32
  ![0, v53.toNat, 0]
def k0_off3 (i : grid0.Coords) : Fin 4 → Nat :=
  let c0_28 : Index := 0#32
  let c0_29 : Index := 0#32
  let c0_30 : Index := 0#32
  let arg2 : BitVec 32 := BitVec.ofNat 32 (i 2).val
  let c512_i32 : BitVec 32 := 512#32
  let v25 : BitVec 32 := Scalar.muli arg2 c512_i32
  let v26 : BitVec 32 := v25
  let v74 : Index := Scalar.indexCast v26
  ![0, 0, 0, v74.toNat]
def k0_off4 (i : grid0.Coords) : Fin 3 → Nat :=
  let c0_38 : Index := 0#32
  let arg2 : BitVec 32 := BitVec.ofNat 32 (i 2).val
  let c512_i32_15 : BitVec 32 := 512#32
  let v37 : BitVec 32 := Scalar.muli arg2 c512_i32_15
  let v38 : BitVec 32 := v37
  let v97 : Index := Scalar.indexCast v38
  let c0_39 : Index := 0#32
  ![0, v97.toNat, 0]
def k0_off5 (i : grid0.Coords) : Fin 4 → Nat :=
  let c0_59 : Index := 0#32
  let c0_60 : Index := 0#32
  let c1 : Index := 1#32
  let arg2 : BitVec 32 := BitVec.ofNat 32 (i 2).val
  let c512_i32 : BitVec 32 := 512#32
  let v25 : BitVec 32 := Scalar.muli arg2 c512_i32
  let v26 : BitVec 32 := v25
  let v140 : Index := Scalar.indexCast v26
  ![0, 0, 1, v140.toNat]
def k0_off6 (i : grid0.Coords) : Fin 3 → Nat :=
  let c0_68 : Index := 0#32
  let arg2 : BitVec 32 := BitVec.ofNat 32 (i 2).val
  let c512_i32_15 : BitVec 32 := 512#32
  let v37 : BitVec 32 := Scalar.muli arg2 c512_i32_15
  let v38 : BitVec 32 := v37
  let v163 : Index := Scalar.indexCast v38
  let c1_69 : Index := 1#32
  ![0, v163.toNat, 1]
@[reducible] def k0_t1_loop (i : grid0.Coords) : Scf.Loop 32 :=
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_88 : BitVec 32 := 1#32
  ⟨v196, v201, c1_i32_88⟩
def k0_mult3 (i : grid0.Coords) (k0_t1 : Fin (k0_t1_loop i).trips) : BitVec 32 :=
  let arg2 : BitVec 32 := BitVec.ofNat 32 (i 2).val
  let c1_i32 : BitVec 32 := 1#32
  let v196 : BitVec 32 := Scalar.addi arg2 c1_i32
  let c1_i32_88 : BitVec 32 := 1#32
  let arg18 : BitVec 32 := Scf.iv v196 c1_i32_88 k0_t1
  let c512_i32_106 : BitVec 32 := 512#32
  let v218 : BitVec 32 := Scalar.muli arg18 c512_i32_106
  v218
def k0_off7 (i : grid0.Coords) (k0_t1 : Fin (k0_t1_loop i).trips) : Fin 2 → Nat :=
  let arg2 : BitVec 32 := BitVec.ofNat 32 (i 2).val
  let c1_i32 : BitVec 32 := 1#32
  let v196 : BitVec 32 := Scalar.addi arg2 c1_i32
  let c1_i32_88 : BitVec 32 := 1#32
  let arg18 : BitVec 32 := Scf.iv v196 c1_i32_88 k0_t1
  let c512_i32_106 : BitVec 32 := 512#32
  let v218 : BitVec 32 := Scalar.muli arg18 c512_i32_106
  let v219 : BitVec 32 := v218
  let v220 : Index := Scalar.indexCast v219
  let c0_107 : Index := 0#32
  ![v220.toNat, 0]
def k0_off8 (i : grid0.Coords) (k0_t1 : Fin (k0_t1_loop i).trips) : Fin 3 → Nat :=
  let c0_111 : Index := 0#32
  let arg2 : BitVec 32 := BitVec.ofNat 32 (i 2).val
  let c1_i32 : BitVec 32 := 1#32
  let v196 : BitVec 32 := Scalar.addi arg2 c1_i32
  let c1_i32_88 : BitVec 32 := 1#32
  let arg18 : BitVec 32 := Scf.iv v196 c1_i32_88 k0_t1
  let c512_i32_106 : BitVec 32 := 512#32
  let v218 : BitVec 32 := Scalar.muli arg18 c512_i32_106
  let v219 : BitVec 32 := v218
  let v234 : Index := Scalar.indexCast v219
  let c0_112 : Index := 0#32
  ![0, v234.toNat, 0]
def k0_off9 (i : grid0.Coords) : Fin 4 → Nat :=
  let c0_119 : Index := 0#32
  let c0_120 : Index := 0#32
  let c0_121 : Index := 0#32
  let arg2 : BitVec 32 := BitVec.ofNat 32 (i 2).val
  let c512_i32 : BitVec 32 := 512#32
  let v25 : BitVec 32 := Scalar.muli arg2 c512_i32
  let v26 : BitVec 32 := v25
  let v255 : Index := Scalar.indexCast v26
  ![0, 0, 0, v255.toNat]
def k0_off10 (i : grid0.Coords) (k0_t1 : Fin (k0_t1_loop i).trips) : Fin 3 → Nat :=
  let c0_128 : Index := 0#32
  let arg2 : BitVec 32 := BitVec.ofNat 32 (i 2).val
  let c1_i32 : BitVec 32 := 1#32
  let v196 : BitVec 32 := Scalar.addi arg2 c1_i32
  let c1_i32_88 : BitVec 32 := 1#32
  let arg18 : BitVec 32 := Scf.iv v196 c1_i32_88 k0_t1
  let c512_i32_106 : BitVec 32 := 512#32
  let v218 : BitVec 32 := Scalar.muli arg18 c512_i32_106
  let v219 : BitVec 32 := v218
  let v275 : Index := Scalar.indexCast v219
  let c0_129 : Index := 0#32
  ![0, v275.toNat, 0]
def k0_off11 (i : grid0.Coords) : Fin 4 → Nat :=
  let c0_149 : Index := 0#32
  let c0_150 : Index := 0#32
  let c1_151 : Index := 1#32
  let arg2 : BitVec 32 := BitVec.ofNat 32 (i 2).val
  let c512_i32 : BitVec 32 := 512#32
  let v25 : BitVec 32 := Scalar.muli arg2 c512_i32
  let v26 : BitVec 32 := v25
  let v318 : Index := Scalar.indexCast v26
  ![0, 0, 1, v318.toNat]
def k0_off12 (i : grid0.Coords) (k0_t1 : Fin (k0_t1_loop i).trips) : Fin 3 → Nat :=
  let c0_158 : Index := 0#32
  let arg2 : BitVec 32 := BitVec.ofNat 32 (i 2).val
  let c1_i32 : BitVec 32 := 1#32
  let v196 : BitVec 32 := Scalar.addi arg2 c1_i32
  let c1_i32_88 : BitVec 32 := 1#32
  let arg18 : BitVec 32 := Scf.iv v196 c1_i32_88 k0_t1
  let c512_i32_106 : BitVec 32 := 512#32
  let v218 : BitVec 32 := Scalar.muli arg18 c512_i32_106
  let v219 : BitVec 32 := v218
  let v338 : Index := Scalar.indexCast v219
  let c1_159 : Index := 1#32
  ![0, v338.toNat, 1]
@[reducible] def k0_t2_loop (i : grid0.Coords) : Scf.Loop 32 :=
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let v198 : BitVec 32 := Scalar.addi v196 v197
  let c1_i32_89 : BitVec 32 := 1#32
  ⟨v201, v198, c1_i32_89⟩
def k0_mult4 (i : grid0.Coords) (k0_t2 : Fin (k0_t2_loop i).trips) : BitVec 32 :=
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_89 : BitVec 32 := 1#32
  let arg18 : BitVec 32 := Scf.iv v201 c1_i32_89 k0_t2
  let c512_i32_106 : BitVec 32 := 512#32
  let v218 : BitVec 32 := Scalar.muli arg18 c512_i32_106
  v218
def k0_off13 (i : grid0.Coords) (k0_t2 : Fin (k0_t2_loop i).trips) : Fin 2 → Nat :=
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_89 : BitVec 32 := 1#32
  let arg18 : BitVec 32 := Scf.iv v201 c1_i32_89 k0_t2
  let c512_i32_106 : BitVec 32 := 512#32
  let v218 : BitVec 32 := Scalar.muli arg18 c512_i32_106
  let v219 : BitVec 32 := v218
  let v220 : Index := Scalar.indexCast v219
  let c0_107 : Index := 0#32
  ![v220.toNat, 0]
def k0_off14 (i : grid0.Coords) (k0_t2 : Fin (k0_t2_loop i).trips) : Fin 3 → Nat :=
  let c0_111 : Index := 0#32
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_89 : BitVec 32 := 1#32
  let arg18 : BitVec 32 := Scf.iv v201 c1_i32_89 k0_t2
  let c512_i32_106 : BitVec 32 := 512#32
  let v218 : BitVec 32 := Scalar.muli arg18 c512_i32_106
  let v219 : BitVec 32 := v218
  let v234 : Index := Scalar.indexCast v219
  let c0_112 : Index := 0#32
  ![0, v234.toNat, 0]
def k0_off15 (i : grid0.Coords) : Fin 4 → Nat :=
  let c0_119 : Index := 0#32
  let c0_120 : Index := 0#32
  let c0_121 : Index := 0#32
  let arg2 : BitVec 32 := BitVec.ofNat 32 (i 2).val
  let c512_i32 : BitVec 32 := 512#32
  let v25 : BitVec 32 := Scalar.muli arg2 c512_i32
  let v26 : BitVec 32 := v25
  let v255 : Index := Scalar.indexCast v26
  ![0, 0, 0, v255.toNat]
def k0_off16 (i : grid0.Coords) (k0_t2 : Fin (k0_t2_loop i).trips) : Fin 3 → Nat :=
  let c0_128 : Index := 0#32
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_89 : BitVec 32 := 1#32
  let arg18 : BitVec 32 := Scf.iv v201 c1_i32_89 k0_t2
  let c512_i32_106 : BitVec 32 := 512#32
  let v218 : BitVec 32 := Scalar.muli arg18 c512_i32_106
  let v219 : BitVec 32 := v218
  let v275 : Index := Scalar.indexCast v219
  let c0_129 : Index := 0#32
  ![0, v275.toNat, 0]
def k0_off17 (i : grid0.Coords) : Fin 4 → Nat :=
  let c0_149 : Index := 0#32
  let c0_150 : Index := 0#32
  let c1_151 : Index := 1#32
  let arg2 : BitVec 32 := BitVec.ofNat 32 (i 2).val
  let c512_i32 : BitVec 32 := 512#32
  let v25 : BitVec 32 := Scalar.muli arg2 c512_i32
  let v26 : BitVec 32 := v25
  let v318 : Index := Scalar.indexCast v26
  ![0, 0, 1, v318.toNat]
def k0_off18 (i : grid0.Coords) (k0_t2 : Fin (k0_t2_loop i).trips) : Fin 3 → Nat :=
  let c0_158 : Index := 0#32
  let arg2 : BitVec 32 := BitVec.ofNat 32 (i 2).val
  let c1_i32 : BitVec 32 := 1#32
  let v196 : BitVec 32 := Scalar.addi arg2 c1_i32
  let c4_i32 : BitVec 32 := 4#32
  let v197 : BitVec 32 := Scalar.subi c4_i32 v196
  let c1_i32_87 : BitVec 32 := 1#32
  let v199 : BitVec 32 := Scalar.divsi v197 c1_i32_87
  let v200 : BitVec 32 := Scalar.muli v199 c1_i32_87
  let v201 : BitVec 32 := Scalar.addi v196 v200
  let c1_i32_89 : BitVec 32 := 1#32
  let arg18 : BitVec 32 := Scf.iv v201 c1_i32_89 k0_t2
  let c512_i32_106 : BitVec 32 := 512#32
  let v218 : BitVec 32 := Scalar.muli arg18 c512_i32_106
  let v219 : BitVec 32 := v218
  let v338 : Index := Scalar.indexCast v219
  let c1_159 : Index := 1#32
  ![0, v338.toNat, 1]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c1_i32 : BitVec 32 := 1#32
  let v3 : BitVec 32 := Scalar.addi v2 c1_i32
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c2_i32 : BitVec 32 := 2#32
  let v3 : BitVec 32 := Scalar.addi v2 c2_i32
  let c0_i32 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AttnBwdRefIdeal.lean ====
abbrev S4x2048x512 : Shape := ⟨3, ![4, 2048, 512]⟩
abbrev S4x8x2048 : Shape := ⟨3, ![4, 8, 2048]⟩
abbrev S8192x5376 : Shape := ⟨2, ![8192, 5376]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S8192x2304 : Shape := ⟨2, ![8192, 2304]⟩
abbrev S4x4x2x2048 : Shape := ⟨4, ![4, 4, 2, 2048]⟩

abbrev nBuf : Space → Nat
  | .hbm => 132
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S4x8x2048, .f32⟩
  | 4 => ⟨S4x2048x512, .f32⟩
  | 5 => ⟨S8192x5376, .bf16⟩
  | 6 => ⟨S4x2048x8x64, .f32⟩
  | 7 => ⟨S4x8x2048x64, .f32⟩
  | 8 => ⟨S_, .f32⟩
  | 9 => ⟨S4x8x2048x64, .f32⟩
  | 10 => ⟨S4x8x2048x64, .f32⟩
  | 11 => ⟨S4x2048x8x64, .f32⟩
  | 12 => ⟨S4x8x2048x64, .f32⟩
  | 13 => ⟨S4x2048x8x64, .f32⟩
  | 14 => ⟨S4x8x2048x64, .f32⟩
  | 15 => ⟨S4x8x2048x2048, .f32⟩
  | 16 => ⟨S4x8x2048x1, .f32⟩
  | 17 => ⟨S4x8x2048x2048, .f32⟩
  | 18 => ⟨S4x8x2048x2048, .f32⟩
  | 19 => ⟨S4x8x1x2048, .f32⟩
  | 20 => ⟨S4x8x2048x2048, .f32⟩
  | 21 => ⟨S4x8x2048x2048, .f32⟩
  | 22 => ⟨S2048, .i32⟩
  | 23 => ⟨S1x2048, .i32⟩
  | 24 => ⟨S2048, .i32⟩
  | 25 => ⟨S2048x1, .i32⟩
  | 26 => ⟨S2048x2048, .i32⟩
  | 27 => ⟨S2048x2048, .i32⟩
  | 28 => ⟨S2048x2048, .i1⟩
  | 29 => ⟨S_, .f32⟩
  | 30 => ⟨S_, .f32⟩
  | 31 => ⟨S4x8x2048x2048, .i1⟩
  | 32 => ⟨S4x8x2048x2048, .f32⟩
  | 33 => ⟨S4x8x2048x2048, .f32⟩
  | 34 => ⟨S_, .f32⟩
  | 35 => ⟨S4x8x2048x2048, .f32⟩
  | 36 => ⟨S_, .f32⟩
  | 37 => ⟨S4x8x2048, .f32⟩
  | 38 => ⟨S4x8x2048x1, .f32⟩
  | 39 => ⟨S4x8x2048x2048, .f32⟩
  | 40 => ⟨S4x8x2048x2048, .i1⟩
  | 41 => ⟨S4x8x2048x2048, .f32⟩
  | 42 => ⟨S_, .f32⟩
  | 43 => ⟨S4x8x2048, .f32⟩
  | 44 => ⟨S_, .f32⟩
  | 45 => ⟨S4x8x2048, .f32⟩
  | 46 => ⟨S4x8x2048, .f32⟩
  | 47 => ⟨S_, .f32⟩
  | 48 => ⟨S4x8x2048, .f32⟩
  | 49 => ⟨S4x8x2048, .i1⟩
  | 50 => ⟨S_, .f32⟩
  | 51 => ⟨S4x8x2048, .f32⟩
  | 52 => ⟨S4x8x2048, .i1⟩
  | 53 => ⟨S_, .f32⟩
  | 54 => ⟨S4x8x2048, .f32⟩
  | 55 => ⟨S_, .f32⟩
  | 56 => ⟨S4x8x2048, .f32⟩
  | 57 => ⟨S_, .f32⟩
  | 58 => ⟨S4x8x2048, .f32⟩
  | 59 => ⟨S4x8x2048, .f32⟩
  | 60 => ⟨S4x8x2048, .f32⟩
  | 61 => ⟨S4x8x2048x1, .f32⟩
  | 62 => ⟨S4x8x2048x2048, .f32⟩
  | 63 => ⟨S4x8x2048x2048, .f32⟩
  | 64 => ⟨S4x8x2048x2048, .f32⟩
  | 65 => ⟨S_, .f32⟩
  | 66 => ⟨S4x8x2048, .f32⟩
  | 67 => ⟨S4x8x2048x1, .f32⟩
  | 68 => ⟨S4x8x2048x2048, .f32⟩
  | 69 => ⟨S4x8x2048x2048, .f32⟩
  | 70 => ⟨S4x8x2048x1, .f32⟩
  | 71 => ⟨S_, .f32⟩
  | 72 => ⟨S4x8x2048x1, .f32⟩
  | 73 => ⟨S4x8x2048x1, .f32⟩
  | 74 => ⟨S4x8x2048x64, .f32⟩
  | 75 => ⟨S4x2048x8x64, .f32⟩
  | 76 => ⟨S4x2048x512, .f32⟩
  | 77 => ⟨S4x2048x8x64, .f32⟩
  | 78 => ⟨S4x8x2048x64, .f32⟩
  | 79 => ⟨S4x8x64x2048, .f32⟩
  | 80 => ⟨S4x8x2048x64, .f32⟩
  | 81 => ⟨S4x8x2048x2048, .f32⟩
  | 82 => ⟨S4x8x2048x2048, .f32⟩
  | 83 => ⟨S4x8x2048x2048, .f32⟩
  | 84 => ⟨S4x8x2048x2048, .f32⟩
  | 85 => ⟨S_, .f32⟩
  | 86 => ⟨S4x8x2048, .f32⟩
  | 87 => ⟨S4x8x2048x1, .f32⟩
  | 88 => ⟨S4x8x2048x1, .f32⟩
  | 89 => ⟨S4x8x2048x2048, .f32⟩
  | 90 => ⟨S4x8x2048x2048, .f32⟩
  | 91 => ⟨S_, .f32⟩
  | 92 => ⟨S4x8x2048, .f32⟩
  | 93 => ⟨S4x8x2048x2048, .f32⟩
  | 94 => ⟨S4x8x2048x2048, .f32⟩
  | 95 => ⟨S4x8x2048x2048, .f32⟩
  | 96 => ⟨S_, .f32⟩
  | 97 => ⟨S4x8x2048x2048, .f32⟩
  | 98 => ⟨S4x8x2048x2048, .f32⟩
  | 99 => ⟨S4x8x2048x2048, .f32⟩
  | 100 => ⟨S_, .f32⟩
  | 101 => ⟨S4x8x2048, .f32⟩
  | 102 => ⟨S4x8x1x2048, .f32⟩
  | 103 => ⟨S_, .f32⟩
  | 104 => ⟨S4x8x2048, .f32⟩
  | 105 => ⟨S_, .f32⟩
  | 106 => ⟨S4x8x2048, .f32⟩
  | 107 => ⟨S4x8x2048x1, .f32⟩
  | 108 => ⟨S_, .f32⟩
  | 109 => ⟨S4x8x2048, .f32⟩
  | 110 => ⟨S4x8x2048, .f32⟩
  | 111 => ⟨S4x8x2048x64, .f32⟩
  | 112 => ⟨S4x8x2048x64, .f32⟩
  | 113 => ⟨S4x2048x8x64, .f32⟩
  | 114 => ⟨S4x2048x512, .f32⟩
  | 115 => ⟨S4x2048x8x64, .f32⟩
  | 116 => ⟨S4x2048x512, .f32⟩
  | 117 => ⟨S_, .f32⟩
  | 118 => ⟨S4x8x2048x64, .f32⟩
  | 119 => ⟨S4x8x2048x64, .f32⟩
  | 120 => ⟨S4x2048x8x64, .f32⟩
  | 121 => ⟨S4x2048x512, .f32⟩
  | 122 => ⟨S8192x4x1x128, .f32⟩
  | 123 => ⟨S8192x4x1x128, .f32⟩
  | 124 => ⟨S8192x4x1x128, .f32⟩
  | 125 => ⟨S8192x4x3x128, .f32⟩
  | 126 => ⟨S8192x1536, .f32⟩
  | 127 => ⟨S8192x1536, .bf16⟩
  | _ => ⟨S4x2048x512, .f32⟩

abbrev hbmTy0_1 (i : Nat) : BufTy := match i % 128 with
  | 0 => ⟨S8192x1536, .bf16⟩
  | 1 => ⟨S8192x2304, .bf16⟩
  | 2 => ⟨S8192x5376, .bf16⟩
  | 3 => ⟨S4x4x2x2048, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_v22_1 : Ref sig .tc := ⟨.hbm, 31, rfl⟩
abbrev main_call0_v2 : Ref sig .tc := ⟨.hbm, 32, rfl⟩
abbrev main_v22_0 : Ref sig .tc := ⟨.hbm, 33, rfl⟩
abbrev main_call0_cst : Ref sig .tc := ⟨.hbm, 34, rfl⟩
abbrev main_v22_2 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== ForgetBwd.lean ====
abbrev S4x8x2048 : Shape := ⟨3, ![4, 8, 2048]⟩
abbrev S8192x8 : Shape := ⟨2, ![8192, 8]⟩
abbrev S1x8 : Shape := ⟨2, ![1, 8]⟩
abbrev S8192x5376 : Shape := ⟨2, ![8192, 5376]⟩
abbrev S_ : Shape := ⟨0, ![]⟩
abbrev S8192x128 : Shape := ⟨2, ![8192, 128]⟩
abbrev S8192x256 : Shape := ⟨2, ![8192, 256]⟩
abbrev S1x256 : Shape := ⟨2, ![1, 256]⟩
abbrev S1x128 : Shape := ⟨2, ![1, 128]⟩
abbrev S1x8x2048 : Shape := ⟨3, ![1, 8, 2048]⟩
abbrev S2048x128 : Shape := ⟨2, ![2048, 128]⟩
abbrev S2048x256 : Shape := ⟨2, ![2048, 256]⟩
abbrev S8x2048 : Shape := ⟨2, ![8, 2048]⟩
abbrev S120x2048 : Shape := ⟨2, ![120, 2048]⟩
abbrev S128x2048 : Shape := ⟨2, ![128, 2048]⟩
abbrev S128 : Shape := ⟨1, ![128]⟩

abbrev nBuf : Space → Nat
  | .hbm => 16
  | .vmem => 10
  | .smem => 0
  | _ => 0

abbrev bufTy : (tb : Table) → Fin (tcTables nBuf tb) → BufTy
  | .hbm, ⟨0, _⟩ => ⟨S4x8x2048, .f32⟩
  | .hbm, ⟨1, _⟩ => ⟨S8192x8, .f32⟩
  | .hbm, ⟨2, _⟩ => ⟨S8192x8, .f32⟩
  | .hbm, ⟨3, _⟩ => ⟨S1x8, .f32⟩
  | .hbm, ⟨4, _⟩ => ⟨S8192x5376, .bf16⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S_, .i32⟩
  | .hbm, ⟨9, _⟩ => ⟨S_, .f32⟩
  | .hbm, ⟨10, _⟩ => ⟨S8192x256, .f32⟩
  | .hbm, ⟨11, _⟩ => ⟨S_, .i32⟩
  | .hbm, ⟨12, _⟩ => ⟨S_, .f32⟩
  | .hbm, ⟨13, _⟩ => ⟨S1x256, .f32⟩
  | .hbm, ⟨14, _⟩ => ⟨S8192x5376, .bf16⟩
  | .hbm, ⟨15, _⟩ => ⟨S1x128, .f32⟩
  | .local _ .vmem, ⟨0, _⟩ => ⟨S1x8x2048, .f32⟩
  | .local _ .vmem, ⟨1, _⟩ => ⟨S1x8x2048, .f32⟩
  | .local _ .vmem, ⟨2, _⟩ => ⟨S2048x128, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S4x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ForgetBwdRefIdeal.lean ====
abbrev S4x8x2048 : Shape := ⟨3, ![4, 8, 2048]⟩
abbrev S8192x8 : Shape := ⟨2, ![8192, 8]⟩
abbrev S1x8 : Shape := ⟨2, ![1, 8]⟩
abbrev S8192x5376 : Shape := ⟨2, ![8192, 5376]⟩
abbrev S4x2048x8 : Shape := ⟨3, ![4, 2048, 8]⟩
abbrev S1x1x8 : Shape := ⟨3, ![1, 1, 8]⟩
abbrev S_ : Shape := ⟨0, ![]⟩
abbrev S8 : Shape := ⟨1, ![8]⟩
abbrev S8192x256 : Shape := ⟨2, ![8192, 256]⟩
abbrev S8192x5120 : Shape := ⟨2, ![8192, 5120]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x8x2048, .f32⟩
  | .hbm, ⟨1, _⟩ => ⟨S8192x8, .f32⟩
  | .hbm, ⟨2, _⟩ => ⟨S8192x8, .f32⟩
  | .hbm, ⟨3, _⟩ => ⟨S1x8, .f32⟩
  | .hbm, ⟨4, _⟩ => ⟨S8192x5376, .bf16⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S4x2048x8, .f32⟩
  | .hbm, ⟨9, _⟩ => ⟨S1x1x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S_, .f32⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .i1⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S4x2048x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S_, .f32⟩
  | .hbm, ⟨28, _⟩ => ⟨S4x2048x8, .f32⟩
  | .hbm, ⟨29, _⟩ => ⟨S4x2048x8, .i1⟩
  | .hbm, ⟨30, _⟩ => ⟨S_, .f32⟩
  | .hbm, ⟨31, _⟩ => ⟨S4x2048x8, .f32⟩
  | .hbm, ⟨32, _⟩ => ⟨S4x2048x8, .f32⟩
  | .hbm, ⟨33, _⟩ => ⟨S_, .f32⟩
  | .hbm, ⟨34, _⟩ => ⟨S4x2048x8, .f32⟩
  | .hbm, ⟨35, _⟩ => ⟨S4x2048x8, .i1⟩
  | .hbm, ⟨36, _⟩ => ⟨S_, .f32⟩
  | .hbm, ⟨37, _⟩ => ⟨S4x2048x8, .f32⟩
  | .hbm, ⟨38, _⟩ => ⟨S4x2048x8, .f32⟩
  | .hbm, ⟨39, _⟩ => ⟨S4x2048x8, .f32⟩
  | .hbm, ⟨40, _⟩ => ⟨S4x2048x8, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4x2048x8, .f32⟩
  | .hbm, ⟨49, _⟩ => ⟨S4x2048x8, .i1⟩
  | .hbm, ⟨50, _⟩ => ⟨S_, .f32⟩
  | .hbm, ⟨51, _⟩ => ⟨S4x2048x8, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S4x2048x8, .f32⟩
  | .hbm, ⟨56, _⟩ => ⟨S_, .f32⟩
  | .hbm, ⟨57, _⟩ => ⟨S4x2048x8, .f32⟩
  | .hbm, ⟨58, _⟩ => ⟨S4x2048x8, .f32⟩
  | .hbm, ⟨59, _⟩ => ⟨S4x2048x8, .f32⟩
  | .hbm, ⟨60, _⟩ => ⟨S_, .f32⟩
  | .hbm, ⟨61, _⟩ => ⟨S_, .f32⟩
  | .hbm, ⟨62, _⟩ => ⟨S4x2048x8, .f32⟩
  | .hbm, ⟨63, _⟩ => ⟨S_, .f32⟩
  | .hbm, ⟨64, _⟩ => ⟨S_, .f32⟩
  | .hbm, ⟨65, _⟩ => ⟨S4x2048x8, .f32⟩
  | .hbm, ⟨66, _⟩ => ⟨S4x2048x8, .f32⟩
  | .hbm, ⟨67, _⟩ => ⟨S4x2048x8, .f32⟩
  | .hbm, ⟨68, _⟩ => ⟨S4x2048x8, .f32⟩
  | .hbm, ⟨69, _⟩ => ⟨S_, .f32⟩
  | .hbm, ⟨70, _⟩ => ⟨S8, .f32⟩
  | .hbm, ⟨71, _⟩ => ⟨S1x1x8, .f32⟩
  | .hbm, ⟨72, _⟩ => ⟨S_, .f32⟩
  | .hbm, ⟨73, _⟩ => ⟨S8, .f32⟩
  | .hbm, ⟨74, _⟩ => ⟨S1x8, .f32⟩
  | .hbm, ⟨75, _⟩ => ⟨S8192x8, .f32⟩
  | .hbm, ⟨76, _⟩ => ⟨S_, .i32⟩
  | .hbm, ⟨77, _⟩ => ⟨S_, .f32⟩
  | .hbm, ⟨78, _⟩ => ⟨S8192x256, .f32⟩
  | .hbm, ⟨79, _⟩ => ⟨S8192x256, .bf16⟩
  | .hbm, ⟨80, _⟩ => ⟨S8192x5120, .bf16⟩
  | .hbm, ⟨81, _⟩ => ⟨S8192x5376, .bf16⟩
  | .hbm, ⟨82, _⟩ => ⟨S_, .i32⟩
  | .hbm, ⟨83, _⟩ => ⟨S_, .f32⟩
  | .hbm, ⟨84, _⟩ => ⟨S1x128, .f32⟩
  | _, _ => ⟨S4x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v7_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v7_2 : Ref sig .tc := ⟨.hbm, 58, rfl⟩
abbrev main_v7_0 : Ref sig .tc := ⟨.hbm, 59, rfl⟩
abbrev main_call1_call0_cst : Ref sig .tc := ⟨.hbm, 60, rfl⟩
abbrev main_call1_call0_v0 : Ref sig .tc := ⟨.hbm, 61, rfl⟩
abbrev main_v8 : Ref sig .tc := ⟨.hbm, 62, rfl⟩
abbrev main_call2_call0_cst : Ref sig .tc := ⟨.hbm, 63, rfl⟩
abbrev main_call2_call0_v0 : Ref sig .tc := ⟨.hbm, 64, rfl⟩
abbrev main_v9 : Ref sig .tc := ⟨.hbm, 65, rfl⟩
abbrev main_call3_v0 : Ref sig .tc := ⟨.hbm, 66, rfl⟩
abbrev main_call3_v1 : Ref sig .tc := ⟨.hbm, 67, rfl⟩
abbrev main_v10 : Ref sig .tc := ⟨.hbm, 68, rfl⟩
abbrev main_cst : Ref sig .tc := ⟨.hbm, 69, rfl⟩
abbrev main_v11 : Ref sig .tc := ⟨.hbm, 70, rfl⟩
abbrev main_v12 : Ref sig .tc := ⟨.hbm, 71, rfl⟩
abbrev main_cst_0 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c : Ref sig .tc := ⟨.hbm, 76, rfl⟩
abbrev main_call4_v0 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_1 : Ref sig .tc := ⟨.hbm, 82, rfl⟩
abbrev main_call5_v0 : Ref sig .tc := ⟨.hbm, 83, rfl⟩
abbrev main_v20 : Ref sig .tc := ⟨.hbm, 84, rfl⟩

abbrev nD : Nat := 1
abbrev τ : Topo := Topo.v7x

variable {F : FTy → Type} [FloatOps F]
-- ==== ConvBwd.lean ====
abbrev S4x2048x512 : Shape := ⟨3, ![4, 2048, 512]⟩
abbrev S3x512 : Shape := ⟨2, ![3, 512]⟩
abbrev S8192x5376 : Shape := ⟨2, ![8192, 5376]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S8192x512 : Shape := ⟨2, ![8192, 512]⟩
abbrev S2048x128 : Shape := ⟨2, ![2048, 128]⟩
abbrev S2048x384 : Shape := ⟨2, ![2048, 384]⟩
abbrev S3x128 : Shape := ⟨2, ![3, 128]⟩
abbrev S1x128 : Shape := ⟨2, ![1, 128]⟩
abbrev S128 : Shape := ⟨1, ![128]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S3x512, .f32⟩
  | .hbm, ⟨5, _⟩ => ⟨S8192x5376, .bf16⟩
  | .hbm, ⟨6, _⟩ => ⟨S8192x4x1x128, .f32⟩
  | .hbm, ⟨7, _⟩ => ⟨S8192x4x1x128, .f32⟩
  | .hbm, ⟨8, _⟩ => ⟨S8192x4x1x128, .f32⟩
  | .hbm, ⟨9, _⟩ => ⟨S8192x4x3x128, .f32⟩
  | .hbm, ⟨10, _⟩ => ⟨S8192x1536, .f32⟩
  | .hbm, ⟨11, _⟩ => ⟨S8192x512, .f32⟩
  | .hbm, ⟨12, _⟩ => ⟨S8192x512, .bf16⟩
  | .hbm, ⟨13, _⟩ => ⟨S8192x1536, .bf16⟩
  | .hbm, ⟨14, _⟩ => ⟨S8192x5376, .bf16⟩
  | .hbm, ⟨15, _⟩ => ⟨S3x512, .f32⟩
  | .local _ .vmem, ⟨0, _⟩ => ⟨S2048x128, .bf16⟩
  | .local _ .vmem, ⟨1, _⟩ => ⟨S2048x128, .bf16⟩
  | .local _ .vmem, ⟨2, _⟩ => ⟨S2048x384, .bf16⟩
  | .local _ .vmem, ⟨3, _⟩ => ⟨S2048x384, .bf16⟩
  | .local _ .vmem, ⟨4, _⟩ => ⟨S3x128, .f32⟩
  | .local _ .vmem, ⟨5, _⟩ => ⟨S3x128, .f32⟩
  | .local _ .vmem, ⟨6, _⟩ => ⟨S2048x384, .bf16⟩
  | .local _ .vmem, ⟨7, _⟩ => ⟨S2048x384, .bf16⟩
  | .local _ .vmem, ⟨8, _⟩ => ⟨S3x128, .f32⟩
  | .local _ .vmem, ⟨9, _⟩ => ⟨S3x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvBwdRefIdeal.lean ====
abbrev S4x2048x512 : Shape := ⟨3, ![4, 2048, 512]⟩
abbrev S3x512 : Shape := ⟨2, ![3, 512]⟩
abbrev S8192x5376 : Shape := ⟨2, ![8192, 5376]⟩
abbrev S_ : Shape := ⟨0, ![]⟩
abbrev S4x2x512 : Shape := ⟨3, ![4, 2, 512]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S8192x3840 : Shape := ⟨2, ![8192, 3840]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S3x512, .f32⟩
  | .hbm, ⟨5, _⟩ => ⟨S8192x5376, .bf16⟩
  | .hbm, ⟨6, _⟩ => ⟨S4x2048x512, .f32⟩
  | .hbm, ⟨7, _⟩ => ⟨S_, .f32⟩
  | .hbm, ⟨8, _⟩ => ⟨S4x2x512, .f32⟩
  | .hbm, ⟨9, _⟩ => ⟨S4x2050x512, .f32⟩
  | .hbm, ⟨10, _⟩ => ⟨S_, .f32⟩
  | .hbm, ⟨11, _⟩ => ⟨S4x2x512, .f32⟩
  | .hbm, ⟨12, _⟩ => ⟨S4x2048x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S512, .f32⟩
  | .hbm, ⟨38, _⟩ => ⟨S1x1x512, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S3x512, .f32⟩
  | .hbm, ⟨46, _⟩ => ⟨S_, .f32⟩
  | .hbm, ⟨47, _⟩ => ⟨S4x2050x512, .f32⟩
  | .hbm, ⟨48, _⟩ => ⟨S4x2048x512, .f32⟩
  | .hbm, ⟨49, _⟩ => ⟨S_, .f32⟩
  | .hbm, ⟨50, _⟩ => ⟨S512, .f32⟩
  | .hbm, ⟨51, _⟩ => ⟨S1x1x512, .f32⟩
  | .hbm, ⟨52, _⟩ => ⟨S4x2048x512, .f32⟩
  | .hbm, ⟨53, _⟩ => ⟨S4x2048x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S3x512, .f32⟩
  | .hbm, ⟨59, _⟩ => ⟨S3x512, .f32⟩
  | .hbm, ⟨60, _⟩ => ⟨S_, .f32⟩
  | .hbm, ⟨61, _⟩ => ⟨S4x2050x512, .f32⟩
  | .hbm, ⟨62, _⟩ => ⟨S4x2050x512, .f32⟩
  | .hbm, ⟨63, _⟩ => ⟨S4x2048x512, .f32⟩
  | .hbm, ⟨64, _⟩ => ⟨S_, .f32⟩
  | .hbm, ⟨65, _⟩ => ⟨S512, .f32⟩
  | .hbm, ⟨66, _⟩ => ⟨S1x1x512, .f32⟩
  | .hbm, ⟨67, _⟩ => ⟨S4x2048x512, .f32⟩
  | .hbm, ⟨68, _⟩ => ⟨S4x2048x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S3x512, .f32⟩
  | .hbm, ⟨74, _⟩ => ⟨S3x512, .f32⟩
  | .hbm, ⟨75, _⟩ => ⟨S_, .f32⟩
  | .hbm, ⟨76, _⟩ => ⟨S4x2050x512, .f32⟩
  | .hbm, ⟨77, _⟩ => ⟨S4x2050x512, .f32⟩
  | .hbm, ⟨78, _⟩ => ⟨S4x2x512, .f32⟩
  | .hbm, ⟨79, _⟩ => ⟨S4x2048x512, .f32⟩
  | .hbm, ⟨80, _⟩ => ⟨S4x2048x512, .f32⟩
  | .hbm, ⟨81, _⟩ => ⟨S4x2048x512, .f32⟩
  | .hbm, ⟨82, _⟩ => ⟨S8192x4x1x128, .f32⟩
  | .hbm, ⟨83, _⟩ => ⟨S8192x4x1x128, .f32⟩
  | .hbm, ⟨84, _⟩ => ⟨S8192x4x1x128, .f32⟩
  | .hbm, ⟨85, _⟩ => ⟨S8192x4x3x128, .f32⟩
  | .hbm, ⟨86, _⟩ => ⟨S8192x1536, .f32⟩
  | .hbm, ⟨87, _⟩ => ⟨S8192x1536, .bf16⟩
  | .hbm, ⟨88, _⟩ => ⟨S8192x3840, .bf16⟩
  | .hbm, ⟨89, _⟩ => ⟨S8192x5376, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S1x2048 : Shape := ⟨2, ![1, 2048]⟩
abbrev S1024x2048 : Shape := ⟨2, ![1024, 2048]⟩
abbrev S1024x1024 : Shape := ⟨2, ![1024, 1024]⟩
abbrev S8192x5376 : Shape := ⟨2, ![8192, 5376]⟩
abbrev S1x1024 : Shape := ⟨2, ![1, 1024]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x1024, .bf16⟩
  | .hbm, ⟨9, _⟩ => ⟨S8192x2048, .bf16⟩
  | .hbm, ⟨10, _⟩ => ⟨S8192x1024, .bf16⟩
  | .hbm, ⟨11, _⟩ => ⟨S8192x5376, .bf16⟩
  | .hbm, ⟨12, _⟩ => ⟨S8192x2048, .bf16⟩
  | .hbm, ⟨13, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c3_i32 : BitVec 32 := 3#32
  let v1 : BitVec 32 := Scalar.addi c3_i32 v0
  let v2 : BitVec 32 := Scalar.addi v1 arg1
  let c0_i32 : BitVec 32 := 0#32
  ![arg2.toNat, v2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== MergeRefIdeal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192x5376 : Shape := ⟨2, ![8192, 5376]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .i32⟩
  | .hbm, ⟨36, _⟩ => ⟨S_, .f32⟩
  | .hbm, ⟨37, _⟩ => ⟨S8192x5376, .f32⟩
  | .hbm, ⟨38, _⟩ => ⟨S8192x5376, .bf16⟩
  | .hbm, ⟨39, _⟩ => ⟨S8192x1024, .bf16⟩
  | .hbm, ⟨40, _⟩ => ⟨S8192x2048, .f32⟩
  | .hbm, ⟨41, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== FinalLoss.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x128, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalLossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Ffn.lean ====
abbrev S4x2048x1024 : Shape := ⟨3, ![4, 2048, 1024]⟩
abbrev S1024x5632 : Shape := ⟨2, ![1024, 5632]⟩
abbrev S3x5632 : Shape := ⟨2, ![3, 5632]⟩
abbrev S2816x1024 : Shape := ⟨2, ![2816, 1024]⟩
abbrev S8192x1024 : Shape := ⟨2, ![8192, 1024]⟩
abbrev S8192x2816 : Shape := ⟨2, ![8192, 2816]⟩
abbrev S2048x1024 : Shape := ⟨2, ![2048, 1024]⟩
abbrev S1024x256 : Shape := ⟨2, ![1024, 256]⟩
abbrev S3x256 : Shape := ⟨2, ![3, 256]⟩
abbrev S2048x256 : Shape := ⟨2, ![2048, 256]⟩
abbrev S1x256 : Shape := ⟨2, ![1, 256]⟩
abbrev S256x1024 : Shape := ⟨2, ![256, 1024]⟩
abbrev S2056x256 : Shape := ⟨2, ![2056, 256]⟩
abbrev S8x256 : Shape := ⟨2, ![8, 256]⟩
abbrev S128x256 : Shape := ⟨2, ![128, 256]⟩
abbrev S136x256 : Shape := ⟨2, ![136, 256]⟩
abbrev S256 : Shape := ⟨1, ![256]⟩

abbrev nBuf : Space → Nat
  | .hbm => 19
  | .vmem => 44
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S4x2048x1024, .f32⟩
  | .hbm, ⟨5, _⟩ => ⟨S8192x1024, .f32⟩
  | .hbm, ⟨6, _⟩ => ⟨S8192x1024, .bf16⟩
  | .hbm, ⟨7, _⟩ => ⟨S1024x5632, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x2816, .bf16⟩
  | .hbm, ⟨13, _⟩ => ⟨S8192x1024, .f32⟩
  | .hbm, ⟨14, _⟩ => ⟨S8192x1024, .bf16⟩
  | .hbm, ⟨15, _⟩ => ⟨S2816x1024, .bf16⟩
  | .hbm, ⟨16, _⟩ => ⟨S8192x2816, .bf16⟩
  | .hbm, ⟨17, _⟩ => ⟨S8192x2816, .bf16⟩
  | .hbm, ⟨18, _⟩ => ⟨S3x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x1024, .bf16⟩
  | .local _ .vmem, ⟨21, _⟩ => ⟨S2048x1024, .bf16⟩
  | .local _ .vmem, ⟨22, _⟩ => ⟨S256x1024, .bf16⟩
  | .local _ .vmem, ⟨23, _⟩ => ⟨S256x1024, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S3x256, .f32⟩
  | .local _ .vmem, ⟨33, _⟩ => ⟨S3x256, .f32⟩
  | .local _ .vmem, ⟨34, _⟩ => ⟨S3x256, .f32⟩
  | .local _ .vmem, ⟨35, _⟩ => ⟨S3x256, .f32⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S3x5632, .f32⟩
  | .local _ .vmem, ⟨41, _⟩ => ⟨S2048x256, .f32⟩
  | .local _ .vmem, ⟨42, _⟩ => ⟨S2056x256, .f32⟩
  | .local _ .vmem, ⟨43, _⟩ => ⟨S2056x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 11], ![false, false]⟩

@[reducible] def k1_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k1_mult1 (k1_t1 : Fin k1_t1_loop.trips) : BitVec 32 :=
  let c0_i32 : BitVec 32 := 0#32
  let c1_i32 : BitVec 32 := 1#32
  let arg16 : BitVec 32 := Scf.iv c0_i32 c1_i32 k1_t1
  let c128_i32 : BitVec 32 := 128#32
  let v69 : BitVec 32 := Scalar.muli arg16 c128_i32
  v69
def k1_off1 (k1_t1 : Fin k1_t1_loop.trips) : Fin 2 → Nat :=
  let c0_i32 : BitVec 32 := 0#32
  let c1_i32 : BitVec 32 := 1#32
  let arg16 : BitVec 32 := Scf.iv c0_i32 c1_i32 k1_t1
  let c128_i32 : BitVec 32 := 128#32
  let v69 : BitVec 32 := Scalar.muli arg16 c128_i32
  let v70 : BitVec 32 := v69
  let v71 : Index := Scalar.indexCast v70
  let c0_35 : Index := 0#32
  ![v71.toNat, 0]
def k1_off2 (k1_t1 : Fin k1_t1_loop.trips) : Fin 2 → Nat :=
  let c0_i32 : BitVec 32 := 0#32
  let c1_i32 : BitVec 32 := 1#32
  let arg16 : BitVec 32 := Scf.iv c0_i32 c1_i32 k1_t1
  let c128_i32 : BitVec 32 := 128#32
  let v69 : BitVec 32 := Scalar.muli arg16 c128_i32
  let v70 : BitVec 32 := v69
  let v90 : Index := Scalar.indexCast v70
  let c0_40 : Index := 0#32
  ![v90.toNat, 0]
@[reducible] def k1_t2_loop : Scf.Loop 32 :=
  let c0_i32_16 : BitVec 32 := 0#32
  let c16_i32_17 : BitVec 32 := 16#32
  let v20 : BitVec 32 := Scalar.addi c0_i32_16 c16_i32_17
  let c1_i32_18 : BitVec 32 := 1#32
  ⟨c0_i32_16, v20, c1_i32_18⟩
def k1_mult2 (k1_t2 : Fin k1_t2_loop.trips) : BitVec 32 :=
  let c0_i32_16 : BitVec 32 := 0#32
  let c1_i32_18 : BitVec 32 := 1#32
  let arg16 : BitVec 32 := Scf.iv c0_i32_16 c1_i32_18 k1_t2
  let c128_i32 : BitVec 32 := 128#32
  let v69 : BitVec 32 := Scalar.muli arg16 c128_i32
  v69
def k1_off3 (k1_t2 : Fin k1_t2_loop.trips) : Fin 2 → Nat :=
  let c0_i32_16 : BitVec 32 := 0#32
  let c1_i32_18 : BitVec 32 := 1#32
  let arg16 : BitVec 32 := Scf.iv c0_i32_16 c1_i32_18 k1_t2
  let c128_i32 : BitVec 32 := 128#32
  let v69 : BitVec 32 := Scalar.muli arg16 c128_i32
  let v70 : BitVec 32 := v69
  let v71 : Index := Scalar.indexCast v70
  let c0_35 : Index := 0#32
  ![v71.toNat, 0]
def k1_off4 (k1_t2 : Fin k1_t2_loop.trips) : Fin 2 → Nat :=
  let c0_i32_16 : BitVec 32 := 0#32
  let c1_i32_18 : BitVec 32 := 1#32
  let arg16 : BitVec 32 := Scf.iv c0_i32_16 c1_i32_18 k1_t2
  let c128_i32 : BitVec 32 := 128#32
  let v69 : BitVec 32 := Scalar.muli arg16 c128_i32
  let v70 : BitVec 32 := v69
  let v90 : Index := Scalar.indexCast v70
  let c0_36 : Index := 0#32
  ![v90.toNat, 0]
def k1_mult3 (i : grid1.Coords) : BitVec 32 :=
  let c0_i32_23 : BitVec 32 := 0#32
  let arg1 : BitVec 32 := BitVec.ofNat 32 (i 1).val
  let c256_i32 : BitVec 32 := 256#32
  let v27 : BitVec 32 := Scalar.muli arg1 c256_i32
  let v28 : BitVec 32 := Scalar.addi c0_i32_23 v27
  v28
def k1_off5 (i : grid1.Coords) (c0_i32_23 : BitVec 32) : Fin 2 → Nat :=
  let c0_24 : Index := 0#32
  let arg1 : BitVec 32 := BitVec.ofNat 32 (i 1).val
  let c256_i32 : BitVec 32 := 256#32
  let v27 : BitVec 32 := Scalar.muli arg1 c256_i32
  let v28 : BitVec 32 := Scalar.addi c0_i32_23 v27
  let v29 : BitVec 32 := v28
  let v30 : Index := Scalar.indexCast v29
  ![0, v30.toNat]
def k1_off6 (i : grid1.Coords) (c0_i32_23 : BitVec 32) : Fin 2 → Nat :=
  let c1 : Index := 1#32
  let arg1 : BitVec 32 := BitVec.ofNat 32 (i 1).val
  let c256_i32 : BitVec 32 := 256#32
  let v27 : BitVec 32 := Scalar.muli arg1 c256_i32
  let v28 : BitVec 32 := Scalar.addi c0_i32_23 v27
  let v29 : BitVec 32 := v28
  let v36 : Index := Scalar.indexCast v29
  ![1, v36.toNat]
def k1_off7 (i : grid1.Coords) (c0_i32_23 : BitVec 32) : Fin 2 → Nat :=
  let c2 : Index := 2#32
  let arg1 : BitVec 32 := BitVec.ofNat 32 (i 1).val
  let c256_i32 : BitVec 32 := 256#32
  let v27 : BitVec 32 := Scalar.muli arg1 c256_i32
  let v28 : BitVec 32 := Scalar.addi c0_i32_23 v27
  let v29 : BitVec 32 := v28
  let v42 : Index := Scalar.indexCast v29
  ![2, v42.toNat]
def k1_mult4 (i : grid1.Coords) : BitVec 32 :=
  let c2816_i32 : BitVec 32 := 2816#32
  let arg1 : BitVec 32 := BitVec.ofNat 32 (i 1).val
  let c256_i32_28 : BitVec 32 := 256#32
  let v48 : BitVec 32 := Scalar.muli arg1 c256_i32_28
  let v49 : BitVec 32 := Scalar.addi c2816_i32 v48
  v49
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S3x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S3x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 1 → Memref sig .tc .vmem S3x5632 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]
-- ==== FfnRefIdeal.lean ====
abbrev S4x2048x1024 : Shape := ⟨3, ![4, 2048, 1024]⟩
abbrev S1024x5632 : Shape := ⟨2, ![1024, 5632]⟩
abbrev S3x5632 : Shape := ⟨2, ![3, 5632]⟩
abbrev S2816x1024 : Shape := ⟨2, ![2816, 1024]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩
abbrev S8192x2816 : Shape := ⟨2, ![8192, 2816]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S4x2048x1024, .f32⟩
  | .hbm, ⟨5, _⟩ => ⟨S4x2048x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S_, .f32⟩
  | .hbm, ⟨10, _⟩ => ⟨S4x2x5632, .f32⟩
  | .hbm, ⟨11, _⟩ => ⟨S4x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S4x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S_, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S4x2048x1024, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x5632, .f32⟩
  | .hbm, ⟨56, _⟩ => ⟨S4x2048x5632, .f32⟩
  | .hbm, ⟨57, _⟩ => ⟨S_, .f32⟩
  | .hbm, ⟨58, _⟩ => ⟨S5632, .f32⟩
  | .hbm, ⟨59, _⟩ => ⟨S1x1x5632, .f32⟩
  | .hbm, ⟨60, _⟩ => ⟨S4x2048x5632, .f32⟩
  | .hbm, ⟨61, _⟩ => ⟨S4x2048x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S_, .f32⟩
  | .hbm, ⟨68, _⟩ => ⟨S4x2050x5632, .f32⟩
  | .hbm, ⟨69, _⟩ => ⟨S4x2048x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S4x2048x5632, .f32⟩
  | .hbm, ⟨74, _⟩ => ⟨S4x2048x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S_, .f32⟩
  | .hbm, ⟨82, _⟩ => ⟨S4x2050x5632, .f32⟩
  | .hbm, ⟨83, _⟩ => ⟨S4x2050x5632, .f32⟩
  | .hbm, ⟨84, _⟩ => ⟨S4x2048x5632, .f32⟩
  | .hbm, ⟨85, _⟩ => ⟨S_, .f32⟩
  | .hbm, ⟨86, _⟩ => ⟨S5632, .f32⟩
  | .hbm, ⟨87, _⟩ => ⟨S1x1x5632, .f32⟩
  | .hbm, ⟨88, _⟩ => ⟨S4x2048x5632, .f32⟩
  | .hbm, ⟨89, _⟩ => ⟨S4x2048x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S_, .f32⟩
  | .hbm, ⟨97, _⟩ => ⟨S4x2050x5632, .f32⟩
  | .hbm, ⟨98, _⟩ => ⟨S4x2050x5632, .f32⟩
  | .hbm, ⟨99, _⟩ => ⟨S4x2x5632, .f32⟩
  | .hbm, ⟨100, _⟩ => ⟨S4x2048x5632, .f32⟩
  | .hbm, ⟨101, _⟩ => ⟨S4x2048x2816, .f32⟩
  | .hbm, ⟨102, _⟩ => ⟨S4x2048x2816, .f32⟩
  | .hbm, ⟨103, _⟩ => ⟨S8192x2816, .f32⟩
  | .hbm, ⟨104, _⟩ => ⟨S8192x2816, .bf16⟩
  | .hbm, ⟨105, _⟩ => ⟨S8192x2816, .f32⟩
  | .hbm, ⟨106, _⟩ => ⟨S8192x2816, .bf16⟩
  | .hbm, ⟨107, _⟩ => ⟨S8192x2816, .f32⟩
  | .hbm, ⟨108, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== AttnFwd.lean ====
abbrev S4x2048x512 : Shape := ⟨3, ![4, 2048, 512]⟩
abbrev S4x8x2048 : Shape := ⟨3, ![4, 8, 2048]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S4x4x2x2048 : Shape := ⟨4, ![4, 4, 2, 2048]⟩
abbrev S8192x512 : Shape := ⟨2, ![8192, 512]⟩
abbrev S4x8192x2 : Shape := ⟨3, ![4, 8192, 2]⟩
abbrev S512x128 : Shape := ⟨2, ![512, 128]⟩
abbrev S2048x128 : Shape := ⟨2, ![2048, 128]⟩
abbrev S1x1x2x2048 : Shape := ⟨4, ![1, 1, 2, 2048]⟩
abbrev S1x512x2 : Shape := ⟨3, ![1, 512, 2]⟩
abbrev S1x128 : Shape := ⟨2, ![1, 128]⟩
abbrev S512x512 : Shape := ⟨2, ![512, 512]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩
abbrev S1x512x1 : Shape := ⟨3, ![1, 512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S8192x4x1x128, .f32⟩
  | .hbm, ⟨5, _⟩ => ⟨S8192x4x1x128, .f32⟩
  | .hbm, ⟨6, _⟩ => ⟨S8192x4x1x128, .f32⟩
  | .hbm, ⟨7, _⟩ => ⟨S8192x4x3x128, .f32⟩
  | .hbm, ⟨8, _⟩ => ⟨S8192x1536, .f32⟩
  | .hbm, ⟨9, _⟩ => ⟨S8192x1536, .bf16⟩
  | .hbm, ⟨10, _⟩ => ⟨S4x4x2x2048, .f32⟩
  | .hbm, ⟨11, _⟩ => ⟨S8192x512, .bf16⟩
  | .hbm, ⟨12, _⟩ => ⟨S4x8192x2, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x2x2048, .f32⟩
  | .local _ .vmem, ⟨7, _⟩ => ⟨S1x1x2x2048, .f32⟩
  | .local _ .vmem, ⟨8, _⟩ => ⟨S512x128, .bf16⟩
  | .local _ .vmem, ⟨9, _⟩ => ⟨S512x128, .bf16⟩
  | .local _ .vmem, ⟨10, _⟩ => ⟨S1x512x2, .f32⟩
  | .local _ .vmem, ⟨11, _⟩ => ⟨S1x512x2, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_6 : BitVec 32 := 1#32
  ⟨c0_i32, v26, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c512_i32_35 : BitVec 32 := 512#32
  let v123 : BitVec 32 := Scalar.muli arg9 c512_i32_35
  v123
def k0_off1 (i : grid0.Coords) (k0_t1 : Fin (k0_t1_loop i).trips) : Fin 2 → Nat :=
  let c0_i32 : BitVec 32 := 0#32
  let c1_i32_6 : BitVec 32 := 1#32
  let arg9 : BitVec 32 := Scf.iv c0_i32 c1_i32_6 k0_t1
  let c512_i32_35 : BitVec 32 := 512#32
  let v123 : BitVec 32 := Scalar.muli arg9 c512_i32_35
  let v124 : BitVec 32 := v123
  let v125 : Index := Scalar.indexCast v124
  let c0_36 : Index := 0#32
  ![v125.toNat, 0]
def k0_off2 (i : grid0.Coords) (k0_t1 : Fin (k0_t1_loop i).trips) : Fin 4 → Nat :=
  let c0_39 : Index := 0#32
  let c0_40 : Index := 0#32
  let c0_41 : Index := 0#32
  let c0_i32 : BitVec 32 := 0#32
  let c1_i32_6 : BitVec 32 := 1#32
  let arg9 : BitVec 32 := Scf.iv c0_i32 c1_i32_6 k0_t1
  let c512_i32_35 : BitVec 32 := 512#32
  let v123 : BitVec 32 := Scalar.muli arg9 c512_i32_35
  let v124 : BitVec 32 := v123
  let v132 : Index := Scalar.indexCast v124
  ![0, 0, 0, v132.toNat]
def k0_off3 (i : grid0.Coords) (k0_t1 : Fin (k0_t1_loop i).trips) : Fin 4 → Nat :=
  let c0_47 : Index := 0#32
  let c0_48 : Index := 0#32
  let c1_49 : Index := 1#32
  let c0_i32 : BitVec 32 := 0#32
  let c1_i32_6 : BitVec 32 := 1#32
  let arg9 : BitVec 32 := Scf.iv c0_i32 c1_i32_6 k0_t1
  let c512_i32_35 : BitVec 32 := 512#32
  let v123 : BitVec 32 := Scalar.muli arg9 c512_i32_35
  let v124 : BitVec 32 := v123
  let v157 : Index := Scalar.indexCast v124
  ![0, 0, 1, v157.toNat]
@[reducible] def k0_t2_loop (i : grid0.Coords) : Scf.Loop 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let v23 : BitVec 32 := Scalar.addi c0_i32 v22
  let c1_i32_7 : BitVec 32 := 1#32
  ⟨v26, v23, c1_i32_7⟩
def k0_mult2 (i : grid0.Coords) (k0_t2 : Fin (k0_t2_loop i).trips) : BitVec 32 :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  let arg9 : BitVec 32 := Scf.iv v26 c1_i32_7 k0_t2
  let c512_i32_35 : BitVec 32 := 512#32
  let v123 : BitVec 32 := Scalar.muli arg9 c512_i32_35
  v123
def k0_off4 (i : grid0.Coords) (k0_t2 : Fin (k0_t2_loop i).trips) : Fin 2 → Nat :=
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  let arg9 : BitVec 32 := Scf.iv v26 c1_i32_7 k0_t2
  let c512_i32_35 : BitVec 32 := 512#32
  let v123 : BitVec 32 := Scalar.muli arg9 c512_i32_35
  let v124 : BitVec 32 := v123
  let v125 : Index := Scalar.indexCast v124
  let c0_36 : Index := 0#32
  ![v125.toNat, 0]
def k0_off5 (i : grid0.Coords) (k0_t2 : Fin (k0_t2_loop i).trips) : Fin 4 → Nat :=
  let c0_39 : Index := 0#32
  let c0_40 : Index := 0#32
  let c0_41 : Index := 0#32
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  let arg9 : BitVec 32 := Scf.iv v26 c1_i32_7 k0_t2
  let c512_i32_35 : BitVec 32 := 512#32
  let v123 : BitVec 32 := Scalar.muli arg9 c512_i32_35
  let v124 : BitVec 32 := v123
  let v132 : Index := Scalar.indexCast v124
  ![0, 0, 0, v132.toNat]
def k0_off6 (i : grid0.Coords) (k0_t2 : Fin (k0_t2_loop i).trips) : Fin 4 → Nat :=
  let c0_47 : Index := 0#32
  let c0_48 : Index := 0#32
  let c1_49 : Index := 1#32
  let c0_i32 : BitVec 32 := 0#32
  let arg2 : BitVec 32 := BitVec.ofNat 32 (i 2).val
  let v22 : BitVec 32 := Scalar.subi arg2 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_7 : BitVec 32 := 1#32
  let arg9 : BitVec 32 := Scf.iv v26 c1_i32_7 k0_t2
  let c512_i32_35 : BitVec 32 := 512#32
  let v123 : BitVec 32 := Scalar.muli arg9 c512_i32_35
  let v124 : BitVec 32 := v123
  let v157 : Index := Scalar.indexCast v124
  ![0, 0, 1, v157.toNat]
def k0_mult3 (i : grid0.Coords) : BitVec 32 :=
  let arg2 : BitVec 32 := BitVec.ofNat 32 (i 2).val
  let c512_i32 : BitVec 32 := 512#32
  let v29 : BitVec 32 := Scalar.muli arg2 c512_i32
  v29
def k0_off7 (i : grid0.Coords) : Fin 2 → Nat :=
  let arg2 : BitVec 32 := BitVec.ofNat 32 (i 2).val
  let c512_i32 : BitVec 32 := 512#32
  let v29 : BitVec 32 := Scalar.muli arg2 c512_i32
  let v30 : BitVec 32 := v29
  let v31 : Index := Scalar.indexCast v30
  let c0_8 : Index := 0#32
  ![v31.toNat, 0]
def k0_off8 (i : grid0.Coords) : Fin 4 → Nat :=
  let c0_11 : Index := 0#32
  let c0_12 : Index := 0#32
  let c0_13 : Index := 0#32
  let arg2 : BitVec 32 := BitVec.ofNat 32 (i 2).val
  let c512_i32 : BitVec 32 := 512#32
  let v29 : BitVec 32 := Scalar.muli arg2 c512_i32
  let v30 : BitVec 32 := v29
  let v38 : Index := Scalar.indexCast v30
  ![0, 0, 0, v38.toNat]
def k0_off9 (i : grid0.Coords) : Fin 4 → Nat :=
  let c0_20 : Index := 0#32
  let c0_21 : Index := 0#32
  let c1 : Index := 1#32
  let arg2 : BitVec 32 := BitVec.ofNat 32 (i 2).val
  let c512_i32 : BitVec 32 := 512#32
  let v29 : BitVec 32 := Scalar.muli arg2 c512_i32
  let v30 : BitVec 32 := v29
  let v66 : Index := Scalar.indexCast v30
  ![0, 0, 1, v66.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.muli c3_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  ![arg0.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnFwdIdeal.lean ====
variable {F : FTy → Type} [FloatOps F] [Named F]
def κ : String → Option EReal := fun
  | "mask" => some ⊥
  | _ => none
-- ==== AttnFwdRefIdeal.lean ====
abbrev S4x2048x512 : Shape := ⟨3, ![4, 2048, 512]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x512 : Shape := ⟨2, ![8192, 512]⟩
abbrev S4x4x2x2048 : Shape := ⟨4, ![4, 4, 2, 2048]⟩
abbrev S4x4x2048x2 : Shape := ⟨4, ![4, 4, 2048, 2]⟩
abbrev S4x8192x2 : Shape := ⟨3, ![4, 8192, 2]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S4x2048x8x64, .f32⟩
  | .hbm, ⟨5, _⟩ => ⟨S4x8x2048x64, .f32⟩
  | .hbm, ⟨6, _⟩ => ⟨S_, .f32⟩
  | .hbm, ⟨7, _⟩ => ⟨S4x8x2048x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S4x8x2048x2048, .f32⟩
  | .hbm, ⟨14, _⟩ => ⟨S4x8x2048x1, .f32⟩
  | .hbm, ⟨15, _⟩ => ⟨S4x8x2048x2048, .f32⟩
  | .hbm, ⟨16, _⟩ => ⟨S4x8x2048x2048, .f32⟩
  | .hbm, ⟨17, _⟩ => ⟨S4x8x1x2048, .f32⟩
  | .hbm, ⟨18, _⟩ => ⟨S4x8x2048x2048, .f32⟩
  | .hbm, ⟨19, _⟩ => ⟨S4x8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x2048x64, .f32⟩
  | .hbm, ⟨47, _⟩ => ⟨S4x2048x8x64, .f32⟩
  | .hbm, ⟨48, _⟩ => ⟨S4x2048x512, .f32⟩
  | .hbm, ⟨49, _⟩ => ⟨S8192x512, .f32⟩
  | .hbm, ⟨50, _⟩ => ⟨S8192x512, .bf16⟩
  | .hbm, ⟨51, _⟩ => ⟨S4x2048x8x64, .f32⟩
  | .hbm, ⟨52, _⟩ => ⟨S4x8x2048x64, .f32⟩
  | .hbm, ⟨53, _⟩ => ⟨S_, .f32⟩
  | .hbm, ⟨54, _⟩ => ⟨S4x8x2048x64, .f32⟩
  | .hbm, ⟨55, _⟩ => ⟨S4x8x2048x64, .f32⟩
  | .hbm, ⟨56, _⟩ => ⟨S4x2048x8x64, .f32⟩
  | .hbm, ⟨57, _⟩ => ⟨S4x8x2048x64, .f32⟩
  | .hbm, ⟨58, _⟩ => ⟨S4x8x2048x2048, .f32⟩
  | .hbm, ⟨59, _⟩ => ⟨S4x8x1x2048, .f32⟩
  | .hbm, ⟨60, _⟩ => ⟨S4x8x2048x2048, .f32⟩
  | .hbm, ⟨61, _⟩ => ⟨S4x8x2048x2048, .f32⟩
  | .hbm, ⟨62, _⟩ => ⟨S2048, .i32⟩
  | .hbm, ⟨63, _⟩ => ⟨S1x2048, .i32⟩
  | .hbm, ⟨64, _⟩ => ⟨S2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S_, .f32⟩
  | .hbm, ⟨70, _⟩ => ⟨S_, .f32⟩
  | .hbm, ⟨71, _⟩ => ⟨S4x8x2048x2048, .i1⟩
  | .hbm, ⟨72, _⟩ => ⟨S4x8x2048x2048, .f32⟩
  | .hbm, ⟨73, _⟩ => ⟨S4x8x2048x2048, .f32⟩
  | .hbm, ⟨74, _⟩ => ⟨S4x8x2048x2048, .f32⟩
  | .hbm, ⟨75, _⟩ => ⟨S_, .f32⟩
  | .hbm, ⟨76, _⟩ => ⟨S4x8x2048, .f32⟩
  | .hbm, ⟨77, _⟩ => ⟨S4x8x2048, .f32⟩
  | .hbm, ⟨78, _⟩ => ⟨S4x4x2x2048, .f32⟩
  | .hbm, ⟨79, _⟩ => ⟨S4x4x2048x2, .f32⟩
  | .hbm, ⟨80, _⟩ => ⟨S4x8192x2, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== ForgetFwd.lean ====
abbrev S8192x8 : Shape := ⟨2, ![8192, 8]⟩
abbrev S1x8 : Shape := ⟨2, ![1, 8]⟩
abbrev S_ : Shape := ⟨0, ![]⟩
abbrev S8192x256 : Shape := ⟨2, ![8192, 256]⟩
abbrev S1x256 : Shape := ⟨2, ![1, 256]⟩
abbrev S4x8x2048 : Shape := ⟨3, ![4, 8, 2048]⟩
abbrev S2048x256 : Shape := ⟨2, ![2048, 256]⟩
abbrev S1x8x2048 : Shape := ⟨3, ![1, 8, 2048]⟩
abbrev S2048x128 : Shape := ⟨2, ![2048, 128]⟩
abbrev S1x128 : Shape := ⟨2, ![1, 128]⟩
abbrev S128x2048 : Shape := ⟨2, ![128, 2048]⟩
abbrev S8x2048 : Shape := ⟨2, ![8, 2048]⟩

abbrev nBuf : Space → Nat
  | .hbm => 9
  | .vmem => 5
  | .smem => 0
  | _ => 0

abbrev bufTy : (tb : Table) → Fin (tcTables nBuf tb) → BufTy
  | .hbm, ⟨0, _⟩ => ⟨S8192x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S8192x256, .f32⟩
  | .hbm, ⟨5, _⟩ => ⟨S_, .i32⟩
  | .hbm, ⟨6, _⟩ => ⟨S_, .f32⟩
  | .hbm, ⟨7, _⟩ => ⟨S1x256, .f32⟩
  | .hbm, ⟨8, _⟩ => ⟨S4x8x2048, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x8x2048, .f32⟩
  | .local _ .vmem, ⟨4, _⟩ => ⟨S1x8x2048, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ForgetFwdRefIdeal.lean ====
abbrev S8192x8 : Shape := ⟨2, ![8192, 8]⟩
abbrev S1x8 : Shape := ⟨2, ![1, 8]⟩
abbrev S4x2048x8 : Shape := ⟨3, ![4, 2048, 8]⟩
abbrev S1x1x8 : Shape := ⟨3, ![1, 1, 8]⟩
abbrev S_ : Shape := ⟨0, ![]⟩
abbrev S4x8x2048 : Shape := ⟨3, ![4, 8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S1x8, .f32⟩
  | .hbm, ⟨2, _⟩ => ⟨S4x2048x8, .f32⟩
  | .hbm, ⟨3, _⟩ => ⟨S1x1x8, .f32⟩
  | .hbm, ⟨4, _⟩ => ⟨S4x2048x8, .f32⟩
  | .hbm, ⟨5, _⟩ => ⟨S4x2048x8, .f32⟩
  | .hbm, ⟨6, _⟩ => ⟨S4x2048x8, .f32⟩
  | .hbm, ⟨7, _⟩ => ⟨S_, .f32⟩
  | .hbm, ⟨8, _⟩ => ⟨S4x2048x8, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .i1⟩
  | .hbm, ⟨13, _⟩ => ⟨S4x2048x8, .f32⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S_, .f32⟩
  | .hbm, ⟨24, _⟩ => ⟨S4x2048x8, .f32⟩
  | .hbm, ⟨25, _⟩ => ⟨S4x8x2048, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== ConvFwd.lean ====
abbrev S4x2048x512 : Shape := ⟨3, ![4, 2048, 512]⟩
abbrev S3x512 : Shape := ⟨2, ![3, 512]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S8192x512 : Shape := ⟨2, ![8192, 512]⟩
abbrev S2048x384 : Shape := ⟨2, ![2048, 384]⟩
abbrev S3x128 : Shape := ⟨2, ![3, 128]⟩
abbrev S2048x128 : Shape := ⟨2, ![2048, 128]⟩
abbrev S1x128 : Shape := ⟨2, ![1, 128]⟩

abbrev nBuf : Space → Nat
  | .hbm => 11
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S8192x4x1x128, .f32⟩
  | .hbm, ⟨5, _⟩ => ⟨S8192x4x1x128, .f32⟩
  | .hbm, ⟨6, _⟩ => ⟨S8192x4x1x128, .f32⟩
  | .hbm, ⟨7, _⟩ => ⟨S8192x4x3x128, .f32⟩
  | .hbm, ⟨8, _⟩ => ⟨S8192x1536, .f32⟩
  | .hbm, ⟨9, _⟩ => ⟨S8192x1536, .bf16⟩
  | .hbm, ⟨10, _⟩ => ⟨S8192x512, .bf16⟩
  | .local _ .vmem, ⟨0, _⟩ => ⟨S2048x384, .bf16⟩
  | .local _ .vmem, ⟨1, _⟩ => ⟨S2048x384, .bf16⟩
  | .local _ .vmem, ⟨2, _⟩ => ⟨S3x128, .f32⟩
  | .local _ .vmem, ⟨3, _⟩ => ⟨S3x128, .f32⟩
  | .local _ .vmem, ⟨4, _⟩ => ⟨S2048x128, .bf16⟩
  | .local _ .vmem, ⟨5, _⟩ => ⟨S2048x128, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdRefIdeal.lean ====
abbrev S4x2048x512 : Shape := ⟨3, ![4, 2048, 512]⟩
abbrev S3x512 : Shape := ⟨2, ![3, 512]⟩
abbrev S_ : Shape := ⟨0, ![]⟩
abbrev S4x2x512 : Shape := ⟨3, ![4, 2, 512]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S3x512, .f32⟩
  | .hbm, ⟨4, _⟩ => ⟨S4x2048x512, .f32⟩
  | .hbm, ⟨5, _⟩ => ⟨S_, .f32⟩
  | .hbm, ⟨6, _⟩ => ⟨S4x2x512, .f32⟩
  | .hbm, ⟨7, _⟩ => ⟨S4x2050x512, .f32⟩
  | .hbm, ⟨8, _⟩ => ⟨S4x2048x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S8192x512, .f32⟩
  | .hbm, ⟨30, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mm.lean ====
abbrev S8192x5376 : Shape := ⟨2, ![8192, 5376]⟩
abbrev S8192x1024 : Shape := ⟨2, ![8192, 1024]⟩
abbrev S5376x1024 : Shape := ⟨2, ![5376, 1024]⟩
abbrev S8192x256 : Shape := ⟨2, ![8192, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x5376, .f32⟩
  | .hbm, ⟨1, _⟩ => ⟨S8192x1024, .f32⟩
  | .hbm, ⟨2, _⟩ => ⟨S8192x5376, .bf16⟩
  | .hbm, ⟨3, _⟩ => ⟨S8192x1024, .bf16⟩
  | .hbm, ⟨4, _⟩ => ⟨S5376x1024, .f32⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![21, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmRefIdeal.lean ====
abbrev S8192x5376 : Shape := ⟨2, ![8192, 5376]⟩
abbrev S8192x1024 : Shape := ⟨2, ![8192, 1024]⟩
abbrev S_ : Shape := ⟨0, ![]⟩
abbrev S5376x1024 : Shape := ⟨2, ![5376, 1024]⟩
abbrev S1024x5376 : Shape := ⟨2, ![1024, 5376]⟩

abbrev nBuf : Space → Nat
  | .hbm => 9
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S8192x1024, .f32⟩
  | .hbm, ⟨2, _⟩ => ⟨S_, .f32⟩
  | .hbm, ⟨3, _⟩ => ⟨S5376x1024, .f32⟩
  | .hbm, ⟨4, _⟩ => ⟨S1024x5376, .f32⟩
  | .hbm, ⟨5, _⟩ => ⟨S8192x5376, .f32⟩
  | .hbm, ⟨6, _⟩ => ⟨S5376x1024, .f32⟩
  | .hbm, ⟨7, _⟩ => ⟨S1024x5376, .f32⟩
  | .hbm, ⟨8, _⟩ => ⟨S5376x1024, .f32⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchOut.lean ====
abbrev S8192x512 : Shape := ⟨2, ![8192, 512]⟩
abbrev S512x1024 : Shape := ⟨2, ![512, 1024]⟩
abbrev S8192x2048 : Shape := ⟨2, ![8192, 2048]⟩
abbrev S1024x512 : Shape := ⟨2, ![1024, 512]⟩
abbrev S1024x2048 : Shape := ⟨2, ![1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .f32⟩
  | .hbm, ⟨3, _⟩ => ⟨S512x1024, .f32⟩
  | .hbm, ⟨4, _⟩ => ⟨S8192x512, .bf16⟩
  | .hbm, ⟨5, _⟩ => ⟨S512x1024, .bf16⟩
  | .hbm, ⟨6, _⟩ => ⟨S8192x512, .bf16⟩
  | .hbm, ⟨7, _⟩ => ⟨S512x1024, .bf16⟩
  | .hbm, ⟨8, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BranchOutRefIdeal.lean ====
abbrev S8192x512 : Shape := ⟨2, ![8192, 512]⟩
abbrev S512x1024 : Shape := ⟨2, ![512, 1024]⟩
abbrev S8192x1024 : Shape := ⟨2, ![8192, 1024]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== BranchOutBwd.lean ====
abbrev S8192x2048 : Shape := ⟨2, ![8192, 2048]⟩
abbrev S512x1024 : Shape := ⟨2, ![512, 1024]⟩
abbrev S8192x512 : Shape := ⟨2, ![8192, 512]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S512x1024, .f32⟩
  | .hbm, ⟨2, _⟩ => ⟨S512x1024, .f32⟩
  | .hbm, ⟨3, _⟩ => ⟨S8192x2048, .bf16⟩
  | .hbm, ⟨4, _⟩ => ⟨S512x1024, .bf16⟩
  | .hbm, ⟨5, _⟩ => ⟨S512x1024, .bf16⟩
  | .hbm, ⟨6, _⟩ => ⟨S8192x512, .bf16⟩
  | .hbm, ⟨7, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BranchOutBwdRefIdeal.lean ====
abbrev S8192x2048 : Shape := ⟨2, ![8192, 2048]⟩
abbrev S512x1024 : Shape := ⟨2, ![512, 1024]⟩
abbrev S_ : Shape := ⟨0, ![]⟩
abbrev S8192x512 : Shape := ⟨2, ![8192, 512]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x1024, .f32⟩
  | .hbm, ⟨2, _⟩ => ⟨S512x1024, .f32⟩
  | .hbm, ⟨3, _⟩ => ⟨S_, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== BranchOutDw.lean ====
abbrev S8192x512 : Shape := ⟨2, ![8192, 512]⟩
abbrev S8192x2048 : Shape := ⟨2, ![8192, 2048]⟩
abbrev S512x1024 : Shape := ⟨2, ![512, 1024]⟩
abbrev S2048x512 : Shape := ⟨2, ![2048, 512]⟩
abbrev S2048x2048 : Shape := ⟨2, ![2048, 2048]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S8192x512, .bf16⟩
  | .hbm, ⟨4, _⟩ => ⟨S8192x512, .bf16⟩
  | .hbm, ⟨5, _⟩ => ⟨S8192x2048, .bf16⟩
  | .hbm, ⟨6, _⟩ => ⟨S512x1024, .f32⟩
  | .hbm, ⟨7, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .bf16⟩
  | .local _ .vmem, ⟨5, _⟩ => ⟨S2048x2048, .bf16⟩
  | .local _ .vmem, ⟨6, _⟩ => ⟨S512x1024, .f32⟩
  | .local _ .vmem, ⟨7, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BranchOutDwRefIdeal.lean ====
abbrev S8192x512 : Shape := ⟨2, ![8192, 512]⟩
abbrev S8192x2048 : Shape := ⟨2, ![8192, 2048]⟩
abbrev S_ : Shape := ⟨0, ![]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x512, .f32⟩
  | .hbm, ⟨10, _⟩ => ⟨S512x1024, .f32⟩
  | .hbm, ⟨11, _⟩ => ⟨S1024x512, .f32⟩
  | .hbm, ⟨12, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnUpBwd.lean ====
abbrev S8192x5632 : Shape := ⟨2, ![8192, 5632]⟩
abbrev S1024x5632 : Shape := ⟨2, ![1024, 5632]⟩
abbrev S8192x2816 : Shape := ⟨2, ![8192, 2816]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x2816, .f32⟩
  | .hbm, ⟨3, _⟩ => ⟨S8192x2816, .bf16⟩
  | .hbm, ⟨4, _⟩ => ⟨S8192x2816, .f32⟩
  | .hbm, ⟨5, _⟩ => ⟨S8192x2816, .bf16⟩
  | .hbm, ⟨6, _⟩ => ⟨S1024x5632, .bf16⟩
  | .hbm, ⟨7, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .bf16⟩
  | .local _ .vmem, ⟨7, _⟩ => ⟨S512x1024, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpBwdRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S8192x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Project.lean ====
abbrev S8192x1024 : Shape := ⟨2, ![8192, 1024]⟩
abbrev S1024x5128 : Shape := ⟨2, ![1024, 5128]⟩
abbrev S5128x1024 : Shape := ⟨2, ![5128, 1024]⟩
abbrev S1536x1024 : Shape := ⟨2, ![1536, 1024]⟩
abbrev S3x4x128x1024 : Shape := ⟨4, ![3, 4, 128, 1024]⟩
abbrev S4x3x128x1024 : Shape := ⟨4, ![4, 3, 128, 1024]⟩
abbrev S8x1024 : Shape := ⟨2, ![8, 1024]⟩
abbrev S_ : Shape := ⟨0, ![]⟩
abbrev S256x1024 : Shape := ⟨2, ![256, 1024]⟩
abbrev S2048x1024 : Shape := ⟨2, ![2048, 1024]⟩
abbrev S5376x1024 : Shape := ⟨2, ![5376, 1024]⟩
abbrev S8192x1536 : Shape := ⟨2, ![8192, 1536]⟩
abbrev S8192x2048 : Shape := ⟨2, ![8192, 2048]⟩
abbrev S8192x256 : Shape := ⟨2, ![8192, 256]⟩
abbrev S512x1024 : Shape := ⟨2, ![512, 1024]⟩
abbrev S512x1536 : Shape := ⟨2, ![512, 1536]⟩
abbrev S512x2048 : Shape := ⟨2, ![512, 2048]⟩
abbrev S512x256 : Shape := ⟨2, ![512, 256]⟩

abbrev nBuf : Space → Nat
  | .hbm => 23
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x5128, .f32⟩
  | .hbm, ⟨2, _⟩ => ⟨S5128x1024, .f32⟩
  | .hbm, ⟨3, _⟩ => ⟨S5128x1024, .bf16⟩
  | .hbm, ⟨4, _⟩ => ⟨S1536x1024, .bf16⟩
  | .hbm, ⟨5, _⟩ => ⟨S3x4x128x1024, .bf16⟩
  | .hbm, ⟨6, _⟩ => ⟨S4x3x128x1024, .bf16⟩
  | .hbm, ⟨7, _⟩ => ⟨S1536x1024, .bf16⟩
  | .hbm, ⟨8, _⟩ => ⟨S1536x1024, .bf16⟩
  | .hbm, ⟨9, _⟩ => ⟨S3x4x128x1024, .bf16⟩
  | .hbm, ⟨10, _⟩ => ⟨S4x3x128x1024, .bf16⟩
  | .hbm, ⟨11, _⟩ => ⟨S1536x1024, .bf16⟩
  | .hbm, ⟨12, _⟩ => ⟨S8x1024, .bf16⟩
  | .hbm, ⟨13, _⟩ => ⟨S_, .i32⟩
  | .hbm, ⟨14, _⟩ => ⟨S_, .bf16⟩
  | .hbm, ⟨15, _⟩ => ⟨S256x1024, .bf16⟩
  | .hbm, ⟨16, _⟩ => ⟨S2048x1024, .bf16⟩
  | .hbm, ⟨17, _⟩ => ⟨S5376x1024, .bf16⟩
  | .hbm, ⟨18, _⟩ => ⟨S8192x1024, .bf16⟩
  | .hbm, ⟨19, _⟩ => ⟨S8192x1536, .bf16⟩
  | .hbm, ⟨20, _⟩ => ⟨S8192x1536, .bf16⟩
  | .hbm, ⟨21, _⟩ => ⟨S8192x2048, .bf16⟩
  | .hbm, ⟨22, _⟩ => ⟨S8192x256, .f32⟩
  | .local _ .vmem, ⟨0, _⟩ => ⟨S512x1024, .bf16⟩
  | .local _ .vmem, ⟨1, _⟩ => ⟨S512x1024, .bf16⟩
  | .local _ .vmem, ⟨2, _⟩ => ⟨S5376x1024, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x2048, .bf16⟩
  | .local _ .vmem, ⟨8, _⟩ => ⟨S512x2048, .bf16⟩
  | .local _ .vmem, ⟨9, _⟩ => ⟨S512x256, .f32⟩
  | .local _ .vmem, ⟨10, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectRefIdeal.lean ====
abbrev S8192x1024 : Shape := ⟨2, ![8192, 1024]⟩
abbrev S1024x5128 : Shape := ⟨2, ![1024, 5128]⟩
abbrev S8192x5128 : Shape := ⟨2, ![8192, 5128]⟩
abbrev S8192x512 : Shape := ⟨2, ![8192, 512]⟩
abbrev S8192x8 : Shape := ⟨2, ![8192, 8]⟩
abbrev S8192x2048 : Shape := ⟨2, ![8192, 2048]⟩
abbrev S_ : Shape := ⟨0, ![]⟩
abbrev S8192x248 : Shape := ⟨2, ![8192, 248]⟩
abbrev S8192x256 : Shape := ⟨2, ![8192, 256]⟩
abbrev S8192x4x128 : Shape := ⟨3, ![8192, 4, 128]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5128, .f32⟩
  | .hbm, ⟨2, _⟩ => ⟨S8192x5128, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x8, .f32⟩
  | .hbm, ⟨10, _⟩ => ⟨S8192x2048, .f32⟩
  | .hbm, ⟨11, _⟩ => ⟨S_, .f32⟩
  | .hbm, ⟨12, _⟩ => ⟨S8192x248, .f32⟩
  | .hbm, ⟨13, _⟩ => ⟨S8192x256, .f32⟩
  | .hbm, ⟨14, _⟩ => ⟨S8192x4x128, .f32⟩
  | .hbm, ⟨15, _⟩ => ⟨S8192x4x128, .f32⟩
  | .hbm, ⟨16, _⟩ => ⟨S8192x4x128, .f32⟩
  | .hbm, ⟨17, _⟩ => ⟨S8192x4x1x128, .f32⟩
  | .hbm, ⟨18, _⟩ => ⟨S8192x4x1x128, .f32⟩
  | .hbm, ⟨19, _⟩ => ⟨S8192x4x1x128, .f32⟩
  | .hbm, ⟨20, _⟩ => ⟨S8192x4x3x128, .f32⟩
  | .hbm, ⟨21, _⟩ => ⟨S8192x1536, .f32⟩
  | .hbm, ⟨22, _⟩ => ⟨S8192x1536, .bf16⟩
  | .hbm, ⟨23, _⟩ => ⟨S8192x4x128, .f32⟩
  | .hbm, ⟨24, _⟩ => ⟨S8192x4x128, .f32⟩
  | .hbm, ⟨25, _⟩ => ⟨S8192x4x128, .f32⟩
  | .hbm, ⟨26, _⟩ => ⟨S8192x4x1x128, .f32⟩
  | .hbm, ⟨27, _⟩ => ⟨S8192x4x1x128, .f32⟩
  | .hbm, ⟨28, _⟩ => ⟨S8192x4x1x128, .f32⟩
  | .hbm, ⟨29, _⟩ => ⟨S8192x4x3x128, .f32⟩
  | .hbm, ⟨30, _⟩ => ⟨S8192x1536, .f32⟩
  | .hbm, ⟨31, _⟩ => ⟨S8192x1536, .bf16⟩
  | .hbm, ⟨32, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== AdamW.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DeviceSum.lean ====
abbrev S1536x128 : Shape := ⟨2, ![1536, 128]⟩
abbrev S192x128 : Shape := ⟨2, ![192, 128]⟩

abbrev nBuf : Space → Nat
  | .hbm => 2
  | .vmem => 2
  | .smem => 0
  | _ => 0

abbrev bufTy : (tb : Table) → Fin (tcTables nBuf tb) → BufTy
  | .hbm, ⟨0, _⟩ => ⟨S1536x128, .f32⟩
  | .hbm, ⟨1, _⟩ => ⟨S192x128, .f32⟩
  | .local _ .vmem, ⟨0, _⟩ => ⟨S1536x128, .f32⟩
  | .local _ .vmem, ⟨1, _⟩ => ⟨S192x128, .f32⟩
  | _, _ => ⟨S1536x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DeviceSumRefIdeal.lean ====
abbrev S1536x128 : Shape := ⟨2, ![1536, 128]⟩
abbrev S8x192x128 : Shape := ⟨3, ![8, 192, 128]⟩
abbrev S_ : Shape := ⟨0, ![]⟩
abbrev S192x128 : Shape := ⟨2, ![192, 128]⟩

abbrev nBuf : Space → Nat
  | .hbm => 4
  | .vmem => 0
  | .smem => 0
  | _ => 0

abbrev bufTy : (tb : Table) → Fin (tcTables nBuf tb) → BufTy
  | .hbm, ⟨0, _⟩ => ⟨S1536x128, .f32⟩
  | .hbm, ⟨1, _⟩ => ⟨S8x192x128, .f32⟩
  | .hbm, ⟨2, _⟩ => ⟨S_, .f32⟩
  | .hbm, ⟨3, _⟩ => ⟨S192x128, .f32⟩
  | _, _ => ⟨S1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PairSum.lean ====
abbrev S5 : Shape := ⟨1, ![5]⟩
abbrev S4x1024x1408 : Shape := ⟨3, ![4, 1024, 1408]⟩
abbrev S4x512x1408 : Shape := ⟨3, ![4, 512, 1408]⟩
abbrev S3x512x1408 : Shape := ⟨3, ![3, 512, 1408]⟩
abbrev S1x512x1408 : Shape := ⟨3, ![1, 512, 1408]⟩
abbrev S1 : Shape := ⟨1, ![1]⟩
abbrev S512x1408 : Shape := ⟨2, ![512, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S3x512x1408, .bf16⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .bf16⟩
  | .local _ .vmem, ⟨5, _⟩ => ⟨S1x512x1408, .bf16⟩
  | .local _ .smem, ⟨0, _⟩ => ⟨S5, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.addi c2_i32 arg0
  let v1 : Index := Scalar.indexCast v0
  ![v1.toNat]
def cc0_transform_0 (k0_off1_inb : ∀ i : grid0.Coords, ∀ a, (k0_off1 i) a + S1.size a ≤ S5.size a) (numel1_S1 : S1.numel = 1) (inb_S5_S1_1 : ∀ a, (![1] : Fin 1 → Nat) a + S1.size a ≤ S5.size a) (pf : pre0.Contents (Elt F)) (i : grid0.Coords) : Fin 3 → Nat :=
  let arg0 : BitVec 32 := BitVec.ofNat 32 (i 0).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c1 : Index := 1#32
  let v3 : BitVec 32 := pf.at 0 (Rect.unit (s := S5) ![1] S1.size inb_S5_S1_1) numel1_S1
  let c0_i32 : BitVec 32 := 0#32
  let c0_i32_0 : BitVec 32 := 0#32
  ![v2.toNat, v3.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.addi c2_i32 arg0
  let v1 : Index := Scalar.indexCast v0
  let v2 : BitVec 32 := pf.at 0 (Rect.unit (s := S5) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumRefIdeal.lean ====
abbrev S5 : Shape := ⟨1, ![5]⟩
abbrev S4x1024x1408 : Shape := ⟨3, ![4, 1024, 1408]⟩
abbrev S4x512x1408 : Shape := ⟨3, ![4, 512, 1408]⟩
abbrev S4x2x512x1408 : Shape := ⟨4, ![4, 2, 512, 1408]⟩
abbrev S1 : Shape := ⟨1, ![1]⟩
abbrev S_ : Shape := ⟨0, ![]⟩
abbrev S3 : Shape := ⟨1, ![3]⟩
abbrev S3x1 : Shape := ⟨2, ![3, 1]⟩
abbrev S3x512x1408 : Shape := ⟨3, ![3, 512, 1408]⟩

abbrev nBuf : Space → Nat
  | .hbm => 13
  | .vmem => 0
  | .smem => 0
  | _ => 0

abbrev bufTy : (tb : Table) → Fin (tcTables nBuf tb) → BufTy
  | .hbm, ⟨0, _⟩ => ⟨S5, .i32⟩
  | .hbm, ⟨1, _⟩ => ⟨S4x1024x1408, .f32⟩
  | .hbm, ⟨2, _⟩ => ⟨S4x512x1408, .f32⟩
  | .hbm, ⟨3, _⟩ => ⟨S4x2x512x1408, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S4x512x1408, .f32⟩
  | .hbm, ⟨8, _⟩ => ⟨S4x512x1408, .f32⟩
  | .hbm, ⟨9, _⟩ => ⟨S3, .i32⟩
  | .hbm, ⟨10, _⟩ => ⟨S3x1, .i32⟩
  | .hbm, ⟨11, _⟩ => ⟨S3x512x1408, .f32⟩
  | .hbm, ⟨12, _⟩ => ⟨S3x512x1408, .bf16⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== ChipSum.lean ====
abbrev S5 : Shape := ⟨1, ![5]⟩
abbrev S4x1024x1408 : Shape := ⟨3, ![4, 1024, 1408]⟩
abbrev S4x512x1408 : Shape := ⟨3, ![4, 512, 1408]⟩
abbrev S3x512x1408 : Shape := ⟨3, ![3, 512, 1408]⟩
abbrev S1024x1408 : Shape := ⟨2, ![1024, 1408]⟩
abbrev S1x512x1408 : Shape := ⟨3, ![1, 512, 1408]⟩
abbrev S1 : Shape := ⟨1, ![1]⟩
abbrev S512x1408 : Shape := ⟨2, ![512, 1408]⟩

abbrev nBuf : Space → Nat
  | .hbm => 4
  | .vmem => 4
  | .smem => 1
  | _ => 0

abbrev bufTy : (tb : Table) → Fin (tcTables nBuf tb) → BufTy
  | .hbm, ⟨0, _⟩ => ⟨S4x1024x1408, .f32⟩
  | .hbm, ⟨1, _⟩ => ⟨S4x512x1408, .f32⟩
  | .hbm, ⟨2, _⟩ => ⟨S3x512x1408, .bf16⟩
  | .hbm, ⟨3, _⟩ => ⟨S1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S3x512x1408, .bf16⟩
  | .local _ .vmem, ⟨3, _⟩ => ⟨S512x1408, .f32⟩
  | .local _ .smem, ⟨0, _⟩ => ⟨S5, .i32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (inb_S5_S1_1 : ∀ a, (![1] : Fin 1 → Nat) a + S1.size a ≤ S5.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c1 : Index := 1#32
  let v1 : BitVec 32 := pf.at 0 (Rect.unit (s := S5) ![1] S1.size inb_S5_S1_1) numel1_S1
  let c0_i32 : BitVec 32 := 0#32
  let c0_i32_0 : BitVec 32 := 0#32
  ![v0.toNat, v1.toNat, c0_i32.toNat]

def cc0_transform_1 (inb_S5_S1_0 : ∀ a, (![0] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S5) ![0] S1.size inb_S5_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (inb_S5_S1_1 : ∀ a, (![1] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, c0_i32.toNat]

abbrev stage0_0 : Fin 1 → Memref sig .tc .vmem S1x512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ChipSumRefIdeal.lean ====
abbrev S5 : Shape := ⟨1, ![5]⟩
abbrev S4x1024x1408 : Shape := ⟨3, ![4, 1024, 1408]⟩
abbrev S4x512x1408 : Shape := ⟨3, ![4, 512, 1408]⟩
abbrev S3x512x1408 : Shape := ⟨3, ![3, 512, 1408]⟩
abbrev S4x2x512x1408 : Shape := ⟨4, ![4, 2, 512, 1408]⟩
abbrev S1 : Shape := ⟨1, ![1]⟩
abbrev S_ : Shape := ⟨0, ![]⟩
abbrev S512x1408 : Shape := ⟨2, ![512, 1408]⟩
abbrev S1024x1408 : Shape := ⟨2, ![1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S5, .i32⟩
  | .hbm, ⟨1, _⟩ => ⟨S4x1024x1408, .f32⟩
  | .hbm, ⟨2, _⟩ => ⟨S4x512x1408, .f32⟩
  | .hbm, ⟨3, _⟩ => ⟨S3x512x1408, .bf16⟩
  | .hbm, ⟨4, _⟩ => ⟨S4x2x512x1408, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S4x512x1408, .f32⟩
  | .hbm, ⟨9, _⟩ => ⟨S4x512x1408, .f32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S512x1408, .f32⟩
  | .hbm, ⟨14, _⟩ => ⟨S3x512x1408, .f32⟩
  | .hbm, ⟨15, _⟩ => ⟨S_, .f32⟩
  | .hbm, ⟨16, _⟩ => ⟨S512x1408, .f32⟩
  | .hbm, ⟨17, _⟩ => ⟨S512x1408, .f32⟩
  | .hbm, ⟨18, _⟩ => ⟨S1024x1408, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Reals.lean ====
/- Real numbers inside the extended reals: what the exact operations give on finite values. Every value proof here
   reads both programs as coercions of real expressions and compares those. -/
module

public import Idealize.ShloMosaic.Lib.Pipeline.ValueKit
public import Idealize.ShloMosaic.Lib.IdealHost
public import Idealize.ShloMosaic.Lib.Pointwise

@[expose] public section

set_option maxRecDepth 16384

noncomputable section

open Idealize.ShloMosaic

namespace Cert.Reals

/-- A finite sum of real numbers, taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division of real numbers, off zero. -/
theorem div_real {x y : ℝ} (h : y ≠ 0) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The word of `+∞`. -/
theorem ofBits_inf : Ideal.ofBits .f32 0x7F800000#32 = ⊤ := by simp [Ideal.ofBits, Ideal.ieee]

/-- `|x| < +∞` says that `x` is a real number. -/
theorem of_finite {x : EReal} (h : Ideal.cmp .olt (max x (-x)) (Ideal.ofBits .f32 0x7F800000#32) = 1#1) :
    ∃ r : ℝ, x = (r : EReal) := by
  rw [ofBits_inf] at h
  induction x with
  | bot => simp [Ideal.cmp] at h
  | top => simp [Ideal.cmp] at h
  | coe r => exact ⟨r, rfl⟩

/-- An array of finite extended reals is an array of real numbers. -/
theorem reals_of {ι : Type*} {x : ι → EReal} (h : ∀ i, ∃ r : ℝ, x i = (r : EReal)) : ∃ X : ι → ℝ, ∀ i, x i = (X i : EReal) :=
  ⟨fun i => (h i).choose, fun i => (h i).choose_spec⟩

end Cert.Reals
-- ==== Proof.RmsBwdMath.lean ====
/- The gradient of one row of the root-mean-square norm over the real numbers, and both programs' rows read as it. -/
module

public import proofs.«01_k».proof.Proof.Reals
public import proofs.«01_k».proof.Proof.Gen.RmsBwdIdeal.Skeleton
public import proofs.«01_k».proof.Proof.Gen.RmsBwdRefIdeal.Read

@[expose] public section

set_option maxRecDepth 16384

noncomputable section

open Idealize.ShloMosaic Cert.Reals

namespace Cert.RmsNorm

/-- `ε`: the number the word `0x358637BD` denotes, near `1e-6`. -/
def eps : ℝ := 8796093 * 2 ^ (-43 : ℤ)

theorem eps_pos : 0 < eps := by unfold eps; positivity

theorem eps_eq : Ideal.ofBits .f32 0x358637BD#32 = (eps : EReal) := by
  unfold eps
  simp [Ideal.ofBits, Ideal.ieee, -EReal.coe_mul]

theorem d_eq : Ideal.ofBits .f32 0x44800000#32 = ((1024 : ℝ) : EReal) := by
  simp [Ideal.ofBits, Ideal.ieee, -EReal.coe_mul]; norm_num

theorem neg_half : Ideal.ofBits .f32 0xBF000000#32 = ((-(1/2) : ℝ) : EReal) := by
  simp [Ideal.ofBits, Ideal.ieee, -EReal.coe_mul, -EReal.coe_neg]; norm_num

/-- The reciprocal root mean square of a row. -/
def rr (x : Fin 1024 → ℝ) : ℝ := (Real.sqrt ((∑ k, x k * x k) / 1024 + eps))⁻¹

theorem arg_pos (x : Fin 1024 → ℝ) : 0 < (∑ k, x k * x k) / 1024 + eps :=
  add_pos_of_nonneg_of_pos (div_nonneg (Finset.sum_nonneg fun k _ => mul_self_nonneg _) (by norm_num)) eps_pos

/-- One entry of the row's gradient: `x` the row, `d` the incoming gradient, `g` the gain. -/
def dx (x d g : Fin 1024 → ℝ) (c : Fin 1024) : ℝ :=
  rr x * (d c * g c - x c * rr x * ((∑ k, d k * g k * (x k * rr x)) / 1024))

section Kernel
open Cert.RmsBwdIdeal Cert.RmsBwdIdeal.Gen

variable (x : FVec Ideal S512x1024 .f32) (d : FVec Ideal S512x1024 .bf16) (g : FVec Ideal S1x1024 .f32) (res : FVec Ideal S512x1024 .f32)
  (X D : Fin 512 → Fin 1024 → ℝ) (G : Fin 1024 → ℝ)

theorem pay2_real (hx : ∀ r c, x (ix2 r c) = (X r c : EReal)) (r : Fin 512) : k0_pay2 (F := Ideal) x (ix2 r 0) = (rr (X r) : EReal) := by
  pointwise [k0_pay2]
  simp only [hx, ← EReal.coe_mul, coe_sum, d_eq, eps_eq]
  rw [div_real (by norm_num), ← EReal.coe_add, rsqrt_real (arg_pos _)]
  rfl

theorem pay3_real (hx : ∀ r c, x (ix2 r c) = (X r c : EReal)) (r : Fin 512) (c : Fin 1024) :
    k0_pay3 (F := Ideal) x (ix2 r c) = ((X r c * rr (X r) : ℝ) : EReal) := by
  pointwise [k0_pay3]
  rw [pay2_real x X hx, hx, ← EReal.coe_mul]

theorem pay5_real (hx : ∀ r c, x (ix2 r c) = (X r c : EReal)) (hd : ∀ r c, d (ix2 r c) = (D r c : EReal))
    (hg : ∀ c, g (ix2 0 c) = (G c : EReal)) (r : Fin 512) (c : Fin 1024) :
    k0_pay5 (F := Ideal) x d g res (ix2 r c) = res (ix2 r c) + (dx (X r) (D r) G c : EReal) := by
  pointwise [k0_pay5, k0_pay4]
  simp only [pay2_real x X hx, pay3_real x X hx, hd, hg, ← EReal.coe_mul, coe_sum, d_eq]
  rw [div_real (by norm_num), ← EReal.coe_mul, ← EReal.coe_sub, ← EReal.coe_mul]
  rfl

theorem pay8_real (hx : ∀ r c, x (ix2 r c) = (X r c : EReal)) (hd : ∀ r c, d (ix2 r c) = (D r c : EReal)) (c : Fin 1024) :
    k0_pay8 (F := Ideal) x d (ix2 0 c) = ((∑ r, D r c * (X r c * rr (X r)) : ℝ) : EReal) := by
  pointwise [k0_pay8, k0_pay4]
  simp only [pay3_real x X hx, hd, ← EReal.coe_mul, coe_sum]

end Kernel

section Reference
open Cert.RmsBwdRefIdeal Cert.RmsBwdRefIdeal.Gen Cert.RmsBwdRefIdeal.Read

variable (x : FVec Ideal S8192x1024 .f32) (d : FVec Ideal S8192x1024 .bf16) (g : FVec Ideal S1x1024 .f32) (res : FVec Ideal S8192x1024 .f32)
  (X D : Fin 8192 → Fin 1024 → ℝ) (G : Fin 1024 → ℝ)

theorem v6_real (hx : ∀ r c, x (ix2 r c) = (X r c : EReal)) (r : Fin 8192) :
    val_main_v6 (F := Ideal) x (ix2 r 0) = (((∑ k, X r k * X r k) / 1024 + eps : ℝ) : EReal) := by
  pointwise [val_main_v6, val_main_v5, val_main_v4, val_main_v3, val_main_v2, val_main_v1, val_main_v0, val_main_cst, val_main_cst_0, val_main_cst_1]
  simp only [hx, ← EReal.coe_mul, coe_sum, d_eq, eps_eq]
  rw [div_real (by norm_num), ← EReal.coe_add]

theorem v7_real (hx : ∀ r c, x (ix2 r c) = (X r c : EReal)) (r : Fin 8192) :
    val_main_v7 (F := Ideal) x (ix2 r 0) = (rr (X r) : EReal) := by
  pointwise [val_main_v7]
  rw [v6_real x X hx, rsqrt_real (arg_pos _)]
  rfl

theorem v31_real (hx : ∀ r c, x (ix2 r c) = (X r c : EReal)) (hd : ∀ r c, d (ix2 r c) = (D r c : EReal))
    (hg : ∀ c, g (ix2 0 c) = (G c : EReal)) (r : Fin 8192) (c : Fin 1024) :
    val_main_v31 (F := Ideal) x d g (ix2 r c)
      = (((∑ k, X r k * (D r k * G k)) * (-(1/2) * (rr (X r) / ((∑ k, X r k * X r k) / 1024 + eps))) / 1024 : ℝ) : EReal) := by
  pointwise [val_main_v31, val_main_v30, val_main_v29, val_main_v28, val_main_v27, val_main_v23, val_main_v22, val_main_v21,
    val_main_v20, val_main_v19, val_main_v15, val_main_v10, val_main_v9, val_main_v8, val_main_cst_2, val_main_cst_4, val_main_cst_5, val_main_cst_6]
  simp only [Fin.sum_univ_one, v6_real x X hx, v7_real x X hx, hx, hd, hg, ← EReal.coe_mul, coe_sum, d_eq, neg_half]
  rw [div_real (arg_pos _).ne', ← EReal.coe_mul, ← EReal.coe_mul, div_real (by norm_num)]

theorem v35_real (hx : ∀ r c, x (ix2 r c) = (X r c : EReal)) (hd : ∀ r c, d (ix2 r c) = (D r c : EReal))
    (hg : ∀ c, g (ix2 0 c) = (G c : EReal)) (r : Fin 8192) (c : Fin 1024) :
    val_main_v35 (F := Ideal) x d g res (ix2 r c) = res (ix2 r c) + (dx (X r) (D r) G c : EReal) := by
  pointwise [val_main_v35, val_main_v34, val_main_v33, val_main_v32, val_main_v26, val_main_v25, val_main_v24, val_main_v20, val_main_v19, val_main_v15]
  simp only [v7_real x X hx, v31_real x d g X D G hx hd hg, hx, hd, hg, ← EReal.coe_mul]
  rw [add_assoc, add_assoc, ← EReal.coe_add, ← EReal.coe_add]
  congr 2
  have h1 : rr (X r) / ((∑ k, X r k * X r k) / 1024 + eps) = rr (X r) ^ 3 := by
    unfold rr
    rw [inv_pow, pow_succ, Real.sq_sqrt (arg_pos _).le, mul_inv, div_eq_mul_inv, mul_comm]
  have h2 : (∑ k, D r k * G k * (X r k * rr (X r))) = (∑ k, X r k * (D r k * G k)) * rr (X r) := by
    rw [Finset.sum_mul]; exact Finset.sum_congr rfl fun k _ => by ring
  unfold dx
  rw [h1, h2]
  ring

theorem v18_real (hx : ∀ r c, x (ix2 r c) = (X r c : EReal)) (hd : ∀ r c, d (ix2 r c) = (D r c : EReal)) (c : Fin 1024) :
    val_main_v18 (F := Ideal) x d (ix2 0 c) = ((∑ r, D r c * (X r c * rr (X r)) : ℝ) : EReal) := by
  pointwise [val_main_v18, val_main_v17, val_main_v16, val_main_v15, val_main_v12, val_main_v11, val_main_cst_3]
  simp only [v7_real x X hx, hx, hd, ← EReal.coe_mul, coe_sum]
  congr 1
  exact Finset.sum_congr rfl fun r _ => by ring

end Reference

end Cert.RmsNorm
-- ==== Proof.RmsBwdValue.lean ====
/- The two results of the root-mean-square norm's backward kernel, as arrays of its arguments: each is what the
   reference computes, when the row, the gain and the incoming gradient are finite. -/
module

public import proofs.«01_k».proof.Proof.RmsBwdMath
public import proofs.«01_k».proof.Proof.Gen.RmsBwdIdeal.Value
public import proofs.«01_k».proof.Proof.Gen.RmsBwdRefIdeal.Run
public import proofs.«01_k».proof.Defs

@[expose] public section

set_option maxRecDepth 16384

noncomputable section

open Idealize.ShloMosaic Idealize.ShloMosaic.TcCoe Idealize.SL.Sem Cert.Reals
open Idealize.ShloMosaic.Pipeline (Dat)

namespace Cert.RmsBwdIdeal.Value

open Cert.RmsBwdIdeal Cert.RmsBwdIdeal.Gen Cert.RmsNorm

variable (m : (ℓ : Loc nD τ sig) → Buf (Elt Ideal) ℓ)

/-- The four argument arrays of device `c`. -/
abbrev ax (c : Dev nD) : FVec Ideal S8192x1024 .f32 := m ((c : Thread nD τ).loc main_arg0)
abbrev ad (c : Dev nD) : FVec Ideal S8192x1024 .bf16 := m ((c : Thread nD τ).loc main_arg1)
abbrev ag (c : Dev nD) : FVec Ideal S1x1024 .f32 := m ((c : Thread nD τ).loc main_arg2)
abbrev ar (c : Dev nD) : FVec Ideal S8192x1024 .f32 := m ((c : Thread nD τ).loc main_arg3)

/-- Where each window's block sits: the rows move with the point, the gain and its gradient stay. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ t.val < 16 :=
  (by decide +kernel : ∀ t : Fin grid0.N, _)

section Blocks
variable (c : Dev nD) (t : Fin cfg0.N)

theorem row_lt (r : Fin 512) : t.val * 512 + r.val < 8192 := by
  have := (idx t).2.2.2.2.2.2; omega

/-- Row `r` of point `t`'s blocks is row `512 t + r` of the arrays. -/
abbrev row (r : Fin 512) : Fin 8192 := ⟨t.val * 512 + r.val, row_lt t r⟩

theorem blk0 (r : Fin 512) (k : Fin 1024) : (show FVec Ideal S512x1024 .f32 from iblk m c 0 t) (ix2 r k) = ax m c (ix2 (row t r) k) := by
  blk_point [iblk, V, idx t]

theorem blk1 (r : Fin 512) (k : Fin 1024) : (show FVec Ideal S512x1024 .bf16 from iblk m c 1 t) (ix2 r k) = ad m c (ix2 (row t r) k) := by
  blk_point [iblk, V, idx t]

theorem blk2 (k : Fin 1024) : (show FVec Ideal S1x1024 .f32 from iblk m c 2 t) (ix2 0 k) = ag m c (ix2 0 k) := by
  blk_point [iblk, V, idx t]

theorem blk3 (r : Fin 512) (k : Fin 1024) : (show FVec Ideal S512x1024 .f32 from iblk m c 3 t) (ix2 r k) = ar m c (ix2 (row t r) k) := by
  blk_point [iblk, V, idx t]

end Blocks

variable (X D : Dev nD → Fin 8192 → Fin 1024 → ℝ) (G : Dev nD → Fin 1024 → ℝ)
variable (hx : ∀ c r k, ax m c (ix2 r k) = (X c r k : EReal)) (hd : ∀ c r k, ad m c (ix2 r k) = (D c r k : EReal))
variable (hg : ∀ c k, ag m c (ix2 0 k) = (G c k : EReal))

include hx hd hg in
/-- The gradient of the rows. -/
theorem final4 (c : Dev nD) : (dats m 0 c).arrAt 4 cfg0.N
    = Cert.RmsBwdRefIdeal.Read.val_main_v35 (F := Ideal) (ax m c) (ad m c) (ag m c) (ar m c) := by
  refine (dats m 0 c).arrAt_eq_of_covers 4 _ (by decide +kernel) fun t _ y => ?_
  blk_simp
  have key : k0_pay5 (F := Ideal) (iblk m c 0 t) (iblk m c 1 t) (iblk m c 2 t) (iblk m c 3 t) y
      = Cert.RmsBwdRefIdeal.Read.val_main_v35 (F := Ideal) (ax m c) (ad m c) (ag m c) (ar m c) (((cfg0.win 4).blk t).view.emb y) := by
    obtain ⟨r, k, rfl⟩ : ∃ (r : Fin 512) (k : Fin 1024), y = ix2 r k := ⟨y 0, y 1, eq_ix2 y⟩
    have he : (((cfg0.win 4).blk t).view.emb (ix2 r k)) = (ix2 (row t r) k : S8192x1024.Idx) := by blk_ext [idx t]
    rw [he, v35_real (ax m c) (ad m c) (ag m c) (ar m c) (X c) (D c) (G c) (hx c) (hd c) (hg c),
      pay5_real (iblk m c 0 t) (iblk m c 1 t) (iblk m c 2 t) (iblk m c 3 t) (fun r => X c (row t r)) (fun r => D c (row t r)) (G c)
        (fun r k => (blk0 m c t r k).trans (hx c _ k)) (fun r k => (blk1 m c t r k).trans (hd c _ k)) (fun k => (blk2 m c t k).trans (hg c k))]
    rw [← blk3]
  rw [after0_4]
  by_cases h : t.val % 16 = 0
  · rw [outsAt0_A m c t h]; frame_out; exact key
  · rw [outsAt0_B m c t h]; frame_out; exact key

theorem pay6_zero (j : S1x1024.Idx) : k0_pay6 (F := Ideal) j = (0 : EReal) := by pointwise [k0_pay6]

include hx hd in
/-- The gradient of the gain: the sixteen points' partial sums added up. -/
theorem final5 (c : Dev nD) : (dats m 0 c).arrAt 5 cfg0.N = Cert.RmsBwdRefIdeal.Read.val_main_v18 (F := Ideal) (ax m c) (ad m c) := by
  have part : ∀ (t : Fin cfg0.N) (k : Fin 1024), k0_pay8 (F := Ideal) (iblk m c 0 t) (iblk m c 1 t) (ix2 0 k)
      = ∑ r : Fin 512, ((D c (row t r) k * (X c (row t r) k * rr (X c (row t r))) : ℝ) : EReal) := fun t k =>
    (pay8_real (iblk m c 0 t) (iblk m c 1 t) (fun r => X c (row t r)) (fun r => D c (row t r))
        (fun r k => (blk0 m c t r k).trans (hx c _ k)) (fun r k => (blk1 m c t r k).trans (hd c _ k)) k).trans (coe_sum _ _).symm
  refine (dats m 0 c).arrAt_eq_of_after_last 5 t0_15 (by decide +kernel) _ fun j => ?_
  blk_simp
  obtain ⟨k, rfl⟩ : ∃ k : Fin 1024, j = ix2 0 k := ⟨j 1, by rw [eq_ix2 j]; congr 1; exact Subsingleton.elim _ _⟩
  rw [after0_5, Pipeline.eq_sum_fin_of_reset_step_apply_last (fun n h => (outsAt0 m c n h).2) 16 (fun _ => (0 : EReal))
      (fun t j => (k0_pay8 (F := Ideal) (iblk m c 0 t) (iblk m c 1 t) j : EReal))
    (fun t h j => by
      rw [outsAt0_A m c t h]; frame_out
      pointwise [k0_pay1, k0_pay7]; rw [pay6_zero]; exact zero_add _)
    (fun t h j => by rw [outsAt0_B m c t h]; frame_out; pointwise [k0_pay1, k0_pay7])
    (le_of_eq N_0) t0_15 rfl (ix2 0 k), zero_add]
  simp only [part]
  rw [v18_real (ax m c) (ad m c) (X c) (D c) (hx c) (hd c), ← coe_sum]
  refine Fin.sum_mul_add_congr fun t r h => rfl

end Cert.RmsBwdIdeal.Value

end
-- ==== Proof.RmsBwdClaims.lean ====
/- The claims about the root-mean-square norm's backward kernel. -/
module

public import proofs.«01_k».proof.Proof.RmsBwdValue
public import proofs.«01_k».proof.Proof.Gen.RmsBwd.Frame
public import Idealize.ShloMosaic.Lib.Claim

@[expose] public section

set_option maxRecDepth 16384

noncomputable section

open Idealize.ShloMosaic Idealize.ShloMosaic.TcCoe Idealize.SL.Sem Cert.Reals

namespace Cert.Proof.RmsBwd

theorem pre_facts : Cert.Pre_rms_bwd_finite.Facts := by constructor <;> decide

attribute [local instance] pre_facts

theorem frame : Cert.quiescent_RmsBwd := fun m ρ _ => Cert.RmsBwd.Gen.frame m ρ
theorem frame_ideal : Cert.quiescent_RmsBwdIdeal := fun m ρ _ => Cert.RmsBwdIdeal.Gen.frame m ρ
theorem frame_ideal_pre : Cert.quiescent_RmsBwdIdeal_pre_rms_bwd_finite := fun m ρ _ => Cert.RmsBwdIdeal.Gen.frame m ρ

theorem frame_ref : Cert.quiescent_RmsBwdRefIdeal := fun m ρ _ =>
  (θ_run Cert.RmsBwdRefIdeal.defs _ _).mono (fun r h => ⟨fun c => (h c).2.2, sem_eq_zero_of_no_sems (by decide) r.2⟩)
    (Cert.RmsBwdRefIdeal.Value.run (F := Ideal) m ρ)
theorem frame_ref_pre : Cert.quiescent_RmsBwdRefIdeal_pre_rms_bwd_finite := fun m ρ _ => frame_ref m ρ trivial

theorem preserves : Cert.preserves_RmsBwd_RmsBwdIdeal := trivial

theorem algebraic : Cert.algebraic_RmsBwdIdeal_RmsBwdRefIdeal_pre_rms_bwd_finite := by
  intro m g m' g' hpre hagree
  have hx := fun c => reals_of fun i => of_finite (congrFun (hpre c).1 i)
  have hd := fun c => reals_of fun i => of_finite (congrFun (hpre c).2.1 i)
  have hg := fun c => reals_of fun i => of_finite (congrFun (hpre c).2.2 i)
  choose X hx using hx
  choose D hd using hd
  choose G hg using hg
  refine ⟨_, _, (θ_run _ _ _).mono (fun _ h c => h c) (Cert.RmsBwdIdeal.Value.run_blocks m g), ?_⟩
  refine (θ_run _ _ _).mono (fun _ h c => ?_) (Cert.RmsBwdRefIdeal.Value.run (F := Ideal) m' g')
  refine ⟨(h c).1.trans ?_, (h c).2.1.trans ?_, (h c).2.2⟩
  · rw [Cert.RmsBwdRefIdeal.Read.val_main_v35_eq, (hagree c).1, (hagree c).2.1, (hagree c).2.2.1, (hagree c).2.2.2]
    exact (Cert.RmsBwdIdeal.Value.final4 m (fun c r k => X c (ix2 r k)) (fun c r k => D c (ix2 r k)) (fun c k => G c (ix2 0 k))
      (fun c r k => hx c _) (fun c r k => hd c _) (fun c k => hg c _) c).symm
  · rw [Cert.RmsBwdRefIdeal.Read.val_main_v18_eq, (hagree c).1, (hagree c).2.1]
    exact (Cert.RmsBwdIdeal.Value.final5 m (fun c r k => X c (ix2 r k)) (fun c r k => D c (ix2 r k))
      (fun c r k => hx c _) (fun c r k => hd c _) c).symm

end Cert.Proof.RmsBwd

end
-- ==== Proof.AttnMath.lean ====
/- Forgetting attention on real numbers, head by head: the causal weights, and the product with which both programs form
   every gradient. -/
module

public import proofs.«01_k».proof.Proof.Reals

@[expose] public section

noncomputable section

namespace Cert.Attn

/-- Channel `e` of head `H`. -/
def ch (H : Fin 8) (e : Fin 64) : Fin 512 := ⟨64 * H.val + e.val, by have := H.isLt; have := e.isLt; omega⟩

/-- Head `h` of pair `g`. -/
def hh (g : Fin 4) (h : Fin 2) : Fin 8 := ⟨2 * g.val + h.val, by have := g.isLt; have := h.isLt; omega⟩

theorem exists_hh (H : Fin 8) : ∃ g h, H = hh g h :=
  ⟨⟨H.val / 2, by have := H.isLt; omega⟩, ⟨H.val % 2, by omega⟩, Fin.ext (by simp only [hh]; omega)⟩

variable (Q K V D : Fin 4 → Fin 2048 → Fin 512 → ℝ) (G : Fin 4 → Fin 8 → Fin 2048 → ℝ)

/-- The logit of query `R` and key `C`, without the query's own log gate. -/
def Z (b : Fin 4) (H : Fin 8) (R C : Fin 2048) : ℝ := ∑ e, Q b R (ch H e) * (1 / 8) * K b C (ch H e) - G b H C

/-- The exponentials of a row, after a shift of the row by `M`. -/
def W (b : Fin 4) (H : Fin 8) (R : Fin 2048) (M : ℝ) : ℝ := ∑ C, if C ≤ R then Real.exp (Z Q K G b H R C - M) else 0

/-- The causal weights. -/
def Pn (b : Fin 4) (H : Fin 8) (R C : Fin 2048) : ℝ := if C ≤ R then Real.exp (Z Q K G b H R C) / W Q K G b H R 0 else 0

/-- The gradient of the weights. -/
def DP (b : Fin 4) (H : Fin 8) (R C : Fin 2048) : ℝ := ∑ e, D b R (ch H e) * V b C (ch H e)

/-- The attention's result. -/
def O (b : Fin 4) (H : Fin 8) (R : Fin 2048) (e : Fin 64) : ℝ := ∑ C, Pn Q K G b H R C * V b C (ch H e)

/-- The gradient of the logits. -/
def DSn (b : Fin 4) (H : Fin 8) (R C : Fin 2048) : ℝ :=
  Pn Q K G b H R C * (DP V D b H R C - ∑ C', Pn Q K G b H R C' * DP V D b H R C')

theorem W_pos (b : Fin 4) (H : Fin 8) (R : Fin 2048) (M : ℝ) : 0 < W Q K G b H R M := by
  unfold W
  refine Finset.sum_pos' (fun C _ => by split <;> positivity) ⟨R, Finset.mem_univ _, by simp; positivity⟩

theorem W_shift (b : Fin 4) (H : Fin 8) (R : Fin 2048) (M : ℝ) : W Q K G b H R M = W Q K G b H R 0 * Real.exp (-M) := by
  unfold W; rw [Finset.sum_mul]
  refine Finset.sum_congr rfl fun C _ => ?_
  split
  · rw [← Real.exp_add]; congr 1; ring
  · simp

/-- The weights do not see the shift of a row. -/
theorem Pn_shift (b : Fin 4) (H : Fin 8) (R C : Fin 2048) (M : ℝ) :
    (if C ≤ R then Real.exp (Z Q K G b H R C - M) else 0) / W Q K G b H R M = Pn Q K G b H R C := by
  unfold Pn
  split
  · rw [W_shift, sub_eq_add_neg, Real.exp_add, mul_div_mul_right _ _ (Real.exp_ne_zero _)]
  · simp

/-- The weights from the logarithm of a row's sum. -/
theorem Pn_log (b : Fin 4) (H : Fin 8) (R C : Fin 2048) (M : ℝ) :
    (if C ≤ R then Real.exp (Z Q K G b H R C - (M + Real.log (W Q K G b H R M))) else 0) = Pn Q K G b H R C := by
  rw [← Pn_shift Q K G b H R C M]
  split
  · rw [← sub_sub, Real.exp_sub, Real.exp_log (W_pos Q K G b H R M)]
  · simp

/-- The weights vanish above the diagonal. -/
theorem Pn_zero (b : Fin 4) (H : Fin 8) {R C : Fin 2048} (h : R < C) : Pn Q K G b H R C = 0 := if_neg (not_le.mpr h)

theorem DSn_zero (b : Fin 4) (H : Fin 8) {R C : Fin 2048} (h : R < C) : DSn Q K V D G b H R C = 0 := by
  unfold DSn; rw [Pn_zero Q K G b H h, zero_mul]

/-- The row correction, as the incoming gradient times the result. -/
theorem del_eq (b : Fin 4) (H : Fin 8) (R : Fin 2048) :
    ∑ e, D b R (ch H e) * O Q K V G b H R e = ∑ C, Pn Q K G b H R C * DP V D b H R C := by
  unfold O DP
  simp only [Finset.mul_sum]
  rw [Finset.sum_comm]
  exact Finset.sum_congr rfl fun C _ => Finset.sum_congr rfl fun e _ => by ring

/-- The head of a channel. -/
def ho (c : Fin 512) : Fin 8 := ⟨c.val / 64, by have := c.isLt; omega⟩

theorem ho_ch (H : Fin 8) (e : Fin 64) : ho (ch H e) = H := Fin.ext (by have := e.isLt; simp only [ho, ch]; omega)

/-- The gradients of the queries, the keys, the values and the cumulated log gates. -/
def DQ (b : Fin 4) (R : Fin 2048) (c : Fin 512) : ℝ := (∑ C, DSn Q K V D G b (ho c) R C * K b C c) * (1 / 8)
def DK (b : Fin 4) (C : Fin 2048) (c : Fin 512) : ℝ := ∑ R, DSn Q K V D G b (ho c) R C * (Q b R c * (1 / 8))
def DV (b : Fin 4) (C : Fin 2048) (c : Fin 512) : ℝ := ∑ R, Pn Q K G b (ho c) R C * D b R c
def DG (b : Fin 4) (H : Fin 8) (C : Fin 2048) : ℝ := ∑ C', DSn Q K V D G b H C C' - ∑ R, DSn Q K V D G b H R C

open Idealize.ShloMosaic in
/-- The causal mask, as the two programs compute it. -/
theorem causal_select (R C : Fin 2048) (a b : EReal) :
    Scalar.select (IntOp.cmpi .sle (BitVec.ofNat 32 C.val) (BitVec.ofNat 32 R.val)) a b = if C ≤ R then a else b := by
  have hr := R.isLt; have hc := C.isLt
  have h1 : (BitVec.ofNat 32 C.val).toInt = C.val := by
    rw [BitVec.toInt_eq_toNat_of_lt (by simp; omega)]; simp; omega
  have h2 : (BitVec.ofNat 32 R.val).toInt = R.val := by
    rw [BitVec.toInt_eq_toNat_of_lt (by simp; omega)]; simp; omega
  by_cases h : C.val ≤ R.val <;> simp [Fin.le_def, h, Scalar.select, IntOp.cmpi, BitVec.sle, h1, h2]

open Idealize.ShloMosaic in
/-- The word of `-∞`. -/
theorem ofBits_ninf : Ideal.ofBits .f32 0xFF800000#32 = ⊥ := by simp [Ideal.ofBits, Ideal.ieee]

/-- The greatest of finitely many numbers, each real or `-∞` and one of them real, is real. -/
theorem fold_real {n : ℕ} (f : Fin n → EReal) (h : ∀ i, f i ≠ ⊤) (i₀ : Fin n) (h₀ : f i₀ ≠ ⊥) :
    ∃ M : ℝ, Finset.fold max ⊥ f Finset.univ = (M : EReal) := by
  have e : Finset.fold max ⊥ f Finset.univ = Finset.univ.sup f := rfl
  rw [e]
  have h1 : Finset.univ.sup f ≠ ⊤ := ((Finset.sup_lt_iff bot_lt_top).mpr fun i _ => lt_top_iff_ne_top.mpr (h i)).ne
  have h2 : Finset.univ.sup f ≠ ⊥ := fun hb => h₀ (le_bot_iff.mp (hb ▸ Finset.le_sup (Finset.mem_univ i₀)))
  exact ⟨_, (EReal.coe_toReal h1 h2).symm⟩

end Cert.Attn

end
-- ==== Proof.AttnBwdHost.lean ====
/- What the lines before the attention's backward kernel hand it: the packed queries, keys and values, the incoming
   gradient, the forward pass's result and the logarithms of its row sums, as real numbers. -/
module

public import proofs.«01_k».proof.Proof.AttnMath
public import proofs.«01_k».proof.Proof.Gen.AttnBwdIdeal.Frame

@[expose] public section

set_option maxRecDepth 16384

noncomputable section

open Idealize.ShloMosaic Idealize.ShloMosaic.TcCoe Idealize.SL.Sem Idealize.ShloMosaic.StableHlo Cert.Reals Cert.Attn

namespace Cert.AttnBwdIdeal.Host

open Cert.AttnBwdIdeal Cert.AttnBwdIdeal.Gen

abbrev A3 := FVec Ideal S4x2048x512 .f32
abbrev AG := FVec Ideal S4x8x2048 .f32

/-- An argument, head by head. -/
def heads (x : A3) : FVec Ideal S4x8x2048x64 .f32 :=
  transpose S4x8x2048x64 [0, 2, 1, 3] (shapeCast S4x2048x8x64 x shapeCasts_S4x2048x512_S4x2048x8x64) transposes_S4x2048x8x64_S4x8x2048x64_0_2_1_3

/-- The scaled queries. -/
def scaled (x : A3) : FVec Ideal S4x8x2048x64 .f32 :=
  mulf (heads x) (broadcastInDim S4x8x2048x64 ![] bcast_S_S4x8x2048x64 (constant S_ .f32 0x3E000000#32))

/-- The logits. -/
def logit (q k : A3) (g : AG) : FVec Ideal S4x8x2048x2048 .f32 :=
  subf (Host.dotGeneral (F := Ideal) (φ₁ := .f32) (φ₂ := .f32) dot_S4x8x2048x64_S4x8x2048x64_S4x8x2048x2048_3_3_2_2_01_01 none (scaled q) (heads k))
    (broadcastInDim S4x8x2048x2048 ![0, 1, 2, 3] bcast_S4x8x1x2048_S4x8x2048x2048_0_1_2_3
      (broadcastInDim S4x8x1x2048 ![0, 1, 3] bcast_S4x8x2048_S4x8x1x2048_0_1_3 g))

/-- The causal mask. -/
def causal : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The masked logits. -/
def masked (q k : A3) (g : AG) : FVec Ideal S4x8x2048x2048 .f32 :=
  select (broadcastInDim S4x8x2048x2048 ![2, 3] bcast_S2048x2048_S4x8x2048x2048_2_3 causal) (logit q k g)
    (broadcastInDim S4x8x2048x2048 ![] bcast_S_S4x8x2048x2048 (constant S_ .f32 0xFF800000#32))

/-- A row's greatest logit. -/
def top (q k : A3) (g : AG) : FVec Ideal S4x8x2048 .f32 :=
  Host.reduce FloatOps.maximumf (masked q k g) (constant S_ .f32 0xFF800000#32) reducesTo_S4x8x2048x2048_S4x8x2048_d3 h_S_

def topb (q k : A3) (g : AG) : FVec Ideal S4x8x2048x1 .f32 :=
  broadcastInDim S4x8x2048x1 ![0, 1, 2] bcast_S4x8x2048_S4x8x2048x1_0_1_2 (top q k g)

/-- The exponentials. -/
def expo (q k : A3) (g : AG) : FVec Ideal S4x8x2048x2048 .f32 :=
  Host.exp (subf (masked q k g) (broadcastInDim S4x8x2048x2048 ![0, 1, 2, 3] bcast_S4x8x2048x1_S4x8x2048x2048_0_1_2_3 (topb q k g)))

/-- Their sums. -/
def sums (q k : A3) (g : AG) : FVec Ideal S4x8x2048x1 .f32 :=
  broadcastInDim S4x8x2048x1 ![0, 1, 2] bcast_S4x8x2048_S4x8x2048x1_0_1_2
    (Host.reduceAdd (F := Ideal) (expo q k g) (constant S_ .f32 0x00000000#32) reducesTo_S4x8x2048x2048_S4x8x2048_d3 h_S_)

/-- The forward pass's result. -/
def outp (q k v : A3) (g : AG) : FVec Ideal S8192x512 .bf16 :=
  truncf .bf16 (shapeCast S8192x512 (transpose S4x2048x8x64 [0, 2, 1, 3]
    (Host.divf (Host.dotGeneral (F := Ideal) (φ₁ := .f32) (φ₂ := .f32) dot_S4x8x2048x2048_S4x8x2048x64_S4x8x2048x64_3_2_2_3_01_01 none (expo q k g) (heads v))
      (broadcastInDim S4x8x2048x64 ![0, 1, 2, 3] bcast_S4x8x2048x1_S4x8x2048x64_0_1_2_3 (sums q k g)))
    transposes_S4x8x2048x64_S4x2048x8x64_0_2_1_3) shapeCasts_S4x2048x8x64_S8192x512)

/-- The logarithms of the row sums, two heads to a row. -/
def lse (q k : A3) (g : AG) : FVec Ideal S4x8192x2 .f32 :=
  shapeCast S4x8192x2 (transpose S4x4x2048x2 [1, 0, 3, 2] (shapeCast S4x4x2x2048 (addf (topb q k g) (Host.log (sums q k g))) shapeCasts_S4x8x2048x1_S4x4x2x2048)
    transposes_S4x4x2x2048_S4x4x2048x2_1_0_3_2) shapeCasts_S4x4x2048x2_S4x8192x2

/-- Queries, keys and values side by side, pair by pair. -/
def packed (q k v : A3) : FVec Ideal S8192x1536 .bf16 :=
  truncf .bf16 (shapeCast S8192x1536 (concatenate S8192x4x3x128 2
    [⟨S8192x4x1x128, shapeCast S8192x4x1x128 q shapeCasts_S4x2048x512_S8192x4x1x128⟩, ⟨S8192x4x1x128, shapeCast S8192x4x1x128 k shapeCasts_S4x2048x512_S8192x4x1x128⟩,
      ⟨S8192x4x1x128, shapeCast S8192x4x1x128 v shapeCasts_S4x2048x512_S8192x4x1x128⟩] concatenates_S8192x4x1x128_S8192x4x1x128_S8192x4x1x128_S8192x4x3x128_d2)
    shapeCasts_S8192x4x3x128_S8192x1536)

def flat (d : A3) : FVec Ideal S8192x512 .bf16 := truncf .bf16 (shapeCast S8192x512 d shapeCasts_S4x2048x512_S8192x512)

def gates (g : AG) : FVec Ideal S4x4x2x2048 .f32 := shapeCast S4x4x2x2048 g shapeCasts_S4x8x2048_S4x4x2x2048

section Entry

variable (m : (ℓ : Loc nD τ sig) → Buf (Elt Ideal) ℓ) (c : Dev nD)

abbrev aq : A3 := m ((c : Thread nD τ).loc main_arg0)
abbrev ak : A3 := m ((c : Thread nD τ).loc main_arg1)
abbrev av : A3 := m ((c : Thread nD τ).loc main_arg2)
abbrev ag : AG := m ((c : Thread nD τ).loc main_arg3)
abbrev ad : A3 := m ((c : Thread nD τ).loc main_arg4)
abbrev ap : FVec Ideal S8192x5376 .bf16 := m ((c : Thread nD τ).loc main_arg5)

theorem V_v43 : V m c main_v43 = packed (aq m c) (ak m c) (av m c) := by
  unfold V V0
  simp only [hostOps0, hostOps0_1, hostOps0_2, List.flatten_cons, List.flatten_nil, List.append_nil, List.cons_append, List.nil_append]
  after_results_simp
  rfl
theorem V_v45 : V m c main_v45 = flat (ad m c) := by
  unfold V V0
  simp only [hostOps0, hostOps0_1, hostOps0_2, List.flatten_cons, List.flatten_nil, List.append_nil, List.cons_append, List.nil_append]
  after_results_simp
  rfl
theorem V_v46 : V m c main_v46 = gates (ag m c) := by
  unfold V V0
  simp only [hostOps0, hostOps0_1, hostOps0_2, List.flatten_cons, List.flatten_nil, List.append_nil, List.cons_append, List.nil_append]
  after_results_simp
  rfl
theorem V_v47 : V m c main_v47_0 = ap m c := by
  unfold V V0
  simp only [hostOps0, hostOps0_1, hostOps0_2, List.flatten_cons, List.flatten_nil, List.append_nil, List.cons_append, List.nil_append]
  after_results_simp
  rfl
theorem V_v32 : V m c main_v32 = outp (aq m c) (ak m c) (av m c) (ag m c) := by
  unfold V V0
  simp only [hostOps0, hostOps0_1, hostOps0_2, List.flatten_cons, List.flatten_nil, List.append_nil, List.cons_append, List.nil_append]
  after_results_simp
  rfl
theorem V_v37 : V m c main_v37 = lse (aq m c) (ak m c) (ag m c) := by
  unfold V V0
  simp only [hostOps0, hostOps0_1, hostOps0_2, List.flatten_cons, List.flatten_nil, List.append_nil, List.cons_append, List.nil_append]
  after_results_simp
  rfl

end Entry

/-- Row `R` of batch `b` among all the rows. -/
def brow (b : Fin 4) (R : Fin 2048) : Fin 8192 := ⟨2048 * b.val + R.val, by have := b.isLt; have := R.isLt; omega⟩
/-- Lane `l` of pair `g`, as a channel. -/
def pl (g : Fin 4) (l : Fin 128) : Fin 512 := ⟨128 * g.val + l.val, by have := g.isLt; have := l.isLt; omega⟩
/-- Lane `l` of the part `a` of pair `g`, among the packed columns. -/
def pcol (g : Fin 4) (a : Fin 3) (l : Fin 128) : Fin 1536 :=
  ⟨384 * g.val + (128 * a.val + l.val), by have := g.isLt; have := l.isLt; have := a.isLt; omega⟩

theorem row_div (b : Fin 4) (R : Fin 2048) {h} : (⟨(brow b R).val / 2048, h⟩ : Fin 4) = b :=
  Fin.ext (by have := b.isLt; have := R.isLt; simp only [brow]; omega)
theorem row_mod (b : Fin 4) (R : Fin 2048) {h} : (⟨(brow b R).val % 2048, h⟩ : Fin 2048) = R :=
  Fin.ext (by have := b.isLt; have := R.isLt; simp only [brow]; omega)
theorem ch_div (H : Fin 8) (e : Fin 64) {h} : (⟨(ch H e).val / 64, h⟩ : Fin 8) = H :=
  Fin.ext (by have := H.isLt; have := e.isLt; simp only [ch]; omega)
theorem ch_mod (H : Fin 8) (e : Fin 64) {h} : (⟨(ch H e).val % 64, h⟩ : Fin 64) = e :=
  Fin.ext (by have := H.isLt; have := e.isLt; simp only [ch]; omega)
theorem hh_eq (g : Fin 4) (a : Fin 2) {h} : (⟨g.val * 2 + a.val, h⟩ : Fin 8) = hh g a := Fin.ext (by simp only [hh]; omega)

theorem heads_at (x : A3) (b : Fin 4) (H : Fin 8) (R : Fin 2048) (e : Fin 64) : heads x (ix4 b H R e) = x (ix3 b R (ch H e)) := by
  pointwise [heads]
  exact congrArg (fun c => x (ix3 b R c)) (Fin.ext (by simp only [ch]; omega))

theorem packed_at (q k v : A3) (b : Fin 4) (R : Fin 2048) (g : Fin 4) (a : Fin 3) (l : Fin 128) :
    packed q k v (ix2 (brow b R) (pcol g a l)) = (![q, k, v] a) (ix3 b R (pl g l)) := by
  have hl := l.isLt
  have hg := g.isLt
  have e : ∀ a : Fin 3, ∀ {h}, (⟨(pcol g a l).val / 384 * 128 + (pcol g a l).val % 128, h⟩ : Fin 512) = pl g l := fun a h =>
    Fin.ext (by have := a.isLt; simp only [pcol, pl]; omega)
  have e1 : (pcol g a l).val / 128 % 3 = a.val := by have := a.isLt; simp only [pcol]; omega
  pointwise [packed]
  simp only [e, row_div, row_mod, e1]
  fin_cases a <;> simp

theorem flat_at (x : A3) (b : Fin 4) (R : Fin 2048) (c : Fin 512) : flat x (ix2 (brow b R) c) = x (ix3 b R c) := by
  pointwise [flat]
  simp only [row_div, row_mod]

theorem gates_at (x : AG) (b g : Fin 4) (h : Fin 2) (R : Fin 2048) : gates x (ix4 b g h R) = x (ix3 b (hh g h) R) := by
  pointwise [gates]
  simp only [hh_eq]

theorem rows_at (y : FVec Ideal S4x4x2048x2 .f32) (g b : Fin 4) (R : Fin 2048) (h : Fin 2) :
    shapeCast S4x8192x2 y shapeCasts_S4x4x2048x2_S4x8192x2 (ix3 g (brow b R) h) = y (ix4 g b R h) := by
  pointwise []
  simp only [row_div, row_mod]
theorem swap_at (y : FVec Ideal S4x4x2x2048 .f32) (g b : Fin 4) (R : Fin 2048) (h : Fin 2) :
    transpose S4x4x2048x2 [1, 0, 3, 2] y transposes_S4x4x2x2048_S4x4x2048x2_1_0_3_2 (ix4 g b R h) = y (ix4 b g h R) := by
  pointwise []
theorem pairs_at (y : FVec Ideal S4x8x2048x1 .f32) (g b : Fin 4) (R : Fin 2048) (h : Fin 2) :
    shapeCast S4x4x2x2048 y shapeCasts_S4x8x2048x1_S4x4x2x2048 (ix4 b g h R) = y (ix4 b (hh g h) R 0) := by
  pointwise []
  simp only [hh_eq]

section Reals

variable (q k v : A3) (x : AG) (Q K V : Fin 4 → Fin 2048 → Fin 512 → ℝ) (G : Fin 4 → Fin 8 → Fin 2048 → ℝ)
variable (hq : ∀ b R c, q (ix3 b R c) = (Q b R c : EReal)) (hk : ∀ b R c, k (ix3 b R c) = (K b R c : EReal))
  (hv : ∀ b R c, v (ix3 b R c) = (V b R c : EReal)) (hx : ∀ b H R, x (ix3 b H R) = (G b H R : EReal))

theorem eighth : Ideal.ofBits .f32 1040187392#32 = ((1 / 8 : ℝ) : EReal) := by
  simp [Ideal.ofBits, Ideal.ieee, -EReal.coe_mul]; norm_num

include hq hk hx in
theorem masked_real (b : Fin 4) (H : Fin 8) (R C : Fin 2048) :
    masked q k x (ix4 b H R C) = if C ≤ R then (Z Q K G b H R C : EReal) else ⊥ := by
  pointwise [masked, logit, scaled, causal]
  simp only [causal_select, ofBits_ninf, heads_at, hq, hk, hx, eighth, ← EReal.coe_mul, coe_sum, ← EReal.coe_sub]
  rfl

include hq hk hx in
theorem top_real (b : Fin 4) (H : Fin 8) (R : Fin 2048) : ∃ M : ℝ, top q k x (ix3 b H R) = (M : EReal) := by
  pointwise [top]
  rw [ofBits_ninf]
  refine fold_real _ (fun C => ?_) R ?_
  · rw [masked_real q k x Q K G hq hk hx]; split <;> simp
  · rw [masked_real q k x Q K G hq hk hx]; simp

/-- A row's greatest logit, as a real number. -/
def mx (b : Fin 4) (H : Fin 8) (R : Fin 2048) : ℝ := (top q k x (ix3 b H R)).toReal

include hq hk hx in
theorem top_eq (b : Fin 4) (H : Fin 8) (R : Fin 2048) : top q k x (ix3 b H R) = (mx q k x b H R : EReal) := by
  obtain ⟨M, h⟩ := top_real q k x Q K G hq hk hx b H R
  rw [mx, h, EReal.toReal_coe]

include hq hk hx in
theorem expo_real (b : Fin 4) (H : Fin 8) (R C : Fin 2048) :
    expo q k x (ix4 b H R C) = ((if C ≤ R then Real.exp (Z Q K G b H R C - mx q k x b H R) else 0 : ℝ) : EReal) := by
  pointwise [expo, topb]
  rw [masked_real q k x Q K G hq hk hx, top_eq q k x Q K G hq hk hx]
  split
  · rw [← EReal.coe_sub, Ideal.exp_coe]
  · simp

include hq hk hx in
theorem sums_real (b : Fin 4) (H : Fin 8) (R : Fin 2048) :
    sums q k x (ix4 b H R 0) = (W Q K G b H R (mx q k x b H R) : EReal) := by
  pointwise [sums]
  simp only [expo_real q k x Q K G hq hk hx, coe_sum]
  rfl

/-- The logarithm of a row's sum. -/
def ls (b : Fin 4) (H : Fin 8) (R : Fin 2048) : ℝ := mx q k x b H R + Real.log (W Q K G b H R (mx q k x b H R))

theorem logs_at (u w : FVec Ideal S4x8x2048x1 .f32) (b : Fin 4) (H : Fin 8) (R : Fin 2048) :
    addf u (Host.log w) (ix4 b H R 0) = u (ix4 b H R 0) + Ideal.log (w (ix4 b H R 0)) := rfl

theorem topb_at (b : Fin 4) (H : Fin 8) (R : Fin 2048) : topb q k x (ix4 b H R 0) = top q k x (ix3 b H R) := by
  pointwise [topb]

theorem lse_at (g b : Fin 4) (R : Fin 2048) (h : Fin 2) :
    lse q k x (ix3 g (brow b R) h) = addf (topb q k x) (Host.log (sums q k x)) (ix4 b (hh g h) R 0) :=
  (rows_at _ g b R h).trans ((swap_at _ g b R h).trans (pairs_at _ g b R h))

include hq hk hx in
theorem lse_real (b g : Fin 4) (h : Fin 2) (R : Fin 2048) :
    lse q k x (ix3 g (brow b R) h) = (ls q k x Q K G b (hh g h) R : EReal) := by
  rw [lse_at, logs_at, topb_at, top_eq q k x Q K G hq hk hx, sums_real q k x Q K G hq hk hx, Ideal.log_coe,
    if_neg (not_le.mpr (W_pos Q K G _ _ _ _)), ← EReal.coe_add]
  rfl

include hq hk hv hx in
theorem outp_real (b : Fin 4) (H : Fin 8) (R : Fin 2048) (e : Fin 64) :
    outp q k v x (ix2 (brow b R) (ch H e)) = (O Q K V G b H R e : EReal) := by
  pointwise [outp]
  simp only [row_div, row_mod, ch_div, ch_mod, heads_at, expo_real q k x Q K G hq hk hx, sums_real q k x Q K G hq hk hx, hv,
    ← EReal.coe_mul, coe_sum, div_real (W_pos Q K G _ _ _ _).ne']
  congr 1
  unfold O
  rw [Finset.sum_div]
  refine Finset.sum_congr rfl fun C _ => ?_
  rw [← Pn_shift Q K G b H R C (mx q k x b H R)]
  ring

end Reals

end Cert.AttnBwdIdeal.Host

end
-- ==== Proof.AttnBwdBody.lean ====
module

public import Idealize.ShloMosaic.Lib.VecWindow
public import proofs.«01_k».proof.Proof.Gen.AttnBwdIdeal.Frame
public import proofs.«01_k».proof.Proof.Gen.AttnBwdIdeal.Loops

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F]

local notation "𝕄" => MT nD τ sig Unit (Elt F) ℕ (UR sig nD τ) ℕ

variable (c : Dev nD) (i : grid0.Coords)
  (arg3 : Memref sig .tc .vmem S2048x128 .bf16) (harg3 : arg3.IsWhole)
  (arg4 : Memref sig .tc .vmem S512x128 .bf16) (harg4 : arg4.IsWhole)
  (arg5 : Memref sig .tc .vmem S512x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x2048x2 .f32) (harg8 : arg8.IsWhole)
  (arg9 : Memref sig .tc .vmem S1x1x2x2048 .f32) (harg9 : arg9.IsWhole)
  (arg10 : Memref sig .tc .hbm S8192x5376 .bf16) (harg10 : arg10.IsWhole)
  (arg11 : Memref sig .tc .vmem S512x384 .bf16) (harg11 : arg11.IsWhole)
  (arg12 : Memref sig .tc .vmem S1x1x2x512 .f32) (harg12 : arg12.IsWhole)
  (arg13 : Memref sig .tc .vmem S1x2048x2 .f32) (harg13 : arg13.IsWhole)
  (arg14 : Memref sig .tc .vmem S2048x128 .f32) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S2x512 .f32) (harg17 : arg17.IsWhole)

omit [FloatOps F] in
/-- The reset condition, as the program spells it, is that the column block is the first. -/
theorem cond_eq : Scalar.cmpi .ne (Scalar.extui (Scalar.cmpi .eq (BitVec.ofNat 32 (i 2).val) 0#32) : BitVec 32) 0#32 = 1#1 ↔ (i 2).val = 0 :=
  (by decide : ∀ x : Fin 4, Scalar.cmpi .ne (Scalar.extui (Scalar.cmpi .eq (BitVec.ofNat 32 x.val) 0#32) : BitVec 32) 0#32 = 1#1 ↔ x.val = 0) (i 2)

/-- The first part of the step at the first column block: every accumulator is cleared. -/
theorem first_part_reset (hc : (i 2).val = 0) (x4 x5 : Vec F S512x128 .bf16) (E : Set ℕ) (K : _ → sProp 𝕄) :
    iprop(owns (c : Thread nD τ) arg4 fullShare x4 ∗ owns (c : Thread nD τ) arg5 fullShare x5 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x4 ∗ owns (c : Thread nD τ) arg5 fullShare x5 ∗ owns (c : Thread nD τ) arg13 fullShare (k0_pay52 (F := F)) ∗ owns (c : Thread nD τ) arg14 fullShare (k0_pay51 (F := F)) ∗ owns (c : Thread nD τ) arg15 fullShare (k0_pay53 (F := F)) ∗ owns (c : Thread nD τ) arg16 fullShare (k0_pay54 (F := F)) ∗ owns (c : Thread nD τ) arg17 fullShare (k0_pay55 (F := F)))
            -∗ K ⟨BitVec.ofNat 32 (i 2).val, k0_pay49, k0_pay50, iota .tc S512x512 32 [0] iota_S512x512_d0_w32, iota .tc S512x512 32 [1] iota_S512x512_d1_w32, k0_pay56 x4, k0_pay57 x5, Scalar.muli (BitVec.ofNat 32 (i 2).val) 512#32, k0_pay58 x4, k0_pay59 (F := F)⟩))
      ⊢ wp frame (wpE (defs₀ (F := F)) Variants.none c none) E (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part7_eq_skeleton]; unfold k0_part7_skel
  have hc' : Scalar.cmpi .ne (Scalar.extui (Scalar.cmpi .eq (BitVec.ofNat 32 (i 2).val) 0#32) : BitVec 32) 0#32 = 1#1 := by
    rw [cond_eq]; exact hc
  unfold owns
  iintro ⟨⟨%f4, %hf4, H4⟩, ⟨%f5, %hf5, H5⟩, ⟨%d13, %f13, -, H13⟩, ⟨%d14, %f14, -, H14⟩, ⟨%d15, %f15, -, H15⟩, ⟨%d16, %f16, -, H16⟩, ⟨%d17, %f17, -, H17⟩, Hk⟩
  obtain rfl := harg4.eq_unread hf4; obtain rfl := harg5.eq_unread hf5
  sl_exec (disch := sl_exact hc')
  sl_step
  have e4 : first_part_reset.sl.v4 = iota .tc S512x512 32 [0] iota_S512x512_d0_w32 := rfl
  have e5 : first_part_reset.sl.v5 = iota .tc S512x512 32 [1] iota_S512x512_d1_w32 := rfl
  have e25 : first_part_reset.sl.v25 i = Scalar.muli (BitVec.ofNat 32 (i 2).val) 512#32 := rfl
  have r4 : View.readAt (Elt F) arg4.view (Rect.unit ![0, 0] ![512, 128] inb_S512x128_S512x128_0_0).toLoadRect (harg4.unread x4) = x4 :=
    (View.readAt_full _ _ _).trans (harg4.read_unread _)
  have r5 : View.readAt (Elt F) arg5.view (Rect.unit ![0, 0] ![512, 128] inb_S512x128_S512x128_0_0).toLoadRect (harg5.unread x5) = x5 :=
    (View.readAt_full _ _ _).trans (harg5.read_unread _)
  simp only [e4, e5, e25, r4, r5]
  iapply Hk
  isplitl [H4]
  · iexists _; isplitr; swap; · iexact H4
    ipureintro; exact harg4.read_unread _
  isplitl [H5]
  · iexists _; isplitr; swap; · iexact H5
    ipureintro; exact harg5.read_unread _
  isplitl [H13]
  · iexists _; isplitr; swap; · iexact H13
    ipureintro; exact View.read_writes_full _ _ _ _ _
  isplitl [H14]
  · iexists _; isplitr; swap; · iexact H14
    ipureintro; exact View.read_writes_full _ _ _ _ _
  isplitl [H15]
  · iexists _; isplitr; swap; · iexact H15
    ipureintro; exact View.read_writes_full _ _ _ _ _
  isplitl [H16]
  · iexists _; isplitr; swap; · iexact H16
    ipureintro; exact View.read_writes_full _ _ _ _ _
  iexists _; isplitr; swap; · iexact H17
  ipureintro; exact View.read_writes_full _ _ _ _ _

/-- The first part of the step at a later column block: the row sums and the query accumulator are kept, the others cleared. -/
theorem first_part_keep (hc : ¬(i 2).val = 0) (x4 x5 : Vec F S512x128 .bf16) (x13 : Vec F S1x2048x2 .f32) (x14 : Vec F S2048x128 .f32) (E : Set ℕ) (K : _ → sProp 𝕄) :
    iprop(owns (c : Thread nD τ) arg4 fullShare x4 ∗ owns (c : Thread nD τ) arg5 fullShare x5 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x4 ∗ owns (c : Thread nD τ) arg5 fullShare x5 ∗ owns (c : Thread nD τ) arg13 fullShare x13 ∗ owns (c : Thread nD τ) arg14 fullShare x14 ∗ owns (c : Thread nD τ) arg15 fullShare (k0_pay53 (F := F)) ∗ owns (c : Thread nD τ) arg16 fullShare (k0_pay54 (F := F)) ∗ owns (c : Thread nD τ) arg17 fullShare (k0_pay55 (F := F)))
            -∗ K ⟨BitVec.ofNat 32 (i 2).val, k0_pay49, k0_pay50, iota .tc S512x512 32 [0] iota_S512x512_d0_w32, iota .tc S512x512 32 [1] iota_S512x512_d1_w32, k0_pay56 x4, k0_pay57 x5, Scalar.muli (BitVec.ofNat 32 (i 2).val) 512#32, k0_pay58 x4, k0_pay59 (F := F)⟩))
      ⊢ wp frame (wpE (defs₀ (F := F)) Variants.none c none) E (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part7_eq_skeleton]; unfold k0_part7_skel
  have hc' : ¬Scalar.cmpi .ne (Scalar.extui (Scalar.cmpi .eq (BitVec.ofNat 32 (i 2).val) 0#32) : BitVec 32) 0#32 = 1#1 := by
    rw [cond_eq]; exact hc
  unfold owns
  iintro ⟨⟨%f4, %hf4, H4⟩, ⟨%f5, %hf5, H5⟩, ⟨%f13, %hf13, H13⟩, ⟨%f14, %hf14, H14⟩, ⟨%d15, %f15, -, H15⟩, ⟨%d16, %f16, -, H16⟩, ⟨%d17, %f17, -, H17⟩, Hk⟩
  obtain rfl := harg4.eq_unread hf4; obtain rfl := harg5.eq_unread hf5
  obtain rfl := harg13.eq_unread hf13; obtain rfl := harg14.eq_unread hf14
  sl_exec (disch := sl_exact hc')
  sl_step
  have e4 : first_part_keep.sl.v4 = iota .tc S512x512 32 [0] iota_S512x512_d0_w32 := rfl
  have e5 : first_part_keep.sl.v5 = iota .tc S512x512 32 [1] iota_S512x512_d1_w32 := rfl
  have e25 : first_part_keep.sl.v25 i = Scalar.muli (BitVec.ofNat 32 (i 2).val) 512#32 := rfl
  have r4 : View.readAt (Elt F) arg4.view (Rect.unit ![0, 0] ![512, 128] inb_S512x128_S512x128_0_0).toLoadRect (harg4.unread x4) = x4 :=
    (View.readAt_full _ _ _).trans (harg4.read_unread _)
  have r5 : View.readAt (Elt F) arg5.view (Rect.unit ![0, 0] ![512, 128] inb_S512x128_S512x128_0_0).toLoadRect (harg5.unread x5) = x5 :=
    (View.readAt_full _ _ _).trans (harg5.read_unread _)
  simp only [e4, e5, e25, r4, r5]
  iapply Hk
  isplitl [H4]
  · iexists _; isplitr; swap; · iexact H4
    ipureintro; exact harg4.read_unread _
  isplitl [H5]
  · iexists _; isplitr; swap; · iexact H5
    ipureintro; exact harg5.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact View.read_writes_full _ _ _ _ _
  isplitl [H16]
  · iexists _; isplitr; swap; · iexact H16
    ipureintro; exact View.read_writes_full _ _ _ _ _
  iexists _; isplitr; swap; · iexact H17
  ipureintro; exact View.read_writes_full _ _ _ _ _

set_option maxHeartbeats 4000000 in
/-- The rest of the step after its first part, run once for both kinds of column block: what it writes into the three
results and the carried accumulator, as the pieces the run finds. -/
@[irreducible] def restRun (x3 : Vec F S2048x128 .bf16) (x4 : Vec F S512x128 .bf16) (x5 : Vec F S512x128 .bf16) (x6 : Vec F S2048x128 .bf16) (x7 : Vec F S2048x128 .bf16) (x8 : Vec F S1x2048x2 .f32) (x9 : Vec F S1x1x2x2048 .f32) (x13 : Vec F S1x2048x2 .f32) (x14 : Vec F S2048x128 .f32) :
    Σ' (L11 : List (View.Piece (Elt F) S512x384 .bf16)) (L12 : List (View.Piece (Elt F) S1x1x2x512 .f32)) (L13 : List (View.Piece (Elt F) S1x2048x2 .f32)), { L14 : List (View.Piece (Elt F) S2048x128 .f32) //
      ∀ (E : Set ℕ) (P : sProp 𝕄) (K : PUnit → sProp 𝕄),
        (∀ K', iprop(P ∗ (iprop(owns (c : Thread nD τ) arg4 fullShare x4 ∗ owns (c : Thread nD τ) arg5 fullShare x5 ∗ owns (c : Thread nD τ) arg13 fullShare x13 ∗ owns (c : Thread nD τ) arg14 fullShare x14 ∗ owns (c : Thread nD τ) arg15 fullShare (k0_pay53 (F := F)) ∗ owns (c : Thread nD τ) arg16 fullShare (k0_pay54 (F := F)) ∗ owns (c : Thread nD τ) arg17 fullShare (k0_pay55 (F := F))) -∗ K' ⟨BitVec.ofNat 32 (i 2).val, k0_pay49, k0_pay50, iota .tc S512x512 32 [0] iota_S512x512_d0_w32, iota .tc S512x512 32 [1] iota_S512x512_d1_w32, k0_pay56 x4, k0_pay57 x5, Scalar.muli (BitVec.ofNat 32 (i 2).val) 512#32, k0_pay58 x4, k0_pay59 (F := F)⟩)) ⊢ wp frame (wpE (defs₀ (F := F)) Variants.none c none) E (k0_part7 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K') →
        iprop(P ∗ owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ owns (c : Thread nD τ) arg13 fullShare (arg13.view.read (Elt F) (arg13.view.writes (Elt F) (harg13.unread x13) L13))
                ∗ owns (c : Thread nD τ) arg14 fullShare (arg14.view.read (Elt F) (arg14.view.writes (Elt F) (harg14.unread x14) L14))
                ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E P K hP => ?run⟩
  case run =>
    simp only [cc0_attn_bwd_eq_skeleton]; unfold cc0_attn_bwd_skel
    simp only [k0_part12_eq_skeleton]; unfold k0_part12_skel
    iintro ⟨HP, H3, H6, H7, H8, H9, H11, H12, Hk⟩
    rw [wp_bind, wp_bind]
    iapply (hP _)
    isplitl [HP]; · iexact HP
    unfold owns
    iintro ⟨⟨%f4, %hf4, H4⟩, ⟨%f5, %hf5, H5⟩, ⟨%f13, %hf13, H13⟩, ⟨%f14, %hf14, H14⟩, ⟨%f15, %hf15, H15⟩, ⟨%f16, %hf16, H16⟩, ⟨%f17, %hf17, H17⟩⟩
    icases H3 with ⟨%f3, %hf3, H3⟩
    icases H6 with ⟨%f6, %hf6, H6⟩
    icases H7 with ⟨%f7, %hf7, H7⟩
    icases H8 with ⟨%f8, %hf8, H8⟩
    icases H9 with ⟨%f9, %hf9, H9⟩
    icases H11 with ⟨%d11, %f11, -, H11⟩
    icases H12 with ⟨%d12, %f12, -, H12⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg13.eq_unread hf13
    obtain rfl := harg14.eq_unread hf14
    obtain rfl := harg15.eq_unread hf15
    obtain rfl := harg16.eq_unread hf16
    obtain rfl := harg17.eq_unread hf17
    sl_exec
    sl_step
    iapply Hk
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H11]; · iexists _; iexact H11
    isplitl [H12]; · iexists _; iexact H12
    isplitl [H13]
    · iexists _; isplitr; swap; · iexact H13
      ipureintro; rfl
    isplitl [H14]
    · iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.AttnBwdIdeal.Body

end
-- ==== Proof.AttnBwdPay.lean ====
/- The tile arithmetic of the attention's backward kernel, on real numbers. One step takes a block of columns (keys) and a
   block of rows (queries); what each stored tile adds to what it found is a sum of the two quantities below. -/
module

public import proofs.«01_k».proof.Proof.Reals
public import proofs.«01_k».proof.Proof.AttnBwdBody

@[expose] public section

set_option maxRecDepth 16384

noncomputable section

open Idealize.ShloMosaic Idealize.ShloMosaic.TcCoe Cert.Reals

namespace Cert.AttnBwdIdeal.Pay

open Cert.AttnBwdIdeal Cert.AttnBwdIdeal.Gen

/-- Which of the pair's two heads a lane belongs to. -/
def hd (l : Fin 128) : Fin 2 := if l.val < 64 then 0 else 1

/-- A lane's value where the lane belongs to the head, zero elsewhere. -/
def pick (h : Fin 2) (l : Fin 128) (x : ℝ) : ℝ := if hd l = h then x else 0

theorem coe_pick (h : Fin 2) (l : Fin 128) (x : ℝ) : (if hd l = h then (x : EReal) else 0) = (pick h l x : EReal) := by
  unfold pick; split <;> simp

theorem coe_ite0 (c : Prop) [Decidable c] (x : ℝ) : (if c then (x : EReal) else 0) = ((if c then x else 0 : ℝ) : EReal) := by
  split <;> simp

theorem lane_mask (l : Fin 128) : k0_pay49 (ix2 (0 : Fin 1) l) = if l.val < 64 then 1#1 else 0#1 := by
  pointwise [k0_pay49]
  exact (by decide +kernel : ∀ l : Fin 128, IntOp.cmpi .slt (BitVec.ofNat 32 l.val) 64#32 = if l.val < 64 then 1#1 else 0#1) l

theorem sel49 (l : Fin 128) (a b : EReal) : Scalar.select (k0_pay49 (ix2 (0 : Fin 1) l)) a b = if hd l = 0 then a else b := by
  rw [lane_mask]; unfold hd; by_cases h : l.val < 64 <;> simp [h, Scalar.select]

theorem sel50 (l : Fin 128) (a b : EReal) : Scalar.select (k0_pay50 (ix2 (0 : Fin 1) l)) a b = if hd l = 1 then a else b := by
  have e : k0_pay50 (ix2 (0 : Fin 1) l) = if l.val < 64 then 0#1 else 1#1 := by
    pointwise [k0_pay50]; rw [lane_mask]; by_cases h : l.val < 64 <;> simp [h] <;> decide
  rw [e]; unfold hd; by_cases h : l.val < 64 <;> simp [h, Scalar.select]

/-- The scale, in either word. -/
theorem scale16 : Ideal.ofBits .bf16 15872#16 = ((1 / 8 : ℝ) : EReal) := by
  simp [Ideal.ofBits, Ideal.ieee, -EReal.coe_mul]; norm_num
theorem scale32 : Ideal.ofBits .f32 0x3E000000#32 = ((1 / 8 : ℝ) : EReal) := by
  simp [Ideal.ofBits, Ideal.ieee, -EReal.coe_mul]; norm_num

/-- The causal mask of a tile on the diagonal. -/
theorem diag_mask (r c : Fin 512) (a b : EReal) :
    Scalar.select (IntOp.cmpi .sle (BitVec.ofNat 32 c.val) (BitVec.ofNat 32 r.val)) a b = if c.val ≤ r.val then a else b := by
  have hr := r.isLt; have hc := c.isLt
  have h1 : (BitVec.ofNat 32 c.val).toInt = c.val := by
    rw [BitVec.toInt_eq_toNat_of_lt (by simp; omega)]; simp; omega
  have h2 : (BitVec.ofNat 32 r.val).toInt = r.val := by
    rw [BitVec.toInt_eq_toNat_of_lt (by simp; omega)]; simp; omega
  by_cases h : c.val ≤ r.val <;> simp [h, Scalar.select, IntOp.cmpi, BitVec.sle, h1, h2]

variable (q k v d o : Fin 2048 → Fin 128 → ℝ) (f : Fin 2 → Fin 2048 → ℝ) (s : Fin 2048 → Fin 2 → ℝ)

/-- The probability of column `C` in row `R` for head `h`, from the saved log-sum-exp, -/
def P (h : Fin 2) (R C : Fin 2048) : ℝ :=
  if C.val ≤ R.val then Real.exp ((∑ l, pick h l (q R l * (1 / 8)) * k C l) - f h C - s R h) else 0

/-- and the gradient of its score. -/
def DS (h : Fin 2) (R C : Fin 2048) : ℝ :=
  P q k f s h R C * ((∑ l, pick h l (d R l) * v C l) - ∑ l, pick h l (d R l * o R l))

section Tile
variable (R C : Fin 512 → Fin 2048)
variable (xq xk xv xd xo : FVec Ideal S512x128 .bf16) (xs : FVec Ideal S1x512x2 .f32) (xf0 xf1 : FVec Ideal S1x1x1x512 .f32)
variable (hq : ∀ r l, xq (ix2 r l) = (q (R r) l : EReal)) (hk : ∀ c l, xk (ix2 c l) = (k (C c) l : EReal))
  (hv : ∀ c l, xv (ix2 c l) = (v (C c) l : EReal)) (hd : ∀ r l, xd (ix2 r l) = (d (R r) l : EReal))
  (ho : ∀ r l, xo (ix2 r l) = (o (R r) l : EReal)) (hs : ∀ r h, xs (ix3 0 r h) = (s (R r) h : EReal))
  (hf0 : ∀ c, xf0 (ix4 0 0 0 c) = (f 0 (C c) : EReal)) (hf1 : ∀ c, xf1 (ix4 0 0 0 c) = (f 1 (C c) : EReal))

include hk in
theorem pay56_real (c : Fin 512) (l : Fin 128) : k0_pay56 (F := Ideal) xk (ix2 c l) = (k (C c) l : EReal) := by
  pointwise [k0_pay56]; exact hk c l
include hv in
theorem pay57_real (c : Fin 512) (l : Fin 128) : k0_pay57 (F := Ideal) xv (ix2 c l) = (v (C c) l : EReal) := by
  pointwise [k0_pay57]; exact hv c l
include hk in
theorem pay58_real (c : Fin 512) (l : Fin 128) : k0_pay58 (F := Ideal) xk (ix2 c l) = (pick 0 l (k (C c) l) : EReal) := by
  pointwise [k0_pay58]; rw [sel49, pay56_real k C xk hk, coe_pick]
include hk in
theorem pay60_real (c : Fin 512) (l : Fin 128) :
    k0_pay60 (F := Ideal) k0_pay50 (k0_pay56 xk) k0_pay59 (ix2 c l) = (pick 1 l (k (C c) l) : EReal) := by
  have z : k0_pay59 (F := Ideal) = (0 : EReal) := by unfold k0_pay59; simp [Ideal.ofBits, Ideal.ieee]
  pointwise [k0_pay60]; rw [sel50, pay56_real k C xk hk, z, coe_pick]

/-! A step below the diagonal: every column of the tile comes before every row. -/
section Below
variable (hm : ∀ r c, (C c).val ≤ (R r).val)

include hq in
theorem pay6_real (r : Fin 512) (l : Fin 128) : k0_pay6 (F := Ideal) k0_pay49 xq (ix2 r l) = (pick 0 l (q (R r) l * (1 / 8)) : EReal) := by
  pointwise [k0_pay6, k0_pay1]; rw [sel49, hq, scale16, ← EReal.coe_mul, coe_pick]
include hq in
theorem pay20_real (r : Fin 512) (l : Fin 128) : k0_pay20 (F := Ideal) k0_pay50 (k0_pay1 xq) (ix2 r l) = (pick 1 l (q (R r) l * (1 / 8)) : EReal) := by
  pointwise [k0_pay20, k0_pay1]; rw [sel50, hq, scale16, ← EReal.coe_mul, coe_pick]
include hd in
theorem pay7_real (r : Fin 512) (l : Fin 128) : k0_pay7 (F := Ideal) k0_pay49 xd (ix2 r l) = (pick 0 l (d (R r) l) : EReal) := by
  pointwise [k0_pay7, k0_pay2]; rw [sel49, hd, coe_pick]
include hd in
theorem pay21_real (r : Fin 512) (l : Fin 128) : k0_pay21 (F := Ideal) k0_pay50 (k0_pay2 xd) (ix2 r l) = (pick 1 l (d (R r) l) : EReal) := by
  pointwise [k0_pay21, k0_pay2]; rw [sel50, hd, coe_pick]
include hd ho in
theorem pay3_real (r : Fin 512) (l : Fin 128) : k0_pay3 (F := Ideal) xd xo (ix2 r l) = ((d (R r) l * o (R r) l : ℝ) : EReal) := by
  pointwise [k0_pay3, k0_pay2]; rw [hd, ho, EReal.coe_mul]
include hd ho in
theorem pay8_real (r : Fin 512) : k0_pay8 (F := Ideal) k0_pay49 xd xo (ix2 r 0) = ((∑ l, pick 0 l (d (R r) l * o (R r) l) : ℝ) : EReal) := by
  pointwise [k0_pay8, k0_pay3, k0_pay2]
  simp only [sel49, hd, ho, ← EReal.coe_mul, coe_pick, coe_sum]
include hq hk hf0 hs hm in
theorem pay11_real (r c : Fin 512) :
    k0_pay11 (F := Ideal) (k0_pay9 k0_pay49 (k0_pay56 xk) xq xf0) (k0_pay10 xs) (ix2 r c) = (P q k f s 0 (R r) (C c) : EReal) := by
  pointwise [k0_pay11, k0_pay9, k0_pay10, k0_pay4]
  simp only [pay6_real q R xq hq, pay56_real k C xk hk, hf0, hs, ← EReal.coe_mul, coe_sum, ← EReal.coe_sub, Ideal.exp_coe]
  rw [P, if_pos (hm r c)]
include hq hk hf1 hs hm in
theorem pay22_real (r c : Fin 512) :
    k0_pay22 (F := Ideal) k0_pay50 (k0_pay56 xk) (k0_pay1 xq) (k0_pay4 xs) xf1 (ix2 r c) = (P q k f s 1 (R r) (C c) : EReal) := by
  pointwise [k0_pay22, k0_pay4]
  simp only [pay20_real q R xq hq, pay56_real k C xk hk, hf1, hs, ← EReal.coe_mul, coe_sum, ← EReal.coe_sub, Ideal.exp_coe]
  rw [P, if_pos (hm r c)]
include hq hk hv hd ho hf0 hs hm in
theorem pay12_real (r c : Fin 512) :
    k0_pay12 (F := Ideal) (k0_pay57 xv) (k0_pay7 k0_pay49 xd) (k0_pay8 k0_pay49 xd xo) (k0_pay9 k0_pay49 (k0_pay56 xk) xq xf0) (k0_pay10 xs) (ix2 r c)
      = (DS q k v d o f s 0 (R r) (C c) : EReal) := by
  pointwise [k0_pay12]
  simp only [pay11_real q k f s R C xq xk xs xf0 hq hk hs hf0 hm, pay7_real d R xd hd, pay8_real d o R xd xo hd ho, pay57_real v C xv hv,
    ← EReal.coe_mul, coe_sum, ← EReal.coe_sub]
  rfl
include hq hk hv hd ho hf1 hs hm in
theorem pay23_real (r c : Fin 512) :
    k0_pay23 (F := Ideal) k0_pay50 (k0_pay56 xk) (k0_pay57 xv) (k0_pay1 xq) (k0_pay2 xd) (k0_pay3 xd xo) (k0_pay4 xs) xf1 (ix2 r c)
      = (DS q k v d o f s 1 (R r) (C c) : EReal) := by
  pointwise [k0_pay23]
  simp only [pay22_real q k f s R C xq xk xs xf1 hq hk hs hf1 hm, pay21_real d R xd hd, pay57_real v C xv hv, sel50, pay3_real d o R xd xo hd ho,
    ← EReal.coe_mul, coe_pick, coe_sum, ← EReal.coe_sub]
  rfl

include hq hk hv hd ho hf0 hs hm in
/-- What the step adds to the column sums of the first head, -/
theorem cols0 (z : FVec Ideal S1x512 .f32) (c : Fin 512) :
    k0_pay13 (F := Ideal) (k0_pay57 xv) (k0_pay7 k0_pay49 xd) (k0_pay8 k0_pay49 xd xo) (k0_pay9 k0_pay49 (k0_pay56 xk) xq xf0) (k0_pay10 xs) z (ix2 0 c)
      = z (ix2 0 c) + ((∑ r, DS q k v d o f s 0 (R r) (C c) : ℝ) : EReal) := by
  pointwise [k0_pay13]
  simp only [pay12_real q k v d o f s R C xq xk xv xd xo xs xf0 hq hk hv hd ho hs hf0 hm, coe_sum]
include hq hk hv hd ho hf1 hs hm in
/-- of the second, -/
theorem cols1 (z : FVec Ideal S1x512 .f32) (c : Fin 512) :
    k0_pay24 (F := Ideal) k0_pay50 (k0_pay56 xk) (k0_pay57 xv) (k0_pay1 xq) (k0_pay2 xd) (k0_pay3 xd xo) (k0_pay4 xs) xf1 z (ix2 0 c)
      = z (ix2 0 c) + ((∑ r, DS q k v d o f s 1 (R r) (C c) : ℝ) : EReal) := by
  pointwise [k0_pay24]
  simp only [pay23_real q k v d o f s R C xq xk xv xd xo xs xf1 hq hk hv hd ho hs hf1 hm, coe_sum]
include hq hk hv hd ho hf0 hs hm in
/-- to the row sums of the first head, -/
theorem rows0 (z : FVec Ideal S1x512x1 .f32) (r : Fin 512) :
    k0_pay14 (F := Ideal) (k0_pay57 xv) (k0_pay7 k0_pay49 xd) (k0_pay8 k0_pay49 xd xo) (k0_pay9 k0_pay49 (k0_pay56 xk) xq xf0) (k0_pay10 xs) z (ix3 0 r 0)
      = z (ix3 0 r 0) + ((∑ c, DS q k v d o f s 0 (R r) (C c) : ℝ) : EReal) := by
  pointwise [k0_pay14]
  simp only [pay12_real q k v d o f s R C xq xk xv xd xo xs xf0 hq hk hv hd ho hs hf0 hm, coe_sum]
include hq hk hv hd ho hf1 hs hm in
/-- of the second, -/
theorem rows1 (z : FVec Ideal S1x512x1 .f32) (r : Fin 512) :
    k0_pay90 (F := Ideal) (k0_pay23 k0_pay50 (k0_pay56 xk) (k0_pay57 xv) (k0_pay1 xq) (k0_pay2 xd) (k0_pay3 xd xo) (k0_pay4 xs) xf1) z (ix3 0 r 0)
      = z (ix3 0 r 0) + ((∑ c, DS q k v d o f s 1 (R r) (C c) : ℝ) : EReal) := by
  pointwise [k0_pay90]
  simp only [pay23_real q k v d o f s R C xq xk xv xd xo xs xf1 hq hk hv hd ho hs hf1 hm, coe_sum]
include hq hk hd hf0 hf1 hs hm in
/-- to the value gradient, -/
theorem dval (z : FVec Ideal S512x128 .f32) (c : Fin 512) (l : Fin 128) :
    k0_pay92 (F := Ideal) (k0_pay21 k0_pay50 (k0_pay2 xd)) (k0_pay22 k0_pay50 (k0_pay56 xk) (k0_pay1 xq) (k0_pay4 xs) xf1)
        (k0_pay16 (F := Ideal) (k0_pay7 k0_pay49 xd) (k0_pay9 k0_pay49 (k0_pay56 xk) xq xf0) (k0_pay10 xs) z) (ix2 c l)
      = z (ix2 c l) + ((∑ h, ∑ r, P q k f s h (R r) (C c) * pick h l (d (R r) l) : ℝ) : EReal) := by
  pointwise [k0_pay92, k0_pay16]
  simp only [pay11_real q k f s R C xq xk xs xf0 hq hk hs hf0 hm, pay22_real q k f s R C xq xk xs xf1 hq hk hs hf1 hm,
    pay7_real d R xd hd, pay21_real d R xd hd, ← EReal.coe_mul, coe_sum, Fin.sum_univ_two, EReal.coe_add, add_assoc]
include hq hk hv hd ho hf0 hf1 hs hm in
/-- to the key gradient -/
theorem dkey (z : FVec Ideal S512x128 .f32) (c : Fin 512) (l : Fin 128) :
    k0_pay93 (F := Ideal) (k0_pay20 k0_pay50 (k0_pay1 xq)) (k0_pay23 k0_pay50 (k0_pay56 xk) (k0_pay57 xv) (k0_pay1 xq) (k0_pay2 xd) (k0_pay3 xd xo) (k0_pay4 xs) xf1)
        (k0_pay18 (F := Ideal) (k0_pay17 (F := Ideal) (k0_pay57 xv) (k0_pay6 k0_pay49 xq) (k0_pay7 k0_pay49 xd) (k0_pay8 k0_pay49 xd xo) (k0_pay9 k0_pay49 (k0_pay56 xk) xq xf0) (k0_pay10 xs) z)) (ix2 c l)
      = z (ix2 c l) + ((∑ h, ∑ r, DS q k v d o f s h (R r) (C c) * pick h l (q (R r) l * (1 / 8)) : ℝ) : EReal) := by
  pointwise [k0_pay93, k0_pay91, k0_pay18, k0_pay17, k0_pay15]
  simp only [pay12_real q k v d o f s R C xq xk xv xd xo xs xf0 hq hk hv hd ho hs hf0 hm, pay23_real q k v d o f s R C xq xk xv xd xo xs xf1 hq hk hv hd ho hs hf1 hm,
    pay6_real q R xq hq, pay20_real q R xq hq, ← EReal.coe_mul, coe_sum, Fin.sum_univ_two, EReal.coe_add, add_assoc]
include hq hk hv hd ho hf0 hf1 hs hm in
/-- and to the query gradient. -/
theorem dqry (z : FVec Ideal S512x128 .f32) (r : Fin 512) (l : Fin 128) :
    k0_pay94 (F := Ideal) (k0_pay60 k0_pay50 (k0_pay56 xk) (k0_pay59 (F := Ideal)))
        (k0_pay19 (F := Ideal) (k0_pay58 xk) (k0_pay5 (F := Ideal)) (k0_pay15 (F := Ideal) (k0_pay57 xv) (k0_pay7 k0_pay49 xd) (k0_pay8 k0_pay49 xd xo) (k0_pay9 k0_pay49 (k0_pay56 xk) xq xf0) (k0_pay10 xs)))
        (k0_pay23 k0_pay50 (k0_pay56 xk) (k0_pay57 xv) (k0_pay1 xq) (k0_pay2 xd) (k0_pay3 xd xo) (k0_pay4 xs) xf1) z (ix2 r l)
      = z (ix2 r l) + ((∑ h, ∑ c, DS q k v d o f s h (R r) (C c) * pick h l (k (C c) l) : ℝ) : EReal) := by
  pointwise [k0_pay94, k0_pay91, k0_pay19, k0_pay15, k0_pay5]
  simp only [pay12_real q k v d o f s R C xq xk xv xd xo xs xf0 hq hk hv hd ho hs hf0 hm, pay23_real q k v d o f s R C xq xk xv xd xo xs xf1 hq hk hv hd ho hs hf1 hm,
    pay58_real k C xk hk, pay60_real k C xk hk, ← EReal.coe_mul, coe_sum, Fin.sum_univ_two, EReal.coe_add, zero_add]

end Below

/-! The step on the diagonal: the tile's own rows against its own columns, masked. -/
section Diagonal
variable (hm : ∀ r c : Fin 512, (C c).val ≤ (R r).val ↔ c.val ≤ r.val)

/-- The tile's row and column numbers. -/
abbrev io0 : IVec S512x512 32 := iota .tc S512x512 32 [0] iota_S512x512_d0_w32
abbrev io1 : IVec S512x512 32 := iota .tc S512x512 32 [1] iota_S512x512_d1_w32

include hq in
theorem pay66_real (r : Fin 512) (l : Fin 128) : k0_pay66 (F := Ideal) k0_pay49 xq (ix2 r l) = (pick 0 l (q (R r) l * (1 / 8)) : EReal) := by
  pointwise [k0_pay66, k0_pay61]; rw [sel49, hq, scale16, ← EReal.coe_mul, coe_pick]
include hq in
theorem pay79_real (r : Fin 512) (l : Fin 128) : k0_pay79 (F := Ideal) k0_pay50 (k0_pay61 xq) (ix2 r l) = (pick 1 l (q (R r) l * (1 / 8)) : EReal) := by
  pointwise [k0_pay79, k0_pay61]; rw [sel50, hq, scale16, ← EReal.coe_mul, coe_pick]
include hd in
theorem pay67_real (r : Fin 512) (l : Fin 128) : k0_pay67 (F := Ideal) k0_pay49 xd (ix2 r l) = (pick 0 l (d (R r) l) : EReal) := by
  pointwise [k0_pay67, k0_pay62]; rw [sel49, hd, coe_pick]
include hd in
theorem pay80_real (r : Fin 512) (l : Fin 128) : k0_pay80 (F := Ideal) k0_pay50 (k0_pay62 xd) (ix2 r l) = (pick 1 l (d (R r) l) : EReal) := by
  pointwise [k0_pay80, k0_pay62]; rw [sel50, hd, coe_pick]
include hd ho in
theorem pay63_real (r : Fin 512) (l : Fin 128) : k0_pay63 (F := Ideal) xd xo (ix2 r l) = ((d (R r) l * o (R r) l : ℝ) : EReal) := by
  pointwise [k0_pay63, k0_pay62]; rw [hd, ho, EReal.coe_mul]
include hd ho in
theorem pay68_real (r : Fin 512) : k0_pay68 (F := Ideal) k0_pay49 xd xo (ix2 r 0) = ((∑ l, pick 0 l (d (R r) l * o (R r) l) : ℝ) : EReal) := by
  pointwise [k0_pay68, k0_pay63, k0_pay62]
  simp only [sel49, hd, ho, ← EReal.coe_mul, coe_pick, coe_sum]
include hq hk hf0 hs hm in
theorem pay71_real (r c : Fin 512) :
    k0_pay71 (F := Ideal) io0 io1 (k0_pay64 xs) (k0_pay69 k0_pay49 (k0_pay56 xk) xq) (k0_pay70 xf0) (ix2 r c) = (P q k f s 0 (R r) (C c) : EReal) := by
  pointwise [k0_pay71, k0_pay69, k0_pay70, k0_pay64]
  simp only [pay66_real q R xq hq, pay56_real k C xk hk, hf0, hs, ← EReal.coe_mul, coe_sum, ← EReal.coe_sub, Ideal.exp_coe]
  rw [diag_mask, coe_ite0, P]; simp only [hm]
include hq hk hf1 hs hm in
theorem pay81_real (r c : Fin 512) :
    k0_pay81 (F := Ideal) k0_pay50 io0 io1 (k0_pay56 xk) (k0_pay61 xq) (k0_pay64 xs) xf1 (ix2 r c) = (P q k f s 1 (R r) (C c) : EReal) := by
  pointwise [k0_pay81, k0_pay64]
  simp only [pay79_real q R xq hq, pay56_real k C xk hk, hf1, hs, ← EReal.coe_mul, coe_sum, ← EReal.coe_sub, Ideal.exp_coe]
  rw [diag_mask, coe_ite0, P]; simp only [hm]
include hq hk hv hd ho hf0 hs hm in
theorem pay72_real (r c : Fin 512) :
    k0_pay72 (F := Ideal) io0 io1 (k0_pay57 xv) (k0_pay64 xs) (k0_pay67 k0_pay49 xd) (k0_pay68 k0_pay49 xd xo) (k0_pay69 k0_pay49 (k0_pay56 xk) xq) (k0_pay70 xf0) (ix2 r c)
      = (DS q k v d o f s 0 (R r) (C c) : EReal) := by
  pointwise [k0_pay72]
  simp only [pay71_real q k f s R C xq xk xs xf0 hq hk hs hf0 hm, pay67_real d R xd hd, pay68_real d o R xd xo hd ho, pay57_real v C xv hv,
    ← EReal.coe_mul, coe_sum, ← EReal.coe_sub]
  rfl
include hq hk hv hd ho hf1 hs hm in
theorem pay82_real (r c : Fin 512) :
    k0_pay82 (F := Ideal) k0_pay50 io0 io1 (k0_pay56 xk) (k0_pay57 xv) (k0_pay61 xq) (k0_pay62 xd) (k0_pay63 xd xo) (k0_pay64 xs) xf1 (ix2 r c)
      = (DS q k v d o f s 1 (R r) (C c) : EReal) := by
  pointwise [k0_pay82]
  simp only [pay81_real q k f s R C xq xk xs xf1 hq hk hs hf1 hm, pay80_real d R xd hd, pay57_real v C xv hv, sel50, pay63_real d o R xd xo hd ho,
    ← EReal.coe_mul, coe_pick, coe_sum, ← EReal.coe_sub]
  rfl

include hq hk hv hd ho hf0 hs hm in
/-- What the step adds to the column sums of the first head, -/
theorem diag_cols0 (z : FVec Ideal S1x512 .f32) (c : Fin 512) :
    k0_pay73 (F := Ideal) io0 io1 (k0_pay57 xv) (k0_pay64 xs) (k0_pay67 k0_pay49 xd) (k0_pay68 k0_pay49 xd xo) (k0_pay69 k0_pay49 (k0_pay56 xk) xq) (k0_pay70 xf0) z (ix2 0 c)
      = z (ix2 0 c) + ((∑ r, DS q k v d o f s 0 (R r) (C c) : ℝ) : EReal) := by
  pointwise [k0_pay73]
  simp only [pay72_real q k v d o f s R C xq xk xv xd xo xs xf0 hq hk hv hd ho hs hf0 hm, coe_sum]
include hq hk hv hd ho hf1 hs hm in
/-- of the second, -/
theorem diag_cols1 (z : FVec Ideal S1x512 .f32) (c : Fin 512) :
    k0_pay83 (F := Ideal) (k0_pay82 k0_pay50 io0 io1 (k0_pay56 xk) (k0_pay57 xv) (k0_pay61 xq) (k0_pay62 xd) (k0_pay63 xd xo) (k0_pay64 xs) xf1) z (ix2 0 c)
      = z (ix2 0 c) + ((∑ r, DS q k v d o f s 1 (R r) (C c) : ℝ) : EReal) := by
  pointwise [k0_pay83]
  simp only [pay82_real q k v d o f s R C xq xk xv xd xo xs xf1 hq hk hv hd ho hs hf1 hm, coe_sum]
include hq hk hv hd ho hf0 hs hm in
/-- to the row sums of the first head, -/
theorem diag_rows0 (z : FVec Ideal S1x512x1 .f32) (r : Fin 512) :
    k0_pay74 (F := Ideal) io0 io1 (k0_pay57 xv) (k0_pay64 xs) (k0_pay67 k0_pay49 xd) (k0_pay68 k0_pay49 xd xo) (k0_pay69 k0_pay49 (k0_pay56 xk) xq) (k0_pay70 xf0) z (ix3 0 r 0)
      = z (ix3 0 r 0) + ((∑ c, DS q k v d o f s 0 (R r) (C c) : ℝ) : EReal) := by
  pointwise [k0_pay74]
  simp only [pay72_real q k v d o f s R C xq xk xv xd xo xs xf0 hq hk hv hd ho hs hf0 hm, coe_sum]
include hq hk hv hd ho hf1 hs hm in
/-- of the second, -/
theorem diag_rows1 (z : FVec Ideal S1x512x1 .f32) (r : Fin 512) :
    k0_pay84 (F := Ideal) (k0_pay82 k0_pay50 io0 io1 (k0_pay56 xk) (k0_pay57 xv) (k0_pay61 xq) (k0_pay62 xd) (k0_pay63 xd xo) (k0_pay64 xs) xf1) z (ix3 0 r 0)
      = z (ix3 0 r 0) + ((∑ c, DS q k v d o f s 1 (R r) (C c) : ℝ) : EReal) := by
  pointwise [k0_pay84]
  simp only [pay82_real q k v d o f s R C xq xk xv xd xo xs xf1 hq hk hv hd ho hs hf1 hm, coe_sum]
include hq hk hd hf0 hf1 hs hm in
/-- to the value gradient, -/
theorem diag_dval (z : FVec Ideal S512x128 .f32) (c : Fin 512) (l : Fin 128) :
    k0_pay86 (F := Ideal) (k0_pay80 k0_pay50 (k0_pay62 xd)) (k0_pay81 k0_pay50 io0 io1 (k0_pay56 xk) (k0_pay61 xq) (k0_pay64 xs) xf1)
        (k0_pay76 (F := Ideal) io0 io1 (k0_pay64 xs) (k0_pay67 k0_pay49 xd) (k0_pay69 k0_pay49 (k0_pay56 xk) xq) (k0_pay70 xf0) z) (ix2 c l)
      = z (ix2 c l) + ((∑ h, ∑ r, P q k f s h (R r) (C c) * pick h l (d (R r) l) : ℝ) : EReal) := by
  pointwise [k0_pay86, k0_pay76]
  simp only [pay71_real q k f s R C xq xk xs xf0 hq hk hs hf0 hm, pay81_real q k f s R C xq xk xs xf1 hq hk hs hf1 hm,
    pay67_real d R xd hd, pay80_real d R xd hd, ← EReal.coe_mul, coe_sum, Fin.sum_univ_two, EReal.coe_add, add_assoc]
include hq hk hv hd ho hf0 hf1 hs hm in
/-- to the key gradient -/
theorem diag_dkey (z : FVec Ideal S512x128 .f32) (c : Fin 512) (l : Fin 128) :
    k0_pay87 (F := Ideal) (k0_pay79 k0_pay50 (k0_pay61 xq)) (k0_pay82 k0_pay50 io0 io1 (k0_pay56 xk) (k0_pay57 xv) (k0_pay61 xq) (k0_pay62 xd) (k0_pay63 xd xo) (k0_pay64 xs) xf1)
        (k0_pay77 (F := Ideal) (k0_pay66 k0_pay49 xq) (k0_pay75 (F := Ideal) io0 io1 (k0_pay57 xv) (k0_pay64 xs) (k0_pay67 k0_pay49 xd) (k0_pay68 k0_pay49 xd xo) (k0_pay69 k0_pay49 (k0_pay56 xk) xq) (k0_pay70 xf0)) z) (ix2 c l)
      = z (ix2 c l) + ((∑ h, ∑ r, DS q k v d o f s h (R r) (C c) * pick h l (q (R r) l * (1 / 8)) : ℝ) : EReal) := by
  pointwise [k0_pay87, k0_pay85, k0_pay77, k0_pay75]
  simp only [pay72_real q k v d o f s R C xq xk xv xd xo xs xf0 hq hk hv hd ho hs hf0 hm, pay82_real q k v d o f s R C xq xk xv xd xo xs xf1 hq hk hv hd ho hs hf1 hm,
    pay66_real q R xq hq, pay79_real q R xq hq, ← EReal.coe_mul, coe_sum, Fin.sum_univ_two, EReal.coe_add, add_assoc]
include hq hk hv hd ho hf0 hf1 hs hm in
/-- and to the query gradient. -/
theorem diag_dqry (z : FVec Ideal S512x128 .f32) (r : Fin 512) (l : Fin 128) :
    k0_pay89 (F := Ideal) (k0_pay88 (F := Ideal) (k0_pay60 k0_pay50 (k0_pay56 xk) (k0_pay59 (F := Ideal)))
        (k0_pay78 (F := Ideal) (k0_pay58 xk) (k0_pay65 (F := Ideal)) (k0_pay75 (F := Ideal) io0 io1 (k0_pay57 xv) (k0_pay64 xs) (k0_pay67 k0_pay49 xd) (k0_pay68 k0_pay49 xd xo) (k0_pay69 k0_pay49 (k0_pay56 xk) xq) (k0_pay70 xf0)))
        (k0_pay82 k0_pay50 io0 io1 (k0_pay56 xk) (k0_pay57 xv) (k0_pay61 xq) (k0_pay62 xd) (k0_pay63 xd xo) (k0_pay64 xs) xf1) z) (ix2 r l)
      = z (ix2 r l) + ((∑ h, ∑ c, DS q k v d o f s h (R r) (C c) * pick h l (k (C c) l) : ℝ) : EReal) := by
  pointwise [k0_pay89, k0_pay88, k0_pay85, k0_pay78, k0_pay75, k0_pay65]
  simp only [pay72_real q k v d o f s R C xq xk xv xd xo xs xf0 hq hk hv hd ho hs hf0 hm, pay82_real q k v d o f s R C xq xk xv xd xo xs xf1 hq hk hv hd ho hs hf1 hm,
    pay58_real k C xk hk, pay60_real k C xk hk, ← EReal.coe_mul, coe_sum, Fin.sum_univ_two, EReal.coe_add, zero_add]

end Diagonal

end Tile

end Cert.AttnBwdIdeal.Pay

end
-- ==== Proof.AttnBwdTrip.lean ====
/- What one step below the diagonal writes, read back: each accumulator gains the step's contribution. -/
module

public import proofs.«01_k».proof.Proof.AttnBwdPay

@[expose] public section

set_option maxRecDepth 16384

noncomputable section

open Idealize.ShloMosaic Idealize.ShloMosaic.TcCoe Cert.Reals

namespace Cert.AttnBwdIdeal.Pay

open Cert.AttnBwdIdeal Cert.AttnBwdIdeal.Gen

/-- Row `r` of tile `n`. -/
def row (n : ℕ) (r : Fin 512) : Fin 2048 := ⟨(512 * n + r.val) % 2048, Nat.mod_lt _ (by norm_num)⟩
/-- A row's place in its tile. -/
def lo (R : Fin 2048) : Fin 512 := ⟨R.val % 512, Nat.mod_lt _ (by norm_num)⟩

theorem row_val {n : ℕ} (hn : n < 4) (r : Fin 512) : (row n r).val = 512 * n + r.val := by
  have := r.isLt; unfold row; dsimp only; omega
theorem row_lo (R : Fin 2048) : row (R.val / 512) (lo R) = R := by
  have := R.isLt; apply Fin.ext; rw [row_val (by omega)]; unfold lo; dsimp only; omega

/-! Loads of a tile and stores of a tile, by the tile's number. -/
section Access
variable {Val : EltTy → Type} {e : EltTy}

theorem ld_rows (v : View sig .tc .vmem S2048x128 e) (X : v.ty.Contents Val) {off : Fin 2 → ℕ} (inb : ∀ a, off a + S512x128.size a ≤ S2048x128.size a)
    {n : ℕ} (hn : n < 4) (h : off = ![512 * n, 0]) (r : Fin 512) (l : Fin 128) :
    v.readAt Val (Rect.unit (s := S2048x128) off S512x128.size inb).toLoadRect X (ix2 r l) = v.read Val X (ix2 (row n r) l) := by
  subst h
  refine congrArg (v.read Val X) (funext fun a => Fin.ext ?_)
  match a with
  | ⟨0, _⟩ => show 512 * n + 1 * r.val = (row n r).val; rw [row_val hn]; omega
  | ⟨1, _⟩ => show 0 + 1 * l.val = l.val; omega
theorem ld_lse (v : View sig .tc .vmem S1x2048x2 e) (X : v.ty.Contents Val) {off : Fin 3 → ℕ} (inb : ∀ a, off a + S1x512x2.size a ≤ S1x2048x2.size a)
    {n : ℕ} (hn : n < 4) (h : off = ![0, 512 * n, 0]) (r : Fin 512) (l : Fin 2) :
    v.readAt Val (Rect.unit (s := S1x2048x2) off S1x512x2.size inb).toLoadRect X (ix3 0 r l) = v.read Val X (ix3 0 (row n r) l) := by
  subst h
  refine congrArg (v.read Val X) (funext fun a => Fin.ext ?_)
  match a with
  | ⟨0, _⟩ => rfl
  | ⟨1, _⟩ => show 512 * n + 1 * r.val = (row n r).val; rw [row_val hn]; omega
  | ⟨2, _⟩ => show 0 + 1 * l.val = l.val; omega
theorem ld_col (v : View sig .tc .vmem S1x2048x2 e) (X : v.ty.Contents Val) {off : Fin 3 → ℕ} (inb : ∀ a, off a + S1x512x1.size a ≤ S1x2048x2.size a)
    {n : ℕ} (hn : n < 4) (hd : Fin 2) (h : off = ![0, 512 * n, hd.val]) (r : Fin 512) :
    v.readAt Val (Rect.unit (s := S1x2048x2) off S1x512x1.size inb).toLoadRect X (ix3 0 r 0) = v.read Val X (ix3 0 (row n r) hd) := by
  subst h
  refine congrArg (v.read Val X) (funext fun a => Fin.ext ?_)
  match a with
  | ⟨0, _⟩ => rfl
  | ⟨1, _⟩ => show 512 * n + 1 * r.val = (row n r).val; rw [row_val hn]; omega
  | ⟨2, _⟩ => show hd.val + 1 * 0 = hd.val; omega
theorem ld_f (v : View sig .tc .vmem S1x1x2x2048 e) (X : v.ty.Contents Val) {off : Fin 4 → ℕ} (inb : ∀ a, off a + S1x1x1x512.size a ≤ S1x1x2x2048.size a)
    {n : ℕ} (hn : n < 4) (hd : Fin 2) (h : off = ![0, 0, hd.val, 512 * n]) (r : Fin 512) :
    v.readAt Val (Rect.unit (s := S1x1x2x2048) off S1x1x1x512.size inb).toLoadRect X (ix4 0 0 0 r) = v.read Val X (ix4 0 0 hd (row n r)) := by
  subst h
  refine congrArg (v.read Val X) (funext fun a => Fin.ext ?_)
  match a with
  | ⟨0, _⟩ => rfl
  | ⟨1, _⟩ => rfl
  | ⟨2, _⟩ => show hd.val + 1 * 0 = hd.val; omega
  | ⟨3, _⟩ => show 512 * n + 1 * r.val = (row n r).val; rw [row_val hn]; omega
theorem ld_two (v : View sig .tc .vmem S2x512 e) (X : v.ty.Contents Val) {off : Fin 2 → ℕ} (inb : ∀ a, off a + S1x512.size a ≤ S2x512.size a)
    (hd : Fin 2) (h : off = ![hd.val, 0]) (c : Fin 512) :
    v.readAt Val (Rect.unit (s := S2x512) off S1x512.size inb).toLoadRect X (ix2 0 c) = v.read Val X (ix2 hd c) := by
  subst h
  refine congrArg (v.read Val X) (funext fun a => Fin.ext ?_)
  match a with
  | ⟨0, _⟩ => show hd.val + 1 * 0 = hd.val; omega
  | ⟨1, _⟩ => show 0 + 1 * c.val = c.val; omega

theorem wr_rows (v : View sig .tc .vmem S2048x128 e) (X : v.ty.Contents Val) {off : Fin 2 → ℕ} (inb : ∀ a, off a + S512x128.size a ≤ S2048x128.size a)
    (w : S512x128.Idx → Val e) (L : List (View.Piece Val S2048x128 e)) {n : ℕ} (h : off = ![512 * n, 0]) (R : Fin 2048) (l : Fin 128) :
    v.read Val (v.writes Val X (⟨Rect.unit (s := S2048x128) off S512x128.size inb, w⟩ :: L)) (ix2 R l)
      = if R.val / 512 = n then w (ix2 (lo R) l) else v.read Val (v.writes Val X L) (ix2 R l) := by
  split
  · next hr =>
    exact View.read_writes_cons_unit_of_mem v X inb w L (ix2 R l) (ix2 (lo R) l) h (Fin.forall_fin_two.mpr
      ⟨by show R.val = 512 * n + R.val % 512; omega, by show l.val = 0 + l.val; omega⟩)
  · next hr =>
    exact View.read_writes_cons_unit_of_not_mem v X inb w L (ix2 R l) h (0 : Fin 2)
      (by show R.val < 512 * n ∨ 512 * n + 512 ≤ R.val; omega)
theorem wr_col (v : View sig .tc .vmem S1x2048x2 e) (X : v.ty.Contents Val) {off : Fin 3 → ℕ} (inb : ∀ a, off a + S1x512x1.size a ≤ S1x2048x2.size a)
    (w : S1x512x1.Idx → Val e) (L : List (View.Piece Val S1x2048x2 e)) {n : ℕ} (hd : Fin 2) (h : off = ![0, 512 * n, hd.val]) (R : Fin 2048) (g : Fin 2) :
    v.read Val (v.writes Val X (⟨Rect.unit (s := S1x2048x2) off S1x512x1.size inb, w⟩ :: L)) (ix3 0 R g)
      = if R.val / 512 = n ∧ g = hd then w (ix3 0 (lo R) 0) else v.read Val (v.writes Val X L) (ix3 0 R g) := by
  split
  · next hr =>
    obtain ⟨hr, rfl⟩ := hr
    refine View.read_writes_cons_unit_of_mem v X inb w L (ix3 0 R g) (ix3 0 (lo R) 0) h fun a => ?_
    match a with
    | ⟨0, _⟩ => rfl
    | ⟨1, _⟩ => show R.val = 512 * n + R.val % 512; omega
    | ⟨2, _⟩ => show g.val = g.val + 0; omega
  · next hr =>
    by_cases hg : g = hd
    · subst hg
      exact View.read_writes_cons_unit_of_not_mem v X inb w L (ix3 0 R g) h (1 : Fin 3)
        (by show R.val < 512 * n ∨ 512 * n + 512 ≤ R.val; have : ¬R.val / 512 = n := fun e => hr ⟨e, rfl⟩; omega)
    · exact View.read_writes_cons_unit_of_not_mem v X inb w L (ix3 0 R g) h (2 : Fin 3)
        (by show g.val < hd.val ∨ hd.val + 1 ≤ g.val; have : g.val ≠ hd.val := fun e => hg (Fin.ext e); omega)
theorem wr_two (v : View sig .tc .vmem S2x512 e) (X : v.ty.Contents Val) {off : Fin 2 → ℕ} (inb : ∀ a, off a + S1x512.size a ≤ S2x512.size a)
    (w : S1x512.Idx → Val e) (L : List (View.Piece Val S2x512 e)) (hd : Fin 2) (h : off = ![hd.val, 0]) (g : Fin 2) (c : Fin 512) :
    v.read Val (v.writes Val X (⟨Rect.unit (s := S2x512) off S1x512.size inb, w⟩ :: L)) (ix2 g c)
      = if g = hd then w (ix2 0 c) else v.read Val (v.writes Val X L) (ix2 g c) := by
  split
  · next hr =>
    subst hr
    exact View.read_writes_cons_unit_of_mem v X inb w L (ix2 g c) (ix2 0 c) h (Fin.forall_fin_two.mpr
      ⟨by show g.val = g.val + 0; omega, by show c.val = 0 + c.val; omega⟩)
  · next hr =>
    exact View.read_writes_cons_unit_of_not_mem v X inb w L (ix2 g c) h (0 : Fin 2)
      (by show g.val < hd.val ∨ hd.val + 1 ≤ g.val; have : g.val ≠ hd.val := fun e => hr (Fin.ext e); omega)

end Access

variable (c : Dev nD) (i : grid0.Coords)
  (arg3 : Memref sig .tc .vmem S2048x128 .bf16) (harg3 : arg3.IsWhole)
  (arg4 : Memref sig .tc .vmem S512x128 .bf16) (harg4 : arg4.IsWhole)
  (arg5 : Memref sig .tc .vmem S512x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x2048x2 .f32) (harg8 : arg8.IsWhole)
  (arg9 : Memref sig .tc .vmem S1x1x2x2048 .f32) (harg9 : arg9.IsWhole)
  (arg10 : Memref sig .tc .hbm S8192x5376 .bf16) (harg10 : arg10.IsWhole)
  (arg11 : Memref sig .tc .vmem S512x384 .bf16) (harg11 : arg11.IsWhole)
  (arg12 : Memref sig .tc .vmem S1x1x2x512 .f32) (harg12 : arg12.IsWhole)
  (arg13 : Memref sig .tc .vmem S1x2048x2 .f32) (harg13 : arg13.IsWhole)
  (arg14 : Memref sig .tc .vmem S2048x128 .f32) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S2x512 .f32) (harg17 : arg17.IsWhole)
variable (v26 v196 : BitVec 32) (x4 x5 : FVec Ideal S512x128 .bf16)
  (X3 : arg3.view.ty.Contents (Elt Ideal)) (X6 : arg6.view.ty.Contents (Elt Ideal)) (X7 : arg7.view.ty.Contents (Elt Ideal))
  (X8 : arg8.view.ty.Contents (Elt Ideal)) (X9 : arg9.view.ty.Contents (Elt Ideal)) (n : Fin (k0_t1_loop i).trips)
  (f13 : arg13.view.ty.Contents (Elt Ideal)) (f14 : arg14.view.ty.Contents (Elt Ideal)) (f15 : arg15.view.ty.Contents (Elt Ideal))
  (f16 : arg16.view.ty.Contents (Elt Ideal)) (f17 : arg17.view.ty.Contents (Elt Ideal))
variable (q k v d o : Fin 2048 → Fin 128 → ℝ) (f : Fin 2 → Fin 2048 → ℝ) (s : Fin 2048 → Fin 2 → ℝ)

/-- One step below the diagonal, with what the steps share filled in. -/
abbrev trip := trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17
  k0_pay49 k0_pay50 (k0_pay56 x4) (k0_pay57 x5) v26 (k0_pay58 x4) (k0_pay60 k0_pay50 (k0_pay56 x4) k0_pay59) v196 X3 X6 X7 X8 X9 n

/-- The tiles the step loads: queries, the output's gradient, the output, the log-sum-exp, and the two heads' column terms. -/
abbrev tq : FVec Ideal S512x128 .bf16 := arg3.view.readAt (Elt Ideal) (Rect.unit (s := S2048x128) (k0_off7 i n) S512x128.size (k0_off7_inb i n)).toLoadRect X3
abbrev td : FVec Ideal S512x128 .bf16 := arg6.view.readAt (Elt Ideal) (Rect.unit (s := S2048x128) (k0_off7 i n) S512x128.size (k0_off7_inb i n)).toLoadRect X6
abbrev to' : FVec Ideal S512x128 .bf16 := arg7.view.readAt (Elt Ideal) (Rect.unit (s := S2048x128) (k0_off7 i n) S512x128.size (k0_off7_inb i n)).toLoadRect X7
abbrev ts : FVec Ideal S1x512x2 .f32 := arg8.view.readAt (Elt Ideal) (Rect.unit (s := S1x2048x2) (k0_off8 i n) S1x512x2.size (k0_off8_inb i n)).toLoadRect X8
abbrev tf0 : FVec Ideal S1x1x1x512 .f32 := arg9.view.readAt (Elt Ideal) (Rect.unit (s := S1x1x2x2048) (k0_off9 i) S1x1x1x512.size (k0_off9_inb i)).toLoadRect X9
abbrev tf1 : FVec Ideal S1x1x1x512 .f32 := arg9.view.readAt (Elt Ideal) (Rect.unit (s := S1x1x2x2048) (k0_off11 i) S1x1x1x512.size (k0_off11_inb i)).toLoadRect X9

variable (h3 : ∀ R l, arg3.view.read (Elt Ideal) X3 (ix2 R l) = (q R l : EReal)) (h6 : ∀ R l, arg6.view.read (Elt Ideal) X6 (ix2 R l) = (d R l : EReal))
  (h7 : ∀ R l, arg7.view.read (Elt Ideal) X7 (ix2 R l) = (o R l : EReal)) (h8 : ∀ R h, arg8.view.read (Elt Ideal) X8 (ix3 0 R h) = (s R h : EReal))
  (h9 : ∀ h C, arg9.view.read (Elt Ideal) X9 (ix4 0 0 h C) = (f h C : EReal))
  (h4 : ∀ r l, x4 (ix2 r l) = (k (row (i 2).val r) l : EReal)) (h5 : ∀ r l, x5 (ix2 r l) = (v (row (i 2).val r) l : EReal))

theorem tile_lt : ∀ (i : grid0.Coords) (n : Fin (k0_t1_loop i).trips), (i 2).val + n.val + 1 < 4 := by decide +kernel

include h3 in
theorem tq_real (r : Fin 512) (l : Fin 128) : tq i arg3 X3 n (ix2 r l) = (q (row ((i 2).val + n.val + 1) r) l : EReal) :=
  (ld_rows arg3.view X3 _ (tile_lt i n) ((k0_off7_eq i n).trans (by congr 1; omega)) r l).trans (h3 _ _)
include h6 in
theorem td_real (r : Fin 512) (l : Fin 128) : td i arg6 X6 n (ix2 r l) = (d (row ((i 2).val + n.val + 1) r) l : EReal) :=
  (ld_rows arg6.view X6 _ (tile_lt i n) ((k0_off7_eq i n).trans (by congr 1; omega)) r l).trans (h6 _ _)
include h7 in
theorem to_real (r : Fin 512) (l : Fin 128) : to' i arg7 X7 n (ix2 r l) = (o (row ((i 2).val + n.val + 1) r) l : EReal) :=
  (ld_rows arg7.view X7 _ (tile_lt i n) ((k0_off7_eq i n).trans (by congr 1; omega)) r l).trans (h7 _ _)
include h8 in
theorem ts_real (r : Fin 512) (h : Fin 2) : ts i arg8 X8 n (ix3 0 r h) = (s (row ((i 2).val + n.val + 1) r) h : EReal) :=
  (ld_lse arg8.view X8 _ (tile_lt i n) ((k0_off8_eq i n).trans (by congr 2; omega)) r h).trans (h8 _ _)
include h9 in
theorem tf0_real (r : Fin 512) : tf0 i arg9 X9 (ix4 0 0 0 r) = (f 0 (row (i 2).val r) : EReal) :=
  (ld_f arg9.view X9 _ (i 2).isLt 0 (k0_off9_eq i) r).trans (h9 _ _)
include h9 in
theorem tf1_real (r : Fin 512) : tf1 i arg9 X9 (ix4 0 0 0 r) = (f 1 (row (i 2).val r) : EReal) :=
  (ld_f arg9.view X9 _ (i 2).isLt 1 (k0_off11_eq i) r).trans (h9 _ _)

theorem below (r c : Fin 512) : (row (i 2).val c).val ≤ (row ((i 2).val + n.val + 1) r).val := by
  have ht := tile_lt i n; have := c.isLt
  rw [row_val (i 2).isLt, row_val ht]; omega

theorem pieces13 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).1 f13 f14 f15 f16 f17
    = [⟨Rect.unit (s := S1x2048x2) (k0_off12 i n) S1x512x1.size (k0_off12_inb i n), k0_pay90 (F := Ideal) (k0_pay23 (F := Ideal) k0_pay50 (k0_pay56 x4) (k0_pay57 x5) (k0_pay1 (tq i arg3 X3 n)) (k0_pay2 (td i arg6 X6 n)) (k0_pay3 (td i arg6 X6 n) (to' i arg7 X7 n)) (k0_pay4 (ts i arg8 X8 n)) (tf1 i arg9 X9)) (arg13.view.readAt (Elt Ideal) (Rect.unit (s := S1x2048x2) (k0_off12 i n) S1x512x1.size (k0_off12_inb i n)).toLoadRect f13)⟩,
        ⟨Rect.unit (s := S1x2048x2) (k0_off10 i n) S1x512x1.size (k0_off10_inb i n), k0_pay14 (F := Ideal) (k0_pay57 x5) (k0_pay7 k0_pay49 (td i arg6 X6 n)) (k0_pay8 k0_pay49 (td i arg6 X6 n) (to' i arg7 X7 n)) (k0_pay9 k0_pay49 (k0_pay56 x4) (tq i arg3 X3 n) (tf0 i arg9 X9)) (k0_pay10 (ts i arg8 X8 n)) (arg13.view.readAt (Elt Ideal) (Rect.unit (s := S1x2048x2) (k0_off10 i n) S1x512x1.size (k0_off10_inb i n)).toLoadRect f13)⟩] := by
  unfold trip trip_k0_t1; sl_kernel_rfl

theorem pieces14 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.1 f13 f14 f15 f16 f17
    = [⟨Rect.unit (s := S2048x128) (k0_off7 i n) S512x128.size (k0_off7_inb i n), k0_pay94 (F := Ideal) (k0_pay60 k0_pay50 (k0_pay56 x4) (k0_pay59 (F := Ideal)))
          (k0_pay19 (F := Ideal) (k0_pay58 x4) (k0_pay5 (F := Ideal)) (k0_pay15 (F := Ideal) (k0_pay57 x5) (k0_pay7 k0_pay49 (td i arg6 X6 n)) (k0_pay8 k0_pay49 (td i arg6 X6 n) (to' i arg7 X7 n)) (k0_pay9 k0_pay49 (k0_pay56 x4) (tq i arg3 X3 n) (tf0 i arg9 X9)) (k0_pay10 (ts i arg8 X8 n)))) (k0_pay23 (F := Ideal) k0_pay50 (k0_pay56 x4) (k0_pay57 x5) (k0_pay1 (tq i arg3 X3 n)) (k0_pay2 (td i arg6 X6 n)) (k0_pay3 (td i arg6 X6 n) (to' i arg7 X7 n)) (k0_pay4 (ts i arg8 X8 n)) (tf1 i arg9 X9)) (arg14.view.readAt (Elt Ideal) (Rect.unit (s := S2048x128) (k0_off7 i n) S512x128.size (k0_off7_inb i n)).toLoadRect f14)⟩] := by
  unfold trip trip_k0_t1; sl_kernel_rfl

theorem pieces15 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.1 f13 f14 f15 f16 f17
    = [⟨Rect.unit (s := S512x128) ![0, 0] S512x128.size inb_S512x128_S512x128_0_0, k0_pay93 (F := Ideal) (k0_pay20 k0_pay50 (k0_pay1 (tq i arg3 X3 n))) (k0_pay23 (F := Ideal) k0_pay50 (k0_pay56 x4) (k0_pay57 x5) (k0_pay1 (tq i arg3 X3 n)) (k0_pay2 (td i arg6 X6 n)) (k0_pay3 (td i arg6 X6 n) (to' i arg7 X7 n)) (k0_pay4 (ts i arg8 X8 n)) (tf1 i arg9 X9))
          (arg15.view.readCov [⟨Rect.unit (s := S512x128) ![0, 0] S512x128.size inb_S512x128_S512x128_0_0, k0_pay18 (F := Ideal) (k0_pay17 (F := Ideal) (k0_pay57 x5) (k0_pay6 k0_pay49 (tq i arg3 X3 n)) (k0_pay7 k0_pay49 (td i arg6 X6 n)) (k0_pay8 k0_pay49 (td i arg6 X6 n) (to' i arg7 X7 n)) (k0_pay9 k0_pay49 (k0_pay56 x4) (tq i arg3 X3 n) (tf0 i arg9 X9)) (k0_pay10 (ts i arg8 X8 n)) (arg15.view.readAt (Elt Ideal) (Rect.unit (s := S512x128) ![0, 0] S512x128.size inb_S512x128_S512x128_0_0).toLoadRect f15))⟩] (Rect.unit (s := S512x128) ![0, 0] S512x128.size inb_S512x128_S512x128_0_0).toLoadRect)⟩,
        ⟨Rect.unit (s := S512x128) ![0, 0] S512x128.size inb_S512x128_S512x128_0_0, k0_pay18 (F := Ideal) (k0_pay17 (F := Ideal) (k0_pay57 x5) (k0_pay6 k0_pay49 (tq i arg3 X3 n)) (k0_pay7 k0_pay49 (td i arg6 X6 n)) (k0_pay8 k0_pay49 (td i arg6 X6 n) (to' i arg7 X7 n)) (k0_pay9 k0_pay49 (k0_pay56 x4) (tq i arg3 X3 n) (tf0 i arg9 X9)) (k0_pay10 (ts i arg8 X8 n)) (arg15.view.readAt (Elt Ideal) (Rect.unit (s := S512x128) ![0, 0] S512x128.size inb_S512x128_S512x128_0_0).toLoadRect f15))⟩] := by
  unfold trip trip_k0_t1; sl_kernel_rfl

theorem pieces16 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.2.1 f13 f14 f15 f16 f17
    = [⟨Rect.unit (s := S512x128) ![0, 0] S512x128.size inb_S512x128_S512x128_0_0, k0_pay92 (F := Ideal) (k0_pay21 k0_pay50 (k0_pay2 (td i arg6 X6 n))) (k0_pay22 (F := Ideal) k0_pay50 (k0_pay56 x4) (k0_pay1 (tq i arg3 X3 n)) (k0_pay4 (ts i arg8 X8 n)) (tf1 i arg9 X9))
          (arg16.view.readCov [⟨Rect.unit (s := S512x128) ![0, 0] S512x128.size inb_S512x128_S512x128_0_0, k0_pay16 (F := Ideal) (k0_pay7 k0_pay49 (td i arg6 X6 n)) (k0_pay9 k0_pay49 (k0_pay56 x4) (tq i arg3 X3 n) (tf0 i arg9 X9)) (k0_pay10 (ts i arg8 X8 n)) (arg16.view.readAt (Elt Ideal) (Rect.unit (s := S512x128) ![0, 0] S512x128.size inb_S512x128_S512x128_0_0).toLoadRect f16)⟩] (Rect.unit (s := S512x128) ![0, 0] S512x128.size inb_S512x128_S512x128_0_0).toLoadRect)⟩,
        ⟨Rect.unit (s := S512x128) ![0, 0] S512x128.size inb_S512x128_S512x128_0_0, k0_pay16 (F := Ideal) (k0_pay7 k0_pay49 (td i arg6 X6 n)) (k0_pay9 k0_pay49 (k0_pay56 x4) (tq i arg3 X3 n) (tf0 i arg9 X9)) (k0_pay10 (ts i arg8 X8 n)) (arg16.view.readAt (Elt Ideal) (Rect.unit (s := S512x128) ![0, 0] S512x128.size inb_S512x128_S512x128_0_0).toLoadRect f16)⟩] := by
  unfold trip trip_k0_t1; sl_kernel_rfl

theorem pieces17 : (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.2.2.1 f13 f14 f15 f16 f17
    = [⟨Rect.unit (s := S2x512) ![1, 0] S1x512.size inb_S2x512_S1x512_1_0, k0_pay24 (F := Ideal) k0_pay50 (k0_pay56 x4) (k0_pay57 x5) (k0_pay1 (tq i arg3 X3 n)) (k0_pay2 (td i arg6 X6 n)) (k0_pay3 (td i arg6 X6 n) (to' i arg7 X7 n)) (k0_pay4 (ts i arg8 X8 n)) (tf1 i arg9 X9)
          (arg17.view.readAt (Elt Ideal) (Rect.unit (s := S2x512) ![1, 0] S1x512.size inb_S2x512_S1x512_1_0).toLoadRect f17)⟩,
        ⟨Rect.unit (s := S2x512) ![0, 0] S1x512.size inb_S2x512_S1x512_0_0, k0_pay13 (F := Ideal) (k0_pay57 x5) (k0_pay7 k0_pay49 (td i arg6 X6 n)) (k0_pay8 k0_pay49 (td i arg6 X6 n) (to' i arg7 X7 n)) (k0_pay9 k0_pay49 (k0_pay56 x4) (tq i arg3 X3 n) (tf0 i arg9 X9)) (k0_pay10 (ts i arg8 X8 n)) (arg17.view.readAt (Elt Ideal) (Rect.unit (s := S2x512) ![0, 0] S1x512.size inb_S2x512_S1x512_0_0).toLoadRect f17)⟩] := by
  unfold trip trip_k0_t1; sl_kernel_rfl

include h3 h4 h5 h6 h7 h8 h9 in
/-- The row sums. -/
theorem trip_rows (R : Fin 2048) (h : Fin 2) :
    arg13.view.read (Elt Ideal) (arg13.view.writes (Elt Ideal) f13 ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).1 f13 f14 f15 f16 f17)) (ix3 0 R h)
      = arg13.view.read (Elt Ideal) f13 (ix3 0 R h)
        + ((if R.val / 512 = ((i 2).val + n.val + 1) then ∑ c, DS q k v d o f s h R (row (i 2).val c) else 0 : ℝ) : EReal) := by
  have o12 : k0_off12 i n = ![0, 512 * ((i 2).val + n.val + 1), 1] := (k0_off12_eq i n).trans (by congr 2; omega)
  have o10 : k0_off10 i n = ![0, 512 * ((i 2).val + n.val + 1), 0] := (k0_off10_eq i n).trans (by congr 2; omega)
  rw [pieces13]
  refine (wr_col arg13.view f13 _ _ _ (n := ((i 2).val + n.val + 1)) 1 o12 R h).trans ?_
  have hR1 := ld_col arg13.view f13 (k0_off12_inb i n) (tile_lt i n) 1 o12 (lo R)
  have hR0 := ld_col arg13.view f13 (k0_off10_inb i n) (tile_lt i n) 0 o10 (lo R)
  by_cases hR : R.val / 512 = ((i 2).val + n.val + 1)
  · have e : row ((i 2).val + n.val + 1) (lo R) = R := by rw [← hR]; exact row_lo R
    rw [e] at hR0 hR1
    rw [if_pos hR]
    match h with
    | 0 =>
      rw [if_neg (by simp)]
      refine (wr_col arg13.view f13 _ _ _ (n := ((i 2).val + n.val + 1)) 0 o10 R 0).trans ?_
      rw [if_pos ⟨hR, rfl⟩, ← hR0]
      refine (rows0 q k v d o f s (row ((i 2).val + n.val + 1)) (row (i 2).val) (tq i arg3 X3 n) x4 x5 (td i arg6 X6 n) (to' i arg7 X7 n) (ts i arg8 X8 n) (tf0 i arg9 X9) (tq_real i arg3 X3 n q h3) h4 h5 (td_real i arg6 X6 n d h6) (to_real i arg7 X7 n o h7) (ts_real i arg8 X8 n s h8) (tf0_real i arg9 X9 f h9) (below i n) _ (lo R)).trans ?_
      rw [e]
    | 1 =>
      rw [if_pos ⟨hR, rfl⟩, ← hR1]
      refine (rows1 q k v d o f s (row ((i 2).val + n.val + 1)) (row (i 2).val) (tq i arg3 X3 n) x4 x5 (td i arg6 X6 n) (to' i arg7 X7 n) (ts i arg8 X8 n) (tf1 i arg9 X9) (tq_real i arg3 X3 n q h3) h4 h5 (td_real i arg6 X6 n d h6) (to_real i arg7 X7 n o h7) (ts_real i arg8 X8 n s h8) (tf1_real i arg9 X9 f h9) (below i n) _ (lo R)).trans ?_
      rw [e]
  · rw [if_neg hR, if_neg (fun h => hR h.1), EReal.coe_zero, add_zero]
    refine (wr_col arg13.view f13 _ _ _ (n := ((i 2).val + n.val + 1)) 0 o10 R h).trans ?_
    rw [if_neg (fun h => hR h.1)]; rfl

include h3 h4 h5 h6 h7 h8 h9 in
/-- The query gradient. -/
theorem trip_dqry (R : Fin 2048) (l : Fin 128) :
    arg14.view.read (Elt Ideal) (arg14.view.writes (Elt Ideal) f14 ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.1 f13 f14 f15 f16 f17)) (ix2 R l)
      = arg14.view.read (Elt Ideal) f14 (ix2 R l)
        + ((if R.val / 512 = ((i 2).val + n.val + 1) then ∑ h, ∑ c, DS q k v d o f s h R (row (i 2).val c) * pick h l (k (row (i 2).val c) l) else 0 : ℝ) : EReal) := by
  have o7 : k0_off7 i n = ![512 * ((i 2).val + n.val + 1), 0] := (k0_off7_eq i n).trans (by congr 1; omega)
  rw [pieces14]
  refine (wr_rows arg14.view f14 _ _ _ (n := ((i 2).val + n.val + 1)) o7 R l).trans ?_
  have hR1 := ld_rows arg14.view f14 (k0_off7_inb i n) (tile_lt i n) o7 (lo R) l
  by_cases hR : R.val / 512 = ((i 2).val + n.val + 1)
  · have e : row ((i 2).val + n.val + 1) (lo R) = R := by rw [← hR]; exact row_lo R
    rw [e] at hR1
    rw [if_pos hR, if_pos hR, ← hR1]
    refine (dqry q k v d o f s (row ((i 2).val + n.val + 1)) (row (i 2).val) (tq i arg3 X3 n) x4 x5 (td i arg6 X6 n) (to' i arg7 X7 n) (ts i arg8 X8 n) (tf0 i arg9 X9) (tf1 i arg9 X9) (tq_real i arg3 X3 n q h3) h4 h5 (td_real i arg6 X6 n d h6) (to_real i arg7 X7 n o h7) (ts_real i arg8 X8 n s h8) (tf0_real i arg9 X9 f h9) (tf1_real i arg9 X9 f h9) (below i n) _ (lo R) l).trans ?_
    rw [e]
  · rw [if_neg hR, if_neg hR, EReal.coe_zero, add_zero]; rfl

include h3 h4 h5 h6 h7 h8 h9 in
/-- The key gradient. -/
theorem trip_dkey (r : Fin 512) (l : Fin 128) :
    arg15.view.read (Elt Ideal) (arg15.view.writes (Elt Ideal) f15 ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.1 f13 f14 f15 f16 f17)) (ix2 r l)
      = arg15.view.read (Elt Ideal) f15 (ix2 r l)
        + ((∑ h, ∑ x, DS q k v d o f s h (row ((i 2).val + n.val + 1) x) (row (i 2).val r) * pick h l (q (row ((i 2).val + n.val + 1) x) l * (1 / 8)) : ℝ) : EReal) := by
  have e1 := View.readAt_full arg15.view f15 inb_S512x128_S512x128_0_0
  rw [pieces15, ← e1]
  refine (congrFun (View.read_writes_full arg15.view f15 inb_S512x128_S512x128_0_0 _ _) (ix2 r l)).trans ?_
  rw [View.readCov_full]
  exact dkey q k v d o f s (row ((i 2).val + n.val + 1)) (row (i 2).val) (tq i arg3 X3 n) x4 x5 (td i arg6 X6 n) (to' i arg7 X7 n) (ts i arg8 X8 n) (tf0 i arg9 X9) (tf1 i arg9 X9) (tq_real i arg3 X3 n q h3) h4 h5 (td_real i arg6 X6 n d h6) (to_real i arg7 X7 n o h7) (ts_real i arg8 X8 n s h8) (tf0_real i arg9 X9 f h9) (tf1_real i arg9 X9 f h9) (below i n) _ r l

include h3 h4 h6 h8 h9 in
/-- The value gradient. -/
theorem trip_dval (r : Fin 512) (l : Fin 128) :
    arg16.view.read (Elt Ideal) (arg16.view.writes (Elt Ideal) f16 ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.2.1 f13 f14 f15 f16 f17)) (ix2 r l)
      = arg16.view.read (Elt Ideal) f16 (ix2 r l)
        + ((∑ h, ∑ x, P q k f s h (row ((i 2).val + n.val + 1) x) (row (i 2).val r) * pick h l (d (row ((i 2).val + n.val + 1) x) l) : ℝ) : EReal) := by
  have e1 := View.readAt_full arg16.view f16 inb_S512x128_S512x128_0_0
  rw [pieces16, ← e1]
  refine (congrFun (View.read_writes_full arg16.view f16 inb_S512x128_S512x128_0_0 _ _) (ix2 r l)).trans ?_
  rw [View.readCov_full]
  exact dval q k d f s (row ((i 2).val + n.val + 1)) (row (i 2).val) (tq i arg3 X3 n) x4 (td i arg6 X6 n) (ts i arg8 X8 n) (tf0 i arg9 X9) (tf1 i arg9 X9) (tq_real i arg3 X3 n q h3) h4 (td_real i arg6 X6 n d h6) (ts_real i arg8 X8 n s h8) (tf0_real i arg9 X9 f h9) (tf1_real i arg9 X9 f h9) (below i n) _ r l

include h3 h4 h5 h6 h7 h8 h9 in
/-- The column sums. -/
theorem trip_cols (h : Fin 2) (r : Fin 512) :
    arg17.view.read (Elt Ideal) (arg17.view.writes (Elt Ideal) f17 ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 n).2.2.2.2.1 f13 f14 f15 f16 f17)) (ix2 h r)
      = arg17.view.read (Elt Ideal) f17 (ix2 h r)
        + ((∑ x, DS q k v d o f s h (row ((i 2).val + n.val + 1) x) (row (i 2).val r) : ℝ) : EReal) := by
  rw [pieces17]
  refine (wr_two arg17.view f17 _ _ _ 1 rfl h r).trans ?_
  match h with
  | 0 =>
    rw [if_neg (by simp), ← ld_two arg17.view f17 inb_S2x512_S1x512_0_0 0 rfl r]
    refine (wr_two arg17.view f17 _ _ _ 0 rfl 0 r).trans ?_
    rw [if_pos rfl]
    exact cols0 q k v d o f s (row ((i 2).val + n.val + 1)) (row (i 2).val) (tq i arg3 X3 n) x4 x5 (td i arg6 X6 n) (to' i arg7 X7 n) (ts i arg8 X8 n) (tf0 i arg9 X9) (tq_real i arg3 X3 n q h3) h4 h5 (td_real i arg6 X6 n d h6) (to_real i arg7 X7 n o h7) (ts_real i arg8 X8 n s h8) (tf0_real i arg9 X9 f h9) (below i n) _ r
  | 1 =>
    rw [if_pos rfl, ← ld_two arg17.view f17 inb_S2x512_S1x512_1_0 1 rfl r]
    exact cols1 q k v d o f s (row ((i 2).val + n.val + 1)) (row (i 2).val) (tq i arg3 X3 n) x4 x5 (td i arg6 X6 n) (to' i arg7 X7 n) (ts i arg8 X8 n) (tf1 i arg9 X9) (tq_real i arg3 X3 n q h3) h4 h5 (td_real i arg6 X6 n d h6) (to_real i arg7 X7 n o h7) (ts_real i arg8 X8 n s h8) (tf1_real i arg9 X9 f h9) (below i n) _ r

end Cert.AttnBwdIdeal.Pay

end
-- ==== Proof.AttnBwdStep.lean ====
/- The steps below the diagonal together: each accumulator gains the contributions of the row tiles. -/
module

public import proofs.«01_k».proof.Proof.AttnBwdTrip

@[expose] public section

set_option maxRecDepth 16384

noncomputable section

open Idealize.ShloMosaic Idealize.ShloMosaic.TcCoe Cert.Reals

namespace Cert.AttnBwdIdeal.Pay

open Cert.AttnBwdIdeal Cert.AttnBwdIdeal.Gen

variable (c : Dev nD) (i : grid0.Coords)
  (arg3 : Memref sig .tc .vmem S2048x128 .bf16) (harg3 : arg3.IsWhole)
  (arg4 : Memref sig .tc .vmem S512x128 .bf16) (harg4 : arg4.IsWhole)
  (arg5 : Memref sig .tc .vmem S512x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x2048x2 .f32) (harg8 : arg8.IsWhole)
  (arg9 : Memref sig .tc .vmem S1x1x2x2048 .f32) (harg9 : arg9.IsWhole)
  (arg10 : Memref sig .tc .hbm S8192x5376 .bf16) (harg10 : arg10.IsWhole)
  (arg11 : Memref sig .tc .vmem S512x384 .bf16) (harg11 : arg11.IsWhole)
  (arg12 : Memref sig .tc .vmem S1x1x2x512 .f32) (harg12 : arg12.IsWhole)
  (arg13 : Memref sig .tc .vmem S1x2048x2 .f32) (harg13 : arg13.IsWhole)
  (arg14 : Memref sig .tc .vmem S2048x128 .f32) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S2x512 .f32) (harg17 : arg17.IsWhole)
variable (v26 v196 : BitVec 32) (x4 x5 : FVec Ideal S512x128 .bf16)
  (X3 : arg3.view.ty.Contents (Elt Ideal)) (X6 : arg6.view.ty.Contents (Elt Ideal)) (X7 : arg7.view.ty.Contents (Elt Ideal))
  (X8 : arg8.view.ty.Contents (Elt Ideal)) (X9 : arg9.view.ty.Contents (Elt Ideal))
  (G13 : arg13.view.ty.Contents (Elt Ideal)) (G14 : arg14.view.ty.Contents (Elt Ideal)) (G15 : arg15.view.ty.Contents (Elt Ideal))
  (G16 : arg16.view.ty.Contents (Elt Ideal)) (G17 : arg17.view.ty.Contents (Elt Ideal))
variable (q kk v d o : Fin 2048 → Fin 128 → ℝ) (f : Fin 2 → Fin 2048 → ℝ) (s : Fin 2048 → Fin 2 → ℝ)

/-- What the first `n` steps below the diagonal write. -/
abbrev pb (n : ℕ) := pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17
  k0_pay49 k0_pay50 (k0_pay56 x4) (k0_pay57 x5) v26 (k0_pay58 x4) (k0_pay60 k0_pay50 (k0_pay56 x4) k0_pay59) v196 X3 X6 X7 X8 X9 G13 G14 G15 G16 G17 n

variable (h3 : ∀ R l, arg3.view.read (Elt Ideal) X3 (ix2 R l) = (q R l : EReal)) (h6 : ∀ R l, arg6.view.read (Elt Ideal) X6 (ix2 R l) = (d R l : EReal))
  (h7 : ∀ R l, arg7.view.read (Elt Ideal) X7 (ix2 R l) = (o R l : EReal)) (h8 : ∀ R h, arg8.view.read (Elt Ideal) X8 (ix3 0 R h) = (s R h : EReal))
  (h9 : ∀ h C, arg9.view.read (Elt Ideal) X9 (ix4 0 0 h C) = (f h C : EReal))
  (h4 : ∀ r l, x4 (ix2 r l) = (kk (row (i 2).val r) l : EReal)) (h5 : ∀ r l, x5 (ix2 r l) = (v (row (i 2).val r) l : EReal))

include h3 h4 h5 h6 h7 h8 h9 in
/-- The row sums. -/
theorem steps_rows (R : Fin 2048) (h : Fin 2) (n : ℕ) (hn : n ≤ (k0_t1_loop i).trips) :
    arg13.view.read (Elt Ideal) (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 n).1) (ix3 0 R h)
      = arg13.view.read (Elt Ideal) G13 (ix3 0 R h) + ((∑ k ∈ Finset.range n, (if R.val / 512 = ((i 2).val + k + 1) then ∑ c, DS q kk v d o f s h R (row (i 2).val c) else 0) : ℝ) : EReal) := by
  induction n with
  | zero => rw [Finset.range_zero, Finset.sum_empty, EReal.coe_zero, add_zero]; rfl
  | succ k ih =>
    refine (congrArg (fun p => arg13.view.read (Elt Ideal) (arg13.view.writes (Elt Ideal) G13 p.1) (ix3 0 R h))
      (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay49 k0_pay50 (k0_pay56 x4) (k0_pay57 x5) v26 (k0_pay58 x4) (k0_pay60 k0_pay50 (k0_pay56 x4) k0_pay59) v196 X3 X6 X7 X8 X9 G13 G14 G15 G16 G17 ⟨k, hn⟩)).trans ?_
    dsimp only
    rw [View.writes_append, Finset.sum_range_succ, EReal.coe_add, ← add_assoc, ← ih (by omega)]
    exact trip_rows c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 ⟨k, hn⟩ (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).1) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.1) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.1) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.1) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.2) q kk v d o f s h3 h6 h7 h8 h9 h4 h5 R h

include h3 h4 h5 h6 h7 h8 h9 in
/-- The query gradient. -/
theorem steps_dqry (R : Fin 2048) (l : Fin 128) (n : ℕ) (hn : n ≤ (k0_t1_loop i).trips) :
    arg14.view.read (Elt Ideal) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 n).2.1) (ix2 R l)
      = arg14.view.read (Elt Ideal) G14 (ix2 R l) + ((∑ k ∈ Finset.range n, (if R.val / 512 = ((i 2).val + k + 1) then ∑ h, ∑ c, DS q kk v d o f s h R (row (i 2).val c) * pick h l (kk (row (i 2).val c) l) else 0) : ℝ) : EReal) := by
  induction n with
  | zero => rw [Finset.range_zero, Finset.sum_empty, EReal.coe_zero, add_zero]; rfl
  | succ k ih =>
    refine (congrArg (fun p => arg14.view.read (Elt Ideal) (arg14.view.writes (Elt Ideal) G14 p.2.1) (ix2 R l))
      (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay49 k0_pay50 (k0_pay56 x4) (k0_pay57 x5) v26 (k0_pay58 x4) (k0_pay60 k0_pay50 (k0_pay56 x4) k0_pay59) v196 X3 X6 X7 X8 X9 G13 G14 G15 G16 G17 ⟨k, hn⟩)).trans ?_
    dsimp only
    rw [View.writes_append, Finset.sum_range_succ, EReal.coe_add, ← add_assoc, ← ih (by omega)]
    exact trip_dqry c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 ⟨k, hn⟩ (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).1) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.1) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.1) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.1) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.2) q kk v d o f s h3 h6 h7 h8 h9 h4 h5 R l

include h3 h4 h5 h6 h7 h8 h9 in
/-- The key gradient. -/
theorem steps_dkey (r : Fin 512) (l : Fin 128) (n : ℕ) (hn : n ≤ (k0_t1_loop i).trips) :
    arg15.view.read (Elt Ideal) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 n).2.2.1) (ix2 r l)
      = arg15.view.read (Elt Ideal) G15 (ix2 r l) + ((∑ k ∈ Finset.range n, ∑ h, ∑ x, DS q kk v d o f s h (row ((i 2).val + k + 1) x) (row (i 2).val r) * pick h l (q (row ((i 2).val + k + 1) x) l * (1 / 8)) : ℝ) : EReal) := by
  induction n with
  | zero => rw [Finset.range_zero, Finset.sum_empty, EReal.coe_zero, add_zero]; rfl
  | succ k ih =>
    refine (congrArg (fun p => arg15.view.read (Elt Ideal) (arg15.view.writes (Elt Ideal) G15 p.2.2.1) (ix2 r l))
      (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay49 k0_pay50 (k0_pay56 x4) (k0_pay57 x5) v26 (k0_pay58 x4) (k0_pay60 k0_pay50 (k0_pay56 x4) k0_pay59) v196 X3 X6 X7 X8 X9 G13 G14 G15 G16 G17 ⟨k, hn⟩)).trans ?_
    dsimp only
    rw [View.writes_append, Finset.sum_range_succ, EReal.coe_add, ← add_assoc, ← ih (by omega)]
    exact trip_dkey c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 ⟨k, hn⟩ (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).1) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.1) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.1) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.1) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.2) q kk v d o f s h3 h6 h7 h8 h9 h4 h5 r l

include h3 h4 h6 h8 h9 in
/-- The value gradient. -/
theorem steps_dval (r : Fin 512) (l : Fin 128) (n : ℕ) (hn : n ≤ (k0_t1_loop i).trips) :
    arg16.view.read (Elt Ideal) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 n).2.2.2.1) (ix2 r l)
      = arg16.view.read (Elt Ideal) G16 (ix2 r l) + ((∑ k ∈ Finset.range n, ∑ h, ∑ x, P q kk f s h (row ((i 2).val + k + 1) x) (row (i 2).val r) * pick h l (d (row ((i 2).val + k + 1) x) l) : ℝ) : EReal) := by
  induction n with
  | zero => rw [Finset.range_zero, Finset.sum_empty, EReal.coe_zero, add_zero]; rfl
  | succ k ih =>
    refine (congrArg (fun p => arg16.view.read (Elt Ideal) (arg16.view.writes (Elt Ideal) G16 p.2.2.2.1) (ix2 r l))
      (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay49 k0_pay50 (k0_pay56 x4) (k0_pay57 x5) v26 (k0_pay58 x4) (k0_pay60 k0_pay50 (k0_pay56 x4) k0_pay59) v196 X3 X6 X7 X8 X9 G13 G14 G15 G16 G17 ⟨k, hn⟩)).trans ?_
    dsimp only
    rw [View.writes_append, Finset.sum_range_succ, EReal.coe_add, ← add_assoc, ← ih (by omega)]
    exact trip_dval c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 ⟨k, hn⟩ (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).1) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.1) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.1) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.1) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.2) q kk d f s h3 h6 h8 h9 h4 r l

include h3 h4 h5 h6 h7 h8 h9 in
/-- The column sums. -/
theorem steps_cols (h : Fin 2) (r : Fin 512) (n : ℕ) (hn : n ≤ (k0_t1_loop i).trips) :
    arg17.view.read (Elt Ideal) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 n).2.2.2.2) (ix2 h r)
      = arg17.view.read (Elt Ideal) G17 (ix2 h r) + ((∑ k ∈ Finset.range n, ∑ x, DS q kk v d o f s h (row ((i 2).val + k + 1) x) (row (i 2).val r) : ℝ) : EReal) := by
  induction n with
  | zero => rw [Finset.range_zero, Finset.sum_empty, EReal.coe_zero, add_zero]; rfl
  | succ k ih =>
    refine (congrArg (fun p => arg17.view.read (Elt Ideal) (arg17.view.writes (Elt Ideal) G17 p.2.2.2.2) (ix2 h r))
      (pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay49 k0_pay50 (k0_pay56 x4) (k0_pay57 x5) v26 (k0_pay58 x4) (k0_pay60 k0_pay50 (k0_pay56 x4) k0_pay59) v196 X3 X6 X7 X8 X9 G13 G14 G15 G16 G17 ⟨k, hn⟩)).trans ?_
    dsimp only
    rw [View.writes_append, Finset.sum_range_succ, EReal.coe_add, ← add_assoc, ← ih (by omega)]
    exact trip_cols c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 ⟨k, hn⟩ (arg13.view.writes (Elt Ideal) G13 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).1) (arg14.view.writes (Elt Ideal) G14 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.1) (arg15.view.writes (Elt Ideal) G15 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.1) (arg16.view.writes (Elt Ideal) G16 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.1) (arg17.view.writes (Elt Ideal) G17 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 v26 v196 x4 x5 X3 X6 X7 X8 X9 G13 G14 G15 G16 G17 k).2.2.2.2) q kk v d o f s h3 h6 h7 h8 h9 h4 h5 h r

end Cert.AttnBwdIdeal.Pay

end
-- ==== Proof.AttnBwdDiag.lean ====
/- What one grid point leaves, read back: its block of the packed gradient, its column sums, and what it adds to the row
sums and to the query accumulator. -/
module

public import proofs.«01_k».proof.Proof.AttnBwdStep
public import proofs.«01_k».proof.Proof.AttnBwdBody

@[expose] public section

set_option maxRecDepth 16384

noncomputable section

open Idealize.ShloMosaic Idealize.ShloMosaic.TcCoe Cert.Reals

namespace Cert.AttnBwdIdeal.Pay

open Cert.AttnBwdIdeal Cert.AttnBwdIdeal.Gen

/-! Sums over the row tiles from the diagonal on are sums over all rows, where the rows above contribute nothing. -/

theorem sum_all (g : Fin 2048 → ℝ) : ∑ n ∈ Finset.range 4, ∑ x, g (row n x) = ∑ R, g R := by
  rw [Finset.sum_range, ← Fintype.sum_prod_type', ← (finProdFinEquiv (m := 4) (n := 512)).sum_comp]
  refine Finset.sum_congr rfl fun p _ => congrArg g (Fin.ext ?_)
  rw [row_val p.1.isLt]; show _ = p.2.val + 512 * p.1.val; omega

theorem sum_tiles {j : ℕ} (hj : j < 4) (g : Fin 2048 → ℝ) (h0 : ∀ R : Fin 2048, R.val / 512 < j → g R = 0) :
    ∑ x, g (row j x) + ∑ k ∈ Finset.range (3 - j), ∑ x, g (row (j + k + 1) x) = ∑ R, g R := by
  have z : ∀ n, n < 4 → n < j → ∑ x, g (row n x) = 0 := fun n hn h => Finset.sum_eq_zero fun x _ => h0 _ (by
    rw [row_val hn]; have := x.isLt; omega)
  have h3 := z 3 (by norm_num); have h2 := z 2 (by norm_num); have h1 := z 1 (by norm_num); have h0 := z 0 (by norm_num)
  rw [← sum_all]
  interval_cases j <;> simp only [Finset.sum_range_succ, Finset.sum_range_zero, zero_add, Nat.reduceAdd, Nat.reduceSub]
  · ring
  · linarith [h0 (by norm_num)]
  · linarith [h0 (by norm_num), h1 (by norm_num)]
  · linarith [h0 (by norm_num), h1 (by norm_num), h2 (by norm_num)]

theorem sum_one {j : ℕ} (hj : j < 4) {n : ℕ} (hn : n < 4) (g : ℝ) (h0 : n < j → g = 0) :
    (if n = j then g else 0) + ∑ k ∈ Finset.range (3 - j), (if n = j + k + 1 then g else 0) = g := by
  interval_cases j <;> interval_cases n <;> simp [Finset.sum_range_succ] <;> exact (h0 (by norm_num)).symm

theorem trips_eq : ∀ i : grid0.Coords, (k0_t1_loop i).trips = 3 - (i 2).val := by decide +kernel
theorem trips_zero : ∀ i : grid0.Coords, (k0_t2_loop i).trips = 0 := by decide +kernel

variable (c : Dev nD) (i : grid0.Coords)
  (arg3 : Memref sig .tc .vmem S2048x128 .bf16) (harg3 : arg3.IsWhole)
  (arg4 : Memref sig .tc .vmem S512x128 .bf16) (harg4 : arg4.IsWhole)
  (arg5 : Memref sig .tc .vmem S512x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x2048x2 .f32) (harg8 : arg8.IsWhole)
  (arg9 : Memref sig .tc .vmem S1x1x2x2048 .f32) (harg9 : arg9.IsWhole)
  (arg10 : Memref sig .tc .hbm S8192x5376 .bf16) (harg10 : arg10.IsWhole)
  (arg11 : Memref sig .tc .vmem S512x384 .bf16) (harg11 : arg11.IsWhole)
  (arg12 : Memref sig .tc .vmem S1x1x2x512 .f32) (harg12 : arg12.IsWhole)
  (arg13 : Memref sig .tc .vmem S1x2048x2 .f32) (harg13 : arg13.IsWhole)
  (arg14 : Memref sig .tc .vmem S2048x128 .f32) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S2x512 .f32) (harg17 : arg17.IsWhole)
variable (x3 : FVec Ideal S2048x128 .bf16) (x4 : FVec Ideal S512x128 .bf16) (x5 : FVec Ideal S512x128 .bf16) (x6 : FVec Ideal S2048x128 .bf16) (x7 : FVec Ideal S2048x128 .bf16) (x8 : FVec Ideal S1x2048x2 .f32) (x9 : FVec Ideal S1x1x2x2048 .f32) (x13 : FVec Ideal S1x2048x2 .f32) (x14 : FVec Ideal S2048x128 .f32)
variable (q kk v d o : Fin 2048 → Fin 128 → ℝ) (f : Fin 2 → Fin 2048 → ℝ) (s : Fin 2048 → Fin 2 → ℝ)

/-- The tiles on the diagonal that the step loads. -/
abbrev gq : FVec Ideal S512x128 .bf16 := arg3.view.readAt (Elt Ideal) (Rect.unit (s := S2048x128) (k0_off1 i) S512x128.size (k0_off1_inb i)).toLoadRect (harg3.unread x3)
abbrev gd : FVec Ideal S512x128 .bf16 := arg6.view.readAt (Elt Ideal) (Rect.unit (s := S2048x128) (k0_off1 i) S512x128.size (k0_off1_inb i)).toLoadRect (harg6.unread x6)
abbrev go : FVec Ideal S512x128 .bf16 := arg7.view.readAt (Elt Ideal) (Rect.unit (s := S2048x128) (k0_off1 i) S512x128.size (k0_off1_inb i)).toLoadRect (harg7.unread x7)
abbrev gs : FVec Ideal S1x512x2 .f32 := arg8.view.readAt (Elt Ideal) (Rect.unit (s := S1x2048x2) (k0_off2 i) S1x512x2.size (k0_off2_inb i)).toLoadRect (harg8.unread x8)
abbrev gf0 : FVec Ideal S1x1x1x512 .f32 := arg9.view.readAt (Elt Ideal) (Rect.unit (s := S1x1x2x2048) (k0_off3 i) S1x1x1x512.size (k0_off3_inb i)).toLoadRect (harg9.unread x9)
abbrev gf1 : FVec Ideal S1x1x1x512 .f32 := arg9.view.readAt (Elt Ideal) (Rect.unit (s := S1x1x2x2048) (k0_off5 i) S1x1x1x512.size (k0_off5_inb i)).toLoadRect (harg9.unread x9)

variable (h3 : ∀ R l, x3 (ix2 R l) = (q R l : EReal)) (h6 : ∀ R l, x6 (ix2 R l) = (d R l : EReal)) (h7 : ∀ R l, x7 (ix2 R l) = (o R l : EReal)) (h8 : ∀ R h, x8 (ix3 0 R h) = (s R h : EReal)) (h9 : ∀ h C, x9 (ix4 0 0 h C) = (f h C : EReal))
  (h4 : ∀ r l, x4 (ix2 r l) = (kk (row (i 2).val r) l : EReal)) (h5 : ∀ r l, x5 (ix2 r l) = (v (row (i 2).val r) l : EReal))

include h3 in
theorem u3 : ∀ R l, arg3.view.read (Elt Ideal) (harg3.unread x3) (ix2 R l) = (q R l : EReal) := fun _ _ => (congrFun (harg3.read_unread (Val := Elt Ideal) x3) _).trans (h3 _ _)
include h6 in
theorem u6 : ∀ R l, arg6.view.read (Elt Ideal) (harg6.unread x6) (ix2 R l) = (d R l : EReal) := fun _ _ => (congrFun (harg6.read_unread (Val := Elt Ideal) x6) _).trans (h6 _ _)
include h7 in
theorem u7 : ∀ R l, arg7.view.read (Elt Ideal) (harg7.unread x7) (ix2 R l) = (o R l : EReal) := fun _ _ => (congrFun (harg7.read_unread (Val := Elt Ideal) x7) _).trans (h7 _ _)
include h8 in
theorem u8 : ∀ R h, arg8.view.read (Elt Ideal) (harg8.unread x8) (ix3 0 R h) = (s R h : EReal) := fun _ _ => (congrFun (harg8.read_unread (Val := Elt Ideal) x8) _).trans (h8 _ _)
include h9 in
theorem u9 : ∀ h C, arg9.view.read (Elt Ideal) (harg9.unread x9) (ix4 0 0 h C) = (f h C : EReal) := fun _ _ => (congrFun (harg9.read_unread (Val := Elt Ideal) x9) _).trans (h9 _ _)
include h3 in
theorem gq_real (r : Fin 512) (l : Fin 128) : gq i arg3 harg3 x3 (ix2 r l) = (q (row (i 2).val r) l : EReal) :=
  (ld_rows arg3.view _ _ (i 2).isLt (k0_off1_eq i) r l).trans (u3 arg3 harg3 x3 q h3 _ _)
include h6 in
theorem gd_real (r : Fin 512) (l : Fin 128) : gd i arg6 harg6 x6 (ix2 r l) = (d (row (i 2).val r) l : EReal) :=
  (ld_rows arg6.view _ _ (i 2).isLt (k0_off1_eq i) r l).trans (u6 arg6 harg6 x6 d h6 _ _)
include h7 in
theorem go_real (r : Fin 512) (l : Fin 128) : go i arg7 harg7 x7 (ix2 r l) = (o (row (i 2).val r) l : EReal) :=
  (ld_rows arg7.view _ _ (i 2).isLt (k0_off1_eq i) r l).trans (u7 arg7 harg7 x7 o h7 _ _)
include h8 in
theorem gs_real (r : Fin 512) (h : Fin 2) : gs i arg8 harg8 x8 (ix3 0 r h) = (s (row (i 2).val r) h : EReal) :=
  (ld_lse arg8.view _ _ (i 2).isLt (k0_off2_eq i) r h).trans (u8 arg8 harg8 x8 s h8 _ _)
include h9 in
theorem gf0_real (r : Fin 512) : gf0 i arg9 harg9 x9 (ix4 0 0 0 r) = (f 0 (row (i 2).val r) : EReal) :=
  (ld_f arg9.view _ _ (i 2).isLt 0 (k0_off3_eq i) r).trans (u9 arg9 harg9 x9 f h9 _ _)
include h9 in
theorem gf1_real (r : Fin 512) : gf1 i arg9 harg9 x9 (ix4 0 0 0 r) = (f 1 (row (i 2).val r) : EReal) :=
  (ld_f arg9.view _ _ (i 2).isLt 1 (k0_off5_eq i) r).trans (u9 arg9 harg9 x9 f h9 _ _)
theorem diag (r c : Fin 512) : (row (i 2).val c).val ≤ (row (i 2).val r).val ↔ c.val ≤ r.val := by
  rw [row_val (i 2).isLt, row_val (i 2).isLt]; omega

/-! What the diagonal step writes. -/
abbrev E13 : List (View.Piece (Elt Ideal) S1x2048x2 .f32) :=
    [⟨Rect.unit (s := S1x2048x2) (k0_off6 i) S1x512x1.size (k0_off6_inb i), k0_pay84 (F := Ideal) (k0_pay82 (F := Ideal) k0_pay50 io0 io1 (k0_pay56 x4) (k0_pay57 x5) (k0_pay61 (gq i arg3 harg3 x3)) (k0_pay62 (gd i arg6 harg6 x6)) (k0_pay63 (gd i arg6 harg6 x6) (go i arg7 harg7 x7)) (k0_pay64 (gs i arg8 harg8 x8)) (gf1 i arg9 harg9 x9)) (arg13.view.readAt (Elt Ideal) (Rect.unit (s := S1x2048x2) (k0_off6 i) S1x512x1.size (k0_off6_inb i)).toLoadRect (harg13.unread x13))⟩,
    ⟨Rect.unit (s := S1x2048x2) (k0_off4 i) S1x512x1.size (k0_off4_inb i), k0_pay74 (F := Ideal) io0 io1 (k0_pay57 x5) (k0_pay64 (gs i arg8 harg8 x8)) (k0_pay67 k0_pay49 (gd i arg6 harg6 x6)) (k0_pay68 k0_pay49 (gd i arg6 harg6 x6) (go i arg7 harg7 x7)) (k0_pay69 k0_pay49 (k0_pay56 x4) (gq i arg3 harg3 x3)) (k0_pay70 (gf0 i arg9 harg9 x9)) (arg13.view.readAt (Elt Ideal) (Rect.unit (s := S1x2048x2) (k0_off4 i) S1x512x1.size (k0_off4_inb i)).toLoadRect (harg13.unread x13))⟩]
abbrev E14 : List (View.Piece (Elt Ideal) S2048x128 .f32) :=
    [⟨Rect.unit (s := S2048x128) (k0_off1 i) S512x128.size (k0_off1_inb i), k0_pay89 (F := Ideal) (k0_pay88 (F := Ideal) (k0_pay60 k0_pay50 (k0_pay56 x4) (k0_pay59 (F := Ideal))) (k0_pay78 (F := Ideal) (k0_pay58 x4) (k0_pay65 (F := Ideal)) (k0_pay75 (F := Ideal) io0 io1 (k0_pay57 x5) (k0_pay64 (gs i arg8 harg8 x8)) (k0_pay67 k0_pay49 (gd i arg6 harg6 x6)) (k0_pay68 k0_pay49 (gd i arg6 harg6 x6) (go i arg7 harg7 x7)) (k0_pay69 k0_pay49 (k0_pay56 x4) (gq i arg3 harg3 x3)) (k0_pay70 (gf0 i arg9 harg9 x9)))) (k0_pay82 (F := Ideal) k0_pay50 io0 io1 (k0_pay56 x4) (k0_pay57 x5) (k0_pay61 (gq i arg3 harg3 x3)) (k0_pay62 (gd i arg6 harg6 x6)) (k0_pay63 (gd i arg6 harg6 x6) (go i arg7 harg7 x7)) (k0_pay64 (gs i arg8 harg8 x8)) (gf1 i arg9 harg9 x9)) (arg14.view.readAt (Elt Ideal) (Rect.unit (s := S2048x128) (k0_off1 i) S512x128.size (k0_off1_inb i)).toLoadRect (harg14.unread x14)))⟩]
abbrev E15 : List (View.Piece (Elt Ideal) S512x128 .f32) :=
    [⟨Rect.unit (s := S512x128) ![0, 0] S512x128.size inb_S512x128_S512x128_0_0, k0_pay87 (F := Ideal) (k0_pay79 k0_pay50 (k0_pay61 (gq i arg3 harg3 x3))) (k0_pay82 (F := Ideal) k0_pay50 io0 io1 (k0_pay56 x4) (k0_pay57 x5) (k0_pay61 (gq i arg3 harg3 x3)) (k0_pay62 (gd i arg6 harg6 x6)) (k0_pay63 (gd i arg6 harg6 x6) (go i arg7 harg7 x7)) (k0_pay64 (gs i arg8 harg8 x8)) (gf1 i arg9 harg9 x9)) (arg15.view.readCov [⟨Rect.unit (s := S512x128) ![0, 0] S512x128.size inb_S512x128_S512x128_0_0, k0_pay77 (F := Ideal) (k0_pay66 k0_pay49 (gq i arg3 harg3 x3)) (k0_pay75 (F := Ideal) io0 io1 (k0_pay57 x5) (k0_pay64 (gs i arg8 harg8 x8)) (k0_pay67 k0_pay49 (gd i arg6 harg6 x6)) (k0_pay68 k0_pay49 (gd i arg6 harg6 x6) (go i arg7 harg7 x7)) (k0_pay69 k0_pay49 (k0_pay56 x4) (gq i arg3 harg3 x3)) (k0_pay70 (gf0 i arg9 harg9 x9))) (arg15.view.readAt (Elt Ideal) (Rect.unit (s := S512x128) ![0, 0] S512x128.size inb_S512x128_S512x128_0_0).toLoadRect (harg15.unread (k0_pay53 (F := Ideal))))⟩] (Rect.unit (s := S512x128) ![0, 0] S512x128.size inb_S512x128_S512x128_0_0).toLoadRect)⟩,
    ⟨Rect.unit (s := S512x128) ![0, 0] S512x128.size inb_S512x128_S512x128_0_0, k0_pay77 (F := Ideal) (k0_pay66 k0_pay49 (gq i arg3 harg3 x3)) (k0_pay75 (F := Ideal) io0 io1 (k0_pay57 x5) (k0_pay64 (gs i arg8 harg8 x8)) (k0_pay67 k0_pay49 (gd i arg6 harg6 x6)) (k0_pay68 k0_pay49 (gd i arg6 harg6 x6) (go i arg7 harg7 x7)) (k0_pay69 k0_pay49 (k0_pay56 x4) (gq i arg3 harg3 x3)) (k0_pay70 (gf0 i arg9 harg9 x9))) (arg15.view.readAt (Elt Ideal) (Rect.unit (s := S512x128) ![0, 0] S512x128.size inb_S512x128_S512x128_0_0).toLoadRect (harg15.unread (k0_pay53 (F := Ideal))))⟩]
abbrev E16 : List (View.Piece (Elt Ideal) S512x128 .f32) :=
    [⟨Rect.unit (s := S512x128) ![0, 0] S512x128.size inb_S512x128_S512x128_0_0, k0_pay86 (F := Ideal) (k0_pay80 k0_pay50 (k0_pay62 (gd i arg6 harg6 x6))) (k0_pay81 (F := Ideal) k0_pay50 io0 io1 (k0_pay56 x4) (k0_pay61 (gq i arg3 harg3 x3)) (k0_pay64 (gs i arg8 harg8 x8)) (gf1 i arg9 harg9 x9)) (arg16.view.readCov [⟨Rect.unit (s := S512x128) ![0, 0] S512x128.size inb_S512x128_S512x128_0_0, k0_pay76 (F := Ideal) io0 io1 (k0_pay64 (gs i arg8 harg8 x8)) (k0_pay67 k0_pay49 (gd i arg6 harg6 x6)) (k0_pay69 k0_pay49 (k0_pay56 x4) (gq i arg3 harg3 x3)) (k0_pay70 (gf0 i arg9 harg9 x9)) (arg16.view.readAt (Elt Ideal) (Rect.unit (s := S512x128) ![0, 0] S512x128.size inb_S512x128_S512x128_0_0).toLoadRect (harg16.unread (k0_pay54 (F := Ideal))))⟩] (Rect.unit (s := S512x128) ![0, 0] S512x128.size inb_S512x128_S512x128_0_0).toLoadRect)⟩,
    ⟨Rect.unit (s := S512x128) ![0, 0] S512x128.size inb_S512x128_S512x128_0_0, k0_pay76 (F := Ideal) io0 io1 (k0_pay64 (gs i arg8 harg8 x8)) (k0_pay67 k0_pay49 (gd i arg6 harg6 x6)) (k0_pay69 k0_pay49 (k0_pay56 x4) (gq i arg3 harg3 x3)) (k0_pay70 (gf0 i arg9 harg9 x9)) (arg16.view.readAt (Elt Ideal) (Rect.unit (s := S512x128) ![0, 0] S512x128.size inb_S512x128_S512x128_0_0).toLoadRect (harg16.unread (k0_pay54 (F := Ideal))))⟩]
abbrev E17 : List (View.Piece (Elt Ideal) S2x512 .f32) :=
    [⟨Rect.unit (s := S2x512) ![1, 0] S1x512.size inb_S2x512_S1x512_1_0, k0_pay83 (F := Ideal) (k0_pay82 (F := Ideal) k0_pay50 io0 io1 (k0_pay56 x4) (k0_pay57 x5) (k0_pay61 (gq i arg3 harg3 x3)) (k0_pay62 (gd i arg6 harg6 x6)) (k0_pay63 (gd i arg6 harg6 x6) (go i arg7 harg7 x7)) (k0_pay64 (gs i arg8 harg8 x8)) (gf1 i arg9 harg9 x9)) (arg17.view.readAt (Elt Ideal) (Rect.unit (s := S2x512) ![1, 0] S1x512.size inb_S2x512_S1x512_1_0).toLoadRect (harg17.unread (k0_pay55 (F := Ideal))))⟩,
    ⟨Rect.unit (s := S2x512) ![0, 0] S1x512.size inb_S2x512_S1x512_0_0, k0_pay73 (F := Ideal) io0 io1 (k0_pay57 x5) (k0_pay64 (gs i arg8 harg8 x8)) (k0_pay67 k0_pay49 (gd i arg6 harg6 x6)) (k0_pay68 k0_pay49 (gd i arg6 harg6 x6) (go i arg7 harg7 x7)) (k0_pay69 k0_pay49 (k0_pay56 x4) (gq i arg3 harg3 x3)) (k0_pay70 (gf0 i arg9 harg9 x9)) (arg17.view.readAt (Elt Ideal) (Rect.unit (s := S2x512) ![0, 0] S1x512.size inb_S2x512_S1x512_0_0).toLoadRect (harg17.unread (k0_pay55 (F := Ideal))))⟩]

include h3 h4 h5 h6 h7 h8 h9 in
theorem diag_rows (R : Fin 2048) (h : Fin 2) :
    arg13.view.read (Elt Ideal) (arg13.view.writes (Elt Ideal) (harg13.unread x13) (E13 i arg3 harg3 arg6 harg6 arg7 harg7 arg8 harg8 arg9 harg9 arg13 harg13 x3 x4 x5 x6 x7 x8 x9 x13)) (ix3 0 R h)
      = x13 (ix3 0 R h) + ((if R.val / 512 = (i 2).val then ∑ c, DS q kk v d o f s h R (row (i 2).val c) else 0 : ℝ) : EReal) := by
  have hj := (i 2).isLt
  refine (wr_col arg13.view _ _ _ _ (n := (i 2).val) 1 (k0_off6_eq i) R h).trans ?_
  have e0 : ∀ R h, arg13.view.read (Elt Ideal) (harg13.unread x13) (ix3 0 R h) = x13 (ix3 0 R h) := fun _ _ => congrFun (harg13.read_unread (Val := Elt Ideal) x13) _
  have hR1 := (ld_col (Val := Elt Ideal) arg13.view (harg13.unread x13) (k0_off6_inb i) hj 1 (k0_off6_eq i) (lo R)).trans (e0 _ _)
  have hR0 := (ld_col (Val := Elt Ideal) arg13.view (harg13.unread x13) (k0_off4_inb i) hj 0 (k0_off4_eq i) (lo R)).trans (e0 _ _)
  by_cases hR : R.val / 512 = (i 2).val
  · have e : row (i 2).val (lo R) = R := by rw [← hR]; exact row_lo R
    rw [e] at hR0 hR1
    rw [if_pos hR]
    match h with
    | 0 =>
      rw [if_neg (by simp)]
      refine (wr_col arg13.view _ _ _ _ (n := (i 2).val) 0 (k0_off4_eq i) R 0).trans ?_
      rw [if_pos ⟨hR, rfl⟩, ← hR0]
      refine (diag_rows0 q kk v d o f s (row (i 2).val) (row (i 2).val) (gq i arg3 harg3 x3) x4 x5 (gd i arg6 harg6 x6) (go i arg7 harg7 x7) (gs i arg8 harg8 x8) (gf0 i arg9 harg9 x9) (gq_real i arg3 harg3 x3 q h3) h4 h5 (gd_real i arg6 harg6 x6 d h6) (go_real i arg7 harg7 x7 o h7) (gs_real i arg8 harg8 x8 s h8) (gf0_real i arg9 harg9 x9 f h9) (diag i) _ (lo R)).trans ?_
      rw [e]
    | 1 =>
      rw [if_pos ⟨hR, rfl⟩, ← hR1]
      refine (diag_rows1 q kk v d o f s (row (i 2).val) (row (i 2).val) (gq i arg3 harg3 x3) x4 x5 (gd i arg6 harg6 x6) (go i arg7 harg7 x7) (gs i arg8 harg8 x8) (gf1 i arg9 harg9 x9) (gq_real i arg3 harg3 x3 q h3) h4 h5 (gd_real i arg6 harg6 x6 d h6) (go_real i arg7 harg7 x7 o h7) (gs_real i arg8 harg8 x8 s h8) (gf1_real i arg9 harg9 x9 f h9) (diag i) _ (lo R)).trans ?_
      rw [e]
  · rw [if_neg hR, if_neg (fun h => hR h.1), EReal.coe_zero, add_zero]
    refine (wr_col arg13.view _ _ _ _ (n := (i 2).val) 0 (k0_off4_eq i) R h).trans ?_
    rw [if_neg (fun h => hR h.1)]; exact e0 R h

include h3 h4 h5 h6 h7 h8 h9 in
theorem diag_query (R : Fin 2048) (l : Fin 128) :
    arg14.view.read (Elt Ideal) (arg14.view.writes (Elt Ideal) (harg14.unread x14) (E14 i arg3 harg3 arg6 harg6 arg7 harg7 arg8 harg8 arg9 harg9 arg14 harg14 x3 x4 x5 x6 x7 x8 x9 x14)) (ix2 R l)
      = x14 (ix2 R l) + ((if R.val / 512 = (i 2).val then ∑ h, ∑ c, DS q kk v d o f s h R (row (i 2).val c) * pick h l (kk (row (i 2).val c) l) else 0 : ℝ) : EReal) := by
  have hj := (i 2).isLt
  have e0 : ∀ R l, arg14.view.read (Elt Ideal) (harg14.unread x14) (ix2 R l) = x14 (ix2 R l) := fun _ _ => congrFun (harg14.read_unread (Val := Elt Ideal) x14) _
  refine (wr_rows arg14.view _ _ _ _ (n := (i 2).val) (k0_off1_eq i) R l).trans ?_
  have hR1 := (ld_rows (Val := Elt Ideal) arg14.view (harg14.unread x14) (k0_off1_inb i) hj (k0_off1_eq i) (lo R) l).trans (e0 _ _)
  by_cases hR : R.val / 512 = (i 2).val
  · have e : row (i 2).val (lo R) = R := by rw [← hR]; exact row_lo R
    rw [e] at hR1
    rw [if_pos hR, if_pos hR, ← hR1]
    refine (diag_dqry q kk v d o f s (row (i 2).val) (row (i 2).val) (gq i arg3 harg3 x3) x4 x5 (gd i arg6 harg6 x6) (go i arg7 harg7 x7) (gs i arg8 harg8 x8) (gf0 i arg9 harg9 x9) (gf1 i arg9 harg9 x9) (gq_real i arg3 harg3 x3 q h3) h4 h5 (gd_real i arg6 harg6 x6 d h6) (go_real i arg7 harg7 x7 o h7) (gs_real i arg8 harg8 x8 s h8) (gf0_real i arg9 harg9 x9 f h9) (gf1_real i arg9 harg9 x9 f h9) (diag i) _ (lo R) l).trans ?_
    rw [e]
  · rw [if_neg hR, if_neg hR, EReal.coe_zero, add_zero]; exact e0 R l

theorem zero51 (R : Fin 2048) (l : Fin 128) : k0_pay51 (F := Ideal) (ix2 R l) = 0 := by
  pointwise [k0_pay51]
theorem zero52 (R : Fin 2048) (h : Fin 2) : k0_pay52 (F := Ideal) (ix3 0 R h) = 0 := by
  pointwise [k0_pay52]
theorem zero55 (h : Fin 2) (r : Fin 512) : k0_pay55 (F := Ideal) (ix2 h r) = 0 := by
  pointwise [k0_pay55]
theorem zero53 (r : Fin 512) (l : Fin 128) : k0_pay53 (F := Ideal) (ix2 r l) = 0 := by
  pointwise [k0_pay53]

include h3 h4 h5 h6 h7 h8 h9 in
theorem diag_key (r : Fin 512) (l : Fin 128) :
    arg15.view.read (Elt Ideal) (arg15.view.writes (Elt Ideal) arg15.view.junk (E15 i arg3 harg3 arg6 harg6 arg7 harg7 arg8 harg8 arg9 harg9 arg15 harg15 x3 x4 x5 x6 x7 x8 x9)) (ix2 r l)
      = ((∑ h, ∑ x, DS q kk v d o f s h (row (i 2).val x) (row (i 2).val r) * pick h l (q (row (i 2).val x) l * (1 / 8)) : ℝ) : EReal) := by
  have e1 := (View.readAt_full arg15.view (harg15.unread (k0_pay53 (F := Ideal))) inb_S512x128_S512x128_0_0).trans (harg15.read_unread (Val := Elt Ideal) _)
  refine (congrFun (View.read_writes_full arg15.view _ inb_S512x128_S512x128_0_0 _ _) (ix2 r l)).trans ?_
  rw [View.readCov_full, e1]
  refine (diag_dkey q kk v d o f s (row (i 2).val) (row (i 2).val) (gq i arg3 harg3 x3) x4 x5 (gd i arg6 harg6 x6) (go i arg7 harg7 x7) (gs i arg8 harg8 x8) (gf0 i arg9 harg9 x9) (gf1 i arg9 harg9 x9) (gq_real i arg3 harg3 x3 q h3) h4 h5 (gd_real i arg6 harg6 x6 d h6) (go_real i arg7 harg7 x7 o h7) (gs_real i arg8 harg8 x8 s h8) (gf0_real i arg9 harg9 x9 f h9) (gf1_real i arg9 harg9 x9 f h9) (diag i) _ r l).trans ?_
  rw [zero53, zero_add]

include h3 h4 h6 h8 h9 in
theorem diag_val (r : Fin 512) (l : Fin 128) :
    arg16.view.read (Elt Ideal) (arg16.view.writes (Elt Ideal) arg16.view.junk (E16 i arg3 harg3 arg6 harg6 arg8 harg8 arg9 harg9 arg16 harg16 x3 x4 x6 x8 x9)) (ix2 r l)
      = ((∑ h, ∑ x, P q kk f s h (row (i 2).val x) (row (i 2).val r) * pick h l (d (row (i 2).val x) l) : ℝ) : EReal) := by
  have e1 := (View.readAt_full arg16.view (harg16.unread (k0_pay54 (F := Ideal))) inb_S512x128_S512x128_0_0).trans (harg16.read_unread (Val := Elt Ideal) _)
  refine (congrFun (View.read_writes_full arg16.view _ inb_S512x128_S512x128_0_0 _ _) (ix2 r l)).trans ?_
  rw [View.readCov_full, e1]
  refine (diag_dval q kk d f s (row (i 2).val) (row (i 2).val) (gq i arg3 harg3 x3) x4 (gd i arg6 harg6 x6) (gs i arg8 harg8 x8) (gf0 i arg9 harg9 x9) (gf1 i arg9 harg9 x9) (gq_real i arg3 harg3 x3 q h3) h4 (gd_real i arg6 harg6 x6 d h6) (gs_real i arg8 harg8 x8 s h8) (gf0_real i arg9 harg9 x9 f h9) (gf1_real i arg9 harg9 x9 f h9) (diag i) _ r l).trans ?_
  rw [show k0_pay54 (F := Ideal) (ix2 r l) = 0 from zero53 r l, zero_add]

include h3 h4 h5 h6 h7 h8 h9 in
theorem diag_cols (h : Fin 2) (r : Fin 512) :
    arg17.view.read (Elt Ideal) (arg17.view.writes (Elt Ideal) arg17.view.junk (E17 i arg3 harg3 arg6 harg6 arg7 harg7 arg8 harg8 arg9 harg9 arg17 harg17 x3 x4 x5 x6 x7 x8 x9)) (ix2 h r)
      = ((∑ x, DS q kk v d o f s h (row (i 2).val x) (row (i 2).val r) : ℝ) : EReal) := by
  have e0 : ∀ h r, arg17.view.read (Elt Ideal) (harg17.unread (k0_pay55 (F := Ideal))) (ix2 h r) = 0 := fun h r => (congrFun (harg17.read_unread (Val := Elt Ideal) _) _).trans (zero55 h r)
  refine (wr_two arg17.view _ _ _ _ 1 rfl h r).trans ?_
  match h with
  | 0 =>
    rw [if_neg (by simp)]
    refine (wr_two arg17.view _ _ _ _ 0 rfl 0 r).trans ?_
    rw [if_pos rfl]
    refine (diag_cols0 q kk v d o f s (row (i 2).val) (row (i 2).val) (gq i arg3 harg3 x3) x4 x5 (gd i arg6 harg6 x6) (go i arg7 harg7 x7) (gs i arg8 harg8 x8) (gf0 i arg9 harg9 x9) (gq_real i arg3 harg3 x3 q h3) h4 h5 (gd_real i arg6 harg6 x6 d h6) (go_real i arg7 harg7 x7 o h7) (gs_real i arg8 harg8 x8 s h8) (gf0_real i arg9 harg9 x9 f h9) (diag i) _ r).trans ?_
    rw [show (View.readAt (Elt Ideal) arg17.view (Rect.unit (s := S2x512) ![0, 0] S1x512.size inb_S2x512_S1x512_0_0).toLoadRect (harg17.unread (k0_pay55 (F := Ideal)))) (ix2 0 r) = 0 from (ld_two arg17.view _ _ 0 rfl r).trans (e0 _ _), zero_add]
  | 1 =>
    rw [if_pos rfl]
    refine (diag_cols1 q kk v d o f s (row (i 2).val) (row (i 2).val) (gq i arg3 harg3 x3) x4 x5 (gd i arg6 harg6 x6) (go i arg7 harg7 x7) (gs i arg8 harg8 x8) (gf1 i arg9 harg9 x9) (gq_real i arg3 harg3 x3 q h3) h4 h5 (gd_real i arg6 harg6 x6 d h6) (go_real i arg7 harg7 x7 o h7) (gs_real i arg8 harg8 x8 s h8) (gf1_real i arg9 harg9 x9 f h9) (diag i) _ r).trans ?_
    rw [show (View.readAt (Elt Ideal) arg17.view (Rect.unit (s := S2x512) ![1, 0] S1x512.size inb_S2x512_S1x512_1_0).toLoadRect (harg17.unread (k0_pay55 (F := Ideal)))) (ix2 0 r) = 0 from (ld_two arg17.view _ _ 1 rfl r).trans (e0 _ _), zero_add]

end Cert.AttnBwdIdeal.Pay

end
-- ==== Proof.AttnBwdPoint.lean ====
/- What one grid point leaves: its block of the packed gradient, its column sums, the row sums and the query accumulator. -/
module

public import proofs.«01_k».proof.Proof.AttnBwdDiag

@[expose] public section

set_option maxRecDepth 16384

noncomputable section

open Idealize.ShloMosaic Idealize.ShloMosaic.TcCoe Cert.Reals

namespace Cert.AttnBwdIdeal.Pay

open Cert.AttnBwdIdeal Cert.AttnBwdIdeal.Gen

variable (c : Dev nD) (i : grid0.Coords)
  (arg3 : Memref sig .tc .vmem S2048x128 .bf16) (harg3 : arg3.IsWhole)
  (arg4 : Memref sig .tc .vmem S512x128 .bf16) (harg4 : arg4.IsWhole)
  (arg5 : Memref sig .tc .vmem S512x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x2048x2 .f32) (harg8 : arg8.IsWhole)
  (arg9 : Memref sig .tc .vmem S1x1x2x2048 .f32) (harg9 : arg9.IsWhole)
  (arg10 : Memref sig .tc .hbm S8192x5376 .bf16) (harg10 : arg10.IsWhole)
  (arg11 : Memref sig .tc .vmem S512x384 .bf16) (harg11 : arg11.IsWhole)
  (arg12 : Memref sig .tc .vmem S1x1x2x512 .f32) (harg12 : arg12.IsWhole)
  (arg13 : Memref sig .tc .vmem S1x2048x2 .f32) (harg13 : arg13.IsWhole)
  (arg14 : Memref sig .tc .vmem S2048x128 .f32) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S2x512 .f32) (harg17 : arg17.IsWhole)
variable (x3 : FVec Ideal S2048x128 .bf16) (x4 : FVec Ideal S512x128 .bf16) (x5 : FVec Ideal S512x128 .bf16) (x6 : FVec Ideal S2048x128 .bf16) (x7 : FVec Ideal S2048x128 .bf16) (x8 : FVec Ideal S1x2048x2 .f32) (x9 : FVec Ideal S1x1x2x2048 .f32) (x13 : FVec Ideal S1x2048x2 .f32) (x14 : FVec Ideal S2048x128 .f32)
variable (q kk v d o : Fin 2048 → Fin 128 → ℝ) (f : Fin 2 → Fin 2048 → ℝ) (s : Fin 2048 → Fin 2 → ℝ)
variable (h3 : ∀ R l, x3 (ix2 R l) = (q R l : EReal)) (h6 : ∀ R l, x6 (ix2 R l) = (d R l : EReal)) (h7 : ∀ R l, x7 (ix2 R l) = (o R l : EReal)) (h8 : ∀ R h, x8 (ix3 0 R h) = (s R h : EReal)) (h9 : ∀ h C, x9 (ix4 0 0 h C) = (f h C : EReal))
  (h4 : ∀ r l, x4 (ix2 r l) = (kk (row (i 2).val r) l : EReal)) (h5 : ∀ r l, x5 (ix2 r l) = (v (row (i 2).val r) l : EReal))

/-- What the steps below the diagonal write, after the diagonal one. -/
abbrev mid := pb c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9)
    (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14))
    (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) (k0_t1_loop i).trips

/-- What the loop's remainder writes, -/
abbrev fin := pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17
  k0_pay49 k0_pay50 (k0_pay56 x4) (k0_pay57 x5) (Scalar.muli (BitVec.ofNat 32 (i 2).val) 512#32) (k0_pay58 x4) (k0_pay60 k0_pay50 (k0_pay56 x4) k0_pay59) (Scalar.addi (Scalar.addi (BitVec.ofNat 32 (i 2).val) 1#32) (Scalar.muli (Scalar.divsi (Scalar.subi 4#32 (Scalar.addi (BitVec.ofNat 32 (i 2).val) 1#32)) 1#32) 1#32)) (harg3.unread x3) (harg6.unread x6) (harg7.unread x7) (harg8.unread x8) (harg9.unread x9)
  (arg13.view.writes (Elt Ideal) (harg13.unread x13) ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).1 ++ (E13 i arg3 harg3 arg6 harg6 arg7 harg7 arg8 harg8 arg9 harg9 arg13 harg13 x3 x4 x5 x6 x7 x8 x9 x13))) (arg14.view.writes (Elt Ideal) (harg14.unread x14) ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1 ++ (E14 i arg3 harg3 arg6 harg6 arg7 harg7 arg8 harg8 arg9 harg9 arg14 harg14 x3 x4 x5 x6 x7 x8 x9 x14)))
  (arg15.view.writes (Elt Ideal) arg15.view.junk ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1 ++ (E15 i arg3 harg3 arg6 harg6 arg7 harg7 arg8 harg8 arg9 harg9 arg15 harg15 x3 x4 x5 x6 x7 x8 x9))) (arg16.view.writes (Elt Ideal) arg16.view.junk ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1 ++ (E16 i arg3 harg3 arg6 harg6 arg8 harg8 arg9 harg9 arg16 harg16 x3 x4 x6 x8 x9)))
  (arg17.view.writes (Elt Ideal) arg17.view.junk ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.2 ++ (E17 i arg3 harg3 arg6 harg6 arg7 harg7 arg8 harg8 arg9 harg9 arg17 harg17 x3 x4 x5 x6 x7 x8 x9))) (k0_t2_loop i).trips
/-- nothing. -/
theorem fin_eq : fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 = ([], [], [], [], []) := by
  unfold fin; rw [trips_zero i]; rfl

theorem run_1 : (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).1
    = [⟨Rect.unit (s := S512x384) ![0, 256] S512x128.size inb_S512x384_S512x128_0_256, k0_pay102 (arg16.view.readCov ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1 ++ (E16 i arg3 harg3 arg6 harg6 arg8 harg8 arg9 harg9 arg16 harg16 x3 x4 x6 x8 x9))) (Rect.unit (s := S512x128) ![0, 0] S512x128.size inb_S512x128_S512x128_0_0).toLoadRect)⟩,
      ⟨Rect.unit (s := S512x384) ![0, 128] S512x128.size inb_S512x384_S512x128_0_128, k0_pay101 (arg15.view.readCov ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1 ++ (E15 i arg3 harg3 arg6 harg6 arg7 harg7 arg8 harg8 arg9 harg9 arg15 harg15 x3 x4 x5 x6 x7 x8 x9))) (Rect.unit (s := S512x128) ![0, 0] S512x128.size inb_S512x128_S512x128_0_0).toLoadRect)⟩,
      ⟨Rect.unit (s := S512x384) ![0, 0] S512x128.size inb_S512x384_S512x128_0_0, k0_pay100 (arg14.view.readAt (Elt Ideal) (Rect.unit (s := S2048x128) (k0_off1 i) S512x128.size (k0_off1_inb i)).toLoadRect (arg14.view.writes (Elt Ideal) (harg14.unread x14) ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1 ++ (E14 i arg3 harg3 arg6 harg6 arg7 harg7 arg8 harg8 arg9 harg9 arg14 harg14 x3 x4 x5 x6 x7 x8 x9 x14)))))⟩] := by
  unfold Body.restRun; sl_kernel_rfl

theorem run_2_1 : (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1
    = [⟨Rect.unit (s := S1x1x2x512) ![0, 0, 0, 0] S1x1x2x512.size inb_S1x1x2x512_S1x1x2x512_0_0_0_0, k0_pay103 (arg17.view.readAt (Elt Ideal) (Rect.unit (s := S2x512) ![0, 0] S2x512.size inb_S2x512_S2x512_0_0).toLoadRect (arg17.view.writes (Elt Ideal) arg17.view.junk ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.2 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.2 ++ (E17 i arg3 harg3 arg6 harg6 arg7 harg7 arg8 harg8 arg9 harg9 arg17 harg17 x3 x4 x5 x6 x7 x8 x9)))))⟩] := by
  unfold Body.restRun; sl_kernel_rfl

theorem run_2_2_1 : (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1
    = ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).1 ++ (E13 i arg3 harg3 arg6 harg6 arg7 harg7 arg8 harg8 arg9 harg9 arg13 harg13 x3 x4 x5 x6 x7 x8 x9 x13))) := by
  unfold Body.restRun; sl_kernel_rfl

theorem run_2_2_2_1 : (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1
    = ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1 ++ (E14 i arg3 harg3 arg6 harg6 arg7 harg7 arg8 harg8 arg9 harg9 arg14 harg14 x3 x4 x5 x6 x7 x8 x9 x14))) := by
  unfold Body.restRun; sl_kernel_rfl

theorem P_zero {h : Fin 2} {R C : Fin 2048} (hc : R.val < C.val) : P q kk f s h R C = 0 := if_neg (by omega)
theorem DS_zero {h : Fin 2} {R C : Fin 2048} (hc : R.val < C.val) : DS q kk v d o f s h R C = 0 := by
  unfold DS; rw [P_zero q kk f s hc, zero_mul]
theorem above {j : ℕ} (hj : j < 4) {R : Fin 2048} (hR : R.val / 512 < j) (x : Fin 512) : R.val < (row j x).val := by
  rw [row_val hj]; omega

include h3 h4 h5 h6 h7 h8 h9 in
/-- The row sums after the point. -/
theorem point_rows (R : Fin 2048) (h : Fin 2) :
    arg13.view.read (Elt Ideal) (arg13.view.writes (Elt Ideal) (harg13.unread x13) (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1) (ix3 0 R h)
      = x13 (ix3 0 R h) + ((∑ c, DS q kk v d o f s h R (row (i 2).val c) : ℝ) : EReal) := by
  rw [run_2_2_1, fin_eq, List.nil_append, View.writes_append]
  refine (steps_rows c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9) (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14)) (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) q kk v d o f s (u3 arg3 harg3 x3 q h3) (u6 arg6 harg6 x6 d h6) (u7 arg7 harg7 x7 o h7) (u8 arg8 harg8 x8 s h8) (u9 arg9 harg9 x9 f h9) h4 h5 R h (k0_t1_loop i).trips le_rfl).trans ?_
  rw [diag_rows i arg3 harg3 arg6 harg6 arg7 harg7 arg8 harg8 arg9 harg9 arg13 harg13 x3 x4 x5 x6 x7 x8 x9 x13 q kk v d o f s h3 h6 h7 h8 h9 h4 h5, add_assoc, ← EReal.coe_add, trips_eq,
    sum_one (i 2).isLt (n := R.val / 512) (by omega) _ fun hR => Finset.sum_eq_zero fun x _ => DS_zero q kk v d o f s (above (i 2).isLt hR x)]

include h3 h4 h5 h6 h7 h8 h9 in
/-- The query accumulator after the point. -/
theorem point_query (R : Fin 2048) (l : Fin 128) :
    arg14.view.read (Elt Ideal) (arg14.view.writes (Elt Ideal) (harg14.unread x14) (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1) (ix2 R l)
      = x14 (ix2 R l) + ((∑ h, ∑ c, DS q kk v d o f s h R (row (i 2).val c) * pick h l (kk (row (i 2).val c) l) : ℝ) : EReal) := by
  rw [run_2_2_2_1, fin_eq, List.nil_append, View.writes_append]
  refine (steps_dqry c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9) (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14)) (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) q kk v d o f s (u3 arg3 harg3 x3 q h3) (u6 arg6 harg6 x6 d h6) (u7 arg7 harg7 x7 o h7) (u8 arg8 harg8 x8 s h8) (u9 arg9 harg9 x9 f h9) h4 h5 R l (k0_t1_loop i).trips le_rfl).trans ?_
  rw [diag_query i arg3 harg3 arg6 harg6 arg7 harg7 arg8 harg8 arg9 harg9 arg14 harg14 x3 x4 x5 x6 x7 x8 x9 x14 q kk v d o f s h3 h6 h7 h8 h9 h4 h5, add_assoc, ← EReal.coe_add, trips_eq,
    sum_one (i 2).isLt (n := R.val / 512) (by omega) _ fun hR => Finset.sum_eq_zero fun h _ => Finset.sum_eq_zero fun x _ => by rw [DS_zero q kk v d o f s (above (i 2).isLt hR x), zero_mul]]

theorem two_tiles {j : ℕ} (hj : j < 4) (g : Fin 2 → Fin 2048 → ℝ) (h0 : ∀ h R, R.val / 512 < j → g h R = 0) :
    ∑ h, ∑ x, g h (row j x) + ∑ k ∈ Finset.range (3 - j), ∑ h, ∑ x, g h (row (j + k + 1) x) = ∑ h, ∑ R, g h R := by
  rw [Finset.sum_comm (s := Finset.range (3 - j)), ← Finset.sum_add_distrib]
  exact Finset.sum_congr rfl fun h _ => sum_tiles hj (g h) (h0 h)

include h3 h4 h5 h6 h7 h8 h9 in
/-- The key gradient of the point's rows. -/
theorem point_key (r : Fin 512) (l : Fin 128) :
    arg15.view.read (Elt Ideal) (arg15.view.writes (Elt Ideal) arg15.view.junk ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.1 ++ (E15 i arg3 harg3 arg6 harg6 arg7 harg7 arg8 harg8 arg9 harg9 arg15 harg15 x3 x4 x5 x6 x7 x8 x9)))) (ix2 r l)
      = ((∑ h, ∑ R, DS q kk v d o f s h R (row (i 2).val r) * pick h l (q R l * (1 / 8)) : ℝ) : EReal) := by
  rw [fin_eq, List.nil_append, View.writes_append]
  refine (steps_dkey c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9) (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14)) (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) q kk v d o f s (u3 arg3 harg3 x3 q h3) (u6 arg6 harg6 x6 d h6) (u7 arg7 harg7 x7 o h7) (u8 arg8 harg8 x8 s h8) (u9 arg9 harg9 x9 f h9) h4 h5 r l (k0_t1_loop i).trips le_rfl).trans ?_
  rw [diag_key i arg3 harg3 arg6 harg6 arg7 harg7 arg8 harg8 arg9 harg9 arg15 harg15 x3 x4 x5 x6 x7 x8 x9 q kk v d o f s h3 h6 h7 h8 h9 h4 h5, ← EReal.coe_add, trips_eq,
    two_tiles (i 2).isLt (fun h R => DS q kk v d o f s h R (row (i 2).val r) * pick h l (q R l * (1 / 8))) fun h R hR => by rw [DS_zero q kk v d o f s (above (i 2).isLt hR r), zero_mul]]

include h3 h4 h6 h8 h9 in
/-- The value gradient of the point's rows. -/
theorem point_val (r : Fin 512) (l : Fin 128) :
    arg16.view.read (Elt Ideal) (arg16.view.writes (Elt Ideal) arg16.view.junk ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.1 ++ (E16 i arg3 harg3 arg6 harg6 arg8 harg8 arg9 harg9 arg16 harg16 x3 x4 x6 x8 x9)))) (ix2 r l)
      = ((∑ h, ∑ R, P q kk f s h R (row (i 2).val r) * pick h l (d R l) : ℝ) : EReal) := by
  rw [fin_eq, List.nil_append, View.writes_append]
  refine (steps_dval c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9) (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14)) (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) q kk d f s (u3 arg3 harg3 x3 q h3) (u6 arg6 harg6 x6 d h6) (u8 arg8 harg8 x8 s h8) (u9 arg9 harg9 x9 f h9) h4 r l (k0_t1_loop i).trips le_rfl).trans ?_
  rw [diag_val i arg3 harg3 arg6 harg6 arg8 harg8 arg9 harg9 arg16 harg16 x3 x4 x6 x8 x9 q kk d f s h3 h6 h8 h9 h4, ← EReal.coe_add, trips_eq,
    two_tiles (i 2).isLt (fun h R => P q kk f s h R (row (i 2).val r) * pick h l (d R l)) fun h R hR => by rw [P_zero q kk f s (above (i 2).isLt hR r), zero_mul]]

include h3 h4 h5 h6 h7 h8 h9 in
/-- The column sums of the point's columns. -/
theorem point_cols (h : Fin 2) (r : Fin 512) :
    arg17.view.read (Elt Ideal) (arg17.view.writes (Elt Ideal) arg17.view.junk ((fin c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.2 ++ ((mid c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.2.2.2 ++ (E17 i arg3 harg3 arg6 harg6 arg7 harg7 arg8 harg8 arg9 harg9 arg17 harg17 x3 x4 x5 x6 x7 x8 x9)))) (ix2 h r)
      = ((∑ R, DS q kk v d o f s h R (row (i 2).val r) : ℝ) : EReal) := by
  rw [fin_eq, List.nil_append, View.writes_append]
  refine (steps_cols c i arg3 harg3 arg4 harg4 arg5 harg5 arg6 harg6 arg7 harg7 arg8 harg8 arg9 harg9 arg10 harg10 arg11 harg11 arg12 harg12 arg13 harg13 arg14 harg14 arg15 harg15 arg16 harg16 arg17 harg17 (Scalar.muli (BitVec.ofNat 32 (i 2).val) 512#32) (Scalar.addi (BitVec.ofNat 32 (i 2).val) 1#32) x4 x5 (harg3.unread x3) (harg6.unread x6) (harg7.unread x7) (harg8.unread x8) (harg9.unread x9) (arg13.view.writes (Elt Ideal) (harg13.unread x13) (E13 i arg3 harg3 arg6 harg6 arg7 harg7 arg8 harg8 arg9 harg9 arg13 harg13 x3 x4 x5 x6 x7 x8 x9 x13)) (arg14.view.writes (Elt Ideal) (harg14.unread x14) (E14 i arg3 harg3 arg6 harg6 arg7 harg7 arg8 harg8 arg9 harg9 arg14 harg14 x3 x4 x5 x6 x7 x8 x9 x14)) (arg15.view.writes (Elt Ideal) arg15.view.junk (E15 i arg3 harg3 arg6 harg6 arg7 harg7 arg8 harg8 arg9 harg9 arg15 harg15 x3 x4 x5 x6 x7 x8 x9)) (arg16.view.writes (Elt Ideal) arg16.view.junk (E16 i arg3 harg3 arg6 harg6 arg8 harg8 arg9 harg9 arg16 harg16 x3 x4 x6 x8 x9)) (arg17.view.writes (Elt Ideal) arg17.view.junk (E17 i arg3 harg3 arg6 harg6 arg7 harg7 arg8 harg8 arg9 harg9 arg17 harg17 x3 x4 x5 x6 x7 x8 x9)) q kk v d o f s (u3 arg3 harg3 x3 q h3) (u6 arg6 harg6 x6 d h6) (u7 arg7 harg7 x7 o h7) (u8 arg8 harg8 x8 s h8) (u9 arg9 harg9 x9 f h9) h4 h5 h r (k0_t1_loop i).trips le_rfl).trans ?_
  rw [diag_cols i arg3 harg3 arg6 harg6 arg7 harg7 arg8 harg8 arg9 harg9 arg17 harg17 x3 x4 x5 x6 x7 x8 x9 q kk v d o f s h3 h6 h7 h8 h9 h4 h5, ← EReal.coe_add, trips_eq,
    sum_tiles (i 2).isLt (fun R => DS q kk v d o f s h R (row (i 2).val r)) fun R hR => DS_zero q kk v d o f s (above (i 2).isLt hR r)]

/-- Lane `l` of the third `a` of the packed block. -/
def lane (a : Fin 3) (l : Fin 128) : Fin 384 := ⟨128 * a.val + l.val, by have := a.isLt; have := l.isLt; omega⟩

variable (f11 : arg11.view.ty.Contents (Elt Ideal)) (f12 : arg12.view.ty.Contents (Elt Ideal))

theorem third (w : S512x128.Idx → EReal) (L : List (View.Piece (Elt Ideal) S512x384 .bf16)) (a : Fin 3) {off : Fin 2 → ℕ} (h : off = ![0, 128 * a.val])
    (inb : ∀ k, off k + S512x128.size k ≤ S512x384.size k) (r : Fin 512) (b : Fin 3) (l : Fin 128) :
    arg11.view.read (Elt Ideal) (arg11.view.writes (Elt Ideal) f11 (⟨Rect.unit (s := S512x384) off S512x128.size inb, w⟩ :: L)) (ix2 r (lane b l))
      = if b = a then w (ix2 r l) else arg11.view.read (Elt Ideal) (arg11.view.writes (Elt Ideal) f11 L) (ix2 r (lane b l)) := by
  have hl := l.isLt
  split
  · next e =>
    subst e
    exact View.read_writes_cons_unit_of_mem arg11.view f11 inb w L (ix2 r (lane b l)) (ix2 r l) h (Fin.forall_fin_two.mpr
      ⟨by show r.val = 0 + r.val; omega, rfl⟩)
  · next e =>
    have e' : b.val ≠ a.val := fun h => e (Fin.ext h)
    exact View.read_writes_cons_unit_of_not_mem arg11.view f11 inb w L (ix2 r (lane b l)) h (1 : Fin 2)
      (by show 128 * b.val + l.val < 128 * a.val ∨ 128 * a.val + 128 ≤ 128 * b.val + l.val; omega)

theorem pay100_apply (z : FVec Ideal S512x128 .f32) (r : Fin 512) (l : Fin 128) : k0_pay100 (F := Ideal) z (ix2 r l) = z (ix2 r l) * ((1 / 8 : ℝ) : EReal) := by
  pointwise [k0_pay100]
  rw [scale32]
theorem pay103_apply (z : FVec Ideal S2x512 .f32) (h : Fin 2) (r : Fin 512) : k0_pay103 (F := Ideal) z (ix4 0 0 h r) = z (ix2 h r) := by
  pointwise [k0_pay103]

/-- The point's block of the packed gradient. -/
abbrev blk11 := arg11.view.read (Elt Ideal) (arg11.view.writes (Elt Ideal) f11 (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).1)

include h3 h4 h5 h6 h7 h8 h9 in
theorem block_query (r : Fin 512) (l : Fin 128) :
    blk11 c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 f11 (ix2 r (lane 0 l))
      = (x14 (ix2 (row (i 2).val r) l) + ((∑ h, ∑ c, DS q kk v d o f s h (row (i 2).val r) (row (i 2).val c) * pick h l (kk (row (i 2).val c) l) : ℝ) : EReal)) * ((1 / 8 : ℝ) : EReal) := by
  unfold blk11
  rw [run_1]
  refine (third arg11 f11 _ _ 2 rfl _ r 0 l).trans ?_
  rw [if_neg (by decide)]
  refine (third arg11 f11 _ _ 1 rfl _ r 0 l).trans ?_
  rw [if_neg (by decide)]
  refine (third arg11 f11 _ _ 0 rfl _ r 0 l).trans ?_
  rw [if_pos rfl, pay100_apply, ← point_query c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 q kk v d o f s h3 h6 h7 h8 h9 h4 h5, run_2_2_2_1]
  exact congrArg (· * ((1 / 8 : ℝ) : EReal)) (ld_rows (Val := Elt Ideal) arg14.view _ _ (i 2).isLt (k0_off1_eq i) r l)

include h3 h4 h5 h6 h7 h8 h9 in
theorem block_key (r : Fin 512) (l : Fin 128) :
    blk11 c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 f11 (ix2 r (lane 1 l)) = ((∑ h, ∑ R, DS q kk v d o f s h R (row (i 2).val r) * pick h l (q R l * (1 / 8)) : ℝ) : EReal) := by
  unfold blk11
  rw [run_1]
  refine (third arg11 f11 _ _ 2 rfl _ r 1 l).trans ?_
  rw [if_neg (by decide)]
  refine (third arg11 f11 _ _ 1 rfl _ r 1 l).trans ?_
  rw [if_pos rfl]
  refine Eq.trans ?_ (point_key c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 q kk v d o f s h3 h6 h7 h8 h9 h4 h5 r l)
  exact congrFun (View.readAt_full arg15.view _ inb_S512x128_S512x128_0_0) (ix2 r l)

include h3 h4 h6 h8 h9 in
theorem block_val (r : Fin 512) (l : Fin 128) :
    blk11 c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 f11 (ix2 r (lane 2 l)) = ((∑ h, ∑ R, P q kk f s h R (row (i 2).val r) * pick h l (d R l) : ℝ) : EReal) := by
  unfold blk11
  rw [run_1]
  refine (third arg11 f11 _ _ 2 rfl _ r 2 l).trans ?_
  rw [if_pos rfl]
  refine Eq.trans ?_ (point_val c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 q kk d f s h3 h6 h8 h9 h4 r l)
  exact congrFun (View.readAt_full arg16.view _ inb_S512x128_S512x128_0_0) (ix2 r l)

include h3 h4 h5 h6 h7 h8 h9 in
/-- The point's column sums. -/
theorem block_cols (h : Fin 2) (r : Fin 512) :
    arg12.view.read (Elt Ideal) (arg12.view.writes (Elt Ideal) f12 (Body.restRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14).2.1) (ix4 0 0 h r) = ((∑ R, DS q kk v d o f s h R (row (i 2).val r) : ℝ) : EReal) := by
  rw [run_2_1]
  refine (congrFun (View.read_writes_full arg12.view _ inb_S1x1x2x512_S1x1x2x512_0_0_0_0 _ _) (ix4 0 0 h r)).trans ?_
  refine (pay103_apply _ h r).trans ?_
  refine Eq.trans ?_ (point_cols c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x9 x13 x14 q kk v d o f s h3 h6 h7 h8 h9 h4 h5 h r)
  exact congrFun (View.readAt_full arg17.view _ inb_S2x512_S2x512_0_0) (ix2 h r)

end Cert.AttnBwdIdeal.Pay

end
-- ==== Proof.AttnBwdFrame.lean ====
module

public import proofs.«01_k».proof.Proof.AttnBwdBody
public import Idealize.ShloMosaic.Lib.Claim

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The third grid coordinate of a point is its position modulo four. -/
theorem coord_two : ∀ t : Fin cfg0.N, (grid0.coords t 2).val = t.val % 4 :=
  (by decide +kernel : ∀ t : Fin grid0.N, (grid0.coords t 2).val = t.val % 4)

/-- The run of the rest of the body at point `t`, on what the pipeline calls it with, from the row sums `x13` and the
query accumulator `x14` its first part leaves. -/
abbrev runAt (c : Dev nD) (t : Fin cfg0.N) (x13 : Vec F S1x2048x2 .f32) (x14 : Vec F S2048x128 .f32) :=
  restRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) x13 x14

/-- The pieces the point writes into its gradient block cover it, -/
theorem cover7 (c : Dev nD) (t : Fin cfg0.N) (x13 : Vec F S1x2048x2 .f32) (x14 : Vec F S2048x128 .f32) (y : S512x384.Idx) :
    ∃ pc ∈ (runAt m c t x13 x14).1, y ∈ pc.1.set := by
  unfold runAt restRun
  exact View.cover_of_tiledL _ ![512, 128] (by sl_kernel_rfl) y

/-- and so does the piece it writes into its block of column sums. -/
theorem cover8 (c : Dev nD) (t : Fin cfg0.N) (x13 : Vec F S1x2048x2 .f32) (x14 : Vec F S2048x128 .f32) (y : S1x1x2x512.Idx) :
    ∃ pc ∈ (runAt m c t x13 x14).2.1, y ∈ pc.1.set := by
  unfold runAt restRun
  exact View.cover_of_tiledL _ S1x1x2x512.size (by sl_kernel_rfl) y

/-- What a point leaves: its block of the packed gradient, its column sums, the row sums so far and the query
accumulator so far. -/
def outs (c : Dev nD) (t : Fin cfg0.N) (x13 : Vec F S1x2048x2 .f32) (x14 : Vec F S2048x128 .f32) :
    Vec F S512x384 .bf16 × Vec F S1x1x2x512 .f32 × Vec F S1x2048x2 .f32 × Vec F S2048x128 .f32 :=
  ((st0_7 t).view.read (Elt F) ((st0_7 t).view.writes (Elt F) (st0_7 t).view.junk (runAt m c t x13 x14).1),
   (st0_8 t).view.read (Elt F) ((st0_8 t).view.writes (Elt F) (st0_8 t).view.junk (runAt m c t x13 x14).2.1),
   (st0_9 t).view.read (Elt F) ((st0_9 t).view.writes (Elt F) ((hstage0_9 ((cfg0.slots t 9).cast nbuf0_9)).unread x13) (runAt m c t x13 x14).2.2.1),
   (Memref.whole cc0_scratch0).view.read (Elt F) ((Memref.whole cc0_scratch0).view.writes (Elt F) ((Memref.isWhole_whole cc0_scratch0).unread x14) (runAt m c t x13 x14).2.2.2.1))

/-- What the point at position `n` leaves: the sums start at zero at a first column block and carry on from the point
before at the others. -/
def outsAt (c : Dev nD) : (n : ℕ) → n < cfg0.N → Vec F S512x384 .bf16 × Vec F S1x1x2x512 .f32 × Vec F S1x2048x2 .f32 × Vec F S2048x128 .f32
  | 0, hn => outs m c ⟨0, hn⟩ k0_pay52 k0_pay51
  | n + 1, hn =>
    if (n + 1) % 4 = 0 then outs m c ⟨n + 1, hn⟩ k0_pay52 k0_pay51
    else outs m c ⟨n + 1, hn⟩ (outsAt c n (Nat.lt_of_succ_lt hn)).2.2.1 (outsAt c n (Nat.lt_of_succ_lt hn)).2.2.2

theorem outsAt_reset (c : Dev nD) (t : Fin cfg0.N) (h : t.val % 4 = 0) :
    outsAt m c t.val t.isLt = outs m c t k0_pay52 k0_pay51 := by
  obtain ⟨n, hn⟩ := t
  cases n with
  | zero => exact rfl
  | succ n => exact (if_pos h).trans rfl

theorem outsAt_keep (c : Dev nD) (t : Fin cfg0.N) (h : ¬t.val % 4 = 0) :
    outsAt m c t.val t.isLt = outs m c t (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h
  | succ n => exact (if_neg h).trans rfl

/-- What the scratch buffers hold before position `n`: within a run of column blocks the query accumulator holds what the
point before left; the other buffers hold anything. -/
def between (c : Dev nD) (n : ℕ) : sProp 𝕄 :=
  iprop((∃ f : Vec F S2048x128 .f32, ⌜∀ h : n - 1 < cfg0.N, ¬n % 4 = 0 → f = (outsAt m c (n - 1) h).2.2.2⌝ ∗ owns (c : Thread nD τ) (Memref.whole cc0_scratch0) fullShare f)
    ∗ (∃ f : Vec F S512x128 .f32, owns (c : Thread nD τ) (Memref.whole cc0_scratch1) fullShare f)
    ∗ (∃ f : Vec F S512x128 .f32, owns (c : Thread nD τ) (Memref.whole cc0_scratch2) fullShare f)
    ∗ (∃ f : Vec F S2x512 .f32, owns (c : Thread nD τ) (Memref.whole cc0_scratch3) fullShare f)
    ∗ ∃ r, prngReg c r)

/-- The proof data of the pipeline: each input's buffer at its block, the results at `outsAt`, the scratch buffers at
`between`; the packed rows are read by three windows, so each holds its share of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
  Φ t := between m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).1 := by dsimp only [dats]
theorem after0_8 (c : Dev nD) (t : Fin cfg0.N) : (dats m 0 c).after 8 t = (outsAt m c t.val t.isLt).2.1 := by dsimp only [dats]
theorem after0_9 (c : Dev nD) (t : Fin cfg0.N) : (dats m 0 c).after 9 t = (outsAt m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a later column block the row sums' buffer holds what the point before left. -/
theorem before0_9_keep (c : Dev nD) (t : Fin cfg0.N) (h : ¬t.val % 4 = 0) (d) :
    (dats m 0 c).before 9 t d = (outsAt m c (t.val - 1) (Nat.lt_of_le_of_lt (Nat.sub_le _ _) t.isLt)).2.2.1 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point: its first part by whether the column block is the first, then the one run of the rest. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = between m c (t.val + 1) from rfl, show (dats m 0 c).Φ t.castSucc = between m c t.val from rfl,
    show (dats m 0 c).owesAt () t.succ = (dats m 0 c).owesAt () t.castSucc from rfl,
    after0_0, after0_1, after0_2, after0_3, after0_4, after0_5, after0_6, after0_7, after0_8, after0_9]
  unfold between
  by_cases h0 : t.val % 4 = 0
  · have e := outsAt_reset m c t h0
    rw [e]; unfold outs; dsimp only
    iintro ⟨⟨⟨%f0, -, S0⟩, S1, S2, S3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runAt m c t k0_pay52 k0_pay51).2.2.2.2 Set.univ
      iprop(owns (c : Thread nD τ) (st0_1 t) fullShare (iblk m c 1 t) ∗ owns (c : Thread nD τ) (st0_2 t) fullShare (iblk m c 2 t)
        ∗ (∃ d, owns (c : Thread nD τ) (st0_9 t) fullShare d) ∗ (∃ d, owns (c : Thread nD τ) (Memref.whole cc0_scratch0) fullShare d)
        ∗ (∃ d, owns (c : Thread nD τ) (Memref.whole cc0_scratch1) fullShare d) ∗ (∃ d, owns (c : Thread nD τ) (Memref.whole cc0_scratch2) fullShare d)
        ∗ (∃ d, owns (c : Thread nD τ) (Memref.whole cc0_scratch3) fullShare d)) _ ?part)
    case part =>
      intro K'
      refine .trans ?_ (first_part_reset c (grid0.coords t) _ _ _ _ _ _ _ _ _ _ _ _ _ _ _ _ _ _ _ _ _ _ _ _ _ _ _ _ _ _ ((coord_two t).trans h0) (iblk m c 1 t) (iblk m c 2 t) Set.univ K')
      iintro ⟨⟨A, B, C, D, E, G, H⟩, K⟩
      isplitl [A]; · iexact A
      isplitl [B]; · iexact B
      isplitl [C]; · iexact C
      isplitl [D]; · iexact D
      isplitl [E]; · iexact E
      isplitl [G]; · iexact G
      isplitl [H]; · iexact H
      iexact K
    isplitl [H1 H2 H9 S0 S1 S2 S3]
    · isplitl [H1]; · iexact H1
      isplitl [H2]; · iexact H2
      isplitl [H9]; · iexists _; iexact H9
      isplitl [S0]; · iexists _; iexact S0
      isplitl [S1]; · iexact S1
      isplitl [S2]; · iexact S2
      iexact S3
    isplitl [H0]; · iexact H0
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩, H9, S0, S1, S2, S3⟩
    isplitl [S0 S1 S2 S3 Hr]
    · isplitl [S0]
      · iexists _; isplitr; swap; · iexact S0
        ipureintro; intro h _; exact (congrArg (fun z => z.2.2.2) e).symm
      isplitl [S1]; · iexact S1
      isplitl [S2]; · iexact S2
      isplitl [S3]; · iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7 m c t _ _)
    isplitl [H8]
    · unfold owns; iexists _; isplitr
      swap; · iexact H8
      ipureintro; exact View.read_writes_of_cover _ _ _ _ _ (cover8 m c t _ _)
    iexact H9
  · have e := outsAt_keep m c t h0
    simp only [before0_9_keep m c t h0]
    rw [e]; unfold outs; dsimp only
    iintro ⟨⟨⟨%f0, %hf0, S0⟩, S1, S2, S3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl := hf0 (Nat.lt_of_le_of_lt (Nat.sub_le _ _) t.isLt) h0
    generalize hp : outsAt m c (t.val - 1) (Nat.lt_of_le_of_lt (Nat.sub_le _ _) t.isLt) = p at *
    iapply ((runAt m c t p.2.2.1 p.2.2.2).2.2.2.2 Set.univ
      iprop(owns (c : Thread nD τ) (st0_1 t) fullShare (iblk m c 1 t) ∗ owns (c : Thread nD τ) (st0_2 t) fullShare (iblk m c 2 t)
        ∗ owns (c : Thread nD τ) (st0_9 t) fullShare p.2.2.1 ∗ owns (c : Thread nD τ) (Memref.whole cc0_scratch0) fullShare p.2.2.2
        ∗ (∃ d, owns (c : Thread nD τ) (Memref.whole cc0_scratch1) fullShare d) ∗ (∃ d, owns (c : Thread nD τ) (Memref.whole cc0_scratch2) fullShare d)
        ∗ (∃ d, owns (c : Thread nD τ) (Memref.whole cc0_scratch3) fullShare d)) _ ?part)
    case part =>
      intro K'
      refine .trans ?_ (first_part_keep c (grid0.coords t) _ _ _ _ _ _ _ _ _ _ _ _ _ _ _ _ _ _ _ _ _ _ _ _ _ _ _ _ _ _ (fun h => h0 ((coord_two t).symm.trans h)) (iblk m c 1 t) (iblk m c 2 t) p.2.2.1 p.2.2.2 Set.univ K')
      iintro ⟨⟨A, B, C, D, E, G, H⟩, K⟩
      isplitl [A]; · iexact A
      isplitl [B]; · iexact B
      isplitl [C]; · iexact C
      isplitl [D]; · iexact D
      isplitl [E]; · iexact E
      isplitl [G]; · iexact G
      isplitl [H]; · iexact H
      iexact K
    isplitl [H1 H2 H9 S0 S1 S2 S3]
    · isplitl [H1]; · iexact H1
      isplitl [H2]; · iexact H2
      isplitl [H9]; · iexact H9
      isplitl [S0]; · iexact S0
      isplitl [S1]; · iexact S1
      isplitl [S2]; · iexact S2
      iexact S3
    isplitl [H0]; · iexact H0
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩, H9, S0, S1, S2, S3⟩
    isplitl [S0 S1 S2 S3 Hr]
    · isplitl [S0]
      · iexists _; isplitr; swap; · iexact S0
        ipureintro; intro h _; exact (congrArg (fun z => z.2.2.2) e).symm
      isplitl [S1]; · iexact S1
      isplitl [S2]; · iexact S2
      isplitl [S3]; · iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7 m c t _ _)
    isplitl [H8]
    · unfold owns; iexists _; isplitr
      swap; · iexact H8
      ipureintro; exact View.read_writes_of_cover _ _ _ _ _ (cover8 m c t _ _)
    iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ between (F := F) m c 0 := by
  unfold Pipeline.ΦA between
  rw [scopedRest0_eq]; simp only [owns_whole]
  iintro ⟨⟨⟨%f0, S0⟩, S1, S2, S3⟩, Hr⟩
  isplitl [S0]
  · iexists f0; isplitr; swap; · iexact S0
    ipureintro; intro _ h; exact absurd trivial h
  isplitl [S1]; · iexact S1
  isplitl [S2]; · iexact S2
  isplitl [S3]; · iexact S3
  iexact Hr

theorem phi_out (c : Dev nD) (n : ℕ) : between (F := F) m c n ⊢ Pipeline.ΦA spec0 c := by
  unfold Pipeline.ΦA between
  rw [scopedRest0_eq]; simp only [owns_whole]
  iintro ⟨⟨%f0, -, S0⟩, S1, S2, S3, Hr⟩
  isplitl [S0 S1 S2 S3]
  · isplitl [S0]; · iexists f0; iexact S0
    isplitl [S1]; · iexact S1
    isplitl [S2]; · iexact S2
    iexact S3
  iexact Hr

set_option backward.isDefEq.respectTransparency.types false in
/-- The run: every array of the pipeline ends at what the proof data says, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := fun c => phi_in m c) (hout := fun c => phi_out m c _)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnBwdIdeal.Body

end
-- ==== Proof.AttnBwdBlocks.lean ====
/- The blocks of a grid point, as real numbers, and the kernel's tile sums over them as the attention's own quantities. -/
module

public import proofs.«01_k».proof.Proof.AttnBwdHost
public import proofs.«01_k».proof.Proof.AttnBwdPoint
public import proofs.«01_k».proof.Proof.AttnBwdFrame

@[expose] public section

set_option maxRecDepth 16384

noncomputable section

open Idealize.ShloMosaic Idealize.ShloMosaic.TcCoe Idealize.SL.Sem Idealize.ShloMosaic.StableHlo Cert.Reals Cert.Attn

namespace Cert.AttnBwdIdeal.Blocks

open Cert.AttnBwdIdeal Cert.AttnBwdIdeal.Gen Cert.AttnBwdIdeal.Host Cert.AttnBwdIdeal.Pay

/-! The two heads of a pair, lane by lane. -/

/-- A sum over a pair's lanes of one head's values is the sum over that head's channels. -/
theorem sum_pick (h : Fin 2) (g : Fin 4) (A B : Fin 512 → ℝ) :
    ∑ l : Fin 128, pick h l (A (pl g l)) * B (pl g l) = ∑ e : Fin 64, A (ch (hh g h) e) * B (ch (hh g h) e) := by
  have e := Fin.sum_univ_add (a := 64) (b := 64) fun l => pick h l (A (pl g l)) * B (pl g l)
  rw [e]
  have lo : ∀ i : Fin 64, hd (Fin.castAdd 64 i) = 0 := fun i => by simp [hd]
  have hi : ∀ i : Fin 64, hd (Fin.natAdd 64 i) = 1 := fun i => by simp [hd]
  have plo : ∀ i : Fin 64, pl g (Fin.castAdd 64 i) = ch (hh g 0) i := fun i => Fin.ext (by simp [pl, ch, hh]; omega)
  have phi : ∀ i : Fin 64, pl g (Fin.natAdd 64 i) = ch (hh g 1) i := fun i => Fin.ext (by simp [pl, ch, hh]; omega)
  simp only [pick, lo, hi, plo, phi]
  fin_cases h <;> simp

/-- Of the two heads only a lane's own contributes to it. -/
theorem own_head (g : Fin 4) (l : Fin 128) (x : Fin 8 → ℝ) (y : ℝ) : ∑ h : Fin 2, x (hh g h) * pick h l y = x (ho (pl g l)) * y := by
  have e : ho (pl g l) = hh g (hd l) := Fin.ext (by
    have := l.isLt; simp only [ho, pl, hh, hd]; split <;> simp <;> omega)
  rw [e, Fin.sum_univ_two]
  unfold pick
  rcases (by unfold hd; split <;> simp : hd l = 0 ∨ hd l = 1) with h | h <;> simp [h]

section Sums
variable (Q K V D : Fin 4 → Fin 2048 → Fin 512 → ℝ) (G : Fin 4 → Fin 8 → Fin 2048 → ℝ) (L : Fin 4 → Fin 8 → Fin 2048 → ℝ)
variable (hL : ∀ b H R C, (if C ≤ R then Real.exp (Z Q K G b H R C - L b H R) else 0) = Pn Q K G b H R C)
variable (b g : Fin 4) (o : Fin 2048 → Fin 128 → ℝ)
  (ho' : ∀ R (h : Fin 2), (∑ l, pick h l (D b R (pl g l) * o R l)) = ∑ e, D b R (ch (hh g h) e) * O Q K V G b (hh g h) R e)

include hL in
theorem P_eq (h : Fin 2) (R C : Fin 2048) :
    P (fun R l => Q b R (pl g l)) (fun R l => K b R (pl g l)) (fun h C => G b (hh g h) C) (fun R h => L b (hh g h) R) h R C
      = Pn Q K G b (hh g h) R C := by
  rw [← hL]
  unfold P Z
  rw [sum_pick h g (fun c => Q b R c * (1 / 8)) (fun c => K b C c)]
  rfl

include hL ho' in
theorem DS_eq (h : Fin 2) (R C : Fin 2048) :
    DS (fun R l => Q b R (pl g l)) (fun R l => K b R (pl g l)) (fun R l => V b R (pl g l)) (fun R l => D b R (pl g l)) o
        (fun h C => G b (hh g h) C) (fun R h => L b (hh g h) R) h R C
      = DSn Q K V D G b (hh g h) R C := by
  unfold DS DSn
  rw [P_eq Q K G L hL, ho', del_eq, sum_pick h g (fun c => D b R c) (fun c => V b C c)]
  rfl

end Sums

/-! Where the blocks sit. -/

theorem idx : ∀ t : Fin cfg0.N, win0_0.index t = ![t.val / 16, 3 * (t.val / 4 % 4)] ∧ win0_1.index t = ![4 * (t.val / 16) + t.val % 4, 3 * (t.val / 4 % 4) + 1]
    ∧ win0_2.index t = ![4 * (t.val / 16) + t.val % 4, 3 * (t.val / 4 % 4) + 2] ∧ win0_3.index t = ![t.val / 16, t.val / 4 % 4]
    ∧ win0_4.index t = ![t.val / 16, t.val / 4 % 4] ∧ win0_5.index t = ![t.val / 4 % 4, t.val / 16, 0] ∧ win0_6.index t = ![t.val / 16, t.val / 4 % 4, 0, 0]
    ∧ win0_7.index t = ![4 * (t.val / 16) + t.val % 4, 4 + t.val / 4 % 4] ∧ win0_8.index t = ![t.val / 16, t.val / 4 % 4, 0, t.val % 4]
    ∧ win0_9.index t = ![t.val / 4 % 4, t.val / 16, 0] ∧ t.val < 64 :=
  (by decide +kernel : ∀ t : Fin grid0.N, _)

variable (m : (ℓ : Loc nD τ sig) → Buf (Elt Ideal) ℓ) (c : Dev nD) (t : Fin cfg0.N)

theorem lt64 : t.val < 64 := (idx t).2.2.2.2.2.2.2.2.2.2

/-- The batch, the pair and the tile of a point. -/
def tb : Fin 4 := ⟨t.val / 16, by have := lt64 t; omega⟩
def tg : Fin 4 := ⟨t.val / 4 % 4, by omega⟩

theorem blk0 (R : Fin 2048) (l : Fin 128) : (show FVec Ideal S2048x128 .bf16 from iblk m c 0 t) (ix2 R l)
    = (show FVec Ideal S8192x1536 .bf16 from V m c main_v43) (ix2 (brow (tb t) R) (pcol (tg t) 0 l)) := by
  blk_simp [iblk, idx t]
  refine congrArg (show FVec Ideal S8192x1536 .bf16 from V m c main_v43) ?_
  have e := row_val (show t.val % 4 < 4 by omega)
  blk_ext [idx t]
  all_goals simp only [brow, tb, pcol, tg, pl, e, Fin.val_zero, Fin.val_one, Fin.val_two] <;> omega
theorem blk1 (r : Fin 512) (l : Fin 128) : (show FVec Ideal S512x128 .bf16 from iblk m c 1 t) (ix2 r l)
    = (show FVec Ideal S8192x1536 .bf16 from V m c main_v43) (ix2 (brow (tb t) (row (t.val % 4) r)) (pcol (tg t) 1 l)) := by
  blk_simp [iblk, idx t]
  refine congrArg (show FVec Ideal S8192x1536 .bf16 from V m c main_v43) ?_
  have e := row_val (show t.val % 4 < 4 by omega)
  blk_ext [idx t]
  all_goals simp only [brow, tb, pcol, tg, pl, e, Fin.val_zero, Fin.val_one, Fin.val_two] <;> omega
theorem blk2 (r : Fin 512) (l : Fin 128) : (show FVec Ideal S512x128 .bf16 from iblk m c 2 t) (ix2 r l)
    = (show FVec Ideal S8192x1536 .bf16 from V m c main_v43) (ix2 (brow (tb t) (row (t.val % 4) r)) (pcol (tg t) 2 l)) := by
  blk_simp [iblk, idx t]
  refine congrArg (show FVec Ideal S8192x1536 .bf16 from V m c main_v43) ?_
  have e := row_val (show t.val % 4 < 4 by omega)
  blk_ext [idx t]
  all_goals simp only [brow, tb, pcol, tg, pl, e, Fin.val_zero, Fin.val_one, Fin.val_two] <;> omega
theorem blk3 (R : Fin 2048) (l : Fin 128) : (show FVec Ideal S2048x128 .bf16 from iblk m c 3 t) (ix2 R l)
    = (show FVec Ideal S8192x512 .bf16 from V m c main_v45) (ix2 (brow (tb t) R) (pl (tg t) l)) := by
  blk_simp [iblk, idx t]
  refine congrArg (show FVec Ideal S8192x512 .bf16 from V m c main_v45) ?_
  have e := row_val (show t.val % 4 < 4 by omega)
  blk_ext [idx t]
  all_goals simp only [brow, tb, pcol, tg, pl, e, Fin.val_zero, Fin.val_one, Fin.val_two] <;> omega
theorem blk4 (R : Fin 2048) (l : Fin 128) : (show FVec Ideal S2048x128 .bf16 from iblk m c 4 t) (ix2 R l)
    = (show FVec Ideal S8192x512 .bf16 from V m c main_v32) (ix2 (brow (tb t) R) (pl (tg t) l)) := by
  blk_simp [iblk, idx t]
  refine congrArg (show FVec Ideal S8192x512 .bf16 from V m c main_v32) ?_
  have e := row_val (show t.val % 4 < 4 by omega)
  blk_ext [idx t]
  all_goals simp only [brow, tb, pcol, tg, pl, e, Fin.val_zero, Fin.val_one, Fin.val_two] <;> omega
theorem emb5 (R : Fin 2048) (h : Fin 2) : ((cfg0.win 5).blk t).view.emb (ix3 0 R h) = (ix3 (tg t) (brow (tb t) R) h : S4x8192x2.Idx) := by
  blk_ext [idx t]
  all_goals simp only [brow, tb, tg] <;> omega
theorem blk5 (R : Fin 2048) (h : Fin 2) : (show FVec Ideal S1x2048x2 .f32 from iblk m c 5 t) (ix3 0 R h)
    = (show FVec Ideal S4x8192x2 .f32 from V m c main_v37) (ix3 (tg t) (brow (tb t) R) h) := by
  unfold iblk
  generalize V m c = vv
  dsimp only
  rw [View.read_apply, emb5, cast_eq]
theorem blk6 (h : Fin 2) (C : Fin 2048) : (show FVec Ideal S1x1x2x2048 .f32 from iblk m c 6 t) (ix4 0 0 h C)
    = (show FVec Ideal S4x4x2x2048 .f32 from V m c main_v46) (ix4 (tb t) (tg t) h C) := by
  blk_simp [iblk, idx t]
  refine congrArg (show FVec Ideal S4x4x2x2048 .f32 from V m c main_v46) ?_
  have e := row_val (show t.val % 4 < 4 by omega)
  blk_ext [idx t]
  all_goals simp only [brow, tb, pcol, tg, pl, e, Fin.val_zero, Fin.val_one, Fin.val_two] <;> omega

/-! The blocks as real numbers. -/

variable (Q K V D : Fin 4 → Fin 2048 → Fin 512 → ℝ) (G : Fin 4 → Fin 8 → Fin 2048 → ℝ)
variable (hq : ∀ b R k, aq m c (ix3 b R k) = (Q b R k : EReal)) (hk : ∀ b R k, ak m c (ix3 b R k) = (K b R k : EReal))
  (hv : ∀ b R k, av m c (ix3 b R k) = (V b R k : EReal)) (hd : ∀ b R k, ad m c (ix3 b R k) = (D b R k : EReal))
  (hg : ∀ b H R, ag m c (ix3 b H R) = (G b H R : EReal))

/-- The logarithms of the rows' sums. -/
abbrev LS (b : Fin 4) (H : Fin 8) (R : Fin 2048) : ℝ := ls (aq m c) (ak m c) (ag m c) Q K G b H R

theorem LS_eq (b : Fin 4) (H : Fin 8) (R C : Fin 2048) :
    (if C ≤ R then Real.exp (Z Q K G b H R C - LS m c Q K G b H R) else 0) = Pn Q K G b H R C :=
  Pn_log Q K G b H R C _

/-- The forward pass's result, as channels. -/
def Oc (b : Fin 4) (R : Fin 2048) (k : Fin 512) : ℝ := O Q K V G b (ho k) R ⟨k.val % 64, by omega⟩

theorem Oc_ch (b : Fin 4) (R : Fin 2048) (H : Fin 8) (e : Fin 64) : Oc Q K V G b R (ch H e) = O Q K V G b H R e := by
  unfold Oc; rw [ho_ch, ch_mod]

theorem Oc_sum (b g : Fin 4) (R : Fin 2048) (h : Fin 2) :
    (∑ l, pick h l (D b R (pl g l) * Oc Q K V G b R (pl g l))) = ∑ e, D b R (ch (hh g h) e) * O Q K V G b (hh g h) R e := by
  have := sum_pick h g (fun k => D b R k * Oc Q K V G b R k) (fun _ => 1)
  simp only [mul_one, Oc_ch] at this
  exact this

include hq in
theorem real0 (R : Fin 2048) (l : Fin 128) : (show FVec Ideal S2048x128 .bf16 from iblk m c 0 t) (ix2 R l) = (Q (tb t) R (pl (tg t) l) : EReal) :=
  (blk0 m c t R l).trans ((congrFun (V_v43 m c) _).trans ((packed_at _ _ _ _ _ _ 0 _).trans (hq _ _ _)))
include hk in
theorem real1 (r : Fin 512) (l : Fin 128) :
    (show FVec Ideal S512x128 .bf16 from iblk m c 1 t) (ix2 r l) = (K (tb t) (row (grid0.coords t 2).val r) (pl (tg t) l) : EReal) := by
  rw [Body.coord_two]
  exact (blk1 m c t r l).trans ((congrFun (V_v43 m c) _).trans ((packed_at _ _ _ _ _ _ 1 _).trans (hk _ _ _)))
include hv in
theorem real2 (r : Fin 512) (l : Fin 128) :
    (show FVec Ideal S512x128 .bf16 from iblk m c 2 t) (ix2 r l) = (V (tb t) (row (grid0.coords t 2).val r) (pl (tg t) l) : EReal) := by
  rw [Body.coord_two]
  exact (blk2 m c t r l).trans ((congrFun (V_v43 m c) _).trans ((packed_at _ _ _ _ _ _ 2 _).trans (hv _ _ _)))
include hd in
theorem real3 (R : Fin 2048) (l : Fin 128) : (show FVec Ideal S2048x128 .bf16 from iblk m c 3 t) (ix2 R l) = (D (tb t) R (pl (tg t) l) : EReal) :=
  (blk3 m c t R l).trans ((congrFun (V_v45 m c) _).trans ((flat_at _ _ _ _).trans (hd _ _ _)))
include hq hk hv hg in
theorem real4 (R : Fin 2048) (l : Fin 128) :
    (show FVec Ideal S2048x128 .bf16 from iblk m c 4 t) (ix2 R l) = (Oc Q K V G (tb t) R (pl (tg t) l) : EReal) := by
  refine (blk4 m c t R l).trans ((congrFun (V_v32 m c) _).trans ?_)
  have e : pl (tg t) l = ch (ho (pl (tg t) l)) ⟨(pl (tg t) l).val % 64, by omega⟩ := Fin.ext (by simp only [ch, ho]; omega)
  rw [e, outp_real _ _ _ _ Q K V G hq hk hv hg, Oc_ch]
include hq hk hg in
theorem real5 (R : Fin 2048) (h : Fin 2) :
    (show FVec Ideal S1x2048x2 .f32 from iblk m c 5 t) (ix3 0 R h) = (LS m c Q K G (tb t) (hh (tg t) h) R : EReal) :=
  (blk5 m c t R h).trans ((congrFun (V_v37 m c) _).trans (lse_real _ _ _ Q K G hq hk hg _ _ _ _))
include hg in
theorem real6 (h : Fin 2) (C : Fin 2048) :
    (show FVec Ideal S1x1x2x2048 .f32 from iblk m c 6 t) (ix4 0 0 h C) = (G (tb t) (hh (tg t) h) C : EReal) :=
  (blk6 m c t h C).trans ((congrFun (V_v46 m c) _).trans ((gates_at _ _ _ _ _).trans (hg _ _ _)))

end Cert.AttnBwdIdeal.Blocks

end
-- ==== Proof.AttnBwdAcc.lean ====
/- What a point of the attention's backward kernel leaves, as the attention's own quantities; the sums it carries from
   point to point, read back from the first column tile on. -/
module

public import proofs.«01_k».proof.Proof.AttnBwdBlocks

@[expose] public section

set_option maxRecDepth 16384

noncomputable section

open Idealize.ShloMosaic Idealize.ShloMosaic.TcCoe Idealize.SL.Sem Idealize.ShloMosaic.StableHlo Cert.Reals Cert.Attn

namespace Cert.AttnBwdIdeal.Blocks

open Cert.AttnBwdIdeal Cert.AttnBwdIdeal.Gen Cert.AttnBwdIdeal.Host Cert.AttnBwdIdeal.Pay

variable (m : (ℓ : Loc nD τ sig) → Buf (Elt Ideal) ℓ) (c : Dev nD) (t : Fin cfg0.N)
variable (Q K V D : Fin 4 → Fin 2048 → Fin 512 → ℝ) (G : Fin 4 → Fin 8 → Fin 2048 → ℝ)
variable (hq : ∀ b R k, aq m c (ix3 b R k) = (Q b R k : EReal)) (hk : ∀ b R k, ak m c (ix3 b R k) = (K b R k : EReal))
  (hv : ∀ b R k, av m c (ix3 b R k) = (V b R k : EReal)) (hd : ∀ b R k, ad m c (ix3 b R k) = (D b R k : EReal))
  (hg : ∀ b H R, ag m c (ix3 b H R) = (G b H R : EReal))
variable (x13 : Vec Ideal S1x2048x2 .f32) (x14 : Vec Ideal S2048x128 .f32)

/-- What the point's tile of columns adds to a row's sum, and to a query's gradient. -/
def tileRow (b : Fin 4) (H : Fin 8) (R : Fin 2048) (j : ℕ) : ℝ := ∑ x, DSn Q K V D G b H R (row j x)
def tileQ (b : Fin 4) (k : Fin 512) (R : Fin 2048) (j : ℕ) : ℝ := ∑ x, DSn Q K V D G b (ho k) R (row j x) * K b (row j x) k

include hq hk hv hd hg in
theorem outs_rows (R : Fin 2048) (h : Fin 2) :
    (Body.outs m c t x13 x14).2.2.1 (ix3 0 R h) = x13 (ix3 0 R h) + (tileRow Q K V D G (tb t) (hh (tg t) h) R (t.val % 4) : EReal) := by
  unfold Body.outs
  refine (point_rows c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => V (tb t) R (pl (tg t) l)) (fun R l => D (tb t) R (pl (tg t) l)) (fun R l => Oc Q K V G (tb t) R (pl (tg t) l)) (fun h C => G (tb t) (hh (tg t) h) C) (fun R h => LS m c Q K G (tb t) (hh (tg t) h) R) (real0 m c t Q hq) (real3 m c t D hd) (real4 m c t Q K V G hq hk hv hg) (real5 m c t Q K G hq hk hg) (real6 m c t G hg) (real1 m c t K hk) (real2 m c t V hv) R h).trans ?_
  simp only [DS_eq Q K V D G (LS m c Q K G) (LS_eq m c Q K G) (tb t) (tg t) (fun R l => Oc Q K V G (tb t) R (pl (tg t) l)) (Oc_sum Q K V D G (tb t) (tg t)), Body.coord_two]
  rfl

/-- The two heads' contributions to a lane, summed over the columns. -/
theorem two_heads (b g : Fin 4) (l : Fin 128) {ι : Type} [Fintype ι] (A : Fin 8 → ι → ℝ) (B : ι → ℝ) :
    ∑ h : Fin 2, ∑ x, A (hh g h) x * pick h l (B x) = ∑ x, A (ho (pl g l)) x * B x := by
  rw [Finset.sum_comm]
  exact Finset.sum_congr rfl fun x _ => own_head g l (fun H => A H x) (B x)

include hq hk hv hd hg in
theorem outs_query (R : Fin 2048) (l : Fin 128) :
    (Body.outs m c t x13 x14).2.2.2 (ix2 R l) = x14 (ix2 R l) + (tileQ Q K V D G (tb t) (pl (tg t) l) R (t.val % 4) : EReal) := by
  unfold Body.outs
  refine (point_query c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => V (tb t) R (pl (tg t) l)) (fun R l => D (tb t) R (pl (tg t) l)) (fun R l => Oc Q K V G (tb t) R (pl (tg t) l)) (fun h C => G (tb t) (hh (tg t) h) C) (fun R h => LS m c Q K G (tb t) (hh (tg t) h) R) (real0 m c t Q hq) (real3 m c t D hd) (real4 m c t Q K V G hq hk hv hg) (real5 m c t Q K G hq hk hg) (real6 m c t G hg) (real1 m c t K hk) (real2 m c t V hv) R l).trans ?_
  simp only [DS_eq Q K V D G (LS m c Q K G) (LS_eq m c Q K G) (tb t) (tg t) (fun R l => Oc Q K V G (tb t) R (pl (tg t) l)) (Oc_sum Q K V D G (tb t) (tg t)), Body.coord_two]
  rw [two_heads (tb t) (tg t) l (fun H x => DSn Q K V D G (tb t) H R (row (t.val % 4) x)) (fun x => K (tb t) (row (t.val % 4) x) (pl (tg t) l))]
  rfl

include hq hk hv hd hg in
theorem outs_dq (r : Fin 512) (l : Fin 128) :
    (Body.outs m c t x13 x14).1 (ix2 r (lane 0 l)) = (Body.outs m c t x13 x14).2.2.2 (ix2 (row (t.val % 4) r) l) * ((1 / 8 : ℝ) : EReal) := by
  rw [outs_query m c t Q K V D G hq hk hv hd hg]
  unfold Body.outs
  refine (block_query c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => V (tb t) R (pl (tg t) l)) (fun R l => D (tb t) R (pl (tg t) l)) (fun R l => Oc Q K V G (tb t) R (pl (tg t) l)) (fun h C => G (tb t) (hh (tg t) h) C) (fun R h => LS m c Q K G (tb t) (hh (tg t) h) R) (real0 m c t Q hq) (real3 m c t D hd) (real4 m c t Q K V G hq hk hv hg) (real5 m c t Q K G hq hk hg) (real6 m c t G hg) (real1 m c t K hk) (real2 m c t V hv) _ r l).trans ?_
  simp only [DS_eq Q K V D G (LS m c Q K G) (LS_eq m c Q K G) (tb t) (tg t) (fun R l => Oc Q K V G (tb t) R (pl (tg t) l)) (Oc_sum Q K V D G (tb t) (tg t)), Body.coord_two]
  rw [two_heads (tb t) (tg t) l (fun H x => DSn Q K V D G (tb t) H (row (t.val % 4) r) (row (t.val % 4) x)) (fun x => K (tb t) (row (t.val % 4) x) (pl (tg t) l))]
  rfl

include hq hk hv hd hg in
theorem outs_dk (r : Fin 512) (l : Fin 128) :
    (Body.outs m c t x13 x14).1 (ix2 r (lane 1 l)) = (DK Q K V D G (tb t) (row (t.val % 4) r) (pl (tg t) l) : EReal) := by
  unfold Body.outs
  refine (block_key c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => V (tb t) R (pl (tg t) l)) (fun R l => D (tb t) R (pl (tg t) l)) (fun R l => Oc Q K V G (tb t) R (pl (tg t) l)) (fun h C => G (tb t) (hh (tg t) h) C) (fun R h => LS m c Q K G (tb t) (hh (tg t) h) R) (real0 m c t Q hq) (real3 m c t D hd) (real4 m c t Q K V G hq hk hv hg) (real5 m c t Q K G hq hk hg) (real6 m c t G hg) (real1 m c t K hk) (real2 m c t V hv) _ r l).trans ?_
  simp only [DS_eq Q K V D G (LS m c Q K G) (LS_eq m c Q K G) (tb t) (tg t) (fun R l => Oc Q K V G (tb t) R (pl (tg t) l)) (Oc_sum Q K V D G (tb t) (tg t)), Body.coord_two]
  rw [two_heads (tb t) (tg t) l (fun H R => DSn Q K V D G (tb t) H R (row (t.val % 4) r)) (fun R => Q (tb t) R (pl (tg t) l) * (1 / 8))]
  rfl

include hq hk hd hg in
theorem outs_dv (r : Fin 512) (l : Fin 128) :
    (Body.outs m c t x13 x14).1 (ix2 r (lane 2 l)) = (DV Q K D G (tb t) (row (t.val % 4) r) (pl (tg t) l) : EReal) := by
  unfold Body.outs
  refine (block_val c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => D (tb t) R (pl (tg t) l)) (fun h C => G (tb t) (hh (tg t) h) C) (fun R h => LS m c Q K G (tb t) (hh (tg t) h) R) (real0 m c t Q hq) (real3 m c t D hd) (real5 m c t Q K G hq hk hg) (real6 m c t G hg) (real1 m c t K hk) _ r l).trans ?_
  simp only [P_eq Q K G (LS m c Q K G) (LS_eq m c Q K G) (tb t) (tg t), Body.coord_two]
  rw [two_heads (tb t) (tg t) l (fun H R => Pn Q K G (tb t) H R (row (t.val % 4) r)) (fun R => D (tb t) R (pl (tg t) l))]
  rfl

include hq hk hv hd hg in
theorem outs_cols (h : Fin 2) (r : Fin 512) :
    (Body.outs m c t x13 x14).2.1 (ix4 0 0 h r) = ((∑ R, DSn Q K V D G (tb t) (hh (tg t) h) R (row (t.val % 4) r) : ℝ) : EReal) := by
  unfold Body.outs
  refine (block_cols c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_arg5) (Memref.isWhole_whole _) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ x13 x14 (fun R l => Q (tb t) R (pl (tg t) l)) (fun R l => K (tb t) R (pl (tg t) l)) (fun R l => V (tb t) R (pl (tg t) l)) (fun R l => D (tb t) R (pl (tg t) l)) (fun R l => Oc Q K V G (tb t) R (pl (tg t) l)) (fun h C => G (tb t) (hh (tg t) h) C) (fun R h => LS m c Q K G (tb t) (hh (tg t) h) R) (real0 m c t Q hq) (real3 m c t D hd) (real4 m c t Q K V G hq hk hv hg) (real5 m c t Q K G hq hk hg) (real6 m c t G hg) (real1 m c t K hk) (real2 m c t V hv) _ h r).trans ?_
  simp only [DS_eq Q K V D G (LS m c Q K G) (LS_eq m c Q K G) (tb t) (tg t) (fun R l => Oc Q K V G (tb t) R (pl (tg t) l)) (Oc_sum Q K V D G (tb t) (tg t)), Body.coord_two]

/-! The sums carried from point to point. -/

include hq hk hv hd hg in
theorem acc : ∀ (n : ℕ) (hn : n < cfg0.N), (∀ (R : Fin 2048) (h : Fin 2), (Body.outsAt m c n hn).2.2.1 (ix3 0 R h)
      = ((∑ j ∈ Finset.range (n % 4 + 1), tileRow Q K V D G (tb ⟨n, hn⟩) (hh (tg ⟨n, hn⟩) h) R j : ℝ) : EReal))
    ∧ ∀ (R : Fin 2048) (l : Fin 128), (Body.outsAt m c n hn).2.2.2 (ix2 R l)
      = ((∑ j ∈ Finset.range (n % 4 + 1), tileQ Q K V D G (tb ⟨n, hn⟩) (pl (tg ⟨n, hn⟩) l) R j : ℝ) : EReal) := by
  have first : ∀ (n : ℕ) (hn : n < cfg0.N), n % 4 = 0 → (∀ (R : Fin 2048) (h : Fin 2), (Body.outsAt m c n hn).2.2.1 (ix3 0 R h)
        = ((∑ j ∈ Finset.range (n % 4 + 1), tileRow Q K V D G (tb ⟨n, hn⟩) (hh (tg ⟨n, hn⟩) h) R j : ℝ) : EReal))
      ∧ ∀ (R : Fin 2048) (l : Fin 128), (Body.outsAt m c n hn).2.2.2 (ix2 R l)
        = ((∑ j ∈ Finset.range (n % 4 + 1), tileQ Q K V D G (tb ⟨n, hn⟩) (pl (tg ⟨n, hn⟩) l) R j : ℝ) : EReal) := by
    intro n hn h0
    have e := Body.outsAt_reset m c ⟨n, hn⟩ h0
    dsimp only at e
    refine ⟨fun R h => ?_, fun R l => ?_⟩
    · rw [e, outs_rows m c ⟨n, hn⟩ Q K V D G hq hk hv hd hg, zero52, zero_add]
      simp [h0]
    · rw [e, outs_query m c ⟨n, hn⟩ Q K V D G hq hk hv hd hg, zero51, zero_add]
      simp [h0]
  intro n
  induction n with
  | zero => exact fun hn => first 0 hn rfl
  | succ n ih =>
    intro hn
    by_cases h0 : (n + 1) % 4 = 0
    · exact first _ hn h0
    · have hn' : n < cfg0.N := Nat.lt_of_succ_lt hn
      have e : Body.outsAt m c (n + 1) hn = Body.outs m c ⟨n + 1, hn⟩ (Body.outsAt m c n hn').2.2.1 (Body.outsAt m c n hn').2.2.2 :=
        Body.outsAt_keep m c ⟨n + 1, hn⟩ h0
      have eb : tb ⟨n + 1, hn⟩ = tb ⟨n, hn'⟩ := Fin.ext (by simp only [tb]; omega)
      have eg : tg ⟨n + 1, hn⟩ = tg ⟨n, hn'⟩ := Fin.ext (by simp only [tg]; omega)
      have ej : (n + 1) % 4 = n % 4 + 1 := by omega
      refine ⟨fun R h => ?_, fun R l => ?_⟩
      · rw [e, outs_rows m c ⟨n + 1, hn⟩ Q K V D G hq hk hv hd hg, (ih hn').1, ← EReal.coe_add, eb, eg, ej, Finset.sum_range_succ _ (n % 4 + 1)]
      · rw [e, outs_query m c ⟨n + 1, hn⟩ Q K V D G hq hk hv hd hg, (ih hn').2, ← EReal.coe_add, eb, eg, ej, Finset.sum_range_succ _ (n % 4 + 1)]

/-- Tiles after a query's own add nothing to its gradient. -/
theorem tiles_done (b : Fin 4) (k : Fin 512) {j : ℕ} (hj : j < 4) (r : Fin 512) :
    ∑ i ∈ Finset.range (j + 1), tileQ Q K V D G b k (row j r) i = ∑ C, DSn Q K V D G b (ho k) (row j r) C * K b C k := by
  rw [← sum_all]
  refine Finset.sum_subset (Finset.range_subset_range.mpr (by omega)) fun i hi hn => ?_
  rw [Finset.mem_range] at hi hn
  refine Finset.sum_eq_zero fun x _ => ?_
  rw [DSn_zero Q K V D G b (ho k) (show row j r < row i x from by rw [Fin.lt_def, row_val hj, row_val hi]; have := r.isLt; omega), zero_mul]

include hq hk hv hd hg in
/-- The point's block of the packed gradient. -/
theorem block (r : Fin 512) (a : Fin 3) (l : Fin 128) : (Body.outsAt m c t.val t.isLt).1 (ix2 r (lane a l))
    = ((![DQ Q K V D G, DK Q K V D G, DV Q K D G] a) (tb t) (row (t.val % 4) r) (pl (tg t) l) : EReal) := by
  obtain ⟨y13, y14, e⟩ : ∃ y13 y14, Body.outsAt m c t.val t.isLt = Body.outs m c t y13 y14 := by
    by_cases h : t.val % 4 = 0
    · exact ⟨_, _, Body.outsAt_reset m c t h⟩
    · exact ⟨_, _, Body.outsAt_keep m c t h⟩
  fin_cases a
  · have h2 := (acc m c Q K V D G hq hk hv hd hg t.val t.isLt).2 (row (t.val % 4) r) l
    rw [e] at h2 ⊢
    refine (outs_dq m c t Q K V D G hq hk hv hd hg _ _ r l).trans ?_
    rw [h2, tiles_done Q K V D G _ _ (by omega), ← EReal.coe_mul]
    rfl
  · rw [e]; exact outs_dk m c t Q K V D G hq hk hv hd hg _ _ r l
  · rw [e]; exact outs_dv m c t Q K D G hq hk hd hg _ _ r l

include hq hk hv hd hg in
/-- The point's column sums. -/
theorem cols (h : Fin 2) (r : Fin 512) : (Body.outsAt m c t.val t.isLt).2.1 (ix4 0 0 h r)
    = ((∑ R, DSn Q K V D G (tb t) (hh (tg t) h) R (row (t.val % 4) r) : ℝ) : EReal) := by
  by_cases h0 : t.val % 4 = 0
  · rw [Body.outsAt_reset m c t h0]; exact outs_cols m c t Q K V D G hq hk hv hd hg _ _ h r
  · rw [Body.outsAt_keep m c t h0]; exact outs_cols m c t Q K V D G hq hk hv hd hg _ _ h r

include hq hk hv hd hg in
/-- The row sums after the last tile of columns. -/
theorem rows (h3 : t.val % 4 = 3) (R : Fin 2048) (h : Fin 2) : (Body.outsAt m c t.val t.isLt).2.2.1 (ix3 0 R h)
    = ((∑ C, DSn Q K V D G (tb t) (hh (tg t) h) R C : ℝ) : EReal) := by
  rw [(acc m c Q K V D G hq hk hv hd hg t.val t.isLt).1 R h, h3]
  congr 1
  exact sum_all fun C => DSn Q K V D G (tb t) (hh (tg t) h) R C

end Cert.AttnBwdIdeal.Blocks

end
-- ==== Proof.AttnBwdRef.lean ====
/- The derivative of the attention's own lines, read as real numbers: the same weights and the same gradient of the
   logits, head by head. -/
module

public import proofs.«01_k».proof.Proof.AttnBwdHost
public import proofs.«01_k».proof.Proof.Gen.AttnBwdRefIdeal.Run
public import proofs.«01_k».proof.Proof.Gen.AttnBwdRefIdeal.Read

@[expose] public section

set_option maxRecDepth 16384

noncomputable section

open Idealize.ShloMosaic Idealize.ShloMosaic.TcCoe Idealize.SL.Sem Idealize.ShloMosaic.StableHlo Cert.Reals Cert.Attn

namespace Cert.AttnBwdRefIdeal.Reading

open Cert.AttnBwdRefIdeal Cert.AttnBwdRefIdeal.Read
open Cert.AttnBwdIdeal.Host (brow pl pcol row_div row_mod ch_div ch_mod hh_eq)

abbrev A3 := FVec Ideal S4x2048x512 .f32

variable (q k v d : A3) (x : FVec Ideal S4x8x2048 .f32) (p : FVec Ideal S8192x5376 .bf16)
variable (Q K V D : Fin 4 → Fin 2048 → Fin 512 → ℝ) (G : Fin 4 → Fin 8 → Fin 2048 → ℝ)
variable (hq : ∀ b R c, q (ix3 b R c) = (Q b R c : EReal)) (hk : ∀ b R c, k (ix3 b R c) = (K b R c : EReal))
  (hv : ∀ b R c, v (ix3 b R c) = (V b R c : EReal)) (hd : ∀ b R c, d (ix3 b R c) = (D b R c : EReal))
  (hx : ∀ b H R, x (ix3 b H R) = (G b H R : EReal))

theorem head_at (b : Fin 4) (H : Fin 8) (R : Fin 2048) (e : Fin 64) : val_main_v5 (F := Ideal) k (ix4 b H R e) = k (ix3 b R (ch H e)) := by
  pointwise [val_main_v5, val_main_v4]
  exact congrArg (fun c => k (ix3 b R c)) (Fin.ext (by simp only [ch]; omega))
theorem head_v (b : Fin 4) (H : Fin 8) (R : Fin 2048) (e : Fin 64) : val_main_v7 (F := Ideal) v (ix4 b H R e) = v (ix3 b R (ch H e)) :=
  head_at v b H R e
theorem head_d (b : Fin 4) (H : Fin 8) (R : Fin 2048) (e : Fin 64) : val_main_v55 (F := Ideal) d (ix4 b H R e) = d (ix3 b R (ch H e)) :=
  head_at d b H R e

theorem eighth : Ideal.ofBits .f32 1040187392#32 = ((1 / 8 : ℝ) : EReal) := by
  simp [Ideal.ofBits, Ideal.ieee, -EReal.coe_mul]; norm_num

include hq in
theorem head_q (b : Fin 4) (H : Fin 8) (R : Fin 2048) (e : Fin 64) : val_main_v3 (F := Ideal) q (ix4 b H R e) = ((Q b R (ch H e) * (1 / 8) : ℝ) : EReal) := by
  have h := head_at q b H R e
  pointwise [val_main_v3, val_main_v2]
  rw [show val_main_v1 (F := Ideal) q (ix4 b H R e) = q (ix3 b R (ch H e)) from h, hq]
  pointwise [val_main_cst]
  rw [eighth, EReal.coe_mul]

include hq hk hx in
/-- The masked logits, with the query's own log gate. -/
theorem masked_real (b : Fin 4) (H : Fin 8) (R C : Fin 2048) : val_main_v22_0 (F := Ideal) q k x (ix4 b H R C)
    = if C ≤ R then ((Z Q K G b H R C + G b H R : ℝ) : EReal) else ⊥ := by
  pointwise [val_main_v22_0, val_main_v22_1, val_main_v21, val_main_v19, val_main_v20, val_main_v16, val_main_v15, val_main_v18, val_main_v17,
    val_main_call0_v2, val_main_call0_v0, val_main_cst_0, val_main_v14, val_main_v11, val_main_v8, val_main_v10, val_main_v9, val_main_v13, val_main_v12]
  simp only [causal_select, ofBits_ninf, head_at, head_q q Q hq, hk, hx, ← EReal.coe_mul, coe_sum, ← EReal.coe_add, ← EReal.coe_sub]
  congr 2
  unfold Z; ring

include hq hk hx in
theorem top_real (b : Fin 4) (H : Fin 8) (R : Fin 2048) : ∃ M : ℝ, val_main_v23 (F := Ideal) q k x (ix3 b H R) = (M : EReal) := by
  pointwise [val_main_v23, val_main_cst_1]
  rw [ofBits_ninf]
  refine fold_real _ (fun C => ?_) R ?_
  · rw [masked_real q k x Q K G hq hk hx]
    split
    · exact EReal.coe_ne_top _
    · exact bot_ne_top
  · rw [masked_real q k x Q K G hq hk hx, if_pos le_rfl]
    exact EReal.coe_ne_bot _

theorem low_real (b : Fin 4) (H : Fin 8) (R : Fin 2048) : val_main_v29 (F := Ideal) (ix3 b H R) = ⊥ := by
  pointwise [val_main_v29, val_main_cst_3]
  exact ofBits_ninf

theorem top_at (b : Fin 4) (H : Fin 8) (R : Fin 2048) : val_main_v30 (F := Ideal) q k x (ix3 b H R) = val_main_v23 (F := Ideal) q k x (ix3 b H R) := by
  rw [val_main_v30_apply, low_real]
  exact max_eq_right bot_le

/-- A row's shift: its greatest logit, less the query's own log gate. -/
def sh (b : Fin 4) (H : Fin 8) (R : Fin 2048) : ℝ := (val_main_v30 (F := Ideal) q k x (ix3 b H R)).toReal - G b H R

include hq hk hx in
theorem top_eq (b : Fin 4) (H : Fin 8) (R : Fin 2048) : val_main_v30 (F := Ideal) q k x (ix3 b H R) = ((sh q k x G b H R + G b H R : ℝ) : EReal) := by
  obtain ⟨M, h⟩ := top_real q k x Q K G hq hk hx b H R
  rw [sh, top_at, h, EReal.toReal_coe, sub_add_cancel]

/-- An exponential of a shifted row. -/
def ex (b : Fin 4) (H : Fin 8) (R C : Fin 2048) : ℝ := if C ≤ R then Real.exp (Z Q K G b H R C - sh q k x G b H R) else 0

include hq hk hx in
theorem expo_real (b : Fin 4) (H : Fin 8) (R C : Fin 2048) : val_main_v43 (F := Ideal) q k x (ix4 b H R C) = (ex q k x Q K G b H R C : EReal) := by
  pointwise [val_main_v43, val_main_v42, val_main_v41, val_main_v40]
  rw [masked_real q k x Q K G hq hk hx, top_eq q k x Q K G hq hk hx]
  unfold ex
  split
  · rw [← EReal.coe_sub, Ideal.exp_coe]; congr 2; ring
  · simp

/-- A row's sum. -/
def wt (b : Fin 4) (H : Fin 8) (R : Fin 2048) : ℝ := W Q K G b H R (sh q k x G b H R)

theorem wt_pos (b : Fin 4) (H : Fin 8) (R : Fin 2048) : 0 < wt q k x Q K G b H R := W_pos Q K G b H R _

theorem ex_div (b : Fin 4) (H : Fin 8) (R C : Fin 2048) : ex q k x Q K G b H R C / wt q k x Q K G b H R = Pn Q K G b H R C := Pn_shift Q K G b H R C _

include hq hk hx in
theorem sum_real (b : Fin 4) (H : Fin 8) (R : Fin 2048) : val_main_v45 (F := Ideal) q k x (ix4 b H R 0) = (wt q k x Q K G b H R : EReal) := by
  pointwise [val_main_v45, val_main_v44, val_main_cst_9]
  simp only [expo_real q k x Q K G hq hk hx, coe_sum]
  rfl

include hq hk hx in
theorem weight_real (b : Fin 4) (H : Fin 8) (R C : Fin 2048) : val_main_v47 (F := Ideal) q k x (ix4 b H R C) = (Pn Q K G b H R C : EReal) := by
  pointwise [val_main_v47, val_main_v46]
  rw [expo_real q k x Q K G hq hk hx, sum_real q k x Q K G hq hk hx, div_real (wt_pos q k x Q K G b H R).ne', ex_div]

include hq hk hd hx in
/-- The gradient of the values, head by head. -/
theorem dv_real (b : Fin 4) (H : Fin 8) (C : Fin 2048) (e : Fin 64) :
    val_main_v57 (F := Ideal) q k x d (ix4 b H C e) = (DV Q K D G b C (ch H e) : EReal) := by
  pointwise [val_main_v57, val_main_v56]
  simp only [head_d, hd, weight_real q k x Q K G hq hk hx, ← EReal.coe_mul, coe_sum]
  congr 1
  unfold DV
  rw [ho_ch]
  exact Finset.sum_congr rfl fun R _ => mul_comm _ _

include hv hd in
theorem dp_real (b : Fin 4) (H : Fin 8) (R C : Fin 2048) : val_main_v58 (F := Ideal) v d (ix4 b H R C) = (DP V D b H R C : EReal) := by
  pointwise [val_main_v58]
  simp only [head_d, head_v, hd, hv, ← EReal.coe_mul, coe_sum]
  rfl

theorem one_word : Ideal.ofBits .f32 1065353216#32 = ((1 : ℝ) : EReal) := by
  simp [Ideal.ofBits, Ideal.ieee, -EReal.coe_mul]; norm_num

include hq hk hx in
theorem inv_real (b : Fin 4) (H : Fin 8) (R : Fin 2048) : val_main_v50 (F := Ideal) q k x (ix4 b H R 0)
    = ((1 / (wt q k x Q K G b H R * wt q k x Q K G b H R) : ℝ) : EReal) := by
  have hw := (wt_pos q k x Q K G b H R).ne'
  pointwise [val_main_v50, val_main_v49, val_main_cst_10, val_main_v48]
  rw [sum_real q k x Q K G hq hk hx, ← EReal.coe_mul]
  exact div_real (mul_ne_zero hw hw)

include hq hk hv hd hx in
/-- The row correction. -/
theorem corr_real (b : Fin 4) (H : Fin 8) (R : Fin 2048) : val_main_v67 (F := Ideal) q k v x d (ix3 b H R)
    = ((-∑ C, DP V D b H R C * (1 / (wt q k x Q K G b H R * wt q k x Q K G b H R)) * ex q k x Q K G b H R C : ℝ) : EReal) := by
  pointwise [val_main_v67, val_main_cst_12, val_main_v64, val_main_v63, val_main_v62, val_main_cst_11, val_main_v61, val_main_v60, val_main_v59]
  simp only [dp_real v d V D hv hd, inv_real q k x Q K G hq hk hx, expo_real q k x Q K G hq hk hx, ← EReal.coe_mul, coe_sum, ← EReal.coe_neg]
  simp

include hq hk hv hd hx in
/-- The gradient of the logits. -/
theorem ds_real (b : Fin 4) (H : Fin 8) (R C : Fin 2048) : val_main_v71 (F := Ideal) q k v x d (ix4 b H R C) = (DSn Q K V D G b H R C : EReal) := by
  have hw := (wt_pos q k x Q K G b H R).ne'
  pointwise [val_main_v71, val_main_v22_1, val_main_v21, val_main_v19, val_main_v20, val_main_v16, val_main_v15, val_main_v18, val_main_v17,
    val_main_call1_v0, val_main_call1_cst, val_main_v70, val_main_v69, val_main_v66, val_main_v65, val_main_v68]
  rw [causal_select]
  by_cases hc : C ≤ R
  · rw [if_pos hc, dp_real v d V D hv hd, sum_real q k x Q K G hq hk hx, corr_real q k v d x Q K V D G hq hk hv hd hx, expo_real q k x Q K G hq hk hx,
      div_real hw, ← EReal.coe_add, ← EReal.coe_mul]
    congr 1
    unfold DSn
    simp only [← ex_div q k x Q K G]
    have e : ∀ C', ex q k x Q K G b H R C' / wt q k x Q K G b H R * DP V D b H R C'
        = wt q k x Q K G b H R * (DP V D b H R C' * (1 / (wt q k x Q K G b H R * wt q k x Q K G b H R)) * ex q k x Q K G b H R C') := fun C' => by
      field_simp
    simp only [e, ← Finset.mul_sum]
    field_simp
    ring
  · rw [if_neg hc, DSn_zero Q K V D G b H (not_le.mp hc)]
    simp

include hq hk hv hd hx in
/-- The gradient of the cumulated log gates. -/
theorem dg_real (b g : Fin 4) (h : Fin 2) (C : Fin 2048) :
    val_main_v99 (F := Ideal) q k v x d (ix4 b g h C) = (DG Q K V D G b (hh g h) C : EReal) := by
  pointwise [val_main_v99, val_main_v79, val_main_v75, val_main_cst_14, val_main_v74, val_main_v73, val_main_cst_13, val_main_v72, val_main_v78,
    val_main_cst_16, val_main_v77, val_main_v76, val_main_cst_15]
  simp only [hh_eq, ds_real q k v d x Q K V D G hq hk hv hd hx, ← EReal.coe_neg, coe_sum, ← EReal.coe_add]
  congr 1
  unfold DG
  simp only [Finset.sum_neg_distrib, Finset.univ_unique, Finset.sum_singleton]
  ring

include hq hk hv hd hx in
theorem dk_real (b : Fin 4) (H : Fin 8) (C : Fin 2048) (e : Fin 64) :
    val_main_v80 (F := Ideal) q k v x d (ix4 b H C e) = (DK Q K V D G b C (ch H e) : EReal) := by
  pointwise [val_main_v80]
  simp only [head_q q Q hq, ds_real q k v d x Q K V D G hq hk hv hd hx, ← EReal.coe_mul, coe_sum]
  congr 1
  unfold DK
  rw [ho_ch]

include hq hk hv hd hx in
theorem dq_real (b : Fin 4) (H : Fin 8) (R : Fin 2048) (e : Fin 64) :
    val_main_v87 (F := Ideal) q k v x d (ix4 b H R e) = (DQ Q K V D G b R (ch H e) : EReal) := by
  pointwise [val_main_v87, val_main_v86, val_main_cst_17, val_main_v81]
  simp only [head_at, hk, ds_real q k v d x Q K V D G hq hk hv hd hx, eighth, ← EReal.coe_mul, coe_sum]
  congr 1
  unfold DQ
  rw [ho_ch]

end Cert.AttnBwdRefIdeal.Reading

end
-- ==== Proof.AttnBwdValue.lean ====
/- What the attention's backward kernel leaves in its arrays, and what the lines after it return: the derivative of the
   attention's own lines. -/
module

public import proofs.«01_k».proof.Proof.AttnBwdAcc
public import proofs.«01_k».proof.Proof.AttnBwdRef

@[expose] public section

set_option maxRecDepth 16384

noncomputable section

open Idealize.ShloMosaic Idealize.ShloMosaic.TcCoe Idealize.SL.Sem Idealize.ShloMosaic.StableHlo Cert.Reals Cert.Attn

namespace Cert.AttnBwdRefIdeal.Reading

open Cert.AttnBwdRefIdeal Cert.AttnBwdRefIdeal.Read
open Cert.AttnBwdIdeal.Host (brow pl pcol row_div row_mod ch_div ch_mod hh_eq)

variable (q k v d : A3) (x : FVec Ideal S4x8x2048 .f32) (p : FVec Ideal S8192x5376 .bf16)
variable (Q K V D : Fin 4 → Fin 2048 → Fin 512 → ℝ) (G : Fin 4 → Fin 8 → Fin 2048 → ℝ)
variable (hq : ∀ b R c, q (ix3 b R c) = (Q b R c : EReal)) (hk : ∀ b R c, k (ix3 b R c) = (K b R c : EReal))
  (hv : ∀ b R c, v (ix3 b R c) = (V b R c : EReal)) (hd : ∀ b R c, d (ix3 b R c) = (D b R c : EReal))
  (hx : ∀ b H R, x (ix3 b H R) = (G b H R : EReal))

theorem exists_ch (c : Fin 512) : ∃ H e, c = ch H e :=
  ⟨⟨c.val / 64, by have := c.isLt; omega⟩, ⟨c.val % 64, by omega⟩, Fin.ext (by simp only [ch]; omega)⟩

include hq hk hd hx in
theorem v83_real (b : Fin 4) (R : Fin 2048) (c : Fin 512) : val_main_v83 (F := Ideal) q k x d (ix3 b R c) = (DV Q K D G b R c : EReal) := by
  obtain ⟨H, e, rfl⟩ := exists_ch c
  pointwise [val_main_v83, val_main_v82]
  simp only [ch_div, ch_mod]
  exact dv_real q k d x Q K D G hq hk hd hx b H R e

include hq hk hv hd hx in
theorem v85_real (b : Fin 4) (R : Fin 2048) (c : Fin 512) : val_main_v85 (F := Ideal) q k v x d (ix3 b R c) = (DK Q K V D G b R c : EReal) := by
  obtain ⟨H, e, rfl⟩ := exists_ch c
  pointwise [val_main_v85, val_main_v84]
  simp only [ch_div, ch_mod]
  exact dk_real q k v d x Q K V D G hq hk hv hd hx b H R e

include hq hk hv hd hx in
theorem v89_real (b : Fin 4) (R : Fin 2048) (c : Fin 512) : val_main_v89 (F := Ideal) q k v x d (ix3 b R c) = (DQ Q K V D G b R c : EReal) := by
  obtain ⟨H, e, rfl⟩ := exists_ch c
  pointwise [val_main_v89, val_main_v88]
  simp only [ch_div, ch_mod]
  exact dq_real q k v d x Q K V D G hq hk hv hd hx b H R e

include hq hk hv hd hx in
/-- The packed gradient. -/
theorem v95_real (b : Fin 4) (R : Fin 2048) (g : Fin 4) (a : Fin 3) (l : Fin 128) :
    val_main_v95 (F := Ideal) q k v x d (ix2 (brow b R) (pcol g a l)) = ((![DQ Q K V D G, DK Q K V D G, DV Q K D G] a) b R (pl g l) : EReal) := by
  have hl := l.isLt
  have hg := g.isLt
  have e : ∀ a : Fin 3, ∀ {h}, (⟨(pcol g a l).val / 384 * 128 + (pcol g a l).val % 128, h⟩ : Fin 512) = pl g l := fun a h =>
    Fin.ext (by have := a.isLt; simp only [pcol, pl]; omega)
  have e1 : (pcol g a l).val / 128 % 3 = a.val := by have := a.isLt; simp only [pcol]; omega
  pointwise [val_main_v95, val_main_v94, val_main_v93, val_main_v90, val_main_v91, val_main_v92]
  simp only [e, row_div, row_mod, e1, v83_real q k d x Q K D G hq hk hd hx, v85_real q k v d x Q K V D G hq hk hv hd hx,
    v89_real q k v d x Q K V D G hq hk hv hd hx]
  fin_cases a <;> rfl

/-- The gradient's columns of the returned array, -/
theorem inner_at (r : Fin 8192) (c : Fin 1536) {h : 1536 + c.val < 5376} :
    val_main_v98 (F := Ideal) q k v x d p (ix2 r ⟨1536 + c.val, h⟩) = val_main_v95 (F := Ideal) q k v x d (ix2 r c) := by
  have := c.isLt
  pointwise [val_main_v98]
/-- and the others, which the argument keeps. -/
theorem outer_at (r : Fin 8192) (c : Fin 5376) (h : ¬(1536 ≤ c.val ∧ c.val < 3072)) :
    val_main_v98 (F := Ideal) q k v x d p (ix2 r c) = p (ix2 r c) := by
  have := c.isLt
  pointwise [val_main_v98, val_main_v96, val_main_v97]
  by_cases h1 : c.val < 1536
  · simp [h1]
  · have h2 : ¬ c.val < 3072 := by omega
    have h3 : ¬ c.val - 1536 < 1536 := by omega
    simp only [h1, h3, dite_false]
    exact congrArg (fun k => p (ix2 r k)) (Fin.ext (by show 3072 + (c.val - 1536 - 1536) = c.val; omega))

end Cert.AttnBwdRefIdeal.Reading

namespace Cert.AttnBwdIdeal.Blocks

open Cert.AttnBwdIdeal Cert.AttnBwdIdeal.Gen Cert.AttnBwdIdeal.Host Cert.AttnBwdIdeal.Pay Cert.AttnBwdIdeal.Body

variable (m : (ℓ : Loc nD τ sig) → Buf (Elt Ideal) ℓ) (c : Dev nD)
variable (Q K V D : Fin 4 → Fin 2048 → Fin 512 → ℝ) (G : Fin 4 → Fin 8 → Fin 2048 → ℝ)
variable (hq : ∀ b R k, aq m c (ix3 b R k) = (Q b R k : EReal)) (hk : ∀ b R k, ak m c (ix3 b R k) = (K b R k : EReal))
  (hv : ∀ b R k, av m c (ix3 b R k) = (V b R k : EReal)) (hd : ∀ b R k, ad m c (ix3 b R k) = (D b R k : EReal))
  (hg : ∀ b H R, ag m c (ix3 b H R) = (G b H R : EReal))

/-- The array of the packed gradient that the derivative leaves. -/
abbrev refP : FVec Ideal S8192x5376 .bf16 :=
  Cert.AttnBwdRefIdeal.Read.val_main_v98 (F := Ideal) (aq m c) (ak m c) (av m c) (ag m c) (ad m c) (ap m c)

include hq hk hv hd hg in
theorem final7 : (dats m 0 c).arrAt 7 cfg0.N = refP m c := by
  refine (dats m 0 c).arrAt_eq_of_coversWhere_of_agree 7 _ (fun β => 4 ≤ β (1 : Fin 2) ∧ β (1 : Fin 2) < 8) (by decide +kernel) (fun t _ y => ?_) (fun j hj => ?_)
  · blk_simp
    obtain ⟨r, y', rfl⟩ : ∃ (r : Fin 512) (y' : Fin 384), y = ix2 r y' := ⟨y 0, y 1, eq_ix2 y⟩
    obtain ⟨a, l, rfl⟩ : ∃ (a : Fin 3) (l : Fin 128), y' = lane a l :=
      ⟨⟨y'.val / 128, by have := y'.isLt; omega⟩, ⟨y'.val % 128, by omega⟩, Fin.ext (by simp only [lane]; omega)⟩
    have e := row_val (r := r) (show t.val % 4 < 4 by omega)
    have hb : 1536 + (pcol (tg t) a l).val < 5376 := by have := (pcol (tg t) a l).isLt; omega
    have he : (((cfg0.win 7).blk t).view.emb (ix2 r (lane a l))) = (ix2 (brow (tb t) (row (t.val % 4) r)) ⟨1536 + (pcol (tg t) a l).val, hb⟩ : S8192x5376.Idx) := by
      blk_ext [idx t]
      all_goals simp only [brow, tb, pcol, tg, lane, e] <;> omega
    rw [he, after0_7, block m c t Q K V D G hq hk hv hd hg]
    exact ((Cert.AttnBwdRefIdeal.Reading.inner_at (aq m c) (ak m c) (av m c) (ad m c) (ag m c) (ap m c) _ _).trans
      (Cert.AttnBwdRefIdeal.Reading.v95_real (aq m c) (ak m c) (av m c) (ad m c) (ag m c) Q K V D G hq hk hv hd hg _ _ _ a l)).symm
  · have e : (dats m 0 c).A 7 = ap m c := (A_eq m c 7).trans (V_v47 m c)
    rw [e]
    obtain ⟨r, k, rfl⟩ : ∃ (r : Fin 8192) (k : Fin 5376), j = ix2 r k := ⟨j 0, j 1, eq_ix2 j⟩
    refine (Cert.AttnBwdRefIdeal.Reading.outer_at (aq m c) (ak m c) (av m c) (ad m c) (ag m c) (ap m c) r k fun h => hj ?_).symm
    rw [Pipeline.Window.cell_apply]
    show 4 ≤ k.val / 384 ∧ k.val / 384 < 8
    omega

/-- The column sums, -/
def colSums : FVec Ideal S4x4x2x2048 .f32 := fun i => ((∑ R, DSn Q K V D G (i 0) (hh (i 1) (i 2)) R (i 3) : ℝ) : EReal)
/-- the batch and the query of a row, -/
def bat (r : Fin 8192) : Fin 4 := ⟨r.val / 2048, by have := r.isLt; omega⟩
def qry (r : Fin 8192) : Fin 2048 := ⟨r.val % 2048, by omega⟩
/-- and the row sums, all rows of all batches one after the other. -/
def rowSums : FVec Ideal S4x8192x2 .f32 := fun i => ((∑ C, DSn Q K V D G (bat (i 1)) (hh (i 0) (i 2)) (qry (i 1)) C : ℝ) : EReal)

theorem rowSums_at (g b : Fin 4) (R : Fin 2048) (h : Fin 2) :
    rowSums Q K V D G (ix3 g (brow b R) h) = ((∑ C, DSn Q K V D G b (hh g h) R C : ℝ) : EReal) := by
  show ((∑ C, DSn Q K V D G (bat (brow b R)) (hh g h) (qry (brow b R)) C : ℝ) : EReal) = _
  rw [show bat (brow b R) = b from row_div b R, show qry (brow b R) = R from row_mod b R]

include hq hk hv hd hg in
theorem final8 : (dats m 0 c).arrAt 8 cfg0.N = colSums Q K V D G := by
  refine (dats m 0 c).arrAt_eq_of_covers 8 _ (by decide +kernel) fun t _ y => ?_
  blk_simp
  obtain ⟨h, r, rfl⟩ : ∃ (h : Fin 2) (r : Fin 512), y = ix4 0 0 h r :=
    ⟨y 2, y 3, by rw [eq_ix4 y]; congr 1 <;> exact Subsingleton.elim _ _⟩
  have e := row_val (r := r) (show t.val % 4 < 4 by omega)
  have he : (((cfg0.win 8).blk t).view.emb (ix4 0 0 h r)) = (ix4 (tb t) (tg t) h (row (t.val % 4) r) : S4x4x2x2048.Idx) := by
    blk_ext [idx t]
    all_goals simp only [tb, tg, e] <;> omega
  rw [he, after0_8, cols m c t Q K V D G hq hk hv hd hg]
  rfl

theorem emb9 (t : Fin cfg0.N) (R : Fin 2048) (h : Fin 2) : ((cfg0.win 9).blk t).view.emb (ix3 0 R h) = (ix3 (tg t) (brow (tb t) R) h : S4x8192x2.Idx) := by
  blk_ext [idx t]
  all_goals simp only [brow, tb, tg] <;> omega

theorem flush9 : ∀ t : Fin cfg0.N, (cfg0.win 9).flush t = true → t.val % 4 = 3 := (by decide +kernel : ∀ t : Fin grid0.N, _)

include hq hk hv hd hg in
theorem final9 : (dats m 0 c).arrAt 9 cfg0.N = rowSums Q K V D G := by
  refine (dats m 0 c).arrAt_eq_of_covers 9 _ (by decide +kernel) fun t hf y => ?_
  blk_simp
  obtain ⟨R, h, rfl⟩ : ∃ (R : Fin 2048) (h : Fin 2), y = ix3 0 R h :=
    ⟨y 1, y 2, by rw [eq_ix3 y]; congr 1; exact Subsingleton.elim _ _⟩
  rw [emb9, after0_9, rows m c t Q K V D G hq hk hv hd hg (flush9 t hf), rowSums_at]

/-- The lines after the kernel: the row sums, laid out like the column sums, less the column sums. -/
def tail (u : FVec Ideal S4x8192x2 .f32) (w : FVec Ideal S4x4x2x2048 .f32) : FVec Ideal S4x4x2x2048 .f32 :=
  subf (transpose S4x4x2x2048 [1, 0, 3, 2] (shapeCast S4x4x2048x2 u shapeCasts_S4x8192x2_S4x4x2048x2) transposes_S4x4x2048x2_S4x4x2x2048_1_0_3_2) w

theorem unrows_at (u : FVec Ideal S4x8192x2 .f32) (g b : Fin 4) (R : Fin 2048) (h : Fin 2) :
    shapeCast S4x4x2048x2 u shapeCasts_S4x8192x2_S4x4x2048x2 (ix4 g b R h) = u (ix3 g (brow b R) h) := by
  refine shapeCast_apply u shapeCasts_S4x8192x2_S4x4x2048x2 (ix4 g b R h) (ix3 g (brow b R) h) ?_
  rewrite [Shape.rowMajor_val_three, Shape.rowMajor_val_four]
  show (g.val * 8192 + (2048 * b.val + R.val)) * 2 + h.val = ((g.val * 4 + b.val) * 2048 + R.val) * 2 + h.val
  omega
theorem unswap_at (y : FVec Ideal S4x4x2048x2 .f32) (g b : Fin 4) (R : Fin 2048) (h : Fin 2) :
    transpose S4x4x2x2048 [1, 0, 3, 2] y transposes_S4x4x2048x2_S4x4x2x2048_1_0_3_2 (ix4 b g h R) = y (ix4 g b R h) := by
  pointwise []

theorem tail_at (u : FVec Ideal S4x8192x2 .f32) (w : FVec Ideal S4x4x2x2048 .f32) (b g : Fin 4) (h : Fin 2) (R : Fin 2048) :
    tail u w (ix4 b g h R) = u (ix3 g (brow b R) h) - w (ix4 b g h R) :=
  congrArg (· - w (ix4 b g h R)) ((unswap_at _ g b R h).trans (unrows_at u g b R h))

theorem after_tail : Pipeline.afterTail₀ cfgs (dats m) 0 (V0 m) [hostOps1] c main_v50
    = tail ((dats m 0 c).arrAt 9 cfg0.N) ((dats m 0 c).arrAt 8 cfg0.N) := by
  have h9 := (dats m 0 c).withArrays_arrAt sharedIn0 (V0 m c) (A_eq m c) 9
  have h8 := (dats m 0 c).withArrays_arrAt sharedIn0 (V0 m c) (A_eq m c) 8
  rw [← h9, ← h8]
  unfold Pipeline.afterTail₀
  simp only [hostOps1, List.flatten_cons, List.flatten_nil, List.append_nil]
  generalize Pipeline.withArrays _ _ _ _ = U
  after_results_simp
  rfl

/-- The gradient of the cumulated log gates that the derivative leaves. -/
abbrev refG : FVec Ideal S4x4x2x2048 .f32 :=
  Cert.AttnBwdRefIdeal.Read.val_main_v99 (F := Ideal) (aq m c) (ak m c) (av m c) (ag m c) (ad m c)

include hq hk hv hd hg in
theorem finalG : Pipeline.afterTail₀ cfgs (dats m) 0 (V0 m) [hostOps1] c main_v50 = refG m c := by
  rw [after_tail, final8 m c Q K V D G hq hk hv hd hg, final9 m c Q K V D G hq hk hv hd hg]
  funext i
  obtain ⟨b, g, h, R, rfl⟩ : ∃ (b g : Fin 4) (h : Fin 2) (R : Fin 2048), i = ix4 b g h R := ⟨i 0, i 1, i 2, i 3, eq_ix4 i⟩
  rw [tail_at, rowSums_at]
  refine Eq.trans ?_ (Cert.AttnBwdRefIdeal.Reading.dg_real (aq m c) (ak m c) (av m c) (ad m c) (ag m c) Q K V D G hq hk hv hd hg b g h R).symm
  show _ - ((∑ R', DSn Q K V D G b (hh g h) R' R : ℝ) : EReal) = _
  rw [← EReal.coe_sub]
  rfl

end Cert.AttnBwdIdeal.Blocks

end
-- ==== Proof.AttnBwdClaims.lean ====
/- The claims about forgetting attention's backward kernel. -/
module

public import proofs.«01_k».proof.Proof.AttnBwdValue
public import proofs.«01_k».proof.Proof.Gen.AttnBwd
public import proofs.«01_k».proof.Proof.Gen.AttnBwdRefIdeal.Run
public import proofs.«01_k».proof.Defs
public import Idealize.ShloMosaic.Lib.Claim

@[expose] public section

set_option maxRecDepth 16384

noncomputable section

open Idealize.ShloMosaic Idealize.ShloMosaic.TcCoe Idealize.SL.Sem Cert.Reals

namespace Cert.Proof.AttnBwd

theorem pre_facts : Cert.Pre_attn_bwd_finite.Facts := by constructor <;> decide

attribute [local instance] pre_facts

/-- The kernel and its idealization are one text: the run of the one is the run of the other. -/
theorem frame : Cert.quiescent_AttnBwd := by
  have h := fun m ρ (_ : True) => Cert.AttnBwdIdeal.Body.frame (F := Bits) m ρ
  exact cast (by sl_kernel_rfl) h
theorem frame_ideal : Cert.quiescent_AttnBwdIdeal := fun m ρ _ => Cert.AttnBwdIdeal.Body.frame m ρ
theorem frame_ideal_pre : Cert.quiescent_AttnBwdIdeal_pre_attn_bwd_finite := fun m ρ _ => Cert.AttnBwdIdeal.Body.frame m ρ
theorem frame_ref : Cert.quiescent_AttnBwdRefIdeal := fun m ρ _ =>
  (θ_run Cert.AttnBwdRefIdeal.defs _ _).mono (fun r h => ⟨fun c => (h c).2.2, sem_eq_zero_of_no_sems (by decide) r.2⟩)
    (Cert.AttnBwdRefIdeal.Value.run (F := Ideal) m ρ)
theorem frame_ref_pre : Cert.quiescent_AttnBwdRefIdeal_pre_attn_bwd_finite := fun m ρ _ => frame_ref m ρ trivial
theorem preserves : Cert.preserves_AttnBwd_AttnBwdIdeal := trivial

theorem algebraic : Cert.algebraic_AttnBwdIdeal_AttnBwdRefIdeal_pre_attn_bwd_finite := by
  intro m g m' g' hpre hagree
  have hq := fun c => reals_of fun i => of_finite (congrFun (hpre c).1 i)
  have hk := fun c => reals_of fun i => of_finite (congrFun (hpre c).2.1 i)
  have hv := fun c => reals_of fun i => of_finite (congrFun (hpre c).2.2.1 i)
  have hg := fun c => reals_of fun i => of_finite (congrFun (hpre c).2.2.2.1 i)
  have hd := fun c => reals_of fun i => of_finite (congrFun (hpre c).2.2.2.2 i)
  choose Q hq using hq
  choose K hk using hk
  choose V hv using hv
  choose G hg using hg
  choose D hd using hd
  have h7 := fun c => Cert.AttnBwdIdeal.Blocks.final7 m c (fun b r k => Q c (ix3 b r k)) (fun b r k => K c (ix3 b r k)) (fun b r k => V c (ix3 b r k))
    (fun b r k => D c (ix3 b r k)) (fun b r k => G c (ix3 b r k)) (fun _ _ _ => hq c _) (fun _ _ _ => hk c _) (fun _ _ _ => hv c _) (fun _ _ _ => hd c _) (fun _ _ _ => hg c _)
  have hG := fun c => Cert.AttnBwdIdeal.Blocks.finalG m c (fun b r k => Q c (ix3 b r k)) (fun b r k => K c (ix3 b r k)) (fun b r k => V c (ix3 b r k))
    (fun b r k => D c (ix3 b r k)) (fun b r k => G c (ix3 b r k)) (fun _ _ _ => hq c _) (fun _ _ _ => hk c _) (fun _ _ _ => hv c _) (fun _ _ _ => hd c _) (fun _ _ _ => hg c _)
  have hrun := θ_run_and (Cert.AttnBwdIdeal.Body.run_main m g)
    ((θ_run _ _ _).mono (fun _ h => h.1) (Cert.AttnBwdIdeal.Body.frame m g))
  refine ⟨fun c => Cert.AttnBwdIdeal.Blocks.refP m c, fun c => Cert.AttnBwdIdeal.Blocks.refG m c,
    (θ_run _ _ _).mono (fun _ h c => ⟨((h.1 c).1 7).trans (h7 c),
      ((h.1 c).2 Cert.AttnBwdIdeal.main_v50 (Pipeline.mem_restRefs_of _ (by decide) (by decide))).trans (hG c), h.2 c⟩) hrun, ?_⟩
  refine (θ_run _ _ _).mono (fun _ h c => ?_) (Cert.AttnBwdRefIdeal.Value.run (F := Ideal) m' g')
  refine ⟨(h c).1.trans ?_, (h c).2.1.trans ?_, (h c).2.2⟩
  · rw [Cert.AttnBwdRefIdeal.Read.val_main_v98_eq, (hagree c).1, (hagree c).2.1, (hagree c).2.2.1, (hagree c).2.2.2.1, (hagree c).2.2.2.2.1, (hagree c).2.2.2.2.2]
  · rw [Cert.AttnBwdRefIdeal.Read.val_main_v99_eq, (hagree c).1, (hagree c).2.1, (hagree c).2.2.1, (hagree c).2.2.2.1, (hagree c).2.2.2.2.1]

end Cert.Proof.AttnBwd

end
-- ==== Proof.Choices.lean ====
/- Which branch a selection takes when its condition compares a small row or column number with a constant. -/
module

public import Idealize.ShloMosaic.Lib.Pipeline.ValueKit
public import Idealize.ShloMosaic.Lib.IdealHost
public import Idealize.ShloMosaic.Lib.Pointwise

@[expose] public section

open Idealize.ShloMosaic

namespace Cert.Choices

theorem toInt_small {x : BitVec 32} (h : x.toNat < 2 ^ 31) : x.toInt = (x.toNat : Int) :=
  BitVec.toInt_eq_toNat_of_lt (by omega)

theorem select_slt {α : Type} (r : ℕ) (s : BitVec 32) (hr : r < 2 ^ 31) (hs : s.toNat < 2 ^ 31) (a b : α) :
    Scalar.select (IntOp.cmpi .slt (BitVec.ofNat 32 r) s) a b = if r < s.toNat then a else b := by
  have h1 : (BitVec.ofNat 32 r).toInt = (r : Int) := by
    rw [toInt_small (by rw [BitVec.toNat_ofNat]; omega), BitVec.toNat_ofNat, Nat.mod_eq_of_lt (by omega)]
  by_cases h : r < s.toNat <;> simp [h, Scalar.select, IntOp.cmpi, BitVec.slt, h1, toInt_small hs]

theorem select_sge {α : Type} (r : ℕ) (s : BitVec 32) (hr : r < 2 ^ 31) (hs : s.toNat < 2 ^ 31) (a b : α) :
    Scalar.select (IntOp.cmpi .sge (BitVec.ofNat 32 r) s) a b = if s.toNat ≤ r then a else b := by
  have h1 : (BitVec.ofNat 32 r).toInt = (r : Int) := by
    rw [toInt_small (by rw [BitVec.toNat_ofNat]; omega), BitVec.toNat_ofNat, Nat.mod_eq_of_lt (by omega)]
  by_cases h : s.toNat ≤ r <;> simp [h, Scalar.select, IntOp.cmpi, BitVec.sle, h1, toInt_small hs]

end Cert.Choices
-- ==== Proof.ForgetMath.lean ====
/- The sums from a position to the end of the sequence: what the kernel's doubling steps compute, and the reference's
   windows; the derivative of the logarithm of the sigmoid, in the form each program computes it. -/
module

public import proofs.«01_k».proof.Proof.Reals
public import proofs.«01_k».proof.Proof.Choices
public import proofs.«01_k».proof.Proof.Gen.ForgetBwdIdeal.Skeleton
public import proofs.«01_k».proof.Proof.Gen.ForgetBwdRefIdeal.Read

@[expose] public section

set_option maxRecDepth 16384

noncomputable section

open Idealize.ShloMosaic Cert.Reals

namespace Cert.Forget

/-- A column, zero behind its end. -/
def ext (a : Fin 2048 → EReal) (n : ℕ) : EReal := if h : n < 2048 then a ⟨n, h⟩ else 0

theorem ext_val (a : Fin 2048 → EReal) (r : Fin 2048) : ext a r.val = a r := dif_pos r.isLt

/-- The sum of the `k` entries from `r` on. -/
def win (k : ℕ) (a : Fin 2048 → EReal) (r : ℕ) : EReal := ∑ i ∈ Finset.range k, ext a (r + i)

theorem win_one (a : Fin 2048 → EReal) (r : Fin 2048) : win 1 a r.val = a r := by
  simp [win, ext_val]

theorem win_end (k : ℕ) (a : Fin 2048 → EReal) (r : ℕ) (h : ¬ r < 2048) : win k a r = 0 :=
  Finset.sum_eq_zero fun i _ => dif_neg (by omega)

theorem win_double (k : ℕ) (a : Fin 2048 → EReal) (r : ℕ) : win (k + k) a r = win k a r + win k a (r + k) := by
  unfold win
  rw [Finset.sum_range_add]
  simp only [Nat.add_assoc]

section Kernel
open Cert.ForgetBwdIdeal Cert.ForgetBwdIdeal.Gen

/-- One doubling step: the rows moved up by `2048 - s`, zero where they leave the sequence, added. -/
def step (s : BitVec 32) (x : FVec Ideal S2048x128 .f32) : FVec Ideal S2048x128 .f32 :=
  addf x (select (cmpi .slt (iota .tc S2048x128 32 [0] iota_S2048x128_d0_w32) (broadcast S2048x128 s))
    (dynamicRotate 0 s none x rotates_S2048x128_d0) (broadcast S2048x128 (Scalar.ofBits (F := Ideal) .f32 0x00000000#32)))

theorem step_apply (s : BitVec 32) (k : ℕ) (hs : s.toNat + k = 2048) (hk : 0 < k) (x : FVec Ideal S2048x128 .f32) (r : Fin 2048) (l : Fin 128) :
    step s x (ix2 r l) = (x (ix2 r l) : EReal) + ext (fun r => x (ix2 r l)) (r.val + k) := by
  have hr := r.isLt
  pointwise [step]
  rw [Choices.select_slt r.val s (by omega) (by omega)]
  congr 1
  unfold ext
  by_cases h : r.val < s.toNat
  · rw [if_pos h, dif_pos (show r.val + k < 2048 by omega)]
    exact congrArg (fun n => x (ix2 n l)) (Fin.ext (by show (r.val + 2048 - s.toNat % 2048) % 2048 = r.val + k; omega))
  · rw [if_neg h, dif_neg (show ¬ r.val + k < 2048 by omega)]

/-- A step doubles the window. -/
theorem step_win (s : BitVec 32) (k : ℕ) (hs : s.toNat + k = 2048) (hk : 0 < k) (x : FVec Ideal S2048x128 .f32) (l : Fin 128)
    (a : Fin 2048 → EReal) (hx : ∀ r : Fin 2048, x (ix2 r l) = win k a r.val) (r : Fin 2048) : step s x (ix2 r l) = win (k + k) a r.val := by
  rw [step_apply s k hs hk, hx, win_double]
  congr 1
  unfold ext
  by_cases h : r.val + k < 2048
  · rw [dif_pos h]; exact hx _
  · rw [dif_neg h, win_end k a _ h]

/-- The gradient of the cumulated logarithms, keys' part transposed. -/
def base (v0 : Vec Ideal S1x8x2048 .f32) (v5 : Vec Ideal S2048x128 .f32) : FVec Ideal S2048x128 .f32 :=
  subf (shapeCast S2048x128 v5 shapeCasts_S2048x128_S2048x128)
    (transpose S2048x128 [1, 0] (concatenate S128x2048 0 [⟨S8x2048, shapeCast S8x2048 v0 shapeCasts_S1x8x2048_S8x2048⟩,
      ⟨S120x2048, broadcast S120x2048 (Scalar.ofBits (F := Ideal) .f32 0x00000000#32)⟩] concatenates_S8x2048_S120x2048_S128x2048_d0)
      transposes_S128x2048_p1_0_S2048x128)

theorem base_apply (v0 : Vec Ideal S1x8x2048 .f32) (v5 : Vec Ideal S2048x128 .f32) (r : Fin 2048) (l : Fin 128) (h : Fin 8) (hl : l.val = h.val) :
    base v0 v5 (ix2 r l) = (v5 (ix2 r l) : EReal) - v0 (ix3 0 h r) := by
  pointwise [base]
  have hh := h.isLt
  rw [dif_pos (show l.val < 8 by omega)]
  have e : (⟨l.val, by omega⟩ : Fin 8) = h := Fin.ext hl
  exact congrArg (fun n : Fin 8 => (v5 (ix2 r l) : EReal) - v0 (ix3 0 n r)) e

/-- Eleven steps: the whole rest of the sequence. -/
def steps (x : FVec Ideal S2048x128 .f32) : FVec Ideal S2048x128 .f32 :=
  step 1024#32 (step 1536#32 (step 1792#32 (step 1920#32 (step 1984#32 (step 2016#32 (step 2032#32 (step 2040#32
    (step 2044#32 (step 2046#32 (step 2047#32 x))))))))))

theorem steps_eq (v0 : Vec Ideal S1x8x2048 .f32) (v5 : Vec Ideal S2048x128 .f32) :
    k0_pay9 (F := Ideal) (iota .tc S2048x128 32 [0] iota_S2048x128_d0_w32) (k0_pay5 v0 v5) k0_pay6 (k0_pay7 v0 v5) k0_pay8 = steps (base v0 v5) := rfl

theorem steps_apply (x : FVec Ideal S2048x128 .f32) (l : Fin 128) (r : Fin 2048) :
    steps x (ix2 r l) = win 2048 (fun r => x (ix2 r l)) r.val := by
  unfold steps
  refine step_win _ 1024 rfl (by omega) _ l _ (fun r => ?_) r
  refine step_win _ 512 rfl (by omega) _ l _ (fun r => ?_) r
  refine step_win _ 256 rfl (by omega) _ l _ (fun r => ?_) r
  refine step_win _ 128 rfl (by omega) _ l _ (fun r => ?_) r
  refine step_win _ 64 rfl (by omega) _ l _ (fun r => ?_) r
  refine step_win _ 32 rfl (by omega) _ l _ (fun r => ?_) r
  refine step_win _ 16 rfl (by omega) _ l _ (fun r => ?_) r
  refine step_win _ 8 rfl (by omega) _ l _ (fun r => ?_) r
  refine step_win _ 4 rfl (by omega) _ l _ (fun r => ?_) r
  refine step_win _ 2 rfl (by omega) _ l _ (fun r => ?_) r
  refine step_win _ 1 rfl (by omega) _ l _ (fun r => ?_) r
  exact (win_one (fun r => x (ix2 r l)) r).symm

/-- One entry of the gradient of the gates' logits, in the pass that computes it, -/
theorem pay1_apply (a : BitVec 32) (v74 v76 : FVec Ideal S2048x128 .f32) (v77 : Vec Ideal S1x128 .f32) (r : Fin 2048) (l : Fin 128) :
    k0_pay1 (F := Ideal) a v74 v76 v77 (ix2 r l)
      = if a = 0#32 then (if l.val < 8 then (v74 (ix2 r l) : EReal) * Ideal.logistic (0 - (v76 (ix2 r l) + v77 (ix2 0 l))) else 0) else 0 := by
  have hl := l.isLt
  pointwise [k0_pay1]
  rw [Choices.select_slt l.val 8#32 (by omega) (by decide)]
  by_cases h : a = 0#32
  · simp [h, Scalar.select, Scalar.cmpi, IntOp.cmpi]
  · have e : (a == 0#32) = false := by simp [h]
    simp [h, e, Scalar.select, Scalar.cmpi, IntOp.cmpi]

theorem pay10_eq (v : Vec Ideal S2048x128 .f32) : k0_pay10 (F := Ideal) v = v := by
  funext y
  obtain ⟨r, l, rfl⟩ : ∃ (r : Fin 2048) (l : Fin 128), y = ix2 r l := ⟨y 0, y 1, eq_ix2 y⟩
  pointwise [k0_pay10]

theorem pay4_apply (a : BitVec 32) (v74 v76 : FVec Ideal S2048x128 .f32) (v77 v100 : Vec Ideal S1x128 .f32) (l : Fin 128) :
    k0_pay4 (F := Ideal) a v74 v76 v77 v100 (ix2 0 l) = (v100 (ix2 0 l) : EReal) + ∑ r, k0_pay1 (F := Ideal) a v74 v76 v77 (ix2 r l) := by
  pointwise [k0_pay4]

end Kernel

section Gate

theorem inf_eq : Ideal.ofBits .f32 0x7F800000#32 = ⊤ := ofBits_inf

theorem coe_max (x y : ℝ) : max (x : EReal) (y : EReal) = ((max x y : ℝ) : EReal) :=
  (EReal.coe_strictMono.monotone.map_max).symm

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

/-- The logarithm of one plus the exponential, as the reference computes it. -/
def soft (x : EReal) : EReal := max x 0 + Ideal.log1p (Ideal.exp (-(max (x - 0) (-(x - 0)))))

theorem soft_coe (x : ℝ) : soft (x : EReal) = ((Real.log (1 + Real.exp x) : ℝ) : EReal) := by
  have e : (max ((x : EReal) - 0) (-((x : EReal) - 0))) = ((max x (-x) : ℝ) : EReal) := by
    rw [sub_zero, ← EReal.coe_neg, coe_max]
  have e0 : max (x : EReal) 0 = ((max x 0 : ℝ) : EReal) := by rw [← EReal.coe_zero, coe_max]
  have p : 0 < 1 + Real.exp (-(max x (-x))) := by positivity
  rw [soft, e, e0, ← EReal.coe_neg, Ideal.exp_coe, Ideal.log1p, ← EReal.coe_one, ← EReal.coe_add, Ideal.log_coe, if_neg (not_le.mpr p), ← EReal.coe_add]
  congr 1
  rcases le_total 0 x with h | h
  · rw [max_eq_left h, max_eq_left (by linarith)]
    have := Real.exp_pos x
    rw [show 1 + Real.exp x = Real.exp x * (1 + Real.exp (-x)) by rw [mul_add, ← Real.exp_add]; simp [add_comm],
      Real.log_mul (Real.exp_pos x).ne' (by positivity), Real.log_exp]
  · rw [max_eq_right h, max_eq_right (by linarith), neg_neg, zero_add]

/-- A value with `+∞` replaced by zero. -/
def fin0 (x : EReal) : EReal := if x = ⊤ then 0 else x

/-- Its derivative by the formula of the maximum, at every extended real, is the sigmoid. -/
theorem exp_soft (x : EReal) : Ideal.exp (fin0 x - fin0 (soft x)) = Ideal.logistic x := by
  induction x with
  | bot =>
    have : soft ⊥ = 0 := by simp [soft, Ideal.log1p, log_one]
    simp [fin0, this, exp_zero]
  | top =>
    have : soft ⊤ = ⊤ := by simp [soft, Ideal.log1p, log_one]
    simp [fin0, this, exp_zero]
  | coe x =>
    have p : 0 < 1 + Real.exp x := by positivity
    rw [soft_coe, fin0, fin0, if_neg (EReal.coe_ne_top _), if_neg (EReal.coe_ne_top _), ← EReal.coe_sub, Ideal.exp_coe, Ideal.logistic_coe,
      Real.exp_sub, Real.exp_log p]
    congr 1
    rw [Real.exp_neg]
    have := Real.exp_pos x
    field_simp
    ring

end Gate

section Reference
open Cert.ForgetBwdRefIdeal Cert.ForgetBwdRefIdeal.Gen Cert.ForgetBwdRefIdeal.Read

variable (x0 : FVec Ideal S4x8x2048 .f32) (x1 x2 : FVec Ideal S8192x8 .f32) (x3 : FVec Ideal S1x8 .f32) (x4 : FVec Ideal S8192x5376 .bf16)

theorem row_lt (b : Fin 4) (s : Fin 2048) : b.val * 2048 + s.val < 8192 := by omega

/-- Position `s` of sequence `b` among all rows. -/
abbrev brow (b : Fin 4) (s : Fin 2048) : Fin 8192 := ⟨b.val * 2048 + s.val, row_lt b s⟩

theorem v2_apply (b : Fin 4) (s : Fin 2048) (h : Fin 8) :
    val_main_v2 (F := Ideal) x0 x1 (ix3 b s h) = (x1 (ix2 (brow b s) h) : EReal) - x0 (ix3 b h s) := by
  pointwise [val_main_v2, val_main_v0, val_main_v1]

theorem v6_apply (b : Fin 4) (s : Fin 2048) (h : Fin 8) :
    val_main_v6 (F := Ideal) x2 x3 (ix3 b s h) = (x2 (ix2 (brow b s) h) : EReal) + x3 (ix2 0 h) := by
  pointwise [val_main_v6, val_main_v3, val_main_v5, val_main_v4]

theorem soft_apply (b : Fin 4) (s : Fin 2048) (h : Fin 8) :
    val_main_call0_v1_0 (F := Ideal) x2 x3 (ix3 b s h) = soft (-(x2 (ix2 (brow b s) h) + x3 (ix2 0 h))) := by
  pointwise [val_main_call0_v1_0, val_main_call0_call0_v4]
  rw [if_neg (by simp)]
  pointwise [val_main_call0_call0_v11, val_main_call0_call0_v1, val_main_call0_call0_v10, val_main_call0_call0_v9, val_main_call0_call0_v8,
    val_main_call0_call0_v7, val_main_call0_call0_v3, val_main_call0_call0_v2, val_main_call0_call0_v0, val_main_call0_v0, val_main_call0_call0_cst]
  rw [v6_apply]
  unfold soft
  rw [sub_zero]
  rfl

theorem gate_apply (b : Fin 4) (s : Fin 2048) (h : Fin 8) :
    val_main_v7_1 (F := Ideal) x2 x3 (ix3 b s h) = Ideal.logistic (0 - (x2 (ix2 (brow b s) h) + x3 (ix2 0 h) : EReal)) := by
  rw [zero_sub, ← exp_soft]
  pointwise [val_main_v7_1, val_main_call0_call0_v21, val_main_call0_call0_v16, val_main_call0_call0_v20, val_main_call0_call0_v14,
    val_main_call0_call0_v18, val_main_call0_call0_v13, val_main_call0_call0_v17, val_main_call0_call0_v15, val_main_call0_call0_v19,
    val_main_call0_v0, val_main_call0_call0_cst_0, val_main_call0_call0_cst_1, val_main_call0_call0_cst_2, val_main_call0_call0_cst_3]
  rw [v6_apply, soft_apply]
  simp only [inf_eq]
  rfl

theorem foldl_sum {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- The shape of the reference's window: the rest of the sequence. -/
abbrev W : Shape := ⟨3, ![1, 2048, 1]⟩

theorem sum_window (G : W.Idx → EReal) : ∑ i : W.Idx, G i = ∑ n : Fin 2048, G (ix3 (0 : Fin 1) n (0 : Fin 1)) := by
  refine (Fintype.sum_bijective (fun n : Fin 2048 => (ix3 (0 : Fin 1) n (0 : Fin 1) : W.Idx)) ⟨fun a b h => ?_, fun i => ⟨i 1, ?_⟩⟩ _ _ fun _ => rfl).symm
  · exact congrFun h 1
  · refine (congrArg₂ (fun a c => (ix3 a (i 1) c : W.Idx)) (Subsingleton.elim (α := Fin 1) _ _) (Subsingleton.elim (α := Fin 1) _ _)).trans (eq_ix3 i).symm

theorem v9_apply (b : Fin 4) (s : Fin 2048) (h : Fin 8) :
    val_main_v9 (F := Ideal) x0 x1 (ix3 b s h) = win 2048 (fun s => (x1 (ix2 (brow b s) h) : EReal) - x0 (ix3 b h s)) s.val := by
  unfold val_main_v9 Host.reduceWindowAdd
  rw [Ideal.hostReduceWindowAdd_def]
  unfold Ideal.hostReduceWindowAdd Host.reduceWindow
  have hz : val_main_call2_call0_v0 (F := Ideal) (Shape.Idx.first h_S_) = (0 : EReal) := by
    pointwise [val_main_call2_call0_v0, val_main_call2_call0_cst]
  dsimp only
  rw [hz, foldl_sum (N := W.numel) (fun n => _), zero_add]
  have key : ∀ w : W.Idx, (if hin : ∀ a : Fin 3, ![0, 0, 0] a ≤ (ix3 b s h a : ℕ) * ![1, 1, 1] a + (w a).val
      ∧ (ix3 b s h a : ℕ) * ![1, 1, 1] a + (w a).val - ![0, 0, 0] a < S4x2048x8.size a then
        (val_main_v2 (F := Ideal) x0 x1 (fun a => ⟨(ix3 b s h a : ℕ) * ![1, 1, 1] a + (w a).val - ![0, 0, 0] a, (hin a).2⟩) : EReal) else 0)
      = ext (fun s => (x1 (ix2 (brow b s) h) : EReal) - x0 (ix3 b h s)) (s.val + (w 1).val) := by
    intro w
    have h0 : (w 0).val = 0 := by have := (w 0).isLt; change (w 0).val < 1 at this; omega
    have h2 : (w 2).val = 0 := by have := (w 2).isLt; change (w 2).val < 1 at this; omega
    unfold ext
    by_cases hin : s.val + (w 1).val < 2048
    · rw [dif_pos hin, dif_pos (by
        intro a
        fin_cases a
        · exact ⟨Nat.zero_le _, by show b.val * 1 + (w 0).val - 0 < 4; have := b.isLt; omega⟩
        · exact ⟨Nat.zero_le _, by show s.val * 1 + (w 1).val - 0 < 2048; omega⟩
        · exact ⟨Nat.zero_le _, by show h.val * 1 + (w 2).val - 0 < 8; have := h.isLt; omega⟩)]
      refine Eq.trans (congrArg (val_main_v2 (F := Ideal) x0 x1) ?_) (v2_apply x0 x1 b ⟨s.val + (w 1).val, hin⟩ h)
      funext a
      fin_cases a
      · exact Fin.ext (by show b.val * 1 + (w 0).val - 0 = b.val; omega)
      · exact Fin.ext (by show s.val * 1 + (w 1).val - 0 = s.val + (w 1).val; omega)
      · exact Fin.ext (by show h.val * 1 + (w 2).val - 0 = h.val; omega)
    · rw [dif_neg hin, dif_neg fun hn => hin (by
        have := (hn 1).2
        change s.val * 1 + (w 1).val - 0 < 2048 at this
        omega)]
  refine Eq.trans (Finset.sum_congr rfl fun n _ => ?_) ((Equiv.sum_comp W.rowMajor.symm
    (fun w : W.Idx => ext (fun s => (x1 (ix2 (brow b s) h) : EReal) - x0 (ix3 b h s)) (s.val + (w 1).val))).trans ?_)
  · convert key (W.rowMajor.symm n) <;> rfl
  · rw [sum_window]
    exact (Finset.sum_range fun i => ext (fun s => (x1 (ix2 (brow b s) h) : EReal) - x0 (ix3 b h s)) (s.val + i)).symm

/-- One entry of the gradient of the gates' logits. -/
def dlog (b : Fin 4) (s : Fin 2048) (h : Fin 8) : EReal :=
  win 2048 (fun s => (x1 (ix2 (brow b s) h) : EReal) - x0 (ix3 b h s)) s.val * Ideal.logistic (0 - (x2 (ix2 (brow b s) h) + x3 (ix2 0 h) : EReal))

theorem v10_apply (b : Fin 4) (s : Fin 2048) (h : Fin 8) :
    val_main_v10 (F := Ideal) x0 x1 x2 x3 (ix3 b s h) = dlog x0 x1 x2 x3 b s h := by
  pointwise [val_main_v10, val_main_call3_v1, val_main_call3_v0]
  rw [v9_apply, gate_apply, EReal.neg_mul, neg_neg]
  rfl

theorem sitofp_zero : FloatOps.sitofp (F := Ideal) .f32 0#32 = (0 : EReal) := by
  show (((0#32).toInt : ℝ) : EReal) = 0
  simp

/-- A sum over the first two of three axes, read at one place. -/
theorem reduceAdd_first_two {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  refine (Finset.sum_filter_eq_sum_of_fiber _ (fun p : Fin n0 × Fin n1 => ix3 p.1 p.2 k)
    (fun _ _ e => Prod.ext (congrFun e 0) (congrFun e 1)) (fun i => ?_) v).trans (by simp only [Fintype.sum_prod_type])
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

theorem v11_apply (h : Fin 8) : val_main_v11 (F := Ideal) x0 x1 x2 x3 (ix1 h) = ∑ b, ∑ s, dlog x0 x1 x2 x3 b s h := by
  pointwise [val_main_v11, val_main_cst]
  rw [reduceAdd_first_two, zero_add]
  simp only [v10_apply]

theorem v13_apply (h : Fin 8) : val_main_v13 (F := Ideal) x0 x1 x2 x3 (ix1 h) = ∑ b, ∑ s, dlog x0 x1 x2 x3 b s h := by
  rw [← v11_apply]
  pointwise [val_main_v13, val_main_cst_0]
  rw [reduceAdd_first_two, zero_add]
  pointwise [val_main_v12]
  simp

/-- The gradient of the bias, padded. -/
theorem v20_apply (l : Fin 128) :
    val_main_v20 (F := Ideal) x0 x1 x2 x3 (ix2 0 l) = if h : l.val < 8 then ∑ b, ∑ s, dlog x0 x1 x2 x3 b s ⟨l.val, h⟩ else 0 := by
  pointwise [val_main_v20, val_main_v14, val_main_call5_v0, val_main_c_1]
  rw [sitofp_zero]
  by_cases h : l.val < 8
  · rw [dif_pos h, dif_pos h, v13_apply]
  · rw [dif_neg h, dif_neg h]

/-- The gradient of the logits among the packed gradient's columns. -/
theorem v19_inner (b : Fin 4) (s : Fin 2048) (l : Fin 256) {hl : 5120 + l.val < 5376} :
    val_main_v19 (F := Ideal) x0 x1 x2 x3 x4 (ix2 (brow b s) ⟨5120 + l.val, hl⟩) = if h : l.val < 8 then dlog x0 x1 x2 x3 b s ⟨l.val, h⟩ else 0 := by
  pointwise [val_main_v19, val_main_v17, val_main_v16, val_main_v15, val_main_call4_v0, val_main_c]
  rw [sitofp_zero]
  by_cases h : l.val < 8
  · rw [dif_pos h, dif_pos ⟨row_lt b s, h⟩, v10_apply]
  · rw [dif_neg h, dif_neg fun hn => h hn.2]

theorem v19_outer (r : Fin 8192) (c : Fin 5376) (h : c.val < 5120) :
    val_main_v19 (F := Ideal) x0 x1 x2 x3 x4 (ix2 r c) = x4 (ix2 r c) := by
  pointwise [val_main_v19, val_main_v18]
  rw [dif_pos h]

end Reference

end Cert.Forget

end
-- ==== Proof.ForgetBwdValue.lean ====
/- What the gates' backward kernel leaves in its two arrays: the derivative of the gates' own lines. -/
module

public import proofs.«01_k».proof.Proof.ForgetMath
public import proofs.«01_k».proof.Proof.Gen.ForgetBwdIdeal.Value
public import proofs.«01_k».proof.Proof.Gen.ForgetBwdRefIdeal.Run
public import proofs.«01_k».proof.Defs

@[expose] public section

set_option maxRecDepth 16384

noncomputable section

open Idealize.ShloMosaic Idealize.ShloMosaic.TcCoe Idealize.SL.Sem Idealize.ShloMosaic.StableHlo Cert.Reals
open Idealize.ShloMosaic.Pipeline (Dat)

namespace Cert.ForgetBwdIdeal.Value

open Cert.ForgetBwdIdeal Cert.ForgetBwdIdeal.Gen Cert.Forget

variable (m : (ℓ : Loc nD τ sig) → Buf (Elt Ideal) ℓ)

/-- The five argument arrays of device `c`. -/
abbrev ak (c : Dev nD) : FVec Ideal S4x8x2048 .f32 := m ((c : Thread nD τ).loc main_arg0)
abbrev aq (c : Dev nD) : FVec Ideal S8192x8 .f32 := m ((c : Thread nD τ).loc main_arg1)
abbrev af (c : Dev nD) : FVec Ideal S8192x8 .f32 := m ((c : Thread nD τ).loc main_arg2)
abbrev ab (c : Dev nD) : FVec Ideal S1x8 .f32 := m ((c : Thread nD τ).loc main_arg3)
abbrev ap (c : Dev nD) : FVec Ideal S8192x5376 .bf16 := m ((c : Thread nD τ).loc main_arg4)

theorem idx : ∀ t : Fin cfg0.N, win0_0.index t = ![t.val / 2, 0, 0] ∧ win0_1.index t = ![t.val / 2, 0] ∧ win0_2.index t = ![t.val / 2, 0]
    ∧ win0_3.index t = ![0, 0] ∧ win0_4.index t = ![t.val / 2, 40 + t.val % 2] ∧ win0_5.index t = ![0, 0] ∧ t.val < 8 :=
  (by decide +kernel : ∀ t : Fin grid0.N, _)

/-- The zero the host pads with. -/
def zero : FVec Ideal S_ .f32 := sitofp .f32 (constantI S_ 32 0#32)

theorem V_v0 (c : Dev nD) : V m c main_v0 = pad S8192x128 ![0, 0] ![0, 120] ![0, 0] (aq m c) zero pads_S8192x8_S8192x128_000_01200 h_S_ := by
  unfold V
  simp only [hostOps0, hostOps0_1, hostOps0_2, hostOps0_3, hostOps0_4, hostOps0_5, hostOps0_6, List.flatten_cons, List.flatten_nil, List.append_nil, List.cons_append, List.nil_append]
  after_results_simp
  rfl
theorem V_v1 (c : Dev nD) : V m c main_v1 = pad S8192x256 ![0, 0] ![0, 248] ![0, 0] (af m c) zero pads_S8192x8_S8192x256_000_02480 h_S_ := by
  unfold V
  simp only [hostOps0, hostOps0_1, hostOps0_2, hostOps0_3, hostOps0_4, hostOps0_5, hostOps0_6, List.flatten_cons, List.flatten_nil, List.append_nil, List.cons_append, List.nil_append]
  after_results_simp
  rfl
theorem V_v2 (c : Dev nD) : V m c main_v2 = pad S1x256 ![0, 0] ![0, 248] ![0, 0] (ab m c) zero pads_S1x8_S1x256_000_02480 h_S_ := by
  unfold V
  simp only [hostOps0, hostOps0_1, hostOps0_2, hostOps0_3, hostOps0_4, hostOps0_5, hostOps0_6, List.flatten_cons, List.flatten_nil, List.append_nil, List.cons_append, List.nil_append]
  after_results_simp
  rfl
theorem V_v3 (c : Dev nD) : V m c main_v3_0 = ap m c := by
  unfold V
  simp only [hostOps0, hostOps0_1, hostOps0_2, hostOps0_3, hostOps0_4, hostOps0_5, hostOps0_6, List.flatten_cons, List.flatten_nil, List.append_nil, List.cons_append, List.nil_append]
  after_results_simp
  rfl

section Blocks
variable (c : Dev nD) (t : Fin cfg0.N)

/-- The sequence and the half of a point. -/
def tb : Fin 4 := ⟨t.val / 2, by have := (idx t).2.2.2.2.2.2; omega⟩

theorem blk0 (h : Fin 8) (s : Fin 2048) : (show FVec Ideal S1x8x2048 .f32 from iblk m c 0 t) (ix3 0 h s) = ak m c (ix3 (tb t) h s) := by
  blk_point [iblk, V, idx t]
  all_goals simp only [tb] <;> omega

theorem blk1 (r : Fin 2048) (l : Fin 128) (h : Fin 8) (hl : l.val = h.val) :
    (show FVec Ideal S2048x128 .f32 from iblk m c 1 t) (ix2 r l) = aq m c (ix2 (brow (tb t) r) h) := by
  have e : (show FVec Ideal S2048x128 .f32 from iblk m c 1 t) (ix2 r l) = (show FVec Ideal S8192x128 .f32 from V m c main_v0) (ix2 (brow (tb t) r) l) := by
    blk_simp [iblk, idx t]
    refine congrArg (show FVec Ideal S8192x128 .f32 from V m c main_v0) ?_
    blk_ext [idx t]
    all_goals simp only [tb] <;> omega
  rw [e, V_v0]
  have := h.isLt
  pointwise []
  rw [dif_pos ⟨row_lt _ _, by omega⟩]
  exact congrArg (fun n : Fin 8 => aq m c (ix2 (brow (tb t) r) n)) (Fin.ext hl)

theorem blk2 (r : Fin 2048) (l : Fin 256) (h : Fin 8) (hl : l.val = h.val) :
    (show FVec Ideal S2048x256 .f32 from iblk m c 2 t) (ix2 r l) = af m c (ix2 (brow (tb t) r) h) := by
  have e : (show FVec Ideal S2048x256 .f32 from iblk m c 2 t) (ix2 r l) = (show FVec Ideal S8192x256 .f32 from V m c main_v1) (ix2 (brow (tb t) r) l) := by
    blk_simp [iblk, idx t]
    refine congrArg (show FVec Ideal S8192x256 .f32 from V m c main_v1) ?_
    blk_ext [idx t]
    all_goals simp only [tb] <;> omega
  rw [e, V_v1]
  have := h.isLt
  pointwise []
  rw [dif_pos ⟨row_lt _ _, by omega⟩]
  exact congrArg (fun n : Fin 8 => af m c (ix2 (brow (tb t) r) n)) (Fin.ext hl)

theorem blk3 (l : Fin 256) (h : Fin 8) (hl : l.val = h.val) :
    (show FVec Ideal S1x256 .f32 from iblk m c 3 t) (ix2 0 l) = ab m c (ix2 0 h) := by
  have e : (show FVec Ideal S1x256 .f32 from iblk m c 3 t) (ix2 0 l) = (show FVec Ideal S1x256 .f32 from V m c main_v2) (ix2 0 l) := by
    blk_simp [iblk, idx t]
    refine congrArg (show FVec Ideal S1x256 .f32 from V m c main_v2) ?_
    blk_ext [idx t]
    all_goals simp only [tb] <;> omega
  rw [e, V_v2]
  have := h.isLt
  pointwise []
  rw [dif_pos (by omega)]
  exact congrArg (fun n : Fin 8 => ab m c (ix2 0 n)) (Fin.ext hl)

end Blocks

theorem ld2 (x : FVec Ideal S2048x256 .f32) (r : Fin 2048) (l : Fin 128) (L : Fin 256) (hl : L.val = l.val) :
    (View.ld (Val := Elt Ideal) (S := S2048x256) (e' := .f32) x (Rect.unit (s := S2048x256) ![0, 0] ![2048, 128] inb_S2048x256_S2048x128_0_0) : FVec Ideal _ .f32) (ix2 r l) = x (ix2 r L) := by
  refine congrArg x (funext fun a => Fin.ext ?_)
  fin_cases a <;> simp [Rect.unit, LoadRect.idx, hl]
theorem ld3 (x : FVec Ideal S1x256 .f32) (l : Fin 128) (L : Fin 256) (hl : L.val = l.val) :
    (View.ld (Val := Elt Ideal) (S := S1x256) (e' := .f32) x (Rect.unit (s := S1x256) ![0, 0] ![1, 128] inb_S1x256_S1x128_0_0) : FVec Ideal _ .f32) (ix2 0 l) = x (ix2 0 L) := by
  refine congrArg x (funext fun a => Fin.ext ?_)
  fin_cases a <;> simp [Rect.unit, LoadRect.idx, hl]

theorem coord : ∀ t : Fin cfg0.N, (grid0.coords t 1).val = t.val % 2 := (by decide +kernel : ∀ t : Fin grid0.N, _)

/-- The entries a point computes. -/
def entries (c : Dev nD) (t : Fin cfg0.N) : FVec Ideal S2048x128 .f32 :=
  k0_pay1 (F := Ideal) (BitVec.ofNat 32 (grid0.coords t 1).val)
    (k0_pay9 (iota Kind.tc S2048x128 32 [0] iota_S2048x128_d0_w32) (k0_pay5 (iblk m c 0 t) (iblk m c 1 t)) k0_pay6 (k0_pay7 (iblk m c 0 t) (iblk m c 1 t)) k0_pay8)
    (k0_pay10 (View.ld (iblk m c 2 t) (Rect.unit ![0, 0] ![2048, 128] inb_S2048x256_S2048x128_0_0)))
    (View.ld (iblk m c 3 t) (Rect.unit ![0, 0] ![1, 128] inb_S1x256_S1x128_0_0))

theorem entries_apply (c : Dev nD) (t : Fin cfg0.N) (r : Fin 2048) (l : Fin 128) :
    entries m c t (ix2 r l) = if t.val % 2 = 0 then (if h : l.val < 8 then dlog (ak m c) (aq m c) (af m c) (ab m c) (tb t) r ⟨l.val, h⟩ else 0) else 0 := by
  unfold entries
  rw [pay1_apply, coord]
  by_cases h2 : t.val % 2 = 0
  · rw [if_pos h2, if_pos (by rw [h2])]
    by_cases h : l.val < 8
    · rw [if_pos h, dif_pos h, steps_eq, steps_apply, pay10_eq]
      have e0 : (fun r => base (iblk m c 0 t) (iblk m c 1 t) (ix2 r l) : Fin 2048 → EReal)
          = fun s => (aq m c (ix2 (brow (tb t) s) ⟨l.val, h⟩) : EReal) - ak m c (ix3 (tb t) ⟨l.val, h⟩ s) := by
        funext s
        rw [base_apply _ _ s l ⟨l.val, h⟩ rfl]
        exact congrArg₂ (fun a b : EReal => a - b) (blk1 m c t s l ⟨l.val, h⟩ rfl) (blk0 m c t ⟨l.val, h⟩ s)
      have e2 : View.ld (iblk m c 2 t) (Rect.unit ![0, 0] ![2048, 128] inb_S2048x256_S2048x128_0_0) (ix2 r l) = af m c (ix2 (brow (tb t) r) ⟨l.val, h⟩) := by
        exact (ld2 _ r l ⟨l.val, by omega⟩ rfl).trans (blk2 m c t r ⟨l.val, by omega⟩ ⟨l.val, h⟩ rfl)
      have e3 : View.ld (iblk m c 3 t) (Rect.unit ![0, 0] ![1, 128] inb_S1x256_S1x128_0_0) (ix2 0 l) = ab m c (ix2 0 ⟨l.val, h⟩) := by
        exact (ld3 _ l ⟨l.val, by omega⟩ rfl).trans (blk3 m c t ⟨l.val, by omega⟩ ⟨l.val, h⟩ rfl)
      rw [e0, e2, e3]
      rfl
    · rw [if_neg h, dif_neg h]
  · rw [if_neg h2, if_neg (by
      have : t.val % 2 = 1 := by omega
      rw [this]; decide)]

theorem pay2_eq (a : BitVec 32) (v74 v76 : FVec Ideal S2048x128 .f32) (v77 : Vec Ideal S1x128 .f32) (r : Fin 2048) (l : Fin 128) :
    k0_pay2 (F := Ideal) a v74 v76 v77 (ix2 r l) = k0_pay1 (F := Ideal) a v74 v76 v77 (ix2 r l) := rfl

theorem final4 (c : Dev nD) : (dats m 0 c).arrAt 4 cfg0.N
    = Cert.ForgetBwdRefIdeal.Read.val_main_v19 (F := Ideal) (ak m c) (aq m c) (af m c) (ab m c) (ap m c) := by
  refine (dats m 0 c).arrAt_eq_of_coversWhere_of_agree 4 _ (fun β => 40 ≤ β (1 : Fin 2) ∧ β (1 : Fin 2) < 42) (by decide +kernel) (fun t _ y => ?_) (fun j hj => ?_)
  · blk_simp
    obtain ⟨r, l, rfl⟩ : ∃ (r : Fin 2048) (l : Fin 128), y = ix2 r l := ⟨y 0, y 1, eq_ix2 y⟩
    have hL : t.val % 2 * 128 + l.val < 256 := by omega
    have he : ((View.whole main_v3_0).slice (win0_4.rect t)).emb (ix2 r l)
        = (ix2 (brow (tb t) r) ⟨5120 + (⟨t.val % 2 * 128 + l.val, hL⟩ : Fin 256).val, by show 5120 + (t.val % 2 * 128 + l.val) < 5376; omega⟩ : S8192x5376.Idx) := by
      blk_ext [idx t]
      all_goals simp only [tb] <;> omega
    have key : entries m c t (ix2 r l) = Cert.ForgetBwdRefIdeal.Read.val_main_v19 (F := Ideal) (ak m c) (aq m c) (af m c) (ab m c) (ap m c)
        (((View.whole main_v3_0).slice (win0_4.rect t)).emb (ix2 r l)) := by
      rw [he, v19_inner, entries_apply]
      by_cases h2 : t.val % 2 = 0
      · simp only [h2, Nat.zero_mul, Nat.zero_add, if_true]
      · rw [if_neg h2, dif_neg (by show ¬ t.val % 2 * 128 + l.val < 8; omega)]
    rw [after0_4]
    by_cases h : t.val % 8 = 0
    · rw [outsAt0_A m c t h]; frame_out; exact key
    · rw [outsAt0_B m c t h]; frame_out; exact key
  · have e : (dats m 0 c).A 4 = ap m c := (A_eq m c 4).trans (V_v3 m c)
    rw [e]
    obtain ⟨r, k, rfl⟩ : ∃ (r : Fin 8192) (k : Fin 5376), j = ix2 r k := ⟨j 0, j 1, eq_ix2 j⟩
    refine (v19_outer (ak m c) (aq m c) (af m c) (ab m c) (ap m c) r k ?_).symm
    by_contra h
    refine hj ?_
    rw [Pipeline.Window.cell_apply]
    show 40 ≤ k.val / 128 ∧ k.val / 128 < 42
    omega

theorem pay3_zero (l : Fin 128) : k0_pay3 (F := Ideal) (ix2 0 l) = (0 : EReal) := by pointwise [k0_pay3]

/-- The gradient of the bias: the points' column sums added up. -/
theorem final5 (c : Dev nD) : (dats m 0 c).arrAt 5 cfg0.N
    = Cert.ForgetBwdRefIdeal.Read.val_main_v20 (F := Ideal) (ak m c) (aq m c) (af m c) (ab m c) := by
  refine (dats m 0 c).arrAt_eq_of_after_last 5 t0_7 (by decide +kernel) _ fun j => ?_
  blk_simp
  obtain ⟨l, rfl⟩ : ∃ l : Fin 128, j = ix2 0 l := ⟨j 1, by rw [eq_ix2 j]; congr 1; exact Subsingleton.elim _ _⟩
  rw [after0_5, Pipeline.eq_sum_fin_of_reset_step_apply_last (fun n h => (outsAt0 m c n h).2) 8 (fun _ => (0 : EReal))
      (fun t j => (∑ r, entries m c t (ix2 r (j 1)) : EReal))
    (fun t h j => by
      rw [outsAt0_A m c t h]; frame_out
      obtain ⟨l, rfl⟩ : ∃ l : Fin 128, j = ix2 0 l := ⟨j 1, by rw [eq_ix2 j]; congr 1; exact Subsingleton.elim _ _⟩
      rw [pay4_apply, pay3_zero]; rfl)
    (fun t h j => by
      rw [outsAt0_B m c t h]; frame_out
      obtain ⟨l, rfl⟩ : ∃ l : Fin 128, j = ix2 0 l := ⟨j 1, by rw [eq_ix2 j]; congr 1; exact Subsingleton.elim _ _⟩
      rw [pay4_apply]; rfl)
    (le_of_eq N_0) t0_7 rfl (ix2 0 l), zero_add, v20_apply]
  have e : ∀ t : Fin 8, (∑ r, entries m c (Fin.cast N_0.symm t) (ix2 r l))
      = if t.val % 2 = 0 then (if h : l.val < 8 then ∑ r, dlog (ak m c) (aq m c) (af m c) (ab m c) (tb (Fin.cast N_0.symm t)) r ⟨l.val, h⟩ else 0) else 0 := by
    intro t
    simp only [entries_apply]
    by_cases h2 : t.val % 2 = 0 <;> by_cases h : l.val < 8 <;> simp [h2, h]
  have e' : (∑ t : Fin 8, ∑ r, entries m c (Fin.cast N_0.symm t) (ix2 r l))
      = if h : l.val < 8 then ∑ b, ∑ s, dlog (ak m c) (aq m c) (af m c) (ab m c) b s ⟨l.val, h⟩ else 0 := by
   simp only [e]
   by_cases h : l.val < 8
   · simp only [dif_pos h]
     rw [show (∑ b : Fin 4, ∑ s, dlog (ak m c) (aq m c) (af m c) (ab m c) b s ⟨l.val, h⟩) = _ from Fin.sum_univ_four _]
     rw [Fin.sum_univ_eight]
     simp
     rfl
   · simp [dif_neg h]
  exact e'

end Cert.ForgetBwdIdeal.Value

end
-- ==== Proof.ForgetBwdClaims.lean ====
/- The claims about ForgetBwd. -/
module

public import proofs.«01_k».proof.Proof.ForgetBwdValue
public import proofs.«01_k».proof.Proof.Gen.ForgetBwd.Frame
public import proofs.«01_k».proof.Proof.Gen.ForgetBwdIdeal.Value
public import proofs.«01_k».proof.Proof.Gen.ForgetBwdRefIdeal.Run
public import proofs.«01_k».proof.Proof.Gen.ForgetBwdRefIdeal.Read
public import proofs.«01_k».proof.Defs
public import Idealize.ShloMosaic.Lib.Claim

@[expose] public section

set_option maxRecDepth 16384

noncomputable section

open Idealize.ShloMosaic Idealize.ShloMosaic.TcCoe Idealize.SL.Sem Cert.Reals

namespace Cert.Proof.ForgetBwd

theorem frame : Cert.quiescent_ForgetBwd := fun m ρ _ => Cert.ForgetBwd.Gen.frame m ρ
theorem frame_ideal : Cert.quiescent_ForgetBwdIdeal := fun m ρ _ => Cert.ForgetBwdIdeal.Gen.frame m ρ
theorem frame_ref : Cert.quiescent_ForgetBwdRefIdeal := fun m ρ _ =>
  (θ_run Cert.ForgetBwdRefIdeal.defs _ _).mono (fun r h => ⟨fun c => (h c).2.2, sem_eq_zero_of_no_sems (by decide) r.2⟩)
    (Cert.ForgetBwdRefIdeal.Value.run (F := Ideal) m ρ)

theorem preserves : Cert.preserves_ForgetBwd_ForgetBwdIdeal := trivial

theorem algebraic : Cert.algebraic_ForgetBwdIdeal_ForgetBwdRefIdeal := by
  intro m g m' g' _ hagree
  refine ⟨_, _, (θ_run _ _ _).mono (fun _ h c => h c) (Cert.ForgetBwdIdeal.Value.run_blocks m g), ?_⟩
  refine (θ_run _ _ _).mono (fun _ h c => ?_) (Cert.ForgetBwdRefIdeal.Value.run (F := Ideal) m' g')
  refine ⟨(h c).1.trans ?_, (h c).2.1.trans ?_, (h c).2.2⟩
  · rw [Cert.ForgetBwdRefIdeal.Read.val_main_v19_eq, (hagree c).1, (hagree c).2.1, (hagree c).2.2.1, (hagree c).2.2.2.1, (hagree c).2.2.2.2]
    exact (Cert.ForgetBwdIdeal.Value.final4 m c).symm
  · rw [Cert.ForgetBwdRefIdeal.Read.val_main_v20_eq, (hagree c).1, (hagree c).2.1, (hagree c).2.2.1, (hagree c).2.2.2.1]
    exact (Cert.ForgetBwdIdeal.Value.final5 m c).symm

end Cert.Proof.ForgetBwd

end
-- ==== Proof.Shift.lean ====
/- Rows moved down or up by a few places, zero where they come from outside: what the kernels' rotate-and-mask pairs compute. -/
module

public import proofs.«01_k».proof.Proof.Reals
public import proofs.«01_k».proof.Proof.Choices

@[expose] public section

set_option maxRecDepth 16384

noncomputable section

open Idealize.ShloMosaic Cert.Reals

namespace Cert.Shift

/-- A column moved down by `k`, zero above. -/
def dn (k : ℕ) (a : Fin 2048 → EReal) (r : Fin 2048) : EReal := if k ≤ r.val then a ⟨r.val - k, by omega⟩ else 0
/-- A column moved up by `k`, zero below. -/
def up (k : ℕ) (a : Fin 2048 → EReal) (r : Fin 2048) : EReal := if h : r.val + k < 2048 then a ⟨r.val + k, h⟩ else 0

theorem dn_congr (k : ℕ) {a b : Fin 2048 → EReal} (h : ∀ r, a r = b r) : dn k a = dn k b := by rw [funext h]
theorem up_congr (k : ℕ) {a b : Fin 2048 → EReal} (h : ∀ r, a r = b r) : up k a = up k b := by rw [funext h]

variable {n : ℕ}

abbrev S (n : ℕ) : Shape := ⟨2, ![2048, n]⟩

def shDn (k : BitVec 32) (hi : (S n).Iotas .tc 32 [0]) (hr : (S n).Rotates 0 none) (x : FVec Ideal (S n) .f32) : FVec Ideal (S n) .f32 :=
  select (cmpi .sge (iota .tc (S n) 32 [0] hi) (broadcast (S n) k)) (dynamicRotate 0 k none x hr) (broadcast (S n) (Scalar.ofBits (F := Ideal) .f32 0x00000000#32))

def shUp (k : BitVec 32) (hi : (S n).Iotas .tc 32 [0]) (hr : (S n).Rotates 0 none) (x : FVec Ideal (S n) .f32) : FVec Ideal (S n) .f32 :=
  select (cmpi .slt (iota .tc (S n) 32 [0] hi) (broadcast (S n) k)) (dynamicRotate 0 k none x hr) (broadcast (S n) (Scalar.ofBits (F := Ideal) .f32 0x00000000#32))

theorem shDn_apply (k : BitVec 32) (hk : k.toNat < 2048) (hi : (S n).Iotas .tc 32 [0]) (hr : (S n).Rotates 0 none) (x : FVec Ideal (S n) .f32)
    (r : Fin 2048) (l : Fin n) : shDn k hi hr x (ix2 r l) = dn k.toNat (fun r => x (ix2 r l)) r := by
  have h := r.isLt
  pointwise [shDn]
  rw [Choices.select_sge r.val k (by omega) (by omega)]
  unfold dn
  by_cases h : k.toNat ≤ r.val
  · rw [if_pos h, if_pos h]
    refine congrArg x (funext fun b => Fin.ext ?_)
    fin_cases b
    · show (r.val + 2048 - k.toNat % 2048) % 2048 = r.val - k.toNat
      omega
    · rfl
  · rw [if_neg h, if_neg h]

theorem shUp_apply (k : BitVec 32) (d : ℕ) (hd : k.toNat + d = 2048) (h0 : 0 < d) (hi : (S n).Iotas .tc 32 [0]) (hr : (S n).Rotates 0 none)
    (x : FVec Ideal (S n) .f32) (r : Fin 2048) (l : Fin n) : shUp k hi hr x (ix2 r l) = up d (fun r => x (ix2 r l)) r := by
  have h := r.isLt
  pointwise [shUp]
  rw [Choices.select_slt r.val k (by omega) (by omega)]
  unfold up
  by_cases h : r.val < k.toNat
  · rw [if_pos h, dif_pos (show r.val + d < 2048 by omega)]
    refine congrArg x (funext fun b => Fin.ext ?_)
    fin_cases b
    · show (r.val + 2048 - k.toNat % 2048) % 2048 = r.val + d
      omega
    · rfl
  · rw [if_neg h, dif_neg (show ¬ r.val + d < 2048 by omega)]

/-- The three-tap convolution over the past, -/
def cv (w : Fin 3 → EReal) (a : Fin 2048 → EReal) (r : Fin 2048) : EReal := (w 2 * a r + w 0 * dn 2 a r) + w 1 * dn 1 a r
/-- and its transpose. -/
def cvT (w : Fin 3 → EReal) (a : Fin 2048 → EReal) (r : Fin 2048) : EReal := (w 2 * a r + w 0 * up 2 a r) + w 1 * up 1 a r

end Cert.Shift

end
-- ==== Proof.ConvMath.lean ====
/- The convolution mix's gradient, entry by entry: the kernel's and the reference's. -/
module

public import proofs.«01_k».proof.Proof.Shift
public import proofs.«01_k».proof.Proof.ForgetMath
public import proofs.«01_k».proof.Proof.AttnBwdHost
public import proofs.«01_k».proof.Proof.Gen.ConvBwdIdeal.Skeleton
public import proofs.«01_k».proof.Proof.Gen.ConvBwdRefIdeal.Read

@[expose] public section

set_option maxRecDepth 16384

noncomputable section

open Idealize.ShloMosaic Cert.Reals

namespace Cert.Conv

open Cert.Shift
open Cert.Forget (reduceAdd_first_two)
open Cert.AttnBwdIdeal.Host (brow pl pcol row_div row_mod)

/-- What row `j` of the weights is multiplied with: the column moved down by two places, by one, or not at all. -/
def tap (j : Fin 3) (a : Fin 2048 → EReal) (r : Fin 2048) : EReal := ![dn 2 a r, dn 1 a r, a r] j

section Kernel
open Cert.ConvBwdIdeal Cert.ConvBwdIdeal.Gen

abbrev B := FVec Ideal S2048x128 .bf16
abbrev Fl := FVec Ideal S2048x128 .f32

theorem pay6_apply (v4 v7 : B) (r : Fin 2048) (l : Fin 128) : k0_pay6 (F := Ideal) v4 v7 (ix2 r l) = (v4 (ix2 r l) * v7 (ix2 r l) : EReal) := by
  pointwise [k0_pay6, k0_pay4, k0_pay5]
theorem pay8_apply (v1 v11 : B) (r : Fin 2048) (l : Fin 128) : k0_pay8 (F := Ideal) v1 v11 (ix2 r l) = (v11 (ix2 r l) * v1 (ix2 r l) : EReal) := by
  pointwise [k0_pay8, k0_pay7]

def dn2 (x : Fl) : Fl := shDn (n := 128) 2#32 iota_S2048x128_d0_w32 rotates_S2048x128_d0 x
def dn1 (x : Fl) : Fl := shDn (n := 128) 1#32 iota_S2048x128_d0_w32 rotates_S2048x128_d0 x
def up2 (x : Fl) : Fl := shUp (n := 128) 2046#32 iota_S2048x128_d0_w32 rotates_S2048x128_d0 x
def up1 (x : Fl) : Fl := shUp (n := 128) 2047#32 iota_S2048x128_d0_w32 rotates_S2048x128_d0 x

theorem dn2_apply (x : Fl) (r : Fin 2048) (l : Fin 128) : dn2 x (ix2 r l) = dn 2 (fun r => x (ix2 r l)) r :=
  shDn_apply 2#32 (by decide) _ _ x r l
theorem dn1_apply (x : Fl) (r : Fin 2048) (l : Fin 128) : dn1 x (ix2 r l) = dn 1 (fun r => x (ix2 r l)) r :=
  shDn_apply 1#32 (by decide) _ _ x r l
theorem up2_apply (x : Fl) (r : Fin 2048) (l : Fin 128) : up2 x (ix2 r l) = up 2 (fun r => x (ix2 r l)) r :=
  shUp_apply 2046#32 2 (by decide) (by decide) _ _ x r l
theorem up1_apply (x : Fl) (r : Fin 2048) (l : Fin 128) : up1 x (ix2 r l) = up 1 (fun r => x (ix2 r l)) r :=
  shUp_apply 2047#32 1 (by decide) (by decide) _ _ x r l

/-- A row of the weights, over all rows. -/
def row0 (w : FVec Ideal S3x128 .f32) : Fl := broadcastTo S2048x128 (extractStridedSlice S1x128 ![0, 0] w slices_S3x128_o0_0_S1x128) broadcasts_S1x128_S2048x128
def row1 (w : FVec Ideal S3x128 .f32) : Fl := broadcastTo S2048x128 (extractStridedSlice S1x128 ![1, 0] w slices_S3x128_o1_0_S1x128) broadcasts_S1x128_S2048x128
def row2 (w : FVec Ideal S3x128 .f32) : Fl := broadcastTo S2048x128 (extractStridedSlice S1x128 ![2, 0] w slices_S3x128_o2_0_S1x128) broadcasts_S1x128_S2048x128
theorem row0_apply (w : FVec Ideal S3x128 .f32) (r : Fin 2048) (l : Fin 128) : row0 w (ix2 r l) = w (ix2 0 l) := by pointwise [row0]
theorem row1_apply (w : FVec Ideal S3x128 .f32) (r : Fin 2048) (l : Fin 128) : row1 w (ix2 r l) = w (ix2 1 l) := by pointwise [row1]
theorem row2_apply (w : FVec Ideal S3x128 .f32) (r : Fin 2048) (l : Fin 128) : row2 w (ix2 r l) = w (ix2 2 l) := by pointwise [row2]

theorem pay9_eq (w : FVec Ideal S3x128 .f32) (v1 v11 : B) : k0_pay9 (F := Ideal) w v1 v11
    = addf (F := Ideal) (φ := .f32) (addf (F := Ideal) (φ := .f32) (mulf (F := Ideal) (φ := .f32) (row2 w) (k0_pay8 v1 v11)) (mulf (F := Ideal) (φ := .f32) (row0 w) (up2 (k0_pay8 v1 v11))))
      (mulf (F := Ideal) (φ := .f32) (row1 w) (up1 (k0_pay8 v1 v11))) := rfl

theorem pay9_apply (w : FVec Ideal S3x128 .f32) (v1 v11 : B) (r : Fin 2048) (l : Fin 128) :
    k0_pay9 (F := Ideal) w v1 v11 (ix2 r l) = cvT (fun j => w (ix2 j l)) (fun r => (v11 (ix2 r l) * v1 (ix2 r l) : EReal)) r := by
  rw [pay9_eq]
  show (row2 w (ix2 r l) * k0_pay8 (F := Ideal) v1 v11 (ix2 r l) + row0 w (ix2 r l) * up2 (k0_pay8 v1 v11) (ix2 r l)
    + row1 w (ix2 r l) * up1 (k0_pay8 v1 v11) (ix2 r l) : EReal) = _
  rw [up2_apply, up1_apply, row0_apply, row1_apply, row2_apply]
  simp only [pay8_apply]
  rfl

theorem pay12_eq (w : FVec Ideal S3x128 .f32) (z v13 v40 : Fl) : k0_pay12 (F := Ideal) w z v13 v40 (k0_pay11 w)
    = truncf .bf16 (mulf (F := Ideal) (φ := .f32) v13 (addf (F := Ideal) (φ := .f32) (addf (F := Ideal) (φ := .f32) v40 (mulf (F := Ideal) (φ := .f32) (row0 w) (dn2 z)))
      (mulf (F := Ideal) (φ := .f32) (row1 w) (dn1 z)))) bitsLt_bf16_f32 := rfl
theorem pay10_eq (w : FVec Ideal S3x128 .f32) (v4 v7 : B) : k0_pay10 (F := Ideal) w v4 v7 = mulf (F := Ideal) (φ := .f32) (row2 w) (k0_pay6 v4 v7) := rfl

theorem pay12_apply (w : FVec Ideal S3x128 .f32) (v4 v7 v11 : B) (r : Fin 2048) (l : Fin 128) :
    k0_pay12 (F := Ideal) w (k0_pay6 v4 v7) (k0_pay7 v11) (k0_pay10 w v4 v7) (k0_pay11 w) (ix2 r l)
      = (v11 (ix2 r l) * cv (fun j => w (ix2 j l)) (fun r => (v4 (ix2 r l) * v7 (ix2 r l) : EReal)) r : EReal) := by
  rw [pay12_eq, pay10_eq]
  show (k0_pay7 (F := Ideal) v11 (ix2 r l) * (row2 w (ix2 r l) * k0_pay6 (F := Ideal) v4 v7 (ix2 r l) + row0 w (ix2 r l) * dn2 (k0_pay6 v4 v7) (ix2 r l)
    + row1 w (ix2 r l) * dn1 (k0_pay6 v4 v7) (ix2 r l)) : EReal) = _
  rw [dn2_apply, dn1_apply, row0_apply, row1_apply, row2_apply]
  simp only [pay6_apply]
  have e : k0_pay7 (F := Ideal) v11 (ix2 r l) = v11 (ix2 r l) := by pointwise [k0_pay7]
  rw [e]
  rfl

theorem pay13_apply (v7 : B) (d : Fl) (r : Fin 2048) (l : Fin 128) : k0_pay13 (F := Ideal) (k0_pay5 v7) d (ix2 r l) = (d (ix2 r l) * v7 (ix2 r l) : EReal) := by
  pointwise [k0_pay13, k0_pay5]
theorem pay14_apply (v4 : B) (d : Fl) (r : Fin 2048) (l : Fin 128) : k0_pay14 (F := Ideal) (k0_pay4 v4) d (ix2 r l) = (d (ix2 r l) * v4 (ix2 r l) : EReal) := by
  pointwise [k0_pay14, k0_pay4]
theorem pay15_apply (j : Fin 3) (l : Fin 128) : k0_pay15 (F := Ideal) (ix2 j l) = (0 : EReal) := by pointwise [k0_pay15]

def addRow (o : FVec Ideal S1x128 .f32) (x : Fl) : FVec Ideal S1x128 .f32 :=
  addf (F := Ideal) (φ := .f32) (shapeCast S1x128 o shapeCasts_S1x128_S1x128)
    (shapeCast S1x128 (multiReduction (F := Ideal) (φ := .f32) .add [0] S128 x 0x00000000#32 reduces_S2048x128_S128 (.inl rfl) rfl) shapeCasts_S128_S1x128)
theorem addRow_apply (o : FVec Ideal S1x128 .f32) (x : Fl) (l : Fin 128) : addRow o x (ix2 0 l) = (o (ix2 0 l) + ∑ r, x (ix2 r l) : EReal) := by
  pointwise [addRow]

theorem pay1_eq (du z : Fl) (o : FVec Ideal S1x128 .f32) : k0_pay1 (F := Ideal) du (k0_pay16 o) k0_pay17 (k0_pay18 z) (Scalar.ofBits .f32 0x00000000#32)
    = addRow o (mulf (F := Ideal) (φ := .f32) du (dn2 z)) := rfl
theorem pay2_eq (du z : Fl) (o : FVec Ideal S1x128 .f32) : k0_pay2 (F := Ideal) z du o = addRow o (mulf (F := Ideal) (φ := .f32) du (dn1 z)) := rfl
theorem pay3_eq (du z : Fl) (o : FVec Ideal S1x128 .f32) : k0_pay3 (F := Ideal) z du o = addRow o (mulf (F := Ideal) (φ := .f32) du z) := rfl

/-- What a point adds to row `j` of the weights' gradient. -/
def part (du z : Fl) (j : Fin 3) (l : Fin 128) : EReal := ∑ r : Fin 2048, (du (ix2 r l) * tap j (fun r => z (ix2 r l)) r : EReal)

theorem pay1_apply (du z : Fl) (o : FVec Ideal S1x128 .f32) (l : Fin 128) :
    k0_pay1 (F := Ideal) du (k0_pay16 o) k0_pay17 (k0_pay18 z) (Scalar.ofBits .f32 0x00000000#32) (ix2 0 l) = (o (ix2 0 l) + part du z 0 l : EReal) := by
  rw [pay1_eq, addRow_apply]
  refine congrArg (fun s : EReal => (o (ix2 0 l) + s : EReal)) (Finset.sum_congr rfl fun r _ => ?_)
  show (du (ix2 r l) * dn2 z (ix2 r l) : EReal) = _
  rw [dn2_apply]; rfl
theorem pay2_apply (du z : Fl) (o : FVec Ideal S1x128 .f32) (l : Fin 128) :
    k0_pay2 (F := Ideal) z du o (ix2 0 l) = (o (ix2 0 l) + part du z 1 l : EReal) := by
  rw [pay2_eq, addRow_apply]
  refine congrArg (fun s : EReal => (o (ix2 0 l) + s : EReal)) (Finset.sum_congr rfl fun r _ => ?_)
  show (du (ix2 r l) * dn1 z (ix2 r l) : EReal) = _
  rw [dn1_apply]; rfl
theorem pay3_apply (du z : Fl) (o : FVec Ideal S1x128 .f32) (l : Fin 128) :
    k0_pay3 (F := Ideal) z du o (ix2 0 l) = (o (ix2 0 l) + part du z 2 l : EReal) := by
  rw [pay3_eq, addRow_apply]
  rfl

end Kernel

section Reference
open Cert.ConvBwdRefIdeal Cert.ConvBwdRefIdeal.Gen Cert.ConvBwdRefIdeal.Read

variable (x0 x1 x2 x3 : FVec Ideal S4x2048x512 .f32) (x4 : FVec Ideal S3x512 .f32) (x5 : FVec Ideal S8192x5376 .bf16)

/-- The mix's inner product and the gradient of the convolution's output, as columns. -/
def zc (b : Fin 4) (c : Fin 512) (r : Fin 2048) : EReal := x2 (ix3 b r c) * x3 (ix3 b r c)
def du (b : Fin 4) (c : Fin 512) (r : Fin 2048) : EReal := x1 (ix3 b r c) * x0 (ix3 b r c)
def wc (c : Fin 512) (j : Fin 3) : EReal := x4 (ix2 j c)

theorem v2_apply (b : Fin 4) (r : Fin 2050) (c : Fin 512) : val_main_v2 (F := Ideal) x2 x3 (ix3 b r c)
    = if h : 2 ≤ r.val then zc x2 x3 b c ⟨r.val - 2, by omega⟩ else 0 := by
  have := r.isLt
  pointwise [val_main_v2, val_main_v1, val_main_cst, val_main_v0]
  by_cases h : r.val < 2
  · rw [dif_pos h, dif_neg (by omega)]
  · rw [dif_neg h, dif_pos (by omega)]; rfl

theorem v4_apply (b : Fin 4) (r : Fin 2048) (c : Fin 512) : val_main_v4 (F := Ideal) x2 x3 (ix3 b r c) = zc x2 x3 b c r := by
  pointwise [val_main_v4]
  rw [v2_apply, dif_pos (by simp)]
  congr 1
  exact Fin.ext (by simp)
theorem v10_apply (b : Fin 4) (r : Fin 2048) (c : Fin 512) : val_main_v10 (F := Ideal) x2 x3 (ix3 b r c) = dn 2 (zc x2 x3 b c) r := by
  pointwise [val_main_v10]
  rw [v2_apply]
  unfold dn
  by_cases h : 2 ≤ r.val
  · rw [dif_pos (by simpa using h), if_pos h]
  · rw [dif_neg (by simpa using h), if_neg h]
theorem v17_apply (b : Fin 4) (r : Fin 2048) (c : Fin 512) : val_main_v17 (F := Ideal) x2 x3 (ix3 b r c) = dn 1 (zc x2 x3 b c) r := by
  pointwise [val_main_v17]
  rw [v2_apply]
  unfold dn
  by_cases h : 1 ≤ r.val
  · rw [dif_pos (by simp; omega), if_pos h]; congr 1; exact Fin.ext (by simp; omega)
  · rw [dif_neg (by simp; omega), if_neg h]

theorem v8_apply (b : Fin 4) (r : Fin 2048) (c : Fin 512) : val_main_v8 (F := Ideal) x4 (ix3 b r c) = x4 (ix2 2 c) := by
  pointwise [val_main_v8, val_main_v7, val_main_v6, val_main_v5]
theorem v50_apply (b : Fin 4) (r : Fin 2048) (c : Fin 512) : val_main_v50 (F := Ideal) x4 (ix3 b r c) = x4 (ix2 2 c) := by
  pointwise [val_main_v50, val_main_v7, val_main_v6, val_main_v5]
theorem v14_apply (b : Fin 4) (r : Fin 2048) (c : Fin 512) : val_main_v14 (F := Ideal) x4 (ix3 b r c) = x4 (ix2 0 c) := by
  pointwise [val_main_v14, val_main_v13, val_main_v12, val_main_v11]
theorem v39_apply (b : Fin 4) (r : Fin 2048) (c : Fin 512) : val_main_v39 (F := Ideal) x4 (ix3 b r c) = x4 (ix2 0 c) := by
  pointwise [val_main_v39, val_main_v13, val_main_v12, val_main_v11]
theorem v21_apply (b : Fin 4) (r : Fin 2048) (c : Fin 512) : val_main_v21 (F := Ideal) x4 (ix3 b r c) = x4 (ix2 1 c) := by
  pointwise [val_main_v21, val_main_v20, val_main_v19, val_main_v18]
theorem v30_apply (b : Fin 4) (r : Fin 2048) (c : Fin 512) : val_main_v30 (F := Ideal) x4 (ix3 b r c) = x4 (ix2 1 c) := by
  pointwise [val_main_v30, val_main_v20, val_main_v19, val_main_v18]

theorem v23_apply (b : Fin 4) (r : Fin 2048) (c : Fin 512) : val_main_v23 (F := Ideal) x2 x3 x4 (ix3 b r c) = cv (wc x4 c) (zc x2 x3 b c) r := by
  show (val_main_v4 (F := Ideal) x2 x3 (ix3 b r c) * val_main_v8 (F := Ideal) x4 (ix3 b r c)
    + val_main_v10 (F := Ideal) x2 x3 (ix3 b r c) * val_main_v14 (F := Ideal) x4 (ix3 b r c)
    + val_main_v17 (F := Ideal) x2 x3 (ix3 b r c) * val_main_v21 (F := Ideal) x4 (ix3 b r c) : EReal) = _
  rw [v4_apply, v8_apply, v10_apply, v14_apply, v17_apply, v21_apply, mul_comm (zc _ _ _ _ _), mul_comm (dn 2 _ _), mul_comm (dn 1 _ _)]
  rfl

theorem v25_apply (b : Fin 4) (r : Fin 2048) (c : Fin 512) : val_main_v25 (F := Ideal) x0 x1 (ix3 b r c) = du x0 x1 b c r := rfl

theorem v35_apply (b : Fin 4) (r : Fin 2048) (c : Fin 512) {hr : 2 + r.val < 2050} :
    val_main_v35 (F := Ideal) x0 x1 x4 (ix3 b ⟨2 + r.val, hr⟩ c) = up 1 (du x0 x1 b c) r * x4 (ix2 1 c) := by
  have := r.isLt
  pointwise [val_main_v35, val_main_cst_4]
  unfold up
  by_cases h : r.val + 1 < 2048
  · rw [dif_pos h, dif_pos (by omega)]
    show (val_main_v25 (F := Ideal) x0 x1 (ix3 b _ c) * val_main_v30 (F := Ideal) x4 (ix3 b _ c) : EReal) = _
    rw [v25_apply, v30_apply]
    congr 2
    exact Fin.ext (by simp; omega)
  · rw [dif_neg h, dif_neg (by omega), zero_mul]
theorem v45_apply (b : Fin 4) (r : Fin 2048) (c : Fin 512) {hr : 2 + r.val < 2050} :
    val_main_v45 (F := Ideal) x0 x1 x4 (ix3 b ⟨2 + r.val, hr⟩ c) = up 2 (du x0 x1 b c) r * x4 (ix2 0 c) := by
  have := r.isLt
  pointwise [val_main_v45, val_main_cst_8]
  unfold up
  by_cases h : r.val + 2 < 2048
  · rw [dif_pos h, dif_pos (by omega)]
    show (val_main_v25 (F := Ideal) x0 x1 (ix3 b _ c) * val_main_v39 (F := Ideal) x4 (ix3 b _ c) : EReal) = _
    rw [v25_apply, v39_apply]
    congr 2
    exact Fin.ext (by simp; omega)
  · rw [dif_neg h, dif_neg (by omega), zero_mul]
theorem v56_apply (b : Fin 4) (r : Fin 2048) (c : Fin 512) {hr : 2 + r.val < 2050} :
    val_main_v56 (F := Ideal) x0 x1 x4 (ix3 b ⟨2 + r.val, hr⟩ c) = du x0 x1 b c r * x4 (ix2 2 c) := by
  have := r.isLt
  pointwise [val_main_v56, val_main_cst_12]
  show (val_main_v25 (F := Ideal) x0 x1 (ix3 b _ c) * val_main_v50 (F := Ideal) x4 (ix3 b _ c) : EReal) = _
  rw [v25_apply, v50_apply]

theorem v59_apply (b : Fin 4) (r : Fin 2048) (c : Fin 512) : val_main_v59 (F := Ideal) x0 x1 x4 (ix3 b r c) = cvT (wc x4 c) (du x0 x1 b c) r := by
  pointwise [val_main_v59]
  show (val_main_v35 (F := Ideal) x0 x1 x4 (ix3 b _ c) + val_main_v45 (F := Ideal) x0 x1 x4 (ix3 b _ c) + val_main_v56 (F := Ideal) x0 x1 x4 (ix3 b _ c) : EReal) = _
  rw [v35_apply, v45_apply, v56_apply, mul_comm (du _ _ _ _ _), mul_comm (up 2 _ _), mul_comm (up 1 _ _)]
  unfold cvT wc
  rw [add_assoc, add_comm, add_comm (x4 (ix2 0 c) * _)]

/-- The three gradients among the packed gradient's columns. -/
theorem v69_inner (b : Fin 4) (r : Fin 2048) (g : Fin 4) (a : Fin 3) (l : Fin 128) {h : (pcol g a l).val < 5376} :
    val_main_v69 (F := Ideal) x0 x1 x2 x3 x4 x5 (ix2 (brow b r) ⟨(pcol g a l).val, h⟩)
      = (![x0 (ix3 b r (pl g l)) * cv (wc x4 (pl g l)) (zc x2 x3 b (pl g l)) r, cvT (wc x4 (pl g l)) (du x0 x1 b (pl g l)) r * x3 (ix3 b r (pl g l)),
        x2 (ix3 b r (pl g l)) * cvT (wc x4 (pl g l)) (du x0 x1 b (pl g l)) r] a : EReal) := by
  have hl := l.isLt
  have hg := g.isLt
  have e : ∀ a : Fin 3, ∀ {h}, (⟨(pcol g a l).val / 384 * 128 + (pcol g a l).val % 128, h⟩ : Fin 512) = pl g l := fun a h =>
    Fin.ext (by have := a.isLt; simp only [pcol, pl]; omega)
  have e1 : (pcol g a l).val / 128 % 3 = a.val := by have := a.isLt; simp only [pcol]; omega
  pointwise [val_main_v69, val_main_v67, val_main_v66, val_main_v65, val_main_v64, val_main_v63, val_main_v62]
  simp only [e, row_div, row_mod, e1]
  fin_cases a
  · show (x0 (ix3 b r (pl g l)) * val_main_v23 (F := Ideal) x2 x3 x4 (ix3 b r (pl g l)) : EReal) = _
    rw [v23_apply]; rfl
  · show (val_main_v59 (F := Ideal) x0 x1 x4 (ix3 b r (pl g l)) * x3 (ix3 b r (pl g l)) : EReal) = _
    rw [v59_apply]; rfl
  · show (x2 (ix3 b r (pl g l)) * val_main_v59 (F := Ideal) x0 x1 x4 (ix3 b r (pl g l)) : EReal) = _
    rw [v59_apply]; rfl

theorem v69_outer (r : Fin 8192) (c : Fin 5376) (h : 1536 ≤ c.val) :
    val_main_v69 (F := Ideal) x0 x1 x2 x3 x4 x5 (ix2 r c) = x5 (ix2 r c) := by
  pointwise [val_main_v69, val_main_v68]
  rw [dif_neg (by omega)]
  congr 2
  exact Fin.ext (by simp; omega)

/-- The gradient of the weights. -/
def gw (j : Fin 3) (c : Fin 512) : EReal := ∑ b, ∑ s, tap j (zc x2 x3 b c) s * du x0 x1 b c s

theorem v32_apply (c : Fin 512) : val_main_v32 (F := Ideal) x0 x1 x2 x3 (ix1 c) = gw x0 x1 x2 x3 1 c := by
  have e : val_main_v28 (F := Ideal) x0 x1 x2 x3 (ix1 c) = gw x0 x1 x2 x3 1 c := by
    pointwise [val_main_v28, val_main_cst_1]
    rw [reduceAdd_first_two, zero_add]
    refine Finset.sum_congr rfl fun b _ => Finset.sum_congr rfl fun s _ => ?_
    show (val_main_v17 (F := Ideal) x2 x3 (ix3 b s c) * val_main_v25 (F := Ideal) x0 x1 (ix3 b s c) : EReal) = _
    rw [v17_apply]; rfl
  rw [← e]
  pointwise [val_main_v32, val_main_cst_2]
  rw [reduceAdd_first_two, zero_add]
  pointwise [val_main_v29]
  simp
theorem v41_apply (c : Fin 512) : val_main_v41 (F := Ideal) x0 x1 x2 x3 (ix1 c) = gw x0 x1 x2 x3 0 c := by
  have e : val_main_v37 (F := Ideal) x0 x1 x2 x3 (ix1 c) = gw x0 x1 x2 x3 0 c := by
    pointwise [val_main_v37, val_main_cst_5]
    rw [reduceAdd_first_two, zero_add]
    refine Finset.sum_congr rfl fun b _ => Finset.sum_congr rfl fun s _ => ?_
    show (val_main_v10 (F := Ideal) x2 x3 (ix3 b s c) * val_main_v25 (F := Ideal) x0 x1 (ix3 b s c) : EReal) = _
    rw [v10_apply]; rfl
  rw [← e]
  pointwise [val_main_v41, val_main_cst_6]
  rw [reduceAdd_first_two, zero_add]
  pointwise [val_main_v38]
  simp
theorem v52_apply (c : Fin 512) : val_main_v52 (F := Ideal) x0 x1 x2 x3 (ix1 c) = gw x0 x1 x2 x3 2 c := by
  have e : val_main_v48 (F := Ideal) x0 x1 x2 x3 (ix1 c) = gw x0 x1 x2 x3 2 c := by
    pointwise [val_main_v48, val_main_cst_9]
    rw [reduceAdd_first_two, zero_add]
    refine Finset.sum_congr rfl fun b _ => Finset.sum_congr rfl fun s _ => ?_
    show (val_main_v4 (F := Ideal) x2 x3 (ix3 b s c) * val_main_v25 (F := Ideal) x0 x1 (ix3 b s c) : EReal) = _
    rw [v4_apply]; rfl
  rw [← e]
  pointwise [val_main_v52, val_main_cst_10]
  rw [reduceAdd_first_two, zero_add]
  pointwise [val_main_v49]
  simp

theorem v55_apply (j : Fin 3) (c : Fin 512) : val_main_v55 (F := Ideal) x0 x1 x2 x3 (ix2 j c) = gw x0 x1 x2 x3 j c := by
  show (val_main_v34 (F := Ideal) x0 x1 x2 x3 (ix2 j c) + val_main_v43 (F := Ideal) x0 x1 x2 x3 (ix2 j c) + val_main_v54 (F := Ideal) x0 x1 x2 x3 (ix2 j c) : EReal) = _
  have e1 : val_main_v34 (F := Ideal) x0 x1 x2 x3 (ix2 j c) = if j = 1 then gw x0 x1 x2 x3 1 c else 0 := by
    pointwise [val_main_v34, val_main_v33, val_main_cst_3]
    fin_cases j <;> simp [v32_apply]
  have e0 : val_main_v43 (F := Ideal) x0 x1 x2 x3 (ix2 j c) = if j = 0 then gw x0 x1 x2 x3 0 c else 0 := by
    pointwise [val_main_v43, val_main_v42, val_main_cst_7]
    fin_cases j <;> simp [v41_apply]
  have e2 : val_main_v54 (F := Ideal) x0 x1 x2 x3 (ix2 j c) = if j = 2 then gw x0 x1 x2 x3 2 c else 0 := by
    pointwise [val_main_v54, val_main_v53, val_main_cst_11]
    fin_cases j <;> simp [v52_apply]
  rw [e0, e1, e2]
  fin_cases j <;> simp

end Reference

end Cert.Conv

end
-- ==== Proof.ConvBwdValue.lean ====
/- What the convolution mix's backward kernel leaves in its two arrays: the derivative of the mix's own lines. -/
module

public import proofs.«01_k».proof.Proof.ConvMath
public import proofs.«01_k».proof.Proof.Gen.ConvBwdIdeal.Value
public import proofs.«01_k».proof.Proof.Gen.ConvBwdRefIdeal.Run
public import proofs.«01_k».proof.Defs

@[expose] public section

set_option maxRecDepth 16384

noncomputable section

open Idealize.ShloMosaic Idealize.ShloMosaic.TcCoe Idealize.SL.Sem Idealize.ShloMosaic.StableHlo Cert.Reals
open Idealize.ShloMosaic.Pipeline (Dat)

namespace Cert.ConvBwdIdeal.Value

open Cert.ConvBwdIdeal Cert.ConvBwdIdeal.Gen Cert.Conv Cert.Shift
open Cert.AttnBwdIdeal.Host (brow pl pcol row_div row_mod)

variable (m : (ℓ : Loc nD τ sig) → Buf (Elt Ideal) ℓ)

/-- The six argument arrays of device `c`. -/
abbrev aa (c : Dev nD) : FVec Ideal S4x2048x512 .f32 := m ((c : Thread nD τ).loc main_arg0)
abbrev ab (c : Dev nD) : FVec Ideal S4x2048x512 .f32 := m ((c : Thread nD τ).loc main_arg1)
abbrev ac (c : Dev nD) : FVec Ideal S4x2048x512 .f32 := m ((c : Thread nD τ).loc main_arg2)
abbrev ai (c : Dev nD) : FVec Ideal S4x2048x512 .f32 := m ((c : Thread nD τ).loc main_arg3)
abbrev aw (c : Dev nD) : FVec Ideal S3x512 .f32 := m ((c : Thread nD τ).loc main_arg4)
abbrev ap (c : Dev nD) : FVec Ideal S8192x5376 .bf16 := m ((c : Thread nD τ).loc main_arg5)

theorem idx : ∀ t : Fin cfg0.N, win0_0.index t = ![t.val % 4, t.val / 4] ∧ win0_1.index t = ![t.val % 4, t.val / 4] ∧ win0_2.index t = ![0, t.val / 4]
    ∧ win0_3.index t = ![t.val % 4, t.val / 4] ∧ win0_4.index t = ![0, t.val / 4] ∧ t.val < 16 :=
  (by decide +kernel : ∀ t : Fin grid0.N, _)

/-- The packed columns as the host lays them out, and the flat gradient. -/
def packed (b c i : FVec Ideal S4x2048x512 .f32) : FVec Ideal S8192x1536 .bf16 :=
  truncf .bf16 (shapeCast S8192x1536 (concatenate S8192x4x3x128 2 [⟨S8192x4x1x128, shapeCast S8192x4x1x128 b shapeCasts_S4x2048x512_S8192x4x1x128⟩,
    ⟨S8192x4x1x128, shapeCast S8192x4x1x128 c shapeCasts_S4x2048x512_S8192x4x1x128⟩, ⟨S8192x4x1x128, shapeCast S8192x4x1x128 i shapeCasts_S4x2048x512_S8192x4x1x128⟩]
    concatenates_S8192x4x1x128_S8192x4x1x128_S8192x4x1x128_S8192x4x3x128_d2) shapeCasts_S8192x4x3x128_S8192x1536) bitsLt_bf16_f32
def flat (a : FVec Ideal S4x2048x512 .f32) : FVec Ideal S8192x512 .bf16 :=
  truncf .bf16 (shapeCast S8192x512 a shapeCasts_S4x2048x512_S8192x512) bitsLt_bf16_f32

theorem V_v7 (c : Dev nD) : V m c main_v7 = packed (ab m c) (ac m c) (ai m c) := by
  unfold V
  simp only [hostOps0, List.flatten_cons, List.flatten_nil, List.append_nil, List.cons_append, List.nil_append]
  after_results_simp
  rfl
theorem V_v6 (c : Dev nD) : V m c main_v6 = flat (aa m c) := by
  unfold V
  simp only [hostOps0, List.flatten_cons, List.flatten_nil, List.append_nil, List.cons_append, List.nil_append]
  after_results_simp
  rfl
theorem V_v8 (c : Dev nD) : V m c main_v8_0 = ap m c := by
  unfold V
  simp only [hostOps0, List.flatten_cons, List.flatten_nil, List.append_nil, List.cons_append, List.nil_append]
  after_results_simp
  rfl

theorem packed_at (q k v : FVec Ideal S4x2048x512 .f32) (b : Fin 4) (R : Fin 2048) (g : Fin 4) (a : Fin 3) (l : Fin 128) :
    packed q k v (ix2 (brow b R) (pcol g a l)) = (![q, k, v] a) (ix3 b R (pl g l)) := by
  have hl := l.isLt
  have hg := g.isLt
  have e : ∀ a : Fin 3, ∀ {h}, (⟨(pcol g a l).val / 384 * 128 + (pcol g a l).val % 128, h⟩ : Fin 512) = pl g l := fun a h =>
    Fin.ext (by have := a.isLt; simp only [pcol, pl]; omega)
  have e1 : (pcol g a l).val / 128 % 3 = a.val := by have := a.isLt; simp only [pcol]; omega
  pointwise [packed]
  simp only [e, row_div, row_mod, e1]
  fin_cases a <;> simp

theorem flat_at (x : FVec Ideal S4x2048x512 .f32) (b : Fin 4) (R : Fin 2048) (c : Fin 512) : flat x (ix2 (brow b R) c) = x (ix3 b R c) := by
  pointwise [flat]
  simp only [row_div, row_mod]

section Blocks
variable (c : Dev nD) (t : Fin cfg0.N)

def tb : Fin 4 := ⟨t.val % 4, by omega⟩
def tg : Fin 4 := ⟨t.val / 4, by have := (idx t).2.2.2.2.2; omega⟩

/-- Lane `l` of the part `a` of a block. -/
def lane (a : Fin 3) (l : Fin 128) : Fin 384 := ⟨128 * a.val + l.val, by have := l.isLt; have := a.isLt; omega⟩

theorem blk0 (r : Fin 2048) (l : Fin 128) : (show FVec Ideal S2048x128 .bf16 from iblk m c 0 t) (ix2 r l) = aa m c (ix3 (tb t) r (pl (tg t) l)) := by
  have e : (show FVec Ideal S2048x128 .bf16 from iblk m c 0 t) (ix2 r l) = (show FVec Ideal S8192x512 .bf16 from V m c main_v6) (ix2 (brow (tb t) r) (pl (tg t) l)) := by
    blk_simp [iblk, idx t]
    refine congrArg (show FVec Ideal S8192x512 .bf16 from V m c main_v6) ?_
    blk_ext [idx t]
    all_goals simp only [tb, tg, brow, pl] <;> omega
  rw [e]
  exact (congrFun (V_v6 m c) _).trans (flat_at _ _ _ _)

theorem blk1 (r : Fin 2048) (a : Fin 3) (l : Fin 128) : (show FVec Ideal S2048x384 .bf16 from iblk m c 1 t) (ix2 r (lane a l))
    = (![ab m c, ac m c, ai m c] a) (ix3 (tb t) r (pl (tg t) l)) := by
  have e : (show FVec Ideal S2048x384 .bf16 from iblk m c 1 t) (ix2 r (lane a l)) = (show FVec Ideal S8192x1536 .bf16 from V m c main_v7) (ix2 (brow (tb t) r) (pcol (tg t) a l)) := by
    blk_simp [iblk, idx t]
    refine congrArg (show FVec Ideal S8192x1536 .bf16 from V m c main_v7) ?_
    blk_ext [idx t]
    all_goals simp only [tb, tg, brow, pcol, lane] <;> omega
  rw [e]
  exact (congrFun (V_v7 m c) _).trans (packed_at _ _ _ _ _ _ _ _)

theorem blk2 (j : Fin 3) (l : Fin 128) : (show FVec Ideal S3x128 .f32 from iblk m c 2 t) (ix2 j l) = aw m c (ix2 j (pl (tg t) l)) := by
  blk_point [iblk, V, idx t]
  all_goals simp only [tb, tg, pl] <;> omega

end Blocks

/-- The three parts of a block of packed columns. -/
theorem ldA (x : FVec Ideal S2048x384 .bf16) (r : Fin 2048) (l : Fin 128) :
    (View.ld (Val := Elt Ideal) (S := S2048x384) (e' := .bf16) x (Rect.unit (s := S2048x384) ![0, 0] ![2048, 128] inb_S2048x384_S2048x128_0_0) : FVec Ideal _ .bf16) (ix2 r l) = x (ix2 r (lane 0 l)) := by
  refine congrArg x (funext fun a => Fin.ext ?_)
  fin_cases a <;> simp [Rect.unit, LoadRect.idx, lane]
theorem ldB (x : FVec Ideal S2048x384 .bf16) (r : Fin 2048) (l : Fin 128) :
    (View.ld (Val := Elt Ideal) (S := S2048x384) (e' := .bf16) x (Rect.unit (s := S2048x384) ![0, 128] ![2048, 128] inb_S2048x384_S2048x128_0_128) : FVec Ideal _ .bf16) (ix2 r l) = x (ix2 r (lane 1 l)) := by
  refine congrArg x (funext fun a => Fin.ext ?_)
  fin_cases a <;> simp [Rect.unit, LoadRect.idx, lane]
theorem ldC (x : FVec Ideal S2048x384 .bf16) (r : Fin 2048) (l : Fin 128) :
    (View.ld (Val := Elt Ideal) (S := S2048x384) (e' := .bf16) x (Rect.unit (s := S2048x384) ![0, 256] ![2048, 128] inb_S2048x384_S2048x128_0_256) : FVec Ideal _ .bf16) (ix2 r l) = x (ix2 r (lane 2 l)) := by
  refine congrArg x (funext fun a => Fin.ext ?_)
  fin_cases a <;> simp [Rect.unit, LoadRect.idx, lane]

/-- The three operands a point reads out of its packed block. -/
def cbB (c : Dev nD) (t : Fin cfg0.N) : FVec Ideal S2048x128 .bf16 := View.ld (iblk m c 1 t) (Rect.unit ![0, 0] ![2048, 128] inb_S2048x384_S2048x128_0_0)
def ccB (c : Dev nD) (t : Fin cfg0.N) : FVec Ideal S2048x128 .bf16 := View.ld (iblk m c 1 t) (Rect.unit ![0, 128] ![2048, 128] inb_S2048x384_S2048x128_0_128)
def ciB (c : Dev nD) (t : Fin cfg0.N) : FVec Ideal S2048x128 .bf16 := View.ld (iblk m c 1 t) (Rect.unit ![0, 256] ![2048, 128] inb_S2048x384_S2048x128_0_256)

theorem cbB_apply (c : Dev nD) (t : Fin cfg0.N) (r : Fin 2048) (l : Fin 128) : cbB m c t (ix2 r l) = ab m c (ix3 (tb t) r (pl (tg t) l)) :=
  (ldA _ r l).trans (blk1 m c t r 0 l)
theorem ccB_apply (c : Dev nD) (t : Fin cfg0.N) (r : Fin 2048) (l : Fin 128) : ccB m c t (ix2 r l) = ac m c (ix3 (tb t) r (pl (tg t) l)) :=
  (ldB _ r l).trans (blk1 m c t r 1 l)
theorem ciB_apply (c : Dev nD) (t : Fin cfg0.N) (r : Fin 2048) (l : Fin 128) : ciB m c t (ix2 r l) = ai m c (ix3 (tb t) r (pl (tg t) l)) :=
  (ldC _ r l).trans (blk1 m c t r 2 l)

/-- The three blocks of columns a point computes. -/
def outA (c : Dev nD) (t : Fin cfg0.N) : FVec Ideal S2048x128 .bf16 :=
  k0_pay12 (F := Ideal) (iblk m c 2 t) (k0_pay6 (ccB m c t) (ciB m c t)) (k0_pay7 (iblk m c 0 t)) (k0_pay10 (iblk m c 2 t) (ccB m c t) (ciB m c t)) (k0_pay11 (iblk m c 2 t))
def outB (c : Dev nD) (t : Fin cfg0.N) : FVec Ideal S2048x128 .bf16 :=
  k0_pay13 (F := Ideal) (k0_pay5 (ciB m c t)) (k0_pay9 (iblk m c 2 t) (cbB m c t) (iblk m c 0 t))
def outC (c : Dev nD) (t : Fin cfg0.N) : FVec Ideal S2048x128 .bf16 :=
  k0_pay14 (F := Ideal) (k0_pay4 (ccB m c t)) (k0_pay9 (iblk m c 2 t) (cbB m c t) (iblk m c 0 t))

theorem cols (c : Dev nD) (t : Fin cfg0.N) (l : Fin 128) : ((fun j => (show FVec Ideal S3x128 .f32 from iblk m c 2 t) (ix2 j l)) : Fin 3 → EReal) = wc (aw m c) (pl (tg t) l) :=
  funext fun j => blk2 m c t j l
theorem zcol (c : Dev nD) (t : Fin cfg0.N) (l : Fin 128) : (fun r => (ccB m c t (ix2 r l) * ciB m c t (ix2 r l) : EReal)) = zc (ac m c) (ai m c) (tb t) (pl (tg t) l) :=
  funext fun r => by rw [ccB_apply, ciB_apply]; rfl
theorem ducol (c : Dev nD) (t : Fin cfg0.N) (l : Fin 128) :
    (fun r => ((show FVec Ideal S2048x128 .bf16 from iblk m c 0 t) (ix2 r l) * cbB m c t (ix2 r l) : EReal)) = du (aa m c) (ab m c) (tb t) (pl (tg t) l) :=
  funext fun r => by rw [blk0 m c t r l, cbB_apply, mul_comm]; rfl

theorem dz_apply (c : Dev nD) (t : Fin cfg0.N) (r : Fin 2048) (l : Fin 128) :
    k0_pay9 (F := Ideal) (iblk m c 2 t) (cbB m c t) (iblk m c 0 t) (ix2 r l) = cvT (wc (aw m c) (pl (tg t) l)) (du (aa m c) (ab m c) (tb t) (pl (tg t) l)) r := by
  refine (pay9_apply _ _ _ r l).trans ?_
  exact congrFun (congrArg₂ cvT (cols m c t l) (ducol m c t l)) r

theorem outA_apply (c : Dev nD) (t : Fin cfg0.N) (r : Fin 2048) (l : Fin 128) : outA m c t (ix2 r l)
    = (aa m c (ix3 (tb t) r (pl (tg t) l)) * cv (wc (aw m c) (pl (tg t) l)) (zc (ac m c) (ai m c) (tb t) (pl (tg t) l)) r : EReal) := by
  refine (pay12_apply _ _ _ _ r l).trans ?_
  exact congrArg₂ (fun a b : EReal => a * b) (blk0 m c t r l) (congrFun (congrArg₂ cv (cols m c t l) (zcol m c t l)) r)
theorem outB_apply (c : Dev nD) (t : Fin cfg0.N) (r : Fin 2048) (l : Fin 128) : outB m c t (ix2 r l)
    = (cvT (wc (aw m c) (pl (tg t) l)) (du (aa m c) (ab m c) (tb t) (pl (tg t) l)) r * ai m c (ix3 (tb t) r (pl (tg t) l)) : EReal) := by
  refine (pay13_apply _ _ r l).trans ?_
  exact congrArg₂ (fun a b : EReal => a * b) (dz_apply m c t r l) (ciB_apply m c t r l)
theorem outC_apply (c : Dev nD) (t : Fin cfg0.N) (r : Fin 2048) (l : Fin 128) : outC m c t (ix2 r l)
    = (ac m c (ix3 (tb t) r (pl (tg t) l)) * cvT (wc (aw m c) (pl (tg t) l)) (du (aa m c) (ab m c) (tb t) (pl (tg t) l)) r : EReal) := by
  refine (pay14_apply _ _ r l).trans ((mul_comm _ _).trans ?_)
  exact congrArg₂ (fun a b : EReal => a * b) (ccB_apply m c t r l) (dz_apply m c t r l)

/-- Three stores side by side, read at a lane of one of them. -/
theorem parts (A B C : FVec Ideal S2048x128 .bf16) (r : Fin 2048) (a : Fin 3) (l : Fin 128) :
    View.canon (Val := Elt Ideal) (s := S2048x384) (e := .bf16) [⟨Rect.unit (s := S2048x384) ![0, 256] ![2048, 128] inb_S2048x384_S2048x128_0_256, C⟩,
      ⟨Rect.unit (s := S2048x384) ![0, 128] ![2048, 128] inb_S2048x384_S2048x128_0_128, B⟩,
      ⟨Rect.unit (s := S2048x384) ![0, 0] ![2048, 128] inb_S2048x384_S2048x128_0_0, A⟩] (ix2 r (lane a l)) = (![A, B, C] a) (ix2 r l) := by
  have hl := l.isLt
  have hr := r.isLt
  have off : ∀ (o : Fin 3) (p : ℕ) (inb : ∀ a, (![0, p] : Fin S2048x384.rank → ℕ) a + (![2048, 128] : Fin S2048x384.rank → ℕ) a ≤ S2048x384.size a)
      (w : FVec Ideal S2048x128 .bf16) (L : List (View.Piece (Elt Ideal) S2048x384 .bf16)), p = 128 * o.val →
      View.canon (Val := Elt Ideal) (s := S2048x384) (e := .bf16) (⟨Rect.unit (s := S2048x384) ![0, p] ![2048, 128] inb, w⟩ :: L) (ix2 r (lane a l))
        = if a = o then w (ix2 r l) else View.canon (Val := Elt Ideal) (s := S2048x384) (e := .bf16) L (ix2 r (lane a l)) := by
    rintro o p inb w L rfl
    by_cases h : a = o
    · subst h
      rw [if_pos rfl]
      have e : (Rect.unit (s := S2048x384) ![0, 128 * a.val] ![2048, 128] inb).emb (ix2 r l) = ix2 r (lane a l) := by
        funext k; refine Fin.ext ?_; fin_cases k <;> simp [lane]
      rw [← e]
      exact View.canon_cons_emb (Val := Elt Ideal) (e := .bf16) (Rect.unit (s := S2048x384) ![0, 128 * a.val] ![2048, 128] inb) w L (ix2 r l)
    · rw [if_neg h]
      refine View.canon_cons_of_not_mem _ L ?_
      rw [Rect.mem_set_unit]
      intro hh
      have h1 := hh 1
      simp [lane] at h1
      exact h (Fin.ext (by omega))
  rw [off 2 256 _ C _ rfl, off 1 128 _ B _ rfl, off 0 0 _ A _ rfl]
  fin_cases a <;> simp

theorem final3 (c : Dev nD) : (dats m 0 c).arrAt 3 cfg0.N
    = Cert.ConvBwdRefIdeal.Read.val_main_v69 (F := Ideal) (aa m c) (ab m c) (ac m c) (ai m c) (aw m c) (ap m c) := by
  refine (dats m 0 c).arrAt_eq_of_coversWhere_of_agree 3 _ (fun β => β (1 : Fin 2) < 4) (by decide +kernel) (fun t _ y => ?_) (fun j hj => ?_)
  · blk_simp
    obtain ⟨r, y', rfl⟩ : ∃ (r : Fin 2048) (y' : Fin 384), y = ix2 r y' := ⟨y 0, y 1, eq_ix2 y⟩
    obtain ⟨a, l, rfl⟩ : ∃ (a : Fin 3) (l : Fin 128), y' = lane a l :=
      ⟨⟨y'.val / 128, by omega⟩, ⟨y'.val % 128, by omega⟩, Fin.ext (by simp only [lane]; omega)⟩
    have hp := (pcol (tg t) a l).isLt
    have he : ((View.whole main_v8_0).slice (win0_3.rect t)).emb (ix2 r (lane a l))
        = (ix2 (brow (tb t) r) ⟨(pcol (tg t) a l).val, by omega⟩ : S8192x5376.Idx) := by
      blk_ext [idx t]
      all_goals simp only [tb, tg, brow, pcol, lane] <;> omega
    have key : (![outA m c t, outB m c t, outC m c t] a) (ix2 r l) = Cert.ConvBwdRefIdeal.Read.val_main_v69 (F := Ideal) (aa m c) (ab m c) (ac m c) (ai m c) (aw m c) (ap m c)
        (((View.whole main_v8_0).slice (win0_3.rect t)).emb (ix2 r (lane a l))) := by
      rw [he, v69_inner]
      fin_cases a
      · exact outA_apply m c t r l
      · exact outB_apply m c t r l
      · exact outC_apply m c t r l
    rw [after0_3]
    by_cases h : t.val % 4 = 0
    · rw [outsAt0_A m c t h]; frame_out; exact (parts _ _ _ r a l).trans key
    · rw [outsAt0_B m c t h]; frame_out; exact (parts _ _ _ r a l).trans key
  · have e : (dats m 0 c).A 3 = ap m c := (A_eq m c 3).trans (V_v8 m c)
    rw [e]
    obtain ⟨r, k, rfl⟩ : ∃ (r : Fin 8192) (k : Fin 5376), j = ix2 r k := ⟨j 0, j 1, eq_ix2 j⟩
    refine (v69_outer (aa m c) (ab m c) (ac m c) (ai m c) (aw m c) (ap m c) r k ?_).symm
    by_contra h
    refine hj ?_
    rw [Pipeline.Window.cell_apply]
    show k.val / 384 < 4
    omega

/-- One row of the weights' gradient stored over earlier stores. -/
theorem canon_row (j i : Fin 3) {inb} (w : FVec Ideal S1x128 .f32) (L : List (View.Piece (Elt Ideal) S3x128 .f32)) (l : Fin 128) :
    View.canon (Val := Elt Ideal) (s := S3x128) (e := .f32) (⟨Rect.unit (s := S3x128) ![j.val, 0] ![1, 128] inb, w⟩ :: L) (ix2 i l)
      = if i = j then w (ix2 0 l) else View.canon (Val := Elt Ideal) (s := S3x128) (e := .f32) L (ix2 i l) := by
  by_cases h : i = j
  · subst h
    rw [if_pos rfl]
    have e : (Rect.unit (s := S3x128) ![i.val, 0] ![1, 128] inb).emb (ix2 0 l) = ix2 i l := by
      funext k; refine Fin.ext ?_; fin_cases k <;> simp
    rw [← e]
    exact View.canon_cons_emb (Val := Elt Ideal) (e := .f32) (Rect.unit (s := S3x128) ![i.val, 0] ![1, 128] inb) w L (ix2 0 l)
  · rw [if_neg h]
    refine View.canon_cons_of_not_mem _ L ?_
    rw [Rect.mem_set_unit]
    intro hh
    have h0 := hh 0
    simp at h0
    exact h (Fin.ext (by omega))

/-- One row read back: of earlier stores, and of what is there. -/
theorem read_row (v : View sig .tc .vmem S3x128 .f32) (j : Fin 3) {inb} (L : List (View.Piece (Elt Ideal) S3x128 .f32)) (l : Fin 128) :
    (v.readCov L (Rect.unit (s := S3x128) ![j.val, 0] ![1, 128] inb).toLoadRect : FVec Ideal S1x128 .f32) (ix2 0 l)
      = View.canon (Val := Elt Ideal) (s := S3x128) (e := .f32) L (ix2 j l) := by
  rw [View.readCov_eq_canon']
  refine congrArg (View.canon (Val := Elt Ideal) (s := S3x128) (e := .f32) L) (funext fun k => Fin.ext ?_)
  fin_cases k <;> simp [LoadRect.idx]
theorem ld_row (x : FVec Ideal S3x128 .f32) (j : Fin 3) {inb} (l : Fin 128) :
    (View.ld (Val := Elt Ideal) (S := S3x128) (e' := .f32) x (Rect.unit (s := S3x128) ![j.val, 0] ![1, 128] inb) : FVec Ideal S1x128 .f32) (ix2 0 l) = x (ix2 j l) := by
  refine congrArg x (funext fun a => Fin.ext ?_)
  fin_cases a <;> simp [LoadRect.idx]
theorem canon_whole {inb} (w : FVec Ideal S3x128 .f32) (L : List (View.Piece (Elt Ideal) S3x128 .f32)) (j : Fin 3) (l : Fin 128) :
    View.canon (Val := Elt Ideal) (s := S3x128) (e := .f32) (⟨Rect.unit (s := S3x128) ![0, 0] ![3, 128] inb, w⟩ :: L) (ix2 j l) = w (ix2 j l) := by
  have e : (Rect.unit (s := S3x128) ![0, 0] ![3, 128] inb).emb (ix2 j l) = ix2 j l := by
    funext k; refine Fin.ext ?_; fin_cases k <;> simp
  exact (congrArg _ e.symm).trans (View.canon_cons_emb (Val := Elt Ideal) (e := .f32) (Rect.unit (s := S3x128) ![0, 0] ![3, 128] inb) w L (ix2 j l))

/-- What a point adds to the weights' gradient. -/
def add (c : Dev nD) (t : Fin cfg0.N) (j : Fin 3) (l : Fin 128) : EReal :=
  part (k0_pay8 (F := Ideal) (cbB m c t) (iblk m c 0 t)) (k0_pay6 (ccB m c t) (ciB m c t)) j l

theorem add_apply (c : Dev nD) (t : Fin cfg0.N) (j : Fin 3) (l : Fin 128) :
    add m c t j l = ∑ s, tap j (zc (ac m c) (ai m c) (tb t) (pl (tg t) l)) s * du (aa m c) (ab m c) (tb t) (pl (tg t) l) s := by
  unfold add part
  refine Finset.sum_congr rfl fun s _ => ?_
  rw [mul_comm]
  refine congrArg₂ (fun a b : EReal => a * b) (congrFun (congrArg (tap j) ?_) s) ?_
  · refine Eq.trans (funext fun r => ?_) (zcol m c t l)
    exact pay6_apply _ _ r l
  · exact (pay8_apply _ _ s l).trans (congrFun (ducol m c t l) s)

theorem reset4 (c : Dev nD) (t : Fin cfg0.N) (h : t.val % 4 = 0) (j : Fin 3) (l : Fin 128) :
    ((outsAt0 m c t.val t.isLt).2 : FVec Ideal S3x128 .f32) (ix2 j l) = (0 + add m c t j l : EReal) := by
  rw [outsAt0_A m c t h]
  frame_out
  refine (canon_row 2 j _ _ l).trans ?_
  by_cases h2 : j = 2
  · subst h2
    rw [if_pos rfl]
    refine (pay3_apply _ _ _ l).trans (congrArg (fun s : EReal => s + add m c t 2 l) ?_)
    refine (read_row _ 2 _ l).trans ((canon_row 1 2 _ _ l).trans ?_)
    rw [if_neg (by decide)]
    refine (canon_row 0 2 _ _ l).trans ?_
    rw [if_neg (by decide)]
    exact (canon_whole _ _ 2 l).trans (pay15_apply 2 l)
  · rw [if_neg h2]
    refine (canon_row 1 j _ _ l).trans ?_
    by_cases h1 : j = 1
    · subst h1
      rw [if_pos rfl]
      refine (pay2_apply _ _ _ l).trans (congrArg (fun s : EReal => s + add m c t 1 l) ?_)
      refine (read_row _ 1 _ l).trans ((canon_row 0 1 _ _ l).trans ?_)
      rw [if_neg (by decide)]
      exact (canon_whole _ _ 1 l).trans (pay15_apply 1 l)
    · rw [if_neg h1]
      obtain rfl : j = 0 := by omega
      refine (canon_row 0 0 _ _ l).trans ?_
      rw [if_pos rfl]
      refine (pay1_apply _ _ _ l).trans (congrArg (fun s : EReal => s + add m c t 0 l) ?_)
      exact (read_row _ 0 _ l).trans ((canon_whole _ _ 0 l).trans (pay15_apply 0 l))

theorem step4 (c : Dev nD) (t : Fin cfg0.N) (h : ¬ t.val % 4 = 0) (j : Fin 3) (l : Fin 128) :
    ((outsAt0 m c t.val t.isLt).2 : FVec Ideal S3x128 .f32) (ix2 j l)
      = (((outsAt0 m c (t.val - 1) (Nat.lt_of_le_of_lt (Nat.sub_le _ _) t.isLt)).2 : FVec Ideal S3x128 .f32) (ix2 j l) + add m c t j l : EReal) := by
  rw [outsAt0_B m c t h]
  frame_out
  refine (canon_row 2 j _ _ l).trans ?_
  by_cases h2 : j = 2
  · subst h2
    rw [if_pos rfl]
    exact (pay3_apply _ _ _ l).trans (congrArg (fun s : EReal => s + add m c t 2 l) (ld_row _ 2 l))
  · rw [if_neg h2]
    refine (canon_row 1 j _ _ l).trans ?_
    by_cases h1 : j = 1
    · subst h1
      rw [if_pos rfl]
      exact (pay2_apply _ _ _ l).trans (congrArg (fun s : EReal => s + add m c t 1 l) (ld_row _ 1 l))
    · rw [if_neg h1]
      obtain rfl : j = 0 := by omega
      refine (canon_row 0 0 _ _ l).trans ?_
      rw [if_pos rfl]
      exact (pay1_apply _ _ _ l).trans (congrArg (fun s : EReal => s + add m c t 0 l) (ld_row _ 0 l))

/-- A point of the grid, from its number. -/
def pt (n : ℕ) : Fin cfg0.N := if h : n < cfg0.N then ⟨n, h⟩ else ⟨0, by decide +kernel⟩

theorem flush4 : ∀ t : Fin cfg0.N, (cfg0.win 4).flush t = true → t.val % 4 = 3 := (by decide +kernel : ∀ t : Fin grid0.N, _)

theorem sums4 (c : Dev nD) (t : Fin cfg0.N) (h : t.val % 4 = 3) (j : Fin 3) (l : Fin 128) :
    ((outsAt0 m c t.val t.isLt).2 : FVec Ideal S3x128 .f32) (ix2 j l) = gw (aa m c) (ab m c) (ac m c) (ai m c) j (pl (tg t) l) := by
  have hp : ∀ t : Fin cfg0.N, pt t.val = t := fun t => dif_pos t.isLt
  have ht := (idx t).2.2.2.2.2
  rw [Pipeline.eq_sum_of_reset_step (fun n h => ((outsAt0 m c n h).2 : FVec Ideal S3x128 .f32) (ix2 j l)) 4 (0 : EReal) (fun n => add m c (pt n) j l)
    (fun t h => by rw [hp]; exact reset4 m c t h j l) (fun t h => by rw [hp]; exact step4 m c t h j l) t, h, zero_add]
  have e : ∀ b : Fin 4, add m c (pt (4 * (t.val / 4) + b.val)) j l
      = ∑ s, tap j (zc (ac m c) (ai m c) b (pl (tg t) l)) s * du (aa m c) (ab m c) b (pl (tg t) l) s := by
    intro b
    have hb := b.isLt
    have hN : cfg0.N = 16 := by decide +kernel
    have h1 : pt (4 * (t.val / 4) + b.val) = ⟨4 * (t.val / 4) + b.val, by omega⟩ := dif_pos (by omega)
    have h2 : tb (pt (4 * (t.val / 4) + b.val)) = b := by rw [h1]; exact Fin.ext (by simp only [tb]; omega)
    have h3 : tg (pt (4 * (t.val / 4) + b.val)) = tg t := by rw [h1]; exact Fin.ext (by simp only [tg]; omega)
    rw [add_apply, h2, h3]
  unfold gw
  rw [show 3 + 1 = 4 from rfl, Finset.sum_range]
  exact Finset.sum_congr rfl fun b _ => e b

theorem final4 (c : Dev nD) : (dats m 0 c).arrAt 4 cfg0.N
    = Cert.ConvBwdRefIdeal.Read.val_main_v55 (F := Ideal) (aa m c) (ab m c) (ac m c) (ai m c) := by
  refine (dats m 0 c).arrAt_eq_of_covers 4 _ (by decide +kernel) fun t hf y => ?_
  blk_simp
  obtain ⟨j, l, rfl⟩ : ∃ (j : Fin 3) (l : Fin 128), y = ix2 j l := ⟨y 0, y 1, eq_ix2 y⟩
  have he : ((View.whole main_v8_1).slice (win0_4.rect t)).emb (ix2 j l) = (ix2 j (pl (tg t) l) : S3x512.Idx) := by
    blk_ext [idx t]
    all_goals simp only [tg, pl] <;> omega
  rw [he, v55_apply, after0_4]
  exact sums4 m c t (flush4 t hf) j l

end Cert.ConvBwdIdeal.Value

end
-- ==== Proof.ConvBwdClaims.lean ====
/- The claims about ConvBwd. -/
module

public import proofs.«01_k».proof.Proof.Reals
public import proofs.«01_k».proof.Proof.ConvBwdValue
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Defs
public import Idealize.ShloMosaic.Lib.Claim

@[expose] public section

set_option maxRecDepth 16384

noncomputable section

open Idealize.ShloMosaic Idealize.ShloMosaic.TcCoe Idealize.SL.Sem Cert.Reals

namespace Cert.Proof.ConvBwd

theorem frame : Cert.quiescent_ConvBwd := fun m ρ _ => Cert.ConvBwd.Gen.frame m ρ
theorem frame_ideal : Cert.quiescent_ConvBwdIdeal := fun m ρ _ => Cert.ConvBwdIdeal.Gen.frame m ρ
theorem frame_ref : Cert.quiescent_ConvBwdRefIdeal := fun m ρ _ =>
  (θ_run Cert.ConvBwdRefIdeal.defs _ _).mono (fun r h => ⟨fun c => (h c).2.2, sem_eq_zero_of_no_sems (by decide) r.2⟩)
    (Cert.ConvBwdRefIdeal.Value.run (F := Ideal) m ρ)

theorem preserves : Cert.preserves_ConvBwd_ConvBwdIdeal := trivial

theorem algebraic : Cert.algebraic_ConvBwdIdeal_ConvBwdRefIdeal := by
  intro m g m' g' _ hagree
  refine ⟨_, _, (θ_run _ _ _).mono (fun _ h c => h c) (Cert.ConvBwdIdeal.Value.run_blocks m g), ?_⟩
  refine (θ_run _ _ _).mono (fun _ h c => ?_) (Cert.ConvBwdRefIdeal.Value.run (F := Ideal) m' g')
  obtain ⟨h0, h1, h2, h3, h4, h5⟩ := hagree c
  refine ⟨(h c).1.trans ?_, (h c).2.1.trans ?_, (h c).2.2⟩
  · rw [Cert.ConvBwdRefIdeal.Read.val_main_v69_eq, h0, h1, h2, h3, h4, h5]
    exact (Cert.ConvBwdIdeal.Value.final3 m c).symm
  · rw [Cert.ConvBwdRefIdeal.Read.val_main_v55_eq, h0, h1, h2, h3]
    exact (Cert.ConvBwdIdeal.Value.final4 m c).symm

end Cert.Proof.ConvBwd

end
-- ==== Proof.MergeMath.lean ====
/- The gated sum of the two branches and its gradient, written out, and both programs' rows read as them. -/
module

public import proofs.«01_k».proof.Proof.Reals
public import proofs.«01_k».proof.Proof.Gen.MergeIdeal.Skeleton
public import proofs.«01_k».proof.Proof.Gen.MergeRefIdeal.Read

@[expose] public section

set_option maxRecDepth 16384

noncomputable section

open Idealize.ShloMosaic Cert.Reals

namespace Cert.Gate

/-- A column of the model's width, from a column of the two branches side by side. -/
abbrev lo (k : Fin 2048) : Fin 1024 := ⟨k.val % 1024, Nat.mod_lt _ (by norm_num)⟩
/-- The first branch's columns, and the second's. -/
abbrev fst (k : Fin 1024) : Fin 2048 := ⟨k.val, by omega⟩
abbrev snd (k : Fin 1024) : Fin 2048 := ⟨1024 + k.val, by omega⟩

section Kernel
open Cert.MergeIdeal Cert.MergeIdeal.Gen

theorem pay1_apply (l : FVec Ideal S1024x2048 .bf16) (b : FVec Ideal S1x2048 .f32) (r : Fin 1024) (k : Fin 2048) :
    k0_pay1 (F := Ideal) l b (ix2 r k) = Ideal.logistic (l (ix2 r k) + b (ix2 0 k) : EReal) := by
  pointwise [k0_pay1]
theorem pay2_apply (l : FVec Ideal S1024x2048 .bf16) (b : FVec Ideal S1x2048 .f32) (r : Fin 1024) (k : Fin 2048) :
    k0_pay2 (F := Ideal) l b (ix2 r k) = Ideal.logistic (l (ix2 r k) + b (ix2 0 k) : EReal) := by
  pointwise [k0_pay2]
  exact pay1_apply l b r k
theorem pay3_apply (l : FVec Ideal S1024x2048 .bf16) (b : FVec Ideal S1x2048 .f32) (y : FVec Ideal S1024x2048 .bf16) (r k : Fin 1024) :
    k0_pay3 (F := Ideal) l b y (ix2 r k)
      = (Ideal.logistic (l (ix2 r (fst k)) + b (ix2 0 (fst k)) : EReal) * y (ix2 r (fst k))
        + Ideal.logistic (l (ix2 r (snd k)) + b (ix2 0 (snd k)) : EReal) * y (ix2 r (snd k)) : EReal) := by
  pointwise [k0_pay3]
  rw [← pay1_apply, ← pay1_apply]

variable (g d y : FVec Ideal S1024x1024 .bf16)

/-- The gradient of the logits on one element. -/
def dlogit (d y g : EReal) : EReal := d * y * (g * (1 - g))

theorem pay4_apply (r k : Fin 1024) : k1_pay4 (F := Ideal) g d y (ix2 r k) = dlogit (d (ix2 r k)) (y (ix2 r k)) (g (ix2 r k)) := by
  pointwise [k1_pay4, k1_pay3, k1_pay2, k1_pay1]
  rfl
theorem pay5_apply (r k : Fin 1024) : k1_pay5 (F := Ideal) g d (ix2 r k) = (d (ix2 r k) * g (ix2 r k) : EReal) := by
  pointwise [k1_pay5, k1_pay2, k1_pay1]
theorem pay6_apply (k : Fin 1024) : k1_pay6 (F := Ideal) (ix2 0 k) = (0 : EReal) := by
  pointwise [k1_pay6]
theorem pay7_apply (o : FVec Ideal S1x1024 .f32) (k : Fin 1024) :
    k1_pay7 (F := Ideal) g d y o (ix2 0 k) = (o (ix2 0 k) + ∑ r, dlogit (d (ix2 r k)) (y (ix2 r k)) (g (ix2 r k)) : EReal) := by
  pointwise [k1_pay7, k1_pay3, k1_pay2, k1_pay1]
  rfl

end Kernel

section Reference
open Cert.MergeRefIdeal Cert.MergeRefIdeal.Gen Cert.MergeRefIdeal.Read

variable (dm yc ya : FVec Ideal S8192x1024 .f32) (gl : FVec Ideal S8192x2048 .f32) (b : FVec Ideal S1x2048 .f32)

/-- The gate, -/
def gate (r : Fin 8192) (k : Fin 2048) : EReal := Ideal.logistic (gl (ix2 r k) + b (ix2 0 k) : EReal)
/-- and the two branches side by side. -/
def both (r : Fin 8192) (k : Fin 2048) : EReal := if k.val < 1024 then yc (ix2 r (lo k)) else ya (ix2 r (lo k))

theorem v7_apply (r : Fin 8192) (k : Fin 2048) : val_main_v7 (F := Ideal) gl b (ix2 r k) = gate gl b r k := by
  pointwise [val_main_v7, val_main_v6, val_main_v5, val_main_v4, val_main_v3, val_main_v2, val_main_v1, val_main_v0, val_main_cst, val_main_cst_0]
  rfl
theorem v10_apply (r : Fin 8192) (k : Fin 2048) : val_main_v10 (F := Ideal) gl b (ix2 r k) = gate gl b r k * (1 - gate gl b r k) := by
  pointwise [val_main_v10, val_main_v9, val_main_v8, val_main_cst_1]
  rw [v7_apply]

theorem v28_apply (r : Fin 8192) (k : Fin 1024) : val_main_v28 (F := Ideal) yc ya gl b (ix2 r k)
    = (gate gl b r (fst k) * both yc ya r (fst k) + gate gl b r (snd k) * both yc ya r (snd k) : EReal) := by
  pointwise [val_main_v28, val_main_v15, val_main_v14, val_main_v13, val_main_v12, val_main_v11]
  have h1 : both yc ya r (fst k) = yc (ix2 r k) := by
    unfold both
    rw [if_pos k.isLt]
    exact congrArg (fun j => yc (ix2 r j)) (Fin.ext (Nat.mod_eq_of_lt k.isLt))
  have h2 : both yc ya r (snd k) = ya (ix2 r k) := by
    unfold both
    rw [if_neg (by simp only [snd]; omega)]
    exact congrArg (fun j => ya (ix2 r j)) (Fin.ext (by simp only [snd]; omega))
  rw [h1, h2, ← v7_apply, ← v7_apply]

theorem v23_apply (r : Fin 8192) (k : Fin 2048) : val_main_v23 (F := Ideal) dm yc ya gl b (ix2 r k)
    = dlogit (dm (ix2 r (lo k))) (both yc ya r k) (gate gl b r k) := by
  pointwise [val_main_v23, val_main_v22, val_main_v21, val_main_v19, val_main_v17, val_main_v16]
  rw [v10_apply]
  unfold both dlogit
  by_cases h : k.val < 1024
  · simp only [h, if_true, dif_pos, lo, Nat.mod_eq_of_lt h]
  · have e : k.val % 1024 = k.val - 1024 := by omega
    simp only [h, if_false, dif_neg, lo, e, not_false_eq_true]

theorem v30_apply (r : Fin 8192) (k : Fin 2048) : val_main_v30 (F := Ideal) dm gl b (ix2 r k) = (dm (ix2 r (lo k)) * gate gl b r k : EReal) := by
  pointwise [val_main_v30, val_main_v29, val_main_v20, val_main_v18, val_main_v17, val_main_v16, val_main_v11, val_main_v12]
  simp only [v7_apply]
  by_cases h : k.val < 1024
  · simp only [h, if_true, dif_pos, lo, Nat.mod_eq_of_lt h]
    exact mul_comm _ _
  · have e : k.val % 1024 = k.val - 1024 := by omega
    simp only [h, if_false, dif_neg, lo, e, not_false_eq_true]
    rw [mul_comm]
    congr 2
    exact Fin.ext (by simp only []; omega)

theorem v25_apply (k : Fin 2048) : val_main_v25 (F := Ideal) dm yc ya gl b (ix2 0 k)
    = ∑ r, dlogit (dm (ix2 r (lo k))) (both yc ya r k) (gate gl b r k) := by
  pointwise [val_main_v25, val_main_v24, val_main_cst_2]
  exact Finset.sum_congr rfl fun r _ => v23_apply dm yc ya gl b r k

theorem v27_apply (r : Fin 8192) (k : Fin 2048) : val_main_v27 (F := Ideal) dm yc ya gl b (ix2 r ⟨3072 + k.val, by omega⟩)
    = dlogit (dm (ix2 r (lo k))) (both yc ya r k) (gate gl b r k) := by
  rw [← v23_apply]
  pointwise [val_main_v27, val_main_v26]

end Reference

end Cert.Gate
-- ==== Proof.MergeValue.lean ====
/- What the gated sum's two kernels leave in their arrays. -/
module

public import proofs.«01_k».proof.Proof.MergeMath
public import proofs.«01_k».proof.Proof.Gen.MergeIdeal.Frame
public import proofs.«01_k».proof.Defs
public import Idealize.ShloMosaic.Lib.Pipeline.ValueKit.Partial

@[expose] public section

set_option maxRecDepth 16384

noncomputable section

open Idealize.ShloMosaic Idealize.ShloMosaic.TcCoe Idealize.SL.Sem Cert.Reals
open Idealize.ShloMosaic.Pipeline (Dat)

namespace Cert.MergeIdeal.Value

open Cert.MergeIdeal Cert.MergeIdeal.Gen Cert.Gate

/-! ## The two regions at any contents -/

section Regions
variable (V : (c : Dev nD) → (b : Ref sig .tc) → Buf (Elt Ideal) ((c : Thread nD τ).loc b)) (c : Dev nD)

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ t.val < 8 :=
  (by decide +kernel : ∀ t : Fin grid0.N, _)

theorem idx1 : ∀ t : Fin cfg1.N, win1_0.index t = ![t.val % 8, 0] ∧ win1_1.index t = ![t.val % 8, t.val / 8] ∧ win1_2.index t = ![t.val % 8, t.val / 8]
    ∧ win1_3.index t = ![t.val % 8, 3 + t.val / 8] ∧ win1_4.index t = ![t.val % 8, t.val / 8] ∧ win1_5.index t = ![0, t.val / 8] ∧ t.val < 16 :=
  (by decide +kernel : ∀ t : Fin grid1.N, _)

/-- The arrays the regions read. -/
abbrev vy : FVec Ideal S8192x2048 .bf16 := V c main_v1
abbrev vl : FVec Ideal S8192x2048 .bf16 := V c main_v2
abbrev vb : FVec Ideal S1x2048 .f32 := V c main_arg4
abbrev vg : FVec Ideal S8192x2048 .bf16 := V c main_v3_1
abbrev vd : FVec Ideal S8192x1024 .bf16 := V c main_v4

section First
variable (t : Fin cfg0.N)
theorem row0_lt (r : Fin 1024) : t.val * 1024 + r.val < 8192 := by
  have := (idx0 t).2.2.2.2.2; omega
abbrev row0 (r : Fin 1024) : Fin 8192 := ⟨t.val * 1024 + r.val, row0_lt t r⟩

theorem blk00 (r : Fin 1024) (k : Fin 2048) : (iblk0 V c 0 t : FVec Ideal S1024x2048 .bf16) (ix2 r k) = vy V c (ix2 (row0 t r) k) := by
  blk_point [iblk0, idx0 t]
theorem blk01 (r : Fin 1024) (k : Fin 2048) : (iblk0 V c 1 t : FVec Ideal S1024x2048 .bf16) (ix2 r k) = vl V c (ix2 (row0 t r) k) := by
  blk_point [iblk0, idx0 t]
theorem blk02 (k : Fin 2048) : (iblk0 V c 2 t : FVec Ideal S1x2048 .f32) (ix2 0 k) = vb V c (ix2 0 k) := by
  blk_point [iblk0, idx0 t]
end First

/-- The gates. -/
def gates : FVec Ideal S8192x2048 .bf16 := fun i => Ideal.logistic (vl V c i + vb V c (ix2 0 (i 1)) : EReal)
/-- The gated sum. -/
def merged : FVec Ideal S8192x1024 .bf16 := fun i =>
  (gates V c (ix2 (i 0) (fst (i 1))) * vy V c (ix2 (i 0) (fst (i 1))) + gates V c (ix2 (i 0) (snd (i 1))) * vy V c (ix2 (i 0) (snd (i 1))) : EReal)

theorem final0_3 : (dat0 V c).arrAt 3 cfg0.N = merged V c := by
  refine (dat0 V c).arrAt_eq_of_covers 3 _ (by decide +kernel) fun t _ y => ?_
  blk_simp
  obtain ⟨r, k, rfl⟩ : ∃ (r k : Fin 1024), y = ix2 r k := ⟨y 0, y 1, eq_ix2 y⟩
  have he : ((View.whole main_v3_0).slice (win0_3.rect t)).emb (ix2 r k) = (ix2 (row0 t r) k : S8192x1024.Idx) := by blk_ext [idx0 t]
  rw [he, after0_3]
  unfold out0_3
  frame_out
  refine (pay3_apply _ _ _ r k).trans ?_
  rw [blk00, blk00, blk01, blk01, blk02, blk02]
  rfl

theorem final0_4 : (dat0 V c).arrAt 4 cfg0.N = gates V c := by
  refine (dat0 V c).arrAt_eq_of_covers 4 _ (by decide +kernel) fun t _ y => ?_
  blk_simp
  obtain ⟨r, k, rfl⟩ : ∃ (r : Fin 1024) (k : Fin 2048), y = ix2 r k := ⟨y 0, y 1, eq_ix2 y⟩
  have he : ((View.whole main_v3_1).slice (win0_4.rect t)).emb (ix2 r k) = (ix2 (row0 t r) k : S8192x2048.Idx) := by blk_ext [idx0 t]
  rw [he, after0_4]
  unfold out0_4
  frame_out
  refine (pay2_apply _ _ r k).trans ?_
  rw [blk01, blk02]
  rfl

section Second
variable (t : Fin cfg1.N)
theorem row1_lt (r : Fin 1024) : t.val % 8 * 1024 + r.val < 8192 := by
  have := Nat.mod_lt t.val (show 0 < 8 by norm_num); omega
abbrev row1 (r : Fin 1024) : Fin 8192 := ⟨t.val % 8 * 1024 + r.val, row1_lt t r⟩
theorem col1_lt (k : Fin 1024) : t.val / 8 * 1024 + k.val < 2048 := by
  have := (idx1 t).2.2.2.2.2.2; omega
abbrev col1 (k : Fin 1024) : Fin 2048 := ⟨t.val / 8 * 1024 + k.val, col1_lt t k⟩

theorem blk10 (r k : Fin 1024) : (iblk1 V c 0 t : FVec Ideal S1024x1024 .bf16) (ix2 r k) = vd V c (ix2 (row1 t r) k) := by
  blk_point [iblk1, idx1 t]
theorem blk11 (r k : Fin 1024) : (iblk1 V c 1 t : FVec Ideal S1024x1024 .bf16) (ix2 r k) = vy V c (ix2 (row1 t r) (col1 t k)) := by
  blk_point [iblk1, idx1 t]
theorem blk12 (r k : Fin 1024) : (iblk1 V c 2 t : FVec Ideal S1024x1024 .bf16) (ix2 r k) = vg V c (ix2 (row1 t r) (col1 t k)) := by
  blk_point [iblk1, idx1 t]
theorem lo_col1 (k : Fin 1024) : lo (col1 t k) = k := Fin.ext (by simp only [lo, col1]; omega)
end Second

/-- The gradient of the logits, and of the branches. -/
def dl (r : Fin 8192) (k : Fin 2048) : EReal := dlogit (vd V c (ix2 r (lo k))) (vy V c (ix2 r k)) (vg V c (ix2 r k))
def db : FVec Ideal S8192x2048 .bf16 := fun i => (vd V c (ix2 (i 0) (lo (i 1))) * vg V c (ix2 (i 0) (i 1)) : EReal)

theorem key4 (t : Fin cfg1.N) (r k : Fin 1024) :
    k1_pay4 (F := Ideal) (iblk1 V c 2 t) (iblk1 V c 0 t) (iblk1 V c 1 t) (ix2 r k) = dl V c (row1 t r) (col1 t k) := by
  refine (pay4_apply _ _ _ r k).trans ?_
  rw [blk10, blk11, blk12]
  unfold dl
  rw [lo_col1]
theorem key5 (t : Fin cfg1.N) (r k : Fin 1024) :
    k1_pay5 (F := Ideal) (iblk1 V c 2 t) (iblk1 V c 0 t) (ix2 r k) = db V c (ix2 (row1 t r) (col1 t k)) := by
  refine (pay5_apply _ _ r k).trans ?_
  rw [blk10, blk12]
  exact congrArg (fun j => (vd V c (ix2 (row1 t r) j) * vg V c (ix2 (row1 t r) (col1 t k)) : EReal)) (lo_col1 t k).symm

/-- What the window of the projection's gradient promises of an element. -/
def inGate (i : S8192x5376.Idx) (v : EReal) : Prop := ∀ k : Fin 2048, (i 1).val = 3072 + k.val → v = dl V c (i 0) k

theorem final1_3_all (i : S8192x5376.Idx) : inGate V c i ((dat1 V c).arrAt 3 cfg1.N i) := by
  refine (dat1 V c).arrAt_forall_of_coversWhere 3 (inGate V c)
    (fun β => 3 ≤ β (1 : Fin 2) ∧ β (1 : Fin 2) < 5) (by decide +kernel) (fun t _ y => ?_) (fun j hj => ?_) i
  · blk_simp
    obtain ⟨r, k, hz⟩ : ∃ (r k : Fin 1024), ((cfg1.win 3).xinj (cfg1.grid.coords t) y : S1024x1024.Idx) = ix2 r k :=
      ⟨_, _, eq_ix2 (n0 := 1024) (n1 := 1024) ((cfg1.win 3).xinj (cfg1.grid.coords t) y : S1024x1024.Idx)⟩
    have hr : (y 0).val = r.val := congrArg (fun z : S1024x1024.Idx => (z 0).val) hz
    have hk : (y 1).val = k.val := congrArg (fun z : S1024x1024.Idx => (z 1).val) hz
    have he : (win1_3.blk t).view.emb y = (ix2 (row1 t r) ⟨3072 + (col1 t k).val, by omega⟩ : S8192x5376.Idx) := by
      blk_ext [idx1 t]
      all_goals simp only [col1] <;> omega
    rw [he, hz]
    have key : inGate V c (ix2 (row1 t r) ⟨3072 + (col1 t k).val, by omega⟩)
        (k1_pay4 (F := Ideal) (iblk1 V c 2 t) (iblk1 V c 0 t) (iblk1 V c 1 t) (ix2 r k)) := by
      rw [key4]
      intro k' hk
      exact congrArg (dl V c (row1 t r)) (Fin.ext (Nat.add_left_cancel hk))
    rw [after1_3]
    by_cases h : t.val % 8 = 0
    · rw [outsAt1_A V c t h]; frame_out; exact key
    · rw [outsAt1_B V c t h]; frame_out; exact key
  · intro k hk
    obtain ⟨r, l, rfl⟩ : ∃ (r : Fin 8192) (k : Fin 5376), j = ix2 r k := ⟨j 0, j 1, eq_ix2 j⟩
    refine absurd ?_ hj
    rw [Pipeline.Window.cell_apply]
    have hk' : l.val = 3072 + k.val := hk
    show 3 ≤ l.val / 1024 ∧ l.val / 1024 < 5
    omega

theorem final1_3 (r : Fin 8192) (k : Fin 2048) :
    ((dat1 V c).arrAt 3 cfg1.N : FVec Ideal S8192x5376 .bf16) (ix2 r ⟨3072 + k.val, by omega⟩) = dl V c r k :=
  final1_3_all V c (ix2 r ⟨3072 + k.val, by omega⟩) k rfl

theorem final1_4 : (dat1 V c).arrAt 4 cfg1.N = db V c := by
  refine (dat1 V c).arrAt_eq_of_covers 4 _ (by decide +kernel) fun t _ y => ?_
  blk_simp
  obtain ⟨r, k, rfl⟩ : ∃ (r k : Fin 1024), y = ix2 r k := ⟨y 0, y 1, eq_ix2 y⟩
  have he : ((View.whole main_v5_1).slice (win1_4.rect t)).emb (ix2 r k) = (ix2 (row1 t r) (col1 t k) : S8192x2048.Idx) := by blk_ext [idx1 t]
  rw [he, after1_4]
  by_cases h : t.val % 8 = 0
  · rw [outsAt1_A V c t h]; frame_out; exact key5 V c t r k
  · rw [outsAt1_B V c t h]; frame_out; exact key5 V c t r k

/-- A point of the second grid, from its number. -/
def pt (n : ℕ) : Fin cfg1.N := if h : n < cfg1.N then ⟨n, h⟩ else ⟨0, by decide +kernel⟩
theorem flush5 : ∀ t : Fin cfg1.N, (cfg1.win 5).flush t = true → t.val % 8 = 7 := (by decide +kernel : ∀ t : Fin grid1.N, _)

/-- What a point adds to the bias's gradient. -/
def add (t : Fin cfg1.N) (k : Fin 1024) : EReal := ∑ r, dl V c (row1 t r) (col1 t k)

theorem add_eq (t : Fin cfg1.N) (o : FVec Ideal S1x1024 .f32) (k : Fin 1024) :
    k1_pay7 (F := Ideal) (iblk1 V c 2 t) (iblk1 V c 0 t) (iblk1 V c 1 t) o (ix2 0 k) = (o (ix2 0 k) + add V c t k : EReal) := by
  refine (pay7_apply _ _ _ o k).trans (congrArg (fun s : EReal => (o (ix2 0 k) : EReal) + s) ?_)
  refine Finset.sum_congr rfl fun r _ => ?_
  rw [blk10, blk11, blk12]
  unfold dl
  rw [lo_col1]

theorem sums5 (t : Fin cfg1.N) (h : t.val % 8 = 7) (k : Fin 1024) :
    ((outsAt1 V c t.val t.isLt).2.2 : FVec Ideal S1x1024 .f32) (ix2 0 k) = ∑ r : Fin 8192, dl V c r (col1 t k) := by
  have hp : ∀ t : Fin cfg1.N, pt t.val = t := fun t => dif_pos t.isLt
  rw [Pipeline.eq_sum_of_reset_step (fun n h => ((outsAt1 V c n h).2.2 : FVec Ideal S1x1024 .f32) (ix2 0 k)) 8 (0 : EReal) (fun n => add V c (pt n) k)
    (fun t h => by rw [hp, outsAt1_A V c t h]; frame_out; rw [add_eq, pay6_apply])
    (fun t h => by rw [hp, outsAt1_B V c t h]; frame_out; rw [add_eq]) t, h, zero_add, show 7 + 1 = 8 from rfl, Finset.sum_range]
  have ht := (idx1 t).2.2.2.2.2.2
  refine Fin.sum_mul_add_congr (n := 1024) fun b r hl => ?_
  have hb := b.isLt
  have hN : cfg1.N = 16 := by decide +kernel
  have h1 : pt (8 * (t.val / 8) + b.val) = ⟨8 * (t.val / 8) + b.val, by omega⟩ := dif_pos (by omega)
  have h2 : row1 (pt (8 * (t.val / 8) + b.val)) r = ⟨b.val * 1024 + r.val, hl⟩ := by
    rw [h1]; exact Fin.ext (by simp only [row1]; omega)
  have h3 : col1 (pt (8 * (t.val / 8) + b.val)) k = col1 t k := by
    rw [h1]; exact Fin.ext (by simp only [col1]; omega)
  rw [h2, h3]

theorem final1_5 (k : Fin 2048) : ((dat1 V c).arrAt 5 cfg1.N : FVec Ideal S1x2048 .f32) (ix2 0 k) = ∑ r : Fin 8192, dl V c r k := by
  have e : (dat1 V c).arrAt 5 cfg1.N = (fun i => ∑ r : Fin 8192, dl V c r (i 1) : FVec Ideal S1x2048 .f32) := by
    refine (dat1 V c).arrAt_eq_of_covers 5 _ (by decide +kernel) fun t hf y => ?_
    blk_simp
    obtain ⟨l, rfl⟩ : ∃ l : Fin 1024, y = ix2 0 l := ⟨y 1, by rw [eq_ix2 y]; congr 1; exact Subsingleton.elim _ _⟩
    have he : ((View.whole main_v5_2).slice (win1_5.rect t)).emb (ix2 0 l) = (ix2 0 (col1 t l) : S1x2048.Idx) := by blk_ext [idx1 t]
    rw [he, after1_5]
    exact sums5 V c t (flush5 t hf) l
  exact congrFun e _

end Regions

end Cert.MergeIdeal.Value

end
-- ==== Proof.MergeRun.lean ====
/- What the gated sum's program leaves in its results. -/
module

public import proofs.«01_k».proof.Proof.MergeValue

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MergeIdeal.Value

open Cert.MergeIdeal Cert.MergeIdeal.Gen Cert.Gate

variable (m : (ℓ : Loc nD τ sig) → Buf (Elt Ideal) ℓ) (ρ : Dev nD → PrngReg)

/-- The resources the run is stated over. -/
abbrev Res := MT nD τ sig Unit (Elt Ideal) ℕ (UR sig nD τ) ℕ

set_option backward.isDefEq.respectTransparency.types false in
/-- Every array outside the kernels' own memory ends at the last boundary's contents. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

variable (c : Dev nD)

/-- The arguments. -/
abbrev dm : FVec Ideal S8192x1024 .f32 := m ((c.tc : Thread nD τ).loc main_arg0)
abbrev yc : FVec Ideal S8192x1024 .f32 := m ((c.tc : Thread nD τ).loc main_arg1)
abbrev ya : FVec Ideal S8192x1024 .f32 := m ((c.tc : Thread nD τ).loc main_arg2)
abbrev gl : FVec Ideal S8192x2048 .f32 := m ((c.tc : Thread nD τ).loc main_arg3)
abbrev bg : FVec Ideal S1x2048 .f32 := m ((c.tc : Thread nD τ).loc main_arg4)

/-! ## What the regions are entered with -/

theorem V1_v1 : vy (V1 m ρ) c = (truncf (F := Ideal) .bf16
    (concatenate S8192x2048 1 [⟨S8192x1024, yc m c⟩, ⟨S8192x1024, ya m c⟩] concatenates_S8192x1024_S8192x1024_S8192x2048_d1) bitsLt_bf16_f32 : FVec Ideal S8192x2048 .bf16) := by
  unfold vy V1 W1
  simp only [hostOps0]
  after_results_simp
theorem V1_v2 : vl (V1 m ρ) c = gl m c := by
  unfold vl V1 W1
  simp only [hostOps0]
  after_results_simp
  rfl
theorem V1_b : vb (V1 m ρ) c = bg m c := W1_args m ρ c main_arg4 (by decide)

theorem y_apply (r : Fin 8192) (k : Fin 2048) : vy (V1 m ρ) c (ix2 r k) = both (yc m c) (ya m c) r k := by
  rw [V1_v1]
  pointwise []
  unfold both
  by_cases h : k.val < 1024
  · simp only [h, if_true, dif_pos, lo, Nat.mod_eq_of_lt h]
  · have e : k.val % 1024 = k.val - 1024 := by omega
    simp only [h, if_false, dif_neg, lo, e, not_false_eq_true]

theorem gates_apply (r : Fin 8192) (k : Fin 2048) : gates (V1 m ρ) c (ix2 r k) = gate (gl m c) (bg m c) r k := by
  unfold gates
  rw [V1_v2, V1_b]
  rfl

theorem V3_v1 : vy (V3 m ρ) c = vy (V1 m ρ) c :=
  (W3_of m ρ c main_v1 (by decide)).trans (W2_of m ρ c main_v1 (by decide +kernel))
theorem V3_g : vg (V3 m ρ) c = gates (V1 m ρ) c :=
  (W3_of m ρ c main_v3_1 (by decide)).trans ((W2_arr m ρ c 4).trans (final0_4 (V1 m ρ) c))
theorem V3_d : vd (V3 m ρ) c = dm m c := by
  have e : W2 m ρ c (Proc.devRef .tc main_arg0) = dm m c := W2_args m ρ c main_arg0 (by decide)
  unfold vd V3 W3
  simp only [hostOps1]
  after_results_simp
  rw [e]
  rfl

theorem dl_apply (r : Fin 8192) (k : Fin 2048) : dl (V3 m ρ) c r k
    = dlogit (dm m c (ix2 r (lo k))) (both (yc m c) (ya m c) r k) (gate (gl m c) (bg m c) r k) := by
  unfold dl
  rw [V3_d, V3_v1, V3_g, y_apply, gates_apply]

/-! ## The results -/

theorem res0 : W4 m ρ c (Proc.devRef .tc main_v3_0) = Cert.MergeRefIdeal.Read.val_main_v28 (F := Ideal) (yc m c) (ya m c) (gl m c) (bg m c) := by
  refine (W4_of m ρ c main_v3_0 (by decide +kernel)).trans ((W3_of m ρ c main_v3_0 (by decide)).trans ((W2_arr m ρ c 3).trans
    ((final0_3 (V1 m ρ) c).trans (funext fun i => ?_))))
  obtain ⟨r, k, rfl⟩ : ∃ (r : Fin 8192) (k : Fin 1024), i = ix2 r k := ⟨i 0, i 1, eq_ix2 i⟩
  rw [v28_apply, ← gates_apply m ρ, ← gates_apply m ρ, ← y_apply m ρ, ← y_apply m ρ]
  rfl

theorem res1 (r : Fin 8192) (k : Fin 2048) : (W4 m ρ c (Proc.devRef .tc main_v5_0) : FVec Ideal S8192x5376 .bf16) (ix2 r ⟨3072 + k.val, by omega⟩)
    = Cert.MergeRefIdeal.Read.val_main_v27 (F := Ideal) (dm m c) (yc m c) (ya m c) (gl m c) (bg m c) (ix2 r ⟨3072 + k.val, by omega⟩) := by
  rw [v27_apply, ← dl_apply m ρ]
  exact (congrFun (W4_arr m ρ c 3) _).trans (final1_3 (V3 m ρ) c r k)

theorem res2 : W4 m ρ c (Proc.devRef .tc main_v5_1) = Cert.MergeRefIdeal.Read.val_main_v30 (F := Ideal) (dm m c) (gl m c) (bg m c) := by
  refine (W4_arr m ρ c 4).trans ((final1_4 (V3 m ρ) c).trans (funext fun i => ?_))
  obtain ⟨r, k, rfl⟩ : ∃ (r : Fin 8192) (k : Fin 2048), i = ix2 r k := ⟨i 0, i 1, eq_ix2 i⟩
  rw [v30_apply]
  unfold db
  rw [V3_d, V3_g]
  exact congrArg (fun g : EReal => (dm m c (ix2 r (lo k)) * g : EReal)) (gates_apply m ρ c r k)

theorem res3 : W4 m ρ c (Proc.devRef .tc main_v5_2) = Cert.MergeRefIdeal.Read.val_main_v25 (F := Ideal) (dm m c) (yc m c) (ya m c) (gl m c) (bg m c) := by
  refine (W4_arr m ρ c 5).trans (funext fun i => ?_)
  obtain ⟨k, rfl⟩ : ∃ k : Fin 2048, i = ix2 0 k := ⟨i 1, by rw [eq_ix2 i]; congr 1; exact Subsingleton.elim _ _⟩
  rw [v25_apply]
  refine (final1_5 (V3 m ρ) c k).trans ?_
  exact Finset.sum_congr (M := EReal) rfl fun r _ => dl_apply m ρ c r k

end Cert.MergeIdeal.Value

end
-- ==== Proof.MergeClaims.lean ====
/- The claims about Merge. -/
module

public import proofs.«01_k».proof.Proof.Reals
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.MergeRun
public import proofs.«01_k».proof.Defs
public import Idealize.ShloMosaic.Lib.Claim

@[expose] public section

set_option maxRecDepth 16384

noncomputable section

open Idealize.ShloMosaic Idealize.ShloMosaic.TcCoe Idealize.SL.Sem Cert.Reals

namespace Cert.Proof.Merge

theorem frame : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ =>
  (θ_run Cert.MergeRefIdeal.defs _ _).mono (fun r h => ⟨fun c => (h c).2.2.2.2, sem_eq_zero_of_no_sems (by decide) r.2⟩)
    (Cert.MergeRefIdeal.Value.run (F := Ideal) m ρ)

theorem preserves : Cert.preserves_Merge_MergeIdeal := trivial

theorem mask_facts : Cert.On_gate_columns.Facts := by constructor <;> decide
attribute [local instance] mask_facts

open Cert.MergeIdeal.Value (dm yc ya gl bg run_all res0 res1 res2 res3)

theorem cols : ∀ k : Fin 5376, IntOp.andi (IntOp.cmpi .sge (BitVec.ofNat 32 k.val) 3072#32) (IntOp.cmpi .slt (BitVec.ofNat 32 k.val) 5120#32) = 1#1 →
    3072 ≤ k.val ∧ k.val < 5120 := by decide +kernel
/-- An element the mask keeps lies in the gate's columns. -/
theorem mask_cols (a b c : FVec Ideal Cert.On_gate_columns.S8192x1024 .f32) (d : FVec Ideal Cert.On_gate_columns.S8192x2048 .f32)
    (e : FVec Ideal Cert.On_gate_columns.S1x2048 .f32) (r : Fin 8192) (k : Fin 5376)
    (h : (Cert.On_gate_columns.fn (F := Ideal) a b c d e).2.1 (ix2 r k) = 1#1) : 3072 ≤ k.val ∧ k.val < 5120 := by
  unfold Cert.On_gate_columns.fn at h
  have h' : (andi (cmpi .sge (iotaInDim Cert.On_gate_columns.S8192x5376 32 1) (fun _ => 3072#32)) (cmpi .slt (iotaInDim Cert.On_gate_columns.S8192x5376 32 1) (fun _ => 5120#32))) (ix2 r k) = 1#1 := h
  clear h
  pointwise [] at h'
  exact cols k h'

theorem algebraic : Cert.algebraic_MergeIdeal_MergeRefIdeal_on_gate_columns := by
  intro m g m' g' hpre hagree
  refine ⟨fun c => Cert.MergeRefIdeal.Read.val_main_v28 (F := Ideal) (yc m c) (ya m c) (gl m c) (bg m c),
    fun c => Cert.MergeRefIdeal.Read.val_main_v27 (F := Ideal) (dm m c) (yc m c) (ya m c) (gl m c) (bg m c),
    fun c => Cert.MergeRefIdeal.Read.val_main_v30 (F := Ideal) (dm m c) (gl m c) (bg m c),
    fun c => Cert.MergeRefIdeal.Read.val_main_v25 (F := Ideal) (dm m c) (yc m c) (ya m c) (gl m c) (bg m c), ?_, ?_⟩
  · refine (θ_run _ _ _).mono (fun s h c => ?_) (run_all m g)
    have ha := Cert.MergeIdeal.Gen.W4_args m g c
    refine ⟨fun i _ => congrFun ((h c _ (by decide)).trans (res0 m g c)) i, fun i hi => ?_,
      fun i _ => congrFun ((h c _ (by decide)).trans (res2 m g c)) i, fun i _ => congrFun ((h c _ (by decide)).trans (res3 m g c)) i,
      (h c _ (by decide)).trans (ha _ (by decide)), (h c _ (by decide)).trans (ha _ (by decide)), (h c _ (by decide)).trans (ha _ (by decide)),
      (h c _ (by decide)).trans (ha _ (by decide)), (h c _ (by decide)).trans (ha _ (by decide))⟩
    obtain ⟨r, k, rfl⟩ : ∃ (r : Fin 8192) (k : Fin 5376), i = ix2 r k := ⟨i 0, i 1, eq_ix2 i⟩
    have hk := mask_cols _ _ _ _ _ r k hi
    have hl : k = ⟨3072 + (⟨k.val - 3072, by omega⟩ : Fin 2048).val, by show 3072 + (k.val - 3072) < 5376; omega⟩ :=
      Fin.ext (by show k.val = 3072 + (k.val - 3072); omega)
    rw [hl]
    exact (congrFun (h c Cert.MergeIdeal.main_v5_0 (by decide)) _).trans (res1 m g c r _)
  · refine (θ_run _ _ _).mono (fun s h c => ?_) (Cert.MergeRefIdeal.Value.run (F := Ideal) m' g')
    obtain ⟨e0, e1, e2, e3, e4⟩ := hagree c
    refine ⟨fun i _ => congrFun ((h c).1.trans ?_) i, fun i _ => congrFun ((h c).2.1.trans ?_) i,
      fun i _ => congrFun ((h c).2.2.1.trans ?_) i, fun i _ => congrFun ((h c).2.2.2.1.trans ?_) i, (h c).2.2.2.2⟩
    · rw [Cert.MergeRefIdeal.Read.val_main_v28_eq, e1, e2, e3, e4]
    · rw [Cert.MergeRefIdeal.Read.val_main_v27_eq, e0, e1, e2, e3, e4]
    · rw [Cert.MergeRefIdeal.Read.val_main_v30_eq, e0, e3, e4]
    · rw [Cert.MergeRefIdeal.Read.val_main_v25_eq, e0, e1, e2, e3, e4]

end Cert.Proof.Merge

end
-- ==== Proof.FinalLossMath.lean ====
/- The loss and the gradient of the last norm over the real numbers, and both programs' rows read as them. -/
module

public import proofs.«01_k».proof.Proof.RmsBwdMath
public import proofs.«01_k».proof.Proof.Gen.FinalLossIdeal.Skeleton
public import proofs.«01_k».proof.Proof.Gen.FinalLossRefIdeal.Read

@[expose] public section

set_option maxRecDepth 16384

noncomputable section

open Idealize.ShloMosaic Cert.Reals

namespace Cert.RmsNorm

theorem inv_d : Ideal.ofBits .f32 0x3A800000#32 = ((1 / 1024 : ℝ) : EReal) := by
  simp [Ideal.ofBits, Ideal.ieee, -EReal.coe_mul]; norm_num
theorem half_inv_d : Ideal.ofBits .f32 0x3A000000#32 = ((1 / 2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-- What a row misses its target by. -/
def err (x g t : Fin 1024 → ℝ) (k : Fin 1024) : ℝ := x k * rr x * g k - t k
/-- The gradient of the loss at the norm's result. -/
def dy (x g t : Fin 1024 → ℝ) (k : Fin 1024) : ℝ := err x g t k * (1 / 1024)
/-- A row's share of the loss. -/
def share (x g t : Fin 1024 → ℝ) : ℝ := (∑ k, err x g t k * err x g t k) * (1 / 2048)

section Kernel
open Cert.FinalLossIdeal Cert.FinalLossIdeal.Gen

variable (x : FVec Ideal S512x1024 .f32) (g : FVec Ideal S1x1024 .f32) (t : FVec Ideal S512x1024 .f32)
  (X T : Fin 512 → Fin 1024 → ℝ) (G : Fin 1024 → ℝ)

theorem loss_pay5 (hx : ∀ r c, x (ix2 r c) = (X r c : EReal)) (r : Fin 512) : k0_pay5 (F := Ideal) x (ix2 r 0) = (rr (X r) : EReal) := by
  pointwise [k0_pay5]
  simp only [hx, ← EReal.coe_mul, coe_sum, d_eq, eps_eq]
  rw [div_real (by norm_num), ← EReal.coe_add, rsqrt_real (arg_pos _)]
  rfl

theorem loss_pay6 (hx : ∀ r c, x (ix2 r c) = (X r c : EReal)) (r : Fin 512) (c : Fin 1024) :
    k0_pay6 (F := Ideal) x (ix2 r c) = ((X r c * rr (X r) : ℝ) : EReal) := by
  pointwise [k0_pay6]
  rw [loss_pay5 x X hx, hx, ← EReal.coe_mul]

variable (hx : ∀ r c, x (ix2 r c) = (X r c : EReal)) (ht : ∀ r c, t (ix2 r c) = (T r c : EReal)) (hg : ∀ c, g (ix2 0 c) = (G c : EReal))

include hx ht hg in
theorem loss_pay7 (r : Fin 512) (c : Fin 1024) : k0_pay7 (F := Ideal) x g t (ix2 r c) = (err (X r) G (T r) c : EReal) := by
  pointwise [k0_pay7]
  rw [loss_pay6 x X hx, hg, ht, ← EReal.coe_mul, ← EReal.coe_sub]
  rfl

include hx ht hg in
theorem loss_pay8 (r : Fin 512) (c : Fin 1024) : k0_pay8 (F := Ideal) x g t (ix2 r c) = (dy (X r) G (T r) c : EReal) := by
  pointwise [k0_pay8]
  rw [loss_pay7 x g t X T G hx ht hg, inv_d, ← EReal.coe_mul]
  rfl

include hx ht hg in
theorem loss_pay9 (r : Fin 512) (c : Fin 1024) : k0_pay9 (F := Ideal) x g t (ix2 r c) = (dx (X r) (dy (X r) G (T r)) G c : EReal) := by
  pointwise [k0_pay9]
  simp only [loss_pay5 x X hx, loss_pay6 x X hx, loss_pay8 x g t X T G hx ht hg, hg, ← EReal.coe_mul, coe_sum, d_eq]
  rw [div_real (by norm_num), ← EReal.coe_mul, ← EReal.coe_sub, ← EReal.coe_mul]
  rfl

include hx ht hg in
theorem loss_pay11 (r : Fin 512) : k0_pay11 (F := Ideal) x g t (ix2 r 0) = (share (X r) G (T r) : EReal) := by
  pointwise [k0_pay11]
  simp only [loss_pay7 x g t X T G hx ht hg, ← EReal.coe_mul, coe_sum, half_inv_d]
  rfl

theorem loss_pay3 (u w : FVec Ideal S512x1024 .f32) (o : FVec Ideal S1x1024 .f32) (c : Fin 1024) :
    k0_pay3 (F := Ideal) u w o (ix2 0 c) = (o (ix2 0 c) + ∑ r, w (ix2 r c) * u (ix2 r c) : EReal) := by
  pointwise [k0_pay3]
theorem loss_pay4 (u : FVec Ideal S512x1 .f32) (o : FVec Ideal S1x128 .f32) (l : Fin 128) :
    k0_pay4 (F := Ideal) u o (ix2 0 l) = (o (ix2 0 l) + ∑ r, u (ix2 r 0) : EReal) := by
  pointwise [k0_pay4]

end Kernel

section Reference
open Cert.FinalLossRefIdeal Cert.FinalLossRefIdeal.Gen Cert.FinalLossRefIdeal.Read

variable (x : FVec Ideal S8192x1024 .f32) (g : FVec Ideal S1x1024 .f32) (t : FVec Ideal S8192x1024 .f32)
  (X T : Fin 8192 → Fin 1024 → ℝ) (G : Fin 1024 → ℝ)

theorem ref_v6 (hx : ∀ r c, x (ix2 r c) = (X r c : EReal)) (r : Fin 8192) :
    val_main_v6 (F := Ideal) x (ix2 r 0) = (((∑ k, X r k * X r k) / 1024 + eps : ℝ) : EReal) := by
  pointwise [val_main_v6, val_main_v5, val_main_v4, val_main_v3, val_main_v2, val_main_v1, val_main_v0, val_main_cst, val_main_cst_0, val_main_cst_1]
  simp only [hx, ← EReal.coe_mul, coe_sum, d_eq, eps_eq]
  rw [div_real (by norm_num), ← EReal.coe_add]

theorem ref_v7 (hx : ∀ r c, x (ix2 r c) = (X r c : EReal)) (r : Fin 8192) :
    val_main_v7 (F := Ideal) x (ix2 r 0) = (rr (X r) : EReal) := by
  pointwise [val_main_v7]
  rw [ref_v6 x X hx, rsqrt_real (arg_pos _)]
  rfl

variable (hx : ∀ r c, x (ix2 r c) = (X r c : EReal)) (ht : ∀ r c, t (ix2 r c) = (T r c : EReal)) (hg : ∀ c, g (ix2 0 c) = (G c : EReal))

include hx ht hg in
theorem ref_v15 (r : Fin 8192) (c : Fin 1024) : val_main_v15 (F := Ideal) x g t (ix2 r c) = (err (X r) G (T r) c : EReal) := by
  pointwise [val_main_v15, val_main_v14, val_main_v13, val_main_v12, val_main_v11]
  rw [ref_v7 x X hx, hx, hg, ht, ← EReal.coe_mul, ← EReal.coe_mul, ← EReal.coe_sub]
  rfl

include hx ht hg in
theorem ref_v29 (r : Fin 8192) (c : Fin 1024) : val_main_v29 (F := Ideal) x g t (ix2 r c) = (dy (X r) G (T r) c : EReal) := by
  pointwise [val_main_v29, val_main_v28, val_main_v27, val_main_v26, val_main_v25, val_main_v24, val_main_v18, val_main_v17,
    val_main_cst_10, val_main_cst_9, val_main_cst_8, val_main_cst_3]
  rw [ref_v15 x g t X T G hx ht hg, half, two, d_eq, div_real (by norm_num), ← EReal.coe_mul, ← EReal.coe_mul]
  congr 1
  unfold dy
  ring

include hx ht hg in
theorem ref_v43 (r : Fin 8192) : val_main_v43 (F := Ideal) x g t (ix1 r)
    = (((∑ k, X r k * (dy (X r) G (T r) k * G k)) * (-(1/2) * (rr (X r) / ((∑ k, X r k * X r k) / 1024 + eps))) / 1024 : ℝ) : EReal) := by
  pointwise [val_main_v43, val_main_v42, val_main_v41, val_main_v40, val_main_v37, val_main_v36, val_main_v35, val_main_v34, val_main_v33,
    val_main_v10, val_main_v9, val_main_v8, val_main_cst_14, val_main_cst_13, val_main_cst_12, val_main_cst_2]
  simp only [Fin.sum_univ_one, ref_v6 x X hx, ref_v7 x X hx, ref_v29 x g t X T G hx ht hg, hx, hg, ← EReal.coe_mul, coe_sum, d_eq, neg_half]
  rw [div_real (arg_pos _).ne', ← EReal.coe_mul, ← EReal.coe_mul, div_real (by norm_num)]

include hx ht hg in
theorem ref_v48 (r : Fin 8192) (c : Fin 1024) : val_main_v48 (F := Ideal) x g t (ix2 r c) = (dx (X r) (dy (X r) G (T r)) G c : EReal) := by
  pointwise [val_main_v48, val_main_v47, val_main_v46, val_main_v45, val_main_v44, val_main_v39, val_main_v38, val_main_v34, val_main_v33]
  simp only [ref_v7 x X hx, ref_v43 x g t X T G hx ht hg, ref_v29 x g t X T G hx ht hg, hx, hg, ← EReal.coe_mul]
  rw [← EReal.coe_add, ← EReal.coe_add]
  congr 1
  have h1 : rr (X r) / ((∑ k, X r k * X r k) / 1024 + eps) = rr (X r) ^ 3 := by
    unfold rr
    rw [inv_pow, pow_succ, Real.sq_sqrt (arg_pos _).le, mul_inv, div_eq_mul_inv, mul_comm]
  have h2 : (∑ k, dy (X r) G (T r) k * G k * (X r k * rr (X r))) = (∑ k, X r k * (dy (X r) G (T r) k * G k)) * rr (X r) := by
    rw [Finset.sum_mul]; exact Finset.sum_congr rfl fun k _ => by ring
  unfold dx
  rw [h1, h2]
  ring

include hx ht hg in
theorem ref_v32 (c : Fin 1024) : val_main_v32 (F := Ideal) x g t (ix2 0 c) = ((∑ r, dy (X r) G (T r) c * (X r c * rr (X r)) : ℝ) : EReal) := by
  pointwise [val_main_v32, val_main_v31, val_main_v30, val_main_v12, val_main_v11, val_main_cst_11]
  simp only [ref_v7 x X hx, ref_v29 x g t X T G hx ht hg, hx, ← EReal.coe_mul, coe_sum]
  congr 1
  exact Finset.sum_congr rfl fun r _ => by ring

include hx ht hg in
theorem ref_v50 (l : Fin 128) : val_main_v50 (F := Ideal) x g t (ix2 0 l) = ((∑ r, share (X r) G (T r) : ℝ) : EReal) := by
  pointwise [val_main_v50, val_main_v23, val_main_v22, val_main_v21, val_main_v20, val_main_v19, val_main_v16,
    val_main_cst_7, val_main_cst_6, val_main_cst_5, val_main_cst_4]
  simp only [ref_v15 x g t X T G hx ht hg, ← EReal.coe_mul, coe_sum, d_eq, half]
  simp only [div_real (show (1024 : ℝ) ≠ 0 by norm_num), coe_sum, ← EReal.coe_mul]
  congr 1
  rw [Finset.mul_sum]
  refine Finset.sum_congr rfl fun r _ => ?_
  unfold share
  ring

end Reference

end Cert.RmsNorm
-- ==== Proof.FinalLossValue.lean ====
/- What the last norm's and the loss's kernel leaves in its four arrays, for finite arguments. -/
module

public import proofs.«01_k».proof.Proof.FinalLossMath
public import proofs.«01_k».proof.Proof.Gen.FinalLossIdeal.Value
public import proofs.«01_k».proof.Proof.Gen.FinalLossRefIdeal.Run
public import proofs.«01_k».proof.Defs

@[expose] public section

set_option maxRecDepth 16384

noncomputable section

open Idealize.ShloMosaic Idealize.ShloMosaic.TcCoe Idealize.SL.Sem Cert.Reals
open Idealize.ShloMosaic.Pipeline (Dat)

namespace Cert.FinalLossIdeal.Value

open Cert.FinalLossIdeal Cert.FinalLossIdeal.Gen Cert.RmsNorm

variable (m : (ℓ : Loc nD τ sig) → Buf (Elt Ideal) ℓ)

/-- The three argument arrays of device `c`. -/
abbrev ax (c : Dev nD) : FVec Ideal S8192x1024 .f32 := m ((c : Thread nD τ).loc main_arg0)
abbrev ag (c : Dev nD) : FVec Ideal S1x1024 .f32 := m ((c : Thread nD τ).loc main_arg1)
abbrev at' (c : Dev nD) : FVec Ideal S8192x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] ∧ t.val < 16 :=
  (by decide +kernel : ∀ t : Fin grid0.N, _)

section Blocks
variable (c : Dev nD) (t : Fin cfg0.N)

theorem row_lt (r : Fin 512) : t.val * 512 + r.val < 8192 := by
  have := (idx t).2.2.2.2.2.2.2; omega

/-- Row `r` of point `t`'s blocks is row `512 t + r` of the arrays. -/
abbrev row (r : Fin 512) : Fin 8192 := ⟨t.val * 512 + r.val, row_lt t r⟩

theorem blk0 (r : Fin 512) (k : Fin 1024) : (show FVec Ideal S512x1024 .f32 from iblk m c 0 t) (ix2 r k) = ax m c (ix2 (row t r) k) := by
  blk_point [iblk, V, idx t]
theorem blk1 (k : Fin 1024) : (show FVec Ideal S1x1024 .f32 from iblk m c 1 t) (ix2 0 k) = ag m c (ix2 0 k) := by
  blk_point [iblk, V, idx t]
theorem blk2 (r : Fin 512) (k : Fin 1024) : (show FVec Ideal S512x1024 .f32 from iblk m c 2 t) (ix2 r k) = at' m c (ix2 (row t r) k) := by
  blk_point [iblk, V, idx t]

end Blocks

variable (X T : Dev nD → Fin 8192 → Fin 1024 → ℝ) (G : Dev nD → Fin 1024 → ℝ)
variable (hx : ∀ c r k, ax m c (ix2 r k) = (X c r k : EReal)) (ht : ∀ c r k, at' m c (ix2 r k) = (T c r k : EReal))
variable (hg : ∀ c k, ag m c (ix2 0 k) = (G c k : EReal))

include hx ht hg in
theorem rows (c : Dev nD) (t : Fin cfg0.N) (r : Fin 512) (k : Fin 1024) :
    k0_pay9 (F := Ideal) (iblk m c 0 t) (iblk m c 1 t) (iblk m c 2 t) (ix2 r k)
      = Cert.FinalLossRefIdeal.Read.val_main_v48 (F := Ideal) (ax m c) (ag m c) (at' m c) (ix2 (row t r) k) := by
  rw [ref_v48 (ax m c) (ag m c) (at' m c) (X c) (T c) (G c) (hx c) (ht c) (hg c)]
  exact loss_pay9 (iblk m c 0 t) (iblk m c 1 t) (iblk m c 2 t) (fun r => X c (row t r)) (fun r => T c (row t r)) (G c)
    (fun r k => (blk0 m c t r k).trans (hx c _ k)) (fun r k => (blk2 m c t r k).trans (ht c _ k)) (fun k => (blk1 m c t k).trans (hg c k)) r k

include hx ht hg in
/-- The gradient of the rows, -/
theorem final3 (c : Dev nD) : (dats m 0 c).arrAt 3 cfg0.N
    = Cert.FinalLossRefIdeal.Read.val_main_v48 (F := Ideal) (ax m c) (ag m c) (at' m c) := by
  refine (dats m 0 c).arrAt_eq_of_covers 3 _ (by decide +kernel) fun t _ y => ?_
  blk_simp
  obtain ⟨r, k, rfl⟩ : ∃ (r : Fin 512) (k : Fin 1024), y = ix2 r k := ⟨y 0, y 1, eq_ix2 y⟩
  have he : ((View.whole main_v0_0).slice (win0_3.rect t)).emb (ix2 r k) = (ix2 (row t r) k : S8192x1024.Idx) := by blk_ext [idx t]
  rw [he, after0_3]
  by_cases h : t.val % 16 = 0
  · rw [outsAt0_A m c t h]; frame_out; exact rows m X T G hx ht hg c t r k
  · rw [outsAt0_B m c t h]; frame_out; exact rows m X T G hx ht hg c t r k

include hx ht hg in
/-- and again in the narrow format. -/
theorem final4 (c : Dev nD) : (dats m 0 c).arrAt 4 cfg0.N
    = Cert.FinalLossRefIdeal.Read.val_main_v49 (F := Ideal) (ax m c) (ag m c) (at' m c) := by
  refine (dats m 0 c).arrAt_eq_of_covers 4 _ (by decide +kernel) fun t _ y => ?_
  blk_simp
  obtain ⟨r, k, rfl⟩ : ∃ (r : Fin 512) (k : Fin 1024), y = ix2 r k := ⟨y 0, y 1, eq_ix2 y⟩
  have he : ((View.whole main_v0_1).slice (win0_4.rect t)).emb (ix2 r k) = (ix2 (row t r) k : S8192x1024.Idx) := by blk_ext [idx t]
  rw [he, after0_4]
  by_cases h : t.val % 16 = 0
  · rw [outsAt0_A m c t h]; frame_out; exact rows m X T G hx ht hg c t r k
  · rw [outsAt0_B m c t h]; frame_out; exact rows m X T G hx ht hg c t r k

theorem pay1_zero (k : Fin 1024) : k0_pay1 (F := Ideal) (ix2 0 k) = (0 : EReal) := by pointwise [k0_pay1]
theorem pay2_zero (l : Fin 128) : k0_pay2 (F := Ideal) (ix2 0 l) = (0 : EReal) := by pointwise [k0_pay2]

include hx ht hg in
/-- The loss: the points' shares added up. -/
theorem final5 (c : Dev nD) : (dats m 0 c).arrAt 5 cfg0.N
    = Cert.FinalLossRefIdeal.Read.val_main_v50 (F := Ideal) (ax m c) (ag m c) (at' m c) := by
  refine (dats m 0 c).arrAt_eq_of_after_last 5 t0_15 (by decide +kernel) _ fun j => ?_
  blk_simp
  obtain ⟨l, rfl⟩ : ∃ l : Fin 128, j = ix2 0 l := ⟨j 1, by rw [eq_ix2 j]; congr 1; exact Subsingleton.elim _ _⟩
  rw [after0_5, Pipeline.eq_sum_fin_of_reset_step_apply_last (fun n h => (outsAt0 m c n h).2.2.1) 16 (fun _ => (0 : EReal))
      (fun t j => (∑ r : Fin 512, k0_pay11 (F := Ideal) (iblk m c 0 t) (iblk m c 1 t) (iblk m c 2 t) (ix2 r 0) : EReal))
    (fun t h j => by
      rw [outsAt0_A m c t h]; frame_out
      obtain ⟨l, rfl⟩ : ∃ l : Fin 128, j = ix2 0 l := ⟨j 1, by rw [eq_ix2 j]; congr 1; exact Subsingleton.elim _ _⟩
      rw [loss_pay4, pay2_zero])
    (fun t h j => by
      rw [outsAt0_B m c t h]; frame_out
      obtain ⟨l, rfl⟩ : ∃ l : Fin 128, j = ix2 0 l := ⟨j 1, by rw [eq_ix2 j]; congr 1; exact Subsingleton.elim _ _⟩
      rw [loss_pay4])
    (le_of_eq N_0) t0_15 rfl (ix2 0 l), zero_add, ref_v50 (ax m c) (ag m c) (at' m c) (X c) (T c) (G c) (hx c) (ht c) (hg c), ← coe_sum]
  have e : ∀ t : Fin cfg0.N, (∑ r : Fin 512, k0_pay11 (F := Ideal) (iblk m c 0 t) (iblk m c 1 t) (iblk m c 2 t) (ix2 r 0) : EReal)
      = ∑ r : Fin 512, ((share (X c (row t r)) (G c) (T c (row t r)) : ℝ) : EReal) := fun t => Finset.sum_congr rfl fun r _ =>
    loss_pay11 (iblk m c 0 t) (iblk m c 1 t) (iblk m c 2 t) (fun r => X c (row t r)) (fun r => T c (row t r)) (G c)
      (fun r k => (blk0 m c t r k).trans (hx c _ k)) (fun r k => (blk2 m c t r k).trans (ht c _ k)) (fun k => (blk1 m c t k).trans (hg c k)) r
  simp only [e]
  refine Fin.sum_mul_add_congr fun t r h => rfl

include hx ht hg in
/-- The gradient of the gain. -/
theorem final6 (c : Dev nD) : (dats m 0 c).arrAt 6 cfg0.N
    = Cert.FinalLossRefIdeal.Read.val_main_v32 (F := Ideal) (ax m c) (ag m c) (at' m c) := by
  refine (dats m 0 c).arrAt_eq_of_after_last 6 t0_15 (by decide +kernel) _ fun j => ?_
  blk_simp
  obtain ⟨k, rfl⟩ : ∃ k : Fin 1024, j = ix2 0 k := ⟨j 1, by rw [eq_ix2 j]; congr 1; exact Subsingleton.elim _ _⟩
  rw [after0_6, Pipeline.eq_sum_fin_of_reset_step_apply_last (fun n h => (outsAt0 m c n h).2.2.2) 16 (fun _ => (0 : EReal))
      (fun t j => (∑ r : Fin 512, k0_pay8 (F := Ideal) (iblk m c 0 t) (iblk m c 1 t) (iblk m c 2 t) (ix2 r (j 1)) * k0_pay6 (F := Ideal) (iblk m c 0 t) (ix2 r (j 1)) : EReal))
    (fun t h j => by
      rw [outsAt0_A m c t h]; frame_out
      obtain ⟨k, rfl⟩ : ∃ k : Fin 1024, j = ix2 0 k := ⟨j 1, by rw [eq_ix2 j]; congr 1; exact Subsingleton.elim _ _⟩
      rw [loss_pay3, pay1_zero]; rfl)
    (fun t h j => by
      rw [outsAt0_B m c t h]; frame_out
      obtain ⟨k, rfl⟩ : ∃ k : Fin 1024, j = ix2 0 k := ⟨j 1, by rw [eq_ix2 j]; congr 1; exact Subsingleton.elim _ _⟩
      rw [loss_pay3]; rfl)
    (le_of_eq N_0) t0_15 rfl (ix2 0 k), zero_add, ref_v32 (ax m c) (ag m c) (at' m c) (X c) (T c) (G c) (hx c) (ht c) (hg c), ← coe_sum]
  have e : ∀ t : Fin cfg0.N, (∑ r : Fin 512, k0_pay8 (F := Ideal) (iblk m c 0 t) (iblk m c 1 t) (iblk m c 2 t) (ix2 r k) * k0_pay6 (F := Ideal) (iblk m c 0 t) (ix2 r k) : EReal)
      = ∑ r : Fin 512, ((dy (X c (row t r)) (G c) (T c (row t r)) k * (X c (row t r) k * rr (X c (row t r))) : ℝ) : EReal) := fun t => Finset.sum_congr rfl fun r _ => by
    rw [loss_pay8 (iblk m c 0 t) (iblk m c 1 t) (iblk m c 2 t) (fun r => X c (row t r)) (fun r => T c (row t r)) (G c)
      (fun r k => (blk0 m c t r k).trans (hx c _ k)) (fun r k => (blk2 m c t r k).trans (ht c _ k)) (fun k => (blk1 m c t k).trans (hg c k)),
      loss_pay6 (iblk m c 0 t) (fun r => X c (row t r)) (fun r k => (blk0 m c t r k).trans (hx c _ k)), ← EReal.coe_mul]
  simp only [show (ix2 (0 : Fin 1) k : S1x1024.Idx) 1 = k from rfl, e]
  refine Fin.sum_mul_add_congr fun t r h => rfl

end Cert.FinalLossIdeal.Value

end
-- ==== Proof.FinalLossClaims.lean ====
/- The claims about FinalLoss. -/
module

public import proofs.«01_k».proof.Proof.FinalLossValue
public import proofs.«01_k».proof.Proof.Gen.FinalLoss.Frame
public import Idealize.ShloMosaic.Lib.Claim

@[expose] public section

set_option maxRecDepth 16384

noncomputable section

open Idealize.ShloMosaic Idealize.ShloMosaic.TcCoe Idealize.SL.Sem Cert.Reals

namespace Cert.Proof.FinalLoss

theorem pre_facts : Cert.Pre_final_loss_finite.Facts := by constructor <;> decide

attribute [local instance] pre_facts

theorem frame : Cert.quiescent_FinalLoss := fun m ρ _ => Cert.FinalLoss.Gen.frame m ρ
theorem frame_ideal : Cert.quiescent_FinalLossIdeal := fun m ρ _ => Cert.FinalLossIdeal.Gen.frame m ρ
theorem frame_ideal_pre : Cert.quiescent_FinalLossIdeal_pre_final_loss_finite := fun m ρ _ => Cert.FinalLossIdeal.Gen.frame m ρ
theorem frame_ref : Cert.quiescent_FinalLossRefIdeal := fun m ρ _ =>
  (θ_run Cert.FinalLossRefIdeal.defs _ _).mono (fun r h => ⟨fun c => (h c).2.2.2.2, sem_eq_zero_of_no_sems (by decide) r.2⟩)
    (Cert.FinalLossRefIdeal.Value.run (F := Ideal) m ρ)

theorem frame_ref_pre : Cert.quiescent_FinalLossRefIdeal_pre_final_loss_finite := fun m ρ _ => frame_ref m ρ trivial

theorem preserves : Cert.preserves_FinalLoss_FinalLossIdeal := trivial

theorem algebraic : Cert.algebraic_FinalLossIdeal_FinalLossRefIdeal_pre_final_loss_finite := by
  intro m g m' g' hpre hagree
  have hx := fun c => reals_of fun i => of_finite (congrFun (hpre c).1 i)
  have hg := fun c => reals_of fun i => of_finite (congrFun (hpre c).2.1 i)
  have ht := fun c => reals_of fun i => of_finite (congrFun (hpre c).2.2 i)
  choose X hx using hx
  choose G hg using hg
  choose T ht using ht
  refine ⟨_, _, _, _, (θ_run _ _ _).mono (fun _ h c => h c) (Cert.FinalLossIdeal.Value.run_blocks m g), ?_⟩
  refine (θ_run _ _ _).mono (fun _ h c => ?_) (Cert.FinalLossRefIdeal.Value.run (F := Ideal) m' g')
  refine ⟨(h c).1.trans ?_, (h c).2.1.trans ?_, (h c).2.2.1.trans ?_, (h c).2.2.2.1.trans ?_, (h c).2.2.2.2⟩
  · rw [Cert.FinalLossRefIdeal.Read.val_main_v48_eq, (hagree c).1, (hagree c).2.1, (hagree c).2.2]
    exact (Cert.FinalLossIdeal.Value.final3 m (fun c r k => X c (ix2 r k)) (fun c r k => T c (ix2 r k)) (fun c k => G c (ix2 0 k))
      (fun c r k => hx c _) (fun c r k => ht c _) (fun c k => hg c _) c).symm
  · rw [Cert.FinalLossRefIdeal.Read.val_main_v49_eq, (hagree c).1, (hagree c).2.1, (hagree c).2.2]
    exact (Cert.FinalLossIdeal.Value.final4 m (fun c r k => X c (ix2 r k)) (fun c r k => T c (ix2 r k)) (fun c k => G c (ix2 0 k))
      (fun c r k => hx c _) (fun c r k => ht c _) (fun c k => hg c _) c).symm
  · rw [Cert.FinalLossRefIdeal.Read.val_main_v50_eq, (hagree c).1, (hagree c).2.1, (hagree c).2.2]
    exact (Cert.FinalLossIdeal.Value.final5 m (fun c r k => X c (ix2 r k)) (fun c r k => T c (ix2 r k)) (fun c k => G c (ix2 0 k))
      (fun c r k => hx c _) (fun c r k => ht c _) (fun c k => hg c _) c).symm
  · rw [Cert.FinalLossRefIdeal.Read.val_main_v32_eq, (hagree c).1, (hagree c).2.1, (hagree c).2.2]
    exact (Cert.FinalLossIdeal.Value.final6 m (fun c r k => X c (ix2 r k)) (fun c r k => T c (ix2 r k)) (fun c k => G c (ix2 0 k))
      (fun c r k => hx c _) (fun c r k => ht c _) (fun c k => hg c _) c).symm

end Cert.Proof.FinalLoss

end
-- ==== Proof.FfnBody.lean ====
module

public import Idealize.ShloMosaic.Lib.VecWindow
public import Idealize.ShloMosaic.Lib.Tactic
public import Idealize.ShloMosaic.Lib.Pointwise.Index
public import proofs.«01_k».proof.Proof.Gen.FfnIdeal.Skeleton
public import proofs.«01_k».proof.Proof.Gen.FfnIdeal.Points
public import proofs.«01_k».proof.Proof.Gen.FfnIdeal.Launch

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The values of one step of the backward call -/

theorem trips1 : k1_t1_loop.trips = 16 := by decide
theorem trips2 : k1_t2_loop.trips = 16 := by decide
theorem off1 : ∀ k : Fin k1_t1_loop.trips, k1_off1 k = ![128 * k.val, 0] := by decide +kernel
theorem off2 : ∀ k : Fin k1_t1_loop.trips, k1_off2 k = ![128 * k.val, 0] := by decide +kernel
theorem off3 : ∀ k : Fin k1_t2_loop.trips, k1_off3 k = ![128 * k.val, 0] := by decide +kernel
theorem off4 : ∀ k : Fin k1_t2_loop.trips, k1_off4 k = ![128 * k.val, 0] := by decide +kernel

/-- Rows `128 k …` of a block of 2048 rows, as the first loop reads them. -/
def rows1 {α : Type} (x : S2048x256.Idx → α) (k : Fin k1_t1_loop.trips) : S128x256.Idx → α :=
  window x (k1_off1 k) S128x256.size (k1_off1_inb k)

/-- Rows `128 k …` of a block of 2048 rows, as the second loop reads them. -/
def rows2 {α : Type} (x : S2048x256.Idx → α) (k : Fin k1_t2_loop.trips) : S128x256.Idx → α :=
  window x (k1_off4 k) S128x256.size (k1_off4_inb k)

/-- The 136 rows from row `128 k` of a padded block, as the second loop reads them. -/
def wide {α : Type} (x : S2056x256.Idx → α) (k : Fin k1_t2_loop.trips) : S136x256.Idx → α :=
  window x (k1_off3 k) S136x256.size (k1_off3_inb k)

/-- The trip of a row, of the first loop. -/
def trip1 (r : ℕ) (h : r < 2048) : Fin k1_t1_loop.trips := ⟨r / 128, by rw [trips1]; omega⟩
/-- The trip of a row, of the second loop. -/
def trip2 (r : ℕ) (h : r < 2048) : Fin k1_t2_loop.trips := ⟨r / 128, by rw [trips2]; omega⟩
/-- A row's place in its trip's rows. -/
def place (r : ℕ) : Fin 128 := ⟨r % 128, Nat.mod_lt _ (by decide)⟩

/-- The gradient of the gate branch's convolution, with the eight rows of zeros below it. -/
def DA (a b : Vec F S2048x256 .bf16) (dh : Vec F S2048x256 .f32) : Vec F S2056x256 .f32 := fun y =>
  if h : (y (0 : Fin 2)).val < 2048 then
    k1_pay18 (rows1 a (trip1 _ h)) (rows1 b (trip1 _ h)) (rows1 dh (trip1 _ h)) (ix2 (place (y (0 : Fin 2)).val) (y (1 : Fin 2)))
  else k1_pay14 (F := F) (ix2 (⟨(y (0 : Fin 2)).val - 2048, by have : (y (0 : Fin 2)).val < 2056 := (y (0 : Fin 2)).isLt; omega⟩ : Fin 8) (y (1 : Fin 2)))

/-- The gradient of the linear branch's convolution, with the eight rows of zeros below it. -/
def DB (a : Vec F S2048x256 .bf16) (dh : Vec F S2048x256 .f32) : Vec F S2056x256 .f32 := fun y =>
  if h : (y (0 : Fin 2)).val < 2048 then
    k1_pay19 (rows1 a (trip1 _ h)) (rows1 dh (trip1 _ h)) (ix2 (place (y (0 : Fin 2)).val) (y (1 : Fin 2)))
  else k1_pay15 (F := F) (ix2 (⟨(y (0 : Fin 2)).val - 2048, by have : (y (0 : Fin 2)).val < 2056 := (y (0 : Fin 2)).isLt; omega⟩ : Fin 8) (y (1 : Fin 2)))

/-- The gate branch's transposed convolution. -/
def DUA (w : Vec F S3x256 .f32) (D : Vec F S2056x256 .f32) : Vec F S2048x256 .bf16 := fun y =>
  k1_pay5 w (wide D (trip2 (y (0 : Fin 2)).val (y (0 : Fin 2)).isLt)) (ix2 (place (y (0 : Fin 2)).val) (y (1 : Fin 2)))

/-- The linear branch's transposed convolution. -/
def DUB (w : Vec F S3x256 .f32) (D : Vec F S2056x256 .f32) : Vec F S2048x256 .bf16 := fun y =>
  k1_pay21 w (k1_pay10 (wide D (trip2 (y (0 : Fin 2)).val (y (0 : Fin 2)).isLt))) (k1_pay11 (wide D (trip2 (y (0 : Fin 2)).val (y (0 : Fin 2)).isLt)))
    (k1_pay12 (wide D (trip2 (y (0 : Fin 2)).val (y (0 : Fin 2)).isLt))) (ix2 (place (y (0 : Fin 2)).val) (y (1 : Fin 2)))

/-- The six running sums of the convolutions' weights. -/
abbrev Sums (F : FTy → Type) [FloatOps F] : Type :=
  FVec F S1x256 .f32 × FVec F S1x256 .f32 × FVec F S1x256 .f32 × FVec F S1x256 .f32 × FVec F S1x256 .f32 × FVec F S1x256 .f32

/-- One trip's addition to the six sums. -/
def sumStep (D E : Vec F S2056x256 .f32) (ua ub : Vec F S2048x256 .bf16) (k : Fin k1_t2_loop.trips) (s : Sums F) : Sums F :=
  (k1_pay7 s.1 (wide D k) (rows2 ua k), k1_pay8 s.2.1 (wide D k) (rows2 ua k), k1_pay9 s.2.2.1 (wide D k) (rows2 ua k),
    k1_pay23 s.2.2.2.1 (k1_pay12 (wide E k)) (rows2 ub k), k1_pay24 s.2.2.2.2.1 (k1_pay11 (wide E k)) (rows2 ub k), k1_pay25 s.2.2.2.2.2 (k1_pay10 (wide E k)) (rows2 ub k))

/-- The six sums after `n` trips. -/
def sums (D E : Vec F S2056x256 .f32) (ua ub : Vec F S2048x256 .bf16) : ℕ → Sums F
  | 0 => (k1_pay20, k1_pay20, k1_pay20, k1_pay20, k1_pay20, k1_pay20)
  | n + 1 => if h : n < k1_t2_loop.trips then sumStep D E ua ub ⟨n, h⟩ (sums D E ua ub n) else sums D E ua ub n

theorem sums_succ (D E : Vec F S2056x256 .f32) (ua ub : Vec F S2048x256 .bf16) (k : Fin k1_t2_loop.trips) :
    sums D E ua ub (k.val + 1) = sumStep D E ua ub k (sums D E ua ub k.val) := dif_pos k.isLt

/-- The weights' gradient with one row's sums added at a place. -/
def addAt (x : Vec F S3x5632 .f32) (off : Fin 2 → ℕ) (inb : ∀ a, off a + S1x256.size a ≤ S3x5632.size a) (s : FVec F S1x256 .f32) : Vec F S3x5632 .f32 :=
  put x off S1x256.size (k1_pay1 s (window x off S1x256.size inb))

/-- The weights' gradient with the six sums added, in the order of the program. -/
def addAll (i : grid1.Coords) (x : Vec F S3x5632 .f32) (s : Sums F) : Vec F S3x5632 .f32 :=
  addAt (addAt (addAt (addAt (addAt (addAt x (k1_off5 i 0#32) (k1_off5_inb i 0) s.1) (k1_off6 i 0#32) (k1_off6_inb i 0) s.2.1) (k1_off7 i 0#32) (k1_off7_inb i 0) s.2.2.1)
    (k1_off5 i 2816#32) (k1_off5_inb i 1) s.2.2.2.1) (k1_off6 i 2816#32) (k1_off6_inb i 1) s.2.2.2.2.1) (k1_off7 i 2816#32) (k1_off7_inb i 1) s.2.2.2.2.2

/-- A row below 2048 of the gate branch's gradient, by its trip. -/
theorem DA_at (a b : Vec F S2048x256 .bf16) (dh : Vec F S2048x256 .f32) (k : Fin k1_t1_loop.trips) (y : S2056x256.Idx)
    (h1 : 128 * k.val ≤ (y (0 : Fin 2)).val) (h2 : (y (0 : Fin 2)).val < 128 * k.val + 128) :
    k1_pay18 (rows1 a k) (rows1 b k) (rows1 dh k) (ix2 (place (y (0 : Fin 2)).val) (y (1 : Fin 2))) = DA a b dh y := by
  have hk : k.val < 16 := lt_of_lt_of_eq k.isLt trips1
  unfold DA
  have h : (y (0 : Fin 2)).val < 2048 := by omega
  rw [dif_pos h]
  have e : trip1 _ h = k := Fin.ext (by show (y (0 : Fin 2)).val / 128 = k.val; omega)
  rw [e]

/-- A row below 2048 of the linear branch's gradient, by its trip. -/
theorem DB_at (a : Vec F S2048x256 .bf16) (dh : Vec F S2048x256 .f32) (k : Fin k1_t1_loop.trips) (y : S2056x256.Idx)
    (h1 : 128 * k.val ≤ (y (0 : Fin 2)).val) (h2 : (y (0 : Fin 2)).val < 128 * k.val + 128) :
    k1_pay19 (rows1 a k) (rows1 dh k) (ix2 (place (y (0 : Fin 2)).val) (y (1 : Fin 2))) = DB a dh y := by
  have hk : k.val < 16 := lt_of_lt_of_eq k.isLt trips1
  unfold DB
  have h : (y (0 : Fin 2)).val < 2048 := by omega
  rw [dif_pos h]
  have e : trip1 _ h = k := Fin.ext (by show (y (0 : Fin 2)).val / 128 = k.val; omega)
  rw [e]

theorem DUA_at (w : Vec F S3x256 .f32) (D : Vec F S2056x256 .f32) (k : Fin k1_t2_loop.trips) (y : S2048x256.Idx)
    (h1 : 128 * k.val ≤ (y (0 : Fin 2)).val) (h2 : (y (0 : Fin 2)).val < 128 * k.val + 128) :
    k1_pay5 w (wide D k) (ix2 (place (y (0 : Fin 2)).val) (y (1 : Fin 2))) = DUA w D y := by
  unfold DUA
  have e : trip2 (y (0 : Fin 2)).val (y (0 : Fin 2)).isLt = k := Fin.ext (by show (y (0 : Fin 2)).val / 128 = k.val; omega)
  rw [e]

theorem DUB_at (w : Vec F S3x256 .f32) (D : Vec F S2056x256 .f32) (k : Fin k1_t2_loop.trips) (y : S2048x256.Idx)
    (h1 : 128 * k.val ≤ (y (0 : Fin 2)).val) (h2 : (y (0 : Fin 2)).val < 128 * k.val + 128) :
    k1_pay21 w (k1_pay10 (wide D k)) (k1_pay11 (wide D k)) (k1_pay12 (wide D k)) (ix2 (place (y (0 : Fin 2)).val) (y (1 : Fin 2))) = DUB w D y := by
  unfold DUB
  have e : trip2 (y (0 : Fin 2)).val (y (0 : Fin 2)).isLt = k := Fin.ext (by show (y (0 : Fin 2)).val / 128 = k.val; omega)
  rw [e]

theorem DA_zero (a b : Vec F S2048x256 .bf16) (dh : Vec F S2048x256 .f32) (y : S2056x256.Idx) (h : 2048 ≤ (y (0 : Fin 2)).val) :
    k1_pay14 (F := F) (ix2 (⟨(y (0 : Fin 2)).val - 2048, by have : (y (0 : Fin 2)).val < 2056 := (y (0 : Fin 2)).isLt; omega⟩ : Fin 8) (y (1 : Fin 2))) = DA a b dh y := by
  unfold DA; rw [dif_neg (by omega)]

theorem DB_zero (a : Vec F S2048x256 .bf16) (dh : Vec F S2048x256 .f32) (y : S2056x256.Idx) (h : 2048 ≤ (y (0 : Fin 2)).val) :
    k1_pay15 (F := F) (ix2 (⟨(y (0 : Fin 2)).val - 2048, by have : (y (0 : Fin 2)).val < 2056 := (y (0 : Fin 2)).isLt; omega⟩ : Fin 8) (y (1 : Fin 2))) = DB a dh y := by
  unfold DB; rw [dif_neg (by omega)]

theorem read_rows1 {e : EltTy} (m : Memref sig .tc .vmem S2048x256 e) (h : m.IsWhole) (x : Vec F S2048x256 e) (k : Fin k1_t1_loop.trips) :
    View.readAt (Elt F) m.view (Rect.unit (s := S2048x256) (k1_off1 k) S128x256.size (k1_off1_inb k)).toLoadRect (h.unread x) = rows1 x k := by
  rw [View.readAt_unit _ _ _ rfl (k1_off1_inb k), h.read_unread]; rfl

theorem read_rows2 {e : EltTy} (m : Memref sig .tc .vmem S2048x256 e) (h : m.IsWhole) (x : Vec F S2048x256 e) (k : Fin k1_t2_loop.trips) :
    View.readAt (Elt F) m.view (Rect.unit (s := S2048x256) (k1_off4 k) S128x256.size (k1_off4_inb k)).toLoadRect (h.unread x) = rows2 x k := by
  rw [View.readAt_unit _ _ _ rfl (k1_off4_inb k), h.read_unread]; rfl

theorem read_wide {e : EltTy} (m : Memref sig .tc .vmem S2056x256 e) (h : m.IsWhole) (x : Vec F S2056x256 e) (k : Fin k1_t2_loop.trips) :
    View.readAt (Elt F) m.view (Rect.unit (s := S2056x256) (k1_off3 k) S136x256.size (k1_off3_inb k)).toLoadRect (h.unread x) = wide x k := by
  rw [View.readAt_unit _ _ _ rfl (k1_off3_inb k), h.read_unread]; rfl

/-! ## The step's run -/

variable (c : Dev nD) (i : grid1.Coords)
  (arg2 : Memref sig .tc .vmem S2048x1024 .bf16) (harg2 : arg2.IsWhole)
  (arg3 : Memref sig .tc .vmem S256x1024 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S2048x256 .bf16) (harg10 : arg10.IsWhole)
  (arg11 : Memref sig .tc .vmem S2048x256 .bf16) (harg11 : arg11.IsWhole)
  (arg12 : Memref sig .tc .vmem S3x5632 .f32) (harg12 : arg12.IsWhole)
  (arg13 : Memref sig .tc .vmem S2048x256 .f32) (harg13 : arg13.IsWhole)
  (arg14 : Memref sig .tc .vmem S2056x256 .f32) (harg14 : arg14.IsWhole)
  (arg15 : Memref sig .tc .vmem S2056x256 .f32) (harg15 : arg15.IsWhole)

/-- A store of a trip's rows: the rows below it are as they were, its own are the payload's. -/
theorem stored_rows {N : ℕ} {e : EltTy} (v : View sig .tc .vmem ⟨2, ![N, 256]⟩ e) (f : v.ty.Contents (Elt F)) (k : ℕ) {off : Fin 2 → ℕ}
    (inb : ∀ a : Fin 2, off a + (![128, 256] : Fin 2 → ℕ) a ≤ (![N, 256] : Fin 2 → ℕ) a) (hoff : off = ![128 * k, 0])
    (w : Vec F S128x256 e) (y : (⟨2, ![N, 256]⟩ : Shape).Idx) (X : (⟨2, ![N, 256]⟩ : Shape).Idx → Elt F e) (P : Prop)
    (hk : 128 * k ≤ (y (0 : Fin 2)).val → (y (0 : Fin 2)).val < 128 * k + 128 → w (ix2 (place (y (0 : Fin 2)).val) (y (1 : Fin 2))) = X y)
    (hP : (y (0 : Fin 2)).val < 128 * k ∨ P → v.read (Elt F) f y = X y) (hdis : P → 128 * k + 128 ≤ (y (0 : Fin 2)).val)
    (h : (y (0 : Fin 2)).val < 128 * (k + 1) ∨ P) :
    v.read (Elt F) (v.writes (Elt F) f [⟨Rect.unit (s := ⟨2, ![N, 256]⟩) off ![128, 256] inb, w⟩]) y = X y := by
  by_cases hy : 128 * k ≤ (y (0 : Fin 2)).val ∧ (y (0 : Fin 2)).val < 128 * k + 128
  · rw [View.read_writes_cons_rows_of_mem v f inb w [] y (ix2 (place (y (0 : Fin 2)).val) (y (1 : Fin 2))) hoff
      (by show _ = 128 * k + (y (0 : Fin 2)).val % 128; omega) rfl]
    exact hk hy.1 hy.2
  · rw [View.read_writes_cons_rows_of_not_mem (W := 128) v f inb w [] y hoff rfl (by omega), View.writes_nil]
    refine hP ?_
    rcases h with h | h
    · left; omega
    · exact .inr h

/-- What the first loop keeps: the rows of the trips done, and the rows of zeros. -/
def inv1 (a b : Vec F S2048x256 .bf16) (dh : Vec F S2048x256 .f32) (n : ℕ) (_ : Unit) : sProp 𝕄 :=
  iprop(owns (c : Thread nD τ) arg6 fullShare a ∗ owns (c : Thread nD τ) arg7 fullShare b ∗ owns (c : Thread nD τ) arg13 fullShare dh
    ∗ (∃ f, ⌜∀ y, (y (0 : Fin 2)).val < 128 * n ∨ 2048 ≤ (y (0 : Fin 2)).val → arg14.view.read (Elt F) f y = DA a b dh y⌝ ∗ arg14.view.loc (c : Thread nD τ) ↦[arg14.view.set]{fullShare} f)
    ∗ (∃ f, ⌜∀ y, (y (0 : Fin 2)).val < 128 * n ∨ 2048 ≤ (y (0 : Fin 2)).val → arg15.view.read (Elt F) f y = DB a dh y⌝ ∗ arg15.view.loc (c : Thread nD τ) ↦[arg15.view.set]{fullShare} f))

theorem body1 (a b : Vec F S2048x256 .bf16) (dh : Vec F S2048x256 .f32) (k : Fin k1_t1_loop.trips) (u : Unit) (E : Set ℕ) :
    inv1 c arg6 arg7 arg13 arg14 arg15 a b dh k.val u
      ⊢ wp frame (wpE (defs₀ (F := F)) Variants.none c none) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 k u) (inv1 c arg6 arg7 arg13 arg14 arg15 a b dh (k.val + 1)) := by
  have hk : k.val < 16 := lt_of_lt_of_eq k.isLt trips1
  unfold k1_t1_body inv1 owns
  iintro ⟨⟨%f6, %hf6, H6⟩, ⟨%f7, %hf7, H7⟩, ⟨%f13, %hf13, H13⟩, ⟨%f14, %hf14, H14⟩, ⟨%f15, %hf15, H15⟩⟩
  obtain rfl := harg6.eq_unread hf6; obtain rfl := harg7.eq_unread hf7; obtain rfl := harg13.eq_unread hf13
  sl_exec
  sl_step
  isplitl [H6]
  · iexists _; isplitr; swap; · iexact H6
    ipureintro; exact harg6.read_unread _
  isplitl [H7]
  · iexists _; isplitr; swap; · iexact H7
    ipureintro; exact harg7.read_unread _
  isplitl [H13]
  · iexists _; isplitr; swap; · iexact H13
    ipureintro; exact harg13.read_unread _
  isplitl [H14]
  · iexists _; isplitr; swap; · iexact H14
    ipureintro; intro y hy
    refine stored_rows arg14.view f14 k.val (k1_off2_inb k) (off2 k) _ y (DA a b dh) (2048 ≤ (y (0 : Fin 2)).val) ?_ (hf14 y) (fun h => by omega) hy
    intro h1 h2
    rw [read_rows1 arg6 harg6, read_rows1 arg7 harg7, read_rows1 arg13 harg13]
    exact DA_at a b dh k y h1 h2
  iexists _; isplitr; swap; · iexact H15
  ipureintro; intro y hy
  refine stored_rows arg15.view f15 k.val (k1_off2_inb k) (off2 k) _ y (DB a dh) (2048 ≤ (y (0 : Fin 2)).val) ?_ (hf15 y) (fun h => by omega) hy
  intro h1 h2
  rw [read_rows1 arg6 harg6, read_rows1 arg13 harg13]
  exact DB_at a dh k y h1 h2

/-- What the second loop keeps: the rows of the trips done, and the sums so far. -/
def inv2 (w w' : Vec F S3x256 .f32) (D D' : Vec F S2056x256 .f32) (ua ub : Vec F S2048x256 .bf16) (n : ℕ) (s : Sums F) : sProp 𝕄 :=
  iprop(⌜s = sums D D' ua ub n⌝ ∗ owns (c : Thread nD τ) arg14 fullShare D ∗ owns (c : Thread nD τ) arg15 fullShare D'
    ∗ owns (c : Thread nD τ) arg4 fullShare ua ∗ owns (c : Thread nD τ) arg5 fullShare ub
    ∗ (∃ f, ⌜∀ y, (y (0 : Fin 2)).val < 128 * n ∨ False → arg10.view.read (Elt F) f y = DUA w D y⌝ ∗ arg10.view.loc (c : Thread nD τ) ↦[arg10.view.set]{fullShare} f)
    ∗ (∃ f, ⌜∀ y, (y (0 : Fin 2)).val < 128 * n ∨ False → arg11.view.read (Elt F) f y = DUB w' D' y⌝ ∗ arg11.view.loc (c : Thread nD τ) ↦[arg11.view.set]{fullShare} f))

theorem body2 (w w' : Vec F S3x256 .f32) (D D' : Vec F S2056x256 .f32) (ua ub : Vec F S2048x256 .bf16) (k : Fin k1_t2_loop.trips) (s : Sums F) (E : Set ℕ) :
    inv2 c arg4 arg5 arg10 arg11 arg14 arg15 w w' D D' ua ub k.val s
      ⊢ wp frame (wpE (defs₀ (F := F)) Variants.none c none) E (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 w w' k s) (inv2 c arg4 arg5 arg10 arg11 arg14 arg15 w w' D D' ua ub (k.val + 1)) := by
  obtain ⟨s0, s1, s2, s3, s4, s5⟩ := s
  unfold k1_t2_body
  simp only [k1_part1_eq_skeleton]; unfold k1_part1_skel inv2 owns
  iintro ⟨%hs, ⟨%f14, %hf14, H14⟩, ⟨%f15, %hf15, H15⟩, ⟨%f4, %hf4, H4⟩, ⟨%f5, %hf5, H5⟩, ⟨%f10, %hf10, H10⟩, ⟨%f11, %hf11, H11⟩⟩
  obtain rfl := harg14.eq_unread hf14; obtain rfl := harg15.eq_unread hf15; obtain rfl := harg4.eq_unread hf4; obtain rfl := harg5.eq_unread hf5
  sl_exec
  sl_step
  isplitr
  · ipureintro
    rw [sums_succ, ← hs]
    rw [read_wide arg14 harg14, read_wide arg15 harg15, read_rows2 arg4 harg4, read_rows2 arg5 harg5]
    rfl
  isplitl [H14]
  · iexists _; isplitr; swap; · iexact H14
    ipureintro; exact harg14.read_unread _
  isplitl [H15]
  · iexists _; isplitr; swap; · iexact H15
    ipureintro; exact harg15.read_unread _
  isplitl [H4]
  · iexists _; isplitr; swap; · iexact H4
    ipureintro; exact harg4.read_unread _
  isplitl [H5]
  · iexists _; isplitr; swap; · iexact H5
    ipureintro; exact harg5.read_unread _
  isplitl [H10]
  · iexists _; isplitr; swap; · iexact H10
    ipureintro; intro y hy
    refine stored_rows arg10.view f10 k.val (k1_off4_inb k) (off4 k) _ y (DUA w D) False ?_ (hf10 y) (fun h => h.elim) hy
    intro h1 h2
    rw [read_wide arg14 harg14]
    exact DUA_at w D k y h1 h2
  iexists _; isplitr; swap; · iexact H11
  ipureintro; intro y hy
  refine stored_rows arg11.view f11 k.val (k1_off4_inb k) (off4 k) _ y (DUB w' D') False ?_ (hf11 y) (fun h => h.elim) hy
  intro h1 h2
  rw [read_wide arg15 harg15]
  exact DUB_at w' D' k y h1 h2

/-- The zero rows of a padded block. -/
theorem stored_zero {e : EltTy} (v : View sig .tc .vmem S2056x256 e) (f : v.ty.Contents (Elt F)) (w : Vec F S8x256 e) (y : S2056x256.Idx) (h : 2048 ≤ (y (0 : Fin 2)).val) :
    v.read (Elt F) (v.writes (Elt F) f [⟨Rect.unit (s := S2056x256) ![2048, 0] S8x256.size inb_S2056x256_S8x256_2048_0, w⟩]) y
      = w (ix2 (⟨(y (0 : Fin 2)).val - 2048, by have : (y (0 : Fin 2)).val < 2056 := (y (0 : Fin 2)).isLt; omega⟩ : Fin 8) (y (1 : Fin 2))) :=
  View.read_writes_cons_rows_of_mem (o := 2048) v f inb_S2056x256_S8x256_2048_0 w [] y (ix2 (⟨(y (0 : Fin 2)).val - 2048, by have : (y (0 : Fin 2)).val < 2056 := (y (0 : Fin 2)).isLt; omega⟩ : Fin 8) (y (1 : Fin 2))) rfl
    (by show (y (0 : Fin 2)).val = 2048 + ((y (0 : Fin 2)).val - 2048); omega) rfl

set_option maxHeartbeats 1000000 in
/-- The first two thirds of the step: the two loops. -/
theorem part2 (x2 : Vec F S2048x1024 .bf16) (x3 : Vec F S256x1024 .bf16) (x4 x5 x6 x7 : Vec F S2048x256 .bf16) (x8 x9 : Vec F S3x256 .f32) (E : Set ℕ) (K : _ → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (DUA x8 (DA x6 x7 (k1_pay13 x2 x3))) ∗ owns (c : Thread nD τ) arg11 fullShare (DUB x9 (DB x6 (k1_pay13 x2 x3))) ∗ (∃ d, owns (c : Thread nD τ) arg13 fullShare d) ∗ (∃ d, owns (c : Thread nD τ) arg14 fullShare d) ∗ (∃ d, owns (c : Thread nD τ) arg15 fullShare d)) -∗ K ⟨BitVec.ofNat 32 (i 1).val, (sums (DA x6 x7 (k1_pay13 x2 x3)) (DB x6 (k1_pay13 x2 x3)) x4 x5 16).1, (sums (DA x6 x7 (k1_pay13 x2 x3)) (DB x6 (k1_pay13 x2 x3)) x4 x5 16).2.1, (sums (DA x6 x7 (k1_pay13 x2 x3)) (DB x6 (k1_pay13 x2 x3)) x4 x5 16).2.2.1, (sums (DA x6 x7 (k1_pay13 x2 x3)) (DB x6 (k1_pay13 x2 x3)) x4 x5 16).2.2.2.1, (sums (DA x6 x7 (k1_pay13 x2 x3)) (DB x6 (k1_pay13 x2 x3)) x4 x5 16).2.2.2.2.1, (sums (DA x6 x7 (k1_pay13 x2 x3)) (DB x6 (k1_pay13 x2 x3)) x4 x5 16).2.2.2.2.2,
            Scalar.extui (Scalar.andi (Scalar.cmpi .eq (BitVec.ofNat 32 (i 0).val) 0#32) (Scalar.cmpi .eq (BitVec.ofNat 32 (i 1).val) 0#32))⟩))
      ⊢ wp frame (wpE (defs₀ (F := F)) Variants.none c none) E (k1_part2 (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [k1_part2_eq_skeleton]; unfold k1_part2_skel
  unfold owns
  iintro ⟨⟨%f2, %hf2, H2⟩, ⟨%f3, %hf3, H3⟩, H4, H5, H6, H7, ⟨%f8, %hf8, H8⟩, ⟨%f9, %hf9, H9⟩, ⟨%d10, %f10, -, H10⟩, ⟨%d11, %f11, -, H11⟩, ⟨%d13, %f13, -, H13⟩, ⟨%d14, %f14, -, H14⟩, ⟨%d15, %f15, -, H15⟩, Hk⟩
  obtain rfl := harg2.eq_unread hf2; obtain rfl := harg3.eq_unread hf3; obtain rfl := harg8.eq_unread hf8; obtain rfl := harg9.eq_unread hf9
  sl_exec
  sl_for (inv1 c arg6 arg7 arg13 arg14 arg15 x6 x7 (k1_pay13 x2 x3)) $$ [H6 H7 H13 H14 H15]
  case region =>
    intro k u
    exact body1 c i arg2 harg2 arg3 harg3 arg4 harg4 arg5 harg5 arg6 harg6 arg7 harg7 arg8 harg8 arg9 harg9 arg10 harg10 arg11 harg11 arg12 harg12 arg13 harg13 arg14 harg14 arg15 harg15 x6 x7 (k1_pay13 x2 x3) k u E
  · unfold inv1 owns
    isplitl [H6]; · iexact H6
    isplitl [H7]; · iexact H7
    isplitl [H13]
    · iexists _; isplitr; swap; · iexact H13
      ipureintro
      refine (View.read_writes_full _ _ _ _ _).trans ?_
      congr 1
      · exact (View.readAt_full _ _ _).trans (harg2.read_unread _)
      · exact (View.readAt_full _ _ _).trans (harg3.read_unread _)
    isplitl [H14]
    · iexists _; isplitr; swap; · iexact H14
      ipureintro; intro y hy
      have hy' : 2048 ≤ (y (0 : Fin 2)).val := hy.resolve_left (by omega)
      exact (stored_zero arg14.view f14 _ y hy').trans (DA_zero x6 x7 (k1_pay13 x2 x3) y hy')
    iexists _; isplitr; swap; · iexact H15
    ipureintro; intro y hy
    have hy' : 2048 ≤ (y (0 : Fin 2)).val := hy.resolve_left (by omega)
    exact (stored_zero arg15.view f15 _ y hy').trans (DB_zero x6 (k1_pay13 x2 x3) y hy')
  iintro %_ HI
  unfold inv1 owns
  icases HI with ⟨H6, H7, ⟨%f13', %hf13, H13⟩, ⟨%f14', %hf14, H14⟩, ⟨%f15', %hf15, H15⟩⟩
  have e14 : arg14.view.read (Elt F) f14' = DA x6 x7 (k1_pay13 x2 x3) := funext fun y => hf14 y (by
    have h : Scf.trips k1_t1_loop.lb k1_t1_loop.ub k1_t1_loop.st = 16 := trips1
    rw [h]; omega)
  have e15 : arg15.view.read (Elt F) f15' = DB x6 (k1_pay13 x2 x3) := funext fun y => hf15 y (by
    have h : Scf.trips k1_t1_loop.lb k1_t1_loop.ub k1_t1_loop.st = 16 := trips1
    rw [h]; omega)
  sl_exec
  sl_for (inv2 c arg4 arg5 arg10 arg11 arg14 arg15 x8 x9 (DA x6 x7 (k1_pay13 x2 x3)) (DB x6 (k1_pay13 x2 x3)) x4 x5) $$ [H14 H15 H4 H5 H10 H11]
  case region =>
    intro k u
    have r8 : View.readAt (Elt F) arg8.view (Rect.unit (s := S3x256) ![0, 0] S3x256.size inb_S3x256_S3x256_0_0).toLoadRect (harg8.unread x8) = x8 :=
      (View.readAt_full _ _ _).trans (harg8.read_unread _)
    have r9 : View.readAt (Elt F) arg9.view (Rect.unit (s := S3x256) ![0, 0] S3x256.size inb_S3x256_S3x256_0_0).toLoadRect (harg9.unread x9) = x9 :=
      (View.readAt_full _ _ _).trans (harg9.read_unread _)
    have h := body2 c i arg2 harg2 arg3 harg3 arg4 harg4 arg5 harg5 arg6 harg6 arg7 harg7 arg8 harg8 arg9 harg9 arg10 harg10 arg11 harg11 arg12 harg12 arg13 harg13 arg14 harg14 arg15 harg15 (View.readAt (Elt F) arg8.view (Rect.unit (s := S3x256) ![0, 0] S3x256.size inb_S3x256_S3x256_0_0).toLoadRect (harg8.unread x8))
      (View.readAt (Elt F) arg9.view (Rect.unit (s := S3x256) ![0, 0] S3x256.size inb_S3x256_S3x256_0_0).toLoadRect (harg9.unread x9))
      (DA x6 x7 (k1_pay13 x2 x3)) (DB x6 (k1_pay13 x2 x3)) x4 x5 k u E
    have q : inv2 c arg4 arg5 arg10 arg11 arg14 arg15 x8 x9 (DA x6 x7 (k1_pay13 x2 x3)) (DB x6 (k1_pay13 x2 x3)) x4 x5
        = inv2 c arg4 arg5 arg10 arg11 arg14 arg15 (View.readAt (Elt F) arg8.view (Rect.unit (s := S3x256) ![0, 0] S3x256.size inb_S3x256_S3x256_0_0).toLoadRect (harg8.unread x8))
      (View.readAt (Elt F) arg9.view (Rect.unit (s := S3x256) ![0, 0] S3x256.size inb_S3x256_S3x256_0_0).toLoadRect (harg9.unread x9)) (DA x6 x7 (k1_pay13 x2 x3)) (DB x6 (k1_pay13 x2 x3)) x4 x5 := by rw [r8, r9]
    rw [q]
    exact h
  · unfold inv2 owns
    isplitr; · ipureintro; rfl
    isplitl [H14]
    · iexists _; isplitr; swap; · iexact H14
      ipureintro; exact e14
    isplitl [H15]
    · iexists _; isplitr; swap; · iexact H15
      ipureintro; exact e15
    isplitl [H4]; · iexact H4
    isplitl [H5]; · iexact H5
    isplitl [H10]
    · iexists _; isplitr; swap; · iexact H10
      ipureintro; intro y hy; exact (hy.resolve_right id |> Nat.not_lt_zero _).elim
    iexists _; isplitr; swap; · iexact H11
    ipureintro; intro y hy; exact (hy.resolve_right id |> Nat.not_lt_zero _).elim
  iintro %s HI
  unfold inv2 owns
  icases HI with ⟨%hs, H14, H15, H4, H5, ⟨%f10', %hf10, H10⟩, ⟨%f11', %hf11, H11⟩⟩
  have ht : Scf.trips k1_t2_loop.lb k1_t2_loop.ub k1_t2_loop.st = 16 := trips2
  rw [ht] at hs hf10 hf11
  obtain ⟨s0, s1, s2, s3, s4, s5⟩ := s
  rw [← hs]
  sl_exec
  sl_step
  have e25 : part2.sl.v25 i = Scalar.extui (Scalar.andi (Scalar.cmpi .eq (BitVec.ofNat 32 (i 0).val) 0#32) (Scalar.cmpi .eq (BitVec.ofNat 32 (i 1).val) 0#32)) := rfl
  rw [e25]
  iapply Hk
  isplitl [H2]
  · iexists _; isplitr; swap; · iexact H2
    ipureintro; exact harg2.read_unread _
  isplitl [H3]
  · iexists _; isplitr; swap; · iexact H3
    ipureintro; exact harg3.read_unread _
  isplitl [H4]; · iexact H4
  isplitl [H5]; · iexact H5
  isplitl [H6]; · iexact H6
  isplitl [H7]; · iexact H7
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; funext y
    exact hf10 y (.inl (y (0 : Fin 2)).isLt)
  isplitl [H11]
  · iexists _; isplitr; swap; · iexact H11
    ipureintro; funext y
    exact hf11 y (.inl (y (0 : Fin 2)).isLt)
  isplitl [H13]
  · iexists _; iexists _; isplitr; swap; · iexact H13
    ipureintro; rfl
  isplitl [H14]; · iexists _; iexact H14
  iexists _; iexact H15

/-- Adding a row's sums over earlier stores. -/
theorem read_addAt (v : View sig .tc .vmem S3x5632 .f32) (f : v.ty.Contents (Elt F)) (off : Fin 2 → ℕ) (inb : ∀ a, off a + S1x256.size a ≤ S3x5632.size a)
    (L : List (View.Piece (Elt F) S3x5632 .f32)) (x : Vec F S3x5632 .f32) (hx : v.read (Elt F) (v.writes (Elt F) f L) = x) (s : FVec F S1x256 .f32) :
    v.read (Elt F) (v.writes (Elt F) f (⟨Rect.unit (s := S3x5632) off S1x256.size inb, k1_pay1 s (v.readAt (Elt F) (Rect.unit (s := S3x5632) off S1x256.size inb).toLoadRect (v.writes (Elt F) f L))⟩ :: L))
      = addAt x off inb s := by
  subst hx
  exact View.read_writes_cons_put v f inb _ L rfl

omit [FloatOps F] in
/-- The reset condition, as the program spells it, is that the point is the first. -/
theorem cond_eq : Scalar.cmpi .ne (Scalar.extui (Scalar.andi (Scalar.cmpi .eq (BitVec.ofNat 32 (i 0).val) 0#32) (Scalar.cmpi .eq (BitVec.ofNat 32 (i 1).val) 0#32)) : BitVec 32) 0#32 = 1#1 ↔ (i 0).val = 0 ∧ (i 1).val = 0 :=
  (by decide : ∀ (x : Fin 4) (y : Fin 11), Scalar.cmpi .ne (Scalar.extui (Scalar.andi (Scalar.cmpi .eq (BitVec.ofNat 32 x.val) 0#32) (Scalar.cmpi .eq (BitVec.ofNat 32 y.val) 0#32)) : BitVec 32) 0#32 = 1#1 ↔ x.val = 0 ∧ y.val = 0) (i 0) (i 1)

theorem off5 : ∀ (i : grid1.Coords), k1_off5 i 0#32 = ![0, 256 * (i 1).val] ∧ k1_off5 i 2816#32 = ![0, 2816 + 256 * (i 1).val] := by decide +kernel
theorem off6 : ∀ (i : grid1.Coords), k1_off6 i 0#32 = ![1, 256 * (i 1).val] ∧ k1_off6 i 2816#32 = ![1, 2816 + 256 * (i 1).val] := by decide +kernel
theorem off7 : ∀ (i : grid1.Coords), k1_off7 i 0#32 = ![2, 256 * (i 1).val] ∧ k1_off7 i 2816#32 = ![2, 2816 + 256 * (i 1).val] := by decide +kernel

/-- Any two of the step's six places are apart, on one of the two axes. -/
def apart (off off' : Fin 2 → ℕ) : Prop := ∃ a : Fin 2, off' a + S1x256.size a ≤ off a ∨ off a + S1x256.size a ≤ off' a

instance (off off' : Fin 2 → ℕ) : Decidable (apart off off') := inferInstanceAs (Decidable (∃ a : Fin 2, _))

theorem places_apart : ∀ (i : grid1.Coords),
    (apart (k1_off5 i 0#32) (k1_off6 i 0#32) ∧ apart (k1_off5 i 0#32) (k1_off7 i 0#32) ∧ apart (k1_off6 i 0#32) (k1_off7 i 0#32))
    ∧ (apart (k1_off5 i 0#32) (k1_off5 i 2816#32) ∧ apart (k1_off6 i 0#32) (k1_off5 i 2816#32) ∧ apart (k1_off7 i 0#32) (k1_off5 i 2816#32))
    ∧ (apart (k1_off5 i 0#32) (k1_off6 i 2816#32) ∧ apart (k1_off6 i 0#32) (k1_off6 i 2816#32) ∧ apart (k1_off7 i 0#32) (k1_off6 i 2816#32) ∧ apart (k1_off5 i 2816#32) (k1_off6 i 2816#32))
    ∧ (apart (k1_off5 i 0#32) (k1_off7 i 2816#32) ∧ apart (k1_off6 i 0#32) (k1_off7 i 2816#32) ∧ apart (k1_off7 i 0#32) (k1_off7 i 2816#32) ∧ apart (k1_off5 i 2816#32) (k1_off7 i 2816#32) ∧ apart (k1_off6 i 2816#32) (k1_off7 i 2816#32)) := by
  decide +kernel

/-- A row of the weights' gradient is untouched by an addition elsewhere. -/
theorem window_addAt (x : Vec F S3x5632 .f32) (off off' : Fin 2 → ℕ) (inb : ∀ a, off a + S1x256.size a ≤ S3x5632.size a) (inb' : ∀ a, off' a + S1x256.size a ≤ S3x5632.size a)
    (s : FVec F S1x256 .f32) (h : apart off off') : window (addAt x off inb s) off' S1x256.size inb' = window x off' S1x256.size inb' := by
  obtain ⟨a, ha⟩ := h
  exact window_put_of_disjoint x off S1x256.size off' S1x256.size inb' _ a ha

/-- One more store of a row's sums, where the row had been read before the earlier stores. -/
theorem read_addAt_early (v : View sig .tc .vmem S3x5632 .f32) (f : v.ty.Contents (Elt F)) (x0 : Vec F S3x5632 .f32) (hf : v.read (Elt F) f = x0) (off : Fin 2 → ℕ) (inb : ∀ a, off a + S1x256.size a ≤ S3x5632.size a)
    (L : List (View.Piece (Elt F) S3x5632 .f32)) (x : Vec F S3x5632 .f32) (hx : v.read (Elt F) (v.writes (Elt F) f L) = x) (s : FVec F S1x256 .f32)
    (hw : window x off S1x256.size inb = window x0 off S1x256.size inb) :
    v.read (Elt F) (v.writes (Elt F) f (⟨Rect.unit (s := S3x5632) off S1x256.size inb, k1_pay1 s (v.readAt (Elt F) (Rect.unit (s := S3x5632) off S1x256.size inb).toLoadRect f)⟩ :: L))
      = addAt x off inb s := by
  subst hx hf
  refine (View.read_writes_cons_put v f inb _ L rfl).trans ?_
  unfold addAt
  rw [View.readAt_unit v f inb rfl inb, hw]

set_option maxHeartbeats 1000000 in
/-- The step at a later point: the six sums are added to the weights' gradient. -/
theorem step_keep (hc : ¬((i 0).val = 0 ∧ (i 1).val = 0)) (x2 : Vec F S2048x1024 .bf16) (x3 : Vec F S256x1024 .bf16) (x4 x5 x6 x7 : Vec F S2048x256 .bf16) (x8 x9 : Vec F S3x256 .f32) (x12 : Vec F S3x5632 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (DUA x8 (DA x6 x7 (k1_pay13 x2 x3))) ∗ owns (c : Thread nD τ) arg11 fullShare (DUB x9 (DB x6 (k1_pay13 x2 x3))) ∗ owns (c : Thread nD τ) arg12 fullShare (addAll i x12 (sums (DA x6 x7 (k1_pay13 x2 x3)) (DB x6 (k1_pay13 x2 x3)) x4 x5 16)) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc1_d_ffn (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_d_ffn_eq_skeleton]; unfold cc1_d_ffn_skel
  have hc' : ¬Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    rw [cond_eq]; exact hc
  iintro ⟨H2, H3, H4, H5, H6, H7, H8, H9, H10, H11, H12, H13, H14, H15, Hk⟩
  rw [wp_bind]
  iapply (part2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  iintro ⟨H2, H3, H4, H5, H6, H7, H8, H9, H10, H11, H13, H14, H15⟩
  generalize (sums (DA x6 x7 (k1_pay13 x2 x3)) (DB x6 (k1_pay13 x2 x3)) x4 x5 16) = S
  obtain ⟨s0, s1, s2, s3, s4, s5⟩ := S
  simp only [k1_part3_eq_skeleton]; unfold k1_part3_skel
  unfold owns
  icases H12 with ⟨%f12, %hf12, H12⟩
  obtain rfl := harg12.eq_unread hf12
  sl_exec (disch := sl_exact hc')
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro
    obtain ⟨⟨p1, p2, p3⟩, ⟨q1, q2, q3⟩, ⟨r1, r2, r3, r4⟩, t1, t2, t3, t4, t5⟩ := places_apart i
    have hf := harg12.read_unread (Val := Elt F) x12
    refine read_addAt_early arg12.view (harg12.unread x12) x12 hf (k1_off7 i 2816#32) (k1_off7_inb i 1) _ _ ?_ s5 ?_
    refine read_addAt_early arg12.view (harg12.unread x12) x12 hf (k1_off6 i 2816#32) (k1_off6_inb i 1) _ _ ?_ s4 ?_
    refine read_addAt_early arg12.view (harg12.unread x12) x12 hf (k1_off5 i 2816#32) (k1_off5_inb i 1) _ _ ?_ s3 ?_
    refine read_addAt_early arg12.view (harg12.unread x12) x12 hf (k1_off7 i 0#32) (k1_off7_inb i 0) _ _ ?_ s2 ?_
    refine read_addAt_early arg12.view (harg12.unread x12) x12 hf (k1_off6 i 0#32) (k1_off6_inb i 0) _ _ ?_ s1 ?_
    refine read_addAt_early arg12.view (harg12.unread x12) x12 hf (k1_off5 i 0#32) (k1_off5_inb i 0) [] _ ?_ s0 ?_
    · rw [View.writes_nil]; exact hf
    · rfl
    · rw [window_addAt _ _ _ _ _ _ p1]
    · rw [window_addAt _ _ _ _ _ _ p3, window_addAt _ _ _ _ _ _ p2]
    · rw [window_addAt _ _ _ _ _ _ q3, window_addAt _ _ _ _ _ _ q2, window_addAt _ _ _ _ _ _ q1]
    · rw [window_addAt _ _ _ _ _ _ r4, window_addAt _ _ _ _ _ _ r3, window_addAt _ _ _ _ _ _ r2, window_addAt _ _ _ _ _ _ r1]
    · rw [window_addAt _ _ _ _ _ _ t5, window_addAt _ _ _ _ _ _ t4, window_addAt _ _ _ _ _ _ t3, window_addAt _ _ _ _ _ _ t2, window_addAt _ _ _ _ _ _ t1]
  isplitl [H13]; · iexact H13
  isplitl [H14]; · iexact H14
  iexact H15

set_option maxHeartbeats 1000000 in
/-- The step at the first point: the weights' gradient starts from zero. -/
theorem step_reset (hc : (i 0).val = 0 ∧ (i 1).val = 0) (x2 : Vec F S2048x1024 .bf16) (x3 : Vec F S256x1024 .bf16) (x4 x5 x6 x7 : Vec F S2048x256 .bf16) (x8 x9 : Vec F S3x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (DUA x8 (DA x6 x7 (k1_pay13 x2 x3))) ∗ owns (c : Thread nD τ) arg11 fullShare (DUB x9 (DB x6 (k1_pay13 x2 x3))) ∗ owns (c : Thread nD τ) arg12 fullShare (addAll i (k1_pay26 (F := F)) (sums (DA x6 x7 (k1_pay13 x2 x3)) (DB x6 (k1_pay13 x2 x3)) x4 x5 16)) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc1_d_ffn (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_d_ffn_eq_skeleton]; unfold cc1_d_ffn_skel
  have hc' : Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
    rw [cond_eq]; exact hc
  iintro ⟨H2, H3, H4, H5, H6, H7, H8, H9, H10, H11, H12, H13, H14, H15, Hk⟩
  rw [wp_bind]
  iapply (part2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  iintro ⟨H2, H3, H4, H5, H6, H7, H8, H9, H10, H11, H13, H14, H15⟩
  generalize (sums (DA x6 x7 (k1_pay13 x2 x3)) (DB x6 (k1_pay13 x2 x3)) x4 x5 16) = S
  obtain ⟨s0, s1, s2, s3, s4, s5⟩ := S
  simp only [k1_part3_eq_skeleton]; unfold k1_part3_skel
  unfold owns
  icases H12 with ⟨%d12, %f12, -, H12⟩
  sl_exec (disch := sl_exact hc')
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro
    refine read_addAt arg12.view _ (k1_off7 i 2816#32) (k1_off7_inb i 1) _ _ ?_ s5
    refine read_addAt arg12.view _ (k1_off6 i 2816#32) (k1_off6_inb i 1) _ _ ?_ s4
    refine read_addAt arg12.view _ (k1_off5 i 2816#32) (k1_off5_inb i 1) _ _ ?_ s3
    refine read_addAt arg12.view _ (k1_off7 i 0#32) (k1_off7_inb i 0) _ _ ?_ s2
    refine read_addAt arg12.view _ (k1_off6 i 0#32) (k1_off6_inb i 0) _ _ ?_ s1
    refine read_addAt arg12.view _ (k1_off5 i 0#32) (k1_off5_inb i 0) _ _ ?_ s0
    exact View.read_writes_full _ _ _ _ _
  isplitl [H13]; · iexact H13
  isplitl [H14]; · iexact H14
  iexact H15

end Cert.FfnIdeal.Body

end
-- ==== Proof.FfnMath.lean ====
/- The gated MLP's two kernels, entry by entry: what one point of each computes from its blocks. -/
module

public import proofs.«01_k».proof.Proof.Shift
public import proofs.«01_k».proof.Proof.FfnBody

@[expose] public section

set_option maxRecDepth 16384

noncomputable section

open Idealize.ShloMosaic Cert.Reals

namespace Cert.FfnIdeal.Entry

open Cert.Shift Cert.FfnIdeal Cert.FfnIdeal.Gen Cert.FfnIdeal.Body
open Idealize.ShloMosaic.VecWindow

abbrev H := FVec Ideal S2048x256 .bf16
abbrev L := FVec Ideal S2048x256 .f32
abbrev P := FVec Ideal S2056x256 .f32
abbrev W := FVec Ideal S3x256 .f32

/-! ## The forward kernel -/

theorem up_lo (x : FVec Ideal S2048x1024 .bf16) (y : FVec Ideal S1024x256 .bf16) (r : Fin 2048) (l : Fin 256) :
    k0_pay6 (F := Ideal) x y (ix2 r l) = (∑ d : Fin 1024, x (ix2 r d) * y (ix2 d l) : EReal) := by
  pointwise [k0_pay6, k0_pay5]
theorem up_hi (x : FVec Ideal S2048x1024 .bf16) (y : FVec Ideal S1024x256 .bf16) (r : Fin 2048) (l : Fin 256) :
    k0_pay7 (F := Ideal) x y (ix2 r l) = (∑ d : Fin 1024, x (ix2 r d) * y (ix2 d l) : EReal) := by
  pointwise [k0_pay7, k0_pay5]

def dn2 (x : L) : L := shDn (n := 256) 2#32 iota_S2048x256_d0_w32 rotates_S2048x256_d0 x
def dn1 (x : L) : L := shDn (n := 256) 1#32 iota_S2048x256_d0_w32 rotates_S2048x256_d0 x
theorem dn2_apply (x : L) (r : Fin 2048) (l : Fin 256) : dn2 x (ix2 r l) = dn 2 (fun r => x (ix2 r l)) r :=
  shDn_apply 2#32 (by decide) _ _ x r l
theorem dn1_apply (x : L) (r : Fin 2048) (l : Fin 256) : dn1 x (ix2 r l) = dn 1 (fun r => x (ix2 r l)) r :=
  shDn_apply 1#32 (by decide) _ _ x r l

/-- A row of the taps, over all rows. -/
def row0 (w : W) : L := broadcastTo S2048x256 (extractStridedSlice S1x256 ![0, 0] w slices_S3x256_o0_0_S1x256) broadcasts_S1x256_S2048x256
def row1 (w : W) : L := broadcastTo S2048x256 (extractStridedSlice S1x256 ![1, 0] w slices_S3x256_o1_0_S1x256) broadcasts_S1x256_S2048x256
def row2 (w : W) : L := broadcastTo S2048x256 (extractStridedSlice S1x256 ![2, 0] w slices_S3x256_o2_0_S1x256) broadcasts_S1x256_S2048x256
theorem row0_apply (w : W) (r : Fin 2048) (l : Fin 256) : row0 w (ix2 r l) = w (ix2 0 l) := by pointwise [row0]
theorem row1_apply (w : W) (r : Fin 2048) (l : Fin 256) : row1 w (ix2 r l) = w (ix2 1 l) := by pointwise [row1]
theorem row2_apply (w : W) (r : Fin 2048) (l : Fin 256) : row2 w (ix2 r l) = w (ix2 2 l) := by pointwise [row2]

/-- The three-tap convolution of a block. -/
def conv (w : W) (u : L) : L :=
  addf (F := Ideal) (φ := .f32) (addf (F := Ideal) (φ := .f32) (mulf (F := Ideal) (φ := .f32) (row2 w) u) (mulf (F := Ideal) (φ := .f32) (row0 w) (dn2 u)))
    (mulf (F := Ideal) (φ := .f32) (row1 w) (dn1 u))
theorem conv_apply (w : W) (u : L) (r : Fin 2048) (l : Fin 256) : conv w u (ix2 r l) = cv (fun j => w (ix2 j l)) (fun r => u (ix2 r l)) r := by
  show (row2 w (ix2 r l) * u (ix2 r l) + row0 w (ix2 r l) * dn2 u (ix2 r l) + row1 w (ix2 r l) * dn1 u (ix2 r l) : EReal) = _
  rw [dn2_apply, dn1_apply, row0_apply, row1_apply, row2_apply]
  rfl
theorem pay10_eq (x : FVec Ideal S2048x1024 .bf16) (y : FVec Ideal S1024x256 .bf16) (w : W) : k0_pay10 (F := Ideal) x y w = conv w (k0_pay6 x y) := rfl
theorem pay1_eq (u : L) (w : W) : k0_pay1 (F := Ideal) u w = conv w u := rfl

theorem pay4_apply (u a : L) (w : W) (r : Fin 2048) (l : Fin 256) :
    k0_pay4 (F := Ideal) u a w (ix2 r l) = ((a (ix2 r l) * Ideal.logistic (a (ix2 r l))) * conv w u (ix2 r l) : EReal) := by
  rw [← pay1_eq]; rfl

/-! ## The backward kernel -/

theorem pay13_apply (x : FVec Ideal S2048x1024 .bf16) (y : FVec Ideal S256x1024 .bf16) (r : Fin 2048) (l : Fin 256) :
    k1_pay13 (F := Ideal) x y (ix2 r l) = (∑ d : Fin 1024, x (ix2 r d) * y (ix2 l d) : EReal) := by
  pointwise [k1_pay13]

/-- The gradient through the gate, as the kernel writes it. -/
def ga (a b g : EReal) : EReal := (g * b) * (Ideal.logistic a * (1 + a * (1 - Ideal.logistic a)))
def gb (a g : EReal) : EReal := g * (a * Ideal.logistic a)

theorem pay18_apply (a b : FVec Ideal S128x256 .bf16) (g : FVec Ideal S128x256 .f32) (p : Fin 128) (l : Fin 256) :
    k1_pay18 (F := Ideal) a b g (ix2 p l) = ga (a (ix2 p l)) (b (ix2 p l)) (g (ix2 p l)) := by
  pointwise [k1_pay18, k1_pay17, k1_pay16]; rfl
theorem pay19_apply (a : FVec Ideal S128x256 .bf16) (g : FVec Ideal S128x256 .f32) (p : Fin 128) (l : Fin 256) :
    k1_pay19 (F := Ideal) a g (ix2 p l) = gb (a (ix2 p l)) (g (ix2 p l)) := by
  pointwise [k1_pay19, k1_pay17, k1_pay16]; rfl

theorem rows1_at {α : Type} (x : S2048x256.Idx → α) (r : ℕ) (h : r < 2048) (l : Fin 256) :
    rows1 x (trip1 r h) (ix2 (place r) l) = x (ix2 (⟨r, h⟩ : Fin 2048) l) := by
  refine congrArg x (funext fun a => Fin.ext ?_)
  refine (congrArg (fun n : ℕ => n + 1 * _) (congrFun (off1 (trip1 r h)) a)).trans ?_
  fin_cases a
  · show 128 * (r / 128) + 1 * (r % 128) = r
    omega
  · show 0 + 1 * l.val = l.val
    omega
theorem rows2_at {α : Type} (x : S2048x256.Idx → α) (k : Fin k1_t2_loop.trips) (p : Fin 128) (l : Fin 256) {h : 128 * k.val + p.val < 2048} :
    rows2 x k (ix2 p l) = x (ix2 (⟨128 * k.val + p.val, h⟩ : Fin 2048) l) := by
  refine congrArg x (funext fun a => Fin.ext ?_)
  refine (congrArg (fun n : ℕ => n + 1 * _) (congrFun (off4 k) a)).trans ?_
  fin_cases a
  · show 128 * k.val + 1 * p.val = 128 * k.val + p.val
    omega
  · show 0 + 1 * l.val = l.val
    omega
theorem wide_at {α : Type} (x : S2056x256.Idx → α) (k : Fin k1_t2_loop.trips) (p : Fin 136) (l : Fin 256) {h : 128 * k.val + p.val < 2056} :
    wide x k (ix2 p l) = x (ix2 (⟨128 * k.val + p.val, h⟩ : Fin 2056) l) := by
  refine congrArg x (funext fun a => Fin.ext ?_)
  refine (congrArg (fun n : ℕ => n + 1 * _) (congrFun (off3 k) a)).trans ?_
  fin_cases a
  · show 128 * k.val + 1 * p.val = 128 * k.val + p.val
    omega
  · show 0 + 1 * l.val = l.val
    omega

/-- A block with eight rows of zeros below. -/
def Padded (D : P) : Prop := ∀ (r : Fin 2056) (l : Fin 256), 2048 ≤ r.val → D (ix2 r l) = (0 : EReal)
/-- Its column. -/
def col (D : P) (l : Fin 256) (r : Fin 2048) : EReal := D (ix2 (⟨r.val, by omega⟩ : Fin 2056) l)

theorem DA_padded (a b : H) (g : L) : Padded (DA (F := Ideal) a b g) := fun r l h => by
  rw [← DA_zero (F := Ideal) a b g (ix2 r l) h]
  pointwise [k1_pay14]
theorem DB_padded (a : H) (g : L) : Padded (DB (F := Ideal) a g) := fun r l h => by
  rw [← DB_zero (F := Ideal) a g (ix2 r l) h]
  pointwise [k1_pay15]
theorem DA_col (a b : H) (g : L) (l : Fin 256) (r : Fin 2048) : col (DA (F := Ideal) a b g) l r = ga (a (ix2 r l)) (b (ix2 r l)) (g (ix2 r l)) := by
  unfold col DA
  rw [dif_pos (show ((ix2 (⟨r.val, by omega⟩ : Fin 2056) l : S2056x256.Idx) (0 : Fin 2)).val < 2048 from r.isLt)]
  refine (pay18_apply _ _ _ _ _).trans ?_
  show ga (rows1 a (trip1 r.val r.isLt) (ix2 (place r.val) l)) (rows1 b (trip1 r.val r.isLt) (ix2 (place r.val) l)) (rows1 g (trip1 r.val r.isLt) (ix2 (place r.val) l)) = _
  rw [rows1_at, rows1_at, rows1_at]
theorem DB_col (a : H) (g : L) (l : Fin 256) (r : Fin 2048) : col (DB (F := Ideal) a g) l r = gb (a (ix2 r l)) (g (ix2 r l)) := by
  unfold col DB
  rw [dif_pos (show ((ix2 (⟨r.val, by omega⟩ : Fin 2056) l : S2056x256.Idx) (0 : Fin 2)).val < 2048 from r.isLt)]
  refine (pay19_apply _ _ _ _).trans ?_
  show gb (rows1 a (trip1 r.val r.isLt) (ix2 (place r.val) l)) (rows1 g (trip1 r.val r.isLt) (ix2 (place r.val) l)) = _
  rw [rows1_at, rows1_at]

/-- A column moved up by `k ≤ 2` inside the padded block. -/
theorem col_up {D : P} (hD : Padded D) (k : ℕ) (hk : k ≤ 2) (l : Fin 256) (r : Fin 2048) {h : r.val + k < 2056} :
    D (ix2 (⟨r.val + k, h⟩ : Fin 2056) l) = up k (col D l) r := by
  unfold up
  by_cases hr : r.val + k < 2048
  · rw [dif_pos hr]; rfl
  · rw [dif_neg hr]; exact hD _ l (by simp only; omega)

/-- What the kernel reads out of 136 rows: the first 128, and those one and two rows further down. -/
theorem pay2_apply (v : FVec Ideal S136x256 .f32) (p : Fin 128) (l : Fin 256) : k1_pay2 (F := Ideal) v (ix2 p l) = v (ix2 (⟨p.val, by omega⟩ : Fin 136) l) := by
  pointwise [k1_pay2]
theorem pay3_apply (v : FVec Ideal S136x256 .f32) (p : Fin 128) (l : Fin 256) : k1_pay3 (F := Ideal) v (ix2 p l) = v (ix2 (⟨p.val + 1, by omega⟩ : Fin 136) l) := by
  have := p.isLt
  pointwise [k1_pay3]
  refine congrArg v (funext fun b => Fin.ext ?_)
  fin_cases b
  · show (p.val + 136 - 135 % 136) % 136 = p.val + 1
    omega
  · rfl
theorem pay4'_apply (v : FVec Ideal S136x256 .f32) (p : Fin 128) (l : Fin 256) : k1_pay4 (F := Ideal) v (ix2 p l) = v (ix2 (⟨p.val + 2, by omega⟩ : Fin 136) l) := by
  have := p.isLt
  pointwise [k1_pay4]
  refine congrArg v (funext fun b => Fin.ext ?_)
  fin_cases b
  · show (p.val + 136 - 134 % 136) % 136 = p.val + 2
    omega
  · rfl
theorem pay10'_eq (v : FVec Ideal S136x256 .f32) : k1_pay10 (F := Ideal) v = k1_pay2 v := rfl
theorem pay11_eq (v : FVec Ideal S136x256 .f32) : k1_pay11 (F := Ideal) v = k1_pay3 v := rfl
theorem pay12_eq (v : FVec Ideal S136x256 .f32) : k1_pay12 (F := Ideal) v = k1_pay4 v := rfl
theorem pay21_eq (w : W) (v : FVec Ideal S136x256 .f32) : k1_pay21 (F := Ideal) w (k1_pay10 v) (k1_pay11 v) (k1_pay12 v) = k1_pay5 w v := rfl

section Trip
variable {D : P} (hD : Padded D) (k : Fin k1_t2_loop.trips) (p : Fin 128) (l : Fin 256)
include hD

theorem lt16 : k.val < 16 := lt_of_lt_of_eq k.isLt trips2
def row : Fin 2048 := ⟨128 * k.val + p.val, by have := lt_of_lt_of_eq k.isLt trips2; omega⟩

theorem far0 : k1_pay2 (F := Ideal) (wide D k) (ix2 p l) = col D l (row k p) := by
  have := lt_of_lt_of_eq k.isLt trips2
  rw [pay2_apply, wide_at (h := by simp only; omega)]; rfl
theorem far1 : k1_pay3 (F := Ideal) (wide D k) (ix2 p l) = up 1 (col D l) (row k p) := by
  have := lt_of_lt_of_eq k.isLt trips2
  rw [pay3_apply, wide_at (h := by simp only; omega)]; exact col_up hD 1 (by omega) l (row k p)
theorem far2 : k1_pay4 (F := Ideal) (wide D k) (ix2 p l) = up 2 (col D l) (row k p) := by
  have := lt_of_lt_of_eq k.isLt trips2
  rw [pay4'_apply, wide_at (h := by simp only; omega)]; exact col_up hD 2 (by omega) l (row k p)

theorem back_apply (w : W) : k1_pay5 (F := Ideal) w (wide D k) (ix2 p l) = cvT (fun j => w (ix2 j l)) (col D l) (row k p) := by
  have e : k1_pay5 (F := Ideal) w (wide D k) (ix2 p l) = (w (ix2 2 l) * k1_pay2 (F := Ideal) (wide D k) (ix2 p l) + w (ix2 0 l) * k1_pay4 (F := Ideal) (wide D k) (ix2 p l)
      + w (ix2 1 l) * k1_pay3 (F := Ideal) (wide D k) (ix2 p l) : EReal) := by
    pointwise [k1_pay5]
  rw [e, far0 hD, far1 hD, far2 hD]; rfl
end Trip

theorem row_trip (r : Fin 2048) : row (trip2 r.val r.isLt) (place r.val) = r := Fin.ext (by
  show 128 * (r.val / 128) + r.val % 128 = r.val
  omega)

theorem DUA_apply (w : W) {D : P} (hD : Padded D) (r : Fin 2048) (l : Fin 256) : DUA (F := Ideal) w D (ix2 r l) = cvT (fun j => w (ix2 j l)) (col D l) r :=
  (back_apply hD (trip2 r.val r.isLt) (place r.val) l w).trans (by rw [row_trip])
theorem DUB_apply (w : W) {D : P} (hD : Padded D) (r : Fin 2048) (l : Fin 256) : DUB (F := Ideal) w D (ix2 r l) = cvT (fun j => w (ix2 j l)) (col D l) r :=
  (congrFun (pay21_eq w _) _).trans ((back_apply hD (trip2 r.val r.isLt) (place r.val) l w).trans (by rw [row_trip]))

/-! ## The sums over the rows -/

/-- One more sum of 128 rows. -/
def addRows (o : FVec Ideal S1x256 .f32) (x : FVec Ideal S128x256 .f32) : FVec Ideal S1x256 .f32 :=
  addf (F := Ideal) (φ := .f32) o
    (shapeCast S1x256 (multiReduction (F := Ideal) (φ := .f32) .add [0] S256 x 0x00000000#32 reduces_S128x256_S256 (.inl rfl) rfl) shapeCasts_S256_S1x256)
theorem addRows_apply (o : FVec Ideal S1x256 .f32) (x : FVec Ideal S128x256 .f32) (l : Fin 256) :
    addRows o x (ix2 0 l) = (o (ix2 0 l) + ∑ p, x (ix2 p l) : EReal) := by
  pointwise [addRows]

/-- What a trip adds to a sum. -/
def tripSum (x u : Fin 2048 → EReal) (k : Fin k1_t2_loop.trips) : EReal := ∑ p : Fin 128, x (row k p) * u (row k p)

theorem trip_apply (o : FVec Ideal S1x256 .f32) (x : FVec Ideal S128x256 .f32) (u : H) (k : Fin k1_t2_loop.trips) (l : Fin 256) (X : Fin 2048 → EReal)
    (hx : ∀ p, x (ix2 p l) = X (row k p)) :
    addRows o (mulf (F := Ideal) (φ := .f32) x (k1_pay6 (rows2 u k))) (ix2 0 l) = (o (ix2 0 l) + tripSum X (fun r => u (ix2 r l)) k : EReal) := by
  rw [addRows_apply]
  refine congrArg (fun s : EReal => (o (ix2 0 l) + s : EReal)) (Finset.sum_congr rfl fun p _ => ?_)
  have e : k1_pay6 (F := Ideal) (rows2 u k) (ix2 p l) = u (ix2 (row k p) l) := by
    have h : k1_pay6 (F := Ideal) (rows2 u k) (ix2 p l) = rows2 u k (ix2 p l) := by pointwise [k1_pay6]
    rw [h]; exact rows2_at u k p l
  show (x (ix2 p l) * k1_pay6 (F := Ideal) (rows2 u k) (ix2 p l) : EReal) = _
  rw [e, hx]

/-- The six running sums, one of them. -/
def pick (s : Sums Ideal) (g : Fin 2) (j : Fin 3) : FVec Ideal S1x256 .f32 :=
  (![![s.1, s.2.1, s.2.2.1], ![s.2.2.2.1, s.2.2.2.2.1, s.2.2.2.2.2]] g) j

/-- Row `j` of the taps is multiplied with the column moved up by two places, by one, or not at all. -/
def lift (j : Fin 3) (a : Fin 2048 → EReal) (r : Fin 2048) : EReal := ![up 2 a r, up 1 a r, a r] j

theorem sumStep_apply {D E : P} (hD : Padded D) (hE : Padded E) (ua ub : H) (k : Fin k1_t2_loop.trips) (s : Sums Ideal) (g : Fin 2) (j : Fin 3) (l : Fin 256) :
    pick (sumStep (F := Ideal) D E ua ub k s) g j (ix2 0 l)
      = (pick s g j (ix2 0 l) + tripSum (lift j (col (![D, E] g) l)) (fun r => (![ua, ub] g : H) (ix2 r l)) k : EReal) := by
  fin_cases g <;> fin_cases j
  · exact trip_apply s.1 (k1_pay4 (wide D k)) ua k l _ fun p => far2 hD k p l
  · exact trip_apply s.2.1 (k1_pay3 (wide D k)) ua k l _ fun p => far1 hD k p l
  · exact trip_apply s.2.2.1 (k1_pay2 (wide D k)) ua k l _ fun p => far0 hD k p l
  · exact trip_apply s.2.2.2.1 (k1_pay4 (wide E k)) ub k l _ fun p => far2 hE k p l
  · exact trip_apply s.2.2.2.2.1 (k1_pay3 (wide E k)) ub k l _ fun p => far1 hE k p l
  · exact trip_apply s.2.2.2.2.2 (k1_pay2 (wide E k)) ub k l _ fun p => far0 hE k p l

theorem sums_apply {D E : P} (hD : Padded D) (hE : Padded E) (ua ub : H) (g : Fin 2) (j : Fin 3) (l : Fin 256) :
    pick (sums (F := Ideal) D E ua ub 16) g j (ix2 0 l)
      = (∑ r : Fin 2048, lift j (col (![D, E] g) l) r * (![ua, ub] g : H) (ix2 r l) : EReal) := by
  set X := lift j (col (![D, E] g) l)
  set u : Fin 2048 → EReal := fun r => (![ua, ub] g : H) (ix2 r l)
  have h : ∀ n : ℕ, n ≤ 16 → pick (sums (F := Ideal) D E ua ub n) g j (ix2 0 l)
      = ∑ k ∈ Finset.range n, (if hk : k < k1_t2_loop.trips then tripSum X u ⟨k, hk⟩ else 0 : EReal) := by
    intro n
    induction n with
    | zero =>
      intro _
      have e : k1_pay20 (F := Ideal) (ix2 0 l) = (0 : EReal) := by pointwise [k1_pay20]
      rw [Finset.sum_range_zero]
      fin_cases g <;> fin_cases j <;> exact e
    | succ n ih =>
      intro hn
      have hk : n < k1_t2_loop.trips := by rw [trips2]; omega
      rw [Finset.sum_range_succ, dif_pos hk, ← ih (by omega)]
      refine Eq.trans ?_ (sumStep_apply hD hE ua ub ⟨n, hk⟩ _ g j l)
      exact congrArg (fun s => pick s g j (ix2 0 l)) (sums_succ (F := Ideal) D E ua ub ⟨n, hk⟩)
  rw [h 16 le_rfl, Finset.sum_range]
  refine Eq.trans (Finset.sum_congr rfl fun k _ => dif_pos (by rw [trips2]; exact k.isLt)) ?_
  unfold tripSum
  refine Fin.sum_mul_add_congr (n := 128) (f := fun r : Fin 2048 => X r * u r) fun k p hl => ?_
  have e : row ⟨k.val, by rw [trips2]; exact k.isLt⟩ p = (⟨k.val * 128 + p.val, hl⟩ : Fin 2048) := Fin.ext (by
    show 128 * k.val + p.val = k.val * 128 + p.val
    omega)
  exact congrArg (fun r : Fin 2048 => X r * u r) e

/-! ## The taps' gradient -/

theorem addAt_apply (x : FVec Ideal S3x5632 .f32) (off : Fin 2 → ℕ) (inb : ∀ a, off a + S1x256.size a ≤ S3x5632.size a) (s : FVec Ideal S1x256 .f32)
    (i q : ℕ) (ho : off = ![i, q]) (j : Fin 3) (k : Fin 5632) :
    addAt (F := Ideal) x off inb s (ix2 j k)
      = if h : j.val = i ∧ q ≤ k.val ∧ k.val < q + 256 then (x (ix2 j k) + s (ix2 0 (⟨k.val - q, by omega⟩ : Fin 256)) : EReal) else x (ix2 j k) := by
  subst ho
  unfold addAt put
  by_cases h : j.val = i ∧ q ≤ k.val ∧ k.val < q + 256
  · have h' : ∀ a : Fin 2, (![i, q] : Fin 2 → ℕ) a ≤ ((ix2 j k : S3x5632.Idx) a).val ∧ ((ix2 j k : S3x5632.Idx) a).val < (![i, q] : Fin 2 → ℕ) a + S1x256.size a := by
      intro a
      fin_cases a
      · exact ⟨le_of_eq h.1.symm, by show j.val < i + 1; omega⟩
      · exact h.2
    rw [dif_pos h, dif_pos h']
    have e : (Rect.unitLocal (s := S3x5632) (off := ![i, q]) (size := S1x256.size) (ix2 j k) h' : S1x256.Idx) = ix2 0 (⟨k.val - q, by omega⟩ : Fin 256) := by
      refine funext fun a => Fin.ext ?_
      fin_cases a
      · show j.val - i = 0
        omega
      · rfl
    rw [e]
    have e1 : k1_pay1 (F := Ideal) s (window x ![i, q] S1x256.size inb) (ix2 0 (⟨k.val - q, by omega⟩ : Fin 256))
        = (window x ![i, q] S1x256.size inb (ix2 0 (⟨k.val - q, by omega⟩ : Fin 256)) + s (ix2 0 (⟨k.val - q, by omega⟩ : Fin 256)) : EReal) := by
      pointwise [k1_pay1]
    rw [e1]
    refine congrArg (fun t : EReal => (t + s (ix2 0 (⟨k.val - q, by omega⟩ : Fin 256)) : EReal)) (congrArg x (funext fun a => Fin.ext ?_))
    fin_cases a
    · show i + 1 * 0 = j.val
      omega
    · show q + 1 * (k.val - q) = k.val
      omega
  · have h' : ¬ ∀ a : Fin 2, (![i, q] : Fin 2 → ℕ) a ≤ ((ix2 j k : S3x5632.Idx) a).val ∧ ((ix2 j k : S3x5632.Idx) a).val < (![i, q] : Fin 2 → ℕ) a + S1x256.size a := by
      intro hh
      refine h ⟨?_, hh 1⟩
      have h0 := hh 0
      have h1 : i ≤ j.val ∧ j.val < i + 1 := h0
      omega
    rw [dif_neg h, dif_neg h']

/-- What a point of column block `f` adds at an entry. -/
def plus (f : ℕ) (s : Sums Ideal) (j : Fin 3) (k : Fin 5632) : EReal :=
  if k.val % 2816 / 256 = f then pick s (⟨k.val / 2816, by omega⟩ : Fin 2) j (ix2 0 (⟨k.val % 2816 % 256, by omega⟩ : Fin 256)) else 0

theorem addAll_apply (i : grid1.Coords) (x : FVec Ideal S3x5632 .f32) (s : Sums Ideal) (j : Fin 3) (k : Fin 5632) :
    addAll (F := Ideal) i x s (ix2 j k) = (x (ix2 j k) + plus (i 1).val s j k : EReal) := by
  have hf : (i 1).val < 11 := (i 1).isLt
  have hk := k.isLt
  have hj := j.isLt
  unfold addAll
  rw [addAt_apply _ _ _ _ _ _ (off7 i).2, addAt_apply _ _ _ _ _ _ (off6 i).2, addAt_apply _ _ _ _ _ _ (off5 i).2,
    addAt_apply _ _ _ _ _ _ (off7 i).1, addAt_apply _ _ _ _ _ _ (off6 i).1, addAt_apply _ _ _ _ _ _ (off5 i).1]
  generalize (i 1).val = f at hf
  unfold plus
  by_cases hlo : 256 * f ≤ k.val ∧ k.val < 256 * f + 256
  · have hn : ¬ (2816 + 256 * f ≤ k.val ∧ k.val < 2816 + 256 * f + 256) := by omega
    have e1 : k.val % 2816 / 256 = f := by omega
    have e2 : (⟨k.val / 2816, by omega⟩ : Fin 2) = 0 := Fin.ext (by show k.val / 2816 = 0; omega)
    have e3 : (⟨k.val % 2816 % 256, by omega⟩ : Fin 256) = ⟨k.val - 256 * f, by omega⟩ := Fin.ext (by simp only; omega)
    rw [if_pos e1, e2, e3]
    simp only [hn, hlo, and_false, and_true, dif_neg, not_false_eq_true]
    fin_cases j <;> simp [pick]
  · by_cases hhi : 2816 + 256 * f ≤ k.val ∧ k.val < 2816 + 256 * f + 256
    · have e1 : k.val % 2816 / 256 = f := by omega
      have e2 : (⟨k.val / 2816, by omega⟩ : Fin 2) = 1 := Fin.ext (by show k.val / 2816 = 1; omega)
      have e3 : (⟨k.val % 2816 % 256, by omega⟩ : Fin 256) = ⟨k.val - (2816 + 256 * f), by omega⟩ := Fin.ext (by simp only; omega)
      rw [if_pos e1, e2, e3]
      simp only [hlo, hhi, and_false, and_true, dif_neg, not_false_eq_true]
      fin_cases j <;> simp [pick]
    · have e1 : ¬ k.val % 2816 / 256 = f := by omega
      rw [if_neg e1, add_zero]
      simp only [hlo, hhi, and_false, dif_neg, not_false_eq_true]

end Cert.FfnIdeal.Entry

end
-- ==== Proof.FfnRefMath.lean ====
/- The gated MLP's forward and backward lines, entry by entry: what the reference computes. -/
module

public import proofs.«01_k».proof.Proof.Shift
public import proofs.«01_k».proof.Proof.ForgetMath
public import proofs.«01_k».proof.Proof.AttnBwdHost
public import proofs.«01_k».proof.Proof.ConvMath
public import proofs.«01_k».proof.Proof.Gen.FfnRefIdeal.Read

@[expose] public section

set_option maxRecDepth 16384

noncomputable section

open Idealize.ShloMosaic Cert.Reals

namespace Cert.Ffn

open Cert.Shift
open Cert.Conv (tap)
open Cert.Forget (reduceAdd_first_two)
open Cert.AttnBwdIdeal.Host (brow row_div row_mod)

/-! ## Real numbers -/

/-- A value that is a real number. -/
def IsR (x : EReal) : Prop := ∃ r : ℝ, x = (r : EReal)
theorem IsR.mul {x y : EReal} (hx : IsR x) (hy : IsR y) : IsR (x * y) := by
  obtain ⟨a, rfl⟩ := hx; obtain ⟨b, rfl⟩ := hy; exact ⟨a * b, by rw [EReal.coe_mul]⟩
theorem IsR.add {x y : EReal} (hx : IsR x) (hy : IsR y) : IsR (x + y) := by
  obtain ⟨a, rfl⟩ := hx; obtain ⟨b, rfl⟩ := hy; exact ⟨a + b, by rw [EReal.coe_add]⟩
theorem IsR.zero : IsR 0 := ⟨0, by simp⟩
theorem IsR.sum {n : ℕ} {f : Fin n → EReal} (h : ∀ i, IsR (f i)) : IsR (∑ i, f i) := by
  choose g hg using h
  exact ⟨∑ i, g i, by rw [← coe_sum]; exact Finset.sum_congr rfl fun i _ => hg i⟩
theorem IsR.dn {k : ℕ} {f : Fin 2048 → EReal} (h : ∀ i, IsR (f i)) (r : Fin 2048) : IsR (dn k f r) := by
  unfold Shift.dn; split
  · exact h _
  · exact IsR.zero
theorem IsR.cv {w : Fin 3 → EReal} {f : Fin 2048 → EReal} (hw : ∀ j, IsR (w j)) (h : ∀ i, IsR (f i)) (r : Fin 2048) : IsR (cv w f r) :=
  (((hw 2).mul (h r)).add ((hw 0).mul (IsR.dn h r))).add ((hw 1).mul (IsR.dn h r))

theorem logistic_real (a : ℝ) : Ideal.logistic (a : EReal) = ((1 / (1 + Real.exp (-a)) : ℝ) : EReal) := by
  have h : (1 + Real.exp (-a) : ℝ) ≠ 0 := by positivity
  rw [← div_real h]
  show Ideal.div 1 (1 + Ideal.exp (-(a : EReal))) = _
  congr 1

/-- The derivative of `a · σ(a)` in its two spellings. -/
theorem silu_grad {x a : EReal} (hx : IsR x) (ha : IsR a) :
    x * (Ideal.logistic a * (1 + a * (1 - Ideal.logistic a))) = x * Ideal.logistic a + (a * x) * (Ideal.logistic a * (1 - Ideal.logistic a)) := by
  obtain ⟨x, rfl⟩ := hx; obtain ⟨a, rfl⟩ := ha
  rw [logistic_real]
  generalize (1 / (1 + Real.exp (-a)) : ℝ) = s
  have h : ((x * (s * (1 + a * (1 - s))) : ℝ) : EReal) = ((x * s + (a * x) * (s * (1 - s)) : ℝ) : EReal) := by congr 1; ring
  simpa only [EReal.coe_mul, EReal.coe_add, EReal.coe_sub, EReal.coe_one] using h

/-- A shift carried from one factor of a sum to the other. -/
theorem sum_up (k : ℕ) (u D : Fin 2048 → EReal) : ∑ r, up k D r * u r = ∑ s, dn k u s * D s := by
  have h1 : ∀ r, up k D r * u r = ∑ s : Fin 2048, if s.val = r.val + k then D s * u r else 0 := fun r => by
    unfold up
    by_cases h : r.val + k < 2048
    · rw [dif_pos h, Finset.sum_eq_single (⟨r.val + k, h⟩ : Fin 2048)]
      · simp
      · intro s _ hs; rw [if_neg]; exact fun e => hs (Fin.ext e)
      · simp
    · rw [dif_neg h, zero_mul]
      refine (Finset.sum_eq_zero fun s _ => ?_).symm
      rw [if_neg]; have := s.isLt; omega
  have h2 : ∀ s, dn k u s * D s = ∑ r : Fin 2048, if s.val = r.val + k then D s * u r else 0 := fun s => by
    unfold dn
    by_cases h : k ≤ s.val
    · rw [if_pos h, Finset.sum_eq_single (⟨s.val - k, by omega⟩ : Fin 2048)]
      · rw [if_pos (by simp only; omega), mul_comm]
      · intro r _ hr; rw [if_neg]; exact fun e => hr (Fin.ext (by simp only; omega))
      · simp
    · rw [if_neg h, zero_mul]
      refine (Finset.sum_eq_zero fun r _ => ?_).symm
      rw [if_neg]; omega
  simp only [h1, h2]
  exact Finset.sum_comm

/-! ## The mathematics -/

section Reference
open Cert.FfnRefIdeal Cert.FfnRefIdeal.Gen Cert.FfnRefIdeal.Read

variable (x0 : FVec Ideal S4x2048x1024 .f32) (x1 : FVec Ideal S1024x5632 .f32) (x2 : FVec Ideal S3x5632 .f32) (x3 : FVec Ideal S2816x1024 .f32) (x4 : FVec Ideal S4x2048x1024 .f32)

/-- The column of the gate branch and of the linear branch that belong together. -/
def lo (k : Fin 2816) : Fin 5632 := ⟨k.val, by omega⟩
def hi (k : Fin 2816) : Fin 5632 := ⟨2816 + k.val, by omega⟩

/-- The up projection, column by column, and the taps of a column. -/
def U (b : Fin 4) (k : Fin 5632) (r : Fin 2048) : EReal := ∑ d : Fin 1024, x0 (ix3 b r d) * x1 (ix2 d k)
def wc (k : Fin 5632) (j : Fin 3) : EReal := x2 (ix2 j k)
/-- The two branches, -/
def A (b : Fin 4) (k : Fin 2816) (r : Fin 2048) : EReal := cv (wc x2 (lo k)) (U x0 x1 b (lo k)) r
def B (b : Fin 4) (k : Fin 2816) (r : Fin 2048) : EReal := cv (wc x2 (hi k)) (U x0 x1 b (hi k)) r
/-- and the gradient of their gated product. -/
def G (b : Fin 4) (k : Fin 2816) (r : Fin 2048) : EReal := ∑ d : Fin 1024, x4 (ix3 b r d) * x3 (ix2 k d)

/-- The gated product, -/
def act (b : Fin 4) (k : Fin 2816) (r : Fin 2048) : EReal :=
  (A x0 x1 x2 b k r * Ideal.logistic (A x0 x1 x2 b k r)) * B x0 x1 x2 b k r
/-- the gradients of the gate branch and of the linear branch, -/
def dA (b : Fin 4) (k : Fin 2816) (r : Fin 2048) : EReal :=
  (G x3 x4 b k r * B x0 x1 x2 b k r) * Ideal.logistic (A x0 x1 x2 b k r)
    + (A x0 x1 x2 b k r * (G x3 x4 b k r * B x0 x1 x2 b k r)) * (Ideal.logistic (A x0 x1 x2 b k r) * (1 - Ideal.logistic (A x0 x1 x2 b k r)))
def dB (b : Fin 4) (k : Fin 2816) (r : Fin 2048) : EReal :=
  (A x0 x1 x2 b k r * Ideal.logistic (A x0 x1 x2 b k r)) * G x3 x4 b k r
/-- side by side, -/
def dC (b : Fin 4) (k : Fin 5632) (r : Fin 2048) : EReal :=
  if h : k.val < 2816 then dA x0 x1 x2 x3 x4 b ⟨k.val, h⟩ r else dB x0 x1 x2 x3 x4 b ⟨k.val - 2816, by omega⟩ r
/-- and the gradient of the taps. -/
def gw (j : Fin 3) (k : Fin 5632) : EReal := ∑ b, ∑ s, tap j (U x0 x1 b k) s * dC x0 x1 x2 x3 x4 b k s

theorem dC_lo (b : Fin 4) (k : Fin 2816) : dC x0 x1 x2 x3 x4 b (lo k) = dA x0 x1 x2 x3 x4 b k :=
  funext fun r => dif_pos (show (lo k).val < 2816 from k.isLt)
theorem dC_hi (b : Fin 4) (k : Fin 2816) : dC x0 x1 x2 x3 x4 b (hi k) = dB x0 x1 x2 x3 x4 b k := funext fun r => by
  unfold dC
  rw [dif_neg (show ¬ (hi k).val < 2816 by simp only [hi]; omega)]
  congr 1
  exact Fin.ext (by simp only [hi]; omega)

theorem v0_apply (b : Fin 4) (r : Fin 2048) (k : Fin 5632) : val_main_v0 (F := Ideal) x0 x1 (ix3 b r k) = U x0 x1 b k r := by
  rw [val_main_v0_apply]
  refine Finset.sum_congr rfl fun d _ => ?_
  refine congrArg₂ (fun a b : EReal => a * b) (congrArg x0 (funext fun a => ?_)) (congrArg x1 (funext fun a => ?_)) <;>
    refine Fin.ext ?_ <;> fin_cases a <;> rfl
theorem v29_apply (b : Fin 4) (r : Fin 2048) (k : Fin 2816) : val_main_v29 (F := Ideal) x3 x4 (ix3 b r k) = G x3 x4 b k r := by
  rw [val_main_v29_apply]
  refine Finset.sum_congr rfl fun d _ => ?_
  refine congrArg₂ (fun a b : EReal => a * b) (congrArg x4 (funext fun a => ?_)) (congrArg x3 (funext fun a => ?_)) <;>
    refine Fin.ext ?_ <;> fin_cases a <;> rfl

theorem v2_apply (b : Fin 4) (r : Fin 2050) (c : Fin 5632) : val_main_v2 (F := Ideal) x0 x1 (ix3 b r c)
    = if h : 2 ≤ r.val then U x0 x1 b c ⟨r.val - 2, by omega⟩ else 0 := by
  have := r.isLt
  pointwise [val_main_v2, val_main_v1, val_main_cst]
  by_cases h : r.val < 2
  · rw [dif_pos h, dif_neg (by omega)]
  · rw [dif_neg h, dif_pos (by omega), v0_apply]

theorem v4_apply (b : Fin 4) (r : Fin 2048) (c : Fin 5632) : val_main_v4 (F := Ideal) x0 x1 (ix3 b r c) = U x0 x1 b c r := by
  pointwise [val_main_v4]
  rw [v2_apply, dif_pos (by simp)]
  congr 1
  exact Fin.ext (by simp)
theorem v10_apply (b : Fin 4) (r : Fin 2048) (c : Fin 5632) : val_main_v10 (F := Ideal) x0 x1 (ix3 b r c) = dn 2 (U x0 x1 b c) r := by
  pointwise [val_main_v10]
  rw [v2_apply]
  unfold dn
  by_cases h : 2 ≤ r.val
  · rw [dif_pos (by simpa using h), if_pos h]
  · rw [dif_neg (by simpa using h), if_neg h]
theorem v17_apply (b : Fin 4) (r : Fin 2048) (c : Fin 5632) : val_main_v17 (F := Ideal) x0 x1 (ix3 b r c) = dn 1 (U x0 x1 b c) r := by
  pointwise [val_main_v17]
  rw [v2_apply]
  unfold dn
  by_cases h : 1 ≤ r.val
  · rw [dif_pos (by simp; omega), if_pos h]; congr 1; exact Fin.ext (by simp; omega)
  · rw [dif_neg (by simp; omega), if_neg h]

theorem v8_apply (b : Fin 4) (r : Fin 2048) (c : Fin 5632) : val_main_v8 (F := Ideal) x2 (ix3 b r c) = x2 (ix2 2 c) := by
  pointwise [val_main_v8, val_main_v7, val_main_v6, val_main_v5]
theorem v57_apply (b : Fin 4) (r : Fin 2048) (c : Fin 5632) : val_main_v57 (F := Ideal) x2 (ix3 b r c) = x2 (ix2 2 c) := by
  pointwise [val_main_v57, val_main_v7, val_main_v6, val_main_v5]
theorem v14_apply (b : Fin 4) (r : Fin 2048) (c : Fin 5632) : val_main_v14 (F := Ideal) x2 (ix3 b r c) = x2 (ix2 0 c) := by
  pointwise [val_main_v14, val_main_v13, val_main_v12, val_main_v11]
theorem v46_apply (b : Fin 4) (r : Fin 2048) (c : Fin 5632) : val_main_v46 (F := Ideal) x2 (ix3 b r c) = x2 (ix2 0 c) := by
  pointwise [val_main_v46, val_main_v13, val_main_v12, val_main_v11]
theorem v21_apply (b : Fin 4) (r : Fin 2048) (c : Fin 5632) : val_main_v21 (F := Ideal) x2 (ix3 b r c) = x2 (ix2 1 c) := by
  pointwise [val_main_v21, val_main_v20, val_main_v19, val_main_v18]
theorem v37_apply (b : Fin 4) (r : Fin 2048) (c : Fin 5632) : val_main_v37 (F := Ideal) x2 (ix3 b r c) = x2 (ix2 1 c) := by
  pointwise [val_main_v37, val_main_v20, val_main_v19, val_main_v18]

theorem v23_apply (b : Fin 4) (r : Fin 2048) (c : Fin 5632) : val_main_v23 (F := Ideal) x0 x1 x2 (ix3 b r c) = cv (wc x2 c) (U x0 x1 b c) r := by
  show (val_main_v4 (F := Ideal) x0 x1 (ix3 b r c) * val_main_v8 (F := Ideal) x2 (ix3 b r c)
    + val_main_v10 (F := Ideal) x0 x1 (ix3 b r c) * val_main_v14 (F := Ideal) x2 (ix3 b r c)
    + val_main_v17 (F := Ideal) x0 x1 (ix3 b r c) * val_main_v21 (F := Ideal) x2 (ix3 b r c) : EReal) = _
  rw [v4_apply, v8_apply, v10_apply, v14_apply, v17_apply, v21_apply, mul_comm (U _ _ _ _ _), mul_comm (dn 2 _ _), mul_comm (dn 1 _ _)]
  rfl

theorem v24_apply (b : Fin 4) (r : Fin 2048) (k : Fin 2816) : val_main_v24 (F := Ideal) x0 x1 x2 (ix3 b r k) = A x0 x1 x2 b k r := by
  pointwise [val_main_v24]
  exact v23_apply x0 x1 x2 b r (lo k)
theorem v25_apply (b : Fin 4) (r : Fin 2048) (k : Fin 2816) : val_main_v25 (F := Ideal) x0 x1 x2 (ix3 b r k) = B x0 x1 x2 b k r := by
  pointwise [val_main_v25]
  exact v23_apply x0 x1 x2 b r (hi k)

theorem sigma_apply (b : Fin 4) (r : Fin 2048) (k : Fin 2816) : val_main_v26_2 (F := Ideal) x0 x1 x2 (ix3 b r k) = Ideal.logistic (A x0 x1 x2 b k r) := by
  rw [← v24_apply]
  pointwise [val_main_v26_2, val_main_call0_v4, val_main_call0_cst_0, val_main_call0_v3, val_main_call0_v2, val_main_call0_cst, val_main_call0_v1, val_main_call0_v0]
  rfl
theorem slope_apply (b : Fin 4) (r : Fin 2048) (k : Fin 2816) : val_main_v26_1 (F := Ideal) x0 x1 x2 (ix3 b r k)
    = (Ideal.logistic (A x0 x1 x2 b k r) * (1 - Ideal.logistic (A x0 x1 x2 b k r)) : EReal) := by
  rw [← sigma_apply]
  pointwise [val_main_v26_1, val_main_call0_v7, val_main_call0_v6, val_main_call0_cst_1]
theorem silu_apply (b : Fin 4) (r : Fin 2048) (k : Fin 2816) : val_main_v26_0 (F := Ideal) x0 x1 x2 (ix3 b r k)
    = (A x0 x1 x2 b k r * Ideal.logistic (A x0 x1 x2 b k r) : EReal) := by
  rw [← sigma_apply, ← v24_apply]; rfl

theorem v27_apply (b : Fin 4) (r : Fin 2048) (k : Fin 2816) : val_main_v27 (F := Ideal) x0 x1 x2 (ix3 b r k) = act x0 x1 x2 b k r := by
  show (val_main_v26_0 (F := Ideal) x0 x1 x2 (ix3 b r k) * val_main_v25 (F := Ideal) x0 x1 x2 (ix3 b r k) : EReal) = _
  rw [silu_apply, v25_apply]; rfl

theorem v30_apply (b : Fin 4) (r : Fin 2048) (k : Fin 2816) : val_main_v30 (F := Ideal) x0 x1 x2 x3 x4 (ix3 b r k) = dB x0 x1 x2 x3 x4 b k r := by
  show (val_main_v26_0 (F := Ideal) x0 x1 x2 (ix3 b r k) * val_main_v29 (F := Ideal) x3 x4 (ix3 b r k) : EReal) = _
  rw [silu_apply, v29_apply]; rfl
theorem v31_apply (b : Fin 4) (r : Fin 2048) (k : Fin 2816) : val_main_v31 (F := Ideal) x0 x1 x2 x3 x4 (ix3 b r k) = (G x3 x4 b k r * B x0 x1 x2 b k r : EReal) := by
  rw [← v29_apply, ← v25_apply]; rfl
theorem v32_apply (b : Fin 4) (r : Fin 2048) (k : Fin 2816) : val_main_v32 (F := Ideal) x0 x1 x2 x3 x4 (ix3 b r k) = dA x0 x1 x2 x3 x4 b k r := by
  show (val_main_v31 (F := Ideal) x0 x1 x2 x3 x4 (ix3 b r k) * val_main_v26_2 (F := Ideal) x0 x1 x2 (ix3 b r k)
    + (val_main_v24 (F := Ideal) x0 x1 x2 (ix3 b r k) * val_main_v31 (F := Ideal) x0 x1 x2 x3 x4 (ix3 b r k)) * val_main_v26_1 (F := Ideal) x0 x1 x2 (ix3 b r k) : EReal) = _
  rw [v31_apply, v24_apply, sigma_apply, slope_apply]; rfl

theorem v33_apply (b : Fin 4) (r : Fin 2048) (k : Fin 5632) : val_main_v33 (F := Ideal) x0 x1 x2 x3 x4 (ix3 b r k) = dC x0 x1 x2 x3 x4 b k r := by
  have := k.isLt
  pointwise [val_main_v33]
  unfold dC
  by_cases h : k.val < 2816
  · rw [dif_pos h, dif_pos h, v32_apply]
  · rw [dif_neg h, dif_neg h, v30_apply]

theorem v42_apply (b : Fin 4) (r : Fin 2048) (c : Fin 5632) {hr : 2 + r.val < 2050} :
    val_main_v42 (F := Ideal) x0 x1 x2 x3 x4 (ix3 b ⟨2 + r.val, hr⟩ c) = up 1 (dC x0 x1 x2 x3 x4 b c) r * x2 (ix2 1 c) := by
  have := r.isLt
  pointwise [val_main_v42, val_main_cst_4]
  unfold up
  by_cases h : r.val + 1 < 2048
  · rw [dif_pos h, dif_pos (by omega)]
    show (val_main_v33 (F := Ideal) x0 x1 x2 x3 x4 (ix3 b _ c) * val_main_v37 (F := Ideal) x2 (ix3 b _ c) : EReal) = _
    rw [v33_apply, v37_apply]
    congr 2
    exact Fin.ext (by simp; omega)
  · rw [dif_neg h, dif_neg (by omega), zero_mul]
theorem v52_apply (b : Fin 4) (r : Fin 2048) (c : Fin 5632) {hr : 2 + r.val < 2050} :
    val_main_v52 (F := Ideal) x0 x1 x2 x3 x4 (ix3 b ⟨2 + r.val, hr⟩ c) = up 2 (dC x0 x1 x2 x3 x4 b c) r * x2 (ix2 0 c) := by
  have := r.isLt
  pointwise [val_main_v52, val_main_cst_8]
  unfold up
  by_cases h : r.val + 2 < 2048
  · rw [dif_pos h, dif_pos (by omega)]
    show (val_main_v33 (F := Ideal) x0 x1 x2 x3 x4 (ix3 b _ c) * val_main_v46 (F := Ideal) x2 (ix3 b _ c) : EReal) = _
    rw [v33_apply, v46_apply]
    congr 2
    exact Fin.ext (by simp; omega)
  · rw [dif_neg h, dif_neg (by omega), zero_mul]
theorem v63_apply (b : Fin 4) (r : Fin 2048) (c : Fin 5632) {hr : 2 + r.val < 2050} :
    val_main_v63 (F := Ideal) x0 x1 x2 x3 x4 (ix3 b ⟨2 + r.val, hr⟩ c) = dC x0 x1 x2 x3 x4 b c r * x2 (ix2 2 c) := by
  have := r.isLt
  pointwise [val_main_v63, val_main_cst_12]
  show (val_main_v33 (F := Ideal) x0 x1 x2 x3 x4 (ix3 b _ c) * val_main_v57 (F := Ideal) x2 (ix3 b _ c) : EReal) = _
  rw [v33_apply, v57_apply]

theorem v66_apply (b : Fin 4) (r : Fin 2048) (c : Fin 5632) : val_main_v66 (F := Ideal) x0 x1 x2 x3 x4 (ix3 b r c) = cvT (wc x2 c) (dC x0 x1 x2 x3 x4 b c) r := by
  pointwise [val_main_v66]
  show (val_main_v42 (F := Ideal) x0 x1 x2 x3 x4 (ix3 b _ c) + val_main_v52 (F := Ideal) x0 x1 x2 x3 x4 (ix3 b _ c) + val_main_v63 (F := Ideal) x0 x1 x2 x3 x4 (ix3 b _ c) : EReal) = _
  rw [v42_apply, v52_apply, v63_apply, mul_comm (dC _ _ _ _ _ _ _ _), mul_comm (up 2 _ _), mul_comm (up 1 _ _)]
  unfold cvT wc
  rw [add_assoc, add_comm, add_comm (x2 (ix2 0 c) * _)]

/-! ## The four results -/

theorem v70_apply (b : Fin 4) (r : Fin 2048) (k : Fin 2816) : val_main_v70 (F := Ideal) x0 x1 x2 (ix2 (brow b r) k) = act x0 x1 x2 b k r := by
  pointwise [val_main_v70, val_main_v69]
  rw [row_div, row_mod, v27_apply]
theorem v72_apply (b : Fin 4) (r : Fin 2048) (k : Fin 2816) : val_main_v72 (F := Ideal) x0 x1 x2 x3 x4 (ix2 (brow b r) k)
    = cvT (wc x2 (lo k)) (dA x0 x1 x2 x3 x4 b k) r := by
  pointwise [val_main_v72, val_main_v71, val_main_v67]
  rw [row_div, row_mod, ← dC_lo]
  exact v66_apply x0 x1 x2 x3 x4 b r (lo k)
theorem v74_apply (b : Fin 4) (r : Fin 2048) (k : Fin 2816) : val_main_v74 (F := Ideal) x0 x1 x2 x3 x4 (ix2 (brow b r) k)
    = cvT (wc x2 (hi k)) (dB x0 x1 x2 x3 x4 b k) r := by
  pointwise [val_main_v74, val_main_v73, val_main_v68]
  rw [row_div, row_mod, ← dC_hi]
  exact v66_apply x0 x1 x2 x3 x4 b r (hi k)

theorem v39_apply (c : Fin 5632) : val_main_v39 (F := Ideal) x0 x1 x2 x3 x4 (ix1 c) = gw x0 x1 x2 x3 x4 1 c := by
  have e : val_main_v35 (F := Ideal) x0 x1 x2 x3 x4 (ix1 c) = gw x0 x1 x2 x3 x4 1 c := by
    pointwise [val_main_v35, val_main_cst_1]
    rw [reduceAdd_first_two, zero_add]
    refine Finset.sum_congr rfl fun b _ => Finset.sum_congr rfl fun s _ => ?_
    show (val_main_v17 (F := Ideal) x0 x1 (ix3 b s c) * val_main_v33 (F := Ideal) x0 x1 x2 x3 x4 (ix3 b s c) : EReal) = _
    rw [v17_apply, v33_apply]; rfl
  rw [← e]
  pointwise [val_main_v39, val_main_cst_2]
  rw [reduceAdd_first_two, zero_add]
  pointwise [val_main_v36]
  simp
theorem v48_apply (c : Fin 5632) : val_main_v48 (F := Ideal) x0 x1 x2 x3 x4 (ix1 c) = gw x0 x1 x2 x3 x4 0 c := by
  have e : val_main_v44 (F := Ideal) x0 x1 x2 x3 x4 (ix1 c) = gw x0 x1 x2 x3 x4 0 c := by
    pointwise [val_main_v44, val_main_cst_5]
    rw [reduceAdd_first_two, zero_add]
    refine Finset.sum_congr rfl fun b _ => Finset.sum_congr rfl fun s _ => ?_
    show (val_main_v10 (F := Ideal) x0 x1 (ix3 b s c) * val_main_v33 (F := Ideal) x0 x1 x2 x3 x4 (ix3 b s c) : EReal) = _
    rw [v10_apply, v33_apply]; rfl
  rw [← e]
  pointwise [val_main_v48, val_main_cst_6]
  rw [reduceAdd_first_two, zero_add]
  pointwise [val_main_v45]
  simp
theorem v59_apply (c : Fin 5632) : val_main_v59 (F := Ideal) x0 x1 x2 x3 x4 (ix1 c) = gw x0 x1 x2 x3 x4 2 c := by
  have e : val_main_v55 (F := Ideal) x0 x1 x2 x3 x4 (ix1 c) = gw x0 x1 x2 x3 x4 2 c := by
    pointwise [val_main_v55, val_main_cst_9]
    rw [reduceAdd_first_two, zero_add]
    refine Finset.sum_congr rfl fun b _ => Finset.sum_congr rfl fun s _ => ?_
    show (val_main_v4 (F := Ideal) x0 x1 (ix3 b s c) * val_main_v33 (F := Ideal) x0 x1 x2 x3 x4 (ix3 b s c) : EReal) = _
    rw [v4_apply, v33_apply]; rfl
  rw [← e]
  pointwise [val_main_v59, val_main_cst_10]
  rw [reduceAdd_first_two, zero_add]
  pointwise [val_main_v56]
  simp

theorem v62_apply (j : Fin 3) (c : Fin 5632) : val_main_v62 (F := Ideal) x0 x1 x2 x3 x4 (ix2 j c) = gw x0 x1 x2 x3 x4 j c := by
  show (val_main_v41 (F := Ideal) x0 x1 x2 x3 x4 (ix2 j c) + val_main_v50 (F := Ideal) x0 x1 x2 x3 x4 (ix2 j c) + val_main_v61 (F := Ideal) x0 x1 x2 x3 x4 (ix2 j c) : EReal) = _
  have e1 : val_main_v41 (F := Ideal) x0 x1 x2 x3 x4 (ix2 j c) = if j = 1 then gw x0 x1 x2 x3 x4 1 c else 0 := by
    pointwise [val_main_v41, val_main_v40, val_main_cst_3]
    fin_cases j <;> simp [v39_apply]
  have e0 : val_main_v50 (F := Ideal) x0 x1 x2 x3 x4 (ix2 j c) = if j = 0 then gw x0 x1 x2 x3 x4 0 c else 0 := by
    pointwise [val_main_v50, val_main_v49, val_main_cst_7]
    fin_cases j <;> simp [v48_apply]
  have e2 : val_main_v61 (F := Ideal) x0 x1 x2 x3 x4 (ix2 j c) = if j = 2 then gw x0 x1 x2 x3 x4 2 c else 0 := by
    pointwise [val_main_v61, val_main_v60, val_main_cst_11]
    fin_cases j <;> simp [v59_apply]
  rw [e0, e1, e2]
  fin_cases j <;> simp

end Reference

end Cert.Ffn

end
-- ==== Proof.FfnFrame.lean ====
module

public import proofs.«01_k».proof.Proof.FfnBody
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.FfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## The forward call's body -/

set_option maxHeartbeats 1000000 in
/-- One point of the forward call leaves the five results of its blocks. -/
theorem up_body (c : Dev nD) (E : Set ℕ) (i : grid0.Coords) (arg2 : Memref sig .tc .vmem S2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .bf16) (harg11 : arg11.IsWhole)
    (x2 : Vec F S2048x1024 .bf16) (x3 x4 : Vec F S1024x256 .bf16) (x5 x6 : Vec F S3x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay4 (k0_pay7 x2 x4) (k0_pay10 x2 x3 x5) x6) ∗ owns (c : Thread nD τ) arg8 fullShare (k0_pay8 x2 x3) ∗ owns (c : Thread nD τ) arg9 fullShare (k0_pay9 x2 x4) ∗ owns (c : Thread nD τ) arg10 fullShare (k0_pay2 (k0_pay10 x2 x3 x5)) ∗ owns (c : Thread nD τ) arg11 fullShare (k0_pay3 (k0_pay7 x2 x4) x6)) -∗ K ⟨⟩))
      ⊢ wp frame (wpE (defs₀ (F := F)) Variants.none c none) E (cc0_ffn_up_act i arg2 harg2 arg3 harg3 arg4 harg4 arg5 harg5 arg6 harg6 arg7 harg7 arg8 harg8 arg9 harg9 arg10 harg10 arg11 harg11) K := by
  simp only [cc0_ffn_up_act_eq_skeleton]; unfold cc0_ffn_up_act_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6
  have r2 : View.readAt (Elt F) arg2.view (Rect.unit (s := S2048x1024) ![0, 0] S2048x1024.size inb_S2048x1024_S2048x1024_0_0).toLoadRect (harg2.unread x2) = x2 :=
    (View.readAt_full _ _ _).trans (harg2.read_unread _)
  have r3 : View.readAt (Elt F) arg3.view (Rect.unit (s := S1024x256) ![0, 0] S1024x256.size inb_S1024x256_S1024x256_0_0).toLoadRect (harg3.unread x3) = x3 :=
    (View.readAt_full _ _ _).trans (harg3.read_unread _)
  have r4 : View.readAt (Elt F) arg4.view (Rect.unit (s := S1024x256) ![0, 0] S1024x256.size inb_S1024x256_S1024x256_0_0).toLoadRect (harg4.unread x4) = x4 :=
    (View.readAt_full _ _ _).trans (harg4.read_unread _)
  have r5 : View.readAt (Elt F) arg5.view (Rect.unit (s := S3x256) ![0, 0] S3x256.size inb_S3x256_S3x256_0_0).toLoadRect (harg5.unread x5) = x5 :=
    (View.readAt_full _ _ _).trans (harg5.read_unread _)
  have r6 : View.readAt (Elt F) arg6.view (Rect.unit (s := S3x256) ![0, 0] S3x256.size inb_S3x256_S3x256_0_0).toLoadRect (harg6.unread x6) = x6 :=
    (View.readAt_full _ _ _).trans (harg6.read_unread _)
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro
    refine (View.read_writes_full _ _ _ _ _).trans ?_
    rfl
  isplitl [H8]
  · iexists _; isplitr; swap; · iexact H8
    ipureintro
    refine (View.read_writes_full _ _ _ _ _).trans ?_
    rfl
  isplitl [H9]
  · iexists _; isplitr; swap; · iexact H9
    ipureintro
    refine (View.read_writes_full _ _ _ _ _).trans ?_
    rfl
  isplitl [H10]
  · iexists _; isplitr; swap; · iexact H10
    ipureintro
    refine (View.read_writes_full _ _ _ _ _).trans ?_
    rfl
  iexists _; isplitr; swap; · iexact H11
  ipureintro
  refine (View.read_writes_full _ _ _ _ _).trans ?_
  rfl

section Regions
variable (V : (c : Dev nD) → (b : Ref sig .tc) → Buf (Elt F) ((c : Thread nD τ).loc b))

/-! ## The forward call -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: each input's buffer at its block, each result's as the body leaves it; an array read by two
windows is held by both at a share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay4 (k0_pay7 (iblk0 V c 0 t) (iblk0 V c 2 t)) (k0_pay10 (iblk0 V c 0 t) (iblk0 V c 1 t) (iblk0 V c 3 t)) (iblk0 V c 4 t)
    | ⟨6, _⟩ => k0_pay8 (iblk0 V c 0 t) (iblk0 V c 1 t)
    | ⟨7, _⟩ => k0_pay9 (iblk0 V c 0 t) (iblk0 V c 2 t)
    | ⟨8, _⟩ => k0_pay2 (k0_pay10 (iblk0 V c 0 t) (iblk0 V c 1 t) (iblk0 V c 3 t))
    | ⟨9, _⟩ => k0_pay3 (k0_pay7 (iblk0 V c 0 t) (iblk0 V c 2 t)) (iblk0 V c 4 t)
  Φ _ := Pipeline.ΦA spec0 c
  q w := Pipeline.shareOf spec0 w
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay4 (k0_pay7 (iblk0 V c 0 t) (iblk0 V c 2 t)) (k0_pay10 (iblk0 V c 0 t) (iblk0 V c 1 t) (iblk0 V c 3 t)) (iblk0 V c 4 t) := by dsimp only [dat0]
theorem after0_6 (c : Dev nD) (t : Fin cfg0.N) : (dat0 V c).after 6 t = k0_pay8 (iblk0 V c 0 t) (iblk0 V c 1 t) := by dsimp only [dat0]
theorem after0_7 (c : Dev nD) (t : Fin cfg0.N) : (dat0 V c).after 7 t = k0_pay9 (iblk0 V c 0 t) (iblk0 V c 2 t) := by dsimp only [dat0]
theorem after0_8 (c : Dev nD) (t : Fin cfg0.N) : (dat0 V c).after 8 t = k0_pay2 (k0_pay10 (iblk0 V c 0 t) (iblk0 V c 1 t) (iblk0 V c 3 t)) := by dsimp only [dat0]
theorem after0_9 (c : Dev nD) (t : Fin cfg0.N) : (dat0 V c).after 9 t = k0_pay3 (k0_pay7 (iblk0 V c 0 t) (iblk0 V c 2 t)) (iblk0 V c 4 t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- What the body of region 0 is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (up_body c Set.univ (grid0.coords t) _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-! ## The backward call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The six sums a point of the backward call adds to the taps' gradients. -/
def ptSums (c : Dev nD) (t : Fin cfg1.N) : Sums F :=
  sums (DA (iblk1 V c 4 t) (iblk1 V c 5 t) (k1_pay13 (iblk1 V c 0 t) (iblk1 V c 1 t))) (DB (iblk1 V c 4 t) (k1_pay13 (iblk1 V c 0 t) (iblk1 V c 1 t)))
    (iblk1 V c 2 t) (iblk1 V c 3 t) 16

/-- The taps' gradients after the point at position `n`: zero before the first, a point's sums added at each. -/
def dwAt (c : Dev nD) : (n : ℕ) → n < cfg1.N → Vec F S3x5632 .f32
  | 0, h => addAll (grid1.coords ⟨0, h⟩) (k1_pay26 (F := F)) (ptSums V c ⟨0, h⟩)
  | n + 1, h => addAll (grid1.coords ⟨n + 1, h⟩) (dwAt c n (Nat.lt_of_succ_lt h)) (ptSums V c ⟨n + 1, h⟩)

theorem dwAt_first (c : Dev nD) (t : Fin cfg1.N) (h : t.val = 0) : dwAt V c t.val t.isLt = addAll (grid1.coords t) (k1_pay26 (F := F)) (ptSums V c t) := by
  obtain ⟨n, hn⟩ := t
  cases n with
  | zero => rfl
  | succ n => exact absurd h (Nat.succ_ne_zero n)

theorem dwAt_next (c : Dev nD) (t : Fin cfg1.N) (h : t.val ≠ 0) :
    dwAt V c t.val t.isLt = addAll (grid1.coords t) (dwAt V c (t.val - 1) (Nat.lt_of_le_of_lt (Nat.sub_le _ _) t.isLt)) (ptSums V c t) := by
  obtain ⟨n, hn⟩ := t
  cases n with
  | zero => exact absurd rfl h
  | succ n => rfl

theorem first_iff : ∀ t : Fin cfg1.N, ((grid1.coords t 0).val = 0 ∧ (grid1.coords t 1).val = 0) ↔ t.val = 0 :=
  (by decide +kernel : ∀ t : Fin grid1.N, ((grid1.coords t 0).val = 0 ∧ (grid1.coords t 1).val = 0) ↔ t.val = 0)

/-- The proof data of region 1: each input's buffer at its block, each result's as the body leaves it; an array read by two
windows is held by both at a share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => DUA (iblk1 V c 6 t) (DA (iblk1 V c 4 t) (iblk1 V c 5 t) (k1_pay13 (iblk1 V c 0 t) (iblk1 V c 1 t)))
    | ⟨9, _⟩ => DUB (iblk1 V c 7 t) (DB (iblk1 V c 4 t) (k1_pay13 (iblk1 V c 0 t) (iblk1 V c 1 t)))
    | ⟨10, _⟩ => dwAt V c t.val t.isLt
  Φ _ := Pipeline.ΦA spec1 c
  q w := Pipeline.shareOf spec1 w
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = DUA (iblk1 V c 6 t) (DA (iblk1 V c 4 t) (iblk1 V c 5 t) (k1_pay13 (iblk1 V c 0 t) (iblk1 V c 1 t))) := by dsimp only [dat1]
theorem after1_9 (c : Dev nD) (t : Fin cfg1.N) : (dat1 V c).after 9 t = DUB (iblk1 V c 7 t) (DB (iblk1 V c 4 t) (k1_pay13 (iblk1 V c 0 t) (iblk1 V c 1 t))) := by dsimp only [dat1]
theorem after1_10 (c : Dev nD) (t : Fin cfg1.N) : (dat1 V c).after 10 t = dwAt V c t.val t.isLt := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- What the body of region 1 is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- At a later point the taps' buffer holds what the point before left. -/
theorem before1_10 (c : Dev nD) (t : Fin cfg1.N) (h : t.val ≠ 0) (d) :
    (dat1 V c).before 10 t d = dwAt V c (t.val - 1) (Nat.lt_of_le_of_lt (Nat.sub_le _ _) t.isLt) := by
  have hN : t.val < 44 := lt_of_lt_of_eq t.isLt (show cfg1.N = 44 from N_1)
  rw [Dat.before_out_kept _ 10 rfl t (by omega) (Bool.eq_false_iff.mpr fun h => by have := (flush1_10 _).mp h; dsimp only at this; omega)
    (fun _ => rfl) (fun _ _ => rfl)]
  dsimp only [dat1]

/-- The three scratch buffers taken out of what the core holds beside the windows, to be put back. -/
theorem scratch_out (c : Dev nD) : (Pipeline.ΦA spec1 c : sProp 𝕄) ⊢
    iprop((∃ d : Vec F S2048x256 .f32, owns (c : Thread nD τ) (Memref.whole cc1_scratch0) fullShare d)
      ∗ (∃ d : Vec F S2056x256 .f32, owns (c : Thread nD τ) (Memref.whole cc1_scratch1) fullShare d)
      ∗ (∃ d : Vec F S2056x256 .f32, owns (c : Thread nD τ) (Memref.whole cc1_scratch2) fullShare d)
      ∗ (iprop((∃ d : Vec F S2048x256 .f32, owns (c : Thread nD τ) (Memref.whole cc1_scratch0) fullShare d)
          ∗ (∃ d : Vec F S2056x256 .f32, owns (c : Thread nD τ) (Memref.whole cc1_scratch1) fullShare d)
          ∗ (∃ d : Vec F S2056x256 .f32, owns (c : Thread nD τ) (Memref.whole cc1_scratch2) fullShare d)) -∗ Pipeline.ΦA spec1 c)) := by
  unfold Pipeline.ΦA
  rw [scopedRest1_eq]; simp only [owns_whole]
  iintro ⟨⟨B0, B1, B2, B3, B4, B5, B6, B7, B8, B9, B10, B11, B12, B13, B14, B15, B16, B17, B18, B19, S0, S1, S2⟩, Hr⟩
  isplitl [S0]; · iexact S0
  isplitl [S1]; · iexact S1
  isplitl [S2]; · iexact S2
  iintro ⟨S0, S1, S2⟩
  isplitr [Hr]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [S0]; · iexact S0
    isplitl [S1]; · iexact S1
    iexact S2
  iexact Hr

set_option maxHeartbeats 1000000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9, after1_10]
  by_cases h0 : t.val = 0
  · rw [dwAt_first V c t h0]
    unfold ptSums
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HS := (scratch_out c) $$ HΦ
    icases HS with ⟨S0, S1, S2, HB⟩
    iapply (step_reset c (grid1.coords t) _ _ _ _ _ _ _ _ _ _ _ _ _ _ _ _ _ _ _ _ _ _ _ _ _ _ _ _ ((first_iff t).mpr h0) (iblk1 V c 0 t) (iblk1 V c 1 t) (iblk1 V c 2 t) (iblk1 V c 3 t) (iblk1 V c 4 t) (iblk1 V c 5 t) (iblk1 V c 6 t) (iblk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [S0]; · iexact S0
    isplitl [S1]; · iexact S1
    isplitl [S2]; · iexact S2
    iintro ⟨H0, H1, H2, H3, H4, H5, H6, H7, H8, H9, H10, S0, S1, S2⟩
    isplitl [HB S0 S1 S2]
    · iapply HB
      isplitl [S0]; · iexact S0
      isplitl [S1]; · iexact S1
      iexact S2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dwAt_next V c t h0]
    simp only [before1_10 V c t h0]
    unfold ptSums
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HS := (scratch_out c) $$ HΦ
    icases HS with ⟨S0, S1, S2, HB⟩
    iapply (step_keep c (grid1.coords t) _ _ _ _ _ _ _ _ _ _ _ _ _ _ _ _ _ _ _ _ _ _ _ _ _ _ _ _ (fun h => h0 ((first_iff t).mp h)) (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [S0]; · iexact S0
    isplitl [S1]; · iexact S1
    isplitl [S2]; · iexact S2
    iintro ⟨H0, H1, H2, H3, H4, H5, H6, H7, H8, H9, H10, S0, S1, S2⟩
    isplitl [HB S0 S1 S2]
    · iapply HB
      isplitl [S0]; · iexact S0
      isplitl [S1]; · iexact S1
      iexact S2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Regions

/-! ## The whole program: host lines, forward call, host lines, backward call -/

variable (m : (ℓ : Loc nD τ sig) → Buf (Elt F) ℓ) (ρ : Dev nD → PrngReg)

abbrev args : List (Ref sig .tc) := [main_arg0, main_arg1, main_arg2, main_arg3, main_arg4]

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem writes0 : (hostOps0 : List (HloOp τ sig (Elt F))).Forall fun op => op.writes ⊆ (([main_v0, main_v1, main_v2] : List (Ref sig .tc)).map (Proc.devRef (τ := τ) .tc)).toFinset :=
  StableHlo.forall_writes_sub_of_map rfl
theorem writes1 : (hostOps1 : List (HloOp τ sig (Elt F))).Forall fun op => op.writes ⊆ (([main_v4, main_v5, main_v6] : List (Ref sig .tc)).map (Proc.devRef (τ := τ) .tc)).toFinset :=
  StableHlo.forall_writes_sub_of_map rfl

/-- The contents at launch, after the first host lines, after the forward call, after the second host lines and at the end. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ ([main_v0, main_v1, main_v2] : List (Ref sig .tc))) : W1 m ρ c (Proc.devRef .tc r) = W0 m ρ c (Proc.devRef .tc r) :=
  StableHlo.after_of_writes_sub hostOps0 _ writes0 h

/-- The contents at region 0's exit: its arrays as the pipeline leaves them, every other buffer as at entry. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (V1 m ρ) c).arrAt w cfg0.N := by
  unfold W2
  exact Pipeline.Dat.withArrays_arrAt (dat0 (V1 m ρ) c) sharedIn0 (W1 m ρ c) (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no result of the region keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ ([main_v4, main_v5, main_v6] : List (Ref sig .tc))) : W3 m ρ c (Proc.devRef .tc r) = W2 m ρ c (Proc.devRef .tc r) :=
  StableHlo.after_of_writes_sub hostOps1 _ writes1 h

/-- The contents at region 1's exit: its arrays as the pipeline leaves them, every other buffer as at entry. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (dat1 (V3 m ρ) c).arrAt w cfg1.N := by
  unfold W4
  exact Pipeline.Dat.withArrays_arrAt (dat1 (V3 m ρ) c) sharedIn1 (W3 m ρ c) (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no result of the region keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

theorem keeps0 : ∀ a ∈ args, a ∉ ([main_v0, main_v1, main_v2] : List (Ref sig .tc)) := ListAll.forall_mem_of_all_decide (by decide +kernel)
theorem keeps1 : ∀ a ∈ args, a ∉ ([main_v4, main_v5, main_v6] : List (Ref sig .tc)) := ListAll.forall_mem_of_all_decide (by decide +kernel)
theorem inputs0 : ∀ a ∈ args, ∀ w : Fin cfg0.W, Pipeline.arrRef spec0 w = a → (cfg0.win w).isOut = false :=
  ListAll.forall_mem_of_all_decide (by decide +kernel)
theorem inputs1 : ∀ a ∈ args, ∀ w : Fin cfg1.W, Pipeline.arrRef spec1 w = a → (cfg1.win w).isOut = false :=
  ListAll.forall_mem_of_all_decide (by decide +kernel)
theorem W2_args (c : Dev nD) : ∀ a ∈ args, W2 m ρ c (Proc.devRef .tc a) = m ((c : Thread nD τ).loc a) :=
  fun a ha => (W2_of m ρ c a (inputs0 a ha)).trans (W1_of m ρ c a (keeps0 a ha))
theorem W4_args (c : Dev nD) : ∀ a ∈ args, W4 m ρ c (Proc.devRef .tc a) = m ((c : Thread nD τ).loc a) :=
  fun a ha => (W4_of m ρ c a (inputs1 a ha)).trans ((W3_of m ρ c a (keeps1 a ha)).trans (W2_args m ρ c a ha))

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What the core holds beside the buffers: its generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 between the contents at its entry and at its exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) winFacts₀0 sharedIn0 arr_whole0 c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m ρ) (fun _ _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents at its entry and at its exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) winFacts₀1 sharedIn1 arr_whole1 c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m ρ) (fun _ _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]
theorem main_run (c : Dev nD) : main (F := F) c = Pipeline.Seg.run (segs m ρ) := (main_chain c).trans (by chain_rfl)

theorem all_scoped : ∀ sm : SemLoc sig, sm.isScoped .tc = true := by decide

set_option backward.isDefEq.respectTransparency.types false in
/-- Every run ends with every buffer at the last contents and every counter at zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (all_scoped g.2))⟩)

/-- The argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_all m ρ)
  have k : ∀ a ∈ args, (hs : ¬ (Proc.devRef .tc a : DevRef τ sig).isScoped) → r.2.mem ((c.tc : Thread nD τ).loc a) = m ((c.tc : Thread nD τ).loc a) :=
    fun a ha hs => (h.1 c _ (mem_uc a hs)).trans (W4_args m ρ c a ha)
  exact ⟨k main_arg0 (by decide) (by decide), k main_arg1 (by decide) (by decide), k main_arg2 (by decide) (by decide),
    k main_arg3 (by decide) (by decide), k main_arg4 (by decide) (by decide)⟩

end Cert.FfnIdeal.Body

end
-- ==== Proof.FfnValue.lean ====
/- What the gated MLP's two kernels leave in their output arrays, whatever the arrays hold that they are entered with. -/
module

public import proofs.«01_k».proof.Proof.FfnMath
public import proofs.«01_k».proof.Proof.FfnRefMath
public import proofs.«01_k».proof.Proof.FfnFrame
public import Idealize.ShloMosaic.Lib.Pipeline.ValueKit

@[expose] public section

set_option maxRecDepth 16384

noncomputable section

open Idealize.ShloMosaic Idealize.ShloMosaic.TcCoe Idealize.SL.Sem Cert.Reals
open Idealize.ShloMosaic.Pipeline (Dat)

namespace Cert.FfnIdeal.Value

open Cert.FfnIdeal Cert.FfnIdeal.Gen Cert.FfnIdeal.Body Cert.FfnIdeal.Entry Cert.Shift Cert.Ffn
open Cert.Conv (tap)
open Cert.AttnBwdIdeal.Host (brow row_div row_mod)

/-- Columns over the batch, as one array of rows. -/
def flat (f : Fin 4 → Fin 2816 → Fin 2048 → EReal) : FVec Ideal S8192x2816 .bf16 := fun i =>
  f ⟨(i 0).val / 2048, by have : (i 0).val < 8192 := (i 0).isLt; omega⟩ (i 1) ⟨(i 0).val % 2048, Nat.mod_lt _ (by decide)⟩
theorem flat_at (f : Fin 4 → Fin 2816 → Fin 2048 → EReal) (b : Fin 4) (r : Fin 2048) (k : Fin 2816) : flat f (ix2 (brow b r) k) = f b k r := by
  pointwise [flat]
  simp only [row_div, row_mod]

theorem lift_sum (j : Fin 3) (D u : Fin 2048 → EReal) : ∑ r, lift j D r * u r = ∑ s, tap j u s * D s := by
  fin_cases j
  · exact sum_up 2 u D
  · exact sum_up 1 u D
  · exact Finset.sum_congr rfl fun r _ => mul_comm _ _

section Regions
variable (V : (c : Dev nD) → (b : Ref sig .tc) → Buf (Elt Ideal) ((c : Thread nD τ).loc b)) (c : Dev nD)
variable (x0 : FVec Ideal S4x2048x1024 .f32) (x1 : FVec Ideal S1024x5632 .f32) (x2 : FVec Ideal S3x5632 .f32) (x3 : FVec Ideal S2816x1024 .f32) (x4 : FVec Ideal S4x2048x1024 .f32)

theorem idx0 : ∀ t : Fin cfg0.N, win0_0.index t = ![t.val / 11, 0] ∧ win0_1.index t = ![0, t.val % 11] ∧ win0_2.index t = ![0, 11 + t.val % 11]
    ∧ win0_3.index t = ![0, t.val % 11] ∧ win0_4.index t = ![0, 11 + t.val % 11] ∧ win0_5.index t = ![t.val / 11, t.val % 11]
    ∧ win0_6.index t = ![t.val / 11, t.val % 11] ∧ win0_7.index t = ![t.val / 11, t.val % 11] ∧ win0_8.index t = ![t.val / 11, t.val % 11]
    ∧ win0_9.index t = ![t.val / 11, t.val % 11] ∧ t.val < 44 :=
  (by decide +kernel : ∀ t : Fin grid0.N, _)
theorem idx1 : ∀ t : Fin cfg1.N, win1_0.index t = ![t.val / 11, 0] ∧ win1_1.index t = ![t.val % 11, 0] ∧ win1_2.index t = ![t.val / 11, t.val % 11]
    ∧ win1_3.index t = ![t.val / 11, t.val % 11] ∧ win1_4.index t = ![t.val / 11, t.val % 11] ∧ win1_5.index t = ![t.val / 11, t.val % 11]
    ∧ win1_6.index t = ![0, t.val % 11] ∧ win1_7.index t = ![0, 11 + t.val % 11] ∧ win1_8.index t = ![t.val / 11, t.val % 11]
    ∧ win1_9.index t = ![t.val / 11, t.val % 11] ∧ t.val < 44 :=
  (by decide +kernel : ∀ t : Fin grid1.N, _)
theorem coord1 : ∀ t : Fin cfg1.N, (grid1.coords t 1).val = t.val % 11 := (by decide +kernel : ∀ t : Fin grid1.N, _)
theorem N0 : cfg0.N = 44 := by decide +kernel
theorem N1 : cfg1.N = 44 := by decide +kernel

/-- A point's batch, and a lane of its block of columns. -/
def tb (n : ℕ) (h : n < 44) : Fin 4 := ⟨n / 11, by omega⟩
def kc (n : ℕ) (l : Fin 256) : Fin 2816 := ⟨256 * (n % 11) + l.val, by have := l.isLt; omega⟩

/-- The arrays the regions read. -/
abbrev vh : FVec Ideal S8192x1024 .bf16 := V c main_v1
abbrev vu : FVec Ideal S1024x5632 .bf16 := V c main_v2
abbrev vw : FVec Ideal S3x5632 .f32 := V c main_arg2
abbrev vx : FVec Ideal S8192x1024 .bf16 := V c main_v5
abbrev vd : FVec Ideal S2816x1024 .bf16 := V c main_v6
abbrev v1 : FVec Ideal S8192x2816 .bf16 := V c main_v3_1
abbrev v2 : FVec Ideal S8192x2816 .bf16 := V c main_v3_2
abbrev v3 : FVec Ideal S8192x2816 .bf16 := V c main_v3_3
abbrev v4 : FVec Ideal S8192x2816 .bf16 := V c main_v3_4

/-! ## The forward kernel -/

section First
variable (t : Fin cfg0.N)
theorem lt0 : t.val < 44 := lt_of_lt_of_eq t.isLt N0

theorem blk00 (r : Fin 2048) (d : Fin 1024) : (iblk0 V c 0 t : FVec Ideal S2048x1024 .bf16) (ix2 r d) = vh V c (ix2 (brow (tb t.val (lt0 t)) r) d) := by
  blk_point [iblk0, idx0 t]
  all_goals simp only [tb, brow] <;> omega
theorem blk01 (d : Fin 1024) (l : Fin 256) : (iblk0 V c 1 t : FVec Ideal S1024x256 .bf16) (ix2 d l) = vu V c (ix2 d (lo (kc t.val l))) := by
  blk_point [iblk0, idx0 t]
  all_goals simp only [lo, kc] <;> omega
theorem blk02 (d : Fin 1024) (l : Fin 256) : (iblk0 V c 2 t : FVec Ideal S1024x256 .bf16) (ix2 d l) = vu V c (ix2 d (hi (kc t.val l))) := by
  blk_point [iblk0, idx0 t]
  all_goals simp only [hi, kc] <;> omega
theorem blk03 (j : Fin 3) (l : Fin 256) : (iblk0 V c 3 t : FVec Ideal S3x256 .f32) (ix2 j l) = vw V c (ix2 j (lo (kc t.val l))) := by
  blk_point [iblk0, idx0 t]
  all_goals simp only [lo, kc] <;> omega
theorem blk04 (j : Fin 3) (l : Fin 256) : (iblk0 V c 4 t : FVec Ideal S3x256 .f32) (ix2 j l) = vw V c (ix2 j (hi (kc t.val l))) := by
  blk_point [iblk0, idx0 t]
  all_goals simp only [hi, kc] <;> omega

variable (hh : ∀ b r d, vh V c (ix2 (brow b r) d) = x0 (ix3 b r d)) (hu : ∀ d k, vu V c (ix2 d k) = x1 (ix2 d k)) (hw : ∀ j k, vw V c (ix2 j k) = x2 (ix2 j k))
include hh hu

theorem ua_apply (r : Fin 2048) (l : Fin 256) : k0_pay6 (F := Ideal) (iblk0 V c 0 t) (iblk0 V c 1 t) (ix2 r l) = U x0 x1 (tb t.val (lt0 t)) (lo (kc t.val l)) r :=
  (up_lo _ _ r l).trans (Finset.sum_congr rfl fun d _ => congrArg₂ (fun a b : EReal => a * b) ((blk00 V c t r d).trans (hh _ _ _)) ((blk01 V c t d l).trans (hu _ _)))
theorem ub_apply (r : Fin 2048) (l : Fin 256) : k0_pay7 (F := Ideal) (iblk0 V c 0 t) (iblk0 V c 2 t) (ix2 r l) = U x0 x1 (tb t.val (lt0 t)) (hi (kc t.val l)) r :=
  (up_hi _ _ r l).trans (Finset.sum_congr rfl fun d _ => congrArg₂ (fun a b : EReal => a * b) ((blk00 V c t r d).trans (hh _ _ _)) ((blk02 V c t d l).trans (hu _ _)))

include hw
theorem a_apply (r : Fin 2048) (l : Fin 256) : k0_pay10 (F := Ideal) (iblk0 V c 0 t) (iblk0 V c 1 t) (iblk0 V c 3 t) (ix2 r l)
    = A x0 x1 x2 (tb t.val (lt0 t)) (kc t.val l) r := by
  rw [pay10_eq]
  refine (conv_apply _ _ r l).trans ?_
  exact congrFun (congrArg₂ cv (funext fun j => (blk03 V c t j l).trans (hw _ _)) (funext fun r => ua_apply V c x0 x1 t hh hu r l)) r
theorem b_apply (r : Fin 2048) (l : Fin 256) : conv (iblk0 V c 4 t) (k0_pay7 (F := Ideal) (iblk0 V c 0 t) (iblk0 V c 2 t)) (ix2 r l)
    = B x0 x1 x2 (tb t.val (lt0 t)) (kc t.val l) r := by
  refine (conv_apply _ _ r l).trans ?_
  exact congrFun (congrArg₂ cv (funext fun j => (blk04 V c t j l).trans (hw _ _)) (funext fun r => ub_apply V c x0 x1 t hh hu r l)) r
end First

variable (hh : ∀ b r d, vh V c (ix2 (brow b r) d) = x0 (ix3 b r d)) (hu : ∀ d k, vu V c (ix2 d k) = x1 (ix2 d k)) (hw : ∀ j k, vw V c (ix2 j k) = x2 (ix2 j k))
include hh hu

theorem final0_6 : (dat0 V c).arrAt 6 cfg0.N = flat (fun b k => U x0 x1 b (lo k)) := by
  refine (dat0 V c).arrAt_eq_of_covers 6 _ (by decide +kernel) fun t _ y => ?_
  blk_simp
  obtain ⟨r, l, rfl⟩ : ∃ (r : Fin 2048) (l : Fin 256), y = ix2 r l := ⟨y 0, y 1, eq_ix2 y⟩
  have he : ((View.whole main_v3_1).slice (win0_6.rect t)).emb (ix2 r l) = (ix2 (brow (tb t.val (lt0 t)) r) (kc t.val l) : S8192x2816.Idx) := by
    blk_ext [idx0 t]
    all_goals simp only [tb, brow, kc] <;> omega
  rw [he, flat_at, after0_6]
  exact ua_apply V c x0 x1 t hh hu r l
theorem final0_7 : (dat0 V c).arrAt 7 cfg0.N = flat (fun b k => U x0 x1 b (hi k)) := by
  refine (dat0 V c).arrAt_eq_of_covers 7 _ (by decide +kernel) fun t _ y => ?_
  blk_simp
  obtain ⟨r, l, rfl⟩ : ∃ (r : Fin 2048) (l : Fin 256), y = ix2 r l := ⟨y 0, y 1, eq_ix2 y⟩
  have he : ((View.whole main_v3_2).slice (win0_7.rect t)).emb (ix2 r l) = (ix2 (brow (tb t.val (lt0 t)) r) (kc t.val l) : S8192x2816.Idx) := by
    blk_ext [idx0 t]
    all_goals simp only [tb, brow, kc] <;> omega
  rw [he, flat_at, after0_7]
  exact ub_apply V c x0 x1 t hh hu r l
include hw
theorem final0_5 : (dat0 V c).arrAt 5 cfg0.N = flat (act x0 x1 x2) := by
  refine (dat0 V c).arrAt_eq_of_covers 5 _ (by decide +kernel) fun t _ y => ?_
  blk_simp
  obtain ⟨r, l, rfl⟩ : ∃ (r : Fin 2048) (l : Fin 256), y = ix2 r l := ⟨y 0, y 1, eq_ix2 y⟩
  have he : ((View.whole main_v3_0).slice (win0_5.rect t)).emb (ix2 r l) = (ix2 (brow (tb t.val (lt0 t)) r) (kc t.val l) : S8192x2816.Idx) := by
    blk_ext [idx0 t]
    all_goals simp only [tb, brow, kc] <;> omega
  rw [he, flat_at, after0_5]
  refine (pay4_apply _ _ _ r l).trans ?_
  rw [a_apply V c x0 x1 x2 t hh hu hw, b_apply V c x0 x1 x2 t hh hu hw]
  rfl
theorem final0_8 : (dat0 V c).arrAt 8 cfg0.N = flat (A x0 x1 x2) := by
  refine (dat0 V c).arrAt_eq_of_covers 8 _ (by decide +kernel) fun t _ y => ?_
  blk_simp
  obtain ⟨r, l, rfl⟩ : ∃ (r : Fin 2048) (l : Fin 256), y = ix2 r l := ⟨y 0, y 1, eq_ix2 y⟩
  have he : ((View.whole main_v3_3).slice (win0_8.rect t)).emb (ix2 r l) = (ix2 (brow (tb t.val (lt0 t)) r) (kc t.val l) : S8192x2816.Idx) := by
    blk_ext [idx0 t]
    all_goals simp only [tb, brow, kc] <;> omega
  rw [he, flat_at, after0_8]
  exact a_apply V c x0 x1 x2 t hh hu hw r l
theorem final0_9 : (dat0 V c).arrAt 9 cfg0.N = flat (B x0 x1 x2) := by
  refine (dat0 V c).arrAt_eq_of_covers 9 _ (by decide +kernel) fun t _ y => ?_
  blk_simp
  obtain ⟨r, l, rfl⟩ : ∃ (r : Fin 2048) (l : Fin 256), y = ix2 r l := ⟨y 0, y 1, eq_ix2 y⟩
  have he : ((View.whole main_v3_4).slice (win0_9.rect t)).emb (ix2 r l) = (ix2 (brow (tb t.val (lt0 t)) r) (kc t.val l) : S8192x2816.Idx) := by
    blk_ext [idx0 t]
    all_goals simp only [tb, brow, kc] <;> omega
  rw [he, flat_at, after0_9]
  exact b_apply V c x0 x1 x2 t hh hu hw r l
omit hh hu hw

/-! ## The backward kernel -/

section Second
variable (t : Fin cfg1.N)
theorem lt1 : t.val < 44 := lt_of_lt_of_eq t.isLt N1

theorem blk10 (r : Fin 2048) (d : Fin 1024) : (iblk1 V c 0 t : FVec Ideal S2048x1024 .bf16) (ix2 r d) = vx V c (ix2 (brow (tb t.val (lt1 t)) r) d) := by
  blk_point [iblk1, idx1 t]
  all_goals simp only [tb, brow] <;> omega
theorem blk11 (l : Fin 256) (d : Fin 1024) : (iblk1 V c 1 t : FVec Ideal S256x1024 .bf16) (ix2 l d) = vd V c (ix2 (kc t.val l) d) := by
  blk_point [iblk1, idx1 t]
  all_goals simp only [kc] <;> omega
theorem blk12 (r : Fin 2048) (l : Fin 256) : (iblk1 V c 2 t : FVec Ideal S2048x256 .bf16) (ix2 r l) = v1 V c (ix2 (brow (tb t.val (lt1 t)) r) (kc t.val l)) := by
  blk_point [iblk1, idx1 t]
  all_goals simp only [tb, brow, kc] <;> omega
theorem blk13 (r : Fin 2048) (l : Fin 256) : (iblk1 V c 3 t : FVec Ideal S2048x256 .bf16) (ix2 r l) = v2 V c (ix2 (brow (tb t.val (lt1 t)) r) (kc t.val l)) := by
  blk_point [iblk1, idx1 t]
  all_goals simp only [tb, brow, kc] <;> omega
theorem blk14 (r : Fin 2048) (l : Fin 256) : (iblk1 V c 4 t : FVec Ideal S2048x256 .bf16) (ix2 r l) = v3 V c (ix2 (brow (tb t.val (lt1 t)) r) (kc t.val l)) := by
  blk_point [iblk1, idx1 t]
  all_goals simp only [tb, brow, kc] <;> omega
theorem blk15 (r : Fin 2048) (l : Fin 256) : (iblk1 V c 5 t : FVec Ideal S2048x256 .bf16) (ix2 r l) = v4 V c (ix2 (brow (tb t.val (lt1 t)) r) (kc t.val l)) := by
  blk_point [iblk1, idx1 t]
  all_goals simp only [tb, brow, kc] <;> omega
theorem blk16 (j : Fin 3) (l : Fin 256) : (iblk1 V c 6 t : FVec Ideal S3x256 .f32) (ix2 j l) = vw V c (ix2 j (lo (kc t.val l))) := by
  blk_point [iblk1, idx1 t]
  all_goals simp only [lo, kc] <;> omega
theorem blk17 (j : Fin 3) (l : Fin 256) : (iblk1 V c 7 t : FVec Ideal S3x256 .f32) (ix2 j l) = vw V c (ix2 j (hi (kc t.val l))) := by
  blk_point [iblk1, idx1 t]
  all_goals simp only [hi, kc] <;> omega
end Second

/-- What the backward kernel is entered with, and that the arguments are finite. -/
structure Entered : Prop where
  hx : ∀ b r d, vx V c (ix2 (brow b r) d) = x4 (ix3 b r d)
  hd : ∀ k d, vd V c (ix2 k d) = x3 (ix2 k d)
  hw : ∀ j k, vw V c (ix2 j k) = x2 (ix2 j k)
  h1 : v1 V c = flat (fun b k => U x0 x1 b (lo k))
  h2 : v2 V c = flat (fun b k => U x0 x1 b (hi k))
  h3 : v3 V c = flat (A x0 x1 x2)
  h4 : v4 V c = flat (B x0 x1 x2)
  r0 : ∀ i, IsR (x0 i)
  r1 : ∀ i, IsR (x1 i)
  r2 : ∀ i, IsR (x2 i)
  r3 : ∀ i, IsR (x3 i)
  r4 : ∀ i, IsR (x4 i)

variable {V c x0 x1 x2 x3 x4}
variable (E : Entered V c x0 x1 x2 x3 x4)
include E

theorem real_U (b : Fin 4) (k : Fin 5632) (r : Fin 2048) : IsR (U x0 x1 b k r) := IsR.sum fun d => (E.r0 _).mul (E.r1 _)
theorem real_A (b : Fin 4) (k : Fin 2816) (r : Fin 2048) : IsR (A x0 x1 x2 b k r) := IsR.cv (fun _ => E.r2 _) (fun _ => real_U E _ _ _) r
theorem real_B (b : Fin 4) (k : Fin 2816) (r : Fin 2048) : IsR (B x0 x1 x2 b k r) := IsR.cv (fun _ => E.r2 _) (fun _ => real_U E _ _ _) r
theorem real_G (b : Fin 4) (k : Fin 2816) (r : Fin 2048) : IsR (G x3 x4 b k r) := IsR.sum fun d => (E.r4 _).mul (E.r3 _)

section Point
variable (t : Fin cfg1.N)

theorem g_apply (r : Fin 2048) (l : Fin 256) : k1_pay13 (F := Ideal) (iblk1 V c 0 t) (iblk1 V c 1 t) (ix2 r l) = G x3 x4 (tb t.val (lt1 t)) (kc t.val l) r :=
  (pay13_apply _ _ r l).trans (Finset.sum_congr rfl fun d _ => congrArg₂ (fun a b : EReal => a * b) ((blk10 V c t r d).trans (E.hx _ _ _)) ((blk11 V c t l d).trans (E.hd _ _)))
theorem sa_apply (r : Fin 2048) (l : Fin 256) : (iblk1 V c 4 t : FVec Ideal S2048x256 .bf16) (ix2 r l) = A x0 x1 x2 (tb t.val (lt1 t)) (kc t.val l) r := by
  rw [blk14, E.h3, flat_at]
theorem sb_apply (r : Fin 2048) (l : Fin 256) : (iblk1 V c 5 t : FVec Ideal S2048x256 .bf16) (ix2 r l) = B x0 x1 x2 (tb t.val (lt1 t)) (kc t.val l) r := by
  rw [blk15, E.h4, flat_at]

/-- The two branches' gradients, with the rows of zeros below. -/
abbrev pA (V : (c : Dev nD) → (b : Ref sig .tc) → Buf (Elt Ideal) ((c : Thread nD τ).loc b)) (c : Dev nD) (t : Fin cfg1.N) : P :=
  DA (F := Ideal) (iblk1 V c 4 t) (iblk1 V c 5 t) (k1_pay13 (iblk1 V c 0 t) (iblk1 V c 1 t))
abbrev pB (V : (c : Dev nD) → (b : Ref sig .tc) → Buf (Elt Ideal) ((c : Thread nD τ).loc b)) (c : Dev nD) (t : Fin cfg1.N) : P :=
  DB (F := Ideal) (iblk1 V c 4 t) (k1_pay13 (iblk1 V c 0 t) (iblk1 V c 1 t))

theorem col_A (l : Fin 256) : col (pA V c t) l = dA x0 x1 x2 x3 x4 (tb t.val (lt1 t)) (kc t.val l) := funext fun r => by
  refine (DA_col _ _ _ l r).trans ?_
  rw [g_apply E, sa_apply E, sb_apply E]
  exact silu_grad ((real_G E _ _ _).mul (real_B E _ _ _)) (real_A E _ _ _)
theorem col_B (l : Fin 256) : col (pB V c t) l = dB x0 x1 x2 x3 x4 (tb t.val (lt1 t)) (kc t.val l) := funext fun r => by
  refine (DB_col _ _ l r).trans ?_
  rw [g_apply E, sa_apply E]
  exact mul_comm _ _
end Point

theorem final1_8 : (dat1 V c).arrAt 8 cfg1.N = flat (fun b k => cvT (wc x2 (lo k)) (dA x0 x1 x2 x3 x4 b k)) := by
  refine (dat1 V c).arrAt_eq_of_covers 8 _ (by decide +kernel) fun t _ y => ?_
  blk_simp
  obtain ⟨r, l, rfl⟩ : ∃ (r : Fin 2048) (l : Fin 256), y = ix2 r l := ⟨y 0, y 1, eq_ix2 y⟩
  have he : ((View.whole main_v7_0).slice (win1_8.rect t)).emb (ix2 r l) = (ix2 (brow (tb t.val (lt1 t)) r) (kc t.val l) : S8192x2816.Idx) := by
    blk_ext [idx1 t]
    all_goals simp only [tb, brow, kc] <;> omega
  rw [he, flat_at, after1_8]
  refine (DUA_apply _ (DA_padded _ _ _) r l).trans ?_
  exact congrFun (congrArg₂ cvT (funext fun j => (blk16 V c t j l).trans (E.hw _ _)) (col_A E t l)) r
theorem final1_9 : (dat1 V c).arrAt 9 cfg1.N = flat (fun b k => cvT (wc x2 (hi k)) (dB x0 x1 x2 x3 x4 b k)) := by
  refine (dat1 V c).arrAt_eq_of_covers 9 _ (by decide +kernel) fun t _ y => ?_
  blk_simp
  obtain ⟨r, l, rfl⟩ : ∃ (r : Fin 2048) (l : Fin 256), y = ix2 r l := ⟨y 0, y 1, eq_ix2 y⟩
  have he : ((View.whole main_v7_1).slice (win1_9.rect t)).emb (ix2 r l) = (ix2 (brow (tb t.val (lt1 t)) r) (kc t.val l) : S8192x2816.Idx) := by
    blk_ext [idx1 t]
    all_goals simp only [tb, brow, kc] <;> omega
  rw [he, flat_at, after1_9]
  refine (DUB_apply _ (DB_padded _ _) r l).trans ?_
  exact congrFun (congrArg₂ cvT (funext fun j => (blk17 V c t j l).trans (E.hw _ _)) (col_B E t l)) r

/-! ### The taps' gradient -/

/-- A point's six sums. -/
theorem sums_point (t : Fin cfg1.N) (g : Fin 2) (j : Fin 3) (l : Fin 256) (k : Fin 5632) (hk : k = (![lo (kc t.val l), hi (kc t.val l)] : Fin 2 → Fin 5632) g) :
    pick (ptSums V c t) g j (ix2 0 l) = ∑ s, tap j (U x0 x1 (tb t.val (lt1 t)) k) s * dC x0 x1 x2 x3 x4 (tb t.val (lt1 t)) k s := by
  subst hk
  unfold ptSums
  refine (sums_apply (DA_padded _ _ _) (DB_padded _ _) _ _ g j l).trans ((lift_sum j _ _).trans ?_)
  fin_cases g
  · have e : (fun r => (iblk1 V c 2 t : FVec Ideal S2048x256 .bf16) (ix2 r l)) = U x0 x1 (tb t.val (lt1 t)) (lo (kc t.val l)) := funext fun r => by
      rw [blk12, E.h1, flat_at]
    refine Finset.sum_congr rfl fun s _ => congrArg₂ (fun a b : EReal => a * b) (congrFun (congrArg (tap j) e) s) ?_
    exact congrFun ((col_A E t l).trans (dC_lo x0 x1 x2 x3 x4 _ _).symm) s
  · have e : (fun r => (iblk1 V c 3 t : FVec Ideal S2048x256 .bf16) (ix2 r l)) = U x0 x1 (tb t.val (lt1 t)) (hi (kc t.val l)) := funext fun r => by
      rw [blk13, E.h2, flat_at]
    refine Finset.sum_congr rfl fun s _ => congrArg₂ (fun a b : EReal => a * b) (congrFun (congrArg (tap j) e) s) ?_
    exact congrFun ((col_B E t l).trans (dC_hi x0 x1 x2 x3 x4 _ _).symm) s

/-- What a point adds at an entry. -/
def term (t : Fin cfg1.N) (j : Fin 3) (k : Fin 5632) : EReal :=
  if k.val % 2816 / 256 = t.val % 11 then ∑ s, tap j (U x0 x1 (tb t.val (lt1 t)) k) s * dC x0 x1 x2 x3 x4 (tb t.val (lt1 t)) k s else 0

theorem plus_point (t : Fin cfg1.N) (j : Fin 3) (k : Fin 5632) : plus (grid1.coords t 1).val (ptSums V c t) j k = term (x0 := x0) (x1 := x1) (x2 := x2) (x3 := x3) (x4 := x4) t j k := by
  unfold plus term
  rw [coord1]
  by_cases h : k.val % 2816 / 256 = t.val % 11
  · rw [if_pos h, if_pos h]
    refine sums_point E t _ j _ k (Fin.ext ?_)
    have hk := k.isLt
    by_cases h2 : k.val < 2816
    · have e : (⟨k.val / 2816, by omega⟩ : Fin 2) = 0 := Fin.ext (by show k.val / 2816 = 0; omega)
      rw [e]
      show k.val = 256 * (t.val % 11) + k.val % 2816 % 256
      omega
    · have e : (⟨k.val / 2816, by omega⟩ : Fin 2) = 1 := Fin.ext (by show k.val / 2816 = 1; omega)
      rw [e]
      show k.val = 2816 + (256 * (t.val % 11) + k.val % 2816 % 256)
      omega
  · rw [if_neg h, if_neg h]

def t43 : Fin cfg1.N := ⟨43, by rw [N1]; decide⟩
theorem final1_10 : (dat1 V c).arrAt 10 cfg1.N = (fun i => gw x0 x1 x2 x3 x4 (i 0) (i 1) : FVec Ideal S3x5632 .f32) := by
  refine (dat1 V c).arrAt_eq_of_after_last 10 t43 (by decide +kernel) _ fun i => ?_
  blk_simp
  obtain ⟨j, k, rfl⟩ : ∃ (j : Fin 3) (k : Fin 5632), i = ix2 j k := ⟨i 0, i 1, eq_ix2 i⟩
  rw [after1_10, Pipeline.eq_sum_fin_of_reset_step_apply_last (fun n h => dwAt V c n h) 44 (fun _ => (0 : EReal))
    (fun t i => (term (x0 := x0) (x1 := x1) (x2 := x2) (x3 := x3) (x4 := x4) t (i 0) (i 1) : EReal))
    (fun t h i => by
      have h' := lt1 t
      obtain ⟨j, k, rfl⟩ : ∃ (j : Fin 3) (k : Fin 5632), i = ix2 j k := ⟨i 0, i 1, eq_ix2 i⟩
      show dwAt V c t.val t.isLt (ix2 j k) = _
      rw [dwAt_first V c t (by omega), addAll_apply, plus_point E]
      have e : k1_pay26 (F := Ideal) (ix2 j k) = (0 : EReal) := by pointwise [k1_pay26]
      rw [e]
      rfl)
    (fun t h i => by
      obtain ⟨j, k, rfl⟩ : ∃ (j : Fin 3) (k : Fin 5632), i = ix2 j k := ⟨i 0, i 1, eq_ix2 i⟩
      show dwAt V c t.val t.isLt (ix2 j k) = _
      rw [dwAt_next V c t (by intro h0; exact h (by rw [h0])), addAll_apply, plus_point E]
      rfl)
    (le_of_eq N1) t43 N1.symm (ix2 j k), zero_add]
  have hk := k.isLt
  refine Eq.trans (Fin.sum_mul_add_congr (M := EReal) (S := 4) (n := 11)
    (F := fun b f => if (⟨k.val % 2816 / 256, by omega⟩ : Fin 11) = f then (∑ s, tap j (U x0 x1 b k) s * dC x0 x1 x2 x3 x4 b k s : EReal) else 0)
    (fun b f hl => ?_) N1).symm ?_
  · have hf := f.isLt
    have e1 : (b.val * 11 + f.val) % 11 = f.val := by omega
    have e2 : tb (b.val * 11 + f.val) (lt_of_lt_of_eq hl N1) = b := Fin.ext (by show (b.val * 11 + f.val) / 11 = b.val; omega)
    show _ = term (x0 := x0) (x1 := x1) (x2 := x2) (x3 := x3) (x4 := x4) ⟨b.val * 11 + f.val, hl⟩ j k
    unfold term
    simp only [e1, e2, Fin.ext_iff]
  · simp only [Finset.sum_ite_eq, Finset.mem_univ, if_true]
    rfl

end Regions

end Cert.FfnIdeal.Value

end
-- ==== Proof.FfnRun.lean ====
/- What the gated MLP's program leaves in its results. -/
module

public import proofs.«01_k».proof.Proof.FfnValue

@[expose] public section

set_option maxRecDepth 16384

noncomputable section

open Idealize.ShloMosaic Idealize.ShloMosaic.TcCoe Idealize.SL.Sem Cert.Reals

namespace Cert.FfnIdeal.Value

open Cert.FfnIdeal Cert.FfnIdeal.Gen Cert.FfnIdeal.Body Cert.FfnIdeal.Entry Cert.Shift Cert.Ffn
open Cert.AttnBwdIdeal.Host (brow row_div row_mod)

variable (m : (ℓ : Loc nD τ sig) → Buf (Elt Ideal) ℓ) (ρ : Dev nD → PrngReg) (c : Dev nD)

/-- The arguments. -/
abbrev ah : FVec Ideal S4x2048x1024 .f32 := m ((c.tc : Thread nD τ).loc main_arg0)
abbrev au : FVec Ideal S1024x5632 .f32 := m ((c.tc : Thread nD τ).loc main_arg1)
abbrev aw : FVec Ideal S3x5632 .f32 := m ((c.tc : Thread nD τ).loc main_arg2)
abbrev ad : FVec Ideal S2816x1024 .f32 := m ((c.tc : Thread nD τ).loc main_arg3)
abbrev ax : FVec Ideal S4x2048x1024 .f32 := m ((c.tc : Thread nD τ).loc main_arg4)

/-! ## What the regions are entered with -/

theorem rows_apply (x : FVec Ideal S4x2048x1024 .f32) (b : Fin 4) (r : Fin 2048) (d : Fin 1024) :
    shapeCast S8192x1024 x shapeCasts_S4x2048x1024_S8192x1024 (ix2 (brow b r) d) = x (ix3 b r d) := by
  pointwise []
  simp only [row_div, row_mod]

theorem V1_h (b : Fin 4) (r : Fin 2048) (d : Fin 1024) : vh (V1 m ρ) c (ix2 (brow b r) d) = ah m c (ix3 b r d) := by
  have e : vh (V1 m ρ) c = (truncf (F := Ideal) .bf16 (shapeCast S8192x1024 (ah m c) shapeCasts_S4x2048x1024_S8192x1024) bitsLt_bf16_f32 : FVec Ideal S8192x1024 .bf16) := by
    unfold vh V1 W1
    simp only [hostOps0]
    after_results_simp
    rfl
  rw [e]
  exact rows_apply _ b r d
theorem V1_u (d : Fin 1024) (k : Fin 5632) : vu (V1 m ρ) c (ix2 d k) = au m c (ix2 d k) := by
  have e : vu (V1 m ρ) c = (truncf (F := Ideal) .bf16 (au m c) bitsLt_bf16_f32 : FVec Ideal S1024x5632 .bf16) := by
    unfold vu V1 W1
    simp only [hostOps0]
    after_results_simp
  rw [e]
  rfl
theorem V1_w : vw (V1 m ρ) c = aw m c := W1_of m ρ c main_arg2 (by decide)

theorem V3_x (b : Fin 4) (r : Fin 2048) (d : Fin 1024) : vx (V3 m ρ) c (ix2 (brow b r) d) = ax m c (ix3 b r d) := by
  have e0 : W2 m ρ c (Proc.devRef .tc main_arg4) = ax m c := W2_args m ρ c main_arg4 (by decide)
  have e : vx (V3 m ρ) c = (truncf (F := Ideal) .bf16 (shapeCast S8192x1024 (ax m c) shapeCasts_S4x2048x1024_S8192x1024) bitsLt_bf16_f32 : FVec Ideal S8192x1024 .bf16) := by
    unfold vx V3 W3
    simp only [hostOps1]
    after_results_simp
    rw [e0]
    rfl
  rw [e]
  exact rows_apply _ b r d
theorem V3_d (k : Fin 2816) (d : Fin 1024) : vd (V3 m ρ) c (ix2 k d) = ad m c (ix2 k d) := by
  have e0 : W2 m ρ c (Proc.devRef .tc main_arg3) = ad m c := W2_args m ρ c main_arg3 (by decide)
  have e : vd (V3 m ρ) c = (truncf (F := Ideal) .bf16 (ad m c) bitsLt_bf16_f32 : FVec Ideal S2816x1024 .bf16) := by
    unfold vd V3 W3
    simp only [hostOps1]
    after_results_simp
    rw [e0]
  rw [e]
  rfl
theorem V3_w : vw (V3 m ρ) c = aw m c :=
  (W3_of m ρ c main_arg2 (by decide)).trans (W2_args m ρ c main_arg2 (by decide))

/-- The forward kernel's results reach the backward one. -/
theorem V3_arr (w : Fin cfg0.W) (h : Pipeline.arrRef spec0 w ∉ ([main_v4, main_v5, main_v6] : List (Ref sig .tc))) :
    V3 m ρ c (Pipeline.arrRef spec0 w) = (dat0 (V1 m ρ) c).arrAt w cfg0.N :=
  (W3_of m ρ c _ h).trans (W2_arr m ρ c w)

theorem entered (r0 : ∀ i, IsR (ah m c i)) (r1 : ∀ i, IsR (au m c i)) (r2 : ∀ i, IsR (aw m c i)) (r3 : ∀ i, IsR (ad m c i)) (r4 : ∀ i, IsR (ax m c i)) :
    Entered (V3 m ρ) c (ah m c) (au m c) (aw m c) (ad m c) (ax m c) where
  hx := V3_x m ρ c
  hd := V3_d m ρ c
  hw j k := congrFun (V3_w m ρ c) _
  h1 := (V3_arr m ρ c 6 (by decide)).trans (final0_6 (V1 m ρ) c _ _ (V1_h m ρ c) (V1_u m ρ c))
  h2 := (V3_arr m ρ c 7 (by decide)).trans (final0_7 (V1 m ρ) c _ _ (V1_h m ρ c) (V1_u m ρ c))
  h3 := (V3_arr m ρ c 8 (by decide)).trans (final0_8 (V1 m ρ) c _ _ _ (V1_h m ρ c) (V1_u m ρ c) fun _ _ => congrFun (V1_w m ρ c) _)
  h4 := (V3_arr m ρ c 9 (by decide)).trans (final0_9 (V1 m ρ) c _ _ _ (V1_h m ρ c) (V1_u m ρ c) fun _ _ => congrFun (V1_w m ρ c) _)
  r0 := r0
  r1 := r1
  r2 := r2
  r3 := r3
  r4 := r4

/-! ## The results -/

theorem row_eq (R : Fin 8192) : ∃ (b : Fin 4) (r : Fin 2048), R = brow b r :=
  ⟨⟨R.val / 2048, by omega⟩, ⟨R.val % 2048, Nat.mod_lt _ (by decide)⟩, Fin.ext (by simp only [brow]; omega)⟩

theorem res0 : W4 m ρ c (Proc.devRef .tc main_v3_0) = Cert.FfnRefIdeal.Read.val_main_v70 (F := Ideal) (ah m c) (au m c) (aw m c) := by
  refine (W4_of m ρ c main_v3_0 (by decide +kernel)).trans ((V3_arr m ρ c 5 (by decide)).trans
    ((final0_5 (V1 m ρ) c _ _ _ (V1_h m ρ c) (V1_u m ρ c) fun _ _ => congrFun (V1_w m ρ c) _).trans (funext fun i => ?_)))
  obtain ⟨R, k, rfl⟩ : ∃ (R : Fin 8192) (k : Fin 2816), i = ix2 R k := ⟨i 0, i 1, eq_ix2 i⟩
  obtain ⟨b, r, rfl⟩ := row_eq R
  rw [flat_at, v70_apply]

variable {m c} (E : Entered (V3 m ρ) c (ah m c) (au m c) (aw m c) (ad m c) (ax m c))
include E

theorem res1 : W4 m ρ c (Proc.devRef .tc main_v7_0) = Cert.FfnRefIdeal.Read.val_main_v72 (F := Ideal) (ah m c) (au m c) (aw m c) (ad m c) (ax m c) := by
  refine (W4_arr m ρ c 8).trans ((final1_8 E).trans (funext fun i => ?_))
  obtain ⟨R, k, rfl⟩ : ∃ (R : Fin 8192) (k : Fin 2816), i = ix2 R k := ⟨i 0, i 1, eq_ix2 i⟩
  obtain ⟨b, r, rfl⟩ := row_eq R
  rw [flat_at, v72_apply]
theorem res2 : W4 m ρ c (Proc.devRef .tc main_v7_1) = Cert.FfnRefIdeal.Read.val_main_v74 (F := Ideal) (ah m c) (au m c) (aw m c) (ad m c) (ax m c) := by
  refine (W4_arr m ρ c 9).trans ((final1_9 E).trans (funext fun i => ?_))
  obtain ⟨R, k, rfl⟩ : ∃ (R : Fin 8192) (k : Fin 2816), i = ix2 R k := ⟨i 0, i 1, eq_ix2 i⟩
  obtain ⟨b, r, rfl⟩ := row_eq R
  rw [flat_at, v74_apply]
theorem res3 : W4 m ρ c (Proc.devRef .tc main_v7_2) = Cert.FfnRefIdeal.Read.val_main_v62 (F := Ideal) (ah m c) (au m c) (aw m c) (ad m c) (ax m c) := by
  refine (W4_arr m ρ c 10).trans ((final1_10 E).trans (funext fun i => ?_))
  obtain ⟨j, k, rfl⟩ : ∃ (j : Fin 3) (k : Fin 5632), i = ix2 j k := ⟨i 0, i 1, eq_ix2 i⟩
  exact (v62_apply _ _ _ _ _ j k).symm

end Cert.FfnIdeal.Value

end
-- ==== Proof.FfnClaims.lean ====
/- The claims about the gated MLP's forward and backward kernels. -/
module

public import proofs.«01_k».proof.Proof.FfnRun
public import proofs.«01_k».proof.Proof.Gen.Ffn
public import proofs.«01_k».proof.Proof.Gen.FfnRefIdeal.Run
public import proofs.«01_k».proof.Proof.Gen.FfnRefIdeal.Read
public import proofs.«01_k».proof.Defs
public import Idealize.ShloMosaic.Lib.Claim

@[expose] public section

set_option maxRecDepth 16384

noncomputable section

open Idealize.ShloMosaic Idealize.ShloMosaic.TcCoe Idealize.SL.Sem Cert.Reals

namespace Cert.Proof.Ffn

theorem pre_facts : Cert.Pre_ffn_finite.Facts := by constructor <;> decide

attribute [local instance] pre_facts

/-- The kernel and its idealization are one text: the run of the one is the run of the other. -/
theorem frame : Cert.quiescent_Ffn := by
  have h := fun m ρ (_ : True) => Cert.FfnIdeal.Body.frame (F := Bits) m ρ
  exact cast (by sl_kernel_rfl) h
theorem frame_ideal : Cert.quiescent_FfnIdeal := fun m ρ _ => Cert.FfnIdeal.Body.frame m ρ
theorem frame_ideal_pre : Cert.quiescent_FfnIdeal_pre_ffn_finite := fun m ρ _ => Cert.FfnIdeal.Body.frame m ρ
theorem frame_ref : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)
theorem frame_ref_pre : Cert.quiescent_FfnRefIdeal_pre_ffn_finite := fun m ρ _ => frame_ref m ρ trivial

theorem preserves : Cert.preserves_Ffn_FfnIdeal := trivial

open Cert.FfnIdeal.Value (ah au aw ad ax entered res0 res1 res2 res3)

theorem algebraic : Cert.algebraic_FfnIdeal_FfnRefIdeal_pre_ffn_finite := by
  intro m g m' g' hpre hagree
  refine ⟨fun c => Cert.FfnRefIdeal.Read.val_main_v70 (F := Ideal) (ah m c) (au m c) (aw m c),
    fun c => Cert.FfnRefIdeal.Read.val_main_v72 (F := Ideal) (ah m c) (au m c) (aw m c) (ad m c) (ax m c),
    fun c => Cert.FfnRefIdeal.Read.val_main_v74 (F := Ideal) (ah m c) (au m c) (aw m c) (ad m c) (ax m c),
    fun c => Cert.FfnRefIdeal.Read.val_main_v62 (F := Ideal) (ah m c) (au m c) (aw m c) (ad m c) (ax m c), ?_, ?_⟩
  · refine (θ_run _ _ _).mono (fun s h c => ?_) (Cert.FfnIdeal.Body.run_all m g)
    have E := entered m g c (fun i => of_finite (congrFun (hpre c).1 i)) (fun i => of_finite (congrFun (hpre c).2.1 i))
      (fun i => of_finite (congrFun (hpre c).2.2.1 i)) (fun i => of_finite (congrFun (hpre c).2.2.2.1 i)) (fun i => of_finite (congrFun (hpre c).2.2.2.2 i))
    have hb := fun (b : Ref Cert.FfnIdeal.sig .tc) hu => h.1 c (Proc.devRef .tc b) (Cert.FfnIdeal.Body.mem_uc b hu)
    have ha := Cert.FfnIdeal.Body.W4_args m g c
    exact ⟨(hb _ (by decide)).trans (res0 m g c), (hb _ (by decide)).trans (res1 g E), (hb _ (by decide)).trans (res2 g E),
      (hb _ (by decide)).trans (res3 g E),
      (hb _ (by decide)).trans (ha _ (by decide)), (hb _ (by decide)).trans (ha _ (by decide)), (hb _ (by decide)).trans (ha _ (by decide)),
      (hb _ (by decide)).trans (ha _ (by decide)), (hb _ (by decide)).trans (ha _ (by decide))⟩
  · refine (θ_run _ _ _).mono (fun s h c => ?_) (Cert.FfnRefIdeal.Value.run (F := Ideal) m' g')
    obtain ⟨e0, e1, e2, e3, e4⟩ := hagree c
    refine ⟨(h c).1.trans ?_, (h c).2.1.trans ?_, (h c).2.2.1.trans ?_, (h c).2.2.2.1.trans ?_, (h c).2.2.2.2⟩
    · rw [Cert.FfnRefIdeal.Read.val_main_v70_eq, e0, e1, e2]
    · rw [Cert.FfnRefIdeal.Read.val_main_v72_eq, e0, e1, e2, e3, e4]
    · rw [Cert.FfnRefIdeal.Read.val_main_v74_eq, e0, e1, e2, e3, e4]
    · rw [Cert.FfnRefIdeal.Read.val_main_v62_eq, e0, e1, e2, e3, e4]

end Cert.Proof.Ffn

end
-- ==== Proof.AttnFwdPay.lean ====
/- One block of the attention's forward kernel, on real numbers: a running maximum and sums of exponentials shifted by it.
   A sum is known by its value without the shift, which the steps only add to. -/
module

public import proofs.«01_k».proof.Proof.AttnBwdBlocks
public import proofs.«01_k».proof.Proof.Gen.AttnFwdIdeal.Skeleton

@[expose] public section

set_option maxRecDepth 16384

noncomputable section

open Idealize.ShloMosaic Idealize.ShloMosaic.TcCoe Cert.Reals Cert.Attn

namespace Cert.Attn.Online

/-- A running maximum and a running sum that has seen a column: the sum is the unshifted `T`, shifted by the maximum. -/
def Seen (m a : EReal) (T : ℝ) : Prop := ∃ M : ℝ, m = (M : EReal) ∧ a = ((Real.exp (-M) * T : ℝ) : EReal)

/-- The same, or nothing seen yet. -/
def Run (m a : EReal) (T : ℝ) : Prop := (m = ⊥ ∧ a = 0 ∧ T = 0) ∨ Seen m a T

theorem Run.ne_top {m a : EReal} {T : ℝ} (h : Run m a T) : m ≠ ⊤ := by
  rcases h with ⟨h, -, -⟩ | ⟨M, h, -⟩
  · rw [h]; exact bot_ne_top
  · rw [h]; exact EReal.coe_ne_top _

section Step
variable {n : ℕ} (z : Fin n → ℝ) (ok : Fin n → Prop) [DecidablePred ok] (s : Fin n → EReal)
  (hs : ∀ c, s c = if ok c then (z c : EReal) else ⊥) (c₀ : Fin n) (h₀ : ok c₀)

/-- The maximum after the block. -/
abbrev next (m : EReal) : EReal := max m (Finset.fold max ⊥ s Finset.univ)

include hs h₀ in
theorem next_real {m : EReal} (hm : m ≠ ⊤) : ∃ M : ℝ, next s m = (M : EReal) := by
  obtain ⟨M, e⟩ := fold_real s (fun c => by rw [hs]; split <;> simp) c₀ (by rw [hs, if_pos h₀]; simp)
  unfold next
  rw [e]
  induction m with
  | bot => exact ⟨M, max_eq_right bot_le⟩
  | coe x => exact ⟨max x M, (EReal.coe_strictMono.monotone.map_max).symm⟩
  | top => exact absurd rfl hm

include hs in
theorem expo_real (M : ℝ) (c : Fin n) : Ideal.exp (s c - (M : EReal)) = ((if ok c then Real.exp (z c - M) else 0 : ℝ) : EReal) := by
  rw [hs]; split
  · rw [← EReal.coe_sub, Ideal.exp_coe]
  · simp

include hs h₀ in
/-- One block: the old sum is shifted to the new maximum, and the block's columns are added. -/
theorem step {m a : EReal} {T : ℝ} (h : Run m a T) (v : Fin n → ℝ) :
    Seen (next s m) (a * Ideal.exp (m - next s m) + ∑ c, Ideal.exp (s c - next s m) * (v c : EReal))
      (T + ∑ c, (if ok c then Real.exp (z c) else 0) * v c) := by
  obtain ⟨M', e⟩ := next_real z ok s hs c₀ h₀ h.ne_top
  refine ⟨M', e, ?_⟩
  rw [e]
  simp only [expo_real z ok s hs, ← EReal.coe_mul, coe_sum]
  have hb : ∑ c, (if ok c then Real.exp (z c - M') else 0) * v c = Real.exp (-M') * ∑ c, (if ok c then Real.exp (z c) else 0) * v c := by
    rw [Finset.mul_sum]
    refine Finset.sum_congr rfl fun c _ => ?_
    split
    · rw [sub_eq_add_neg, Real.exp_add]; ring
    · simp
  rw [hb, mul_add, EReal.coe_add]
  congr 1
  rcases h with ⟨hm, ha, hT⟩ | ⟨M, hm, ha⟩
  · rw [ha, hT]; simp
  · rw [ha, hm, ← EReal.coe_sub, Ideal.exp_coe, ← EReal.coe_mul]
    congr 1
    rw [show M - M' = -M' - -M by ring, Real.exp_sub]
    have := Real.exp_ne_zero (-M)
    field_simp

include hs h₀ in
/-- The same for the plain sum of the exponentials. -/
theorem step_one {m l : EReal} {T : ℝ} (h : Run m l T) :
    Seen (next s m) (Ideal.exp (m - next s m) * l + ∑ c, Ideal.exp (s c - next s m)) (T + ∑ c, if ok c then Real.exp (z c) else 0) := by
  have := step z ok s hs c₀ h₀ h (fun _ => 1)
  simp only [mul_one, EReal.coe_one] at this
  rwa [mul_comm] at this

end Step

/-- A quotient of two sums with one maximum loses the shift; -/
theorem Seen.div {m a l : EReal} {A L : ℝ} (ha : Seen m a A) (hl : Seen m l L) (hL : 0 < L) : Ideal.div a l = ((A / L : ℝ) : EReal) := by
  obtain ⟨M, hm, rfl⟩ := ha
  obtain ⟨M', hm', rfl⟩ := hl
  obtain rfl : M = M' := EReal.coe_injective (hm.symm.trans hm')
  have := Real.exp_pos (-M)
  rw [div_real (by positivity), mul_div_mul_left _ _ this.ne']

/-- so does the maximum plus the sum's logarithm. -/
theorem Seen.log {m l : EReal} {L : ℝ} (hl : Seen m l L) (hL : 0 < L) : m + Ideal.log l = ((Real.log L : ℝ) : EReal) := by
  obtain ⟨M, rfl, rfl⟩ := hl
  have := Real.exp_pos (-M)
  rw [Ideal.log_coe, if_neg (not_le.mpr (by positivity)), ← EReal.coe_add, Real.log_mul this.ne' hL.ne', Real.log_exp]
  congr 1; ring

end Cert.Attn.Online

namespace Cert.AttnFwdIdeal.Pay

open Cert.AttnFwdIdeal Cert.AttnFwdIdeal.Gen
open Cert.AttnBwdIdeal.Pay (hd pick coe_pick scale16 diag_mask)
open Cert.Attn.Online

theorem named_mask : Named.named (F := Ideal) Cert.AttnFwdIdeal.κ "mask" (φ := .f32) 0xF149F2CA#32 = ⊥ :=
  IdealRules.named_const.ideal_named_scalar _ _ _ _ rfl

theorem lane_mask (l : Fin 128) : k0_pay27 (ix2 (0 : Fin 1) l) = if l.val < 64 then 1#1 else 0#1 := by
  pointwise [k0_pay27]
  exact (by decide +kernel : ∀ l : Fin 128, IntOp.cmpi .slt (BitVec.ofNat 32 l.val) 64#32 = if l.val < 64 then 1#1 else 0#1) l

theorem sel27 (l : Fin 128) (a b : EReal) : Scalar.select (k0_pay27 (ix2 (0 : Fin 1) l)) a b = if hd l = 0 then a else b := by
  rw [lane_mask]; unfold hd; by_cases h : l.val < 64 <;> simp [h, Scalar.select]

/-- The numbers of a tile's rows and columns. -/
abbrev io0 : IVec S512x512 32 := iota .tc S512x512 32 [0] iota_S512x512_d0_w32
abbrev io1 : IVec S512x512 32 := iota .tc S512x512 32 [1] iota_S512x512_d1_w32

section Ops
variable (q0 q1 : FVec Ideal S512x128 .bf16) (m0 l0 m1 l1 : FVec Ideal S512x1 .f32) (a : FVec Ideal S512x128 .f32) (kb vb xq : FVec Ideal S512x128 .bf16)
  (f : FVec Ideal S1x1x1x512 .f32) (D : FVec Ideal S512x512 .f32) (r c : Fin 512) (l : Fin 128)

/-! A block below the diagonal. -/
theorem max0 : k0_pay8 (F := Ideal) q0 m0 kb f (ix2 r 0) = next (fun c => k0_pay7 (F := Ideal) q0 kb f (ix2 r c)) (m0 (ix2 r 0)) := by
  pointwise [k0_pay8]; rw [ofBits_ninf]
theorem max1 : k0_pay14 (F := Ideal) q1 m1 kb f (ix2 r 0) = next (fun c => k0_pay13 (F := Ideal) q1 kb f (ix2 r c)) (m1 (ix2 r 0)) := by
  pointwise [k0_pay14]; rw [ofBits_ninf]
theorem sum0 : k0_pay11 (F := Ideal) q0 m0 l0 kb f (ix2 r 0) = Ideal.exp (m0 (ix2 r 0) - k0_pay8 (F := Ideal) q0 m0 kb f (ix2 r 0)) * l0 (ix2 r 0)
    + ∑ c, Ideal.exp (k0_pay7 (F := Ideal) q0 kb f (ix2 r c) - k0_pay8 (F := Ideal) q0 m0 kb f (ix2 r 0)) := by
  pointwise [k0_pay11, k0_pay10, k0_pay9]
theorem sum1 : k0_pay36 (F := Ideal) m1 l1 (k0_pay13 q1 kb f) (k0_pay14 q1 m1 kb f) (k0_pay15 q1 m1 kb f) (ix2 r 0)
    = Ideal.exp (m1 (ix2 r 0) - k0_pay14 (F := Ideal) q1 m1 kb f (ix2 r 0)) * l1 (ix2 r 0)
    + ∑ c, Ideal.exp (k0_pay13 (F := Ideal) q1 kb f (ix2 r c) - k0_pay14 (F := Ideal) q1 m1 kb f (ix2 r 0)) := by
  pointwise [k0_pay36, k0_pay35, k0_pay34, k0_pay15]
theorem prod0 : k0_pay12 (F := Ideal) k0_pay27 q0 m0 kb vb f (ix2 r l)
    = ∑ c, Ideal.exp (k0_pay7 (F := Ideal) q0 kb f (ix2 r c) - k0_pay8 (F := Ideal) q0 m0 kb f (ix2 r 0)) * (if hd l = 0 then vb (ix2 c l) else 0) := by
  pointwise [k0_pay12, k0_pay9, k0_pay6]; simp only [sel27, mul_ite, mul_zero]
variable (f1 : FVec Ideal S1x1x1x512 .f32) (pv : FVec Ideal S512x128 .f32)
theorem acc_next : k0_pay37 (F := Ideal) m1 a (k0_pay6 vb) (k0_pay10 q0 m0 kb f) pv (k0_pay13 q1 kb f1) (k0_pay14 q1 m1 kb f1) (k0_pay15 q1 m1 kb f1) (ix2 r l)
    = a (ix2 r l) * (if hd l = 0 then Ideal.exp (m0 (ix2 r 0) - k0_pay8 (F := Ideal) q0 m0 kb f (ix2 r 0)) else Ideal.exp (m1 (ix2 r 0) - k0_pay14 (F := Ideal) q1 m1 kb f1 (ix2 r 0)))
      + (pv (ix2 r l) + ∑ c, Ideal.exp (k0_pay13 (F := Ideal) q1 kb f1 (ix2 r c) - k0_pay14 (F := Ideal) q1 m1 kb f1 (ix2 r 0)) * (if hd l = 0 then 0 else vb (ix2 c l))) := by
  pointwise [k0_pay37, k0_pay35, k0_pay34, k0_pay15, k0_pay10, k0_pay6]; simp only [sel27, mul_ite, mul_zero]

/-! The block on the diagonal. -/
theorem dmax0 : k0_pay46 (F := Ideal) io0 io1 m0 D f (ix2 r 0) = next (fun c => k0_pay45 (F := Ideal) io0 io1 D f (ix2 r c)) (m0 (ix2 r 0)) := by
  pointwise [k0_pay46]; rw [ofBits_ninf]
theorem dmax1 : k0_pay52 (F := Ideal) q1 io0 io1 m1 kb f (ix2 r 0) = next (fun c => k0_pay51 (F := Ideal) q1 io0 io1 kb f (ix2 r c)) (m1 (ix2 r 0)) := by
  pointwise [k0_pay52]; rw [ofBits_ninf]
theorem dsum0 : k0_pay49 (F := Ideal) io0 io1 m0 l0 D f (ix2 r 0) = Ideal.exp (m0 (ix2 r 0) - k0_pay46 (F := Ideal) io0 io1 m0 D f (ix2 r 0)) * l0 (ix2 r 0)
    + ∑ c, Ideal.exp (k0_pay45 (F := Ideal) io0 io1 D f (ix2 r c) - k0_pay46 (F := Ideal) io0 io1 m0 D f (ix2 r 0)) := by
  pointwise [k0_pay49, k0_pay48, k0_pay47]
theorem dsum1 : k0_pay1 (F := Ideal) (k0_pay55 q1 io0 io1 m1 l1 kb f) (k0_pay56 q1 io0 io1 m1 kb f) (ix2 r 0)
    = Ideal.exp (m1 (ix2 r 0) - k0_pay52 (F := Ideal) q1 io0 io1 m1 kb f (ix2 r 0)) * l1 (ix2 r 0)
    + ∑ c, Ideal.exp (k0_pay51 (F := Ideal) q1 io0 io1 kb f (ix2 r c) - k0_pay52 (F := Ideal) q1 io0 io1 m1 kb f (ix2 r 0)) := by
  pointwise [k0_pay1, k0_pay55, k0_pay56, k0_pay54, k0_pay53]
theorem dprod0 : k0_pay50 (F := Ideal) k0_pay27 io0 io1 m0 (k0_pay43 vb) D f (ix2 r l)
    = ∑ c, Ideal.exp (k0_pay45 (F := Ideal) io0 io1 D f (ix2 r c) - k0_pay46 (F := Ideal) io0 io1 m0 D f (ix2 r 0)) * (if hd l = 0 then vb (ix2 c l) else 0) := by
  pointwise [k0_pay50, k0_pay47, k0_pay43]; simp only [sel27, mul_ite, mul_zero]
/-- The block written: the accumulator after the diagonal over the sum of the lane's head. -/
theorem out_next (L0 : FVec Ideal S512x1 .f32) : k0_pay2 (F := Ideal) k0_pay27 a (k0_pay43 vb) (k0_pay48 io0 io1 m0 D f) L0 pv (k0_pay53 q1 io0 io1 m1 kb f1) (k0_pay54 q1 io0 io1 m1 kb f1)
      (k0_pay55 q1 io0 io1 m1 l1 kb f1) (k0_pay56 q1 io0 io1 m1 kb f1) (ix2 r l)
    = Ideal.div (a (ix2 r l) * (if hd l = 0 then Ideal.exp (m0 (ix2 r 0) - k0_pay46 (F := Ideal) io0 io1 m0 D f (ix2 r 0)) else Ideal.exp (m1 (ix2 r 0) - k0_pay52 (F := Ideal) q1 io0 io1 m1 kb f1 (ix2 r 0)))
      + (pv (ix2 r l) + ∑ c, Ideal.exp (k0_pay51 (F := Ideal) q1 io0 io1 kb f1 (ix2 r c) - k0_pay52 (F := Ideal) q1 io0 io1 m1 kb f1 (ix2 r 0)) * (if hd l = 0 then 0 else vb (ix2 c l))))
      (if hd l = 0 then L0 (ix2 r 0) else k0_pay1 (F := Ideal) (k0_pay55 q1 io0 io1 m1 l1 kb f1) (k0_pay56 q1 io0 io1 m1 kb f1) (ix2 r 0)) := by
  pointwise [k0_pay2, k0_pay54, k0_pay53, k0_pay48, k0_pay43]; simp only [sel27, mul_ite, mul_zero]
theorem lse0 : k0_pay3 (F := Ideal) m0 l0 (ix3 0 r 0) = m0 (ix2 r 0) + Ideal.log (l0 (ix2 r 0)) := by
  pointwise [k0_pay3]
theorem lse1 : k0_pay4 (F := Ideal) m0 l0 l1 (ix3 0 r 0) = m0 (ix2 r 0) + Ideal.log (k0_pay1 (F := Ideal) l0 l1 (ix2 r 0)) := by
  pointwise [k0_pay4]

end Ops

/-! The scores of a block. -/
section Scores
variable (q : Fin 512 → Fin 128 → ℝ) (k v : Fin 2048 → Fin 128 → ℝ) (f : Fin 2 → Fin 2048 → ℝ)

/-- The score of column `C` in the block's row `r` for head `h`. -/
def sc (h : Fin 2) (r : Fin 512) (C : Fin 2048) : ℝ := (∑ l, pick h l (q r l * (1 / 8)) * k C l) - f h C

variable (C : Fin 512 → Fin 2048) (xq xk : FVec Ideal S512x128 .bf16) (xf : FVec Ideal S1x1x1x512 .f32)
variable (hq : ∀ r l, xq (ix2 r l) = (q r l : EReal)) (hk : ∀ c l, xk (ix2 c l) = (k (C c) l : EReal))
variable (r c : Fin 512)

include hq in
theorem qry0 (l : Fin 128) : k0_pay29 (F := Ideal) xq (ix2 r l) = (pick 0 l (q r l * (1 / 8)) : EReal) := by
  pointwise [k0_pay29, k0_pay28]; rw [sel27, hq, scale16, ← EReal.coe_mul, coe_pick]
include hq in
theorem qry1 (l : Fin 128) : k0_pay30 (F := Ideal) xq (ix2 r l) = (pick 1 l (q r l * (1 / 8)) : EReal) := by
  pointwise [k0_pay30, k0_pay28]; rw [sel27, hq, scale16, ← EReal.coe_mul, ← coe_pick]
  rcases (by unfold hd; split <;> simp : hd l = 0 ∨ hd l = 1) with h | h <;> simp [h]
include hq hk in
theorem sc0 (hf : ∀ c, xf (ix4 0 0 0 c) = (f 0 (C c) : EReal)) : k0_pay7 (F := Ideal) (k0_pay29 xq) xk xf (ix2 r c) = (sc q k f 0 r (C c) : EReal) := by
  pointwise [k0_pay7, k0_pay5]
  simp only [qry0 q xq hq, hk, hf, ← EReal.coe_mul, coe_sum, ← EReal.coe_sub]; rfl
include hq hk in
theorem sc1 (hf : ∀ c, xf (ix4 0 0 0 c) = (f 1 (C c) : EReal)) : k0_pay13 (F := Ideal) (k0_pay30 xq) xk xf (ix2 r c) = (sc q k f 1 r (C c) : EReal) := by
  pointwise [k0_pay13, k0_pay5]
  simp only [qry1 q xq hq, hk, hf, ← EReal.coe_mul, coe_sum, ← EReal.coe_sub]; rfl
include hq hk in
theorem dsc0 (hf : ∀ c, xf (ix4 0 0 0 c) = (f 0 (C c) : EReal)) :
    k0_pay45 (F := Ideal) io0 io1 (k0_pay44 xq xk) xf (ix2 r c) = if c.val ≤ r.val then (sc q k f 0 r (C c) : EReal) else ⊥ := by
  pointwise [k0_pay45, k0_pay44, k0_pay42]
  simp only [diag_mask, named_mask, qry0 q xq hq, hk, hf, ← EReal.coe_mul, coe_sum, ← EReal.coe_sub]; rfl
include hq hk in
theorem dsc1 (hf : ∀ c, xf (ix4 0 0 0 c) = (f 1 (C c) : EReal)) :
    k0_pay51 (F := Ideal) (k0_pay30 xq) io0 io1 (k0_pay42 xk) xf (ix2 r c) = if c.val ≤ r.val then (sc q k f 1 r (C c) : EReal) else ⊥ := by
  pointwise [k0_pay51, k0_pay42]
  simp only [diag_mask, named_mask, qry1 q xq hq, hk, hf, ← EReal.coe_mul, coe_sum, ← EReal.coe_sub]; rfl

end Scores

end Cert.AttnFwdIdeal.Pay

end
-- ==== Proof.AttnFwdPoint.lean ====
/- What one grid point of the attention's forward kernel leaves: the steps below the diagonal keep the running sums of every
   row, the diagonal completes them, and the two blocks written are their quotients and logarithms. -/
module

public import proofs.«01_k».proof.Proof.AttnFwdPay
public import proofs.«01_k».proof.Proof.Gen.AttnFwdIdeal.Value

@[expose] public section

set_option maxRecDepth 16384

noncomputable section

open Idealize.ShloMosaic Idealize.ShloMosaic.TcCoe Cert.Reals Cert.Attn

namespace Cert.AttnFwdIdeal.Pay

open Cert.AttnFwdIdeal Cert.AttnFwdIdeal.Gen
open Cert.AttnBwdIdeal.Pay (hd row lo row_val row_lo sum_all)
open Cert.Attn.Online

theorem hd_cases (l : Fin 128) : hd l = 0 ∨ hd l = 1 := by unfold hd; split <;> simp

section Block
variable (q : Fin 512 → Fin 128 → ℝ) (k v : Fin 2048 → Fin 128 → ℝ) (f : Fin 2 → Fin 2048 → ℝ)
variable (C : Fin 512 → Fin 2048) (xq xk xv : FVec Ideal S512x128 .bf16) (x0 x1 : FVec Ideal S1x1x1x512 .f32)
variable (hq : ∀ r l, xq (ix2 r l) = (q r l : EReal)) (hk : ∀ c l, xk (ix2 c l) = (k (C c) l : EReal)) (hv : ∀ c l, xv (ix2 c l) = (v (C c) l : EReal))
  (h0 : ∀ c, x0 (ix4 0 0 0 c) = (f 0 (C c) : EReal)) (h1 : ∀ c, x1 (ix4 0 0 0 c) = (f 1 (C c) : EReal))
variable (m0 l0 m1 l1 : FVec Ideal S512x1 .f32) (a : FVec Ideal S512x128 .f32) (r : Fin 512) (l : Fin 128) (T : ℝ)

/-! Below the diagonal. -/
include hq hk h0 in
theorem below0 (h : Run (m0 (ix2 r 0)) (l0 (ix2 r 0)) T) :
    Seen (k0_pay8 (F := Ideal) (k0_pay29 xq) m0 xk x0 (ix2 r 0)) (k0_pay11 (F := Ideal) (k0_pay29 xq) m0 l0 xk x0 (ix2 r 0))
      (T + ∑ c, Real.exp (sc q k f 0 r (C c))) := by
  rw [sum0, max0]
  have := step_one (fun c => sc q k f 0 r (C c)) (fun _ => True) (fun c => k0_pay7 (F := Ideal) (k0_pay29 xq) xk x0 (ix2 r c))
    (fun c => by rw [if_pos trivial]; exact sc0 q k f C xq xk x0 hq hk r c h0) 0 trivial h
  simpa only [if_true] using this
include hq hk h1 in
theorem below1 (h : Run (m1 (ix2 r 0)) (l1 (ix2 r 0)) T) :
    Seen (k0_pay14 (F := Ideal) (k0_pay30 xq) m1 xk x1 (ix2 r 0))
      (k0_pay36 (F := Ideal) m1 l1 (k0_pay13 (k0_pay30 xq) xk x1) (k0_pay14 (k0_pay30 xq) m1 xk x1) (k0_pay15 (k0_pay30 xq) m1 xk x1) (ix2 r 0))
      (T + ∑ c, Real.exp (sc q k f 1 r (C c))) := by
  rw [sum1, max1]
  have := step_one (fun c => sc q k f 1 r (C c)) (fun _ => True) (fun c => k0_pay13 (F := Ideal) (k0_pay30 xq) xk x1 (ix2 r c))
    (fun c => by rw [if_pos trivial]; exact sc1 q k f C xq xk x1 hq hk r c h1) 0 trivial h
  simpa only [if_true] using this
include hq hk hv h0 h1 in
theorem belowA (h : Run (if hd l = 0 then m0 (ix2 r 0) else m1 (ix2 r 0)) (a (ix2 r l)) T) :
    Seen (if hd l = 0 then k0_pay8 (F := Ideal) (k0_pay29 xq) m0 xk x0 (ix2 r 0) else k0_pay14 (F := Ideal) (k0_pay30 xq) m1 xk x1 (ix2 r 0))
      (k0_pay37 (F := Ideal) m1 a (k0_pay6 xv) (k0_pay10 (k0_pay29 xq) m0 xk x0) (k0_pay12 k0_pay27 (k0_pay29 xq) m0 xk xv x0)
        (k0_pay13 (k0_pay30 xq) xk x1) (k0_pay14 (k0_pay30 xq) m1 xk x1) (k0_pay15 (k0_pay30 xq) m1 xk x1) (ix2 r l))
      (T + ∑ c, Real.exp (sc q k f (hd l) r (C c)) * v (C c) l) := by
  rw [acc_next, prod0]
  rcases hd_cases l with e | e
  · simp only [e, if_true, mul_zero, Finset.sum_const_zero, add_zero] at h ⊢
    have := step (fun c => sc q k f 0 r (C c)) (fun _ => True) (fun c => k0_pay7 (F := Ideal) (k0_pay29 xq) xk x0 (ix2 r c))
      (fun c => by rw [if_pos trivial]; exact sc0 q k f C xq xk x0 hq hk r c h0) 0 trivial h (fun c => v (C c) l)
    rw [max0]
    simpa only [if_true, hv] using this
  · simp only [e, one_ne_zero, if_false, mul_zero, Finset.sum_const_zero, zero_add] at h ⊢
    have := step (fun c => sc q k f 1 r (C c)) (fun _ => True) (fun c => k0_pay13 (F := Ideal) (k0_pay30 xq) xk x1 (ix2 r c))
      (fun c => by rw [if_pos trivial]; exact sc1 q k f C xq xk x1 hq hk r c h1) 0 trivial h (fun c => v (C c) l)
    rw [max1]
    simpa only [if_true, hv] using this

/-! On the diagonal. -/
include hq hk h0 in
theorem diag0 (h : Run (m0 (ix2 r 0)) (l0 (ix2 r 0)) T) :
    Seen (k0_pay46 (F := Ideal) io0 io1 m0 (k0_pay44 xq xk) x0 (ix2 r 0)) (k0_pay49 (F := Ideal) io0 io1 m0 l0 (k0_pay44 xq xk) x0 (ix2 r 0))
      (T + ∑ c : Fin 512, if c.val ≤ r.val then Real.exp (sc q k f 0 r (C c)) else 0) := by
  rw [dsum0, dmax0]
  exact step_one (fun c => sc q k f 0 r (C c)) (fun c => c.val ≤ r.val) _ (fun c => dsc0 q k f C xq xk x0 hq hk r c h0) r le_rfl h
include hq hk h1 in
theorem diag1 (h : Run (m1 (ix2 r 0)) (l1 (ix2 r 0)) T) :
    Seen (k0_pay52 (F := Ideal) (k0_pay30 xq) io0 io1 m1 (k0_pay42 xk) x1 (ix2 r 0))
      (k0_pay1 (F := Ideal) (k0_pay55 (k0_pay30 xq) io0 io1 m1 l1 (k0_pay42 xk) x1) (k0_pay56 (k0_pay30 xq) io0 io1 m1 (k0_pay42 xk) x1) (ix2 r 0))
      (T + ∑ c : Fin 512, if c.val ≤ r.val then Real.exp (sc q k f 1 r (C c)) else 0) := by
  rw [dsum1, dmax1]
  exact step_one (fun c => sc q k f 1 r (C c)) (fun c => c.val ≤ r.val) _ (fun c => dsc1 q k f C xq xk x1 hq hk r c h1) r le_rfl h

variable (L : Fin 2 → ℝ) (A : ℝ)

include hq hk hv h0 h1 in
/-- A number of the result: the completed product over the completed sum. -/
theorem diagA (hl0 : Run (m0 (ix2 r 0)) (l0 (ix2 r 0)) (L 0)) (hl1 : Run (m1 (ix2 r 0)) (l1 (ix2 r 0)) (L 1))
    (h : Run (if hd l = 0 then m0 (ix2 r 0) else m1 (ix2 r 0)) (a (ix2 r l)) A)
    (hL : 0 < L (hd l) + ∑ c : Fin 512, if c.val ≤ r.val then Real.exp (sc q k f (hd l) r (C c)) else 0) :
    k0_pay2 (F := Ideal) k0_pay27 a (k0_pay43 xv) (k0_pay48 io0 io1 m0 (k0_pay44 xq xk) x0) (k0_pay49 io0 io1 m0 l0 (k0_pay44 xq xk) x0)
      (k0_pay50 k0_pay27 io0 io1 m0 (k0_pay43 xv) (k0_pay44 xq xk) x0) (k0_pay53 (k0_pay30 xq) io0 io1 m1 (k0_pay42 xk) x1)
      (k0_pay54 (k0_pay30 xq) io0 io1 m1 (k0_pay42 xk) x1) (k0_pay55 (k0_pay30 xq) io0 io1 m1 l1 (k0_pay42 xk) x1)
      (k0_pay56 (k0_pay30 xq) io0 io1 m1 (k0_pay42 xk) x1) (ix2 r l)
    = (((A + ∑ c : Fin 512, (if c.val ≤ r.val then Real.exp (sc q k f (hd l) r (C c)) else 0) * v (C c) l)
        / (L (hd l) + ∑ c : Fin 512, if c.val ≤ r.val then Real.exp (sc q k f (hd l) r (C c)) else 0) : ℝ) : EReal) := by
  rw [out_next, dprod0]
  rcases hd_cases l with e | e
  · simp only [e, if_true, mul_zero, Finset.sum_const_zero, add_zero] at h hL ⊢
    have hs := step (fun c => sc q k f 0 r (C c)) (fun c => c.val ≤ r.val) _ (fun c => dsc0 q k f C xq xk x0 hq hk r c h0) r le_rfl h (fun c => v (C c) l)
    have hd := diag0 q k f C xq xk x0 hq hk h0 m0 l0 r (L 0) hl0
    rw [dmax0] at hd ⊢
    simp only [hv]
    exact hs.div hd hL
  · simp only [e, one_ne_zero, if_false, mul_zero, Finset.sum_const_zero, zero_add] at h hL ⊢
    have hs := step (fun c => sc q k f 1 r (C c)) (fun c => c.val ≤ r.val) _ (fun c => dsc1 q k f C xq xk x1 hq hk r c h1) r le_rfl h (fun c => v (C c) l)
    have hd := diag1 q k f C xq xk x1 hq hk h1 m1 l1 r (L 1) hl1
    rw [dmax1] at hd ⊢
    simp only [hv]
    exact hs.div hd hL

end Block

/-! Loads of a tile, by its number. -/
section Access
variable {Val : EltTy → Type} {e : EltTy}

theorem ld_rows (v : View sig .tc .vmem S2048x128 e) (X : v.ty.Contents Val) {off : Fin 2 → ℕ} (inb : ∀ a, off a + S512x128.size a ≤ S2048x128.size a)
    {n : ℕ} (hn : n < 4) (h : off = ![512 * n, 0]) (r : Fin 512) (l : Fin 128) :
    v.readAt Val (Rect.unit (s := S2048x128) off S512x128.size inb).toLoadRect X (ix2 r l) = v.read Val X (ix2 (row n r) l) := by
  subst h
  refine congrArg (v.read Val X) (funext fun a => Fin.ext ?_)
  match a with
  | ⟨0, _⟩ => show 512 * n + 1 * r.val = (row n r).val; rw [row_val hn]; omega
  | ⟨1, _⟩ => show 0 + 1 * l.val = l.val; omega
theorem ld_f (v : View sig .tc .vmem S1x1x2x2048 e) (X : v.ty.Contents Val) {off : Fin 4 → ℕ} (inb : ∀ a, off a + S1x1x1x512.size a ≤ S1x1x2x2048.size a)
    {n : ℕ} (hn : n < 4) (hd : Fin 2) (h : off = ![0, 0, hd.val, 512 * n]) (r : Fin 512) :
    v.readAt Val (Rect.unit (s := S1x1x2x2048) off S1x1x1x512.size inb).toLoadRect X (ix4 0 0 0 r) = v.read Val X (ix4 0 0 hd (row n r)) := by
  subst h
  refine congrArg (v.read Val X) (funext fun a => Fin.ext ?_)
  match a with
  | ⟨0, _⟩ => rfl
  | ⟨1, _⟩ => rfl
  | ⟨2, _⟩ => show hd.val + 1 * 0 = hd.val; omega
  | ⟨3, _⟩ => show 512 * n + 1 * r.val = (row n r).val; rw [row_val hn]; omega

end Access

theorem trips_eq : ∀ i : grid0.Coords, (k0_t1_loop i).trips = (i 2).val := by decide +kernel
theorem trips_zero : ∀ i : grid0.Coords, (k0_t2_loop i).trips = 0 := by decide +kernel

variable (c : Dev nD) (i : grid0.Coords)
  (arg3 : Memref sig .tc .vmem S512x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S1x1x2x2048 .f32) (harg6 : arg6.IsWhole)
  (arg7 : Memref sig .tc .vmem S512x128 .bf16) (harg7 : arg7.IsWhole)
  (arg8 : Memref sig .tc .vmem S1x512x2 .f32) (harg8 : arg8.IsWhole)

/-- The running maxima, sums and product of a block's rows. -/
abbrev St := FVec Ideal S512x1 .f32 × FVec Ideal S512x1 .f32 × FVec Ideal S512x1 .f32 × FVec Ideal S512x1 .f32 × FVec Ideal S512x128 .f32

section Steps
variable (v3 : FVec Ideal S512x128 .bf16) (X4 : arg4.view.ty.Contents (Elt Ideal)) (X5 : arg5.view.ty.Contents (Elt Ideal)) (X6 : arg6.view.ty.Contents (Elt Ideal))
  (n : Fin (k0_t1_loop i).trips) (s : St)

abbrev kb : FVec Ideal S512x128 .bf16 := arg4.view.readAt (Elt Ideal) (Rect.unit (s := S2048x128) (k0_off1 i n) S512x128.size (k0_off1_inb i n)).toLoadRect X4
abbrev vb : FVec Ideal S512x128 .bf16 := arg5.view.readAt (Elt Ideal) (Rect.unit (s := S2048x128) (k0_off1 i n) S512x128.size (k0_off1_inb i n)).toLoadRect X5
abbrev fb0 : FVec Ideal S1x1x1x512 .f32 := arg6.view.readAt (Elt Ideal) (Rect.unit (s := S1x1x2x2048) (k0_off2 i n) S1x1x1x512.size (k0_off2_inb i n)).toLoadRect X6
abbrev fb1 : FVec Ideal S1x1x1x512 .f32 := arg6.view.readAt (Elt Ideal) (Rect.unit (s := S1x1x2x2048) (k0_off3 i n) S1x1x1x512.size (k0_off3_inb i n)).toLoadRect X6

/-- What one step makes of the running state. -/
theorem trip_eq : (trip_k0_t1 (F := Ideal) Variants.none c none i arg3 harg3 arg4 harg4 arg5 harg5 arg6 harg6 arg7 harg7 arg8 harg8 v3 X4 X5 X6 n).1 s
    = (k0_pay8 (k0_pay29 v3) s.1 (kb i arg4 X4 n) (fb0 i arg6 X6 n), k0_pay11 (k0_pay29 v3) s.1 s.2.1 (kb i arg4 X4 n) (fb0 i arg6 X6 n),
      k0_pay14 (k0_pay30 v3) s.2.2.1 (kb i arg4 X4 n) (fb1 i arg6 X6 n),
      k0_pay36 s.2.2.1 s.2.2.2.1 (k0_pay13 (k0_pay30 v3) (kb i arg4 X4 n) (fb1 i arg6 X6 n)) (k0_pay14 (k0_pay30 v3) s.2.2.1 (kb i arg4 X4 n) (fb1 i arg6 X6 n)) (k0_pay15 (k0_pay30 v3) s.2.2.1 (kb i arg4 X4 n) (fb1 i arg6 X6 n)),
      k0_pay37 s.2.2.1 s.2.2.2.2 (k0_pay6 (vb i arg5 X5 n)) (k0_pay10 (k0_pay29 v3) s.1 (kb i arg4 X4 n) (fb0 i arg6 X6 n))
        (k0_pay12 k0_pay27 (k0_pay29 v3) s.1 (kb i arg4 X4 n) (vb i arg5 X5 n) (fb0 i arg6 X6 n)) (k0_pay13 (k0_pay30 v3) (kb i arg4 X4 n) (fb1 i arg6 X6 n))
        (k0_pay14 (k0_pay30 v3) s.2.2.1 (kb i arg4 X4 n) (fb1 i arg6 X6 n)) (k0_pay15 (k0_pay30 v3) s.2.2.1 (kb i arg4 X4 n) (fb1 i arg6 X6 n))) := by
  unfold trip_k0_t1; sl_kernel_rfl

variable (q : Fin 512 → Fin 128 → ℝ) (k v : Fin 2048 → Fin 128 → ℝ) (f : Fin 2 → Fin 2048 → ℝ)

/-- The columns of the first `N` tiles: the sum of their exponentials, -/
def Lt (h : Fin 2) (r : Fin 512) (N : ℕ) : ℝ := ∑ j ∈ Finset.range N, ∑ c, Real.exp (sc q k f h r (row j c))
/-- and their product with the values. -/
def At (r : Fin 512) (l : Fin 128) (N : ℕ) : ℝ := ∑ j ∈ Finset.range N, ∑ c, Real.exp (sc q k f (hd l) r (row j c)) * v (row j c) l

/-- The state after `N` steps. -/
structure Inv (s : St) (N : ℕ) : Prop where
  h0 : ∀ r, Run (s.1 (ix2 r 0)) (s.2.1 (ix2 r 0)) (Lt q k f 0 r N)
  h1 : ∀ r, Run (s.2.2.1 (ix2 r 0)) (s.2.2.2.1 (ix2 r 0)) (Lt q k f 1 r N)
  ha : ∀ r l, Run (if hd l = 0 then s.1 (ix2 r 0) else s.2.2.1 (ix2 r 0)) (s.2.2.2.2 (ix2 r l)) (At q k v f r l N)

variable (h3 : ∀ r l, v3 (ix2 r l) = (q r l : EReal)) (h4 : ∀ R l, arg4.view.read (Elt Ideal) X4 (ix2 R l) = (k R l : EReal))
  (h5 : ∀ R l, arg5.view.read (Elt Ideal) X5 (ix2 R l) = (v R l : EReal)) (h6 : ∀ h C, arg6.view.read (Elt Ideal) X6 (ix4 0 0 h C) = (f h C : EReal))

/-- The state before the first step. -/
abbrev start : St := (k0_pay31, k0_pay32, k0_pay31, k0_pay32, k0_pay33)

theorem start_inv : Inv q k v f start 0 := by
  have z31 : ∀ r : Fin 512, k0_pay31 (F := Ideal) (ix2 r 0) = ⊥ := fun r => by
    unfold k0_pay31; exact named_mask
  have z32 : ∀ r : Fin 512, k0_pay32 (F := Ideal) (ix2 r 0) = 0 := fun r => by pointwise [k0_pay32]
  have z33 : ∀ (r : Fin 512) (l : Fin 128), k0_pay33 (F := Ideal) (ix2 r l) = 0 := fun r l => by pointwise [k0_pay33]
  exact ⟨fun r => Or.inl ⟨z31 r, z32 r, rfl⟩, fun r => Or.inl ⟨z31 r, z32 r, rfl⟩, fun r l => Or.inl ⟨by split <;> exact z31 r, z33 r l, rfl⟩⟩

include h3 h4 h5 h6 in
theorem trip_inv {s : St} (h : Inv q k v f s n.val) :
    Inv q k v f ((trip_k0_t1 (F := Ideal) Variants.none c none i arg3 harg3 arg4 harg4 arg5 harg5 arg6 harg6 arg7 harg7 arg8 harg8 v3 X4 X5 X6 n).1 s) (n.val + 1) := by
  have hn : n.val < 4 := by have := n.isLt; have := trips_eq i; have : (i 2).val < 4 := (i 2).isLt; show n.val < 4; omega
  have hk := fun x l => (ld_rows arg4.view X4 (k0_off1_inb i n) hn (k0_off1_eq i n) x l).trans (h4 _ _)
  have hv := fun x l => (ld_rows arg5.view X5 (k0_off1_inb i n) hn (k0_off1_eq i n) x l).trans (h5 _ _)
  have hf0 := fun x => (ld_f arg6.view X6 (k0_off2_inb i n) hn 0 (k0_off2_eq i n) x).trans (h6 _ _)
  have hf1 := fun x => (ld_f arg6.view X6 (k0_off3_inb i n) hn 1 (k0_off3_eq i n) x).trans (h6 _ _)
  rw [trip_eq]
  refine ⟨fun r => Or.inr ?_, fun r => Or.inr ?_, fun r l => Or.inr ?_⟩
  · unfold Lt; rw [Finset.sum_range_succ]
    exact below0 q k f (row n.val) v3 _ _ h3 hk hf0 _ _ r _ (h.h0 r)
  · unfold Lt; rw [Finset.sum_range_succ]
    exact below1 q k f (row n.val) v3 _ _ h3 hk hf1 _ _ r _ (h.h1 r)
  · unfold At; rw [Finset.sum_range_succ]
    exact belowA q k v f (row n.val) v3 _ _ _ _ h3 hk hv hf0 hf1 _ _ _ r l _ (h.ha r l)

include h3 h4 h5 h6 in
theorem loop_inv (N : ℕ) (hN : N ≤ (k0_t1_loop i).trips) :
    Inv q k v f (st_k0_t1 (F := Ideal) Variants.none c none i arg3 harg3 arg4 harg4 arg5 harg5 arg6 harg6 arg7 harg7 arg8 harg8 v3 X4 X5 X6 start N) N := by
  induction N with
  | zero => exact start_inv q k v f
  | succ N ih =>
    rw [st_k0_t1_succ (F := Ideal) Variants.none c none i arg3 harg3 arg4 harg4 arg5 harg5 arg6 harg6 arg7 harg7 arg8 harg8 v3 X4 X5 X6 start ⟨N, hN⟩]
    exact trip_inv c i arg3 harg3 arg4 harg4 arg5 harg5 arg6 harg6 arg7 harg7 arg8 harg8 v3 X4 X5 X6 ⟨N, hN⟩ q k v f h3 h4 h5 h6 (ih (Nat.le_of_succ_le hN))

end Steps

variable (x0 : FVec Ideal S512x128 .bf16) (x1 x2 : FVec Ideal S2048x128 .bf16) (x3 : FVec Ideal S1x1x2x2048 .f32)

/-- The query block, the state when the diagonal begins, and the diagonal's tiles. -/
abbrev qb : FVec Ideal S512x128 .bf16 := arg3.view.readAt (Elt Ideal) (Rect.unit (s := S512x128) ![0, 0] S512x128.size inb_S512x128_S512x128_0_0).toLoadRect (harg3.unread x0)
abbrev fin : St := st_k0_t1 (F := Ideal) Variants.none c none i arg3 harg3 arg4 harg4 arg5 harg5 arg6 harg6 arg7 harg7 arg8 harg8 (qb arg3 harg3 x0) (harg4.unread x1) (harg5.unread x2) (harg6.unread x3) start (k0_t1_loop i).trips
abbrev gk : FVec Ideal S512x128 .bf16 := arg4.view.readAt (Elt Ideal) (Rect.unit (s := S2048x128) (k0_off7 i) S512x128.size (k0_off7_inb i)).toLoadRect (harg4.unread x1)
abbrev gv : FVec Ideal S512x128 .bf16 := arg5.view.readAt (Elt Ideal) (Rect.unit (s := S2048x128) (k0_off7 i) S512x128.size (k0_off7_inb i)).toLoadRect (harg5.unread x2)
abbrev gf0 : FVec Ideal S1x1x1x512 .f32 := arg6.view.readAt (Elt Ideal) (Rect.unit (s := S1x1x2x2048) (k0_off8 i) S1x1x1x512.size (k0_off8_inb i)).toLoadRect (harg6.unread x3)
abbrev gf1 : FVec Ideal S1x1x1x512 .f32 := arg6.view.readAt (Elt Ideal) (Rect.unit (s := S1x1x2x2048) (k0_off9 i) S1x1x1x512.size (k0_off9_inb i)).toLoadRect (harg6.unread x3)

/-- The tile at which the second loop begins. -/
abbrev bound : BitVec 32 := Scalar.addi 0#32 (Scalar.muli (Scalar.divsi (Scalar.subi (BitVec.ofNat 32 (i 2).val) 0#32) 1#32) 1#32)

/-- The second loop makes no step. -/
theorem rest_eq (v3 : FVec Ideal S512x128 .bf16) (v26 : BitVec 32) (X4 : arg4.view.ty.Contents (Elt Ideal)) (X5 : arg5.view.ty.Contents (Elt Ideal)) (X6 : arg6.view.ty.Contents (Elt Ideal)) (s : St) :
    st_k0_t2 (F := Ideal) Variants.none c none i arg3 harg3 arg4 harg4 arg5 harg5 arg6 harg6 arg7 harg7 arg8 harg8 v3 v26 X4 X5 X6 s (k0_t2_loop i).trips = s := by
  rw [trips_zero]; rfl

section Pieces
variable (s : St)
/-- The pieces a point writes, from the state in which the diagonal finds it. -/
abbrev P4 : List (View.Piece (Elt Ideal) S512x128 .bf16) :=
  [⟨Rect.unit (s := S512x128) ![0, 0] S512x128.size inb_S512x128_S512x128_0_0,
    k0_pay2 (F := Ideal) k0_pay27 s.2.2.2.2 (k0_pay43 (gv i arg5 harg5 x2)) (k0_pay48 io0 io1 s.1 (k0_pay44 (qb arg3 harg3 x0) (gk i arg4 harg4 x1)) (gf0 i arg6 harg6 x3))
      (k0_pay49 io0 io1 s.1 s.2.1 (k0_pay44 (qb arg3 harg3 x0) (gk i arg4 harg4 x1)) (gf0 i arg6 harg6 x3))
      (k0_pay50 k0_pay27 io0 io1 s.1 (k0_pay43 (gv i arg5 harg5 x2)) (k0_pay44 (qb arg3 harg3 x0) (gk i arg4 harg4 x1)) (gf0 i arg6 harg6 x3))
      (k0_pay53 (k0_pay30 (qb arg3 harg3 x0)) io0 io1 s.2.2.1 (k0_pay42 (gk i arg4 harg4 x1)) (gf1 i arg6 harg6 x3))
      (k0_pay54 (k0_pay30 (qb arg3 harg3 x0)) io0 io1 s.2.2.1 (k0_pay42 (gk i arg4 harg4 x1)) (gf1 i arg6 harg6 x3))
      (k0_pay55 (k0_pay30 (qb arg3 harg3 x0)) io0 io1 s.2.2.1 s.2.2.2.1 (k0_pay42 (gk i arg4 harg4 x1)) (gf1 i arg6 harg6 x3))
      (k0_pay56 (k0_pay30 (qb arg3 harg3 x0)) io0 io1 s.2.2.1 (k0_pay42 (gk i arg4 harg4 x1)) (gf1 i arg6 harg6 x3))⟩]
abbrev P5 : List (View.Piece (Elt Ideal) S1x512x2 .f32) :=
  [⟨Rect.unit (s := S1x512x2) ![0, 0, 1] S1x512x1.size inb_S1x512x2_S1x512x1_0_0_1,
    k0_pay4 (F := Ideal) (k0_pay52 (k0_pay30 (qb arg3 harg3 x0)) io0 io1 s.2.2.1 (k0_pay42 (gk i arg4 harg4 x1)) (gf1 i arg6 harg6 x3))
      (k0_pay55 (k0_pay30 (qb arg3 harg3 x0)) io0 io1 s.2.2.1 s.2.2.2.1 (k0_pay42 (gk i arg4 harg4 x1)) (gf1 i arg6 harg6 x3))
      (k0_pay56 (k0_pay30 (qb arg3 harg3 x0)) io0 io1 s.2.2.1 (k0_pay42 (gk i arg4 harg4 x1)) (gf1 i arg6 harg6 x3))⟩,
   ⟨Rect.unit (s := S1x512x2) ![0, 0, 0] S1x512x1.size inb_S1x512x2_S1x512x1_0_0_0,
    k0_pay3 (F := Ideal) (k0_pay46 io0 io1 s.1 (k0_pay44 (qb arg3 harg3 x0) (gk i arg4 harg4 x1)) (gf0 i arg6 harg6 x3))
      (k0_pay49 io0 io1 s.1 s.2.1 (k0_pay44 (qb arg3 harg3 x0) (gk i arg4 harg4 x1)) (gf0 i arg6 harg6 x3))⟩]
end Pieces

theorem run_eq4 : (kernelRun0_A (F := Ideal) c i arg3 harg3 arg4 harg4 arg5 harg5 arg6 harg6 arg7 harg7 arg8 harg8 x0 x1 x2 x3).1
      = P4 i arg3 harg3 arg4 harg4 arg5 harg5 arg6 harg6 x0 x1 x2 x3 (st_k0_t2 (F := Ideal) Variants.none c none i arg3 harg3 arg4 harg4 arg5 harg5 arg6 harg6 arg7 harg7 arg8 harg8 (qb arg3 harg3 x0) (bound i) (harg4.unread x1) (harg5.unread x2) (harg6.unread x3) (fin c i arg3 harg3 arg4 harg4 arg5 harg5 arg6 harg6 arg7 harg7 arg8 harg8 x0 x1 x2 x3) (k0_t2_loop i).trips)
:= by
  unfold kernelRun0_A; sl_kernel_rfl
theorem run_eq5 : (kernelRun0_A (F := Ideal) c i arg3 harg3 arg4 harg4 arg5 harg5 arg6 harg6 arg7 harg7 arg8 harg8 x0 x1 x2 x3).2.1
      = P5 i arg3 harg3 arg4 harg4 arg6 harg6 x0 x1 x3 (st_k0_t2 (F := Ideal) Variants.none c none i arg3 harg3 arg4 harg4 arg5 harg5 arg6 harg6 arg7 harg7 arg8 harg8 (qb arg3 harg3 x0) (bound i) (harg4.unread x1) (harg5.unread x2) (harg6.unread x3) (fin c i arg3 harg3 arg4 harg4 arg5 harg5 arg6 harg6 arg7 harg7 arg8 harg8 x0 x1 x2 x3) (k0_t2_loop i).trips) := by
  unfold kernelRun0_A; sl_kernel_rfl

variable (q : Fin 512 → Fin 128 → ℝ) (k v : Fin 2048 → Fin 128 → ℝ) (f : Fin 2 → Fin 2048 → ℝ)
variable (h0 : ∀ r l, x0 (ix2 r l) = (q r l : EReal)) (h1 : ∀ R l, x1 (ix2 R l) = (k R l : EReal)) (h2 : ∀ R l, x2 (ix2 R l) = (v R l : EReal))
  (h3 : ∀ h C, x3 (ix4 0 0 h C) = (f h C : EReal))

theorem qb_eq : qb arg3 harg3 x0 = x0 :=
  (View.readAt_full (Val := Elt Ideal) arg3.view (harg3.unread x0) inb_S512x128_S512x128_0_0).trans (harg3.read_unread (Val := Elt Ideal) x0)
include h0 in
theorem u0 : ∀ r l, qb arg3 harg3 x0 (ix2 r l) = (q r l : EReal) := fun r l =>
  (congrFun (qb_eq arg3 harg3 x0) (ix2 r l)).trans (h0 r l)
include h1 in
theorem u1 : ∀ R l, arg4.view.read (Elt Ideal) (harg4.unread x1) (ix2 R l) = (k R l : EReal) := fun _ _ => (congrFun (harg4.read_unread (Val := Elt Ideal) x1) _).trans (h1 _ _)
include h2 in
theorem u2 : ∀ R l, arg5.view.read (Elt Ideal) (harg5.unread x2) (ix2 R l) = (v R l : EReal) := fun _ _ => (congrFun (harg5.read_unread (Val := Elt Ideal) x2) _).trans (h2 _ _)
include h3 in
theorem u3 : ∀ h C, arg6.view.read (Elt Ideal) (harg6.unread x3) (ix4 0 0 h C) = (f h C : EReal) := fun _ _ => (congrFun (harg6.read_unread (Val := Elt Ideal) x3) _).trans (h3 _ _)

/-- The row sum up to the diagonal, -/
def Lf (h : Fin 2) (r : Fin 512) (j : ℕ) : ℝ := ∑ C : Fin 2048, if C.val ≤ (row j r).val then Real.exp (sc q k f h r C) else 0
/-- and the row's product with the values. -/
def Af (r : Fin 512) (l : Fin 128) (j : ℕ) : ℝ := ∑ C : Fin 2048, (if C.val ≤ (row j r).val then Real.exp (sc q k f (hd l) r C) else 0) * v C l

/-- The tiles up to the diagonal one are all that a causal sum sees. -/
theorem tiles {j : ℕ} (hj : j < 4) (r : Fin 512) (g : Fin 2048 → ℝ) :
    (∑ n ∈ Finset.range j, ∑ c, g (row n c)) + (∑ c : Fin 512, if c.val ≤ r.val then g (row j c) else 0)
      = ∑ C : Fin 2048, if C.val ≤ (row j r).val then g C else 0 := by
  rw [← sum_all fun C : Fin 2048 => if C.val ≤ (row j r).val then g C else 0]
  have hr := r.isLt
  have below : ∀ n, n < j → ∀ c, (if (row n c).val ≤ (row j r).val then g (row n c) else 0) = g (row n c) := fun n hn c =>
    if_pos (by rw [row_val (hn.trans hj), row_val hj]; have := c.isLt; omega)
  have above : ∀ n, n < 4 → j < n → ∀ c, (if (row n c).val ≤ (row j r).val then g (row n c) else 0) = 0 := fun n hn h c =>
    if_neg (by rw [row_val hn, row_val hj]; omega)
  have on : ∀ c, (if (row j c).val ≤ (row j r).val then g (row j c) else 0) = if c.val ≤ r.val then g (row j c) else 0 := fun c => by
    rw [row_val hj, row_val hj]; simp only [Nat.add_le_add_iff_left]
  have e1 : Finset.range 4 = Finset.range (j + 1 + (3 - j)) := by congr 1; omega
  rw [e1, Finset.sum_range_add, Finset.sum_range_succ]
  have z : ∑ x ∈ Finset.range (3 - j), ∑ c, (if (row (j + 1 + x) c).val ≤ (row j r).val then g (row (j + 1 + x) c) else 0) = 0 :=
    Finset.sum_eq_zero fun x hx => Finset.sum_eq_zero fun c _ => above _ (by have := Finset.mem_range.mp hx; omega) (by omega) c
  rw [z, add_zero]
  simp only [on]
  congr 1
  exact Finset.sum_congr rfl fun n hn => Finset.sum_congr rfl fun c _ => (below n (Finset.mem_range.mp hn) c).symm

theorem Lf_eq (h : Fin 2) (r : Fin 512) {j : ℕ} (hj : j < 4) :
    Lt q k f h r j + (∑ c : Fin 512, if c.val ≤ r.val then Real.exp (sc q k f h r (row j c)) else 0) = Lf q k f h r j :=
  tiles hj r fun C => Real.exp (sc q k f h r C)
theorem Af_eq (r : Fin 512) (l : Fin 128) {j : ℕ} (hj : j < 4) :
    At q k v f r l j + (∑ c : Fin 512, (if c.val ≤ r.val then Real.exp (sc q k f (hd l) r (row j c)) else 0) * v (row j c) l) = Af q k v f r l j := by
  have := tiles hj r fun C => Real.exp (sc q k f (hd l) r C) * v C l
  simp only [Af, ite_mul, zero_mul]
  exact this
theorem Lf_pos (h : Fin 2) (r : Fin 512) (j : ℕ) : 0 < Lf q k f h r j := by
  unfold Lf
  exact Finset.sum_pos' (fun C _ => by split <;> positivity) ⟨row j r, Finset.mem_univ _, by rw [if_pos le_rfl]; positivity⟩

include h0 h1 h2 h3 in
theorem fin_inv : Inv q k v f (fin c i arg3 harg3 arg4 harg4 arg5 harg5 arg6 harg6 arg7 harg7 arg8 harg8 x0 x1 x2 x3) (i 2).val := by
  rw [← trips_eq i]
  exact loop_inv c i arg3 harg3 arg4 harg4 arg5 harg5 arg6 harg6 arg7 harg7 arg8 harg8 (qb arg3 harg3 x0) (harg4.unread x1) (harg5.unread x2) (harg6.unread x3) q k v f (u0 arg3 harg3 x0 q h0)
    (u1 arg4 harg4 x1 k h1) (u2 arg5 harg5 x2 v h2) (u3 arg6 harg6 x3 f h3) (k0_t1_loop i).trips le_rfl

section Diag
variable (j : ℕ) (hj : j < 4)
include h1 in
theorem gk_real (x : Fin 512) (l : Fin 128) : gk i arg4 harg4 x1 (ix2 x l) = (k (row (i 2).val x) l : EReal) :=
  (ld_rows arg4.view _ (k0_off7_inb i) (i 2).isLt (k0_off7_eq i) x l).trans (u1 arg4 harg4 x1 k h1 _ _)
include h2 in
theorem gv_real (x : Fin 512) (l : Fin 128) : gv i arg5 harg5 x2 (ix2 x l) = (v (row (i 2).val x) l : EReal) :=
  (ld_rows arg5.view _ (k0_off7_inb i) (i 2).isLt (k0_off7_eq i) x l).trans (u2 arg5 harg5 x2 v h2 _ _)
include h3 in
theorem gf0_real (x : Fin 512) : gf0 i arg6 harg6 x3 (ix4 0 0 0 x) = (f 0 (row (i 2).val x) : EReal) :=
  (ld_f arg6.view _ (k0_off8_inb i) (i 2).isLt 0 (k0_off8_eq i) x).trans (u3 arg6 harg6 x3 f h3 _ _)
include h3 in
theorem gf1_real (x : Fin 512) : gf1 i arg6 harg6 x3 (ix4 0 0 0 x) = (f 1 (row (i 2).val x) : EReal) :=
  (ld_f arg6.view _ (k0_off9_inb i) (i 2).isLt 1 (k0_off9_eq i) x).trans (u3 arg6 harg6 x3 f h3 _ _)
end Diag

include h0 h1 h2 h3 in
/-- The result's block. -/
theorem point4 (r : Fin 512) (l : Fin 128) : out0_A_4 (F := Ideal) c i arg3 harg3 arg4 harg4 arg5 harg5 arg6 harg6 arg7 harg7 arg8 harg8 x0 x1 x2 x3 (ix2 r l)
    = ((Af q k v f r l (i 2).val / Lf q k f (hd l) r (i 2).val : ℝ) : EReal) := by
  have hI := fin_inv c i arg3 harg3 arg4 harg4 arg5 harg5 arg6 harg6 arg7 harg7 arg8 harg8 x0 x1 x2 x3 q k v f h0 h1 h2 h3
  unfold out0_A_4
  rw [run_eq4, rest_eq]
  refine (congrFun (View.read_writes_full _ _ inb_S512x128_S512x128_0_0 _ _) (ix2 r l)).trans ?_
  rw [← Lf_eq q k f (hd l) r (i 2).isLt, ← Af_eq q k v f r l (i 2).isLt]
  exact diagA q k v f (row (i 2).val) _ _ _ _ _ (u0 arg3 harg3 x0 q h0) (gk_real i arg4 harg4 x1 k h1) (gv_real i arg5 harg5 x2 v h2)
    (gf0_real i arg6 harg6 x3 f h3) (gf1_real i arg6 harg6 x3 f h3) _ _ _ _ _ r l (fun h => Lt q k f h r (i 2).val) _ (hI.h0 r) (hI.h1 r) (hI.ha r l)
    (by rw [Lf_eq q k f (hd l) r (i 2).isLt]; exact Lf_pos q k f _ r _)

include h0 h1 h2 h3 in
/-- The block of the logarithms. -/
theorem point5 (r : Fin 512) (h : Fin 2) : out0_A_5 (F := Ideal) c i arg3 harg3 arg4 harg4 arg5 harg5 arg6 harg6 arg7 harg7 arg8 harg8 x0 x1 x2 x3 (ix3 0 r h)
    = ((Real.log (Lf q k f h r (i 2).val) : ℝ) : EReal) := by
  have hI := fin_inv c i arg3 harg3 arg4 harg4 arg5 harg5 arg6 harg6 arg7 harg7 arg8 harg8 x0 x1 x2 x3 q k v f h0 h1 h2 h3
  have hp := Lf_pos q k f h r (i 2).val
  unfold out0_A_5
  rw [run_eq5, rest_eq]
  rw [← Lf_eq q k f h r (i 2).isLt] at hp ⊢
  match h with
  | 0 =>
    refine (View.read_writes_cons_unit_of_not_mem _ _ _ _ _ (ix3 0 r 0) rfl (2 : Fin 3) (by left; show 0 < 1; norm_num)).trans ?_
    refine (View.read_writes_cons_unit_of_mem _ _ _ _ _ (ix3 0 r 0) (ix3 0 r 0) rfl fun a => ?_).trans ?_
    · match a with
      | ⟨0, _⟩ => rfl
      | ⟨1, _⟩ => show r.val = 0 + r.val; omega
      | ⟨2, _⟩ => rfl
    · rw [lse0]
      exact (diag0 q k f (row (i 2).val) _ _ _ (u0 arg3 harg3 x0 q h0) (gk_real i arg4 harg4 x1 k h1) (gf0_real i arg6 harg6 x3 f h3) _ _ r _ (hI.h0 r)).log hp
  | 1 =>
    refine (View.read_writes_cons_unit_of_mem _ _ _ _ _ (ix3 0 r 1) (ix3 0 r 0) rfl fun a => ?_).trans ?_
    · match a with
      | ⟨0, _⟩ => rfl
      | ⟨1, _⟩ => show r.val = 0 + r.val; omega
      | ⟨2, _⟩ => rfl
    · rw [lse1]
      exact (diag1 q k f (row (i 2).val) _ _ _ (u0 arg3 harg3 x0 q h0) (gk_real i arg4 harg4 x1 k h1) (gf1_real i arg6 harg6 x3 f h3) _ _ r _ (hI.h1 r)).log hp

end Cert.AttnFwdIdeal.Pay

end
-- ==== Proof.AttnFwdRef.lean ====
/- The attention's own lines, read as real numbers: the result head by head, and the logarithms of the rows' sums. -/
module

public import proofs.«01_k».proof.Proof.AttnBwdHost
public import proofs.«01_k».proof.Proof.Gen.AttnFwdRefIdeal.Run
public import proofs.«01_k».proof.Proof.Gen.AttnFwdRefIdeal.Read

@[expose] public section

set_option maxRecDepth 16384

noncomputable section

open Idealize.ShloMosaic Idealize.ShloMosaic.TcCoe Idealize.SL.Sem Idealize.ShloMosaic.StableHlo Cert.Reals Cert.Attn

namespace Cert.AttnFwdRefIdeal.Reading

open Cert.AttnFwdRefIdeal Cert.AttnFwdRefIdeal.Read
open Cert.AttnBwdIdeal.Host (brow pl row_div row_mod ch_div ch_mod hh_eq eighth)

abbrev A3 := FVec Ideal S4x2048x512 .f32

variable (q k v : A3) (x : FVec Ideal S4x8x2048 .f32)
variable (Q K V : Fin 4 → Fin 2048 → Fin 512 → ℝ) (G : Fin 4 → Fin 8 → Fin 2048 → ℝ)
variable (hq : ∀ b R c, q (ix3 b R c) = (Q b R c : EReal)) (hk : ∀ b R c, k (ix3 b R c) = (K b R c : EReal))
  (hv : ∀ b R c, v (ix3 b R c) = (V b R c : EReal)) (hx : ∀ b H R, x (ix3 b H R) = (G b H R : EReal))

theorem head_at (b : Fin 4) (H : Fin 8) (R : Fin 2048) (e : Fin 64) : val_main_v5 (F := Ideal) k (ix4 b H R e) = k (ix3 b R (ch H e)) := by
  pointwise [val_main_v5, val_main_v4]
  exact congrArg (fun c => k (ix3 b R c)) (Fin.ext (by simp only [ch]; omega))
theorem head_v (b : Fin 4) (H : Fin 8) (R : Fin 2048) (e : Fin 64) : val_main_v7 (F := Ideal) v (ix4 b H R e) = v (ix3 b R (ch H e)) :=
  head_at v b H R e
theorem head_k (b : Fin 4) (H : Fin 8) (R : Fin 2048) (e : Fin 64) : val_main_v44 (F := Ideal) k (ix4 b H R e) = k (ix3 b R (ch H e)) :=
  head_at k b H R e

include hq in
theorem head_q (b : Fin 4) (H : Fin 8) (R : Fin 2048) (e : Fin 64) : val_main_v3 (F := Ideal) q (ix4 b H R e) = ((Q b R (ch H e) * (1 / 8) : ℝ) : EReal) := by
  have h := head_at q b H R e
  pointwise [val_main_v3, val_main_v2]
  rw [show val_main_v1 (F := Ideal) q (ix4 b H R e) = q (ix3 b R (ch H e)) from h, hq]
  pointwise [val_main_cst]
  rw [eighth, EReal.coe_mul]
include hq in
theorem head_q' (b : Fin 4) (H : Fin 8) (R : Fin 2048) (e : Fin 64) : val_main_v42 (F := Ideal) q (ix4 b H R e) = ((Q b R (ch H e) * (1 / 8) : ℝ) : EReal) :=
  head_q q Q hq b H R e

include hq hk hx in
/-- The masked logits, with the query's own log gate. -/
theorem masked_real (b : Fin 4) (H : Fin 8) (R C : Fin 2048) : val_main_v22 (F := Ideal) q k x (ix4 b H R C)
    = if C ≤ R then ((Z Q K G b H R C + G b H R : ℝ) : EReal) else ⊥ := by
  pointwise [val_main_v22, val_main_call0_v1, val_main_v21, val_main_v19, val_main_v20, val_main_v16, val_main_v15, val_main_v18, val_main_v17,
    val_main_call0_v2, val_main_call0_v0, val_main_cst_0, val_main_v14, val_main_v11, val_main_v8, val_main_v10, val_main_v9, val_main_v13, val_main_v12]
  simp only [causal_select, ofBits_ninf, head_at, head_q q Q hq, hk, hx, ← EReal.coe_mul, coe_sum, ← EReal.coe_add, ← EReal.coe_sub]
  congr 2
  unfold Z; ring

include hq hk hx in
theorem top_real (b : Fin 4) (H : Fin 8) (R : Fin 2048) : ∃ M : ℝ, val_main_v23 (F := Ideal) q k x (ix3 b H R) = (M : EReal) := by
  pointwise [val_main_v23, val_main_cst_1]
  rw [ofBits_ninf]
  refine fold_real _ (fun C => ?_) R ?_
  · rw [masked_real q k x Q K G hq hk hx]
    split
    · exact EReal.coe_ne_top _
    · exact bot_ne_top
  · rw [masked_real q k x Q K G hq hk hx, if_pos le_rfl]
    exact EReal.coe_ne_bot _

theorem low_real (b : Fin 4) (H : Fin 8) (R : Fin 2048) : val_main_v24 (F := Ideal) (ix3 b H R) = ⊥ := by
  pointwise [val_main_v24, val_main_cst_2]
  exact ofBits_ninf

theorem top_at (b : Fin 4) (H : Fin 8) (R : Fin 2048) : val_main_v25 (F := Ideal) q k x (ix3 b H R) = val_main_v23 (F := Ideal) q k x (ix3 b H R) := by
  rw [val_main_v25_apply, low_real]
  exact max_eq_right bot_le

/-- A row's shift: its greatest logit, less the query's own log gate. -/
def sh (b : Fin 4) (H : Fin 8) (R : Fin 2048) : ℝ := (val_main_v25 (F := Ideal) q k x (ix3 b H R)).toReal - G b H R

include hq hk hx in
theorem top_eq (b : Fin 4) (H : Fin 8) (R : Fin 2048) : val_main_v25 (F := Ideal) q k x (ix3 b H R) = ((sh q k x G b H R + G b H R : ℝ) : EReal) := by
  obtain ⟨M, h⟩ := top_real q k x Q K G hq hk hx b H R
  rw [sh, top_at, h, EReal.toReal_coe, sub_add_cancel]

include hq hk hx in
theorem expo_real (b : Fin 4) (H : Fin 8) (R C : Fin 2048) : val_main_v29 (F := Ideal) q k x (ix4 b H R C)
    = ((if C ≤ R then Real.exp (Z Q K G b H R C - sh q k x G b H R) else 0 : ℝ) : EReal) := by
  pointwise [val_main_v29, val_main_v28, val_main_v27, val_main_v26]
  rw [masked_real q k x Q K G hq hk hx, top_eq q k x Q K G hq hk hx]
  split
  · rw [← EReal.coe_sub, Ideal.exp_coe]; congr 2; ring
  · simp

include hq hk hx in
theorem sum_real (b : Fin 4) (H : Fin 8) (R : Fin 2048) : val_main_v31 (F := Ideal) q k x (ix4 b H R 0) = (W Q K G b H R (sh q k x G b H R) : EReal) := by
  pointwise [val_main_v31, val_main_v30, val_main_cst_3]
  simp only [expo_real q k x Q K G hq hk hx, coe_sum]
  rfl

include hq hk hx in
theorem weight_real (b : Fin 4) (H : Fin 8) (R C : Fin 2048) : val_main_v33 (F := Ideal) q k x (ix4 b H R C) = (Pn Q K G b H R C : EReal) := by
  pointwise [val_main_v33, val_main_v32]
  rw [expo_real q k x Q K G hq hk hx, sum_real q k x Q K G hq hk hx, div_real (W_pos Q K G b H R _).ne', Pn_shift]

include hq hk hv hx in
/-- The attention's result. -/
theorem out_real (b : Fin 4) (H : Fin 8) (R : Fin 2048) (e : Fin 64) :
    val_main_v38 (F := Ideal) q k v x (ix2 (brow b R) (ch H e)) = (O Q K V G b H R e : EReal) := by
  pointwise [val_main_v38, val_main_v37, val_main_v36, val_main_v35, val_main_v34]
  simp only [row_div, row_mod, ch_div, ch_mod, weight_real q k x Q K G hq hk hx, head_v, hv, ← EReal.coe_mul, coe_sum]
  rfl

include hq hk hx in
/-- The masked logits of the second result, without the query's own log gate. -/
theorem masked_real' (b : Fin 4) (H : Fin 8) (R C : Fin 2048) : val_main_v56 (F := Ideal) q k x (ix4 b H R C)
    = if C ≤ R then (Z Q K G b H R C : EReal) else ⊥ := by
  pointwise [val_main_v56, val_main_call1_v1, val_main_v55, val_main_v53, val_main_v54, val_main_v50, val_main_v49, val_main_v52, val_main_v51,
    val_main_call1_v2, val_main_call1_v0, val_main_cst_5, val_main_v48, val_main_v45, val_main_v47, val_main_v46]
  simp only [causal_select, ofBits_ninf, head_k, head_q' q Q hq, hk, hx, ← EReal.coe_mul, coe_sum, ← EReal.coe_sub]
  rfl

include hq hk hx in
theorem expo_real' (b : Fin 4) (H : Fin 8) (R C : Fin 2048) : val_main_v57 (F := Ideal) q k x (ix4 b H R C)
    = ((if C ≤ R then Real.exp (Z Q K G b H R C - 0) else 0 : ℝ) : EReal) := by
  pointwise [val_main_v57]
  rw [masked_real' q k x Q K G hq hk hx]
  split
  · rw [Ideal.exp_coe]
  · simp

include hq hk hx in
/-- The logarithms of the rows' sums, two heads to a row. -/
theorem lse_real (b g : Fin 4) (h : Fin 2) (R : Fin 2048) :
    val_main_v62 (F := Ideal) q k x (ix3 g (brow b R) h) = ((Real.log (W Q K G b (hh g h) R 0) : ℝ) : EReal) := by
  pointwise [val_main_v62, val_main_v61, val_main_v60, val_main_v59, val_main_v58, val_main_cst_6]
  simp only [row_div, row_mod, hh_eq, expo_real' q k x Q K G hq hk hx, coe_sum]
  exact (Ideal.log_coe _).trans (if_neg (not_le.mpr (W_pos Q K G b (hh g h) R 0)))

end Cert.AttnFwdRefIdeal.Reading

end
-- ==== Proof.AttnFwdValue.lean ====
/- What the attention's forward kernel leaves in its two arrays: the attention's result, and the logarithms of its rows'
   sums. -/
module

public import proofs.«01_k».proof.Proof.AttnFwdPoint
public import proofs.«01_k».proof.Proof.AttnFwdRef

@[expose] public section

set_option maxRecDepth 16384

noncomputable section

open Idealize.ShloMosaic Idealize.ShloMosaic.TcCoe Idealize.SL.Sem Idealize.ShloMosaic.StableHlo Cert.Reals Cert.Attn

namespace Cert.AttnFwdIdeal.Blocks

open Cert.AttnFwdIdeal Cert.AttnFwdIdeal.Gen Cert.AttnFwdIdeal.Pay
open Cert.AttnBwdIdeal.Host (brow pl pcol packed packed_at gates gates_at)
open Cert.AttnBwdIdeal.Pay (hd pick row row_val)
open Cert.AttnBwdIdeal.Blocks (sum_pick)

/-! The kernel's sums as the attention's own. -/
section Sums
variable (Q K V : Fin 4 → Fin 2048 → Fin 512 → ℝ) (G : Fin 4 → Fin 8 → Fin 2048 → ℝ) (b g : Fin 4) (i : ℕ)

/-- The queries of a block; the keys and the gates of a pair. -/
abbrev qs : Fin 512 → Fin 128 → ℝ := fun r l => Q b (row i r) (pl g l)
abbrev ks : Fin 2048 → Fin 128 → ℝ := fun C l => K b C (pl g l)
abbrev fs : Fin 2 → Fin 2048 → ℝ := fun h C => G b (hh g h) C

theorem sc_eq (h : Fin 2) (r : Fin 512) (C : Fin 2048) : sc (qs Q b g i) (ks K b g) (fs G b g) h r C = Z Q K G b (hh g h) (row i r) C := by
  unfold sc Z
  rw [sum_pick h g (fun c => Q b (row i r) c * (1 / 8)) (fun c => K b C c)]

theorem sum_eq (h : Fin 2) (r : Fin 512) : Lf (qs Q b g i) (ks K b g) (fs G b g) h r i = W Q K G b (hh g h) (row i r) 0 := by
  unfold Lf W
  exact Finset.sum_congr rfl fun C _ => by rw [sc_eq, sub_zero]; rfl

theorem out_eq (r : Fin 512) (l : Fin 128) (e : Fin 64) (he : pl g l = ch (hh g (hd l)) e) :
    Af (qs Q b g i) (ks K b g) (ks V b g) (fs G b g) r l i / Lf (qs Q b g i) (ks K b g) (fs G b g) (hd l) r i = O Q K V G b (hh g (hd l)) (row i r) e := by
  rw [sum_eq]
  unfold Af O
  rw [Finset.sum_div]
  refine Finset.sum_congr rfl fun C _ => ?_
  rw [sc_eq, ← he]
  unfold Pn
  by_cases h : C ≤ row i r
  · rw [if_pos h, if_pos (show C.val ≤ (row i r).val from h), div_mul_eq_mul_div]
  · rw [if_neg h, if_neg (show ¬ C.val ≤ (row i r).val from h), zero_mul, zero_div]

/-- A lane of a pair is a channel of the lane's own head. -/
theorem lane_ch (l : Fin 128) : pl g l = ch (hh g (hd l)) ⟨l.val % 64, by omega⟩ := Fin.ext (by
  have := l.isLt; simp only [pl, ch, hh, hd]; split <;> simp <;> omega)

end Sums

/-! Where the blocks sit. -/

theorem idx : ∀ t : Fin cfg0.N, win0_0.index t = ![4 * (t.val / 16) + t.val % 4, 3 * (t.val / 4 % 4)] ∧ win0_1.index t = ![t.val / 16, 3 * (t.val / 4 % 4) + 1]
    ∧ win0_2.index t = ![t.val / 16, 3 * (t.val / 4 % 4) + 2] ∧ win0_3.index t = ![t.val / 16, t.val / 4 % 4, 0, 0]
    ∧ win0_4.index t = ![4 * (t.val / 16) + t.val % 4, t.val / 4 % 4] ∧ win0_5.index t = ![t.val / 4 % 4, 4 * (t.val / 16) + t.val % 4, 0]
    ∧ (grid0.coords t 2).val = t.val % 4 ∧ t.val < 64 :=
  (by decide +kernel : ∀ t : Fin grid0.N, _)

variable (m : (ℓ : Loc nD τ sig) → Buf (Elt Ideal) ℓ) (c : Dev nD) (t : Fin cfg0.N)

theorem coord_two : (grid0.coords t 2).val = t.val % 4 := (idx t).2.2.2.2.2.2.1
theorem lt64 : t.val < 64 := (idx t).2.2.2.2.2.2.2

/-- The batch and the pair of a point. -/
def tb : Fin 4 := ⟨t.val / 16, by have := lt64 t; omega⟩
def tg : Fin 4 := ⟨t.val / 4 % 4, by omega⟩

abbrev aq : FVec Ideal S4x2048x512 .f32 := m ((c : Thread nD τ).loc main_arg0)
abbrev ak : FVec Ideal S4x2048x512 .f32 := m ((c : Thread nD τ).loc main_arg1)
abbrev av : FVec Ideal S4x2048x512 .f32 := m ((c : Thread nD τ).loc main_arg2)
abbrev ag : FVec Ideal S4x8x2048 .f32 := m ((c : Thread nD τ).loc main_arg3)

theorem V_v5 : V m c main_v5 = packed (aq m c) (ak m c) (av m c) := by
  unfold V
  simp only [hostOps0, List.flatten_cons, List.flatten_nil, List.append_nil, List.cons_append, List.nil_append]
  after_results_simp
  rfl
theorem V_v6 : V m c main_v6 = gates (ag m c) := by
  unfold V
  simp only [hostOps0, List.flatten_cons, List.flatten_nil, List.append_nil, List.cons_append, List.nil_append]
  after_results_simp
  rfl

theorem blk0 (r : Fin 512) (l : Fin 128) : (show FVec Ideal S512x128 .bf16 from iblk m c 0 t) (ix2 r l)
    = (show FVec Ideal S8192x1536 .bf16 from V m c main_v5) (ix2 (brow (tb t) (row (t.val % 4) r)) (pcol (tg t) 0 l)) := by
  blk_simp [iblk, idx t]
  refine congrArg (show FVec Ideal S8192x1536 .bf16 from V m c main_v5) ?_
  have e := row_val (show t.val % 4 < 4 by omega)
  blk_ext [idx t]
  all_goals simp only [brow, tb, pcol, tg, pl, e, Fin.val_zero, Fin.val_one, Fin.val_two] <;> omega
theorem blk1 (R : Fin 2048) (l : Fin 128) : (show FVec Ideal S2048x128 .bf16 from iblk m c 1 t) (ix2 R l)
    = (show FVec Ideal S8192x1536 .bf16 from V m c main_v5) (ix2 (brow (tb t) R) (pcol (tg t) 1 l)) := by
  blk_simp [iblk, idx t]
  refine congrArg (show FVec Ideal S8192x1536 .bf16 from V m c main_v5) ?_
  blk_ext [idx t]
  all_goals simp only [brow, tb, pcol, tg, pl, Fin.val_zero, Fin.val_one, Fin.val_two] <;> omega
theorem blk2 (R : Fin 2048) (l : Fin 128) : (show FVec Ideal S2048x128 .bf16 from iblk m c 2 t) (ix2 R l)
    = (show FVec Ideal S8192x1536 .bf16 from V m c main_v5) (ix2 (brow (tb t) R) (pcol (tg t) 2 l)) := by
  blk_simp [iblk, idx t]
  refine congrArg (show FVec Ideal S8192x1536 .bf16 from V m c main_v5) ?_
  blk_ext [idx t]
  all_goals simp only [brow, tb, pcol, tg, pl, Fin.val_zero, Fin.val_one, Fin.val_two] <;> omega
theorem blk3 (h : Fin 2) (C : Fin 2048) : (show FVec Ideal S1x1x2x2048 .f32 from iblk m c 3 t) (ix4 0 0 h C)
    = (show FVec Ideal S4x4x2x2048 .f32 from V m c main_v6) (ix4 (tb t) (tg t) h C) := by
  blk_simp [iblk, idx t]
  refine congrArg (show FVec Ideal S4x4x2x2048 .f32 from V m c main_v6) ?_
  blk_ext [idx t]
  all_goals simp only [brow, tb, pcol, tg, pl, Fin.val_zero, Fin.val_one, Fin.val_two] <;> omega

/-! The blocks as real numbers, and the arrays. -/

variable (Q K V : Fin 4 → Fin 2048 → Fin 512 → ℝ) (G : Fin 4 → Fin 8 → Fin 2048 → ℝ)
variable (hq : ∀ b R k, aq m c (ix3 b R k) = (Q b R k : EReal)) (hk : ∀ b R k, ak m c (ix3 b R k) = (K b R k : EReal))
  (hv : ∀ b R k, av m c (ix3 b R k) = (V b R k : EReal)) (hg : ∀ b H R, ag m c (ix3 b H R) = (G b H R : EReal))

include hq in
theorem real0 (r : Fin 512) (l : Fin 128) : (show FVec Ideal S512x128 .bf16 from iblk m c 0 t) (ix2 r l) = (qs Q (tb t) (tg t) (grid0.coords t 2).val r l : EReal) := by
  rw [coord_two]
  exact (blk0 m c t r l).trans ((congrFun (V_v5 m c) _).trans ((packed_at _ _ _ _ _ _ 0 _).trans (hq _ _ _)))
include hk in
theorem real1 (R : Fin 2048) (l : Fin 128) : (show FVec Ideal S2048x128 .bf16 from iblk m c 1 t) (ix2 R l) = (ks K (tb t) (tg t) R l : EReal) :=
  (blk1 m c t R l).trans ((congrFun (V_v5 m c) _).trans ((packed_at _ _ _ _ _ _ 1 _).trans (hk _ _ _)))
include hv in
theorem real2 (R : Fin 2048) (l : Fin 128) : (show FVec Ideal S2048x128 .bf16 from iblk m c 2 t) (ix2 R l) = (ks V (tb t) (tg t) R l : EReal) :=
  (blk2 m c t R l).trans ((congrFun (V_v5 m c) _).trans ((packed_at _ _ _ _ _ _ 2 _).trans (hv _ _ _)))
include hg in
theorem real3 (h : Fin 2) (C : Fin 2048) : (show FVec Ideal S1x1x2x2048 .f32 from iblk m c 3 t) (ix4 0 0 h C) = (fs G (tb t) (tg t) h C : EReal) :=
  (blk3 m c t h C).trans ((congrFun (V_v6 m c) _).trans ((gates_at _ _ _ _ _).trans (hg _ _ _)))

theorem outs_fst (r : Fin 512) (l : Fin 128) : ((outsAt0 m c t).1 : FVec Ideal S512x128 .bf16) (ix2 r l) = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (ix2 r l) := by
  rw [outsAt0]
theorem outs_snd (r : Fin 512) (h : Fin 2) : ((outsAt0 m c t).2 : FVec Ideal S1x512x2 .f32) (ix3 0 r h) = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (ix3 0 r h) := by
  rw [outsAt0]

include hq hk hv hg in
theorem block4 (r : Fin 512) (l : Fin 128) : ((outsAt0 m c t).1 : FVec Ideal S512x128 .bf16) (ix2 r l)
    = (O Q K V G (tb t) (hh (tg t) (hd l)) (row (grid0.coords t 2).val r) ⟨l.val % 64, by omega⟩ : EReal) := by
  rw [outs_fst, ← out_eq Q K V G (tb t) (tg t) (grid0.coords t 2).val r l _ (lane_ch (tg t) l)]
  exact point4 c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (qs Q (tb t) (tg t) (grid0.coords t 2).val) (ks K (tb t) (tg t)) (ks V (tb t) (tg t)) (fs G (tb t) (tg t))
    (real0 m c t Q hq) (real1 m c t K hk) (real2 m c t V hv) (real3 m c t G hg) r l

include hq hk hv hg in
theorem block5 (r : Fin 512) (h : Fin 2) : ((outsAt0 m c t).2 : FVec Ideal S1x512x2 .f32) (ix3 0 r h)
    = ((Real.log (W Q K G (tb t) (hh (tg t) h) (row (grid0.coords t 2).val r) 0) : ℝ) : EReal) := by
  rw [outs_snd, ← sum_eq Q K G (tb t) (tg t) (grid0.coords t 2).val h r]
  exact point5 c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (qs Q (tb t) (tg t) (grid0.coords t 2).val) (ks K (tb t) (tg t)) (ks V (tb t) (tg t)) (fs G (tb t) (tg t))
    (real0 m c t Q hq) (real1 m c t K hk) (real2 m c t V hv) (real3 m c t G hg) r h

/-- The attention's own lines, for this device's arguments. -/
abbrev refO : FVec Ideal S8192x512 .bf16 := Cert.AttnFwdRefIdeal.Read.val_main_v38 (F := Ideal) (aq m c) (ak m c) (av m c) (ag m c)
abbrev refL : FVec Ideal S4x8192x2 .f32 := Cert.AttnFwdRefIdeal.Read.val_main_v62 (F := Ideal) (aq m c) (ak m c) (ag m c)

include hq hk hv hg in
theorem final4 : (dats m 0 c).arrAt 4 cfg0.N = refO m c := by
  refine (dats m 0 c).arrAt_eq_of_covers 4 _ (by decide +kernel) fun t _ y => ?_
  blk_simp
  obtain ⟨r, l, rfl⟩ : ∃ (r : Fin 512) (l : Fin 128), y = ix2 r l := ⟨y 0, y 1, eq_ix2 y⟩
  have e := row_val (r := r) (show t.val % 4 < 4 by omega)
  have he : (((cfg0.win 4).blk t).view.emb (ix2 r l)) = (ix2 (brow (tb t) (row (t.val % 4) r)) (pl (tg t) l) : S8192x512.Idx) := by
    blk_ext [idx t]
    all_goals simp only [brow, tb, pl, tg, e] <;> omega
  rw [he, after0_4, block4 m c t Q K V G hq hk hv hg, coord_two, lane_ch (tg t) l]
  exact (Cert.AttnFwdRefIdeal.Reading.out_real (aq m c) (ak m c) (av m c) (ag m c) Q K V G hq hk hv hg _ _ _ _).symm

include hq hk hv hg in
theorem final5 : (dats m 0 c).arrAt 5 cfg0.N = refL m c := by
  refine (dats m 0 c).arrAt_eq_of_covers 5 _ (by decide +kernel) fun t _ y => ?_
  blk_simp
  obtain ⟨r, h, rfl⟩ : ∃ (r : Fin 512) (h : Fin 2), y = ix3 0 r h :=
    ⟨y 1, y 2, by rw [eq_ix3 y]; congr 1 <;> exact Subsingleton.elim _ _⟩
  have e := row_val (r := r) (show t.val % 4 < 4 by omega)
  have he : (((cfg0.win 5).blk t).view.emb (ix3 0 r h)) = (ix3 (tg t) (brow (tb t) (row (t.val % 4) r)) h : S4x8192x2.Idx) := by
    blk_ext [idx t]
    all_goals simp only [brow, tb, tg, e] <;> omega
  rw [he, after0_5, block5 m c t Q K V G hq hk hv hg, coord_two]
  exact (Cert.AttnFwdRefIdeal.Reading.lse_real (aq m c) (ak m c) (ag m c) Q K G hq hk hg _ _ _ _).symm

end Cert.AttnFwdIdeal.Blocks

end
-- ==== Proof.AttnFwdClaims.lean ====
/- The claims about forgetting attention's forward kernel. -/
module

public import proofs.«01_k».proof.Proof.AttnFwdValue
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Defs

@[expose] public section

set_option maxRecDepth 16384

noncomputable section

open Idealize.ShloMosaic Idealize.ShloMosaic.TcCoe Idealize.SL.Sem Cert.Reals

namespace Cert.Proof.AttnFwd

theorem pre_facts : Cert.Pre_attn_fwd_finite.Facts := by constructor <;> decide

attribute [local instance] pre_facts

theorem frame : Cert.quiescent_AttnFwd := fun m ρ _ => Cert.AttnFwd.Gen.frame m ρ
theorem frame_ideal : Cert.quiescent_AttnFwdIdeal := fun m ρ _ => Cert.AttnFwdIdeal.Gen.frame m ρ
theorem frame_ideal_pre : Cert.quiescent_AttnFwdIdeal_pre_attn_fwd_finite := fun m ρ _ => Cert.AttnFwdIdeal.Gen.frame m ρ
theorem frame_ref : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)
theorem frame_ref_pre : Cert.quiescent_AttnFwdRefIdeal_pre_attn_fwd_finite := fun m ρ _ => frame_ref m ρ trivial
theorem preserves : Cert.preserves_AttnFwd_AttnFwdIdeal := IdealRules.named_const.statement Cert.AttnFwdIdeal.κ "mask" .f32 0xF149F2CA#32 ⊥ rfl

theorem algebraic : Cert.algebraic_AttnFwdIdeal_AttnFwdRefIdeal_pre_attn_fwd_finite := by
  intro m g m' g' hpre hagree
  have hq := fun c => reals_of fun i => of_finite (congrFun (hpre c).1 i)
  have hk := fun c => reals_of fun i => of_finite (congrFun (hpre c).2.1 i)
  have hv := fun c => reals_of fun i => of_finite (congrFun (hpre c).2.2.1 i)
  have hg := fun c => reals_of fun i => of_finite (congrFun (hpre c).2.2.2 i)
  choose Q hq using hq
  choose K hk using hk
  choose V hv using hv
  choose G hg using hg
  have h4 := fun c => Cert.AttnFwdIdeal.Blocks.final4 m c (fun b r k => Q c (ix3 b r k)) (fun b r k => K c (ix3 b r k)) (fun b r k => V c (ix3 b r k))
    (fun b r k => G c (ix3 b r k)) (fun _ _ _ => hq c _) (fun _ _ _ => hk c _) (fun _ _ _ => hv c _) (fun _ _ _ => hg c _)
  have h5 := fun c => Cert.AttnFwdIdeal.Blocks.final5 m c (fun b r k => Q c (ix3 b r k)) (fun b r k => K c (ix3 b r k)) (fun b r k => V c (ix3 b r k))
    (fun b r k => G c (ix3 b r k)) (fun _ _ _ => hq c _) (fun _ _ _ => hk c _) (fun _ _ _ => hv c _) (fun _ _ _ => hg c _)
  refine ⟨fun c => Cert.AttnFwdIdeal.Blocks.refO m c, fun c => Cert.AttnFwdIdeal.Blocks.refL m c,
    (θ_run _ _ _).mono (fun _ h c => ⟨(h c).1.trans (h4 c), (h c).2.1.trans (h5 c), (h c).2.2⟩) (Cert.AttnFwdIdeal.Value.run_blocks m g), ?_⟩
  refine (θ_run _ _ _).mono (fun _ h c => ?_) (Cert.AttnFwdRefIdeal.Value.run (F := Ideal) m' g')
  refine ⟨(h c).1.trans ?_, (h c).2.1.trans ?_, (h c).2.2⟩
  · rw [Cert.AttnFwdRefIdeal.Read.val_main_v38_eq, (hagree c).1, (hagree c).2.1, (hagree c).2.2.1, (hagree c).2.2.2]
  · rw [Cert.AttnFwdRefIdeal.Read.val_main_v62_eq, (hagree c).1, (hagree c).2.1, (hagree c).2.2.2]

end Cert.Proof.AttnFwd

end
-- ==== Proof.ForgetFwdMath.lean ====
/- The sums from the start of the sequence to a position: what the forward kernel's doubling steps compute, and the
   reference's windows; the logarithm of the sigmoid, in the form each program computes it. -/
module

public import proofs.«01_k».proof.Proof.ForgetMath
public import proofs.«01_k».proof.Proof.Gen.ForgetFwdIdeal.Skeleton
public import proofs.«01_k».proof.Proof.Gen.ForgetFwdRefIdeal.Read

@[expose] public section

set_option maxRecDepth 16384

noncomputable section

open Idealize.ShloMosaic Cert.Reals

namespace Cert.ForgetFwd

open Cert.Forget (soft brow row_lt foldl_sum W sum_window coe_max log_one exp_zero)

/-- The entry `n` places before `r`, zero before the start. -/
def back (a : Fin 2048 → EReal) (r : Fin 2048) (n : ℕ) : EReal := if n ≤ r.val then a ⟨r.val - n, by omega⟩ else 0

/-- The sum of the `k` entries up to `r`. -/
def pre (k : ℕ) (a : Fin 2048 → EReal) (r : Fin 2048) : EReal := ∑ i ∈ Finset.range k, back a r i

theorem pre_one (a : Fin 2048 → EReal) (r : Fin 2048) : pre 1 a r = a r := by simp [pre, back]

theorem back_pre (k : ℕ) (a : Fin 2048 → EReal) (r : Fin 2048) : back (pre k a) r k = ∑ i ∈ Finset.range k, back a r (k + i) := by
  unfold back pre
  by_cases h : k ≤ r.val
  · rw [if_pos h]
    refine Finset.sum_congr rfl fun i _ => ?_
    unfold back
    by_cases h2 : k + i ≤ r.val
    · rw [if_pos h2, if_pos (show i ≤ r.val - k by omega)]
      exact congrArg a (Fin.ext (by show r.val - k - i = r.val - (k + i); omega))
    · rw [if_neg h2, if_neg (show ¬ i ≤ r.val - k by omega)]
  · rw [if_neg h]
    exact (Finset.sum_eq_zero fun i _ => if_neg (by omega)).symm

theorem pre_double (k : ℕ) (a : Fin 2048 → EReal) (r : Fin 2048) : pre (k + k) a r = pre k a r + back (pre k a) r k := by
  rw [back_pre]
  unfold pre
  rw [Finset.sum_range_add]

/-- The logarithm of the sigmoid, as the kernel computes it. -/
def lsg (z : EReal) : EReal := min z 0 - Ideal.log1p (Ideal.exp (0 - max z (-z)))

/-- It is the reference's, at every extended real. -/
theorem lsg_eq (z : EReal) : -(soft (-z)) = lsg z := by
  induction z with
  | bot => simp [soft, lsg, Ideal.log1p, log_one]
  | top => simp [soft, lsg, Ideal.log1p, log_one]
  | coe z =>
    have p : 0 < 1 + Real.exp (-(max z (-z))) := by positivity
    have e : max (z : EReal) (-(z : EReal)) = ((max z (-z) : ℝ) : EReal) := by rw [← EReal.coe_neg, coe_max]
    have e' : max (-(z : EReal)) (- -(z : EReal)) = ((max z (-z) : ℝ) : EReal) := by rw [neg_neg, max_comm, e]
    have em : min (z : EReal) 0 = -(max (-(z : EReal)) 0) := by
      rw [← EReal.coe_zero, ← EReal.coe_neg, coe_max, ← EReal.coe_neg, ← EReal.coe_strictMono.monotone.map_min]
      congr 1
      rw [← neg_zero, max_neg_neg, neg_neg, neg_zero]
    have el : Ideal.log1p (Ideal.exp (-((max z (-z) : ℝ) : EReal))) = ((Real.log (1 + Real.exp (-(max z (-z)))) : ℝ) : EReal) := by
      rw [← EReal.coe_neg, Ideal.exp_coe, Ideal.log1p, ← EReal.coe_one, ← EReal.coe_add, Ideal.log_coe, if_neg (not_le.mpr p)]
    rw [soft, lsg, sub_zero, e', e, em, zero_sub, el, EReal.neg_add (.inr (EReal.coe_ne_top _)) (.inr (EReal.coe_ne_bot _))]

section Kernel
open Cert.ForgetFwdIdeal Cert.ForgetFwdIdeal.Gen

/-- One doubling step: the columns moved right by `s`, zero before the start, added. -/
def step (s : BitVec 32) (x : FVec Ideal S8x2048 .f32) : FVec Ideal S8x2048 .f32 :=
  addf x (select (cmpi .sge (iota .tc S8x2048 32 [1] iota_S8x2048_d1_w32) (broadcast S8x2048 s))
    (dynamicRotate 1 s none x rotates_S8x2048_d1) (broadcast S8x2048 (Scalar.ofBits (F := Ideal) .f32 0x00000000#32)))

theorem step_apply (s : BitVec 32) (hs : s.toNat < 2048) (x : FVec Ideal S8x2048 .f32) (h : Fin 8) (r : Fin 2048) :
    step s x (ix2 h r) = (x (ix2 h r) : EReal) + back (fun r => x (ix2 h r)) r s.toNat := by
  have hr := r.isLt
  pointwise [step]
  rw [Choices.select_sge r.val s (by omega) (by omega)]
  congr 1
  unfold back
  by_cases g : s.toNat ≤ r.val
  · rw [if_pos g, if_pos g]
    refine congrArg x (funext fun b => Fin.ext ?_)
    fin_cases b
    · rfl
    · show (r.val + 2048 - s.toNat % 2048) % 2048 = r.val - s.toNat
      omega
  · rw [if_neg g, if_neg g]

theorem step_pre (s : BitVec 32) (k : ℕ) (hs : s.toNat = k) (hk : k < 2048) (x : FVec Ideal S8x2048 .f32) (h : Fin 8)
    (a : Fin 2048 → EReal) (hx : ∀ r : Fin 2048, x (ix2 h r) = pre k a r) (r : Fin 2048) : step s x (ix2 h r) = pre (k + k) a r := by
  rw [step_apply s (by omega), hx, pre_double, hs]
  exact congrArg (fun f : Fin 2048 → EReal => pre k a r + back f r k) (funext hx)

/-- The gates' logarithms, transposed. -/
def base (v0 : FVec Ideal S2048x128 .f32) (v2 : FVec Ideal S1x128 .f32) : FVec Ideal S8x2048 .f32 :=
  have v5 : FVec Ideal S2048x128 .f32 := addf (shapeCast S2048x128 v0 shapeCasts_S2048x128_S2048x128)
    (broadcastTo S2048x128 (shapeCast S1x128 v2 shapeCasts_S1x128_S1x128) broadcasts_S1x128_S2048x128)
  have z : FVec Ideal S2048x128 .f32 := broadcast S2048x128 (Scalar.ofBits (F := Ideal) .f32 0x00000000#32)
  extractStridedSlice S8x2048 ![0, 0] (transpose S128x2048 [1, 0] (subf (minimumf v5 z) (log1p (exp (subf z (absf v5))))) transposes_S2048x128_p1_0_S128x2048)
    slices_S128x2048_o0_0_S8x2048

theorem base_apply (v0 : FVec Ideal S2048x128 .f32) (v2 : FVec Ideal S1x128 .f32) (h : Fin 8) (r : Fin 2048) :
    base v0 v2 (ix2 h r) = lsg (v0 (ix2 r ⟨h.val, by omega⟩) + v2 (ix2 0 ⟨h.val, by omega⟩)) := by
  pointwise [base]
  simp only [lsg, zero_sub]
  rfl

/-- Eleven steps: all of the sequence up to a position. -/
def steps (x : FVec Ideal S8x2048 .f32) : FVec Ideal S8x2048 .f32 :=
  step 1024#32 (step 512#32 (step 256#32 (step 128#32 (step 64#32 (step 32#32 (step 16#32 (step 8#32 (step 4#32 (step 2#32 (step 1#32 x))))))))))

theorem steps_apply (x : FVec Ideal S8x2048 .f32) (h : Fin 8) (r : Fin 2048) : steps x (ix2 h r) = pre 2048 (fun r => x (ix2 h r)) r := by
  unfold steps
  refine step_pre _ 1024 rfl (by omega) _ h _ (fun r => ?_) r
  refine step_pre _ 512 rfl (by omega) _ h _ (fun r => ?_) r
  refine step_pre _ 256 rfl (by omega) _ h _ (fun r => ?_) r
  refine step_pre _ 128 rfl (by omega) _ h _ (fun r => ?_) r
  refine step_pre _ 64 rfl (by omega) _ h _ (fun r => ?_) r
  refine step_pre _ 32 rfl (by omega) _ h _ (fun r => ?_) r
  refine step_pre _ 16 rfl (by omega) _ h _ (fun r => ?_) r
  refine step_pre _ 8 rfl (by omega) _ h _ (fun r => ?_) r
  refine step_pre _ 4 rfl (by omega) _ h _ (fun r => ?_) r
  refine step_pre _ 2 rfl (by omega) _ h _ (fun r => ?_) r
  refine step_pre _ 1 rfl (by omega) _ h _ (fun r => ?_) r
  exact (pre_one (fun r => x (ix2 h r)) r).symm

/-- What a point writes. -/
def out (v0 : FVec Ideal S2048x128 .f32) (v2 : FVec Ideal S1x128 .f32) : FVec Ideal S1x8x2048 .f32 :=
  k0_pay1 (F := Ideal) (k0_pay3 (iota .tc S8x2048 32 [1] iota_S8x2048_d1_w32) (k0_pay2 v0 v2)) (k0_pay4 (iota .tc S8x2048 32 [1] iota_S8x2048_d1_w32))
    (k0_pay5 (iota .tc S8x2048 32 [1] iota_S8x2048_d1_w32) (k0_pay2 v0 v2)) (Scalar.ofBits .f32 0x00000000#32)

theorem out_eq (v0 : FVec Ideal S2048x128 .f32) (v2 : FVec Ideal S1x128 .f32) :
    out v0 v2 = shapeCast S1x8x2048 (steps (base v0 v2)) shapeCasts_S8x2048_S1x8x2048 := rfl

theorem out_apply (v0 : FVec Ideal S2048x128 .f32) (v2 : FVec Ideal S1x128 .f32) (h : Fin 8) (r : Fin 2048) :
    out v0 v2 (ix3 0 h r) = pre 2048 (fun r => lsg (v0 (ix2 r ⟨h.val, by omega⟩) + v2 (ix2 0 ⟨h.val, by omega⟩))) r := by
  rw [out_eq]
  pointwise []
  rw [steps_apply]
  simp only [base_apply]

end Kernel

section Reference
open Cert.ForgetFwdRefIdeal Cert.ForgetFwdRefIdeal.Gen Cert.ForgetFwdRefIdeal.Read

variable (x0 : FVec Ideal S8192x8 .f32) (x1 : FVec Ideal S1x8 .f32)

theorem v3_apply (b : Fin 4) (s : Fin 2048) (h : Fin 8) :
    val_main_v3 (F := Ideal) x0 x1 (ix3 b s h) = (x0 (ix2 (brow b s) h) : EReal) + x1 (ix2 0 h) := by
  pointwise [val_main_v3, val_main_v0, val_main_v2, val_main_v1]

theorem v4_apply (b : Fin 4) (s : Fin 2048) (h : Fin 8) :
    val_main_v4 (F := Ideal) x0 x1 (ix3 b s h) = lsg (x0 (ix2 (brow b s) h) + x1 (ix2 0 h)) := by
  rw [← lsg_eq]
  pointwise [val_main_v4, val_main_call0_v1, val_main_call0_call0_v4]
  rw [if_neg (by simp)]
  pointwise [val_main_call0_call0_v11, val_main_call0_call0_v1, val_main_call0_call0_v10, val_main_call0_call0_v9, val_main_call0_call0_v8,
    val_main_call0_call0_v7, val_main_call0_call0_v3, val_main_call0_call0_v2, val_main_call0_call0_v0, val_main_call0_v0, val_main_call0_call0_cst]
  rw [v3_apply]
  unfold soft
  rw [sub_zero]
  rfl

theorem v5_apply (b : Fin 4) (s : Fin 2048) (h : Fin 8) :
    val_main_v5 (F := Ideal) x0 x1 (ix3 b s h) = pre 2048 (fun s => lsg (x0 (ix2 (brow b s) h) + x1 (ix2 0 h))) s := by
  unfold val_main_v5 Host.reduceWindowAdd
  rw [Ideal.hostReduceWindowAdd_def]
  unfold Ideal.hostReduceWindowAdd Host.reduceWindow
  have hz : val_main_call1_call0_v0 (F := Ideal) (Shape.Idx.first h_S_) = (0 : EReal) := by
    pointwise [val_main_call1_call0_v0, val_main_call1_call0_cst]
  dsimp only
  rw [hz, foldl_sum (N := W.numel) (fun n => _), zero_add]
  have key : ∀ w : W.Idx, (if hin : ∀ a : Fin 3, ![0, 2047, 0] a ≤ (ix3 b s h a : ℕ) * ![1, 1, 1] a + (w a).val
      ∧ (ix3 b s h a : ℕ) * ![1, 1, 1] a + (w a).val - ![0, 2047, 0] a < S4x2048x8.size a then
        (val_main_v4 (F := Ideal) x0 x1 (fun a => ⟨(ix3 b s h a : ℕ) * ![1, 1, 1] a + (w a).val - ![0, 2047, 0] a, (hin a).2⟩) : EReal) else 0)
      = back (fun s => lsg (x0 (ix2 (brow b s) h) + x1 (ix2 0 h))) s (2048 - 1 - (w 1).val) := by
    intro w
    have h0 : (w 0).val = 0 := by have := (w 0).isLt; change (w 0).val < 1 at this; omega
    have h2 : (w 2).val = 0 := by have := (w 2).isLt; change (w 2).val < 1 at this; omega
    have h1 : (w 1).val < 2048 := (w 1).isLt
    have hs := s.isLt
    unfold back
    by_cases hin : 2047 - (w 1).val ≤ s.val
    · rw [if_pos (by omega), dif_pos (by
        intro a
        fin_cases a
        · exact ⟨Nat.zero_le _, by show b.val * 1 + (w 0).val - 0 < 4; have := b.isLt; omega⟩
        · exact ⟨by show 2047 ≤ s.val * 1 + (w 1).val; omega, by show s.val * 1 + (w 1).val - 2047 < 2048; omega⟩
        · exact ⟨Nat.zero_le _, by show h.val * 1 + (w 2).val - 0 < 8; have := h.isLt; omega⟩)]
      refine Eq.trans (congrArg (val_main_v4 (F := Ideal) x0 x1) ?_) (v4_apply x0 x1 b ⟨s.val - (2048 - 1 - (w 1).val), by omega⟩ h)
      funext a
      fin_cases a
      · exact Fin.ext (by show b.val * 1 + (w 0).val - 0 = b.val; omega)
      · exact Fin.ext (by show s.val * 1 + (w 1).val - 2047 = s.val - (2048 - 1 - (w 1).val); omega)
      · exact Fin.ext (by show h.val * 1 + (w 2).val - 0 = h.val; omega)
    · rw [if_neg (by omega), dif_neg fun hn => hin (by
        have := (hn 1).1
        change 2047 ≤ s.val * 1 + (w 1).val at this
        omega)]
  refine Eq.trans (Finset.sum_congr rfl fun n _ => ?_) ((Equiv.sum_comp W.rowMajor.symm
    (fun w : W.Idx => back (fun s => lsg (x0 (ix2 (brow b s) h) + x1 (ix2 0 h))) s (2048 - 1 - (w 1).val))).trans ?_)
  · convert key (W.rowMajor.symm n) <;> rfl
  · rw [sum_window]
    refine (Finset.sum_range fun i => back (fun s => lsg (x0 (ix2 (brow b s) h) + x1 (ix2 0 h))) s (2048 - 1 - i)).symm.trans ?_
    exact Finset.sum_range_reflect (back (fun s => lsg (x0 (ix2 (brow b s) h) + x1 (ix2 0 h))) s) 2048

theorem v6_apply (b : Fin 4) (s : Fin 2048) (h : Fin 8) :
    val_main_v6 (F := Ideal) x0 x1 (ix3 b h s) = pre 2048 (fun s => lsg (x0 (ix2 (brow b s) h) + x1 (ix2 0 h))) s := by
  pointwise [val_main_v6]
  exact v5_apply x0 x1 b s h

end Reference

end Cert.ForgetFwd

end
-- ==== Proof.ForgetFwdClaims.lean ====
/- The claims about the gates' forward kernel: it leaves the cumulated logarithms of the reference's lines. -/
module

public import proofs.«01_k».proof.Proof.ForgetFwdMath
public import proofs.«01_k».proof.Proof.Gen.ForgetFwd
public import proofs.«01_k».proof.Proof.Gen.ForgetFwd.Frame
public import proofs.«01_k».proof.Proof.Gen.ForgetFwdIdeal.Frame
public import proofs.«01_k».proof.Proof.Gen.ForgetFwdIdeal.Value
public import proofs.«01_k».proof.Proof.Gen.ForgetFwdRefIdeal.Run
public import proofs.«01_k».proof.Defs

@[expose] public section

set_option maxRecDepth 16384

noncomputable section

open Idealize.ShloMosaic Idealize.ShloMosaic.TcCoe Idealize.SL.Sem Idealize.ShloMosaic.StableHlo Cert.Reals

namespace Cert.ForgetFwdIdeal.Value

open Cert.ForgetFwdIdeal Cert.ForgetFwdIdeal.Gen Cert.ForgetFwd
open Cert.Forget (brow row_lt)

variable (m : (ℓ : Loc nD τ sig) → Buf (Elt Ideal) ℓ) (c : Dev nD)

/-- The logits and the bias of device `c`. -/
abbrev af : FVec Ideal S8192x8 .f32 := m ((c : Thread nD τ).loc main_arg0)
abbrev ab : FVec Ideal S1x8 .f32 := m ((c : Thread nD τ).loc main_arg1)

theorem idx : ∀ t : Fin cfg0.N, win0_0.index t = ![t.val, 0] ∧ win0_1.index t = ![0, 0] ∧ win0_2.index t = ![t.val, 0, 0] ∧ t.val < 4 :=
  (by decide +kernel : ∀ t : Fin grid0.N, _)

/-- The zero the host pads with. -/
def zero : FVec Ideal S_ .f32 := sitofp .f32 (constantI S_ 32 0#32)

theorem V_v0 : V m c main_v0 = pad S8192x256 ![0, 0] ![0, 248] ![0, 0] (af m c) zero pads_S8192x8_S8192x256_000_02480 h_S_ := by
  unfold V
  simp only [hostOps0, hostOps0_1, hostOps0_2, hostOps0_3, List.flatten_cons, List.flatten_nil, List.append_nil, List.cons_append, List.nil_append]
  after_results_simp
  rfl
theorem V_v1 : V m c main_v1 = pad S1x256 ![0, 0] ![0, 248] ![0, 0] (ab m c) zero pads_S1x8_S1x256_000_02480 h_S_ := by
  unfold V
  simp only [hostOps0, hostOps0_1, hostOps0_2, hostOps0_3, List.flatten_cons, List.flatten_nil, List.append_nil, List.cons_append, List.nil_append]
  after_results_simp
  rfl

section Blocks
variable (t : Fin cfg0.N)

/-- The sequence of a point. -/
def tb : Fin 4 := ⟨t.val, (idx t).2.2.2⟩

theorem blk0 (r : Fin 2048) (l : Fin 256) (h : Fin 8) (hl : l.val = h.val) :
    (show FVec Ideal S2048x256 .f32 from iblk m c 0 t) (ix2 r l) = af m c (ix2 (brow (tb t) r) h) := by
  have e : (show FVec Ideal S2048x256 .f32 from iblk m c 0 t) (ix2 r l) = (show FVec Ideal S8192x256 .f32 from V m c main_v0) (ix2 (brow (tb t) r) l) := by
    blk_simp [iblk, idx t]
    refine congrArg (show FVec Ideal S8192x256 .f32 from V m c main_v0) ?_
    blk_ext [idx t]
    all_goals simp only [tb] <;> omega
  rw [e, V_v0]
  have := h.isLt
  pointwise []
  rw [dif_pos ⟨row_lt _ _, by omega⟩]
  exact congrArg (fun n : Fin 8 => af m c (ix2 (brow (tb t) r) n)) (Fin.ext hl)

theorem blk1 (l : Fin 256) (h : Fin 8) (hl : l.val = h.val) :
    (show FVec Ideal S1x256 .f32 from iblk m c 1 t) (ix2 0 l) = ab m c (ix2 0 h) := by
  have e : (show FVec Ideal S1x256 .f32 from iblk m c 1 t) (ix2 0 l) = (show FVec Ideal S1x256 .f32 from V m c main_v1) (ix2 0 l) := by
    blk_simp [iblk, idx t]
    refine congrArg (show FVec Ideal S1x256 .f32 from V m c main_v1) ?_
    blk_ext [idx t]
    all_goals simp only [tb] <;> omega
  rw [e, V_v1]
  have := h.isLt
  pointwise []
  rw [dif_pos (by omega)]
  exact congrArg (fun n : Fin 8 => ab m c (ix2 0 n)) (Fin.ext hl)

end Blocks

theorem ld0 (x : FVec Ideal S2048x256 .f32) (r : Fin 2048) (l : Fin 128) (L : Fin 256) (hl : L.val = l.val) :
    (View.ld (Val := Elt Ideal) (S := S2048x256) (e' := .f32) x (Rect.unit (s := S2048x256) ![0, 0] ![2048, 128] inb_S2048x256_S2048x128_0_0) : FVec Ideal _ .f32) (ix2 r l) = x (ix2 r L) := by
  refine congrArg x (funext fun a => Fin.ext ?_)
  fin_cases a <;> simp [Rect.unit, LoadRect.idx, hl]
theorem ld1 (x : FVec Ideal S1x256 .f32) (l : Fin 128) (L : Fin 256) (hl : L.val = l.val) :
    (View.ld (Val := Elt Ideal) (S := S1x256) (e' := .f32) x (Rect.unit (s := S1x256) ![0, 0] ![1, 128] inb_S1x256_S1x128_0_0) : FVec Ideal _ .f32) (ix2 0 l) = x (ix2 0 L) := by
  refine congrArg x (funext fun a => Fin.ext ?_)
  fin_cases a <;> simp [Rect.unit, LoadRect.idx, hl]

/-- The two operands a point reads. -/
def xB (t : Fin cfg0.N) : FVec Ideal S2048x128 .f32 := View.ld (iblk m c 0 t) (Rect.unit ![0, 0] ![2048, 128] inb_S2048x256_S2048x128_0_0)
def bB (t : Fin cfg0.N) : FVec Ideal S1x128 .f32 := View.ld (iblk m c 1 t) (Rect.unit ![0, 0] ![1, 128] inb_S1x256_S1x128_0_0)

theorem xB_apply (t : Fin cfg0.N) (r : Fin 2048) (h : Fin 8) : xB m c t (ix2 r ⟨h.val, by omega⟩) = af m c (ix2 (brow (tb t) r) h) :=
  (ld0 _ r _ ⟨h.val, by omega⟩ rfl).trans (blk0 m c t r _ h rfl)
theorem bB_apply (t : Fin cfg0.N) (h : Fin 8) : bB m c t (ix2 0 ⟨h.val, by omega⟩) = ab m c (ix2 0 h) :=
  (ld1 _ _ ⟨h.val, by omega⟩ rfl).trans (blk1 m c t _ h rfl)

theorem final : (dats m 0 c).arrAt 2 cfg0.N = Cert.ForgetFwdRefIdeal.Read.val_main_v6 (F := Ideal) (af m c) (ab m c) := by
  refine (dats m 0 c).arrAt_eq_of_covers 2 _ (by decide +kernel) fun t _ y => ?_
  blk_simp
  have key : out (xB m c t) (bB m c t) y
      = Cert.ForgetFwdRefIdeal.Read.val_main_v6 (F := Ideal) (af m c) (ab m c) (((cfg0.win 2).blk t).view.emb y) := by
    obtain ⟨h, r, rfl⟩ : ∃ (h : Fin 8) (r : Fin 2048), y = ix3 0 h r :=
      ⟨y 1, y 2, (eq_ix3 y).trans (congrArg (fun a => (ix3 a (y 1) (y 2) : S1x8x2048.Idx)) (Subsingleton.elim (α := Fin 1) _ _))⟩
    have he : (((cfg0.win 2).blk t).view.emb (ix3 0 h r)) = (ix3 (tb t) h r : S4x8x2048.Idx) := by
      blk_ext [idx t]
      all_goals simp only [tb] <;> omega
    rw [he, v6_apply, out_apply]
    simp only [xB_apply, bB_apply]
  rw [after0_2]
  frame_out
  exact key

end Cert.ForgetFwdIdeal.Value

namespace Cert.Proof.ForgetFwd

theorem frame : Cert.quiescent_ForgetFwd := fun m ρ _ => Cert.ForgetFwd.Gen.frame m ρ
theorem frame_ideal : Cert.quiescent_ForgetFwdIdeal := fun m ρ _ => Cert.ForgetFwdIdeal.Gen.frame m ρ
theorem frame_ref : Cert.quiescent_ForgetFwdRefIdeal := fun m ρ _ =>
  (θ_run Cert.ForgetFwdRefIdeal.defs _ _).mono (fun r h => ⟨fun c => (h c).2, sem_eq_zero_of_no_sems (by decide) r.2⟩)
    (Cert.ForgetFwdRefIdeal.Value.run (F := Ideal) m ρ)
theorem preserves : Cert.preserves_ForgetFwd_ForgetFwdIdeal := trivial

theorem algebraic : Cert.algebraic_ForgetFwdIdeal_ForgetFwdRefIdeal := by
  intro m g m' g' _ hagree
  refine ⟨_, (θ_run _ _ _).mono (fun _ h c => h c) (Cert.ForgetFwdIdeal.Value.run_blocks m g), ?_⟩
  refine (θ_run _ _ _).mono (fun _ h c => ⟨(h c).1.trans ?_, (h c).2⟩) (Cert.ForgetFwdRefIdeal.Value.run (F := Ideal) m' g')
  rw [Cert.ForgetFwdRefIdeal.Read.val_main_v6_eq, (hagree c).1, (hagree c).2]
  exact (Cert.ForgetFwdIdeal.Value.final m c).symm

end Cert.Proof.ForgetFwd

end
-- ==== Proof.ConvFwdClaims.lean ====
/- The claims about the convolution mix's forward kernel: lane by lane it is the reference's three-tap convolution and gate. -/
module

public import proofs.«01_k».proof.Proof.ConvBwdValue
public import proofs.«01_k».proof.Proof.Gen.ConvFwd
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Defs

@[expose] public section

set_option maxRecDepth 16384

noncomputable section

open Idealize.ShloMosaic Idealize.ShloMosaic.TcCoe Idealize.SL.Sem Idealize.ShloMosaic.StableHlo Cert.Reals

namespace Cert.ConvFwdIdeal.Value

open Cert.ConvFwdIdeal Cert.ConvFwdIdeal.Gen Cert.Conv Cert.Shift
open Cert.AttnBwdIdeal.Host (brow pl pcol row_div row_mod)
open Cert.ConvBwdIdeal.Value (packed packed_at lane ldA ldB ldC)

theorem mix_eq (v0 v3 v6 : B) (w : FVec Ideal S3x128 .f32) : k0_pay1 (F := Ideal) v0 v3 v6 w
    = truncf .bf16 (mulf (F := Ideal) (φ := .f32) (Cert.ConvBwdIdeal.Gen.k0_pay7 (F := Ideal) v0)
      (addf (F := Ideal) (φ := .f32) (addf (F := Ideal) (φ := .f32) (mulf (F := Ideal) (φ := .f32) (row2 w) (Cert.ConvBwdIdeal.Gen.k0_pay6 v3 v6))
        (mulf (F := Ideal) (φ := .f32) (row0 w) (dn2 (Cert.ConvBwdIdeal.Gen.k0_pay6 v3 v6))))
      (mulf (F := Ideal) (φ := .f32) (row1 w) (dn1 (Cert.ConvBwdIdeal.Gen.k0_pay6 v3 v6))))) bitsLt_bf16_f32 := rfl

theorem mix_at (v0 v3 v6 : B) (w : FVec Ideal S3x128 .f32) (r : Fin 2048) (l : Fin 128) : k0_pay1 (F := Ideal) v0 v3 v6 w (ix2 r l)
    = (v0 (ix2 r l) * cv (fun j => w (ix2 j l)) (fun r => (v3 (ix2 r l) * v6 (ix2 r l) : EReal)) r : EReal) :=
  (congrFun (mix_eq v0 v3 v6 w) (ix2 r l)).trans (pay12_apply w v3 v6 v0 r l)

theorem conv_eq (x1 x2 : FVec Ideal S4x2048x512 .f32) (x3 : FVec Ideal S3x512 .f32) : Cert.ConvFwdRefIdeal.Read.val_main_v22 (F := Ideal) x1 x2 x3
    = Cert.ConvBwdRefIdeal.Read.val_main_v23 (F := Ideal) x1 x2 x3 := rfl

theorem ref_at (x0 x1 x2 : FVec Ideal S4x2048x512 .f32) (x3 : FVec Ideal S3x512 .f32) (b : Fin 4) (r : Fin 2048) (c : Fin 512) :
    Cert.ConvFwdRefIdeal.Read.val_main_v25 (F := Ideal) x0 x1 x2 x3 (ix2 (brow b r) c)
      = (x0 (ix3 b r c) * cv (wc x3 c) (zc x1 x2 b c) r : EReal) := by
  have e : Cert.ConvFwdRefIdeal.Read.val_main_v25 (F := Ideal) x0 x1 x2 x3 (ix2 (brow b r) c)
      = Cert.ConvFwdRefIdeal.Read.val_main_v23 (F := Ideal) x0 x1 x2 x3 (ix3 b r c) := by
    open Cert.ConvFwdRefIdeal.Read in
    pointwise [val_main_v25, val_main_v24]
    simp only [row_div, row_mod]
  rw [e, ← v23_apply, ← conv_eq]
  rfl

variable (m : (ℓ : Loc nD τ sig) → Buf (Elt Ideal) ℓ) (c : Dev nD)

/-- The four argument arrays of device `c`. -/
abbrev ab : FVec Ideal S4x2048x512 .f32 := m ((c : Thread nD τ).loc main_arg0)
abbrev ac : FVec Ideal S4x2048x512 .f32 := m ((c : Thread nD τ).loc main_arg1)
abbrev ai : FVec Ideal S4x2048x512 .f32 := m ((c : Thread nD τ).loc main_arg2)
abbrev aw : FVec Ideal S3x512 .f32 := m ((c : Thread nD τ).loc main_arg3)

theorem idx : ∀ t : Fin cfg0.N, win0_0.index t = ![t.val / 4, t.val % 4] ∧ win0_1.index t = ![0, t.val % 4] ∧ win0_2.index t = ![t.val / 4, t.val % 4] ∧ t.val < 16 :=
  (by decide +kernel : ∀ t : Fin grid0.N, _)

theorem V_packed : V m c main_v5 = packed (ab m c) (ac m c) (ai m c) := by
  unfold V
  simp only [hostOps0, List.flatten_cons, List.flatten_nil, List.append_nil, List.cons_append, List.nil_append]
  after_results_simp
  rfl

section Blocks
variable (t : Fin cfg0.N)

def tb : Fin 4 := ⟨t.val / 4, by have := (idx t).2.2.2; omega⟩
def tg : Fin 4 := ⟨t.val % 4, by omega⟩

theorem blk0 (r : Fin 2048) (a : Fin 3) (l : Fin 128) : (show FVec Ideal S2048x384 .bf16 from iblk m c 0 t) (ix2 r (lane a l))
    = (![ab m c, ac m c, ai m c] a) (ix3 (tb t) r (pl (tg t) l)) := by
  have e : (show FVec Ideal S2048x384 .bf16 from iblk m c 0 t) (ix2 r (lane a l)) = (show FVec Ideal S8192x1536 .bf16 from V m c main_v5) (ix2 (brow (tb t) r) (pcol (tg t) a l)) := by
    blk_simp [iblk, idx t]
    refine congrArg (show FVec Ideal S8192x1536 .bf16 from V m c main_v5) ?_
    blk_ext [idx t]
    all_goals simp only [tb, tg, brow, pcol, lane] <;> omega
  rw [e]
  exact (congrFun (V_packed m c) _).trans (packed_at _ _ _ _ _ _ _ _)

theorem blk1 (j : Fin 3) (l : Fin 128) : (show FVec Ideal S3x128 .f32 from iblk m c 1 t) (ix2 j l) = aw m c (ix2 j (pl (tg t) l)) := by
  blk_point [iblk, V, idx t]
  all_goals simp only [tb, tg, pl] <;> omega

/-- The three operands a point reads out of its packed block. -/
def cbB : FVec Ideal S2048x128 .bf16 := View.ld (iblk m c 0 t) (Rect.unit ![0, 0] ![2048, 128] inb_S2048x384_S2048x128_0_0)
def ccB : FVec Ideal S2048x128 .bf16 := View.ld (iblk m c 0 t) (Rect.unit ![0, 128] ![2048, 128] inb_S2048x384_S2048x128_0_128)
def ciB : FVec Ideal S2048x128 .bf16 := View.ld (iblk m c 0 t) (Rect.unit ![0, 256] ![2048, 128] inb_S2048x384_S2048x128_0_256)

theorem cbB_apply (r : Fin 2048) (l : Fin 128) : cbB m c t (ix2 r l) = ab m c (ix3 (tb t) r (pl (tg t) l)) := (ldA _ r l).trans (blk0 m c t r 0 l)
theorem ccB_apply (r : Fin 2048) (l : Fin 128) : ccB m c t (ix2 r l) = ac m c (ix3 (tb t) r (pl (tg t) l)) := (ldB _ r l).trans (blk0 m c t r 1 l)
theorem ciB_apply (r : Fin 2048) (l : Fin 128) : ciB m c t (ix2 r l) = ai m c (ix3 (tb t) r (pl (tg t) l)) := (ldC _ r l).trans (blk0 m c t r 2 l)

theorem out_apply (r : Fin 2048) (l : Fin 128) : k0_pay1 (F := Ideal) (cbB m c t) (ccB m c t) (ciB m c t) (iblk m c 1 t) (ix2 r l)
    = (ab m c (ix3 (tb t) r (pl (tg t) l)) * cv (wc (aw m c) (pl (tg t) l)) (zc (ac m c) (ai m c) (tb t) (pl (tg t) l)) r : EReal) := by
  refine (mix_at _ _ _ _ r l).trans ?_
  refine congrArg₂ (fun a b : EReal => a * b) (cbB_apply m c t r l) (congrFun (congrArg₂ cv (funext fun j => blk1 m c t j l) (funext fun r => ?_)) r)
  rw [ccB_apply, ciB_apply]; rfl

end Blocks

theorem final : (dats m 0 c).arrAt 2 cfg0.N = Cert.ConvFwdRefIdeal.Read.val_main_v25 (F := Ideal) (ab m c) (ac m c) (ai m c) (aw m c) := by
  refine (dats m 0 c).arrAt_eq_of_covers 2 _ (by decide +kernel) fun t _ y => ?_
  blk_simp
  have key : k0_pay1 (F := Ideal) (cbB m c t) (ccB m c t) (ciB m c t) (iblk m c 1 t) y
      = Cert.ConvFwdRefIdeal.Read.val_main_v25 (F := Ideal) (ab m c) (ac m c) (ai m c) (aw m c) (((cfg0.win 2).blk t).view.emb y) := by
    obtain ⟨r, l, rfl⟩ : ∃ (r : Fin 2048) (l : Fin 128), y = ix2 r l := ⟨y 0, y 1, eq_ix2 y⟩
    have he : (((cfg0.win 2).blk t).view.emb (ix2 r l)) = (ix2 (brow (tb t) r) (pl (tg t) l) : S8192x512.Idx) := by
      blk_ext [idx t]
      all_goals simp only [tb, tg, brow, pl] <;> omega
    rw [he, ref_at]
    exact out_apply m c t r l
  rw [after0_2]
  frame_out
  exact key

end Cert.ConvFwdIdeal.Value

namespace Cert.Proof.ConvFwd

theorem frame : Cert.quiescent_ConvFwd := fun m ρ _ => Cert.ConvFwd.Gen.frame m ρ
theorem frame_ideal : Cert.quiescent_ConvFwdIdeal := fun m ρ _ => Cert.ConvFwdIdeal.Gen.frame m ρ
theorem frame_ref : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)
theorem preserves : Cert.preserves_ConvFwd_ConvFwdIdeal := trivial

theorem algebraic : Cert.algebraic_ConvFwdIdeal_ConvFwdRefIdeal := by
  intro m g m' g' _ hagree
  refine ⟨_, (θ_run _ _ _).mono (fun _ h c => h c) (Cert.ConvFwdIdeal.Value.run_blocks m g), ?_⟩
  refine (θ_run _ _ _).mono (fun _ h c => ⟨(h c).1.trans ?_, (h c).2⟩) (Cert.ConvFwdRefIdeal.Value.run (F := Ideal) m' g')
  rw [Cert.ConvFwdRefIdeal.Read.val_main_v25_eq, (hagree c).1, (hagree c).2.1, (hagree c).2.2.1, (hagree c).2.2.2]
  exact (Cert.ConvFwdIdeal.Value.final m c).symm

end Cert.Proof.ConvFwd

end
-- ==== Proof.RmsFwdClaims.lean ====
/- The claims about the root-mean-square norm's forward kernel: block by block it is the reference's own line. -/
module

public import proofs.«01_k».proof.Proof.Reals
public import proofs.«01_k».proof.Proof.Gen.RmsFwd
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Defs

@[expose] public section

set_option maxRecDepth 16384

noncomputable section

open Idealize.ShloMosaic Idealize.ShloMosaic.TcCoe Idealize.SL.Sem Cert.Reals

namespace Cert.RmsFwdIdeal.Value

open Cert.RmsFwdIdeal Cert.RmsFwdIdeal.Gen

/-- An entry of the normed row. -/
def entry (x g : Fin 1024 → EReal) (k : Fin 1024) : EReal :=
  x k * Ideal.rsqrt (Ideal.div (∑ j, x j * x j) (Ideal.ofBits .f32 0x44800000#32) + Ideal.ofBits .f32 0x358637BD#32) * g k

theorem pay_at (x : FVec Ideal S512x1024 .f32) (g : FVec Ideal S1x1024 .f32) (r : Fin 512) (k : Fin 1024) :
    k0_pay1 (F := Ideal) x g (ix2 r k) = entry (fun j => x (ix2 r j)) (fun j => g (ix2 0 j)) k := by
  pointwise [k0_pay1]
  rfl

theorem ref_at (x : FVec Ideal S8192x1024 .f32) (g : FVec Ideal S1x1024 .f32) (r : Fin 8192) (k : Fin 1024) :
    Cert.RmsFwdRefIdeal.Read.val_main_v12 (F := Ideal) x g (ix2 r k) = entry (fun j => x (ix2 r j)) (fun j => g (ix2 0 j)) k := by
  open Cert.RmsFwdRefIdeal.Read in
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

variable (m : (ℓ : Loc nD τ sig) → Buf (Elt Ideal) ℓ) (c : Dev nD)

abbrev ax : FVec Ideal S8192x1024 .f32 := m ((c : Thread nD τ).loc main_arg0)
abbrev ag : FVec Ideal S1x1024 .f32 := m ((c : Thread nD τ).loc main_arg1)

theorem idx : ∀ t : Fin cfg0.N, win0_0.index t = ![t.val, 0] ∧ win0_1.index t = ![0, 0] ∧ win0_2.index t = ![t.val, 0] ∧ t.val < 16 :=
  (by decide +kernel : ∀ t : Fin grid0.N, _)

/-- Row `r` of point `t`'s blocks is row `512 t + r` of the arrays. -/
abbrev row (t : Fin cfg0.N) (r : Fin 512) : Fin 8192 := ⟨t.val * 512 + r.val, by have := (idx t).2.2.2; omega⟩

theorem blk0 (t : Fin cfg0.N) (r : Fin 512) (k : Fin 1024) : (show FVec Ideal S512x1024 .f32 from iblk m c 0 t) (ix2 r k) = ax m c (ix2 (row t r) k) := by
  blk_point [iblk, V, idx t]
theorem blk1 (t : Fin cfg0.N) (k : Fin 1024) : (show FVec Ideal S1x1024 .f32 from iblk m c 1 t) (ix2 0 k) = ag m c (ix2 0 k) := by
  blk_point [iblk, V, idx t]

theorem final : (dats m 0 c).arrAt 2 cfg0.N = Cert.RmsFwdRefIdeal.Read.val_main_v12 (F := Ideal) (ax m c) (ag m c) := by
  refine (dats m 0 c).arrAt_eq_of_covers 2 _ (by decide +kernel) fun t _ y => ?_
  blk_simp
  have key : k0_pay1 (F := Ideal) (iblk m c 0 t) (iblk m c 1 t) y
      = Cert.RmsFwdRefIdeal.Read.val_main_v12 (F := Ideal) (ax m c) (ag m c) (((cfg0.win 2).blk t).view.emb y) := by
    obtain ⟨r, k, rfl⟩ : ∃ (r : Fin 512) (k : Fin 1024), y = ix2 r k := ⟨y 0, y 1, eq_ix2 y⟩
    have he : (((cfg0.win 2).blk t).view.emb (ix2 r k)) = (ix2 (row t r) k : S8192x1024.Idx) := by blk_ext [idx t]
    rw [he, ref_at]
    refine (pay_at _ _ r k).trans ?_
    exact congrArg₂ (fun x g => entry x g k) (funext fun j => blk0 m c t r j) (funext fun j => blk1 m c t j)
  rw [after0_2]
  frame_out
  exact key

end Cert.RmsFwdIdeal.Value

namespace Cert.Proof.RmsFwd

theorem frame : Cert.quiescent_RmsFwd := fun m ρ _ => Cert.RmsFwd.Gen.frame m ρ
theorem frame_ideal : Cert.quiescent_RmsFwdIdeal := fun m ρ _ => Cert.RmsFwdIdeal.Gen.frame m ρ
theorem frame_ref : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)
theorem preserves : Cert.preserves_RmsFwd_RmsFwdIdeal := trivial

theorem algebraic : Cert.algebraic_RmsFwdIdeal_RmsFwdRefIdeal := by
  intro m g m' g' _ hagree
  refine ⟨_, (θ_run _ _ _).mono (fun _ h c => h c) (Cert.RmsFwdIdeal.Value.run_blocks m g), ?_⟩
  refine (θ_run _ _ _).mono (fun _ h c => ⟨(h c).1.trans ?_, (h c).2⟩) (Cert.RmsFwdRefIdeal.Value.run (F := Ideal) m' g')
  rw [Cert.RmsFwdRefIdeal.Read.val_main_v12_eq, (hagree c).1, (hagree c).2]
  exact (Cert.RmsFwdIdeal.Value.final m c).symm

end Cert.Proof.RmsFwd

end
-- ==== Proof.MmClaims.lean ====
/- The claims about the plain product at its largest shape: block by block it is the product of the reference. -/
module

public import proofs.«01_k».proof.Proof.Reals
public import proofs.«01_k».proof.Proof.Gen.Mm
public import proofs.«01_k».proof.Proof.Gen.Mm.Frame
public import proofs.«01_k».proof.Proof.Gen.MmIdeal.Frame
public import proofs.«01_k».proof.Proof.Gen.MmIdeal.Value
public import proofs.«01_k».proof.Proof.Gen.MmRefIdeal.Run
public import proofs.«01_k».proof.Proof.Gen.MmRefIdeal.Read
public import proofs.«01_k».proof.Defs

@[expose] public section

set_option maxRecDepth 16384

noncomputable section

open Idealize.ShloMosaic Idealize.ShloMosaic.TcCoe Idealize.SL.Sem Cert.Reals

namespace Cert.MmIdeal.Value

open Cert.MmIdeal Cert.MmIdeal.Gen

theorem pay_at (a : FVec Ideal S8192x256 .bf16) (b : FVec Ideal S8192x1024 .bf16) (r : Fin 256) (k : Fin 1024) :
    k0_pay1 (F := Ideal) a b (ix2 r k) = ∑ j : Fin 8192, a (ix2 j r) * b (ix2 j k) := by
  pointwise [k0_pay1]

theorem ref_at (a : FVec Ideal S8192x5376 .f32) (b : FVec Ideal S8192x1024 .f32) (r : Fin 5376) (k : Fin 1024) :
    Cert.MmRefIdeal.Read.val_main_v5 (F := Ideal) a b (ix2 r k) = ∑ j : Fin 8192, a (ix2 j r) * b (ix2 j k) := by
  open Cert.MmRefIdeal.Read in
  pointwise [val_main_v5, val_main_v4, val_main_v3]

variable (m : (ℓ : Loc nD τ sig) → Buf (Elt Ideal) ℓ) (c : Dev nD)

abbrev aa : FVec Ideal S8192x5376 .f32 := m ((c : Thread nD τ).loc main_arg0)
abbrev ab : FVec Ideal S8192x1024 .f32 := m ((c : Thread nD τ).loc main_arg1)

theorem idx : ∀ t : Fin cfg0.N, win0_0.index t = ![0, t.val] ∧ win0_1.index t = ![0, 0] ∧ win0_2.index t = ![t.val, 0] ∧ t.val < 21 :=
  (by decide +kernel : ∀ t : Fin grid0.N, _)

theorem V0 : V m c main_v0 = truncf (F := Ideal) .bf16 (aa m c) bitsLt_bf16_f32 := by
  unfold V
  simp only [hostOps0, List.flatten_cons, List.flatten_nil, List.append_nil, List.cons_append, List.nil_append]
  after_results_simp
theorem V1 : V m c main_v1 = truncf (F := Ideal) .bf16 (ab m c) bitsLt_bf16_f32 := by
  unfold V
  simp only [hostOps0, List.flatten_cons, List.flatten_nil, List.append_nil, List.cons_append, List.nil_append]
  after_results_simp

/-- Row `r` of point `t`'s block is row `256 t + r` of the product. -/
abbrev row (t : Fin cfg0.N) (r : Fin 256) : Fin 5376 := ⟨t.val * 256 + r.val, by have := (idx t).2.2.2; omega⟩

theorem blk0 (t : Fin cfg0.N) (j : Fin 8192) (r : Fin 256) : (show FVec Ideal S8192x256 .bf16 from iblk m c 0 t) (ix2 j r) = aa m c (ix2 j (row t r)) := by
  have e : (show FVec Ideal S8192x256 .bf16 from iblk m c 0 t) (ix2 j r) = (show FVec Ideal S8192x5376 .bf16 from V m c main_v0) (ix2 j (row t r)) := by
    blk_simp [iblk, idx t]
    refine congrArg (show FVec Ideal S8192x5376 .bf16 from V m c main_v0) ?_
    blk_ext [idx t]
  exact e.trans (congrFun (V0 m c) _)
theorem blk1 (t : Fin cfg0.N) (j : Fin 8192) (k : Fin 1024) : (show FVec Ideal S8192x1024 .bf16 from iblk m c 1 t) (ix2 j k) = ab m c (ix2 j k) := by
  have e : (show FVec Ideal S8192x1024 .bf16 from iblk m c 1 t) (ix2 j k) = (show FVec Ideal S8192x1024 .bf16 from V m c main_v1) (ix2 j k) := by
    blk_simp [iblk, idx t]
    refine congrArg (show FVec Ideal S8192x1024 .bf16 from V m c main_v1) ?_
    blk_ext [idx t]
  exact e.trans (congrFun (V1 m c) _)

theorem whole2 : (dats m 0 c).arrAt 2 cfg0.N = Cert.MmRefIdeal.Read.val_main_v5 (F := Ideal) (aa m c) (ab m c) := by
  refine (dats m 0 c).arrAt_eq_of_covers 2 _ (by decide +kernel) fun t _ y => ?_
  blk_simp
  have key : k0_pay1 (F := Ideal) (iblk m c 0 t) (iblk m c 1 t) y
      = Cert.MmRefIdeal.Read.val_main_v5 (F := Ideal) (aa m c) (ab m c) (((cfg0.win 2).blk t).view.emb y) := by
    obtain ⟨r, k, rfl⟩ : ∃ (r : Fin 256) (k : Fin 1024), y = ix2 r k := ⟨y 0, y 1, eq_ix2 y⟩
    have he : (((cfg0.win 2).blk t).view.emb (ix2 r k)) = (ix2 (row t r) k : S5376x1024.Idx) := by blk_ext [idx t]
    rw [he, ref_at]
    refine (pay_at _ _ r k).trans (Finset.sum_congr rfl fun j _ => ?_)
    exact congrArg₂ (fun a b : EReal => a * b) (blk0 m c t j r) (blk1 m c t j k)
  rw [after0_2]
  frame_out
  exact key

end Cert.MmIdeal.Value

namespace Cert.Proof.Mm

theorem frame : Cert.quiescent_Mm := fun m ρ _ => Cert.Mm.Gen.frame m ρ
theorem frame_ideal : Cert.quiescent_MmIdeal := fun m ρ _ => Cert.MmIdeal.Gen.frame m ρ
theorem frame_ref : Cert.quiescent_MmRefIdeal := fun m ρ _ =>
  (θ_run Cert.MmRefIdeal.defs _ _).mono (fun r h => ⟨fun c => (h c).2, sem_eq_zero_of_no_sems (by decide) r.2⟩)
    (Cert.MmRefIdeal.Value.run (F := Ideal) m ρ)
theorem preserves : Cert.preserves_Mm_MmIdeal := trivial

theorem algebraic : Cert.algebraic_MmIdeal_MmRefIdeal := by
  intro m g m' g' _ hagree
  refine ⟨_, (θ_run _ _ _).mono (fun _ h c => h c) (Cert.MmIdeal.Value.run_blocks m g), ?_⟩
  refine (θ_run _ _ _).mono (fun _ h c => ⟨(h c).1.trans ?_, (h c).2⟩) (Cert.MmRefIdeal.Value.run (F := Ideal) m' g')
  · rw [Cert.MmRefIdeal.Read.val_main_v5_eq, (hagree c).1, (hagree c).2]
    exact (Cert.MmIdeal.Value.whole2 m c).symm

end Cert.Proof.Mm

end
-- ==== Proof.BranchOutClaims.lean ====
/- The claims about the two branches' output products. -/
module

public import proofs.«01_k».proof.Proof.Reals
public import proofs.«01_k».proof.Proof.Gen.BranchOut
public import proofs.«01_k».proof.Proof.Gen.BranchOut.Frame
public import proofs.«01_k».proof.Proof.Gen.BranchOutIdeal.Frame
public import proofs.«01_k».proof.Proof.Gen.BranchOutIdeal.Value
public import proofs.«01_k».proof.Proof.Gen.BranchOutRefIdeal.Run
public import proofs.«01_k».proof.Proof.Gen.BranchOutRefIdeal.Read
public import proofs.«01_k».proof.Defs

@[expose] public section

set_option maxRecDepth 16384

noncomputable section

open Idealize.ShloMosaic Idealize.ShloMosaic.TcCoe Idealize.SL.Sem Cert.Reals

namespace Cert.BranchOutIdeal.Value

open Cert.BranchOutIdeal Cert.BranchOutIdeal.Gen

theorem pay1_at (a : FVec Ideal S1024x512 .bf16) (b : FVec Ideal S512x1024 .bf16) (r k : Fin 1024) :
    k0_pay1 (F := Ideal) a b (ix2 r k) = ∑ j : Fin 512, a (ix2 r j) * b (ix2 j k) := by
  pointwise [k0_pay1]
theorem pay2_at (a : FVec Ideal S1024x512 .bf16) (b : FVec Ideal S512x1024 .bf16) (r k : Fin 1024) :
    k0_pay2 (F := Ideal) a b (ix2 r k) = ∑ j : Fin 512, a (ix2 r j) * b (ix2 j k) := by
  pointwise [k0_pay2]

/-- Column `k` of half `h`. -/
abbrev col (h : Fin 2) (k : Fin 1024) : Fin 2048 := ⟨1024 * h.val + k.val, by omega⟩

/-- The two branches' products side by side. -/
theorem ref_at (a : FVec Ideal S8192x512 .f32) (b : FVec Ideal S512x1024 .f32) (d : FVec Ideal S8192x512 .f32) (e : FVec Ideal S512x1024 .f32)
    (r : Fin 8192) (h : Fin 2) (k : Fin 1024) :
    Cert.BranchOutRefIdeal.Read.val_main_v3 (F := Ideal) a b d e (ix2 r (col h k))
      = ∑ j : Fin 512, (![a, d] h) (ix2 r j) * (![b, e] h) (ix2 j k) := by
  open Cert.BranchOutRefIdeal.Read in
  fin_cases h
  · pointwise [val_main_v3, val_main_v2, val_main_v1, val_main_v0]
  · pointwise [val_main_v3, val_main_v2, val_main_v1, val_main_v0]

/-- Two stores side by side, read at a column of one of them. -/
theorem parts (A B : FVec Ideal S1024x1024 .bf16) (r : Fin 1024) (h : Fin 2) (k : Fin 1024) :
    View.canon (Val := Elt Ideal) (s := S1024x2048) (e := .bf16) [⟨r0_3, B⟩, ⟨r0_2, A⟩] (ix2 r (col h k)) = (![A, B] h) (ix2 r k) := by
  have hk := k.isLt
  fin_cases h
  · have e : r0_2.emb (ix2 r k) = ix2 r (col 0 k) := by
      funext a; refine Fin.ext ?_; fin_cases a <;> simp [col]
    refine (View.canon_cons_of_not_mem _ _ ?_).trans ?_
    · rw [Rect.mem_set_unit]
      intro hh
      have h1 := hh 1
      simp [col] at h1
      omega
    · exact (congrArg _ e.symm).trans (View.canon_cons_emb (Val := Elt Ideal) (e := .bf16) r0_2 A [] (ix2 r k))
  · have e : r0_3.emb (ix2 r k) = ix2 r (col 1 k) := by
      funext a; refine Fin.ext ?_; fin_cases a <;> simp [col]
    exact (congrArg _ e.symm).trans (View.canon_cons_emb (Val := Elt Ideal) (e := .bf16) r0_3 B [⟨r0_2, A⟩] (ix2 r k))

variable (m : (ℓ : Loc nD τ sig) → Buf (Elt Ideal) ℓ) (c : Dev nD)

abbrev aa : FVec Ideal S8192x512 .f32 := m ((c : Thread nD τ).loc main_arg0)
abbrev ab : FVec Ideal S512x1024 .f32 := m ((c : Thread nD τ).loc main_arg1)
abbrev ad : FVec Ideal S8192x512 .f32 := m ((c : Thread nD τ).loc main_arg2)
abbrev ae : FVec Ideal S512x1024 .f32 := m ((c : Thread nD τ).loc main_arg3)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ t.val < 8 :=
  (by decide +kernel : ∀ t : Fin grid0.N, _)

theorem V0 : V m c main_v0 = truncf (F := Ideal) .bf16 (aa m c) bitsLt_bf16_f32 := by
  unfold V
  simp only [hostOps0, List.flatten_cons, List.flatten_nil, List.append_nil, List.cons_append, List.nil_append]
  after_results_simp

theorem V1 : V m c main_v1 = truncf (F := Ideal) .bf16 (ab m c) bitsLt_bf16_f32 := by
  unfold V
  simp only [hostOps0, List.flatten_cons, List.flatten_nil, List.append_nil, List.cons_append, List.nil_append]
  after_results_simp

theorem V2 : V m c main_v2 = truncf (F := Ideal) .bf16 (ad m c) bitsLt_bf16_f32 := by
  unfold V
  simp only [hostOps0, List.flatten_cons, List.flatten_nil, List.append_nil, List.cons_append, List.nil_append]
  after_results_simp

theorem V3 : V m c main_v3 = truncf (F := Ideal) .bf16 (ae m c) bitsLt_bf16_f32 := by
  unfold V
  simp only [hostOps0, List.flatten_cons, List.flatten_nil, List.append_nil, List.cons_append, List.nil_append]
  after_results_simp

/-- Row `r` of point `t`'s block is row `1024 t + r` of the array. -/
abbrev row (t : Fin cfg0.N) (r : Fin 1024) : Fin 8192 := ⟨t.val * 1024 + r.val, by have := (idx t).2.2.2.2.2; omega⟩

theorem blk0 (t : Fin cfg0.N) (i : Fin 1024) (j : Fin 512) : (show FVec Ideal S1024x512 .bf16 from iblk m c 0 t) (ix2 i j) = aa m c (ix2 (row t i) j) := by
  have e : (show FVec Ideal S1024x512 .bf16 from iblk m c 0 t) (ix2 i j) = (show FVec Ideal S8192x512 .bf16 from V m c main_v0) (ix2 (row t i) j) := by
    blk_simp [iblk, idx t]
    refine congrArg (show FVec Ideal S8192x512 .bf16 from V m c main_v0) ?_
    blk_ext [idx t]
  exact e.trans (congrFun (V0 m c) _)

theorem blk1 (t : Fin cfg0.N) (i : Fin 512) (j : Fin 1024) : (show FVec Ideal S512x1024 .bf16 from iblk m c 1 t) (ix2 i j) = ab m c (ix2 i j) := by
  have e : (show FVec Ideal S512x1024 .bf16 from iblk m c 1 t) (ix2 i j) = (show FVec Ideal S512x1024 .bf16 from V m c main_v1) (ix2 i j) := by
    blk_simp [iblk, idx t]
    refine congrArg (show FVec Ideal S512x1024 .bf16 from V m c main_v1) ?_
    blk_ext [idx t]
  exact e.trans (congrFun (V1 m c) _)

theorem blk2 (t : Fin cfg0.N) (i : Fin 1024) (j : Fin 512) : (show FVec Ideal S1024x512 .bf16 from iblk m c 2 t) (ix2 i j) = ad m c (ix2 (row t i) j) := by
  have e : (show FVec Ideal S1024x512 .bf16 from iblk m c 2 t) (ix2 i j) = (show FVec Ideal S8192x512 .bf16 from V m c main_v2) (ix2 (row t i) j) := by
    blk_simp [iblk, idx t]
    refine congrArg (show FVec Ideal S8192x512 .bf16 from V m c main_v2) ?_
    blk_ext [idx t]
  exact e.trans (congrFun (V2 m c) _)

theorem blk3 (t : Fin cfg0.N) (i : Fin 512) (j : Fin 1024) : (show FVec Ideal S512x1024 .bf16 from iblk m c 3 t) (ix2 i j) = ae m c (ix2 i j) := by
  have e : (show FVec Ideal S512x1024 .bf16 from iblk m c 3 t) (ix2 i j) = (show FVec Ideal S512x1024 .bf16 from V m c main_v3) (ix2 i j) := by
    blk_simp [iblk, idx t]
    refine congrArg (show FVec Ideal S512x1024 .bf16 from V m c main_v3) ?_
    blk_ext [idx t]
  exact e.trans (congrFun (V3 m c) _)

theorem whole4 : (dats m 0 c).arrAt 4 cfg0.N = Cert.BranchOutRefIdeal.Read.val_main_v3 (F := Ideal) (aa m c) (ab m c) (ad m c) (ae m c) := by
  refine (dats m 0 c).arrAt_eq_of_covers 4 _ (by decide +kernel) fun t _ y => ?_
  blk_simp
  obtain ⟨r, y', rfl⟩ : ∃ (r : Fin 1024) (y' : Fin 2048), y = ix2 r y' := ⟨y 0, y 1, eq_ix2 y⟩
  obtain ⟨h, k, rfl⟩ : ∃ (h : Fin 2) (k : Fin 1024), y' = col h k :=
    ⟨⟨y'.val / 1024, by omega⟩, ⟨y'.val % 1024, by omega⟩, Fin.ext (by simp only [col]; omega)⟩
  have key : (![k0_pay1 (F := Ideal) (iblk m c 0 t) (iblk m c 1 t), k0_pay2 (F := Ideal) (iblk m c 2 t) (iblk m c 3 t)] h) (ix2 r k)
      = Cert.BranchOutRefIdeal.Read.val_main_v3 (F := Ideal) (aa m c) (ab m c) (ad m c) (ae m c) (((cfg0.win 4).blk t).view.emb (ix2 r (col h k))) := by
    have he : (((cfg0.win 4).blk t).view.emb (ix2 r (col h k))) = (ix2 (row t r) (col h k) : S8192x2048.Idx) := by blk_ext [idx t]
    rw [he, ref_at]
    fin_cases h
    · exact (pay1_at _ _ r k).trans (Finset.sum_congr rfl fun j _ => congrArg₂ (fun a b : EReal => a * b) (blk0 m c t r j) (blk1 m c t j k))
    · exact (pay2_at _ _ r k).trans (Finset.sum_congr rfl fun j _ => congrArg₂ (fun a b : EReal => a * b) (blk2 m c t r j) (blk3 m c t j k))
  rw [after0_4]
  frame_out
  exact (parts _ _ r h k).trans key

end Cert.BranchOutIdeal.Value

namespace Cert.Proof.BranchOut

theorem frame : Cert.quiescent_BranchOut := fun m ρ _ => Cert.BranchOut.Gen.frame m ρ
theorem frame_ideal : Cert.quiescent_BranchOutIdeal := fun m ρ _ => Cert.BranchOutIdeal.Gen.frame m ρ
theorem frame_ref : Cert.quiescent_BranchOutRefIdeal := fun m ρ _ =>
  (θ_run Cert.BranchOutRefIdeal.defs _ _).mono (fun r h => ⟨fun c => (h c).2, sem_eq_zero_of_no_sems (by decide) r.2⟩)
    (Cert.BranchOutRefIdeal.Value.run (F := Ideal) m ρ)
theorem preserves : Cert.preserves_BranchOut_BranchOutIdeal := trivial

theorem algebraic : Cert.algebraic_BranchOutIdeal_BranchOutRefIdeal := by
  intro m g m' g' _ hagree
  refine ⟨_, (θ_run _ _ _).mono (fun _ h c => h c) (Cert.BranchOutIdeal.Value.run_blocks m g), ?_⟩
  refine (θ_run _ _ _).mono (fun _ h c => ⟨(h c).1.trans ?_, (h c).2⟩) (Cert.BranchOutRefIdeal.Value.run (F := Ideal) m' g')
  · rw [Cert.BranchOutRefIdeal.Read.val_main_v3_eq, (hagree c).1, (hagree c).2.1, (hagree c).2.2.1, (hagree c).2.2.2]
    exact (Cert.BranchOutIdeal.Value.whole4 m c).symm

end Cert.Proof.BranchOut

end
-- ==== Proof.BranchOutBwdClaims.lean ====
/- The claims about the gradients through the branches' output products. -/
module

public import proofs.«01_k».proof.Proof.Reals
public import proofs.«01_k».proof.Proof.Gen.BranchOutBwd
public import proofs.«01_k».proof.Proof.Gen.BranchOutBwd.Frame
public import proofs.«01_k».proof.Proof.Gen.BranchOutBwdIdeal.Frame
public import proofs.«01_k».proof.Proof.Gen.BranchOutBwdIdeal.Value
public import proofs.«01_k».proof.Proof.Gen.BranchOutBwdRefIdeal.Run
public import proofs.«01_k».proof.Proof.Gen.BranchOutBwdRefIdeal.Read
public import proofs.«01_k».proof.Defs

@[expose] public section

set_option maxRecDepth 16384

noncomputable section

open Idealize.ShloMosaic Idealize.ShloMosaic.TcCoe Idealize.SL.Sem Cert.Reals

namespace Cert.BranchOutBwdIdeal.Value

open Cert.BranchOutBwdIdeal Cert.BranchOutBwdIdeal.Gen

theorem pay1_at (a : FVec Ideal S1024x1024 .bf16) (b : FVec Ideal S512x1024 .bf16) (r : Fin 1024) (k : Fin 512) :
    k0_pay1 (F := Ideal) a b (ix2 r k) = ∑ j : Fin 1024, a (ix2 r j) * b (ix2 k j) := by
  pointwise [k0_pay1]

theorem pay2_at (a : FVec Ideal S1024x1024 .bf16) (b : FVec Ideal S512x1024 .bf16) (r : Fin 1024) (k : Fin 512) :
    k0_pay2 (F := Ideal) a b (ix2 r k) = ∑ j : Fin 1024, a (ix2 r j) * b (ix2 k j) := by
  pointwise [k0_pay2]

/-- Column `k` of half `h`. -/
abbrev col (h : Fin 2) (k : Fin 1024) : Fin 2048 := ⟨1024 * h.val + k.val, by omega⟩

theorem ref1_at (d : FVec Ideal S8192x2048 .f32) (w : FVec Ideal S512x1024 .f32) (r : Fin 8192) (k : Fin 512) :
    Cert.BranchOutBwdRefIdeal.Read.val_main_v7 (F := Ideal) d w (ix2 r k) = ∑ j : Fin 1024, d (ix2 r (col 0 j)) * w (ix2 k j) := by
  open Cert.BranchOutBwdRefIdeal.Read in
  pointwise [val_main_v7, val_main_v6, val_main_v3]
  try
    refine Finset.sum_congr rfl fun j _ => congrArg (fun q => d (ix2 r q) * w (ix2 k j)) (Fin.ext ?_)
    simp [col]

theorem ref2_at (d : FVec Ideal S8192x2048 .f32) (w : FVec Ideal S512x1024 .f32) (r : Fin 8192) (k : Fin 512) :
    Cert.BranchOutBwdRefIdeal.Read.val_main_v8 (F := Ideal) d w (ix2 r k) = ∑ j : Fin 1024, d (ix2 r (col 1 j)) * w (ix2 k j) := by
  open Cert.BranchOutBwdRefIdeal.Read in
  pointwise [val_main_v8, val_main_v5, val_main_v4]
  try
    refine Finset.sum_congr rfl fun j _ => congrArg (fun q => d (ix2 r q) * w (ix2 k j)) (Fin.ext ?_)
    simp [col]

theorem ld0 (x : FVec Ideal S1024x2048 .bf16) (r j : Fin 1024) :
    (View.ld (Val := Elt Ideal) (S := S1024x2048) (e' := .bf16) x r0_0 : FVec Ideal S1024x1024 .bf16) (ix2 r j) = x (ix2 r (col 0 j)) := by
  refine congrArg x (funext fun a => Fin.ext ?_)
  fin_cases a <;> simp [Rect.unit, LoadRect.idx, col]

theorem ld1 (x : FVec Ideal S1024x2048 .bf16) (r j : Fin 1024) :
    (View.ld (Val := Elt Ideal) (S := S1024x2048) (e' := .bf16) x r0_3 : FVec Ideal S1024x1024 .bf16) (ix2 r j) = x (ix2 r (col 1 j)) := by
  refine congrArg x (funext fun a => Fin.ext ?_)
  fin_cases a <;> simp [Rect.unit, LoadRect.idx, col]

variable (m : (ℓ : Loc nD τ sig) → Buf (Elt Ideal) ℓ) (c : Dev nD)

abbrev aa : FVec Ideal S8192x2048 .f32 := m ((c : Thread nD τ).loc main_arg0)
abbrev ab : FVec Ideal S512x1024 .f32 := m ((c : Thread nD τ).loc main_arg1)
abbrev ad : FVec Ideal S512x1024 .f32 := m ((c : Thread nD τ).loc main_arg2)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ t.val < 8 :=
  (by decide +kernel : ∀ t : Fin grid0.N, _)

theorem V0 : V m c main_v0 = truncf (F := Ideal) .bf16 (aa m c) bitsLt_bf16_f32 := by
  unfold V
  simp only [hostOps0, List.flatten_cons, List.flatten_nil, List.append_nil, List.cons_append, List.nil_append]
  after_results_simp

theorem V1 : V m c main_v1 = truncf (F := Ideal) .bf16 (ab m c) bitsLt_bf16_f32 := by
  unfold V
  simp only [hostOps0, List.flatten_cons, List.flatten_nil, List.append_nil, List.cons_append, List.nil_append]
  after_results_simp

theorem V2 : V m c main_v2 = truncf (F := Ideal) .bf16 (ad m c) bitsLt_bf16_f32 := by
  unfold V
  simp only [hostOps0, List.flatten_cons, List.flatten_nil, List.append_nil, List.cons_append, List.nil_append]
  after_results_simp

/-- Row `r` of point `t`'s block is row `1024 t + r` of the array. -/
abbrev row (t : Fin cfg0.N) (r : Fin 1024) : Fin 8192 := ⟨t.val * 1024 + r.val, by have := (idx t).2.2.2.2.2; omega⟩

theorem blk0 (t : Fin cfg0.N) (i : Fin 1024) (j : Fin 2048) : (show FVec Ideal S1024x2048 .bf16 from iblk m c 0 t) (ix2 i j) = aa m c (ix2 (row t i) j) := by
  have e : (show FVec Ideal S1024x2048 .bf16 from iblk m c 0 t) (ix2 i j) = (show FVec Ideal S8192x2048 .bf16 from V m c main_v0) (ix2 (row t i) j) := by
    blk_simp [iblk, idx t]
    refine congrArg (show FVec Ideal S8192x2048 .bf16 from V m c main_v0) ?_
    blk_ext [idx t]
  exact e.trans (congrFun (V0 m c) _)

theorem blk1 (t : Fin cfg0.N) (i : Fin 512) (j : Fin 1024) : (show FVec Ideal S512x1024 .bf16 from iblk m c 1 t) (ix2 i j) = ab m c (ix2 i j) := by
  have e : (show FVec Ideal S512x1024 .bf16 from iblk m c 1 t) (ix2 i j) = (show FVec Ideal S512x1024 .bf16 from V m c main_v1) (ix2 i j) := by
    blk_simp [iblk, idx t]
    refine congrArg (show FVec Ideal S512x1024 .bf16 from V m c main_v1) ?_
    blk_ext [idx t]
  exact e.trans (congrFun (V1 m c) _)

theorem blk2 (t : Fin cfg0.N) (i : Fin 512) (j : Fin 1024) : (show FVec Ideal S512x1024 .bf16 from iblk m c 2 t) (ix2 i j) = ad m c (ix2 i j) := by
  have e : (show FVec Ideal S512x1024 .bf16 from iblk m c 2 t) (ix2 i j) = (show FVec Ideal S512x1024 .bf16 from V m c main_v2) (ix2 i j) := by
    blk_simp [iblk, idx t]
    refine congrArg (show FVec Ideal S512x1024 .bf16 from V m c main_v2) ?_
    blk_ext [idx t]
  exact e.trans (congrFun (V2 m c) _)

theorem whole3 : (dats m 0 c).arrAt 3 cfg0.N = Cert.BranchOutBwdRefIdeal.Read.val_main_v7 (F := Ideal) (aa m c) (ab m c) := by
  refine (dats m 0 c).arrAt_eq_of_covers 3 _ (by decide +kernel) fun t _ y => ?_
  blk_simp
  have key : k0_pay1 (F := Ideal) (View.ld (Val := Elt Ideal) (iblk m c 0 t) r0_0) (iblk m c 1 t) y
      = Cert.BranchOutBwdRefIdeal.Read.val_main_v7 (F := Ideal) (aa m c) (ab m c) (((cfg0.win 3).blk t).view.emb y) := by
    obtain ⟨r, k, rfl⟩ : ∃ (r : Fin 1024) (k : Fin 512), y = ix2 r k := ⟨y 0, y 1, eq_ix2 y⟩
    have he : (((cfg0.win 3).blk t).view.emb (ix2 r k)) = (ix2 (row t r) k : S8192x512.Idx) := by blk_ext [idx t]
    rw [he, ref1_at]
    refine (pay1_at _ _ r k).trans (Finset.sum_congr rfl fun j _ => ?_)
    exact congrArg₂ (fun a b : EReal => a * b) ((ld0 _ r j).trans (blk0 m c t r (col 0 j))) (blk1 m c t k j)
  rw [after0_3]
  frame_out
  exact key

theorem whole4 : (dats m 0 c).arrAt 4 cfg0.N = Cert.BranchOutBwdRefIdeal.Read.val_main_v8 (F := Ideal) (aa m c) (ad m c) := by
  refine (dats m 0 c).arrAt_eq_of_covers 4 _ (by decide +kernel) fun t _ y => ?_
  blk_simp
  have key : k0_pay2 (F := Ideal) (View.ld (Val := Elt Ideal) (iblk m c 0 t) r0_3) (iblk m c 2 t) y
      = Cert.BranchOutBwdRefIdeal.Read.val_main_v8 (F := Ideal) (aa m c) (ad m c) (((cfg0.win 4).blk t).view.emb y) := by
    obtain ⟨r, k, rfl⟩ : ∃ (r : Fin 1024) (k : Fin 512), y = ix2 r k := ⟨y 0, y 1, eq_ix2 y⟩
    have he : (((cfg0.win 4).blk t).view.emb (ix2 r k)) = (ix2 (row t r) k : S8192x512.Idx) := by blk_ext [idx t]
    rw [he, ref2_at]
    refine (pay2_at _ _ r k).trans (Finset.sum_congr rfl fun j _ => ?_)
    exact congrArg₂ (fun a b : EReal => a * b) ((ld1 _ r j).trans (blk0 m c t r (col 1 j))) (blk2 m c t k j)
  rw [after0_4]
  frame_out
  exact key

end Cert.BranchOutBwdIdeal.Value

namespace Cert.Proof.BranchOutBwd

theorem frame : Cert.quiescent_BranchOutBwd := fun m ρ _ => Cert.BranchOutBwd.Gen.frame m ρ
theorem frame_ideal : Cert.quiescent_BranchOutBwdIdeal := fun m ρ _ => Cert.BranchOutBwdIdeal.Gen.frame m ρ
theorem frame_ref : Cert.quiescent_BranchOutBwdRefIdeal := fun m ρ _ =>
  (θ_run Cert.BranchOutBwdRefIdeal.defs _ _).mono (fun r h => ⟨fun c => (h c).2.2, sem_eq_zero_of_no_sems (by decide) r.2⟩)
    (Cert.BranchOutBwdRefIdeal.Value.run (F := Ideal) m ρ)
theorem preserves : Cert.preserves_BranchOutBwd_BranchOutBwdIdeal := trivial

theorem algebraic : Cert.algebraic_BranchOutBwdIdeal_BranchOutBwdRefIdeal := by
  intro m g m' g' _ hagree
  refine ⟨_, _, (θ_run _ _ _).mono (fun _ h c => h c) (Cert.BranchOutBwdIdeal.Value.run_blocks m g), ?_⟩
  refine (θ_run _ _ _).mono (fun _ h c => ⟨(h c).1.trans ?_, (h c).2.1.trans ?_, (h c).2.2⟩) (Cert.BranchOutBwdRefIdeal.Value.run (F := Ideal) m' g')
  · rw [Cert.BranchOutBwdRefIdeal.Read.val_main_v7_eq, (hagree c).1, (hagree c).2.1]
    exact (Cert.BranchOutBwdIdeal.Value.whole3 m c).symm
  · rw [Cert.BranchOutBwdRefIdeal.Read.val_main_v8_eq, (hagree c).1, (hagree c).2.2]
    exact (Cert.BranchOutBwdIdeal.Value.whole4 m c).symm

end Cert.Proof.BranchOutBwd

end
-- ==== Proof.BranchOutDwClaims.lean ====
/- The claims about the gradients of the branches' output weights, accumulated over four blocks of rows. -/
module

public import proofs.«01_k».proof.Proof.Reals
public import proofs.«01_k».proof.Proof.Gen.BranchOutDw
public import proofs.«01_k».proof.Proof.Gen.BranchOutDw.Frame
public import proofs.«01_k».proof.Proof.Gen.BranchOutDwIdeal.Frame
public import proofs.«01_k».proof.Proof.Gen.BranchOutDwIdeal.Value
public import proofs.«01_k».proof.Proof.Gen.BranchOutDwRefIdeal.Run
public import proofs.«01_k».proof.Proof.Gen.BranchOutDwRefIdeal.Read
public import proofs.«01_k».proof.Defs

@[expose] public section

set_option maxRecDepth 16384

noncomputable section

open Idealize.ShloMosaic Idealize.ShloMosaic.TcCoe Idealize.SL.Sem Cert.Reals

namespace Cert.BranchOutDwIdeal.Value

open Cert.BranchOutDwIdeal Cert.BranchOutDwIdeal.Gen

/-- Column `k` of half `h`. -/
abbrev col (h : Fin 2) (k : Fin 1024) : Fin 2048 := ⟨1024 * h.val + k.val, by omega⟩

theorem pay3_at (o : FVec Ideal S512x1024 .f32) (a : FVec Ideal S2048x512 .bf16) (d : FVec Ideal S2048x1024 .bf16) (i : Fin 512) (k : Fin 1024) :
    k0_pay3 (F := Ideal) o a d (ix2 i k) = (o (ix2 i k) + ∑ r : Fin 2048, a (ix2 r i) * d (ix2 r k) : EReal) := by
  pointwise [k0_pay3]

theorem pay4_at (o : FVec Ideal S512x1024 .f32) (a : FVec Ideal S2048x512 .bf16) (d : FVec Ideal S2048x1024 .bf16) (i : Fin 512) (k : Fin 1024) :
    k0_pay4 (F := Ideal) o a d (ix2 i k) = (o (ix2 i k) + ∑ r : Fin 2048, a (ix2 r i) * d (ix2 r k) : EReal) := by
  pointwise [k0_pay4]

theorem pay1_zero (j : S512x1024.Idx) : k0_pay1 (F := Ideal) j = (0 : EReal) := by pointwise [k0_pay1]

theorem pay2_zero (j : S512x1024.Idx) : k0_pay2 (F := Ideal) j = (0 : EReal) := by pointwise [k0_pay2]

theorem ref0_at (a : FVec Ideal S8192x512 .f32) (d : FVec Ideal S8192x2048 .f32) (i : Fin 512) (k : Fin 1024) :
    Cert.BranchOutDwRefIdeal.Read.val_main_v8 (F := Ideal) a d (ix2 i k) = (∑ r : Fin 8192, a (ix2 r i) * d (ix2 r (col 0 k)) : EReal) := by
  have e : Cert.BranchOutDwRefIdeal.Read.val_main_v8 (F := Ideal) a d (ix2 i k) = (∑ r : Fin 8192, d (ix2 r (col 0 k)) * a (ix2 r i) : EReal) := by
    open Cert.BranchOutDwRefIdeal.Read in
    pointwise [val_main_v8, val_main_v7, val_main_v3]
    try
      refine Finset.sum_congr rfl fun r _ => congrArg (fun q => d (ix2 r q) * a (ix2 r i)) (Fin.ext ?_)
      simp [col]
  exact e.trans (Finset.sum_congr rfl fun r _ => mul_comm _ _)

theorem ld0 (x : FVec Ideal S2048x2048 .bf16) {inb} (r : Fin 2048) (k : Fin 1024) :
    (View.ld (Val := Elt Ideal) (S := S2048x2048) (e' := .bf16) x (Rect.unit (s := S2048x2048) ![0, 0] S2048x1024.size inb) : FVec Ideal S2048x1024 .bf16) (ix2 r k)
      = x (ix2 r (col 0 k)) := by
  refine congrArg x (funext fun a => Fin.ext ?_)
  fin_cases a <;> simp [Rect.unit, LoadRect.idx, col]

theorem ref1_at (a : FVec Ideal S8192x512 .f32) (d : FVec Ideal S8192x2048 .f32) (i : Fin 512) (k : Fin 1024) :
    Cert.BranchOutDwRefIdeal.Read.val_main_v6 (F := Ideal) a d (ix2 i k) = (∑ r : Fin 8192, a (ix2 r i) * d (ix2 r (col 1 k)) : EReal) := by
  have e : Cert.BranchOutDwRefIdeal.Read.val_main_v6 (F := Ideal) a d (ix2 i k) = (∑ r : Fin 8192, d (ix2 r (col 1 k)) * a (ix2 r i) : EReal) := by
    open Cert.BranchOutDwRefIdeal.Read in
    pointwise [val_main_v6, val_main_v5, val_main_v4]
    try
      refine Finset.sum_congr rfl fun r _ => congrArg (fun q => d (ix2 r q) * a (ix2 r i)) (Fin.ext ?_)
      simp [col]
  exact e.trans (Finset.sum_congr rfl fun r _ => mul_comm _ _)

theorem ld1 (x : FVec Ideal S2048x2048 .bf16) {inb} (r : Fin 2048) (k : Fin 1024) :
    (View.ld (Val := Elt Ideal) (S := S2048x2048) (e' := .bf16) x (Rect.unit (s := S2048x2048) ![0, 1024] S2048x1024.size inb) : FVec Ideal S2048x1024 .bf16) (ix2 r k)
      = x (ix2 r (col 1 k)) := by
  refine congrArg x (funext fun a => Fin.ext ?_)
  fin_cases a <;> simp [Rect.unit, LoadRect.idx, col]

variable (m : (ℓ : Loc nD τ sig) → Buf (Elt Ideal) ℓ) (c : Dev nD)

abbrev aa : FVec Ideal S8192x512 .f32 := m ((c : Thread nD τ).loc main_arg0)
abbrev ab : FVec Ideal S8192x512 .f32 := m ((c : Thread nD τ).loc main_arg1)
abbrev ad : FVec Ideal S8192x2048 .f32 := m ((c : Thread nD τ).loc main_arg2)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ t.val < 4 :=
  (by decide +kernel : ∀ t : Fin grid0.N, _)

theorem V0 : V m c main_v0 = truncf (F := Ideal) .bf16 (aa m c) bitsLt_bf16_f32 := by
  unfold V
  simp only [hostOps0, List.flatten_cons, List.flatten_nil, List.append_nil, List.cons_append, List.nil_append]
  after_results_simp

theorem V1 : V m c main_v1 = truncf (F := Ideal) .bf16 (ab m c) bitsLt_bf16_f32 := by
  unfold V
  simp only [hostOps0, List.flatten_cons, List.flatten_nil, List.append_nil, List.cons_append, List.nil_append]
  after_results_simp

theorem V2 : V m c main_v2 = truncf (F := Ideal) .bf16 (ad m c) bitsLt_bf16_f32 := by
  unfold V
  simp only [hostOps0, List.flatten_cons, List.flatten_nil, List.append_nil, List.cons_append, List.nil_append]
  after_results_simp

/-- Row `r` of point `t`'s block is row `2048 t + r` of the array. -/
abbrev row (t : Fin cfg0.N) (r : Fin 2048) : Fin 8192 := ⟨t.val * 2048 + r.val, by have := (idx t).2.2.2.2.2; omega⟩

theorem blk0 (t : Fin cfg0.N) (i : Fin 2048) (j : Fin 512) : (show FVec Ideal S2048x512 .bf16 from iblk m c 0 t) (ix2 i j) = aa m c (ix2 (row t i) j) := by
  have e : (show FVec Ideal S2048x512 .bf16 from iblk m c 0 t) (ix2 i j) = (show FVec Ideal S8192x512 .bf16 from V m c main_v0) (ix2 (row t i) j) := by
    blk_simp [iblk, idx t]
    refine congrArg (show FVec Ideal S8192x512 .bf16 from V m c main_v0) ?_
    blk_ext [idx t]
  exact e.trans (congrFun (V0 m c) _)

theorem blk1 (t : Fin cfg0.N) (i : Fin 2048) (j : Fin 512) : (show FVec Ideal S2048x512 .bf16 from iblk m c 1 t) (ix2 i j) = ab m c (ix2 (row t i) j) := by
  have e : (show FVec Ideal S2048x512 .bf16 from iblk m c 1 t) (ix2 i j) = (show FVec Ideal S8192x512 .bf16 from V m c main_v1) (ix2 (row t i) j) := by
    blk_simp [iblk, idx t]
    refine congrArg (show FVec Ideal S8192x512 .bf16 from V m c main_v1) ?_
    blk_ext [idx t]
  exact e.trans (congrFun (V1 m c) _)

theorem blk2 (t : Fin cfg0.N) (i : Fin 2048) (j : Fin 2048) : (show FVec Ideal S2048x2048 .bf16 from iblk m c 2 t) (ix2 i j) = ad m c (ix2 (row t i) j) := by
  have e : (show FVec Ideal S2048x2048 .bf16 from iblk m c 2 t) (ix2 i j) = (show FVec Ideal S8192x2048 .bf16 from V m c main_v2) (ix2 (row t i) j) := by
    blk_simp [iblk, idx t]
    refine congrArg (show FVec Ideal S8192x2048 .bf16 from V m c main_v2) ?_
    blk_ext [idx t]
  exact e.trans (congrFun (V2 m c) _)

/-- One point's share of a gradient: the sum over its rows. -/
noncomputable abbrev part0 (t : Fin cfg0.N) (i : Fin 512) (k : Fin 1024) : EReal := ∑ r : Fin 2048, aa m c (ix2 (row t r) i) * ad m c (ix2 (row t r) (col 0 k))

theorem step0 (t : Fin cfg0.N) (o : FVec Ideal S512x1024 .f32) {inb} (i : Fin 512) (k : Fin 1024) :
    k0_pay3 (F := Ideal) o (iblk m c 0 t) (View.ld (Val := Elt Ideal) (S := S2048x2048) (e' := .bf16) (iblk m c 2 t) (Rect.unit (s := S2048x2048) ![0, 0] S2048x1024.size inb)) (ix2 i k)
      = (o (ix2 i k) + part0 m c t i k : EReal) := by
  refine (pay3_at _ _ _ i k).trans (congrArg (fun q : EReal => (o (ix2 i k) + q : EReal)) (Finset.sum_congr rfl fun r _ => ?_))
  exact congrArg₂ (fun a b : EReal => a * b) (blk0 m c t r i) ((ld0 _ r k).trans (blk2 m c t r (col 0 k)))

theorem whole3 : (dats m 0 c).arrAt 3 cfg0.N = Cert.BranchOutDwRefIdeal.Read.val_main_v8 (F := Ideal) (aa m c) (ad m c) := by
  refine (dats m 0 c).arrAt_eq_of_after_last 3 t0_3 (by decide +kernel) _ fun j => ?_
  blk_simp
  obtain ⟨i, k, rfl⟩ : ∃ (i : Fin 512) (k : Fin 1024), j = ix2 i k := ⟨j 0, j 1, eq_ix2 j⟩
  rw [after0_3, Pipeline.eq_sum_fin_of_reset_step_apply_last (fun n h => (outsAt0 m c n h).1) 4 (fun _ => (0 : EReal))
      (fun t j => part0 m c t (j 0) (j 1))
    (fun t ht j => by
      obtain ⟨i, k, rfl⟩ : ∃ (i : Fin 512) (k : Fin 1024), j = ix2 i k := ⟨j 0, j 1, eq_ix2 j⟩
      rw [outsAt0_A m c t ht]; frame_out
      exact (step0 m c t _ i k).trans (congrArg (fun q : EReal => q + part0 m c t i k) (pay1_zero (ix2 i k))))
    (fun t ht j => by
      obtain ⟨i, k, rfl⟩ : ∃ (i : Fin 512) (k : Fin 1024), j = ix2 i k := ⟨j 0, j 1, eq_ix2 j⟩
      rw [outsAt0_B m c t ht]; frame_out
      exact step0 m c t _ i k)
    (le_of_eq N_0) t0_3 rfl (ix2 i k), zero_add, ref0_at]
  refine Fin.sum_mul_add_congr fun t r h => rfl

/-- One point's share of a gradient: the sum over its rows. -/
noncomputable abbrev part1 (t : Fin cfg0.N) (i : Fin 512) (k : Fin 1024) : EReal := ∑ r : Fin 2048, ab m c (ix2 (row t r) i) * ad m c (ix2 (row t r) (col 1 k))

theorem step1 (t : Fin cfg0.N) (o : FVec Ideal S512x1024 .f32) {inb} (i : Fin 512) (k : Fin 1024) :
    k0_pay4 (F := Ideal) o (iblk m c 1 t) (View.ld (Val := Elt Ideal) (S := S2048x2048) (e' := .bf16) (iblk m c 2 t) (Rect.unit (s := S2048x2048) ![0, 1024] S2048x1024.size inb)) (ix2 i k)
      = (o (ix2 i k) + part1 m c t i k : EReal) := by
  refine (pay4_at _ _ _ i k).trans (congrArg (fun q : EReal => (o (ix2 i k) + q : EReal)) (Finset.sum_congr rfl fun r _ => ?_))
  exact congrArg₂ (fun a b : EReal => a * b) (blk1 m c t r i) ((ld1 _ r k).trans (blk2 m c t r (col 1 k)))

theorem whole4 : (dats m 0 c).arrAt 4 cfg0.N = Cert.BranchOutDwRefIdeal.Read.val_main_v6 (F := Ideal) (ab m c) (ad m c) := by
  refine (dats m 0 c).arrAt_eq_of_after_last 4 t0_3 (by decide +kernel) _ fun j => ?_
  blk_simp
  obtain ⟨i, k, rfl⟩ : ∃ (i : Fin 512) (k : Fin 1024), j = ix2 i k := ⟨j 0, j 1, eq_ix2 j⟩
  rw [after0_4, Pipeline.eq_sum_fin_of_reset_step_apply_last (fun n h => (outsAt0 m c n h).2) 4 (fun _ => (0 : EReal))
      (fun t j => part1 m c t (j 0) (j 1))
    (fun t ht j => by
      obtain ⟨i, k, rfl⟩ : ∃ (i : Fin 512) (k : Fin 1024), j = ix2 i k := ⟨j 0, j 1, eq_ix2 j⟩
      rw [outsAt0_A m c t ht]; frame_out
      exact (step1 m c t _ i k).trans (congrArg (fun q : EReal => q + part1 m c t i k) (pay2_zero (ix2 i k))))
    (fun t ht j => by
      obtain ⟨i, k, rfl⟩ : ∃ (i : Fin 512) (k : Fin 1024), j = ix2 i k := ⟨j 0, j 1, eq_ix2 j⟩
      rw [outsAt0_B m c t ht]; frame_out
      exact step1 m c t _ i k)
    (le_of_eq N_0) t0_3 rfl (ix2 i k), zero_add, ref1_at]
  refine Fin.sum_mul_add_congr fun t r h => rfl

end Cert.BranchOutDwIdeal.Value

namespace Cert.Proof.BranchOutDw

theorem frame : Cert.quiescent_BranchOutDw := fun m ρ _ => Cert.BranchOutDw.Gen.frame m ρ
theorem frame_ideal : Cert.quiescent_BranchOutDwIdeal := fun m ρ _ => Cert.BranchOutDwIdeal.Gen.frame m ρ
theorem frame_ref : Cert.quiescent_BranchOutDwRefIdeal := fun m ρ _ =>
  (θ_run Cert.BranchOutDwRefIdeal.defs _ _).mono (fun r h => ⟨fun c => (h c).2.2, sem_eq_zero_of_no_sems (by decide) r.2⟩)
    (Cert.BranchOutDwRefIdeal.Value.run (F := Ideal) m ρ)
theorem preserves : Cert.preserves_BranchOutDw_BranchOutDwIdeal := trivial

theorem algebraic : Cert.algebraic_BranchOutDwIdeal_BranchOutDwRefIdeal := by
  intro m g m' g' _ hagree
  refine ⟨_, _, (θ_run _ _ _).mono (fun _ h c => h c) (Cert.BranchOutDwIdeal.Value.run_blocks m g), ?_⟩
  refine (θ_run _ _ _).mono (fun _ h c => ⟨(h c).1.trans ?_, (h c).2.1.trans ?_, (h c).2.2⟩) (Cert.BranchOutDwRefIdeal.Value.run (F := Ideal) m' g')
  · rw [Cert.BranchOutDwRefIdeal.Read.val_main_v8_eq, (hagree c).1, (hagree c).2.2]
    exact (Cert.BranchOutDwIdeal.Value.whole3 m c).symm
  · rw [Cert.BranchOutDwRefIdeal.Read.val_main_v6_eq, (hagree c).2.1, (hagree c).2.2]
    exact (Cert.BranchOutDwIdeal.Value.whole4 m c).symm

end Cert.Proof.BranchOutDw

end
-- ==== Proof.FfnUpBwdClaims.lean ====
/- The claims about the gradient through the MLP's up projection: a product over the two halves of the columns. -/
module

public import proofs.«01_k».proof.Proof.Reals
public import proofs.«01_k».proof.Proof.Gen.FfnUpBwd
public import proofs.«01_k».proof.Proof.Gen.FfnUpBwd.Frame
public import proofs.«01_k».proof.Proof.Gen.FfnUpBwdIdeal.Frame
public import proofs.«01_k».proof.Proof.Gen.FfnUpBwdIdeal.Value
public import proofs.«01_k».proof.Proof.Gen.FfnUpBwdRefIdeal.Run
public import proofs.«01_k».proof.Proof.Gen.FfnUpBwdRefIdeal.Read
public import proofs.«01_k».proof.Defs

@[expose] public section

set_option maxRecDepth 16384

noncomputable section

open Idealize.ShloMosaic Idealize.ShloMosaic.TcCoe Idealize.SL.Sem Cert.Reals

namespace Cert.FfnUpBwdIdeal.Value

open Cert.FfnUpBwdIdeal Cert.FfnUpBwdIdeal.Gen

theorem pay_at (a : FVec Ideal S512x2816 .bf16) (b : FVec Ideal S1024x2816 .bf16) (d : FVec Ideal S512x2816 .bf16) (e : FVec Ideal S1024x2816 .bf16)
    (r : Fin 512) (k : Fin 1024) : k0_pay1 (F := Ideal) a b d e (ix2 r k)
      = ((∑ j : Fin 2816, a (ix2 r j) * b (ix2 k j)) + ∑ j : Fin 2816, d (ix2 r j) * e (ix2 k j) : EReal) := by
  pointwise [k0_pay1]

/-- Column `k` of half `h`. -/
abbrev col (h : Fin 2) (k : Fin 2816) : Fin 5632 := ⟨2816 * h.val + k.val, by omega⟩

theorem ref_at (d : FVec Ideal S8192x5632 .f32) (w : FVec Ideal S1024x5632 .f32) (r : Fin 8192) (k : Fin 1024) :
    Cert.FfnUpBwdRefIdeal.Read.val_main_v3 (F := Ideal) d w (ix2 r k)
      = ((∑ j : Fin 2816, d (ix2 r (col 0 j)) * w (ix2 k (col 0 j))) + ∑ j : Fin 2816, d (ix2 r (col 1 j)) * w (ix2 k (col 1 j)) : EReal) := by
  have e : Cert.FfnUpBwdRefIdeal.Read.val_main_v3 (F := Ideal) d w (ix2 r k) = (∑ j : Fin (2816 + 2816), d (ix2 r j) * w (ix2 k j) : EReal) := by
    open Cert.FfnUpBwdRefIdeal.Read in
    pointwise [val_main_v3, val_main_v2]
  rw [e, Fin.sum_univ_add]
  refine congrArg₂ (fun a b : EReal => a + b) (Finset.sum_congr rfl fun j _ => ?_) (Finset.sum_congr rfl fun j _ => ?_)
  · have h : Fin.castAdd 2816 j = col 0 j := Fin.ext (by simp [col])
    rw [h]
  · have h : Fin.natAdd 2816 j = col 1 j := Fin.ext (by simp [col]; omega)
    rw [h]

variable (m : (ℓ : Loc nD τ sig) → Buf (Elt Ideal) ℓ) (c : Dev nD)

abbrev aa : FVec Ideal S8192x5632 .f32 := m ((c : Thread nD τ).loc main_arg0)
abbrev ab : FVec Ideal S1024x5632 .f32 := m ((c : Thread nD τ).loc main_arg1)

theorem idx : ∀ t : Fin cfg0.N, win0_0.index t = ![t.val, 0] ∧ win0_1.index t = ![t.val, 0] ∧ win0_2.index t = ![0, 0] ∧ win0_3.index t = ![0, 1] ∧ win0_4.index t = ![t.val, 0] ∧ t.val < 16 :=
  (by decide +kernel : ∀ t : Fin grid0.N, _)

theorem V4 : V m c main_v4 = truncf (F := Ideal) .bf16 (ab m c) bitsLt_bf16_f32 := by
  unfold V
  simp only [hostOps0, List.flatten_cons, List.flatten_nil, List.append_nil, List.cons_append, List.nil_append]
  after_results_simp

/-- Row `r` of point `t`'s block is row `512 t + r` of the array. -/
abbrev row (t : Fin cfg0.N) (r : Fin 512) : Fin 8192 := ⟨t.val * 512 + r.val, by have := (idx t).2.2.2.2.2; omega⟩

theorem V1 : V m c main_v1 = truncf (F := Ideal) .bf16 (extractStridedSlice S8192x2816 ![0, 0] (aa m c) slices_S8192x5632_S8192x2816_0_0) bitsLt_bf16_f32 := by
  unfold V
  simp only [hostOps0, List.flatten_cons, List.flatten_nil, List.append_nil, List.cons_append, List.nil_append]
  after_results_simp

theorem half0 (i : Fin 8192) (j : Fin 2816) : (show FVec Ideal S8192x2816 .bf16 from V m c main_v1) (ix2 i j) = aa m c (ix2 i (col 0 j)) := by
  refine (congrFun (V1 m c) _).trans ?_
  refine extractStridedSlice_apply ![0, 0] (aa m c) slices_S8192x5632_S8192x2816_0_0 (ix2 i j) (ix2 i (col 0 j)) fun a => ?_
  fin_cases a <;> simp [col]

theorem blk0 (t : Fin cfg0.N) (i : Fin 512) (j : Fin 2816) : (show FVec Ideal S512x2816 .bf16 from iblk m c 0 t) (ix2 i j) = aa m c (ix2 (row t i) (col 0 j)) := by
  have e : (show FVec Ideal S512x2816 .bf16 from iblk m c 0 t) (ix2 i j) = (show FVec Ideal S8192x2816 .bf16 from V m c main_v1) (ix2 (row t i) j) := by
    blk_simp [iblk, idx t]
    refine congrArg (show FVec Ideal S8192x2816 .bf16 from V m c main_v1) ?_
    blk_ext [idx t]
  exact e.trans (half0 m c _ j)

theorem V3 : V m c main_v3 = truncf (F := Ideal) .bf16 (extractStridedSlice S8192x2816 ![0, 2816] (aa m c) slices_S8192x5632_S8192x2816_0_2816) bitsLt_bf16_f32 := by
  unfold V
  simp only [hostOps0, List.flatten_cons, List.flatten_nil, List.append_nil, List.cons_append, List.nil_append]
  after_results_simp

theorem half1 (i : Fin 8192) (j : Fin 2816) : (show FVec Ideal S8192x2816 .bf16 from V m c main_v3) (ix2 i j) = aa m c (ix2 i (col 1 j)) := by
  refine (congrFun (V3 m c) _).trans ?_
  refine extractStridedSlice_apply ![0, 2816] (aa m c) slices_S8192x5632_S8192x2816_0_2816 (ix2 i j) (ix2 i (col 1 j)) fun a => ?_
  fin_cases a <;> simp [col]

theorem blk1 (t : Fin cfg0.N) (i : Fin 512) (j : Fin 2816) : (show FVec Ideal S512x2816 .bf16 from iblk m c 1 t) (ix2 i j) = aa m c (ix2 (row t i) (col 1 j)) := by
  have e : (show FVec Ideal S512x2816 .bf16 from iblk m c 1 t) (ix2 i j) = (show FVec Ideal S8192x2816 .bf16 from V m c main_v3) (ix2 (row t i) j) := by
    blk_simp [iblk, idx t]
    refine congrArg (show FVec Ideal S8192x2816 .bf16 from V m c main_v3) ?_
    blk_ext [idx t]
  exact e.trans (half1 m c _ j)

theorem blk2 (t : Fin cfg0.N) (i : Fin 1024) (j : Fin 2816) : (show FVec Ideal S1024x2816 .bf16 from iblk m c 2 t) (ix2 i j) = ab m c (ix2 i (col 0 j)) := by
  have e : (show FVec Ideal S1024x2816 .bf16 from iblk m c 2 t) (ix2 i j) = (show FVec Ideal S1024x5632 .bf16 from V m c main_v4) (ix2 i (col 0 j)) := by
    blk_simp [iblk, idx t]
    refine congrArg (show FVec Ideal S1024x5632 .bf16 from V m c main_v4) ?_
    blk_ext [idx t]
  exact e.trans (congrFun (V4 m c) _)

theorem blk3 (t : Fin cfg0.N) (i : Fin 1024) (j : Fin 2816) : (show FVec Ideal S1024x2816 .bf16 from iblk m c 3 t) (ix2 i j) = ab m c (ix2 i (col 1 j)) := by
  have e : (show FVec Ideal S1024x2816 .bf16 from iblk m c 3 t) (ix2 i j) = (show FVec Ideal S1024x5632 .bf16 from V m c main_v4) (ix2 i (col 1 j)) := by
    blk_simp [iblk, idx t]
    refine congrArg (show FVec Ideal S1024x5632 .bf16 from V m c main_v4) ?_
    blk_ext [idx t]
  exact e.trans (congrFun (V4 m c) _)

theorem whole4 : (dats m 0 c).arrAt 4 cfg0.N = Cert.FfnUpBwdRefIdeal.Read.val_main_v3 (F := Ideal) (aa m c) (ab m c) := by
  refine (dats m 0 c).arrAt_eq_of_covers 4 _ (by decide +kernel) fun t _ y => ?_
  blk_simp
  have key : k0_pay1 (F := Ideal) (iblk m c 0 t) (iblk m c 2 t) (iblk m c 1 t) (iblk m c 3 t) y
      = Cert.FfnUpBwdRefIdeal.Read.val_main_v3 (F := Ideal) (aa m c) (ab m c) (((cfg0.win 4).blk t).view.emb y) := by
    obtain ⟨r, k, rfl⟩ : ∃ (r : Fin 512) (k : Fin 1024), y = ix2 r k := ⟨y 0, y 1, eq_ix2 y⟩
    have he : (((cfg0.win 4).blk t).view.emb (ix2 r k)) = (ix2 (row t r) k : S8192x1024.Idx) := by blk_ext [idx t]
    rw [he, ref_at]
    refine (pay_at _ _ _ _ r k).trans (congrArg₂ (fun a b : EReal => a + b) (Finset.sum_congr rfl fun j _ => ?_) (Finset.sum_congr rfl fun j _ => ?_))
    · exact congrArg₂ (fun a b : EReal => a * b) (blk0 m c t r j) (blk2 m c t k j)
    · exact congrArg₂ (fun a b : EReal => a * b) (blk1 m c t r j) (blk3 m c t k j)
  rw [after0_4]
  frame_out
  exact key

end Cert.FfnUpBwdIdeal.Value

namespace Cert.Proof.FfnUpBwd

theorem frame : Cert.quiescent_FfnUpBwd := fun m ρ _ => Cert.FfnUpBwd.Gen.frame m ρ
theorem frame_ideal : Cert.quiescent_FfnUpBwdIdeal := fun m ρ _ => Cert.FfnUpBwdIdeal.Gen.frame m ρ
theorem frame_ref : Cert.quiescent_FfnUpBwdRefIdeal := fun m ρ _ =>
  (θ_run Cert.FfnUpBwdRefIdeal.defs _ _).mono (fun r h => ⟨fun c => (h c).2, sem_eq_zero_of_no_sems (by decide) r.2⟩)
    (Cert.FfnUpBwdRefIdeal.Value.run (F := Ideal) m ρ)
theorem preserves : Cert.preserves_FfnUpBwd_FfnUpBwdIdeal := trivial

theorem algebraic : Cert.algebraic_FfnUpBwdIdeal_FfnUpBwdRefIdeal := by
  intro m g m' g' _ hagree
  refine ⟨_, (θ_run _ _ _).mono (fun _ h c => h c) (Cert.FfnUpBwdIdeal.Value.run_blocks m g), ?_⟩
  refine (θ_run _ _ _).mono (fun _ h c => ⟨(h c).1.trans ?_, (h c).2⟩) (Cert.FfnUpBwdRefIdeal.Value.run (F := Ideal) m' g')
  · rw [Cert.FfnUpBwdRefIdeal.Read.val_main_v3_eq, (hagree c).1, (hagree c).2]
    exact (Cert.FfnUpBwdIdeal.Value.whole4 m c).symm

end Cert.Proof.FfnUpBwd

end
-- ==== Proof.ProjectClaims.lean ====
/- The claims about the combined input projection. -/
module

public import proofs.«01_k».proof.Proof.Reals
public import proofs.«01_k».proof.Proof.Gen.Project
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectRefIdeal.Run
public import proofs.«01_k».proof.Proof.Gen.ProjectRefIdeal.Read
public import proofs.«01_k».proof.Defs

@[expose] public section

set_option maxRecDepth 16384

noncomputable section

open Idealize.ShloMosaic Idealize.ShloMosaic.TcCoe Idealize.SL.Sem Cert.Reals

namespace Cert.ProjectIdeal.Value

open Cert.ProjectIdeal Cert.ProjectIdeal.Gen

theorem pay2_at (h : FVec Ideal S512x1024 .bf16) (w : FVec Ideal S1536x1024 .bf16) (r : Fin 512) (j : Fin 1536) :
    k0_pay2 (F := Ideal) h w (ix2 r j) = ∑ k : Fin 1024, h (ix2 r k) * w (ix2 j k) := by
  pointwise [k0_pay2, k0_pay1]

theorem ld2 (x : FVec Ideal S5376x1024 .bf16) (j : Fin 1536) (k : Fin 1024) :
    (View.ld (Val := Elt Ideal) (S := S5376x1024) (e' := .bf16) x r0_1 : FVec Ideal S1536x1024 .bf16) (ix2 j k) = x (ix2 ⟨0 + j.val, by omega⟩ k) := by
  refine congrArg x (funext fun a => Fin.ext ?_)
  fin_cases a <;> simp [Rect.unit, LoadRect.idx]

theorem pay3_at (h : FVec Ideal S512x1024 .bf16) (w : FVec Ideal S1536x1024 .bf16) (r : Fin 512) (j : Fin 1536) :
    k0_pay3 (F := Ideal) h w (ix2 r j) = ∑ k : Fin 1024, h (ix2 r k) * w (ix2 j k) := by
  pointwise [k0_pay3, k0_pay1]

theorem ld3 (x : FVec Ideal S5376x1024 .bf16) (j : Fin 1536) (k : Fin 1024) :
    (View.ld (Val := Elt Ideal) (S := S5376x1024) (e' := .bf16) x r0_3 : FVec Ideal S1536x1024 .bf16) (ix2 j k) = x (ix2 ⟨1536 + j.val, by omega⟩ k) := by
  refine congrArg x (funext fun a => Fin.ext ?_)
  fin_cases a <;> simp [Rect.unit, LoadRect.idx]

theorem pay4_at (h : FVec Ideal S512x1024 .bf16) (w : FVec Ideal S2048x1024 .bf16) (r : Fin 512) (j : Fin 2048) :
    k0_pay4 (F := Ideal) h w (ix2 r j) = ∑ k : Fin 1024, h (ix2 r k) * w (ix2 j k) := by
  pointwise [k0_pay4, k0_pay1]

theorem ld4 (x : FVec Ideal S5376x1024 .bf16) (j : Fin 2048) (k : Fin 1024) :
    (View.ld (Val := Elt Ideal) (S := S5376x1024) (e' := .bf16) x r0_4 : FVec Ideal S2048x1024 .bf16) (ix2 j k) = x (ix2 ⟨3072 + j.val, by omega⟩ k) := by
  refine congrArg x (funext fun a => Fin.ext ?_)
  fin_cases a <;> simp [Rect.unit, LoadRect.idx]

theorem pay5_at (h : FVec Ideal S512x1024 .bf16) (w : FVec Ideal S256x1024 .bf16) (r : Fin 512) (j : Fin 256) :
    k0_pay5 (F := Ideal) h w (ix2 r j) = ∑ k : Fin 1024, h (ix2 r k) * w (ix2 j k) := by
  pointwise [k0_pay5, k0_pay1]

theorem ld5 (x : FVec Ideal S5376x1024 .bf16) (j : Fin 256) (k : Fin 1024) :
    (View.ld (Val := Elt Ideal) (S := S5376x1024) (e' := .bf16) x r0_6 : FVec Ideal S256x1024 .bf16) (ix2 j k) = x (ix2 ⟨5120 + j.val, by omega⟩ k) := by
  refine congrArg x (funext fun a => Fin.ext ?_)
  fin_cases a <;> simp [Rect.unit, LoadRect.idx]

/-- The columns of a group of 128: the three parts side by side. -/
abbrev gcol (g : Fin 4) (a : Fin 3) (l : Fin 128) : Fin 1536 := ⟨384 * g.val + 128 * a.val + l.val, by omega⟩

/-! The weights as the host lays them out. -/

/-- The weights' transpose. -/
def wt (w : FVec Ideal S1024x5128 .f32) : FVec Ideal S5128x1024 .bf16 :=
  truncf .bf16 (transpose S5128x1024 [1, 0] w transposes_S1024x5128_S5128x1024_1_0) bitsLt_bf16_f32

theorem wt_at (w : FVec Ideal S1024x5128 .f32) (n : Fin 5128) (k : Fin 1024) : wt w (ix2 n k) = w (ix2 k n) := by
  pointwise [wt]

/-- Rows of three parts, group by group. -/
def groups (x : FVec Ideal S1536x1024 .bf16) : FVec Ideal S1536x1024 .bf16 :=
  shapeCast S1536x1024 (transpose S4x3x128x1024 [1, 0, 2, 3] (shapeCast S3x4x128x1024 x shapeCasts_S1536x1024_S3x4x128x1024)
    transposes_S3x4x128x1024_S4x3x128x1024_1_0_2_3) shapeCasts_S4x3x128x1024_S1536x1024

theorem groups_at (x : FVec Ideal S1536x1024 .bf16) (g : Fin 4) (a : Fin 3) (l : Fin 128) (k : Fin 1024) :
    groups x (ix2 (gcol g a l) k) = x (ix2 ⟨512 * a.val + 128 * g.val + l.val, by omega⟩ k) := by
  unfold groups
  refine (shapeCast_apply _ shapeCasts_S4x3x128x1024_S1536x1024 (ix2 (gcol g a l) k) (ix4 g a l k) ?_).trans ?_
  · rewrite [Shape.rowMajor_val_two, Shape.rowMajor_val_four]
    show ((g.val * 3 + a.val) * 128 + l.val) * 1024 + k.val = (384 * g.val + 128 * a.val + l.val) * 1024 + k.val
    omega
  pointwise []
  first
    | done
    | (refine congrArg (fun q => x (ix2 q k)) (Fin.ext ?_)
       simp
       omega)

/-- The gates' rows, filled up with zeros. -/
def padded (x : FVec Ideal S8x1024 .bf16) : FVec Ideal S256x1024 .bf16 :=
  pad S256x1024 ![0, 0] ![248, 0] ![0, 0] x (sitofp (F := Ideal) .bf16 (constantI S_ 32 0#32)) pads_S8x1024_S256x1024_02480_000 h_S_

theorem padded_in (x : FVec Ideal S8x1024 .bf16) (n : Fin 256) (k : Fin 1024) (h : n.val < 8) : padded x (ix2 n k) = x (ix2 ⟨n.val, h⟩ k) := by
  have := n.isLt
  pointwise [padded]
  rw [dif_pos h]
theorem padded_out (x : FVec Ideal S8x1024 .bf16) (n : Fin 256) (k : Fin 1024) (h : ¬n.val < 8) : padded x (ix2 n k) = (0 : EReal) := by
  pointwise [padded]
  rw [dif_neg h]
  show (((0#32 : BitVec 32).toInt : ℝ) : EReal) = 0
  norm_num

/-- All the weights, in the order of the results. -/
def wall (w : FVec Ideal S1024x5128 .f32) : FVec Ideal S5376x1024 .bf16 :=
  concatenate S5376x1024 0 [⟨S1536x1024, groups (extractStridedSlice S1536x1024 ![0, 0] (wt w) slices_S5128x1024_S1536x1024_0_0)⟩,
    ⟨S1536x1024, groups (extractStridedSlice S1536x1024 ![1536, 0] (wt w) slices_S5128x1024_S1536x1024_1536_0)⟩,
    ⟨S2048x1024, extractStridedSlice S2048x1024 ![3080, 0] (wt w) slices_S5128x1024_S2048x1024_3080_0⟩,
    ⟨S256x1024, padded (extractStridedSlice S8x1024 ![3072, 0] (wt w) slices_S5128x1024_S8x1024_3072_0)⟩]
    concatenates_S1536x1024_S1536x1024_S2048x1024_S256x1024_S5376x1024_d0

theorem wall0 (w : FVec Ideal S1024x5128 .f32) (j : Fin 1536) (k : Fin 1024) :
    wall w (ix2 ⟨0 + j.val, by omega⟩ k) = (groups (extractStridedSlice S1536x1024 ![0, 0] (wt w) slices_S5128x1024_S1536x1024_0_0)) (ix2 j k) := by
  unfold wall
  refine concatenate_apply_piece (t := S5376x1024) 0 _ _ _ 0 ?_ S1536x1024 _ ?_ rfl 0 ?_ (ix2 j k) (fun a ha => ?_) ?_
  · simp
  · rfl
  · rfl
  · fin_cases a
    · exact absurd rfl ha
    · rfl
  · rfl

theorem wall1 (w : FVec Ideal S1024x5128 .f32) (j : Fin 1536) (k : Fin 1024) :
    wall w (ix2 ⟨1536 + j.val, by omega⟩ k) = (groups (extractStridedSlice S1536x1024 ![1536, 0] (wt w) slices_S5128x1024_S1536x1024_1536_0)) (ix2 j k) := by
  unfold wall
  refine concatenate_apply_piece (t := S5376x1024) 0 _ _ _ 1 ?_ S1536x1024 _ ?_ rfl 1536 ?_ (ix2 j k) (fun a ha => ?_) ?_
  · simp
  · rfl
  · rfl
  · fin_cases a
    · exact absurd rfl ha
    · rfl
  · rfl

theorem wall2 (w : FVec Ideal S1024x5128 .f32) (j : Fin 2048) (k : Fin 1024) :
    wall w (ix2 ⟨3072 + j.val, by omega⟩ k) = (extractStridedSlice S2048x1024 ![3080, 0] (wt w) slices_S5128x1024_S2048x1024_3080_0) (ix2 j k) := by
  unfold wall
  refine concatenate_apply_piece (t := S5376x1024) 0 _ _ _ 2 ?_ S2048x1024 _ ?_ rfl 3072 ?_ (ix2 j k) (fun a ha => ?_) ?_
  · simp
  · rfl
  · rfl
  · fin_cases a
    · exact absurd rfl ha
    · rfl
  · rfl

theorem wall3 (w : FVec Ideal S1024x5128 .f32) (j : Fin 256) (k : Fin 1024) :
    wall w (ix2 ⟨5120 + j.val, by omega⟩ k) = (padded (extractStridedSlice S8x1024 ![3072, 0] (wt w) slices_S5128x1024_S8x1024_3072_0)) (ix2 j k) := by
  unfold wall
  refine concatenate_apply_piece (t := S5376x1024) 0 _ _ _ 3 ?_ S256x1024 _ ?_ rfl 5120 ?_ (ix2 j k) (fun a ha => ?_) ?_
  · simp
  · rfl
  · rfl
  · fin_cases a
    · exact absurd rfl ha
    · rfl
  · rfl

theorem cut0 (w : FVec Ideal S1024x5128 .f32) (j : Fin 1536) (k : Fin 1024) :
    extractStridedSlice S1536x1024 ![0, 0] (wt w) slices_S5128x1024_S1536x1024_0_0 (ix2 j k) = w (ix2 k ⟨0 + j.val, by omega⟩) := by
  refine (extractStridedSlice_apply ![0, 0] (wt w) slices_S5128x1024_S1536x1024_0_0 (ix2 j k) (ix2 ⟨0 + j.val, by omega⟩ k) fun a => ?_).trans (wt_at w _ k)
  fin_cases a <;> simp

theorem cut1 (w : FVec Ideal S1024x5128 .f32) (j : Fin 1536) (k : Fin 1024) :
    extractStridedSlice S1536x1024 ![1536, 0] (wt w) slices_S5128x1024_S1536x1024_1536_0 (ix2 j k) = w (ix2 k ⟨1536 + j.val, by omega⟩) := by
  refine (extractStridedSlice_apply ![1536, 0] (wt w) slices_S5128x1024_S1536x1024_1536_0 (ix2 j k) (ix2 ⟨1536 + j.val, by omega⟩ k) fun a => ?_).trans (wt_at w _ k)
  fin_cases a <;> simp

theorem cut2 (w : FVec Ideal S1024x5128 .f32) (j : Fin 2048) (k : Fin 1024) :
    extractStridedSlice S2048x1024 ![3080, 0] (wt w) slices_S5128x1024_S2048x1024_3080_0 (ix2 j k) = w (ix2 k ⟨3080 + j.val, by omega⟩) := by
  refine (extractStridedSlice_apply ![3080, 0] (wt w) slices_S5128x1024_S2048x1024_3080_0 (ix2 j k) (ix2 ⟨3080 + j.val, by omega⟩ k) fun a => ?_).trans (wt_at w _ k)
  fin_cases a <;> simp

theorem cut3 (w : FVec Ideal S1024x5128 .f32) (j : Fin 8) (k : Fin 1024) :
    extractStridedSlice S8x1024 ![3072, 0] (wt w) slices_S5128x1024_S8x1024_3072_0 (ix2 j k) = w (ix2 k ⟨3072 + j.val, by omega⟩) := by
  refine (extractStridedSlice_apply ![3072, 0] (wt w) slices_S5128x1024_S8x1024_3072_0 (ix2 j k) (ix2 ⟨3072 + j.val, by omega⟩ k) fun a => ?_).trans (wt_at w _ k)
  fin_cases a <;> simp

/-! The reference's results. -/

theorem proj_at (h : FVec Ideal S8192x1024 .f32) (w : FVec Ideal S1024x5128 .f32) (r : Fin 8192) (n : Fin 5128) :
    Cert.ProjectRefIdeal.Read.val_main_v0 (F := Ideal) h w (ix2 r n) = ∑ k : Fin 1024, h (ix2 r k) * w (ix2 k n) := by
  open Cert.ProjectRefIdeal.Read in
  pointwise [val_main_v0]

theorem v14_at (h : FVec Ideal S8192x1024 .f32) (w : FVec Ideal S1024x5128 .f32) (r : Fin 8192) (g : Fin 4) (l : Fin 128) :
    Cert.ProjectRefIdeal.Read.val_main_v14 (F := Ideal) h w (ix4 r g 0 l)
      = Cert.ProjectRefIdeal.Read.val_main_v0 (F := Ideal) h w (ix2 r ⟨0 + 128 * g.val + l.val, by omega⟩) := by
  open Cert.ProjectRefIdeal.Read in
  rw [val_main_v14_apply, val_main_v11_apply, val_main_v1_apply]
  refine congrArg _ (funext fun a => Fin.ext ?_)
  fin_cases a <;> simp <;> omega

theorem v15_at (h : FVec Ideal S8192x1024 .f32) (w : FVec Ideal S1024x5128 .f32) (r : Fin 8192) (g : Fin 4) (l : Fin 128) :
    Cert.ProjectRefIdeal.Read.val_main_v15 (F := Ideal) h w (ix4 r g 0 l)
      = Cert.ProjectRefIdeal.Read.val_main_v0 (F := Ideal) h w (ix2 r ⟨512 + 128 * g.val + l.val, by omega⟩) := by
  open Cert.ProjectRefIdeal.Read in
  rw [val_main_v15_apply, val_main_v12_apply, val_main_v2_apply]
  refine congrArg _ (funext fun a => Fin.ext ?_)
  fin_cases a <;> simp <;> omega

theorem v16_at (h : FVec Ideal S8192x1024 .f32) (w : FVec Ideal S1024x5128 .f32) (r : Fin 8192) (g : Fin 4) (l : Fin 128) :
    Cert.ProjectRefIdeal.Read.val_main_v16 (F := Ideal) h w (ix4 r g 0 l)
      = Cert.ProjectRefIdeal.Read.val_main_v0 (F := Ideal) h w (ix2 r ⟨1024 + 128 * g.val + l.val, by omega⟩) := by
  open Cert.ProjectRefIdeal.Read in
  rw [val_main_v16_apply, val_main_v13_apply, val_main_v3_apply]
  refine congrArg _ (funext fun a => Fin.ext ?_)
  fin_cases a <;> simp <;> omega

theorem v19_at (h : FVec Ideal S8192x1024 .f32) (w : FVec Ideal S1024x5128 .f32) (r : Fin 8192) (g : Fin 4) (a : Fin 3) (l : Fin 128) :
    Cert.ProjectRefIdeal.Read.val_main_v19 (F := Ideal) h w (ix2 r (gcol g a l))
      = Cert.ProjectRefIdeal.Read.val_main_v0 (F := Ideal) h w (ix2 r ⟨0 + (512 * a.val + 128 * g.val + l.val), by omega⟩) := by
  open Cert.ProjectRefIdeal.Read in
  refine (show val_main_v19 (F := Ideal) h w (ix2 r (gcol g a l)) = val_main_v18 (F := Ideal) h w (ix2 r (gcol g a l)) from rfl).trans ?_
  unfold val_main_v18
  refine (shapeCast_apply (val_main_v17 (F := Ideal) h w) _ (ix2 r (gcol g a l)) (ix4 r g a l) ?_).trans ?_
  · rewrite [Shape.rowMajor_val_two, Shape.rowMajor_val_four]
    show ((r.val * 4 + g.val) * 3 + a.val) * 128 + l.val = r.val * 1536 + (384 * g.val + 128 * a.val + l.val)
    omega
  unfold val_main_v17
  fin_cases a
  · refine (concatenate_apply_piece (t := Cert.ProjectRefIdeal.S8192x4x3x128) 2 _ _ _ 0 ?_ Cert.ProjectRefIdeal.S8192x4x1x128 (val_main_v14 (F := Ideal) h w) ?_ rfl 0 ?_ (ix4 r g 0 l) (fun a ha => ?_) ?_).trans ((v14_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega
  · refine (concatenate_apply_piece (t := Cert.ProjectRefIdeal.S8192x4x3x128) 2 _ _ _ 1 ?_ Cert.ProjectRefIdeal.S8192x4x1x128 (val_main_v15 (F := Ideal) h w) ?_ rfl 1 ?_ (ix4 r g 0 l) (fun a ha => ?_) ?_).trans ((v15_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega
  · refine (concatenate_apply_piece (t := Cert.ProjectRefIdeal.S8192x4x3x128) 2 _ _ _ 2 ?_ Cert.ProjectRefIdeal.S8192x4x1x128 (val_main_v16 (F := Ideal) h w) ?_ rfl 2 ?_ (ix4 r g 0 l) (fun a ha => ?_) ?_).trans ((v16_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega

theorem v23_at (h : FVec Ideal S8192x1024 .f32) (w : FVec Ideal S1024x5128 .f32) (r : Fin 8192) (g : Fin 4) (l : Fin 128) :
    Cert.ProjectRefIdeal.Read.val_main_v23 (F := Ideal) h w (ix4 r g 0 l)
      = Cert.ProjectRefIdeal.Read.val_main_v0 (F := Ideal) h w (ix2 r ⟨1536 + 128 * g.val + l.val, by omega⟩) := by
  open Cert.ProjectRefIdeal.Read in
  rw [val_main_v23_apply, val_main_v20_apply, val_main_v4_apply]
  refine congrArg _ (funext fun a => Fin.ext ?_)
  fin_cases a <;> simp <;> omega

theorem v24_at (h : FVec Ideal S8192x1024 .f32) (w : FVec Ideal S1024x5128 .f32) (r : Fin 8192) (g : Fin 4) (l : Fin 128) :
    Cert.ProjectRefIdeal.Read.val_main_v24 (F := Ideal) h w (ix4 r g 0 l)
      = Cert.ProjectRefIdeal.Read.val_main_v0 (F := Ideal) h w (ix2 r ⟨2048 + 128 * g.val + l.val, by omega⟩) := by
  open Cert.ProjectRefIdeal.Read in
  rw [val_main_v24_apply, val_main_v21_apply, val_main_v5_apply]
  refine congrArg _ (funext fun a => Fin.ext ?_)
  fin_cases a <;> simp <;> omega

theorem v25_at (h : FVec Ideal S8192x1024 .f32) (w : FVec Ideal S1024x5128 .f32) (r : Fin 8192) (g : Fin 4) (l : Fin 128) :
    Cert.ProjectRefIdeal.Read.val_main_v25 (F := Ideal) h w (ix4 r g 0 l)
      = Cert.ProjectRefIdeal.Read.val_main_v0 (F := Ideal) h w (ix2 r ⟨2560 + 128 * g.val + l.val, by omega⟩) := by
  open Cert.ProjectRefIdeal.Read in
  rw [val_main_v25_apply, val_main_v22_apply, val_main_v6_apply]
  refine congrArg _ (funext fun a => Fin.ext ?_)
  fin_cases a <;> simp <;> omega

theorem v28_at (h : FVec Ideal S8192x1024 .f32) (w : FVec Ideal S1024x5128 .f32) (r : Fin 8192) (g : Fin 4) (a : Fin 3) (l : Fin 128) :
    Cert.ProjectRefIdeal.Read.val_main_v28 (F := Ideal) h w (ix2 r (gcol g a l))
      = Cert.ProjectRefIdeal.Read.val_main_v0 (F := Ideal) h w (ix2 r ⟨1536 + (512 * a.val + 128 * g.val + l.val), by omega⟩) := by
  open Cert.ProjectRefIdeal.Read in
  refine (show val_main_v28 (F := Ideal) h w (ix2 r (gcol g a l)) = val_main_v27 (F := Ideal) h w (ix2 r (gcol g a l)) from rfl).trans ?_
  unfold val_main_v27
  refine (shapeCast_apply (val_main_v26 (F := Ideal) h w) _ (ix2 r (gcol g a l)) (ix4 r g a l) ?_).trans ?_
  · rewrite [Shape.rowMajor_val_two, Shape.rowMajor_val_four]
    show ((r.val * 4 + g.val) * 3 + a.val) * 128 + l.val = r.val * 1536 + (384 * g.val + 128 * a.val + l.val)
    omega
  unfold val_main_v26
  fin_cases a
  · refine (concatenate_apply_piece (t := Cert.ProjectRefIdeal.S8192x4x3x128) 2 _ _ _ 0 ?_ Cert.ProjectRefIdeal.S8192x4x1x128 (val_main_v23 (F := Ideal) h w) ?_ rfl 0 ?_ (ix4 r g 0 l) (fun a ha => ?_) ?_).trans ((v23_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega
  · refine (concatenate_apply_piece (t := Cert.ProjectRefIdeal.S8192x4x3x128) 2 _ _ _ 1 ?_ Cert.ProjectRefIdeal.S8192x4x1x128 (val_main_v24 (F := Ideal) h w) ?_ rfl 1 ?_ (ix4 r g 0 l) (fun a ha => ?_) ?_).trans ((v24_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega
  · refine (concatenate_apply_piece (t := Cert.ProjectRefIdeal.S8192x4x3x128) 2 _ _ _ 2 ?_ Cert.ProjectRefIdeal.S8192x4x1x128 (val_main_v25 (F := Ideal) h w) ?_ rfl 2 ?_ (ix4 r g 0 l) (fun a ha => ?_) ?_).trans ((v25_at h w r g l).trans ?_)
    · simp
    · rfl
    · rfl
    · fin_cases a <;> first | rfl | exact absurd rfl ha
    · rfl
    · refine congrArg (fun q => val_main_v0 (F := Ideal) h w (ix2 r q)) (Fin.ext ?_)
      simp
      try omega

theorem v29_at (h : FVec Ideal S8192x1024 .f32) (w : FVec Ideal S1024x5128 .f32) (r : Fin 8192) (n : Fin 2048) :
    Cert.ProjectRefIdeal.Read.val_main_v29 (F := Ideal) h w (ix2 r n)
      = Cert.ProjectRefIdeal.Read.val_main_v0 (F := Ideal) h w (ix2 r ⟨3080 + n.val, by omega⟩) := by
  open Cert.ProjectRefIdeal.Read in
  refine (show val_main_v29 (F := Ideal) h w (ix2 r n) = val_main_v8 (F := Ideal) h w (ix2 r n) from rfl).trans ?_
  rw [val_main_v8_apply]
  refine congrArg _ (funext fun a => Fin.ext ?_)
  fin_cases a <;> simp
  try omega

theorem v10_in (h : FVec Ideal S8192x1024 .f32) (w : FVec Ideal S1024x5128 .f32) (r : Fin 8192) (n : Fin 256) (hn : n.val < 8) :
    Cert.ProjectRefIdeal.Read.val_main_v10 (F := Ideal) h w (ix2 r n)
      = Cert.ProjectRefIdeal.Read.val_main_v0 (F := Ideal) h w (ix2 r ⟨3072 + n.val, by omega⟩) := by
  open Cert.ProjectRefIdeal.Read in
  unfold val_main_v10
  refine (concatenate_apply_piece (t := Cert.ProjectRefIdeal.S8192x256) 1 _ _ _ 0 ?_ Cert.ProjectRefIdeal.S8192x8 (val_main_v7 (F := Ideal) h w) ?_ rfl 0 ?_ (ix2 r ⟨n.val, hn⟩) (fun a ha => ?_) ?_).trans ?_
  · simp
  · rfl
  · rfl
  · fin_cases a <;> first | rfl | exact absurd rfl ha
  · exact Nat.zero_add _
  rw [val_main_v7_apply]
  refine congrArg _ (funext fun a => Fin.ext ?_)
  fin_cases a <;> simp
  try omega

theorem v10_out (h : FVec Ideal S8192x1024 .f32) (w : FVec Ideal S1024x5128 .f32) (r : Fin 8192) (n : Fin 256) (hn : ¬n.val < 8) :
    Cert.ProjectRefIdeal.Read.val_main_v10 (F := Ideal) h w (ix2 r n) = (0 : EReal) := by
  open Cert.ProjectRefIdeal.Read in
  unfold val_main_v10
  refine (concatenate_apply_piece (t := Cert.ProjectRefIdeal.S8192x256) 1 _ _ _ 1 ?_ Cert.ProjectRefIdeal.S8192x248 (val_main_v9 (F := Ideal)) ?_ rfl 8 ?_ (ix2 r ⟨n.val - 8, by omega⟩) (fun a ha => ?_) ?_).trans ?_
  · simp
  · rfl
  · rfl
  · fin_cases a <;> first | rfl | exact absurd rfl ha
  · show 8 + (n.val - 8) = n.val
    omega
  pointwise [val_main_v9, val_main_cst]

variable (m : (ℓ : Loc nD τ sig) → Buf (Elt Ideal) ℓ) (c : Dev nD)

abbrev ah : FVec Ideal S8192x1024 .f32 := m ((c : Thread nD τ).loc main_arg0)
abbrev aw : FVec Ideal S1024x5128 .f32 := m ((c : Thread nD τ).loc main_arg1)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ t.val < 16 :=
  (by decide +kernel : ∀ t : Fin grid0.N, _)

theorem V14 : V m c main_v14 = truncf (F := Ideal) .bf16 (ah m c) bitsLt_bf16_f32 := by
  unfold V
  simp only [hostOps0, hostOps0_1, hostOps0_2, List.flatten_cons, List.flatten_nil, List.append_nil, List.cons_append, List.nil_append]
  after_results_simp

/-- Row `r` of point `t`'s block is row `512 t + r` of the array. -/
abbrev row (t : Fin cfg0.N) (r : Fin 512) : Fin 8192 := ⟨t.val * 512 + r.val, by have := (idx t).2.2.2.2.2.2; omega⟩

theorem V13 : V m c main_v13 = wall (aw m c) := by
  unfold V
  simp only [hostOps0, hostOps0_1, hostOps0_2, List.flatten_cons, List.flatten_nil, List.append_nil, List.cons_append, List.nil_append]
  after_results_simp
  rfl

theorem blk0 (t : Fin cfg0.N) (i : Fin 512) (j : Fin 1024) : (show FVec Ideal S512x1024 .bf16 from iblk m c 0 t) (ix2 i j) = ah m c (ix2 (row t i) j) := by
  have e : (show FVec Ideal S512x1024 .bf16 from iblk m c 0 t) (ix2 i j) = (show FVec Ideal S8192x1024 .bf16 from V m c main_v14) (ix2 (row t i) j) := by
    blk_simp [iblk, idx t]
    refine congrArg (show FVec Ideal S8192x1024 .bf16 from V m c main_v14) ?_
    blk_ext [idx t]
  exact e.trans (congrFun (V14 m c) _)

theorem blk1 (t : Fin cfg0.N) (j : Fin 5376) (k : Fin 1024) : (show FVec Ideal S5376x1024 .bf16 from iblk m c 1 t) (ix2 j k) = wall (aw m c) (ix2 j k) := by
  have e : (show FVec Ideal S5376x1024 .bf16 from iblk m c 1 t) (ix2 j k) = (show FVec Ideal S5376x1024 .bf16 from V m c main_v13) (ix2 j k) := by
    blk_simp [iblk, idx t]
    refine congrArg (show FVec Ideal S5376x1024 .bf16 from V m c main_v13) ?_
    blk_ext [idx t]
  exact e.trans (congrFun (V13 m c) _)

theorem point2 (t : Fin cfg0.N) (r : Fin 512) (j : Fin 1536) :
    k0_pay2 (F := Ideal) (iblk m c 0 t) (View.ld (Val := Elt Ideal) (iblk m c 1 t) r0_1) (ix2 r j)
      = (∑ k : Fin 1024, ah m c (ix2 (row t r) k) * wall (aw m c) (ix2 ⟨0 + j.val, by omega⟩ k) : EReal) :=
  (pay2_at _ _ r j).trans (Finset.sum_congr rfl fun k _ => congrArg₂ (fun a b : EReal => a * b) (blk0 m c t r k) ((ld2 _ j k).trans (blk1 m c t _ k)))

theorem whole2 : (dats m 0 c).arrAt 2 cfg0.N = Cert.ProjectRefIdeal.Read.val_main_v19 (F := Ideal) (ah m c) (aw m c) := by
  refine (dats m 0 c).arrAt_eq_of_covers 2 _ (by decide +kernel) fun t _ y => ?_
  blk_simp
  have key : k0_pay2 (F := Ideal) (iblk m c 0 t) (View.ld (Val := Elt Ideal) (iblk m c 1 t) r0_1) y
      = Cert.ProjectRefIdeal.Read.val_main_v19 (F := Ideal) (ah m c) (aw m c) (((cfg0.win 2).blk t).view.emb y) := by
    obtain ⟨r, j, rfl⟩ : ∃ (r : Fin 512) (j : Fin 1536), y = ix2 r j := ⟨y 0, y 1, eq_ix2 y⟩
    have he : (((cfg0.win 2).blk t).view.emb (ix2 r j)) = (ix2 (row t r) j : S8192x1536.Idx) := by blk_ext [idx t]
    rw [he]
    refine (point2 m c t r j).trans ?_
    obtain ⟨g, a, l, rfl⟩ : ∃ (g : Fin 4) (a : Fin 3) (l : Fin 128), j = gcol g a l :=
      ⟨⟨j.val / 384, by omega⟩, ⟨j.val / 128 % 3, by omega⟩, ⟨j.val % 128, by omega⟩, Fin.ext (by simp only [gcol]; omega)⟩
    rw [v19_at, proj_at]
    refine Finset.sum_congr rfl fun k _ => congrArg (fun q : EReal => ah m c (ix2 (row t r) k) * q) ?_
    refine (wall0 _ _ k).trans ((groups_at _ g a l k).trans ((cut0 _ _ k).trans rfl))
  rw [after0_2]
  frame_out
  exact key

theorem point3 (t : Fin cfg0.N) (r : Fin 512) (j : Fin 1536) :
    k0_pay3 (F := Ideal) (iblk m c 0 t) (View.ld (Val := Elt Ideal) (iblk m c 1 t) r0_3) (ix2 r j)
      = (∑ k : Fin 1024, ah m c (ix2 (row t r) k) * wall (aw m c) (ix2 ⟨1536 + j.val, by omega⟩ k) : EReal) :=
  (pay3_at _ _ r j).trans (Finset.sum_congr rfl fun k _ => congrArg₂ (fun a b : EReal => a * b) (blk0 m c t r k) ((ld3 _ j k).trans (blk1 m c t _ k)))

theorem whole3 : (dats m 0 c).arrAt 3 cfg0.N = Cert.ProjectRefIdeal.Read.val_main_v28 (F := Ideal) (ah m c) (aw m c) := by
  refine (dats m 0 c).arrAt_eq_of_covers 3 _ (by decide +kernel) fun t _ y => ?_
  blk_simp
  have key : k0_pay3 (F := Ideal) (iblk m c 0 t) (View.ld (Val := Elt Ideal) (iblk m c 1 t) r0_3) y
      = Cert.ProjectRefIdeal.Read.val_main_v28 (F := Ideal) (ah m c) (aw m c) (((cfg0.win 3).blk t).view.emb y) := by
    obtain ⟨r, j, rfl⟩ : ∃ (r : Fin 512) (j : Fin 1536), y = ix2 r j := ⟨y 0, y 1, eq_ix2 y⟩
    have he : (((cfg0.win 3).blk t).view.emb (ix2 r j)) = (ix2 (row t r) j : S8192x1536.Idx) := by blk_ext [idx t]
    rw [he]
    refine (point3 m c t r j).trans ?_
    obtain ⟨g, a, l, rfl⟩ : ∃ (g : Fin 4) (a : Fin 3) (l : Fin 128), j = gcol g a l :=
      ⟨⟨j.val / 384, by omega⟩, ⟨j.val / 128 % 3, by omega⟩, ⟨j.val % 128, by omega⟩, Fin.ext (by simp only [gcol]; omega)⟩
    rw [v28_at, proj_at]
    refine Finset.sum_congr rfl fun k _ => congrArg (fun q : EReal => ah m c (ix2 (row t r) k) * q) ?_
    refine (wall1 _ _ k).trans ((groups_at _ g a l k).trans ((cut1 _ _ k).trans rfl))
  rw [after0_3]
  frame_out
  exact key

theorem point4 (t : Fin cfg0.N) (r : Fin 512) (j : Fin 2048) :
    k0_pay4 (F := Ideal) (iblk m c 0 t) (View.ld (Val := Elt Ideal) (iblk m c 1 t) r0_4) (ix2 r j)
      = (∑ k : Fin 1024, ah m c (ix2 (row t r) k) * wall (aw m c) (ix2 ⟨3072 + j.val, by omega⟩ k) : EReal) :=
  (pay4_at _ _ r j).trans (Finset.sum_congr rfl fun k _ => congrArg₂ (fun a b : EReal => a * b) (blk0 m c t r k) ((ld4 _ j k).trans (blk1 m c t _ k)))

theorem whole4 : (dats m 0 c).arrAt 4 cfg0.N = Cert.ProjectRefIdeal.Read.val_main_v29 (F := Ideal) (ah m c) (aw m c) := by
  refine (dats m 0 c).arrAt_eq_of_covers 4 _ (by decide +kernel) fun t _ y => ?_
  blk_simp
  have key : k0_pay4 (F := Ideal) (iblk m c 0 t) (View.ld (Val := Elt Ideal) (iblk m c 1 t) r0_4) y
      = Cert.ProjectRefIdeal.Read.val_main_v29 (F := Ideal) (ah m c) (aw m c) (((cfg0.win 4).blk t).view.emb y) := by
    obtain ⟨r, j, rfl⟩ : ∃ (r : Fin 512) (j : Fin 2048), y = ix2 r j := ⟨y 0, y 1, eq_ix2 y⟩
    have he : (((cfg0.win 4).blk t).view.emb (ix2 r j)) = (ix2 (row t r) j : S8192x2048.Idx) := by blk_ext [idx t]
    rw [he]
    refine (point4 m c t r j).trans ?_
    rw [v29_at, proj_at]
    refine Finset.sum_congr rfl fun k _ => congrArg (fun q : EReal => ah m c (ix2 (row t r) k) * q) ?_
    exact (wall2 _ _ k).trans (cut2 _ _ k)
  rw [after0_4]
  frame_out
  exact key

theorem point5 (t : Fin cfg0.N) (r : Fin 512) (j : Fin 256) :
    k0_pay5 (F := Ideal) (iblk m c 0 t) (View.ld (Val := Elt Ideal) (iblk m c 1 t) r0_6) (ix2 r j)
      = (∑ k : Fin 1024, ah m c (ix2 (row t r) k) * wall (aw m c) (ix2 ⟨5120 + j.val, by omega⟩ k) : EReal) :=
  (pay5_at _ _ r j).trans (Finset.sum_congr rfl fun k _ => congrArg₂ (fun a b : EReal => a * b) (blk0 m c t r k) ((ld5 _ j k).trans (blk1 m c t _ k)))

theorem whole5 : (dats m 0 c).arrAt 5 cfg0.N = Cert.ProjectRefIdeal.Read.val_main_v10 (F := Ideal) (ah m c) (aw m c) := by
  refine (dats m 0 c).arrAt_eq_of_covers 5 _ (by decide +kernel) fun t _ y => ?_
  blk_simp
  have key : k0_pay5 (F := Ideal) (iblk m c 0 t) (View.ld (Val := Elt Ideal) (iblk m c 1 t) r0_6) y
      = Cert.ProjectRefIdeal.Read.val_main_v10 (F := Ideal) (ah m c) (aw m c) (((cfg0.win 5).blk t).view.emb y) := by
    obtain ⟨r, j, rfl⟩ : ∃ (r : Fin 512) (j : Fin 256), y = ix2 r j := ⟨y 0, y 1, eq_ix2 y⟩
    have he : (((cfg0.win 5).blk t).view.emb (ix2 r j)) = (ix2 (row t r) j : S8192x256.Idx) := by blk_ext [idx t]
    rw [he]
    refine (point5 m c t r j).trans ?_
    by_cases hj : j.val < 8
    · rw [v10_in _ _ _ _ hj, proj_at]
      refine Finset.sum_congr rfl fun k _ => congrArg (fun q : EReal => ah m c (ix2 (row t r) k) * q) ?_
      exact (wall3 _ _ k).trans ((padded_in _ _ k hj).trans (cut3 _ _ k))
    · rw [v10_out _ _ _ _ hj]
      refine Finset.sum_eq_zero fun k _ => ?_
      exact (congrArg (fun q : EReal => ah m c (ix2 (row t r) k) * q) ((wall3 _ _ k).trans (padded_out _ _ k hj))).trans (mul_zero _)
  rw [after0_5]
  frame_out
  exact key

end Cert.ProjectIdeal.Value

namespace Cert.Proof.Project

theorem frame : Cert.quiescent_Project := fun m ρ _ => Cert.Project.Gen.frame m ρ
theorem frame_ideal : Cert.quiescent_ProjectIdeal := fun m ρ _ => Cert.ProjectIdeal.Gen.frame m ρ
theorem frame_ref : Cert.quiescent_ProjectRefIdeal := fun m ρ _ =>
  (θ_run Cert.ProjectRefIdeal.defs _ _).mono (fun r h => ⟨fun c => (h c).2.2.2.2, sem_eq_zero_of_no_sems (by decide) r.2⟩)
    (Cert.ProjectRefIdeal.Value.run (F := Ideal) m ρ)
theorem preserves : Cert.preserves_Project_ProjectIdeal := trivial

theorem algebraic : Cert.algebraic_ProjectIdeal_ProjectRefIdeal := by
  intro m g m' g' _ hagree
  refine ⟨_, _, _, _, (θ_run _ _ _).mono (fun _ h c => h c) (Cert.ProjectIdeal.Value.run_blocks m g), ?_⟩
  refine (θ_run _ _ _).mono (fun _ h c => ⟨(h c).1.trans ?_, (h c).2.1.trans ?_, (h c).2.2.1.trans ?_, (h c).2.2.2.1.trans ?_, (h c).2.2.2.2⟩) (Cert.ProjectRefIdeal.Value.run (F := Ideal) m' g')
  · rw [Cert.ProjectRefIdeal.Read.val_main_v19_eq, (hagree c).1, (hagree c).2]
    exact (Cert.ProjectIdeal.Value.whole2 m c).symm
  · rw [Cert.ProjectRefIdeal.Read.val_main_v28_eq, (hagree c).1, (hagree c).2]
    exact (Cert.ProjectIdeal.Value.whole3 m c).symm
  · rw [Cert.ProjectRefIdeal.Read.val_main_v29_eq, (hagree c).1, (hagree c).2]
    exact (Cert.ProjectIdeal.Value.whole4 m c).symm
  · rw [Cert.ProjectRefIdeal.Read.val_main_v10_eq, (hagree c).1, (hagree c).2]
    exact (Cert.ProjectIdeal.Value.whole5 m c).symm

end Cert.Proof.Project

end
-- ==== Proof.AdamWClaims.lean ====
/- The claims about the optimiser's step. -/
module

public import proofs.«01_k».proof.Proof.Reals
public import proofs.«01_k».proof.Proof.Gen.AdamW
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.Gen.AdamWRefIdeal.Read
public import proofs.«01_k».proof.Defs

@[expose] public section

set_option maxRecDepth 16384

noncomputable section

open Idealize.ShloMosaic Idealize.ShloMosaic.TcCoe Idealize.SL.Sem Cert.Reals

namespace Cert.AdamWIdeal.Value

open Cert.AdamWIdeal Cert.AdamWIdeal.Gen

/-- The new first moment, the new second moment and the step of one weight. -/
def em (g m : EReal) : EReal := Ideal.ofBits .f32 0x3F666666#32 * m + Ideal.ofBits .f32 0x3DCCCCCD#32 * g
def ev (g v : EReal) : EReal := Ideal.ofBits .f32 0x3F7FBE77#32 * v + Ideal.ofBits .f32 0x3A83126F#32 * (g * g)
def ed (w g m v : EReal) : EReal := Ideal.ofBits .f32 0xBA83126F#32
  * (Ideal.div (Ideal.div (em g m) (Ideal.ofBits .f32 0x3F26BD02#32))
      (Ideal.sqrt (Ideal.div (ev g v) (Ideal.ofBits .f32 0x3C231ACC#32)) + Ideal.ofBits .f32 0x322BCC77#32)
    + Ideal.ofBits .f32 0x3C23D70A#32 * w)

section Entries
variable (w g m v : FVec Ideal S256x1408 .f32) (r : Fin 256) (k : Fin 1408)
theorem pay1_at : k0_pay1 (F := Ideal) g m (ix2 r k) = em (g (ix2 r k)) (m (ix2 r k)) := by pointwise [k0_pay1]; rfl
theorem pay2_at : k0_pay2 (F := Ideal) g v (ix2 r k) = ev (g (ix2 r k)) (v (ix2 r k)) := by pointwise [k0_pay2]; rfl
theorem pay3_at : k0_pay3 (F := Ideal) g m v w (ix2 r k) = ed (w (ix2 r k)) (g (ix2 r k)) (m (ix2 r k)) (v (ix2 r k)) := by
  pointwise [k0_pay3, k0_pay1, k0_pay2]; rfl
end Entries

section RefEntries
open Cert.AdamWRefIdeal.Read
variable (w g m v : FVec Ideal S1024x1408 .f32) (r : Fin 1024) (k : Fin 1408)
theorem ref4_at : val_main_v4 (F := Ideal) g m (ix2 r k) = em (g (ix2 r k)) (m (ix2 r k)) := by
  pointwise [val_main_v4, val_main_v3, val_main_v2, val_main_v1, val_main_v0, val_main_cst, val_main_cst_0]; rfl
theorem ref10_at : val_main_v10 (F := Ideal) g v (ix2 r k) = ev (g (ix2 r k)) (v (ix2 r k)) := by
  pointwise [val_main_v10, val_main_v9, val_main_v8, val_main_v7, val_main_v6, val_main_v5, val_main_cst_1, val_main_cst_2]; rfl
theorem ref23_at : val_main_v23 (F := Ideal) w g m v (ix2 r k) = ed (w (ix2 r k)) (g (ix2 r k)) (m (ix2 r k)) (v (ix2 r k)) := by
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  rw [ref4_at, ref10_at]; rfl
end RefEntries

variable (m : (ℓ : Loc nD τ sig) → Buf (Elt Ideal) ℓ) (c : Dev nD)

abbrev a0 : FVec Ideal S1024x1408 .f32 := m ((c : Thread nD τ).loc main_arg0)
abbrev a1 : FVec Ideal S1024x1408 .f32 := m ((c : Thread nD τ).loc main_arg1)
abbrev a2 : FVec Ideal S1024x1408 .f32 := m ((c : Thread nD τ).loc main_arg2)
abbrev a3 : FVec Ideal S1024x1408 .f32 := m ((c : Thread nD τ).loc main_arg3)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 4 :=
  (by decide +kernel : ∀ t : Fin grid0.N, _)

/-- Row `r` of point `t`'s blocks is row `256 t + r` of the arrays. -/
abbrev row (t : Fin cfg0.N) (r : Fin 256) : Fin 1024 := ⟨t.val * 256 + r.val, by have := (idx t).2.2.2.2.2.2.2; omega⟩

section Blocks
variable (t : Fin cfg0.N) (r : Fin 256) (k : Fin 1408)
theorem blk0 : (show FVec Ideal S256x1408 .f32 from iblk m c 0 t) (ix2 r k) = a0 m c (ix2 (row t r) k) := by blk_point [iblk, V, idx t]
theorem blk1 : (show FVec Ideal S256x1408 .f32 from iblk m c 1 t) (ix2 r k) = a1 m c (ix2 (row t r) k) := by blk_point [iblk, V, idx t]
theorem blk2 : (show FVec Ideal S256x1408 .f32 from iblk m c 2 t) (ix2 r k) = a2 m c (ix2 (row t r) k) := by blk_point [iblk, V, idx t]
theorem blk3 : (show FVec Ideal S256x1408 .f32 from iblk m c 3 t) (ix2 r k) = a3 m c (ix2 (row t r) k) := by blk_point [iblk, V, idx t]
end Blocks

theorem whole4 : (dats m 0 c).arrAt 4 cfg0.N = Cert.AdamWRefIdeal.Read.val_main_v23 (F := Ideal) (a0 m c) (a1 m c) (a2 m c) (a3 m c) := by
  refine (dats m 0 c).arrAt_eq_of_covers 4 _ (by decide +kernel) fun t _ y => ?_
  blk_simp
  have key : k0_pay3 (F := Ideal) (iblk m c 1 t) (iblk m c 2 t) (iblk m c 3 t) (iblk m c 0 t) y = Cert.AdamWRefIdeal.Read.val_main_v23 (F := Ideal) (a0 m c) (a1 m c) (a2 m c) (a3 m c) (((cfg0.win 4).blk t).view.emb y) := by
    obtain ⟨r, k, rfl⟩ : ∃ (r : Fin 256) (k : Fin 1408), y = ix2 r k := ⟨y 0, y 1, eq_ix2 y⟩
    have he : (((cfg0.win 4).blk t).view.emb (ix2 r k)) = (ix2 (row t r) k : S1024x1408.Idx) := by blk_ext [idx t]
    rw [he, ref23_at]
    exact (pay3_at _ _ _ _ r k).trans (congr (congr (congr (congrArg ed (blk0 m c t r k)) (blk1 m c t r k)) (blk2 m c t r k)) (blk3 m c t r k))
  rw [after0_4]
  frame_out
  exact key

theorem whole5 : (dats m 0 c).arrAt 5 cfg0.N = Cert.AdamWRefIdeal.Read.val_main_v4 (F := Ideal) (a1 m c) (a2 m c) := by
  refine (dats m 0 c).arrAt_eq_of_covers 5 _ (by decide +kernel) fun t _ y => ?_
  blk_simp
  have key : k0_pay1 (F := Ideal) (iblk m c 1 t) (iblk m c 2 t) y = Cert.AdamWRefIdeal.Read.val_main_v4 (F := Ideal) (a1 m c) (a2 m c) (((cfg0.win 5).blk t).view.emb y) := by
    obtain ⟨r, k, rfl⟩ : ∃ (r : Fin 256) (k : Fin 1408), y = ix2 r k := ⟨y 0, y 1, eq_ix2 y⟩
    have he : (((cfg0.win 5).blk t).view.emb (ix2 r k)) = (ix2 (row t r) k : S1024x1408.Idx) := by blk_ext [idx t]
    rw [he, ref4_at]
    exact (pay1_at _ _ r k).trans (congr (congrArg em (blk1 m c t r k)) (blk2 m c t r k))
  rw [after0_5]
  frame_out
  exact key

theorem whole6 : (dats m 0 c).arrAt 6 cfg0.N = Cert.AdamWRefIdeal.Read.val_main_v10 (F := Ideal) (a1 m c) (a3 m c) := by
  refine (dats m 0 c).arrAt_eq_of_covers 6 _ (by decide +kernel) fun t _ y => ?_
  blk_simp
  have key : k0_pay2 (F := Ideal) (iblk m c 1 t) (iblk m c 3 t) y = Cert.AdamWRefIdeal.Read.val_main_v10 (F := Ideal) (a1 m c) (a3 m c) (((cfg0.win 6).blk t).view.emb y) := by
    obtain ⟨r, k, rfl⟩ : ∃ (r : Fin 256) (k : Fin 1408), y = ix2 r k := ⟨y 0, y 1, eq_ix2 y⟩
    have he : (((cfg0.win 6).blk t).view.emb (ix2 r k)) = (ix2 (row t r) k : S1024x1408.Idx) := by blk_ext [idx t]
    rw [he, ref10_at]
    exact (pay2_at _ _ r k).trans (congr (congrArg ev (blk1 m c t r k)) (blk3 m c t r k))
  rw [after0_6]
  frame_out
  exact key

end Cert.AdamWIdeal.Value

namespace Cert.Proof.AdamW

theorem frame : Cert.quiescent_AdamW := fun m ρ _ => Cert.AdamW.Gen.frame m ρ
theorem frame_ideal : Cert.quiescent_AdamWIdeal := fun m ρ _ => Cert.AdamWIdeal.Gen.frame m ρ
theorem frame_ref : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run (F := Ideal) m ρ)
theorem preserves : Cert.preserves_AdamW_AdamWIdeal := trivial

theorem algebraic : Cert.algebraic_AdamWIdeal_AdamWRefIdeal := by
  intro m g m' g' _ hagree
  refine ⟨_, _, _, (θ_run _ _ _).mono (fun _ h c => h c) (Cert.AdamWIdeal.Value.run_blocks m g), ?_⟩
  refine (θ_run _ _ _).mono (fun _ h c => ⟨(h c).1.trans ?_, (h c).2.1.trans ?_, (h c).2.2.1.trans ?_, (h c).2.2.2⟩) (Cert.AdamWRefIdeal.Value.run (F := Ideal) m' g')
  · rw [Cert.AdamWRefIdeal.Read.val_main_v23_eq, (hagree c).1, (hagree c).2.1, (hagree c).2.2.1, (hagree c).2.2.2]
    exact (Cert.AdamWIdeal.Value.whole4 m c).symm
  · rw [Cert.AdamWRefIdeal.Read.val_main_v4_eq, (hagree c).2.1, (hagree c).2.2.1]
    exact (Cert.AdamWIdeal.Value.whole5 m c).symm
  · rw [Cert.AdamWRefIdeal.Read.val_main_v10_eq, (hagree c).2.1, (hagree c).2.2.2]
    exact (Cert.AdamWIdeal.Value.whole6 m c).symm

end Cert.Proof.AdamW

end
-- ==== Proof.DeviceSumClaims.lean ====
/- The claims about the sum over the devices of the gathered small gradients. -/
module

public import proofs.«01_k».proof.Proof.Reals
public import proofs.«01_k».proof.Proof.Gen.DeviceSum
public import proofs.«01_k».proof.Proof.Gen.DeviceSum.Frame
public import proofs.«01_k».proof.Proof.Gen.DeviceSumIdeal.Frame
public import proofs.«01_k».proof.Proof.Gen.DeviceSumIdeal.Value
public import proofs.«01_k».proof.Proof.Gen.DeviceSumRefIdeal.Run
public import proofs.«01_k».proof.Proof.Gen.DeviceSumRefIdeal.Read
public import proofs.«01_k».proof.Defs

@[expose] public section

set_option maxRecDepth 16384

noncomputable section

open Idealize.ShloMosaic Idealize.ShloMosaic.TcCoe Idealize.SL.Sem Cert.Reals

namespace Cert.DeviceSumIdeal.Value

open Cert.DeviceSumIdeal Cert.DeviceSumIdeal.Gen

/-- Device `d`'s block of the gathered rows. -/
abbrev at_ (d : Fin 8) (r : Fin 192) : Fin 1536 := ⟨192 * d.val + r.val, by omega⟩

theorem pay_at (x : FVec Ideal S1536x128 .f32) (r : Fin 192) (l : Fin 128) :
    k0_pay1 (F := Ideal) (View.ld x r0_0) (View.ld x r0_1) (View.ld x r0_2) (View.ld x r0_3) (View.ld x r0_4) (View.ld x r0_5) (View.ld x r0_6) (View.ld x r0_7) (ix2 r l)
      = ∑ d : Fin 8, x (ix2 (at_ d r) l) := by
  rw [Fin.sum_univ_eight]
  pointwise [k0_pay1]
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) ?_ ?_) ?_) ?_) ?_) ?_) ?_) ?_
  all_goals exact congrArg (fun q => x (ix2 q l)) (Fin.ext (by simp [at_]))

theorem ref_at (x : FVec Ideal S1536x128 .f32) (r : Fin 192) (l : Fin 128) :
    Cert.DeviceSumRefIdeal.Read.val_main_v1 (F := Ideal) x (ix2 r l) = ∑ d : Fin 8, x (ix2 (at_ d r) l) := by
  open Cert.DeviceSumRefIdeal.Read in
  pointwise [val_main_v1, val_main_v0, val_main_cst]
  refine Finset.sum_congr rfl fun d _ => congrArg x ?_
  congr 1
  exact Fin.ext (by simp only [at_]; omega)

variable (m : (ℓ : Loc nD τ sig) → Buf (Elt Ideal) ℓ) (c : Dev nD)

abbrev ax : FVec Ideal S1536x128 .f32 := m ((c : Thread nD τ).loc main_arg0)

theorem idx : ∀ t : Fin cfg0.N, win0_0.index t = ![0, 0] ∧ win0_1.index t = ![0, 0] :=
  (by decide +kernel : ∀ t : Fin grid0.N, _)

theorem blk0 (t : Fin cfg0.N) (r : Fin 1536) (l : Fin 128) : (show FVec Ideal S1536x128 .f32 from iblk m c 0 t) (ix2 r l) = ax m c (ix2 r l) := by
  blk_point [iblk, V, idx t]

theorem whole1 : (dats m 0 c).arrAt 1 cfg0.N = Cert.DeviceSumRefIdeal.Read.val_main_v1 (F := Ideal) (ax m c) := by
  refine (dats m 0 c).arrAt_eq_of_covers 1 _ (by decide +kernel) fun t _ y => ?_
  blk_simp
  have key : k0_pay1 (F := Ideal) (View.ld (iblk m c 0 t) r0_0) (View.ld (iblk m c 0 t) r0_1) (View.ld (iblk m c 0 t) r0_2) (View.ld (iblk m c 0 t) r0_3)
        (View.ld (iblk m c 0 t) r0_4) (View.ld (iblk m c 0 t) r0_5) (View.ld (iblk m c 0 t) r0_6) (View.ld (iblk m c 0 t) r0_7) y
      = Cert.DeviceSumRefIdeal.Read.val_main_v1 (F := Ideal) (ax m c) (((cfg0.win 1).blk t).view.emb y) := by
    obtain ⟨r, l, rfl⟩ : ∃ (r : Fin 192) (l : Fin 128), y = ix2 r l := ⟨y 0, y 1, eq_ix2 y⟩
    have he : (((cfg0.win 1).blk t).view.emb (ix2 r l)) = (ix2 r l : S192x128.Idx) := by blk_ext [idx t]
    rw [he, ref_at]
    exact (pay_at _ r l).trans (Finset.sum_congr rfl fun d _ => blk0 m c t _ l)
  rw [after0_1]
  frame_out
  exact key

end Cert.DeviceSumIdeal.Value

namespace Cert.Proof.DeviceSum

theorem frame : Cert.quiescent_DeviceSum := fun m ρ _ => Cert.DeviceSum.Gen.frame m ρ
theorem frame_ideal : Cert.quiescent_DeviceSumIdeal := fun m ρ _ => Cert.DeviceSumIdeal.Gen.frame m ρ
theorem frame_ref : Cert.quiescent_DeviceSumRefIdeal := fun m ρ _ =>
  (θ_run Cert.DeviceSumRefIdeal.defs _ _).mono (fun r h => ⟨fun c => (h c).2, sem_eq_zero_of_no_sems (by decide) r.2⟩)
    (Cert.DeviceSumRefIdeal.Value.run (F := Ideal) m ρ)
theorem preserves : Cert.preserves_DeviceSum_DeviceSumIdeal := trivial

theorem algebraic : Cert.algebraic_DeviceSumIdeal_DeviceSumRefIdeal := by
  intro m g m' g' _ hagree
  refine ⟨_, (θ_run _ _ _).mono (fun _ h c => h c) (Cert.DeviceSumIdeal.Value.run_blocks m g), ?_⟩
  refine (θ_run _ _ _).mono (fun _ h c => ⟨(h c).1.trans ?_, (h c).2⟩) (Cert.DeviceSumRefIdeal.Value.run (F := Ideal) m' g')
  · rw [Cert.DeviceSumRefIdeal.Read.val_main_v1_eq, hagree c]
    exact (Cert.DeviceSumIdeal.Value.whole1 m c).symm

end Cert.Proof.DeviceSum

end
-- ==== Proof.Place.lean ====
/- The place of a device in the mesh — its chip, its core and the three other chips — as the words of a table, and the two gathers by
   which a reference picks one of an axis's slices by such a word. -/
module

public import proofs.«01_k».proof.Proof.Reals

@[expose] public section

set_option maxRecDepth 16384

noncomputable section

open Idealize.ShloMosaic

namespace Cert.Place

abbrev S5 : Shape := ⟨1, ![5]⟩

/-- Word 1 names one of the two cores, and the three words after it each name one of the four chips. -/
def PairMesh (p : IVec S5 32) : Prop := (∀ k : Fin 3, (p (ix1 (⟨2 + k.val, by omega⟩ : Fin 5))).toNat < 4) ∧ (p (ix1 (1 : Fin 5))).toNat < 2

/-- Word 0 names one of the four chips, and word 1 one of the two cores. -/
def ChipMesh (p : IVec S5 32) : Prop := (p (ix1 (0 : Fin 5))).toNat < 4 ∧ (p (ix1 (1 : Fin 5))).toNat < 2

theorem word (w k : BitVec 32) (hk : k.toNat < 2 ^ 31) (h : IntOp.andi (IntOp.cmpi .sge w 0#32) (IntOp.cmpi .slt w k) = 1#1) :
    w.toNat < k.toNat := by
  have andi_one : ∀ a b : BitVec 1, IntOp.andi a b = 1#1 → a = 1#1 ∧ b = 1#1 := by decide
  have ofBool_one : ∀ p : Bool, BitVec.ofBool p = 1#1 → p = true := by decide
  obtain ⟨h0, h1⟩ := andi_one _ _ h
  have h0 := ofBool_one _ h0
  have h1 := ofBool_one _ h1
  simp only [BitVec.sle, BitVec.slt, decide_eq_true_eq, BitVec.toInt, BitVec.toNat_ofNat] at h0 h1
  have := w.isLt
  split at h1 <;> split at h0 <;> split at h1 <;> omega

/-- The word that an index map reads at an offset. -/
theorem read_at (p : IVec S5 32) (off : Fin 1 → Nat) (h : ∀ a, off a + (⟨1, ![1]⟩ : Shape).size a ≤ S5.size a) (h1 : (⟨1, ![1]⟩ : Shape).numel = 1)
    (n : Fin 5) (hn : off 0 = n.val) :
    p ((Rect.unit (s := S5) off (⟨1, ![1]⟩ : Shape).size h).emb (Shape.Idx.first (s := ⟨1, ![1]⟩) (h1.symm ▸ Nat.one_pos))) = p (ix1 n) := by
  refine congrArg p (funext fun a => Fin.ext ?_)
  obtain rfl : a = 0 := Subsingleton.elim _ _
  have hz : ∀ q : Fin 1, q.val = 0 := fun q => by omega
  refine (ValueKit.rect_emb_unit_val _ _ _ _ _).trans ?_
  exact (congrArg (off 0 + ·) (hz _)).trans hn

/-- A small word clamped into an axis is itself. -/
theorem clamp {w : BitVec 32} {n : Nat} (h : w.toNat ≤ n) (hn : n < 2 ^ 31) : min w.toInt.toNat n = w.toNat := by
  rw [BitVec.toInt_eq_toNat_of_lt (by omega)]
  simp only [Int.toNat_natCast]
  omega

section
variable {s si u : Shape} (d : GatherDims s si u) (j : u.Idx)

/-- The coordinate read on an axis that the words do not pick. -/
theorem kept_at (idx : IVec si 32) (a : Fin s.rank) (hs : a ∉ d.startIndexMap) (hb : a ∉ d.operandBatchingDims) (hk : a ∈ d.sKept) :
    (d.operandIdx j idx a).val = (j (d.offsetDims[d.sKept.idxOf a]'(by rw [d.offset_length]; exact List.idxOf_lt_length_iff.2 hk))).val := by
  show d.start j idx a + d.batchCoord j a + d.offCoord j a = _
  rw [d.batchCoord_eq_zero _ _ hb]
  unfold GatherDims.start GatherDims.offCoord
  rw [dif_neg hs, dif_pos hk]
  omega

/-- The coordinate read on an axis that a word picks. -/
theorem picked_at (idx : IVec si 32) (a : Fin s.rank) (hs : a ∈ d.startIndexMap) (hb : a ∉ d.operandBatchingDims) (hk : a ∉ d.sKept) :
    (d.operandIdx j idx a).val = min (idx (d.siIdx j ⟨d.startIndexMap.idxOf a, List.idxOf_lt_length_iff.2 hs⟩)).toInt.toNat (s.size a - d.sliceSizes a) := by
  show d.start j idx a + d.batchCoord j a + d.offCoord j a = _
  rw [d.batchCoord_eq_zero _ _ hb, d.offCoord_eq_zero _ _ hk]
  unfold GatherDims.start
  rw [dif_pos hs]
  omega

end

/-- The dimension numbers of `gather_core`. -/
abbrev d_core : GatherDims (⟨4, ![4, 2, 512, 1408]⟩ : Shape) (⟨1, ![1]⟩ : Shape) (⟨3, ![4, 512, 1408]⟩ : Shape) where
  offsetDims := [0, 1, 2]
  collapsedSliceDims := [1]
  operandBatchingDims := []
  startIndicesBatchingDims := []
  startIndexMap := [1]
  indexVectorDim := 0
  sliceSizes := ![4, 1, 512, 1408]

/-- The dimension numbers of `gather_peers`. -/
abbrev d_peers : GatherDims (⟨3, ![4, 512, 1408]⟩ : Shape) (⟨2, ![3, 1]⟩ : Shape) (⟨3, ![3, 512, 1408]⟩ : Shape) where
  offsetDims := [1, 2]
  collapsedSliceDims := [0]
  operandBatchingDims := []
  startIndicesBatchingDims := []
  startIndexMap := [0]
  indexVectorDim := 1
  sliceSizes := ![1, 512, 1408]

/-- The dimension numbers of `gather_chip`. -/
abbrev d_chip : GatherDims (⟨3, ![4, 512, 1408]⟩ : Shape) (⟨1, ![1]⟩ : Shape) (⟨2, ![512, 1408]⟩ : Shape) where
  offsetDims := [0, 1]
  collapsedSliceDims := [0]
  operandBatchingDims := []
  startIndicesBatchingDims := []
  startIndexMap := [0]
  indexVectorDim := 0
  sliceSizes := ![1, 512, 1408]

theorem only (i : (⟨1, ![1]⟩ : Shape).Idx) : i = ix1 (0 : Fin 1) := (eq_ix1 i).trans (congrArg ix1 (Subsingleton.elim _ _))

/-- One slice of axis 1, picked by a word. -/
theorem gather_core {α : Type} (x : (⟨4, ![4, 2, 512, 1408]⟩ : Shape).Idx → α) (idx : IVec (⟨1, ![1]⟩ : Shape) 32) (k : Fin 4) (r : Fin 512) (l : Fin 1408)
    (b : Fin 2) (hb : (idx (ix1 (0 : Fin 1))).toNat = b.val) :
    Host.gather d_core x idx (ix3 k r l) = x (ix4 k b r l) := by
  unfold Host.gather
  refine congrArg x (funext fun a => Fin.ext ?_)
  match a with
  | ⟨0, _⟩ => exact kept_at _ _ idx 0 (by decide) (by decide) (by decide)
  | ⟨1, _⟩ =>
    refine (picked_at _ _ idx 1 (by decide) (by decide) (by decide)).trans ?_
    rw [show GatherDims.siIdx _ _ _ = ix1 (0 : Fin 1) from only _]
    exact (clamp (by have := b.isLt; show _ ≤ 1; omega) (by decide)).trans hb
  | ⟨2, _⟩ => exact kept_at _ _ idx 2 (by decide) (by decide) (by decide)
  | ⟨3, _⟩ => exact kept_at _ _ idx 3 (by decide) (by decide) (by decide)

/-- Three slices of axis 0, each picked by a word. -/
theorem gather_peers {α : Type} (x : (⟨3, ![4, 512, 1408]⟩ : Shape).Idx → α) (idx : IVec (⟨2, ![3, 1]⟩ : Shape) 32) (k : Fin 3) (r : Fin 512) (l : Fin 1408)
    (b : Fin 4) (hb : (idx (ix2 k (0 : Fin 1))).toNat = b.val) :
    Host.gather d_peers x idx (ix3 k r l) = x (ix3 b r l) := by
  unfold Host.gather
  refine congrArg x (funext fun a => Fin.ext ?_)
  match a with
  | ⟨0, _⟩ =>
    refine (picked_at _ _ idx 0 (by decide) (by decide) (by decide)).trans ?_
    have e : GatherDims.siIdx d_peers (ix3 k r l) ⟨0, by decide⟩ = ix2 k (0 : Fin 1) := by
      funext q
      refine Fin.ext ?_
      match q with
      | ⟨0, _⟩ => rfl
      | ⟨1, _⟩ => rfl
    refine (congrArg (fun q => min (idx q).toInt.toNat _) e).trans ?_
    exact (clamp (by have := b.isLt; show _ ≤ 3; omega) (by decide)).trans hb
  | ⟨1, _⟩ => exact kept_at _ _ idx 1 (by decide) (by decide) (by decide)
  | ⟨2, _⟩ => exact kept_at _ _ idx 2 (by decide) (by decide) (by decide)

/-- One slice of axis 0, picked by a word. -/
theorem gather_chip {α : Type} (x : (⟨3, ![4, 512, 1408]⟩ : Shape).Idx → α) (idx : IVec (⟨1, ![1]⟩ : Shape) 32) (r : Fin 512) (l : Fin 1408)
    (b : Fin 4) (hb : (idx (ix1 (0 : Fin 1))).toNat = b.val) :
    Host.gather d_chip x idx (ix2 r l) = x (ix3 b r l) := by
  unfold Host.gather
  refine congrArg x (funext fun a => Fin.ext ?_)
  match a with
  | ⟨0, _⟩ =>
    refine (picked_at _ _ idx 0 (by decide) (by decide) (by decide)).trans ?_
    rw [show GatherDims.siIdx _ _ _ = ix1 (0 : Fin 1) from only _]
    exact (clamp (by have := b.isLt; show _ ≤ 3; omega) (by decide)).trans hb
  | ⟨1, _⟩ => exact kept_at _ _ idx 1 (by decide) (by decide) (by decide)
  | ⟨2, _⟩ => exact kept_at _ _ idx 2 (by decide) (by decide) (by decide)

end Cert.Place

end
-- ==== Proof.PairSumClaims.lean ====
/- The claims about the sum of the two cores' gradients, one half of the rows for each of the three other chips. -/
module

public import proofs.«01_k».proof.Proof.Place
public import proofs.«01_k».proof.Proof.Gen.PairSum.Frame
public import proofs.«01_k».proof.Proof.Gen.PairSumIdeal.Frame
public import proofs.«01_k».proof.Proof.Gen.PairSumRefIdeal.Run
public import proofs.«01_k».proof.Proof.Gen.PairSumRefIdeal.Read
public import proofs.«01_k».proof.Proof.Gen.Pre_pair_sum_place
public import Idealize.ShloMosaic.Lib.Pipeline.Value
public import proofs.«01_k».proof.Defs

@[expose] public section

set_option maxRecDepth 16384

noncomputable section

open Idealize.ShloMosaic Idealize.ShloMosaic.TcCoe Idealize.SL.Sem Cert.Reals Cert.Place

/-- The precondition puts the core and the three other chips in the mesh. -/
theorem Cert.Place.pairMesh {F : FTy → Type} [FloatOps F] (p : IVec Cert.Pre_pair_sum_place.S5 32) (g : FVec F Cert.Pre_pair_sum_place.S4x1024x1408 .f32)
    (got : FVec F Cert.Pre_pair_sum_place.S4x512x1408 .f32) (h : Cert.Pre_pair_sum_place.fn (F := F) p g got = fun _ => 1#1) : PairMesh p := by
  have es : ∀ k : Fin 4, extractStridedSlice Cert.Pre_pair_sum_place.S4 ![1] p Cert.Pre_pair_sum_place.Facts.slices_S5_S4_1 (ix1 k)
      = p (ix1 (⟨1 + k.val, by omega⟩ : Fin 5)) := fun k =>
    extractStridedSlice_apply ![1] p _ (ix1 k) (ix1 (⟨1 + k.val, by omega⟩ : Fin 5)) (fun a => match a with | ⟨0, _⟩ => rfl)
  refine ⟨fun k => ?_, ?_⟩
  · fin_cases k
    · refine word _ 4#32 (by decide) ?_
      exact (congrArg (fun w => IntOp.andi (IntOp.cmpi .sge w 0#32) (IntOp.cmpi .slt w 4#32)) (es 1)).symm.trans (congrFun h (ix1 (1 : Fin 4)))
    · refine word _ 4#32 (by decide) ?_
      exact (congrArg (fun w => IntOp.andi (IntOp.cmpi .sge w 0#32) (IntOp.cmpi .slt w 4#32)) (es 2)).symm.trans (congrFun h (ix1 (2 : Fin 4)))
    · refine word _ 4#32 (by decide) ?_
      exact (congrArg (fun w => IntOp.andi (IntOp.cmpi .sge w 0#32) (IntOp.cmpi .slt w 4#32)) (es 3)).symm.trans (congrFun h (ix1 (3 : Fin 4)))
  · refine word _ 2#32 (by decide) ?_
    exact (congrArg (fun w => IntOp.andi (IntOp.cmpi .sge w 0#32) (IntOp.cmpi .slt w 2#32)) (es 0)).symm.trans (congrFun h (ix1 (0 : Fin 4)))

namespace Cert.PairSum.Table

open Cert.PairSum Cert.PairSum.Gen

variable {F : FTy → Type} [FloatOps F]

/-- The words of the table. -/
abbrev words (pf : pre0.Contents (Elt F)) : IVec S5 32 := pf 0

/-- Where the table names the chip that a point of the grid sums for. -/
abbrev peer (i : grid0.Coords) : Fin 5 := ⟨2 + (i 0).val, by have : (i 0).val < 3 := (i 0).isLt; omega⟩

theorem off_at : ∀ i : grid0.Coords, k0_off1 i 0 = 2 + (i 0).val := by decide +kernel

theorem map0 (pf : pre0.Contents (Elt F)) (i : grid0.Coords) :
    ix0 pf 0 i = ![((words pf) (ix1 (peer i))).toNat,
      ((words pf) (ix1 (1 : Fin 5))).toNat, 0] := by
  have e := read_at (words pf) (k0_off1 i) (k0_off1_inb i) numel1_S1 (peer i) (off_at i)
  have e1 := read_at (words pf) ![1] inb_S5_S1_1 numel1_S1 1 rfl
  show cc0_transform_0 _ _ _ pf i = _
  unfold cc0_transform_0
  rw [← e, ← e1]
  rfl

theorem map1 (pf : pre0.Contents (Elt F)) (i : grid0.Coords) :
    ix0 pf 1 i = ![((words pf) (ix1 (peer i))).toNat, 0, 0] := by
  have e := read_at (words pf) (k0_off1 i) (k0_off1_inb i) numel1_S1 (peer i) (off_at i)
  show cc0_transform_1 _ _ pf i = _
  unfold cc0_transform_1
  rw [← e]
  rfl

/-- In the mesh, every block that a word places lies inside its array. -/
theorem ok (pf : pre0.Contents (Elt F)) (h : PairMesh (words pf)) : ok0 pf := by
  refine ⟨fun i => ⟨fun a => ?_, .inl rfl⟩, fun i => ⟨fun a => ?_, .inl rfl⟩⟩
  · have e := map0 pf i
    have e : cc0_transform_0 _ _ _ pf i = _ := e
    rw [e]
    have h0 : ((words pf) (ix1 (peer i))).toNat < 4 := h.1 (i 0)
    have h1 := h.2
    match a with
    | ⟨0, _⟩ => exact (by omega : (((words pf) (ix1 (peer i))).toNat + 1) * 1 ≤ 4)
    | ⟨1, _⟩ => exact (by omega : (((words pf) (ix1 (1 : Fin 5))).toNat + 1) * 512 ≤ 1024)
    | ⟨2, _⟩ => exact le_refl 1408
  · have e := map1 pf i
    have e : cc0_transform_1 _ _ pf i = _ := e
    rw [e]
    have h0 : ((words pf) (ix1 (peer i))).toNat < 4 := h.1 (i 0)
    match a with
    | ⟨0, _⟩ => exact (by omega : (((words pf) (ix1 (peer i))).toNat + 1) * 1 ≤ 4)
    | ⟨1, _⟩ => exact le_refl 512
    | ⟨2, _⟩ => exact le_refl 1408

end Cert.PairSum.Table

namespace Cert.PairSumIdeal.Table

open Cert.PairSumIdeal Cert.PairSumIdeal.Gen

variable {F : FTy → Type} [FloatOps F]

/-- The words of the table. -/
abbrev words (pf : pre0.Contents (Elt F)) : IVec S5 32 := pf 0

/-- Where the table names the chip that a point of the grid sums for. -/
abbrev peer (i : grid0.Coords) : Fin 5 := ⟨2 + (i 0).val, by have : (i 0).val < 3 := (i 0).isLt; omega⟩

theorem off_at : ∀ i : grid0.Coords, k0_off1 i 0 = 2 + (i 0).val := by decide +kernel

theorem map0 (pf : pre0.Contents (Elt F)) (i : grid0.Coords) :
    ix0 pf 0 i = ![((words pf) (ix1 (peer i))).toNat,
      ((words pf) (ix1 (1 : Fin 5))).toNat, 0] := by
  have e := read_at (words pf) (k0_off1 i) (k0_off1_inb i) numel1_S1 (peer i) (off_at i)
  have e1 := read_at (words pf) ![1] inb_S5_S1_1 numel1_S1 1 rfl
  show cc0_transform_0 _ _ _ pf i = _
  unfold cc0_transform_0
  rw [← e, ← e1]
  rfl

theorem map1 (pf : pre0.Contents (Elt F)) (i : grid0.Coords) :
    ix0 pf 1 i = ![((words pf) (ix1 (peer i))).toNat, 0, 0] := by
  have e := read_at (words pf) (k0_off1 i) (k0_off1_inb i) numel1_S1 (peer i) (off_at i)
  show cc0_transform_1 _ _ pf i = _
  unfold cc0_transform_1
  rw [← e]
  rfl

/-- In the mesh, every block that a word places lies inside its array. -/
theorem ok (pf : pre0.Contents (Elt F)) (h : PairMesh (words pf)) : ok0 pf := by
  refine ⟨fun i => ⟨fun a => ?_, .inl rfl⟩, fun i => ⟨fun a => ?_, .inl rfl⟩⟩
  · have e := map0 pf i
    have e : cc0_transform_0 _ _ _ pf i = _ := e
    rw [e]
    have h0 : ((words pf) (ix1 (peer i))).toNat < 4 := h.1 (i 0)
    have h1 := h.2
    match a with
    | ⟨0, _⟩ => exact (by omega : (((words pf) (ix1 (peer i))).toNat + 1) * 1 ≤ 4)
    | ⟨1, _⟩ => exact (by omega : (((words pf) (ix1 (1 : Fin 5))).toNat + 1) * 512 ≤ 1024)
    | ⟨2, _⟩ => exact le_refl 1408
  · have e := map1 pf i
    have e : cc0_transform_1 _ _ pf i = _ := e
    rw [e]
    have h0 : ((words pf) (ix1 (peer i))).toNat < 4 := h.1 (i 0)
    match a with
    | ⟨0, _⟩ => exact (by omega : (((words pf) (ix1 (peer i))).toNat + 1) * 1 ≤ 4)
    | ⟨1, _⟩ => exact le_refl 512
    | ⟨2, _⟩ => exact le_refl 1408

end Cert.PairSumIdeal.Table

namespace Cert.PairSumIdeal.Value

open Cert.PairSumIdeal Cert.PairSumIdeal.Gen Cert.PairSumIdeal.Table

/-- A row of core `b`'s half. -/
abbrev row (b : Fin 2) (r : Fin 512) : Fin 1024 := ⟨512 * b.val + r.val, by omega⟩

theorem pay_at (x y : FVec Ideal S1x512x1408 .f32) (r : Fin 512) (l : Fin 1408) :
    k0_pay1 (F := Ideal) x y (ix3 (0 : Fin 1) r l) = ((x (ix3 (0 : Fin 1) r l) : EReal) + y (ix3 (0 : Fin 1) r l) : EReal) := by
  pointwise [k0_pay1]

theorem ref_at (p : IVec S5 32) (g : FVec Ideal S4x1024x1408 .f32) (got : FVec Ideal S4x512x1408 .f32) (t : Fin 3) (r : Fin 512) (l : Fin 1408)
    (k : Fin 4) (hk : (p (ix1 (⟨2 + t.val, by omega⟩ : Fin 5))).toNat = k.val) (b : Fin 2) (hb : (p (ix1 (1 : Fin 5))).toNat = b.val) :
    Cert.PairSumRefIdeal.Read.val_main_v7 (F := Ideal) p g got (ix3 t r l) = (g (ix3 k (row b r) l) + got (ix3 k r l) : EReal) := by
  open Cert.PairSumRefIdeal.Read in
  refine (val_main_v7_apply (F := Ideal) p g got _).trans ?_
  show val_main_v6 (F := Ideal) p g got (ix3 t r l) = _
  refine (gather_peers (val_main_v4 (F := Ideal) p g got) (val_main_call1_v0 (F := Ideal) p) t r l k ?_).trans ?_
  · rw [val_main_call1_v0_apply, val_main_v5_apply]
    exact (congrArg (fun q => (p q).toNat) (eq_ix1 _)).trans hk
  · refine (val_main_v4_apply (F := Ideal) p g got _).trans ?_
    refine congrArg (fun z : EReal => z + got (ix3 k r l)) ?_
    refine (gather_core (val_main_v0 (F := Ideal) g) (val_main_call0_v0 (F := Ideal) p) k r l b ?_).trans ?_
    · rw [val_main_call0_v0_apply]
      pointwise [val_main_v2, val_main_v1]
      exact hb
    · pointwise [val_main_v0]
      exact congrArg (fun q => g (ix3 k q l)) (Fin.ext (by show b.val * 512 + r.val = 512 * b.val + r.val; omega))

variable (m : (ℓ : Loc nD τ sig) → Buf (Elt Ideal) ℓ) (hO : Ok m) (c : Dev nD)

abbrev ap : IVec S5 32 := m ((c : Thread nD τ).loc main_arg0)
abbrev ag : FVec Ideal S4x1024x1408 .f32 := m ((c : Thread nD τ).loc main_arg1)
abbrev agot : FVec Ideal S4x512x1408 .f32 := m ((c : Thread nD τ).loc main_arg2)

theorem coord : ∀ t : Fin grid0.N, (grid0.coords t 0).val = t.val := by decide +kernel

theorem idx0 (t : Fin grid0.N) : ((cfgM m hO).win 0).index t = ![(words (tbl m) (ix1 (peer (grid0.coords t)))).toNat, (words (tbl m) (ix1 (1 : Fin 5))).toNat, 0] :=
  map0 (tbl m) (grid0.coords t)
theorem idx1 (t : Fin grid0.N) : ((cfgM m hO).win 1).index t = ![(words (tbl m) (ix1 (peer (grid0.coords t)))).toNat, 0, 0] :=
  map1 (tbl m) (grid0.coords t)
theorem idx2 : ∀ t : Fin grid0.N, cc0_transform_2 (grid0.coords t) = ![t.val, 0, 0] := by decide +kernel
theorem idx2' (t : Fin grid0.N) : ((cfgM m hO).win 2).index t = ![t.val, 0, 0] := idx2 t

theorem blk0 (t : Fin grid0.N) (r : Fin 512) (l : Fin 1408) (k : Fin 4) (hk : (words (tbl m) (ix1 (peer (grid0.coords t)))).toNat = k.val)
    (b : Fin 2) (hb : (words (tbl m) (ix1 (1 : Fin 5))).toNat = b.val) :
    (show FVec Ideal S1x512x1408 .f32 from iblk m hO c 0 t) (ix3 (0 : Fin 1) r l) = ag m c (ix3 k (row b r) l) := by
  refine congrArg (ag m c) (funext fun a => Fin.ext ?_)
  have e := idx0 m hO t
  match a with
  | ⟨0, _⟩ =>
    show ((cfgM m hO).win 0).index t (0 : Fin 3) * 1 + 1 * 0 = k.val
    rw [e, ← hk]
    exact (by omega : (words (tbl m) (ix1 (peer (grid0.coords t)))).toNat * 1 + 1 * 0 = (words (tbl m) (ix1 (peer (grid0.coords t)))).toNat)
  | ⟨1, _⟩ =>
    show ((cfgM m hO).win 0).index t (1 : Fin 3) * 512 + 1 * r.val = 512 * b.val + r.val
    rw [e, ← hb]
    exact (by omega : (words (tbl m) (ix1 (1 : Fin 5))).toNat * 512 + 1 * r.val = 512 * (words (tbl m) (ix1 (1 : Fin 5))).toNat + r.val)
  | ⟨2, _⟩ =>
    show ((cfgM m hO).win 0).index t (2 : Fin 3) * 1408 + 1 * l.val = l.val
    rw [e]
    exact (by omega : 0 * 1408 + 1 * l.val = l.val)

theorem blk1 (t : Fin grid0.N) (r : Fin 512) (l : Fin 1408) (k : Fin 4) (hk : (words (tbl m) (ix1 (peer (grid0.coords t)))).toNat = k.val) :
    (show FVec Ideal S1x512x1408 .f32 from iblk m hO c 1 t) (ix3 (0 : Fin 1) r l) = agot m c (ix3 k r l) := by
  refine congrArg (agot m c) (funext fun a => Fin.ext ?_)
  have e := idx1 m hO t
  match a with
  | ⟨0, _⟩ =>
    show ((cfgM m hO).win 1).index t (0 : Fin 3) * 1 + 1 * 0 = k.val
    rw [e, ← hk]
    exact (by omega : (words (tbl m) (ix1 (peer (grid0.coords t)))).toNat * 1 + 1 * 0 = (words (tbl m) (ix1 (peer (grid0.coords t)))).toNat)
  | ⟨1, _⟩ =>
    show ((cfgM m hO).win 1).index t (1 : Fin 3) * 512 + 1 * r.val = r.val
    rw [e]
    exact (by omega : 0 * 512 + 1 * r.val = r.val)
  | ⟨2, _⟩ =>
    show ((cfgM m hO).win 1).index t (2 : Fin 3) * 1408 + 1 * l.val = l.val
    rw [e]
    exact (by omega : 0 * 1408 + 1 * l.val = l.val)

theorem emb2 (t : Fin grid0.N) (r : Fin 512) (l : Fin 1408) :
    (((cfgM m hO).win 2).blk t).view.emb (show S1x512x1408.Idx from ix3 (0 : Fin 1) r l) = (ix3 (⟨t.val, t.isLt⟩ : Fin 3) r l : S3x512x1408.Idx) := by
  refine funext fun a => Fin.ext ?_
  have e := idx2' m hO t
  match a with
  | ⟨0, _⟩ =>
    show ((cfgM m hO).win 2).index t (0 : Fin 3) * 1 + 1 * 0 = t.val
    rw [e]
    exact (by omega : t.val * 1 + 1 * 0 = t.val)
  | ⟨1, _⟩ =>
    show ((cfgM m hO).win 2).index t (1 : Fin 3) * 512 + 1 * r.val = r.val
    rw [e]
    exact (by omega : 0 * 512 + 1 * r.val = r.val)
  | ⟨2, _⟩ =>
    show ((cfgM m hO).win 2).index t (2 : Fin 3) * 1408 + 1 * l.val = l.val
    rw [e]
    exact (by omega : 0 * 1408 + 1 * l.val = l.val)

theorem out_at (t : Fin grid0.N) (r : Fin 512) (l : Fin 1408) :
    outsAt0 m hO c t (ix3 (0 : Fin 1) r l) = k0_pay1 (F := Ideal) (iblk m hO c 0 t) (iblk m hO c 1 t) (ix3 (0 : Fin 1) r l) := by
  unfold outsAt0
  frame_out
  exact congrArg₂ (fun x y : FVec Ideal S1x512x1408 .f32 => k0_pay1 (F := Ideal) x y (ix3 (0 : Fin 1) r l))
    ((hs0_0 m hO t).read_unread _) ((hs0_1 m hO t).read_unread _)

theorem flush2 (t : Fin grid0.N) : ((cfgM m hO).win 2).flush t = true :=
  (by decide +kernel : ∀ t : Fin grid0.N, (true && (decide (t.val + 1 = grid0.N)
    || decide (∃ h : t.val + 1 < grid0.N, cc0_transform_2 (grid0.coords ⟨t.val + 1, h⟩) ≠ cc0_transform_2 (grid0.coords t)))) = true) t

/-- Where an entry of the result's block at a step lies in the whole result. -/
abbrev at2 (t : Fin grid0.N) (y : S1x512x1408.Idx) : S3x512x1408.Idx := ix3 (⟨t.val, t.isLt⟩ : Fin 3) (y 1) (y 2)

theorem of_block (y : S1x512x1408.Idx) : y = ix3 (0 : Fin 1) (y 1) (y 2) :=
  (eq_ix3 y).trans (congrArg (fun q => (ix3 q (y 1) (y 2) : S1x512x1408.Idx)) (Subsingleton.elim (α := Fin 1) _ _))

theorem emb2_at (t : Fin grid0.N) (y : S1x512x1408.Idx) :
    (((cfgM m hO).win 2).blk t).view.emb (show S1x512x1408.Idx from y) = at2 t y :=
  (congrArg (fun q : S1x512x1408.Idx => (((cfgM m hO).win 2).blk t).view.emb q) (of_block y)).trans (emb2 m hO t (y 1) (y 2))

theorem cell2 (h : PairMesh (words (tbl m))) (t : Fin grid0.N) (r : Fin 512) (l : Fin 1408) :
    outsAt0 m hO c t (ix3 (0 : Fin 1) r l)
      = Cert.PairSumRefIdeal.Read.val_main_v7 (F := Ideal) (words (tbl m)) (ag m c) (agot m c) (ix3 (⟨t.val, t.isLt⟩ : Fin 3) r l) := by
  have hk : (words (tbl m) (ix1 (peer (grid0.coords t)))).toNat < 4 := h.1 (grid0.coords t 0)
  have hb := h.2
  refine (out_at m hO c t r l).trans ((pay_at _ _ r l).trans ?_)
  refine (congrArg₂ (fun a b : EReal => a + b) (blk0 m hO c t r l ⟨_, hk⟩ rfl ⟨_, hb⟩ rfl) (blk1 m hO c t r l ⟨_, hk⟩ rfl)).trans ?_
  refine (ref_at (words (tbl m)) (ag m c) (agot m c) ⟨t.val, t.isLt⟩ r l ⟨_, hk⟩ ?_ ⟨_, hb⟩ rfl).symm
  exact congrArg (fun q => (words (tbl m) (ix1 q)).toNat) (Fin.ext (by show 2 + t.val = 2 + (grid0.coords t 0).val; rw [coord]))

theorem cell2_at (h : PairMesh (words (tbl m))) (t : Fin grid0.N) (y : S1x512x1408.Idx) :
    outsAt0 m hO c t y
      = Cert.PairSumRefIdeal.Read.val_main_v7 (F := Ideal) (words (tbl m)) (ag m c) (agot m c) (at2 t y) :=
  (congrArg (outsAt0 m hO c t) (of_block y)).trans (cell2 m hO c h t (y 1) (y 2))

theorem cover2 (i : S3x512x1408.Idx) : ∃ t : Fin grid0.N, ((cfgM m hO).win 2).flush t = true ∧ i ∈ (((cfgM m hO).win 2).blk t).view.set := by
  refine ⟨⟨(i 0).val, (i 0).isLt⟩, flush2 m hO _, ?_⟩
  have e := (emb2 m hO ⟨(i 0).val, (i 0).isLt⟩ (i 1) (i 2)).trans (eq_ix3 i).symm
  exact Eq.subst (motive := fun q => q ∈ (((cfgM m hO).win 2).blk ⟨(i 0).val, (i 0).isLt⟩).view.set) e (View.emb_mem_set _ _)

/-- The whole result: each of the three other chips' half of the rows, summed over the two cores. -/
theorem whole2 (h : PairMesh (words (tbl m))) :
    (dats m hO 0 c).arrAt 2 (cfgM m hO).N = Cert.PairSumRefIdeal.Read.val_main_v7 (F := Ideal) (words (tbl m)) (ag m c) (agot m c) :=
  (dats m hO 0 c).arrAt_eq_of_emb 2 _
    (fun t _ y => (congrFun (after0_2 m hO c t) y).trans ((cell2_at m hO c h t y).trans
      (congrArg (Cert.PairSumRefIdeal.Read.val_main_v7 (F := Ideal) (words (tbl m)) (ag m c) (agot m c)) (emb2_at m hO t y).symm)))
    (cover2 m hO)

end Cert.PairSumIdeal.Value

namespace Cert.Proof.PairSum

theorem frame : Cert.quiescent_PairSum := fun m ρ h =>
  Cert.PairSum.Gen.frame m ρ (Cert.PairSum.Table.ok _ (pairMesh _ _ _ (h 0)))
theorem frame_ideal : Cert.quiescent_PairSumIdeal := fun m ρ h =>
  Cert.PairSumIdeal.Gen.frame m ρ (Cert.PairSumIdeal.Table.ok _ (pairMesh _ _ _ (h 0)))
theorem frame_ref : Cert.quiescent_PairSumRefIdeal := fun m ρ _ =>
  (θ_run Cert.PairSumRefIdeal.defs _ _).mono (fun r h => ⟨fun c => (h c).2, sem_eq_zero_of_no_sems (by decide) r.2⟩)
    (Cert.PairSumRefIdeal.Value.run (F := Ideal) m ρ)
theorem frame_ref_pre : Cert.quiescent_PairSumRefIdeal_pre_pair_sum_place := fun m ρ _ => frame_ref m ρ trivial
theorem preserves : Cert.preserves_PairSum_PairSumIdeal := trivial

theorem algebraic : Cert.algebraic_PairSumIdeal_PairSumRefIdeal := by
  intro m g m' g' hp hagree
  have hm : PairMesh (Cert.PairSumIdeal.Table.words (Cert.PairSumIdeal.Gen.tbl m)) := pairMesh _ _ _ (hp 0)
  have hO : Cert.PairSumIdeal.Gen.Ok m := Cert.PairSumIdeal.Table.ok _ hm
  refine ⟨fun c => (Cert.PairSumIdeal.Gen.dats m hO 0 c).arrAt 2 (Cert.PairSumIdeal.Gen.cfgM m hO).N,
    (θ_run _ _ _).mono (fun r h c => ⟨(h c).1 2, ((h c).2 Cert.PairSumIdeal.main_arg0
        (by decide : Cert.PairSumIdeal.main_arg0 ∈ Pipeline.restRefs Cert.PairSumIdeal.sig Cert.PairSumIdeal.spec0)).trans (Cert.PairSumIdeal.Gen.V_main_arg0 m c),
      (h.in_eq c 0 rfl).trans ((Cert.PairSumIdeal.Gen.A_eq m hO c 0).trans (Cert.PairSumIdeal.Gen.V_main_arg1 m c)),
      (h.in_eq c 1 rfl).trans ((Cert.PairSumIdeal.Gen.A_eq m hO c 1).trans (Cert.PairSumIdeal.Gen.V_main_arg2 m c))⟩) (Cert.PairSumIdeal.Gen.run_main m g hO), ?_⟩
  refine (θ_run _ _ _).mono (fun _ h c => ⟨(h c).1.trans ?_, (h c).2⟩) (Cert.PairSumRefIdeal.Value.run (F := Ideal) m' g')
  obtain rfl : c = 0 := Subsingleton.elim _ _
  rw [Cert.PairSumRefIdeal.Read.val_main_v7_eq, (hagree 0).1, (hagree 0).2.1, (hagree 0).2.2]
  exact (Cert.PairSumIdeal.Value.whole2 m hO 0 hm).symm

end Cert.Proof.PairSum

end
-- ==== Proof.ChipSumClaims.lean ====
/- The claims about the sum of the chips' gradients, the half of the rows that a core keeps. -/
module

public import proofs.«01_k».proof.Proof.Place
public import proofs.«01_k».proof.Proof.Gen.ChipSum.Frame
public import proofs.«01_k».proof.Proof.Gen.ChipSumIdeal.Frame
public import proofs.«01_k».proof.Proof.Gen.ChipSumRefIdeal.Run
public import proofs.«01_k».proof.Proof.Gen.ChipSumRefIdeal.Read
public import proofs.«01_k».proof.Proof.Gen.Pre_chip_sum_place
public import proofs.«01_k».proof.Proof.Gen.On_own_rows
public import Idealize.ShloMosaic.Lib.Pipeline.Value
public import proofs.«01_k».proof.Defs

@[expose] public section

set_option maxRecDepth 16384

noncomputable section

open Idealize.ShloMosaic Idealize.ShloMosaic.TcCoe Idealize.SL.Sem Cert.Reals Cert.Place

/-- The precondition puts the chip and the core in the mesh. -/
theorem Cert.Place.chipMesh {F : FTy → Type} [FloatOps F] (p : IVec Cert.Pre_chip_sum_place.S5 32) (g : FVec F Cert.Pre_chip_sum_place.S4x1024x1408 .f32)
    (got : FVec F Cert.Pre_chip_sum_place.S4x512x1408 .f32) (a : FVec F Cert.Pre_chip_sum_place.S3x512x1408 .bf16)
    (h : Cert.Pre_chip_sum_place.fn (F := F) p g got a = fun _ => 1#1) : ChipMesh p := by
  have es : ∀ k : Fin 2, extractStridedSlice Cert.Pre_chip_sum_place.S2 ![0] p Cert.Pre_chip_sum_place.Facts.slices_S5_S2_0 (ix1 k)
      = p (ix1 (⟨0 + k.val, by omega⟩ : Fin 5)) := fun k =>
    extractStridedSlice_apply ![0] p _ (ix1 k) (ix1 (⟨0 + k.val, by omega⟩ : Fin 5)) (fun a => match a with | ⟨0, _⟩ => rfl)
  refine ⟨?_, ?_⟩
  · refine word _ 4#32 (by decide) ?_
    exact (congrArg (fun w => IntOp.andi (IntOp.cmpi .sge w 0#32) (IntOp.cmpi .slt w 4#32)) (es 0)).symm.trans (congrFun h (ix1 (0 : Fin 2)))
  · refine word _ 2#32 (by decide) ?_
    exact (congrArg (fun w => IntOp.andi (IntOp.cmpi .sge w 0#32) (IntOp.cmpi .slt w 2#32)) (es 1)).symm.trans (congrFun h (ix1 (1 : Fin 2)))

namespace Cert.ChipSum.Table

open Cert.ChipSum Cert.ChipSum.Gen

variable {F : FTy → Type} [FloatOps F]

/-- The words of the table. -/
abbrev words (pf : pre0.Contents (Elt F)) : IVec S5 32 := pf 0

theorem map0 (pf : pre0.Contents (Elt F)) (i : grid0.Coords) :
    ix0 pf 0 i = ![((words pf) (ix1 (0 : Fin 5))).toNat, ((words pf) (ix1 (1 : Fin 5))).toNat, 0] := by
  have e := read_at (words pf) ![0] inb_S5_S1_0 numel1_S1 0 rfl
  have e1 := read_at (words pf) ![1] inb_S5_S1_1 numel1_S1 1 rfl
  show cc0_transform_0 _ _ _ pf i = _
  unfold cc0_transform_0
  rw [← e, ← e1]
  rfl

theorem map1 (pf : pre0.Contents (Elt F)) (i : grid0.Coords) :
    ix0 pf 1 i = ![((words pf) (ix1 (0 : Fin 5))).toNat, 0, 0] := by
  have e := read_at (words pf) ![0] inb_S5_S1_0 numel1_S1 0 rfl
  show cc0_transform_1 _ _ pf i = _
  unfold cc0_transform_1
  rw [← e]
  rfl

theorem map3 (pf : pre0.Contents (Elt F)) (i : grid0.Coords) :
    ix0 pf 3 i = ![((words pf) (ix1 (1 : Fin 5))).toNat, 0] := by
  have e1 := read_at (words pf) ![1] inb_S5_S1_1 numel1_S1 1 rfl
  show cc0_transform_3 _ _ pf i = _
  unfold cc0_transform_3
  rw [← e1]
  rfl

/-- In the mesh, every block that a word places lies inside its array. -/
theorem ok (pf : pre0.Contents (Elt F)) (h : ChipMesh (words pf)) : ok0 pf := by
  have h0 := h.1
  have h1 := h.2
  refine ⟨fun i => ⟨fun a => ?_, .inl rfl⟩, fun i => ⟨fun a => ?_, .inl rfl⟩, fun i => ⟨fun a => ?_, .inl rfl⟩⟩
  · have e := map0 pf i
    have e : cc0_transform_0 _ _ _ pf i = _ := e
    rw [e]
    match a with
    | ⟨0, _⟩ => exact (by omega : (((words pf) (ix1 (0 : Fin 5))).toNat + 1) * 1 ≤ 4)
    | ⟨1, _⟩ => exact (by omega : (((words pf) (ix1 (1 : Fin 5))).toNat + 1) * 512 ≤ 1024)
    | ⟨2, _⟩ => exact le_refl 1408
  · have e := map1 pf i
    have e : cc0_transform_1 _ _ pf i = _ := e
    rw [e]
    match a with
    | ⟨0, _⟩ => exact (by omega : (((words pf) (ix1 (0 : Fin 5))).toNat + 1) * 1 ≤ 4)
    | ⟨1, _⟩ => exact le_refl 512
    | ⟨2, _⟩ => exact le_refl 1408
  · have e := map3 pf i
    have e : cc0_transform_3 _ _ pf i = _ := e
    rw [e]
    match a with
    | ⟨0, _⟩ => exact (by omega : (((words pf) (ix1 (1 : Fin 5))).toNat + 1) * 512 ≤ 1024)
    | ⟨1, _⟩ => exact le_refl 1408

end Cert.ChipSum.Table

namespace Cert.ChipSumIdeal.Table

open Cert.ChipSumIdeal Cert.ChipSumIdeal.Gen

variable {F : FTy → Type} [FloatOps F]

/-- The words of the table. -/
abbrev words (pf : pre0.Contents (Elt F)) : IVec S5 32 := pf 0

theorem map0 (pf : pre0.Contents (Elt F)) (i : grid0.Coords) :
    ix0 pf 0 i = ![((words pf) (ix1 (0 : Fin 5))).toNat, ((words pf) (ix1 (1 : Fin 5))).toNat, 0] := by
  have e := read_at (words pf) ![0] inb_S5_S1_0 numel1_S1 0 rfl
  have e1 := read_at (words pf) ![1] inb_S5_S1_1 numel1_S1 1 rfl
  show cc0_transform_0 _ _ _ pf i = _
  unfold cc0_transform_0
  rw [← e, ← e1]
  rfl

theorem map1 (pf : pre0.Contents (Elt F)) (i : grid0.Coords) :
    ix0 pf 1 i = ![((words pf) (ix1 (0 : Fin 5))).toNat, 0, 0] := by
  have e := read_at (words pf) ![0] inb_S5_S1_0 numel1_S1 0 rfl
  show cc0_transform_1 _ _ pf i = _
  unfold cc0_transform_1
  rw [← e]
  rfl

theorem map3 (pf : pre0.Contents (Elt F)) (i : grid0.Coords) :
    ix0 pf 3 i = ![((words pf) (ix1 (1 : Fin 5))).toNat, 0] := by
  have e1 := read_at (words pf) ![1] inb_S5_S1_1 numel1_S1 1 rfl
  show cc0_transform_3 _ _ pf i = _
  unfold cc0_transform_3
  rw [← e1]
  rfl

/-- In the mesh, every block that a word places lies inside its array. -/
theorem ok (pf : pre0.Contents (Elt F)) (h : ChipMesh (words pf)) : ok0 pf := by
  have h0 := h.1
  have h1 := h.2
  refine ⟨fun i => ⟨fun a => ?_, .inl rfl⟩, fun i => ⟨fun a => ?_, .inl rfl⟩, fun i => ⟨fun a => ?_, .inl rfl⟩⟩
  · have e := map0 pf i
    have e : cc0_transform_0 _ _ _ pf i = _ := e
    rw [e]
    match a with
    | ⟨0, _⟩ => exact (by omega : (((words pf) (ix1 (0 : Fin 5))).toNat + 1) * 1 ≤ 4)
    | ⟨1, _⟩ => exact (by omega : (((words pf) (ix1 (1 : Fin 5))).toNat + 1) * 512 ≤ 1024)
    | ⟨2, _⟩ => exact le_refl 1408
  · have e := map1 pf i
    have e : cc0_transform_1 _ _ pf i = _ := e
    rw [e]
    match a with
    | ⟨0, _⟩ => exact (by omega : (((words pf) (ix1 (0 : Fin 5))).toNat + 1) * 1 ≤ 4)
    | ⟨1, _⟩ => exact le_refl 512
    | ⟨2, _⟩ => exact le_refl 1408
  · have e := map3 pf i
    have e : cc0_transform_3 _ _ pf i = _ := e
    rw [e]
    match a with
    | ⟨0, _⟩ => exact (by omega : (((words pf) (ix1 (1 : Fin 5))).toNat + 1) * 512 ≤ 1024)
    | ⟨1, _⟩ => exact le_refl 1408

end Cert.ChipSumIdeal.Table

namespace Cert.ChipSumIdeal.Value

open Cert.ChipSumIdeal Cert.ChipSumIdeal.Gen Cert.ChipSumIdeal.Table

/-- A row of core `b`'s half. -/
abbrev row (b : Fin 2) (r : Fin 512) : Fin 1024 := ⟨512 * b.val + r.val, by omega⟩

theorem pay_at (x y : FVec Ideal S1x512x1408 .f32) (u v w : FVec Ideal S1x512x1408 .bf16) (r : Fin 512) (l : Fin 1408) :
    k0_pay1 (F := Ideal) x y u v w (ix2 r l) = (((((x (ix3 (0 : Fin 1) r l) : EReal) + y (ix3 (0 : Fin 1) r l)) + u (ix3 (0 : Fin 1) r l))
      + v (ix3 (0 : Fin 1) r l)) + w (ix3 (0 : Fin 1) r l) : EReal) := by
  pointwise [k0_pay1]

open Cert.ChipSumRefIdeal.Read in
theorem half_at (p : IVec S5 32) (g : FVec Ideal S4x1024x1408 .f32) (got : FVec Ideal S4x512x1408 .f32) (a : FVec Ideal S3x512x1408 .bf16)
    (r : Fin 512) (l : Fin 1408) (k : Fin 4) (hk : (p (ix1 (0 : Fin 5))).toNat = k.val) (b : Fin 2) (hb : (p (ix1 (1 : Fin 5))).toNat = b.val) :
    val_main_v10 (F := Ideal) p g got a (ix2 r l)
      = ((g (ix3 k (row b r) l) + got (ix3 k r l)) + ∑ j : Fin 3, (a (ix3 j r l) : EReal) : EReal) := by
  refine (val_main_v10_apply (F := Ideal) p g got a _).trans ?_
  refine congrArg₂ (fun x y : EReal => x + y) ?_ ?_
  · refine (gather_chip (val_main_v4 (F := Ideal) p g got) (val_main_call1_v0 (F := Ideal) p) r l k ?_).trans ?_
    · rw [val_main_call1_v0_apply]
      pointwise [val_main_v6, val_main_v5]
      exact hk
    · refine (val_main_v4_apply (F := Ideal) p g got _).trans ?_
      refine congrArg (fun z : EReal => z + got (ix3 k r l)) ?_
      refine (gather_core (val_main_v0 (F := Ideal) g) (val_main_call0_v0 (F := Ideal) p) k r l b ?_).trans ?_
      · rw [val_main_call0_v0_apply]
        pointwise [val_main_v2, val_main_v1]
        exact hb
      · pointwise [val_main_v0]
        exact congrArg (fun q => g (ix3 k q l)) (Fin.ext (by show b.val * 512 + r.val = 512 * b.val + r.val; omega))
  · pointwise [val_main_v9, val_main_v8, val_main_cst]

open Cert.ChipSumRefIdeal.Read in
/-- Both halves of the reference's rows hold the one sum. -/
theorem ref_at (p : IVec S5 32) (g : FVec Ideal S4x1024x1408 .f32) (got : FVec Ideal S4x512x1408 .f32) (a : FVec Ideal S3x512x1408 .bf16)
    (b : Fin 2) (r : Fin 512) (l : Fin 1408) :
    val_main_v11 (F := Ideal) p g got a (ix2 (row b r) l) = val_main_v10 (F := Ideal) p g got a (ix2 r l) := by
  unfold val_main_v11
  generalize val_main_v10 (F := Ideal) p g got a = x
  fin_cases b
  · refine concatenate_pair_apply_left (t := Cert.ChipSumRefIdeal.S1024x1408) 0 x x _ _ rfl (ix2 r l) (fun a => ?_)
    match a with
    | ⟨0, _⟩ => exact (by omega : r.val = 512 * 0 + r.val)
    | ⟨1, _⟩ => rfl
  · refine concatenate_pair_apply_right (t := Cert.ChipSumRefIdeal.S1024x1408) 0 x x _ _ rfl rfl (ix2 r l) (fun a ha => ?_) ?_
    · match a, ha with
      | ⟨0, _⟩, ha => exact absurd rfl ha
      | ⟨1, _⟩, _ => rfl
    · exact (by omega : r.val + 512 = 512 * 1 + r.val)

variable (m : (ℓ : Loc nD τ sig) → Buf (Elt Ideal) ℓ) (hO : Ok m) (c : Dev nD)

abbrev ap : IVec S5 32 := m ((c : Thread nD τ).loc main_arg0)
abbrev ag : FVec Ideal S4x1024x1408 .f32 := m ((c : Thread nD τ).loc main_arg1)
abbrev agot : FVec Ideal S4x512x1408 .f32 := m ((c : Thread nD τ).loc main_arg2)
abbrev aa : FVec Ideal S3x512x1408 .bf16 := m ((c : Thread nD τ).loc main_arg3)

theorem idx0 (t : Fin grid0.N) : ((cfgM m hO).win 0).index t = ![(words (tbl m) (ix1 (0 : Fin 5))).toNat, (words (tbl m) (ix1 (1 : Fin 5))).toNat, 0] :=
  map0 (tbl m) (grid0.coords t)
theorem idx1 (t : Fin grid0.N) : ((cfgM m hO).win 1).index t = ![(words (tbl m) (ix1 (0 : Fin 5))).toNat, 0, 0] :=
  map1 (tbl m) (grid0.coords t)
theorem idx2 : ∀ t : Fin grid0.N, cc0_transform_2 (grid0.coords t) = ![0, 0, 0] := by decide +kernel
theorem idx2' (t : Fin grid0.N) : ((cfgM m hO).win 2).index t = ![0, 0, 0] := idx2 t
theorem idx3 (t : Fin grid0.N) : ((cfgM m hO).win 3).index t = ![(words (tbl m) (ix1 (1 : Fin 5))).toNat, 0] :=
  map3 (tbl m) (grid0.coords t)

theorem blk0 (t : Fin grid0.N) (r : Fin 512) (l : Fin 1408) (k : Fin 4) (hk : (words (tbl m) (ix1 (0 : Fin 5))).toNat = k.val)
    (b : Fin 2) (hb : (words (tbl m) (ix1 (1 : Fin 5))).toNat = b.val) :
    (show FVec Ideal S1x512x1408 .f32 from iblk m hO c 0 t) (ix3 (0 : Fin 1) r l) = ag m c (ix3 k (row b r) l) := by
  refine congrArg (ag m c) (funext fun a => Fin.ext ?_)
  have e := idx0 m hO t
  match a with
  | ⟨0, _⟩ =>
    show ((cfgM m hO).win 0).index t (0 : Fin 3) * 1 + 1 * 0 = k.val
    rw [e, ← hk]
    exact (by omega : (words (tbl m) (ix1 (0 : Fin 5))).toNat * 1 + 1 * 0 = (words (tbl m) (ix1 (0 : Fin 5))).toNat)
  | ⟨1, _⟩ =>
    show ((cfgM m hO).win 0).index t (1 : Fin 3) * 512 + 1 * r.val = 512 * b.val + r.val
    rw [e, ← hb]
    exact (by omega : (words (tbl m) (ix1 (1 : Fin 5))).toNat * 512 + 1 * r.val = 512 * (words (tbl m) (ix1 (1 : Fin 5))).toNat + r.val)
  | ⟨2, _⟩ =>
    show ((cfgM m hO).win 0).index t (2 : Fin 3) * 1408 + 1 * l.val = l.val
    rw [e]
    exact (by omega : 0 * 1408 + 1 * l.val = l.val)

theorem blk1 (t : Fin grid0.N) (r : Fin 512) (l : Fin 1408) (k : Fin 4) (hk : (words (tbl m) (ix1 (0 : Fin 5))).toNat = k.val) :
    (show FVec Ideal S1x512x1408 .f32 from iblk m hO c 1 t) (ix3 (0 : Fin 1) r l) = agot m c (ix3 k r l) := by
  refine congrArg (agot m c) (funext fun a => Fin.ext ?_)
  have e := idx1 m hO t
  match a with
  | ⟨0, _⟩ =>
    show ((cfgM m hO).win 1).index t (0 : Fin 3) * 1 + 1 * 0 = k.val
    rw [e, ← hk]
    exact (by omega : (words (tbl m) (ix1 (0 : Fin 5))).toNat * 1 + 1 * 0 = (words (tbl m) (ix1 (0 : Fin 5))).toNat)
  | ⟨1, _⟩ =>
    show ((cfgM m hO).win 1).index t (1 : Fin 3) * 512 + 1 * r.val = r.val
    rw [e]
    exact (by omega : 0 * 512 + 1 * r.val = r.val)
  | ⟨2, _⟩ =>
    show ((cfgM m hO).win 1).index t (2 : Fin 3) * 1408 + 1 * l.val = l.val
    rw [e]
    exact (by omega : 0 * 1408 + 1 * l.val = l.val)

theorem blk2 (t : Fin grid0.N) (j : Fin 3) (r : Fin 512) (l : Fin 1408) :
    (show FVec Ideal S3x512x1408 .bf16 from iblk m hO c 2 t) (ix3 j r l) = aa m c (ix3 j r l) := by
  refine congrArg (aa m c) (funext fun a => Fin.ext ?_)
  have e := idx2' m hO t
  match a with
  | ⟨0, _⟩ =>
    show ((cfgM m hO).win 2).index t (0 : Fin 3) * 3 + 1 * j.val = j.val
    rw [e]
    exact (by omega : 0 * 3 + 1 * j.val = j.val)
  | ⟨1, _⟩ =>
    show ((cfgM m hO).win 2).index t (1 : Fin 3) * 512 + 1 * r.val = r.val
    rw [e]
    exact (by omega : 0 * 512 + 1 * r.val = r.val)
  | ⟨2, _⟩ =>
    show ((cfgM m hO).win 2).index t (2 : Fin 3) * 1408 + 1 * l.val = l.val
    rw [e]
    exact (by omega : 0 * 1408 + 1 * l.val = l.val)

theorem emb3 (t : Fin grid0.N) (r : Fin 512) (l : Fin 1408) (b : Fin 2) (hb : (words (tbl m) (ix1 (1 : Fin 5))).toNat = b.val) :
    (((cfgM m hO).win 3).blk t).view.emb (show S512x1408.Idx from ix2 r l) = (ix2 (row b r) l : S1024x1408.Idx) := by
  refine funext fun a => Fin.ext ?_
  have e := idx3 m hO t
  match a with
  | ⟨0, _⟩ =>
    show ((cfgM m hO).win 3).index t (0 : Fin 2) * 512 + 1 * r.val = 512 * b.val + r.val
    rw [e, ← hb]
    exact (by omega : (words (tbl m) (ix1 (1 : Fin 5))).toNat * 512 + 1 * r.val = 512 * (words (tbl m) (ix1 (1 : Fin 5))).toNat + r.val)
  | ⟨1, _⟩ =>
    show ((cfgM m hO).win 3).index t (1 : Fin 2) * 1408 + 1 * l.val = l.val
    rw [e]
    exact (by omega : 0 * 1408 + 1 * l.val = l.val)

/-- One arrival of a block of three. -/
abbrev arrival (x : FVec Ideal S3x512x1408 .bf16) (j : Fin 3) : FVec Ideal S1x512x1408 .bf16 := fun y => x (ix3 j (y 1) (y 2))

abbrev r2_0 : Rect S3x512x1408 := Rect.unit ![0, 0, 0] ![1, 512, 1408] inb_S3x512x1408_S1x512x1408_0_0_0
abbrev r2_1 : Rect S3x512x1408 := Rect.unit ![1, 0, 0] ![1, 512, 1408] inb_S3x512x1408_S1x512x1408_1_0_0
abbrev r2_2 : Rect S3x512x1408 := Rect.unit ![2, 0, 0] ![1, 512, 1408] inb_S3x512x1408_S1x512x1408_2_0_0

theorem ld0 (x : FVec Ideal S3x512x1408 .bf16) (r : Fin 512) (l : Fin 1408) :
    View.ld (Val := Elt Ideal) (e' := .bf16) x r2_0 (show S1x512x1408.Idx from ix3 (0 : Fin 1) r l) = arrival x 0 (ix3 (0 : Fin 1) r l) := by
  refine congrArg x (funext fun a => Fin.ext ?_)
  match a with
  | ⟨0, _⟩ => rfl
  | ⟨1, _⟩ => exact (by omega : 0 + 1 * r.val = r.val)
  | ⟨2, _⟩ => exact (by omega : 0 + 1 * l.val = l.val)
theorem ld1 (x : FVec Ideal S3x512x1408 .bf16) (r : Fin 512) (l : Fin 1408) :
    View.ld (Val := Elt Ideal) (e' := .bf16) x r2_1 (show S1x512x1408.Idx from ix3 (0 : Fin 1) r l) = arrival x 1 (ix3 (0 : Fin 1) r l) := by
  refine congrArg x (funext fun a => Fin.ext ?_)
  match a with
  | ⟨0, _⟩ => rfl
  | ⟨1, _⟩ => exact (by omega : 0 + 1 * r.val = r.val)
  | ⟨2, _⟩ => exact (by omega : 0 + 1 * l.val = l.val)
theorem ld2 (x : FVec Ideal S3x512x1408 .bf16) (r : Fin 512) (l : Fin 1408) :
    View.ld (Val := Elt Ideal) (e' := .bf16) x r2_2 (show S1x512x1408.Idx from ix3 (0 : Fin 1) r l) = arrival x 2 (ix3 (0 : Fin 1) r l) := by
  refine congrArg x (funext fun a => Fin.ext ?_)
  match a with
  | ⟨0, _⟩ => rfl
  | ⟨1, _⟩ => exact (by omega : 0 + 1 * r.val = r.val)
  | ⟨2, _⟩ => exact (by omega : 0 + 1 * l.val = l.val)

theorem congr5 {x x' y y' : FVec Ideal S1x512x1408 .f32} {z z' : FVec Ideal S3x512x1408 .bf16} (hx : x = x') (hy : y = y') (hz : z = z') (r : Fin 512) (l : Fin 1408) :
    k0_pay1 (F := Ideal) x y (View.ld z r2_0) (View.ld z r2_1) (View.ld z r2_2) (ix2 r l)
      = k0_pay1 (F := Ideal) x' y' (View.ld z' r2_0) (View.ld z' r2_1) (View.ld z' r2_2) (ix2 r l) := by
  subst hx; subst hy; subst hz; rfl

theorem out_at (t : Fin grid0.N) (r : Fin 512) (l : Fin 1408) :
    outsAt0 m hO c t (ix2 r l) = k0_pay1 (F := Ideal) (iblk m hO c 0 t) (iblk m hO c 1 t) (arrival (iblk m hO c 2 t) 0) (arrival (iblk m hO c 2 t) 1)
      (arrival (iblk m hO c 2 t) 2) (ix2 r l) := by
  unfold outsAt0
  frame_out
  have e2 := (hs0_2 m hO t).read_unread (Val := Elt Ideal) (iblk m hO c 2 t)
  have e : k0_pay1 (F := Ideal) (iblk m hO c 0 t) (iblk m hO c 1 t) (View.ld (iblk m hO c 2 t) r2_0) (View.ld (iblk m hO c 2 t) r2_1) (View.ld (iblk m hO c 2 t) r2_2) (ix2 r l)
      = k0_pay1 (F := Ideal) (iblk m hO c 0 t) (iblk m hO c 1 t) (arrival (iblk m hO c 2 t) 0) (arrival (iblk m hO c 2 t) 1) (arrival (iblk m hO c 2 t) 2) (ix2 r l) :=
    (pay_at _ _ _ _ _ r l).trans (Eq.trans (congrArg₂ (fun a b : EReal => a + b) (congrArg₂ (fun a b : EReal => a + b) (congrArg₂ (fun a b : EReal => a + b) rfl
      (ld0 _ r l)) (ld1 _ r l)) (ld2 _ r l)) (pay_at _ _ _ _ _ r l).symm)
  refine Eq.trans ?_ e
  exact congr5 ((hs0_0 m hO t).read_unread _) ((hs0_1 m hO t).read_unread _) e2 r l

theorem flush3 (t : Fin grid0.N) : ((cfgM m hO).win 3).flush t = true := by
  have h : t.val + 1 = grid0.N := (by decide +kernel : ∀ t : Fin grid0.N, t.val + 1 = grid0.N) t
  exact (Bool.and_eq_true_iff.2 ⟨rfl, Bool.or_eq_true_iff.2 (Or.inl (decide_eq_true h))⟩)

theorem sum5 (a b u v w : EReal) : a + b + u + v + w = a + b + (u + v + w) := by
  rw [add_assoc (a + b + u) v w, add_assoc (a + b) u (v + w), ← add_assoc u v w]

theorem cell3 (t : Fin grid0.N) (r : Fin 512) (l : Fin 1408) (k : Fin 4) (hk : (words (tbl m) (ix1 (0 : Fin 5))).toNat = k.val)
    (b : Fin 2) (hb : (words (tbl m) (ix1 (1 : Fin 5))).toNat = b.val) :
    outsAt0 m hO c t (ix2 r l)
      = Cert.ChipSumRefIdeal.Read.val_main_v11 (F := Ideal) (words (tbl m)) (ag m c) (agot m c) (aa m c) (ix2 (row b r) l) := by
  refine (out_at m hO c t r l).trans ((pay_at _ _ _ _ _ r l).trans ?_)
  refine Eq.trans ?_ ((ref_at _ _ _ _ b r l).trans (half_at (words (tbl m)) (ag m c) (agot m c) (aa m c) r l k hk b hb)).symm
  rw [Fin.sum_univ_three]
  refine Eq.trans (congrArg₂ (fun x y : EReal => x + y) (congrArg₂ (fun x y : EReal => x + y) (congrArg₂ (fun x y : EReal => x + y)
    (congrArg₂ (fun x y : EReal => x + y) (blk0 m hO c t r l k hk b hb) (blk1 m hO c t r l k hk)) (blk2 m hO c t 0 r l)) (blk2 m hO c t 1 r l))
    (blk2 m hO c t 2 r l)) ?_
  exact (sum5 _ _ _ _ _)

/-- The one block, as the rows of the core that the table names. -/
theorem flushed3 (h : ChipMesh (words (tbl m))) (t : Fin grid0.N) :
    (dats m hO 0 c).flushed 3 t = (((cfgM m hO).win 3).blk t).view.read (Elt Ideal)
      (Cert.ChipSumRefIdeal.Read.val_main_v11 (F := Ideal) (words (tbl m)) (ag m c) (agot m c) (aa m c)) := by
  have hk := h.1
  have hb := h.2
  have cell : ∀ y : S512x1408.Idx, outsAt0 m hO c t y
      = Cert.ChipSumRefIdeal.Read.val_main_v11 (F := Ideal) (words (tbl m)) (ag m c) (agot m c) (aa m c)
        ((((cfgM m hO).win 3).blk t).view.emb (show S512x1408.Idx from y)) := fun y =>
    (congrArg (outsAt0 m hO c t) (eq_ix2 y)).trans ((cell3 m hO c t (y 0) (y 1) ⟨_, hk⟩ rfl ⟨_, hb⟩ rfl).trans
      (congrArg (Cert.ChipSumRefIdeal.Read.val_main_v11 (F := Ideal) (words (tbl m)) (ag m c) (agot m c) (aa m c))
        ((emb3 m hO t (y 0) (y 1) ⟨_, hb⟩ rfl).symm.trans
          (congrArg (fun q : S512x1408.Idx => (((cfgM m hO).win 3).blk t).view.emb q) (eq_ix2 y).symm))))
  exact funext fun y => (congrFun (after0_3 m hO c t) y).trans (cell y)

/-- Each row that the core keeps: the sum over the chips. -/
theorem own3 (h : ChipMesh (words (tbl m))) (b : Fin 2) (hb : (words (tbl m) (ix1 (1 : Fin 5))).toNat = b.val) (r : Fin 512) (l : Fin 1408) :
    (dats m hO 0 c).arrAt 3 (cfgM m hO).N (ix2 (row b r) l : S1024x1408.Idx)
      = Cert.ChipSumRefIdeal.Read.val_main_v11 (F := Ideal) (words (tbl m)) (ag m c) (agot m c) (aa m c) (ix2 (row b r) l) := by
  have hN : 0 < grid0.N := by decide +kernel
  refine (dats m hO 0 c).arrAt_apply_of_mem 3 _ (fun t _ => flushed3 m hO c h t) _ ⟨0, hN⟩ _ hN (flush3 m hO _) ?_
  exact Eq.subst (motive := fun q => q ∈ (((cfgM m hO).win 3).blk ⟨0, hN⟩).view.set) (emb3 m hO ⟨0, hN⟩ r l b hb) (View.emb_mem_set _ _)

end Cert.ChipSumIdeal.Value

namespace Cert.Proof.ChipSum

theorem frame : Cert.quiescent_ChipSum := fun m ρ h =>
  Cert.ChipSum.Gen.frame m ρ (Cert.ChipSum.Table.ok _ (chipMesh _ _ _ _ (h 0)))
theorem frame_ideal : Cert.quiescent_ChipSumIdeal := fun m ρ h =>
  Cert.ChipSumIdeal.Gen.frame m ρ (Cert.ChipSumIdeal.Table.ok _ (chipMesh _ _ _ _ (h 0)))
theorem frame_ref : Cert.quiescent_ChipSumRefIdeal := fun m ρ _ =>
  (θ_run Cert.ChipSumRefIdeal.defs _ _).mono (fun r h => ⟨fun c => (h c).2, sem_eq_zero_of_no_sems (by decide) r.2⟩)
    (Cert.ChipSumRefIdeal.Value.run (F := Ideal) m ρ)
theorem frame_ref_pre : Cert.quiescent_ChipSumRefIdeal_pre_chip_sum_place := fun m ρ _ => frame_ref m ρ trivial
theorem preserves : Cert.preserves_ChipSum_ChipSumIdeal := trivial

/-- The mask's two comparisons at a row: those of the core that the table names. -/
theorem own : ∀ (b : Fin 2) (r : Fin 1024), IntOp.andi (IntOp.cmpi .sle (IntOp.muli 512#32 (BitVec.ofNat 32 b.val)) (BitVec.ofNat 32 r.val))
    (IntOp.cmpi .slt (BitVec.ofNat 32 r.val) (IntOp.addi (IntOp.muli 512#32 (BitVec.ofNat 32 b.val)) 512#32)) = 1#1 →
    512 * b.val ≤ r.val ∧ r.val < 512 * b.val + 512 := by decide +kernel

/-- A row that the mask keeps lies in the half of the core that the table names. -/
theorem mask_rows (p : IVec Cert.On_own_rows.S5 32) (g : FVec Ideal Cert.On_own_rows.S4x1024x1408 .f32)
    (got : FVec Ideal Cert.On_own_rows.S4x512x1408 .f32) (a : FVec Ideal Cert.On_own_rows.S3x512x1408 .bf16) (b : Fin 2)
    (hb : (p (ix1 (1 : Fin 5))).toNat = b.val) (r : Fin 1024) (l : Fin 1408)
    (h : Cert.On_own_rows.fn (F := Ideal) p g got a (ix2 r l) = 1#1) : 512 * b.val ≤ r.val ∧ r.val < 512 * b.val + 512 := by
  have e : p (ix1 (1 : Fin 5)) = BitVec.ofNat 32 b.val := BitVec.eq_of_toNat_eq (by rw [hb]; have := b.isLt; simp; omega)
  unfold Cert.On_own_rows.fn at h
  pointwise [] at h
  rw [e] at h
  exact own b r h

theorem algebraic : Cert.algebraic_ChipSumIdeal_ChipSumRefIdeal_on_own_rows := by
  intro m g m' g' hp hagree
  have hm : ChipMesh (Cert.ChipSumIdeal.Table.words (Cert.ChipSumIdeal.Gen.tbl m)) := chipMesh _ _ _ _ (hp 0)
  have hO : Cert.ChipSumIdeal.Gen.Ok m := Cert.ChipSumIdeal.Table.ok _ hm
  obtain ⟨b, hb⟩ : ∃ b : Fin 2, (Cert.ChipSumIdeal.Table.words (Cert.ChipSumIdeal.Gen.tbl m) (ix1 (1 : Fin 5))).toNat = b.val :=
    ⟨⟨_, hm.2⟩, rfl⟩
  refine ⟨fun c => (Cert.ChipSumIdeal.Gen.dats m hO 0 c).arrAt 3 (Cert.ChipSumIdeal.Gen.cfgM m hO).N,
    (θ_run _ _ _).mono (fun r h c => ⟨fun i _ => congrFun ((h c).1 3) i, ((h c).2 Cert.ChipSumIdeal.main_arg0
        (by decide : Cert.ChipSumIdeal.main_arg0 ∈ Pipeline.restRefs Cert.ChipSumIdeal.sig Cert.ChipSumIdeal.spec0)).trans (Cert.ChipSumIdeal.Gen.V_main_arg0 m c),
      (h.in_eq c 0 rfl).trans ((Cert.ChipSumIdeal.Gen.A_eq m hO c 0).trans (Cert.ChipSumIdeal.Gen.V_main_arg1 m c)),
      (h.in_eq c 1 rfl).trans ((Cert.ChipSumIdeal.Gen.A_eq m hO c 1).trans (Cert.ChipSumIdeal.Gen.V_main_arg2 m c)),
      (h.in_eq c 2 rfl).trans ((Cert.ChipSumIdeal.Gen.A_eq m hO c 2).trans (Cert.ChipSumIdeal.Gen.V_main_arg3 m c))⟩) (Cert.ChipSumIdeal.Gen.run_main m g hO), ?_⟩
  refine (θ_run _ _ _).mono (fun _ h c => ⟨fun i hi => ?_, (h c).2⟩) (Cert.ChipSumRefIdeal.Value.run (F := Ideal) m' g')
  obtain rfl : c = 0 := Subsingleton.elim _ _
  obtain ⟨r, l, rfl⟩ : ∃ (r : Fin 1024) (l : Fin 1408), i = ix2 r l := ⟨i 0, i 1, eq_ix2 i⟩
  have hr := mask_rows _ _ _ _ b hb r l hi
  obtain ⟨q, rfl⟩ : ∃ q : Fin 512, r = Cert.ChipSumIdeal.Value.row b q :=
    ⟨⟨r.val - 512 * b.val, by omega⟩, Fin.ext (by show r.val = 512 * b.val + (r.val - 512 * b.val); omega)⟩
  refine (congrFun ((h 0).1.trans ?_) _).trans (Cert.ChipSumIdeal.Value.own3 m hO 0 hm b hb q l).symm
  rw [Cert.ChipSumRefIdeal.Read.val_main_v11_eq, (hagree 0).1, (hagree 0).2.1, (hagree 0).2.2.1, (hagree 0).2.2.2]
  rfl

end Cert.Proof.ChipSum

end
-- ==== Proof.lean ====
module

public import proofs.«01_k».proof.Proof.RmsBwdClaims
public import proofs.«01_k».proof.Proof.AttnBwdClaims
public import proofs.«01_k».proof.Proof.ForgetBwdClaims
public import proofs.«01_k».proof.Proof.ConvBwdClaims
public import proofs.«01_k».proof.Proof.MergeClaims
public import proofs.«01_k».proof.Proof.FinalLossClaims
public import proofs.«01_k».proof.Proof.FfnClaims
public import proofs.«01_k».proof.Proof.AttnFwdClaims
public import proofs.«01_k».proof.Proof.ForgetFwdClaims
public import proofs.«01_k».proof.Proof.ConvFwdClaims
public import proofs.«01_k».proof.Proof.RmsFwdClaims
public import proofs.«01_k».proof.Proof.MmClaims
public import proofs.«01_k».proof.Proof.BranchOutClaims
public import proofs.«01_k».proof.Proof.BranchOutBwdClaims
public import proofs.«01_k».proof.Proof.BranchOutDwClaims
public import proofs.«01_k».proof.Proof.FfnUpBwdClaims
public import proofs.«01_k».proof.Proof.ProjectClaims
public import proofs.«01_k».proof.Proof.AdamWClaims
public import proofs.«01_k».proof.Proof.DeviceSumClaims
public import proofs.«01_k».proof.Proof.PairSumClaims
public import proofs.«01_k».proof.Proof.ChipSumClaims

@[expose] public section

theorem Cert.Proof.claim : Cert.Claim :=
  ⟨Cert.RmsBwd.Gen.facts, Cert.RmsBwdIdeal.Gen.facts, Cert.RmsBwdRefIdeal.Gen.facts,
    Cert.AttnBwd.Gen.facts, Cert.AttnBwdIdeal.Gen.facts, Cert.AttnBwdRefIdeal.Gen.facts,
    Cert.ForgetBwd.Gen.facts, Cert.ForgetBwdIdeal.Gen.facts, Cert.ForgetBwdRefIdeal.Gen.facts,
    Cert.ConvBwd.Gen.facts, Cert.ConvBwdIdeal.Gen.facts, Cert.ConvBwdRefIdeal.Gen.facts,
    Cert.Merge.Gen.facts, Cert.MergeIdeal.Gen.facts, Cert.MergeRefIdeal.Gen.facts,
    Cert.FinalLoss.Gen.facts, Cert.FinalLossIdeal.Gen.facts, Cert.FinalLossRefIdeal.Gen.facts,
    Cert.Ffn.Gen.facts, Cert.FfnIdeal.Gen.facts, Cert.FfnRefIdeal.Gen.facts,
    Cert.AttnFwd.Gen.facts, Cert.AttnFwdIdeal.Gen.facts, Cert.AttnFwdRefIdeal.Gen.facts,
    Cert.ForgetFwd.Gen.facts, Cert.ForgetFwdIdeal.Gen.facts, Cert.ForgetFwdRefIdeal.Gen.facts,
    Cert.ConvFwd.Gen.facts, Cert.ConvFwdIdeal.Gen.facts, Cert.ConvFwdRefIdeal.Gen.facts,
    Cert.RmsFwd.Gen.facts, Cert.RmsFwdIdeal.Gen.facts, Cert.RmsFwdRefIdeal.Gen.facts,
    Cert.Mm.Gen.facts, Cert.MmIdeal.Gen.facts, Cert.MmRefIdeal.Gen.facts,
    Cert.BranchOut.Gen.facts, Cert.BranchOutIdeal.Gen.facts, Cert.BranchOutRefIdeal.Gen.facts,
    Cert.BranchOutBwd.Gen.facts, Cert.BranchOutBwdIdeal.Gen.facts, Cert.BranchOutBwdRefIdeal.Gen.facts,
    Cert.BranchOutDw.Gen.facts, Cert.BranchOutDwIdeal.Gen.facts, Cert.BranchOutDwRefIdeal.Gen.facts,
    Cert.FfnUpBwd.Gen.facts, Cert.FfnUpBwdIdeal.Gen.facts, Cert.FfnUpBwdRefIdeal.Gen.facts,
    Cert.Project.Gen.facts, Cert.ProjectIdeal.Gen.facts, Cert.ProjectRefIdeal.Gen.facts,
    Cert.AdamW.Gen.facts, Cert.AdamWIdeal.Gen.facts, Cert.AdamWRefIdeal.Gen.facts,
    Cert.DeviceSum.Gen.facts, Cert.DeviceSumIdeal.Gen.facts, Cert.DeviceSumRefIdeal.Gen.facts,
    Cert.PairSum.Gen.facts, Cert.PairSumIdeal.Gen.facts, Cert.PairSumRefIdeal.Gen.facts,
    Cert.ChipSum.Gen.facts, Cert.ChipSumIdeal.Gen.facts, Cert.ChipSumRefIdeal.Gen.facts,
    Cert.Proof.RmsBwd.pre_facts, Cert.Proof.AttnBwd.pre_facts, Cert.Proof.FinalLoss.pre_facts, Cert.Proof.Ffn.pre_facts, Cert.Proof.AttnFwd.pre_facts,
    Cert.Pre_pair_sum_place.Gen.facts, Cert.Pre_chip_sum_place.Gen.facts,
    Cert.Proof.Merge.mask_facts, Cert.On_own_rows.Gen.facts,
    Cert.Proof.RmsBwd.frame, Cert.Proof.RmsBwd.frame_ideal, Cert.Proof.RmsBwd.frame_ideal_pre, Cert.Proof.RmsBwd.frame_ref, Cert.Proof.RmsBwd.frame_ref_pre,
    Cert.Proof.AttnBwd.frame, Cert.Proof.AttnBwd.frame_ideal, Cert.Proof.AttnBwd.frame_ideal_pre, Cert.Proof.AttnBwd.frame_ref, Cert.Proof.AttnBwd.frame_ref_pre,
    Cert.Proof.ForgetBwd.frame, Cert.Proof.ForgetBwd.frame_ideal, Cert.Proof.ForgetBwd.frame_ref,
    Cert.Proof.ConvBwd.frame, Cert.Proof.ConvBwd.frame_ideal, Cert.Proof.ConvBwd.frame_ref,
    Cert.Proof.Merge.frame, Cert.Proof.Merge.frame_ideal, Cert.Proof.Merge.frame_ref,
    Cert.Proof.FinalLoss.frame, Cert.Proof.FinalLoss.frame_ideal, Cert.Proof.FinalLoss.frame_ideal_pre, Cert.Proof.FinalLoss.frame_ref, Cert.Proof.FinalLoss.frame_ref_pre,
    Cert.Proof.Ffn.frame, Cert.Proof.Ffn.frame_ideal, Cert.Proof.Ffn.frame_ideal_pre, Cert.Proof.Ffn.frame_ref, Cert.Proof.Ffn.frame_ref_pre,
    Cert.Proof.AttnFwd.frame, Cert.Proof.AttnFwd.frame_ideal, Cert.Proof.AttnFwd.frame_ideal_pre, Cert.Proof.AttnFwd.frame_ref, Cert.Proof.AttnFwd.frame_ref_pre,
    Cert.Proof.ForgetFwd.frame, Cert.Proof.ForgetFwd.frame_ideal, Cert.Proof.ForgetFwd.frame_ref,
    Cert.Proof.ConvFwd.frame, Cert.Proof.ConvFwd.frame_ideal, Cert.Proof.ConvFwd.frame_ref,
    Cert.Proof.RmsFwd.frame, Cert.Proof.RmsFwd.frame_ideal, Cert.Proof.RmsFwd.frame_ref,
    Cert.Proof.Mm.frame, Cert.Proof.Mm.frame_ideal, Cert.Proof.Mm.frame_ref,
    Cert.Proof.BranchOut.frame, Cert.Proof.BranchOut.frame_ideal, Cert.Proof.BranchOut.frame_ref,
    Cert.Proof.BranchOutBwd.frame, Cert.Proof.BranchOutBwd.frame_ideal, Cert.Proof.BranchOutBwd.frame_ref,
    Cert.Proof.BranchOutDw.frame, Cert.Proof.BranchOutDw.frame_ideal, Cert.Proof.BranchOutDw.frame_ref,
    Cert.Proof.FfnUpBwd.frame, Cert.Proof.FfnUpBwd.frame_ideal, Cert.Proof.FfnUpBwd.frame_ref,
    Cert.Proof.Project.frame, Cert.Proof.Project.frame_ideal, Cert.Proof.Project.frame_ref,
    Cert.Proof.AdamW.frame, Cert.Proof.AdamW.frame_ideal, Cert.Proof.AdamW.frame_ref,
    Cert.Proof.DeviceSum.frame, Cert.Proof.DeviceSum.frame_ideal, Cert.Proof.DeviceSum.frame_ref,
    Cert.Proof.PairSum.frame, Cert.Proof.PairSum.frame_ideal, Cert.Proof.PairSum.frame_ref, Cert.Proof.PairSum.frame_ref_pre,
    Cert.Proof.ChipSum.frame, Cert.Proof.ChipSum.frame_ideal, Cert.Proof.ChipSum.frame_ref, Cert.Proof.ChipSum.frame_ref_pre,
    Cert.Proof.RmsBwd.preserves, Cert.Proof.RmsBwd.algebraic,
    Cert.Proof.AttnBwd.preserves, Cert.Proof.AttnBwd.algebraic,
    Cert.Proof.ForgetBwd.preserves, Cert.Proof.ForgetBwd.algebraic,
    Cert.Proof.ConvBwd.preserves, Cert.Proof.ConvBwd.algebraic,
    Cert.Proof.Merge.preserves, Cert.Proof.Merge.algebraic,
    Cert.Proof.FinalLoss.preserves, Cert.Proof.FinalLoss.algebraic,
    Cert.Proof.Ffn.preserves, Cert.Proof.Ffn.algebraic,
    Cert.Proof.AttnFwd.preserves, Cert.Proof.AttnFwd.algebraic,
    Cert.Proof.ForgetFwd.preserves, Cert.Proof.ForgetFwd.algebraic,
    Cert.Proof.ConvFwd.preserves, Cert.Proof.ConvFwd.algebraic,
    Cert.Proof.RmsFwd.preserves, Cert.Proof.RmsFwd.algebraic,
    Cert.Proof.Mm.preserves, Cert.Proof.Mm.algebraic,
    Cert.Proof.BranchOut.preserves, Cert.Proof.BranchOut.algebraic,
    Cert.Proof.BranchOutBwd.preserves, Cert.Proof.BranchOutBwd.algebraic,
    Cert.Proof.BranchOutDw.preserves, Cert.Proof.BranchOutDw.algebraic,
    Cert.Proof.FfnUpBwd.preserves, Cert.Proof.FfnUpBwd.algebraic,
    Cert.Proof.Project.preserves, Cert.Proof.Project.algebraic,
    Cert.Proof.AdamW.preserves, Cert.Proof.AdamW.algebraic,
    Cert.Proof.DeviceSum.preserves, Cert.Proof.DeviceSum.algebraic,
    Cert.Proof.PairSum.preserves, Cert.Proof.PairSum.algebraic,
    Cert.Proof.ChipSum.preserves, Cert.Proof.ChipSum.algebraic⟩

end
